-- ==== Defs.lean ====
def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionIdeal_finite_and_ones [hPre_finite_and_ones : Cert.Pre_finite_and_ones.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_finite_and_ones.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2))) = (fun _ => 1#1)

def Pre_AttentionRefIdeal (m : (ℓ : Loc Cert.AttentionRefIdeal.nD Cert.AttentionRefIdeal.τ Cert.AttentionRefIdeal.sig) → Buf (Elt Ideal) ℓ) : Prop :=
  True

def Pre_AttentionRefIdeal_finite_and_ones [hPre_finite_and_ones : Cert.Pre_finite_and_ones.Facts] (m : (ℓ : Loc Cert.AttentionRefIdeal.nD Cert.AttentionRefIdeal.τ Cert.AttentionRefIdeal.sig) → Buf (Elt Ideal) ℓ) : Prop :=
  ∀ c : Dev Cert.AttentionRefIdeal.nD,
    (Cert.Pre_finite_and_ones.fn (F := Ideal) (m ((c.tc : Thread Cert.AttentionRefIdeal.nD Cert.AttentionRefIdeal.τ).loc Cert.AttentionRefIdeal.main_arg0)) (m ((c.tc : Thread Cert.AttentionRefIdeal.nD Cert.AttentionRefIdeal.τ).loc Cert.AttentionRefIdeal.main_arg1)) (m ((c.tc : Thread Cert.AttentionRefIdeal.nD Cert.AttentionRefIdeal.τ).loc Cert.AttentionRefIdeal.main_arg2))) = (fun _ => 1#1)

def Pre_LastTail (m : (ℓ : Loc Cert.LastTail.nD Cert.LastTail.τ Cert.LastTail.sig) → Buf (Elt Bits) ℓ) : Prop :=
  True

def Pre_LastTailIdeal (m : (ℓ : Loc Cert.LastTailIdeal.nD Cert.LastTailIdeal.τ Cert.LastTailIdeal.sig) → Buf (Elt Ideal) ℓ) : Prop :=
  True

def Pre_LastTailRefIdeal (m : (ℓ : Loc Cert.LastTailRefIdeal.nD Cert.LastTailRefIdeal.τ Cert.LastTailRefIdeal.sig) → Buf (Elt Ideal) ℓ) : Prop :=
  True

def Pre_SharedTail (m : (ℓ : Loc Cert.SharedTail.nD Cert.SharedTail.τ Cert.SharedTail.sig) → Buf (Elt Bits) ℓ) : Prop :=
  True

def Pre_SharedTailIdeal (m : (ℓ : Loc Cert.SharedTailIdeal.nD Cert.SharedTailIdeal.τ Cert.SharedTailIdeal.sig) → Buf (Elt Ideal) ℓ) : Prop :=
  True

def Pre_SharedTailRefIdeal (m : (ℓ : Loc Cert.SharedTailRefIdeal.nD Cert.SharedTailRefIdeal.τ Cert.SharedTailRefIdeal.sig) → Buf (Elt Ideal) ℓ) : Prop :=
  True

def Pre_NextTail (m : (ℓ : Loc Cert.NextTail.nD Cert.NextTail.τ Cert.NextTail.sig) → Buf (Elt Bits) ℓ) : Prop :=
  True

def Pre_NextTailIdeal (m : (ℓ : Loc Cert.NextTailIdeal.nD Cert.NextTailIdeal.τ Cert.NextTailIdeal.sig) → Buf (Elt Ideal) ℓ) : Prop :=
  True

def Pre_NextTailRefIdeal (m : (ℓ : Loc Cert.NextTailRefIdeal.nD Cert.NextTailRefIdeal.τ Cert.NextTailRefIdeal.sig) → Buf (Elt Ideal) ℓ) : Prop :=
  True

def Pre_Front (m : (ℓ : Loc Cert.Front.nD Cert.Front.τ Cert.Front.sig) → Buf (Elt Bits) ℓ) : Prop :=
  True

def Pre_FrontIdeal (m : (ℓ : Loc Cert.FrontIdeal.nD Cert.FrontIdeal.τ Cert.FrontIdeal.sig) → Buf (Elt Ideal) ℓ) : Prop :=
  True

def Pre_FrontRefIdeal (m : (ℓ : Loc Cert.FrontRefIdeal.nD Cert.FrontRefIdeal.τ Cert.FrontRefIdeal.sig) → Buf (Elt Ideal) ℓ) : Prop :=
  True

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ r.2.sem = fun _ => 0)

def quiescent_AttentionIdeal_pre_finite_and_ones [hAttentionIdeal : Cert.AttentionIdeal.Facts] [hPre_finite_and_ones : Cert.Pre_finite_and_ones.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_finite_and_ones m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ r.2.sem = fun _ => 0)

def quiescent_AttentionRefIdeal [hAttentionRefIdeal : Cert.AttentionRefIdeal.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1)
      ∧ r.2.mem ((c.tc : Thread Cert.AttentionRefIdeal.nD Cert.AttentionRefIdeal.τ).loc Cert.AttentionRefIdeal.main_arg2) = m ((c.tc : Thread Cert.AttentionRefIdeal.nD Cert.AttentionRefIdeal.τ).loc Cert.AttentionRefIdeal.main_arg2))
      ∧ r.2.sem = fun _ => 0)

def quiescent_AttentionRefIdeal_pre_finite_and_ones [hAttentionRefIdeal : Cert.AttentionRefIdeal.Facts] [hPre_finite_and_ones : Cert.Pre_finite_and_ones.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal_finite_and_ones m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1)
      ∧ r.2.mem ((c.tc : Thread Cert.AttentionRefIdeal.nD Cert.AttentionRefIdeal.τ).loc Cert.AttentionRefIdeal.main_arg2) = m ((c.tc : Thread Cert.AttentionRefIdeal.nD Cert.AttentionRefIdeal.τ).loc Cert.AttentionRefIdeal.main_arg2))
      ∧ r.2.sem = fun _ => 0)

def quiescent_LastTail [hLastTail : Cert.LastTail.Facts] : Prop :=
  ∀ (m : (ℓ : Loc Cert.LastTail.nD Cert.LastTail.τ Cert.LastTail.sig) → Buf (Elt Bits) ℓ) (g : Dev Cert.LastTail.nD → PrngReg), Pre_LastTail m →
    θ_run (Cert.LastTail.defs (F := Bits)) (onTc (τ := Cert.LastTail.τ) (Cert.LastTail.main (F := Bits))) ⟨m, fun _ => 0, g⟩ (fun r => (∀ c : Dev Cert.LastTail.nD,
      r.2.mem ((c.tc : Thread Cert.LastTail.nD Cert.LastTail.τ).loc Cert.LastTail.main_arg0) = m ((c.tc : Thread Cert.LastTail.nD Cert.LastTail.τ).loc Cert.LastTail.main_arg0)
      ∧ r.2.mem ((c.tc : Thread Cert.LastTail.nD Cert.LastTail.τ).loc Cert.LastTail.main_arg1) = m ((c.tc : Thread Cert.LastTail.nD Cert.LastTail.τ).loc Cert.LastTail.main_arg1)
      ∧ r.2.mem ((c.tc : Thread Cert.LastTail.nD Cert.LastTail.τ).loc Cert.LastTail.main_arg2) = m ((c.tc : Thread Cert.LastTail.nD Cert.LastTail.τ).loc Cert.LastTail.main_arg2)
      ∧ r.2.mem ((c.tc : Thread Cert.LastTail.nD Cert.LastTail.τ).loc Cert.LastTail.main_arg3) = m ((c.tc : Thread Cert.LastTail.nD Cert.LastTail.τ).loc Cert.LastTail.main_arg3)
      ∧ r.2.mem ((c.tc : Thread Cert.LastTail.nD Cert.LastTail.τ).loc Cert.LastTail.main_arg4) = m ((c.tc : Thread Cert.LastTail.nD Cert.LastTail.τ).loc Cert.LastTail.main_arg4)
      ∧ r.2.mem ((c.tc : Thread Cert.LastTail.nD Cert.LastTail.τ).loc Cert.LastTail.main_arg5) = m ((c.tc : Thread Cert.LastTail.nD Cert.LastTail.τ).loc Cert.LastTail.main_arg5)
      ∧ r.2.mem ((c.tc : Thread Cert.LastTail.nD Cert.LastTail.τ).loc Cert.LastTail.main_arg6) = m ((c.tc : Thread Cert.LastTail.nD Cert.LastTail.τ).loc Cert.LastTail.main_arg6))
      ∧ r.2.sem = fun _ => 0)

def quiescent_LastTailIdeal [hLastTailIdeal : Cert.LastTailIdeal.Facts] : Prop :=
  ∀ (m : (ℓ : Loc Cert.LastTailIdeal.nD Cert.LastTailIdeal.τ Cert.LastTailIdeal.sig) → Buf (Elt Ideal) ℓ) (g : Dev Cert.LastTailIdeal.nD → PrngReg), Pre_LastTailIdeal m →
    θ_run (Cert.LastTailIdeal.defs (F := Ideal)) (onTc (τ := Cert.LastTailIdeal.τ) (Cert.LastTailIdeal.main (F := Ideal))) ⟨m, fun _ => 0, g⟩ (fun r => (∀ c : Dev Cert.LastTailIdeal.nD,
      r.2.mem ((c.tc : Thread Cert.LastTailIdeal.nD Cert.LastTailIdeal.τ).loc Cert.LastTailIdeal.main_arg0) = m ((c.tc : Thread Cert.LastTailIdeal.nD Cert.LastTailIdeal.τ).loc Cert.LastTailIdeal.main_arg0)
      ∧ r.2.mem ((c.tc : Thread Cert.LastTailIdeal.nD Cert.LastTailIdeal.τ).loc Cert.LastTailIdeal.main_arg1) = m ((c.tc : Thread Cert.LastTailIdeal.nD Cert.LastTailIdeal.τ).loc Cert.LastTailIdeal.main_arg1)
      ∧ r.2.mem ((c.tc : Thread Cert.LastTailIdeal.nD Cert.LastTailIdeal.τ).loc Cert.LastTailIdeal.main_arg2) = m ((c.tc : Thread Cert.LastTailIdeal.nD Cert.LastTailIdeal.τ).loc Cert.LastTailIdeal.main_arg2)
      ∧ r.2.mem ((c.tc : Thread Cert.LastTailIdeal.nD Cert.LastTailIdeal.τ).loc Cert.LastTailIdeal.main_arg3) = m ((c.tc : Thread Cert.LastTailIdeal.nD Cert.LastTailIdeal.τ).loc Cert.LastTailIdeal.main_arg3)
      ∧ r.2.mem ((c.tc : Thread Cert.LastTailIdeal.nD Cert.LastTailIdeal.τ).loc Cert.LastTailIdeal.main_arg4) = m ((c.tc : Thread Cert.LastTailIdeal.nD Cert.LastTailIdeal.τ).loc Cert.LastTailIdeal.main_arg4)
      ∧ r.2.mem ((c.tc : Thread Cert.LastTailIdeal.nD Cert.LastTailIdeal.τ).loc Cert.LastTailIdeal.main_arg5) = m ((c.tc : Thread Cert.LastTailIdeal.nD Cert.LastTailIdeal.τ).loc Cert.LastTailIdeal.main_arg5)
      ∧ r.2.mem ((c.tc : Thread Cert.LastTailIdeal.nD Cert.LastTailIdeal.τ).loc Cert.LastTailIdeal.main_arg6) = m ((c.tc : Thread Cert.LastTailIdeal.nD Cert.LastTailIdeal.τ).loc Cert.LastTailIdeal.main_arg6))
      ∧ r.2.sem = fun _ => 0)

def quiescent_LastTailRefIdeal [hLastTailRefIdeal : Cert.LastTailRefIdeal.Facts] : Prop :=
  ∀ (m : (ℓ : Loc Cert.LastTailRefIdeal.nD Cert.LastTailRefIdeal.τ Cert.LastTailRefIdeal.sig) → Buf (Elt Ideal) ℓ) (g : Dev Cert.LastTailRefIdeal.nD → PrngReg), Pre_LastTailRefIdeal m →
    θ_run (Cert.LastTailRefIdeal.defs (F := Ideal)) (onTc (τ := Cert.LastTailRefIdeal.τ) (Cert.LastTailRefIdeal.main (F := Ideal))) ⟨m, fun _ => 0, g⟩ (fun r => (∀ c : Dev Cert.LastTailRefIdeal.nD,
      r.2.mem ((c.tc : Thread Cert.LastTailRefIdeal.nD Cert.LastTailRefIdeal.τ).loc Cert.LastTailRefIdeal.main_arg0) = m ((c.tc : Thread Cert.LastTailRefIdeal.nD Cert.LastTailRefIdeal.τ).loc Cert.LastTailRefIdeal.main_arg0)
      ∧ r.2.mem ((c.tc : Thread Cert.LastTailRefIdeal.nD Cert.LastTailRefIdeal.τ).loc Cert.LastTailRefIdeal.main_arg1) = m ((c.tc : Thread Cert.LastTailRefIdeal.nD Cert.LastTailRefIdeal.τ).loc Cert.LastTailRefIdeal.main_arg1)
      ∧ r.2.mem ((c.tc : Thread Cert.LastTailRefIdeal.nD Cert.LastTailRefIdeal.τ).loc Cert.LastTailRefIdeal.main_arg2) = m ((c.tc : Thread Cert.LastTailRefIdeal.nD Cert.LastTailRefIdeal.τ).loc Cert.LastTailRefIdeal.main_arg2)
      ∧ r.2.mem ((c.tc : Thread Cert.LastTailRefIdeal.nD Cert.LastTailRefIdeal.τ).loc Cert.LastTailRefIdeal.main_arg3) = m ((c.tc : Thread Cert.LastTailRefIdeal.nD Cert.LastTailRefIdeal.τ).loc Cert.LastTailRefIdeal.main_arg3)
      ∧ r.2.mem ((c.tc : Thread Cert.LastTailRefIdeal.nD Cert.LastTailRefIdeal.τ).loc Cert.LastTailRefIdeal.main_arg4) = m ((c.tc : Thread Cert.LastTailRefIdeal.nD Cert.LastTailRefIdeal.τ).loc Cert.LastTailRefIdeal.main_arg4)
      ∧ r.2.mem ((c.tc : Thread Cert.LastTailRefIdeal.nD Cert.LastTailRefIdeal.τ).loc Cert.LastTailRefIdeal.main_arg5) = m ((c.tc : Thread Cert.LastTailRefIdeal.nD Cert.LastTailRefIdeal.τ).loc Cert.LastTailRefIdeal.main_arg5)
      ∧ r.2.mem ((c.tc : Thread Cert.LastTailRefIdeal.nD Cert.LastTailRefIdeal.τ).loc Cert.LastTailRefIdeal.main_arg6) = m ((c.tc : Thread Cert.LastTailRefIdeal.nD Cert.LastTailRefIdeal.τ).loc Cert.LastTailRefIdeal.main_arg6))
      ∧ r.2.sem = fun _ => 0)

def quiescent_SharedTail [hSharedTail : Cert.SharedTail.Facts] : Prop :=
  ∀ (m : (ℓ : Loc Cert.SharedTail.nD Cert.SharedTail.τ Cert.SharedTail.sig) → Buf (Elt Bits) ℓ) (g : Dev Cert.SharedTail.nD → PrngReg), Pre_SharedTail m →
    θ_run (Cert.SharedTail.defs (F := Bits)) (onTc (τ := Cert.SharedTail.τ) (Cert.SharedTail.main (F := Bits))) ⟨m, fun _ => 0, g⟩ (fun r => (∀ c : Dev Cert.SharedTail.nD,
      r.2.mem ((c.tc : Thread Cert.SharedTail.nD Cert.SharedTail.τ).loc Cert.SharedTail.main_arg0) = m ((c.tc : Thread Cert.SharedTail.nD Cert.SharedTail.τ).loc Cert.SharedTail.main_arg0)
      ∧ r.2.mem ((c.tc : Thread Cert.SharedTail.nD Cert.SharedTail.τ).loc Cert.SharedTail.main_arg1) = m ((c.tc : Thread Cert.SharedTail.nD Cert.SharedTail.τ).loc Cert.SharedTail.main_arg1)
      ∧ r.2.mem ((c.tc : Thread Cert.SharedTail.nD Cert.SharedTail.τ).loc Cert.SharedTail.main_arg2) = m ((c.tc : Thread Cert.SharedTail.nD Cert.SharedTail.τ).loc Cert.SharedTail.main_arg2)
      ∧ r.2.mem ((c.tc : Thread Cert.SharedTail.nD Cert.SharedTail.τ).loc Cert.SharedTail.main_arg3) = m ((c.tc : Thread Cert.SharedTail.nD Cert.SharedTail.τ).loc Cert.SharedTail.main_arg3)
      ∧ r.2.mem ((c.tc : Thread Cert.SharedTail.nD Cert.SharedTail.τ).loc Cert.SharedTail.main_arg4) = m ((c.tc : Thread Cert.SharedTail.nD Cert.SharedTail.τ).loc Cert.SharedTail.main_arg4)
      ∧ r.2.mem ((c.tc : Thread Cert.SharedTail.nD Cert.SharedTail.τ).loc Cert.SharedTail.main_arg5) = m ((c.tc : Thread Cert.SharedTail.nD Cert.SharedTail.τ).loc Cert.SharedTail.main_arg5)
      ∧ r.2.mem ((c.tc : Thread Cert.SharedTail.nD Cert.SharedTail.τ).loc Cert.SharedTail.main_arg6) = m ((c.tc : Thread Cert.SharedTail.nD Cert.SharedTail.τ).loc Cert.SharedTail.main_arg6)
      ∧ r.2.mem ((c.tc : Thread Cert.SharedTail.nD Cert.SharedTail.τ).loc Cert.SharedTail.main_arg7) = m ((c.tc : Thread Cert.SharedTail.nD Cert.SharedTail.τ).loc Cert.SharedTail.main_arg7)
      ∧ r.2.mem ((c.tc : Thread Cert.SharedTail.nD Cert.SharedTail.τ).loc Cert.SharedTail.main_arg8) = m ((c.tc : Thread Cert.SharedTail.nD Cert.SharedTail.τ).loc Cert.SharedTail.main_arg8)
      ∧ r.2.mem ((c.tc : Thread Cert.SharedTail.nD Cert.SharedTail.τ).loc Cert.SharedTail.main_arg9) = m ((c.tc : Thread Cert.SharedTail.nD Cert.SharedTail.τ).loc Cert.SharedTail.main_arg9)
      ∧ r.2.mem ((c.tc : Thread Cert.SharedTail.nD Cert.SharedTail.τ).loc Cert.SharedTail.main_arg10) = m ((c.tc : Thread Cert.SharedTail.nD Cert.SharedTail.τ).loc Cert.SharedTail.main_arg10))
      ∧ r.2.sem = fun _ => 0)

def quiescent_SharedTailIdeal [hSharedTailIdeal : Cert.SharedTailIdeal.Facts] : Prop :=
  ∀ (m : (ℓ : Loc Cert.SharedTailIdeal.nD Cert.SharedTailIdeal.τ Cert.SharedTailIdeal.sig) → Buf (Elt Ideal) ℓ) (g : Dev Cert.SharedTailIdeal.nD → PrngReg), Pre_SharedTailIdeal m →
    θ_run (Cert.SharedTailIdeal.defs (F := Ideal)) (onTc (τ := Cert.SharedTailIdeal.τ) (Cert.SharedTailIdeal.main (F := Ideal))) ⟨m, fun _ => 0, g⟩ (fun r => (∀ c : Dev Cert.SharedTailIdeal.nD,
      r.2.mem ((c.tc : Thread Cert.SharedTailIdeal.nD Cert.SharedTailIdeal.τ).loc Cert.SharedTailIdeal.main_arg0) = m ((c.tc : Thread Cert.SharedTailIdeal.nD Cert.SharedTailIdeal.τ).loc Cert.SharedTailIdeal.main_arg0)
      ∧ r.2.mem ((c.tc : Thread Cert.SharedTailIdeal.nD Cert.SharedTailIdeal.τ).loc Cert.SharedTailIdeal.main_arg1) = m ((c.tc : Thread Cert.SharedTailIdeal.nD Cert.SharedTailIdeal.τ).loc Cert.SharedTailIdeal.main_arg1)
      ∧ r.2.mem ((c.tc : Thread Cert.SharedTailIdeal.nD Cert.SharedTailIdeal.τ).loc Cert.SharedTailIdeal.main_arg2) = m ((c.tc : Thread Cert.SharedTailIdeal.nD Cert.SharedTailIdeal.τ).loc Cert.SharedTailIdeal.main_arg2)
      ∧ r.2.mem ((c.tc : Thread Cert.SharedTailIdeal.nD Cert.SharedTailIdeal.τ).loc Cert.SharedTailIdeal.main_arg3) = m ((c.tc : Thread Cert.SharedTailIdeal.nD Cert.SharedTailIdeal.τ).loc Cert.SharedTailIdeal.main_arg3)
      ∧ r.2.mem ((c.tc : Thread Cert.SharedTailIdeal.nD Cert.SharedTailIdeal.τ).loc Cert.SharedTailIdeal.main_arg4) = m ((c.tc : Thread Cert.SharedTailIdeal.nD Cert.SharedTailIdeal.τ).loc Cert.SharedTailIdeal.main_arg4)
      ∧ r.2.mem ((c.tc : Thread Cert.SharedTailIdeal.nD Cert.SharedTailIdeal.τ).loc Cert.SharedTailIdeal.main_arg5) = m ((c.tc : Thread Cert.SharedTailIdeal.nD Cert.SharedTailIdeal.τ).loc Cert.SharedTailIdeal.main_arg5)
      ∧ r.2.mem ((c.tc : Thread Cert.SharedTailIdeal.nD Cert.SharedTailIdeal.τ).loc Cert.SharedTailIdeal.main_arg6) = m ((c.tc : Thread Cert.SharedTailIdeal.nD Cert.SharedTailIdeal.τ).loc Cert.SharedTailIdeal.main_arg6)
      ∧ r.2.mem ((c.tc : Thread Cert.SharedTailIdeal.nD Cert.SharedTailIdeal.τ).loc Cert.SharedTailIdeal.main_arg7) = m ((c.tc : Thread Cert.SharedTailIdeal.nD Cert.SharedTailIdeal.τ).loc Cert.SharedTailIdeal.main_arg7)
      ∧ r.2.mem ((c.tc : Thread Cert.SharedTailIdeal.nD Cert.SharedTailIdeal.τ).loc Cert.SharedTailIdeal.main_arg8) = m ((c.tc : Thread Cert.SharedTailIdeal.nD Cert.SharedTailIdeal.τ).loc Cert.SharedTailIdeal.main_arg8)
      ∧ r.2.mem ((c.tc : Thread Cert.SharedTailIdeal.nD Cert.SharedTailIdeal.τ).loc Cert.SharedTailIdeal.main_arg9) = m ((c.tc : Thread Cert.SharedTailIdeal.nD Cert.SharedTailIdeal.τ).loc Cert.SharedTailIdeal.main_arg9)
      ∧ r.2.mem ((c.tc : Thread Cert.SharedTailIdeal.nD Cert.SharedTailIdeal.τ).loc Cert.SharedTailIdeal.main_arg10) = m ((c.tc : Thread Cert.SharedTailIdeal.nD Cert.SharedTailIdeal.τ).loc Cert.SharedTailIdeal.main_arg10))
      ∧ r.2.sem = fun _ => 0)

def quiescent_SharedTailRefIdeal [hSharedTailRefIdeal : Cert.SharedTailRefIdeal.Facts] : Prop :=
  ∀ (m : (ℓ : Loc Cert.SharedTailRefIdeal.nD Cert.SharedTailRefIdeal.τ Cert.SharedTailRefIdeal.sig) → Buf (Elt Ideal) ℓ) (g : Dev Cert.SharedTailRefIdeal.nD → PrngReg), Pre_SharedTailRefIdeal m →
    θ_run (Cert.SharedTailRefIdeal.defs (F := Ideal)) (onTc (τ := Cert.SharedTailRefIdeal.τ) (Cert.SharedTailRefIdeal.main (F := Ideal))) ⟨m, fun _ => 0, g⟩ (fun r => (∀ c : Dev Cert.SharedTailRefIdeal.nD,
      r.2.mem ((c.tc : Thread Cert.SharedTailRefIdeal.nD Cert.SharedTailRefIdeal.τ).loc Cert.SharedTailRefIdeal.main_arg0) = m ((c.tc : Thread Cert.SharedTailRefIdeal.nD Cert.SharedTailRefIdeal.τ).loc Cert.SharedTailRefIdeal.main_arg0)
      ∧ r.2.mem ((c.tc : Thread Cert.SharedTailRefIdeal.nD Cert.SharedTailRefIdeal.τ).loc Cert.SharedTailRefIdeal.main_arg1) = m ((c.tc : Thread Cert.SharedTailRefIdeal.nD Cert.SharedTailRefIdeal.τ).loc Cert.SharedTailRefIdeal.main_arg1)
      ∧ r.2.mem ((c.tc : Thread Cert.SharedTailRefIdeal.nD Cert.SharedTailRefIdeal.τ).loc Cert.SharedTailRefIdeal.main_arg2) = m ((c.tc : Thread Cert.SharedTailRefIdeal.nD Cert.SharedTailRefIdeal.τ).loc Cert.SharedTailRefIdeal.main_arg2)
      ∧ r.2.mem ((c.tc : Thread Cert.SharedTailRefIdeal.nD Cert.SharedTailRefIdeal.τ).loc Cert.SharedTailRefIdeal.main_arg3) = m ((c.tc : Thread Cert.SharedTailRefIdeal.nD Cert.SharedTailRefIdeal.τ).loc Cert.SharedTailRefIdeal.main_arg3)
      ∧ r.2.mem ((c.tc : Thread Cert.SharedTailRefIdeal.nD Cert.SharedTailRefIdeal.τ).loc Cert.SharedTailRefIdeal.main_arg4) = m ((c.tc : Thread Cert.SharedTailRefIdeal.nD Cert.SharedTailRefIdeal.τ).loc Cert.SharedTailRefIdeal.main_arg4)
      ∧ r.2.mem ((c.tc : Thread Cert.SharedTailRefIdeal.nD Cert.SharedTailRefIdeal.τ).loc Cert.SharedTailRefIdeal.main_arg5) = m ((c.tc : Thread Cert.SharedTailRefIdeal.nD Cert.SharedTailRefIdeal.τ).loc Cert.SharedTailRefIdeal.main_arg5)
      ∧ r.2.mem ((c.tc : Thread Cert.SharedTailRefIdeal.nD Cert.SharedTailRefIdeal.τ).loc Cert.SharedTailRefIdeal.main_arg6) = m ((c.tc : Thread Cert.SharedTailRefIdeal.nD Cert.SharedTailRefIdeal.τ).loc Cert.SharedTailRefIdeal.main_arg6)
      ∧ r.2.mem ((c.tc : Thread Cert.SharedTailRefIdeal.nD Cert.SharedTailRefIdeal.τ).loc Cert.SharedTailRefIdeal.main_arg7) = m ((c.tc : Thread Cert.SharedTailRefIdeal.nD Cert.SharedTailRefIdeal.τ).loc Cert.SharedTailRefIdeal.main_arg7)
      ∧ r.2.mem ((c.tc : Thread Cert.SharedTailRefIdeal.nD Cert.SharedTailRefIdeal.τ).loc Cert.SharedTailRefIdeal.main_arg8) = m ((c.tc : Thread Cert.SharedTailRefIdeal.nD Cert.SharedTailRefIdeal.τ).loc Cert.SharedTailRefIdeal.main_arg8)
      ∧ r.2.mem ((c.tc : Thread Cert.SharedTailRefIdeal.nD Cert.SharedTailRefIdeal.τ).loc Cert.SharedTailRefIdeal.main_arg9) = m ((c.tc : Thread Cert.SharedTailRefIdeal.nD Cert.SharedTailRefIdeal.τ).loc Cert.SharedTailRefIdeal.main_arg9)
      ∧ r.2.mem ((c.tc : Thread Cert.SharedTailRefIdeal.nD Cert.SharedTailRefIdeal.τ).loc Cert.SharedTailRefIdeal.main_arg10) = m ((c.tc : Thread Cert.SharedTailRefIdeal.nD Cert.SharedTailRefIdeal.τ).loc Cert.SharedTailRefIdeal.main_arg10))
      ∧ r.2.sem = fun _ => 0)

def quiescent_NextTail [hNextTail : Cert.NextTail.Facts] : Prop :=
  ∀ (m : (ℓ : Loc Cert.NextTail.nD Cert.NextTail.τ Cert.NextTail.sig) → Buf (Elt Bits) ℓ) (g : Dev Cert.NextTail.nD → PrngReg), Pre_NextTail m →
    θ_run (Cert.NextTail.defs (F := Bits)) (onTc (τ := Cert.NextTail.τ) (Cert.NextTail.main (F := Bits))) ⟨m, fun _ => 0, g⟩ (fun r => (∀ c : Dev Cert.NextTail.nD,
      r.2.mem ((c.tc : Thread Cert.NextTail.nD Cert.NextTail.τ).loc Cert.NextTail.main_arg0) = m ((c.tc : Thread Cert.NextTail.nD Cert.NextTail.τ).loc Cert.NextTail.main_arg0)
      ∧ r.2.mem ((c.tc : Thread Cert.NextTail.nD Cert.NextTail.τ).loc Cert.NextTail.main_arg1) = m ((c.tc : Thread Cert.NextTail.nD Cert.NextTail.τ).loc Cert.NextTail.main_arg1)
      ∧ r.2.mem ((c.tc : Thread Cert.NextTail.nD Cert.NextTail.τ).loc Cert.NextTail.main_arg2) = m ((c.tc : Thread Cert.NextTail.nD Cert.NextTail.τ).loc Cert.NextTail.main_arg2)
      ∧ r.2.mem ((c.tc : Thread Cert.NextTail.nD Cert.NextTail.τ).loc Cert.NextTail.main_arg3) = m ((c.tc : Thread Cert.NextTail.nD Cert.NextTail.τ).loc Cert.NextTail.main_arg3)
      ∧ r.2.mem ((c.tc : Thread Cert.NextTail.nD Cert.NextTail.τ).loc Cert.NextTail.main_arg4) = m ((c.tc : Thread Cert.NextTail.nD Cert.NextTail.τ).loc Cert.NextTail.main_arg4)
      ∧ r.2.mem ((c.tc : Thread Cert.NextTail.nD Cert.NextTail.τ).loc Cert.NextTail.main_arg5) = m ((c.tc : Thread Cert.NextTail.nD Cert.NextTail.τ).loc Cert.NextTail.main_arg5)
      ∧ r.2.mem ((c.tc : Thread Cert.NextTail.nD Cert.NextTail.τ).loc Cert.NextTail.main_arg6) = m ((c.tc : Thread Cert.NextTail.nD Cert.NextTail.τ).loc Cert.NextTail.main_arg6)
      ∧ r.2.mem ((c.tc : Thread Cert.NextTail.nD Cert.NextTail.τ).loc Cert.NextTail.main_arg7) = m ((c.tc : Thread Cert.NextTail.nD Cert.NextTail.τ).loc Cert.NextTail.main_arg7)
      ∧ r.2.mem ((c.tc : Thread Cert.NextTail.nD Cert.NextTail.τ).loc Cert.NextTail.main_arg8) = m ((c.tc : Thread Cert.NextTail.nD Cert.NextTail.τ).loc Cert.NextTail.main_arg8))
      ∧ r.2.sem = fun _ => 0)

def quiescent_NextTailIdeal [hNextTailIdeal : Cert.NextTailIdeal.Facts] : Prop :=
  ∀ (m : (ℓ : Loc Cert.NextTailIdeal.nD Cert.NextTailIdeal.τ Cert.NextTailIdeal.sig) → Buf (Elt Ideal) ℓ) (g : Dev Cert.NextTailIdeal.nD → PrngReg), Pre_NextTailIdeal m →
    θ_run (Cert.NextTailIdeal.defs (F := Ideal)) (onTc (τ := Cert.NextTailIdeal.τ) (Cert.NextTailIdeal.main (F := Ideal))) ⟨m, fun _ => 0, g⟩ (fun r => (∀ c : Dev Cert.NextTailIdeal.nD,
      r.2.mem ((c.tc : Thread Cert.NextTailIdeal.nD Cert.NextTailIdeal.τ).loc Cert.NextTailIdeal.main_arg0) = m ((c.tc : Thread Cert.NextTailIdeal.nD Cert.NextTailIdeal.τ).loc Cert.NextTailIdeal.main_arg0)
      ∧ r.2.mem ((c.tc : Thread Cert.NextTailIdeal.nD Cert.NextTailIdeal.τ).loc Cert.NextTailIdeal.main_arg1) = m ((c.tc : Thread Cert.NextTailIdeal.nD Cert.NextTailIdeal.τ).loc Cert.NextTailIdeal.main_arg1)
      ∧ r.2.mem ((c.tc : Thread Cert.NextTailIdeal.nD Cert.NextTailIdeal.τ).loc Cert.NextTailIdeal.main_arg2) = m ((c.tc : Thread Cert.NextTailIdeal.nD Cert.NextTailIdeal.τ).loc Cert.NextTailIdeal.main_arg2)
      ∧ r.2.mem ((c.tc : Thread Cert.NextTailIdeal.nD Cert.NextTailIdeal.τ).loc Cert.NextTailIdeal.main_arg3) = m ((c.tc : Thread Cert.NextTailIdeal.nD Cert.NextTailIdeal.τ).loc Cert.NextTailIdeal.main_arg3)
      ∧ r.2.mem ((c.tc : Thread Cert.NextTailIdeal.nD Cert.NextTailIdeal.τ).loc Cert.NextTailIdeal.main_arg4) = m ((c.tc : Thread Cert.NextTailIdeal.nD Cert.NextTailIdeal.τ).loc Cert.NextTailIdeal.main_arg4)
      ∧ r.2.mem ((c.tc : Thread Cert.NextTailIdeal.nD Cert.NextTailIdeal.τ).loc Cert.NextTailIdeal.main_arg5) = m ((c.tc : Thread Cert.NextTailIdeal.nD Cert.NextTailIdeal.τ).loc Cert.NextTailIdeal.main_arg5)
      ∧ r.2.mem ((c.tc : Thread Cert.NextTailIdeal.nD Cert.NextTailIdeal.τ).loc Cert.NextTailIdeal.main_arg6) = m ((c.tc : Thread Cert.NextTailIdeal.nD Cert.NextTailIdeal.τ).loc Cert.NextTailIdeal.main_arg6)
      ∧ r.2.mem ((c.tc : Thread Cert.NextTailIdeal.nD Cert.NextTailIdeal.τ).loc Cert.NextTailIdeal.main_arg7) = m ((c.tc : Thread Cert.NextTailIdeal.nD Cert.NextTailIdeal.τ).loc Cert.NextTailIdeal.main_arg7)
      ∧ r.2.mem ((c.tc : Thread Cert.NextTailIdeal.nD Cert.NextTailIdeal.τ).loc Cert.NextTailIdeal.main_arg8) = m ((c.tc : Thread Cert.NextTailIdeal.nD Cert.NextTailIdeal.τ).loc Cert.NextTailIdeal.main_arg8))
      ∧ r.2.sem = fun _ => 0)

def quiescent_NextTailRefIdeal [hNextTailRefIdeal : Cert.NextTailRefIdeal.Facts] : Prop :=
  ∀ (m : (ℓ : Loc Cert.NextTailRefIdeal.nD Cert.NextTailRefIdeal.τ Cert.NextTailRefIdeal.sig) → Buf (Elt Ideal) ℓ) (g : Dev Cert.NextTailRefIdeal.nD → PrngReg), Pre_NextTailRefIdeal m →
    θ_run (Cert.NextTailRefIdeal.defs (F := Ideal)) (onTc (τ := Cert.NextTailRefIdeal.τ) (Cert.NextTailRefIdeal.main (F := Ideal))) ⟨m, fun _ => 0, g⟩ (fun r => (∀ c : Dev Cert.NextTailRefIdeal.nD,
      r.2.mem ((c.tc : Thread Cert.NextTailRefIdeal.nD Cert.NextTailRefIdeal.τ).loc Cert.NextTailRefIdeal.main_arg0) = m ((c.tc : Thread Cert.NextTailRefIdeal.nD Cert.NextTailRefIdeal.τ).loc Cert.NextTailRefIdeal.main_arg0)
      ∧ r.2.mem ((c.tc : Thread Cert.NextTailRefIdeal.nD Cert.NextTailRefIdeal.τ).loc Cert.NextTailRefIdeal.main_arg1) = m ((c.tc : Thread Cert.NextTailRefIdeal.nD Cert.NextTailRefIdeal.τ).loc Cert.NextTailRefIdeal.main_arg1)
      ∧ r.2.mem ((c.tc : Thread Cert.NextTailRefIdeal.nD Cert.NextTailRefIdeal.τ).loc Cert.NextTailRefIdeal.main_arg2) = m ((c.tc : Thread Cert.NextTailRefIdeal.nD Cert.NextTailRefIdeal.τ).loc Cert.NextTailRefIdeal.main_arg2)
      ∧ r.2.mem ((c.tc : Thread Cert.NextTailRefIdeal.nD Cert.NextTailRefIdeal.τ).loc Cert.NextTailRefIdeal.main_arg3) = m ((c.tc : Thread Cert.NextTailRefIdeal.nD Cert.NextTailRefIdeal.τ).loc Cert.NextTailRefIdeal.main_arg3)
      ∧ r.2.mem ((c.tc : Thread Cert.NextTailRefIdeal.nD Cert.NextTailRefIdeal.τ).loc Cert.NextTailRefIdeal.main_arg4) = m ((c.tc : Thread Cert.NextTailRefIdeal.nD Cert.NextTailRefIdeal.τ).loc Cert.NextTailRefIdeal.main_arg4)
      ∧ r.2.mem ((c.tc : Thread Cert.NextTailRefIdeal.nD Cert.NextTailRefIdeal.τ).loc Cert.NextTailRefIdeal.main_arg5) = m ((c.tc : Thread Cert.NextTailRefIdeal.nD Cert.NextTailRefIdeal.τ).loc Cert.NextTailRefIdeal.main_arg5)
      ∧ r.2.mem ((c.tc : Thread Cert.NextTailRefIdeal.nD Cert.NextTailRefIdeal.τ).loc Cert.NextTailRefIdeal.main_arg6) = m ((c.tc : Thread Cert.NextTailRefIdeal.nD Cert.NextTailRefIdeal.τ).loc Cert.NextTailRefIdeal.main_arg6)
      ∧ r.2.mem ((c.tc : Thread Cert.NextTailRefIdeal.nD Cert.NextTailRefIdeal.τ).loc Cert.NextTailRefIdeal.main_arg7) = m ((c.tc : Thread Cert.NextTailRefIdeal.nD Cert.NextTailRefIdeal.τ).loc Cert.NextTailRefIdeal.main_arg7)
      ∧ r.2.mem ((c.tc : Thread Cert.NextTailRefIdeal.nD Cert.NextTailRefIdeal.τ).loc Cert.NextTailRefIdeal.main_arg8) = m ((c.tc : Thread Cert.NextTailRefIdeal.nD Cert.NextTailRefIdeal.τ).loc Cert.NextTailRefIdeal.main_arg8))
      ∧ r.2.sem = fun _ => 0)

def quiescent_Front [hFront : Cert.Front.Facts] : Prop :=
  ∀ (m : (ℓ : Loc Cert.Front.nD Cert.Front.τ Cert.Front.sig) → Buf (Elt Bits) ℓ) (g : Dev Cert.Front.nD → PrngReg), Pre_Front m →
    θ_run (Cert.Front.defs (F := Bits)) (onTc (τ := Cert.Front.τ) (Cert.Front.main (F := Bits))) ⟨m, fun _ => 0, g⟩ (fun r => (∀ c : Dev Cert.Front.nD,
      r.2.mem ((c.tc : Thread Cert.Front.nD Cert.Front.τ).loc Cert.Front.main_arg0) = m ((c.tc : Thread Cert.Front.nD Cert.Front.τ).loc Cert.Front.main_arg0)
      ∧ r.2.mem ((c.tc : Thread Cert.Front.nD Cert.Front.τ).loc Cert.Front.main_arg1) = m ((c.tc : Thread Cert.Front.nD Cert.Front.τ).loc Cert.Front.main_arg1)
      ∧ r.2.mem ((c.tc : Thread Cert.Front.nD Cert.Front.τ).loc Cert.Front.main_arg2) = m ((c.tc : Thread Cert.Front.nD Cert.Front.τ).loc Cert.Front.main_arg2)
      ∧ r.2.mem ((c.tc : Thread Cert.Front.nD Cert.Front.τ).loc Cert.Front.main_arg3) = m ((c.tc : Thread Cert.Front.nD Cert.Front.τ).loc Cert.Front.main_arg3)
      ∧ r.2.mem ((c.tc : Thread Cert.Front.nD Cert.Front.τ).loc Cert.Front.main_arg4) = m ((c.tc : Thread Cert.Front.nD Cert.Front.τ).loc Cert.Front.main_arg4)
      ∧ r.2.mem ((c.tc : Thread Cert.Front.nD Cert.Front.τ).loc Cert.Front.main_arg5) = m ((c.tc : Thread Cert.Front.nD Cert.Front.τ).loc Cert.Front.main_arg5)
      ∧ r.2.mem ((c.tc : Thread Cert.Front.nD Cert.Front.τ).loc Cert.Front.main_arg6) = m ((c.tc : Thread Cert.Front.nD Cert.Front.τ).loc Cert.Front.main_arg6)
      ∧ r.2.mem ((c.tc : Thread Cert.Front.nD Cert.Front.τ).loc Cert.Front.main_arg7) = m ((c.tc : Thread Cert.Front.nD Cert.Front.τ).loc Cert.Front.main_arg7)
      ∧ r.2.mem ((c.tc : Thread Cert.Front.nD Cert.Front.τ).loc Cert.Front.main_arg8) = m ((c.tc : Thread Cert.Front.nD Cert.Front.τ).loc Cert.Front.main_arg8)
      ∧ r.2.mem ((c.tc : Thread Cert.Front.nD Cert.Front.τ).loc Cert.Front.main_arg9) = m ((c.tc : Thread Cert.Front.nD Cert.Front.τ).loc Cert.Front.main_arg9))
      ∧ r.2.sem = fun _ => 0)

def quiescent_FrontIdeal [hFrontIdeal : Cert.FrontIdeal.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
      ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
      ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
      ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
      ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7)
      ∧ r.2.mem ((c.tc : Thread Cert.FrontIdeal.nD Cert.FrontIdeal.τ).loc Cert.FrontIdeal.main_arg8) = m ((c.tc : Thread Cert.FrontIdeal.nD Cert.FrontIdeal.τ).loc Cert.FrontIdeal.main_arg8)
      ∧ r.2.mem ((c.tc : Thread Cert.FrontIdeal.nD Cert.FrontIdeal.τ).loc Cert.FrontIdeal.main_arg9) = m ((c.tc : Thread Cert.FrontIdeal.nD Cert.FrontIdeal.τ).loc Cert.FrontIdeal.main_arg9))
      ∧ r.2.sem = fun _ => 0)

def quiescent_FrontRefIdeal [hFrontRefIdeal : Cert.FrontRefIdeal.Facts] : Prop :=
  ∀ (m : (ℓ : Loc Cert.FrontRefIdeal.nD Cert.FrontRefIdeal.τ Cert.FrontRefIdeal.sig) → Buf (Elt Ideal) ℓ) (g : Dev Cert.FrontRefIdeal.nD → PrngReg), Pre_FrontRefIdeal m →
    θ_run (Cert.FrontRefIdeal.defs (F := Ideal)) (onTc (τ := Cert.FrontRefIdeal.τ) (Cert.FrontRefIdeal.main (F := Ideal))) ⟨m, fun _ => 0, g⟩ (fun r => (∀ c : Dev Cert.FrontRefIdeal.nD,
      r.2.mem ((c.tc : Thread Cert.FrontRefIdeal.nD Cert.FrontRefIdeal.τ).loc Cert.FrontRefIdeal.main_arg0) = m ((c.tc : Thread Cert.FrontRefIdeal.nD Cert.FrontRefIdeal.τ).loc Cert.FrontRefIdeal.main_arg0)
      ∧ r.2.mem ((c.tc : Thread Cert.FrontRefIdeal.nD Cert.FrontRefIdeal.τ).loc Cert.FrontRefIdeal.main_arg1) = m ((c.tc : Thread Cert.FrontRefIdeal.nD Cert.FrontRefIdeal.τ).loc Cert.FrontRefIdeal.main_arg1)
      ∧ r.2.mem ((c.tc : Thread Cert.FrontRefIdeal.nD Cert.FrontRefIdeal.τ).loc Cert.FrontRefIdeal.main_arg2) = m ((c.tc : Thread Cert.FrontRefIdeal.nD Cert.FrontRefIdeal.τ).loc Cert.FrontRefIdeal.main_arg2)
      ∧ r.2.mem ((c.tc : Thread Cert.FrontRefIdeal.nD Cert.FrontRefIdeal.τ).loc Cert.FrontRefIdeal.main_arg3) = m ((c.tc : Thread Cert.FrontRefIdeal.nD Cert.FrontRefIdeal.τ).loc Cert.FrontRefIdeal.main_arg3)
      ∧ r.2.mem ((c.tc : Thread Cert.FrontRefIdeal.nD Cert.FrontRefIdeal.τ).loc Cert.FrontRefIdeal.main_arg4) = m ((c.tc : Thread Cert.FrontRefIdeal.nD Cert.FrontRefIdeal.τ).loc Cert.FrontRefIdeal.main_arg4)
      ∧ r.2.mem ((c.tc : Thread Cert.FrontRefIdeal.nD Cert.FrontRefIdeal.τ).loc Cert.FrontRefIdeal.main_arg5) = m ((c.tc : Thread Cert.FrontRefIdeal.nD Cert.FrontRefIdeal.τ).loc Cert.FrontRefIdeal.main_arg5)
      ∧ r.2.mem ((c.tc : Thread Cert.FrontRefIdeal.nD Cert.FrontRefIdeal.τ).loc Cert.FrontRefIdeal.main_arg6) = m ((c.tc : Thread Cert.FrontRefIdeal.nD Cert.FrontRefIdeal.τ).loc Cert.FrontRefIdeal.main_arg6)
      ∧ r.2.mem ((c.tc : Thread Cert.FrontRefIdeal.nD Cert.FrontRefIdeal.τ).loc Cert.FrontRefIdeal.main_arg7) = m ((c.tc : Thread Cert.FrontRefIdeal.nD Cert.FrontRefIdeal.τ).loc Cert.FrontRefIdeal.main_arg7)
      ∧ r.2.mem ((c.tc : Thread Cert.FrontRefIdeal.nD Cert.FrontRefIdeal.τ).loc Cert.FrontRefIdeal.main_arg8) = m ((c.tc : Thread Cert.FrontRefIdeal.nD Cert.FrontRefIdeal.τ).loc Cert.FrontRefIdeal.main_arg8)
      ∧ r.2.mem ((c.tc : Thread Cert.FrontRefIdeal.nD Cert.FrontRefIdeal.τ).loc Cert.FrontRefIdeal.main_arg9) = m ((c.tc : Thread Cert.FrontRefIdeal.nD Cert.FrontRefIdeal.τ).loc Cert.FrontRefIdeal.main_arg9))
      ∧ r.2.sem = fun _ => 0)

def preserves_Attention_AttentionIdeal : Prop :=
  True

def algebraic_AttentionIdeal_AttentionRefIdeal_pre_finite_and_ones [hAttentionIdeal : Cert.AttentionIdeal.Facts] [hAttentionRefIdeal : Cert.AttentionRefIdeal.Facts] [hPre_finite_and_ones : Cert.Pre_finite_and_ones.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionRefIdeal.nD Cert.AttentionRefIdeal.τ Cert.AttentionRefIdeal.sig) → Buf (Elt Ideal) ℓ) (g' : Dev Cert.AttentionRefIdeal.nD → PrngReg), Pre_AttentionIdeal_finite_and_ones m →
    (∀ c : Dev Cert.AttentionIdeal.nD,
      m' ((c.tc : Thread Cert.AttentionRefIdeal.nD Cert.AttentionRefIdeal.τ).loc Cert.AttentionRefIdeal.main_arg0) = m ((c.tc : Thread Cert.AttentionIdeal.nD Cert.AttentionIdeal.τ).loc Cert.AttentionIdeal.main_arg0)
      ∧ m' ((c.tc : Thread Cert.AttentionRefIdeal.nD Cert.AttentionRefIdeal.τ).loc Cert.AttentionRefIdeal.main_arg1) = m ((c.tc : Thread Cert.AttentionIdeal.nD Cert.AttentionIdeal.τ).loc Cert.AttentionIdeal.main_arg1)
      ∧ m' ((c.tc : Thread Cert.AttentionRefIdeal.nD Cert.AttentionRefIdeal.τ).loc Cert.AttentionRefIdeal.main_arg2) = m ((c.tc : Thread Cert.AttentionIdeal.nD Cert.AttentionIdeal.τ).loc Cert.AttentionIdeal.main_arg2)) →
    ∃ (v0 : (c : Dev Cert.AttentionIdeal.nD) → Buf (Elt Ideal) ((c.tc : Thread Cert.AttentionIdeal.nD Cert.AttentionIdeal.τ).loc Cert.AttentionIdeal.main_v3)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v3) = v0 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ θ_run (Cert.AttentionRefIdeal.defs (F := Ideal)) (onTc (τ := Cert.AttentionRefIdeal.τ) (Cert.AttentionRefIdeal.main (F := Ideal))) ⟨m', fun _ => 0, g'⟩ (fun r => ∀ c : Dev Cert.AttentionRefIdeal.nD,
          r.2.mem ((c.tc : Thread Cert.AttentionRefIdeal.nD Cert.AttentionRefIdeal.τ).loc Cert.AttentionRefIdeal.main_v42) = v0 c
          ∧ r.2.mem ((c.tc : Thread Cert.AttentionRefIdeal.nD Cert.AttentionRefIdeal.τ).loc Cert.AttentionRefIdeal.main_arg0) = m' ((c.tc : Thread Cert.AttentionRefIdeal.nD Cert.AttentionRefIdeal.τ).loc Cert.AttentionRefIdeal.main_arg0)
          ∧ r.2.mem ((c.tc : Thread Cert.AttentionRefIdeal.nD Cert.AttentionRefIdeal.τ).loc Cert.AttentionRefIdeal.main_arg1) = m' ((c.tc : Thread Cert.AttentionRefIdeal.nD Cert.AttentionRefIdeal.τ).loc Cert.AttentionRefIdeal.main_arg1)
          ∧ r.2.mem ((c.tc : Thread Cert.AttentionRefIdeal.nD Cert.AttentionRefIdeal.τ).loc Cert.AttentionRefIdeal.main_arg2) = m' ((c.tc : Thread Cert.AttentionRefIdeal.nD Cert.AttentionRefIdeal.τ).loc Cert.AttentionRefIdeal.main_arg2))

def preserves_LastTail_LastTailIdeal : Prop :=
  True

def algebraic_LastTailIdeal_LastTailRefIdeal [hLastTailIdeal : Cert.LastTailIdeal.Facts] [hLastTailRefIdeal : Cert.LastTailRefIdeal.Facts] : Prop :=
  ∀ (m : (ℓ : Loc Cert.LastTailIdeal.nD Cert.LastTailIdeal.τ Cert.LastTailIdeal.sig) → Buf (Elt Ideal) ℓ) (g : Dev Cert.LastTailIdeal.nD → PrngReg)
    (m' : (ℓ : Loc Cert.LastTailRefIdeal.nD Cert.LastTailRefIdeal.τ Cert.LastTailRefIdeal.sig) → Buf (Elt Ideal) ℓ) (g' : Dev Cert.LastTailRefIdeal.nD → PrngReg), Pre_LastTailIdeal m →
    (∀ c : Dev Cert.LastTailIdeal.nD,
      m' ((c.tc : Thread Cert.LastTailRefIdeal.nD Cert.LastTailRefIdeal.τ).loc Cert.LastTailRefIdeal.main_arg0) = m ((c.tc : Thread Cert.LastTailIdeal.nD Cert.LastTailIdeal.τ).loc Cert.LastTailIdeal.main_arg0)
      ∧ m' ((c.tc : Thread Cert.LastTailRefIdeal.nD Cert.LastTailRefIdeal.τ).loc Cert.LastTailRefIdeal.main_arg1) = m ((c.tc : Thread Cert.LastTailIdeal.nD Cert.LastTailIdeal.τ).loc Cert.LastTailIdeal.main_arg1)
      ∧ m' ((c.tc : Thread Cert.LastTailRefIdeal.nD Cert.LastTailRefIdeal.τ).loc Cert.LastTailRefIdeal.main_arg2) = m ((c.tc : Thread Cert.LastTailIdeal.nD Cert.LastTailIdeal.τ).loc Cert.LastTailIdeal.main_arg2)
      ∧ m' ((c.tc : Thread Cert.LastTailRefIdeal.nD Cert.LastTailRefIdeal.τ).loc Cert.LastTailRefIdeal.main_arg3) = m ((c.tc : Thread Cert.LastTailIdeal.nD Cert.LastTailIdeal.τ).loc Cert.LastTailIdeal.main_arg3)
      ∧ m' ((c.tc : Thread Cert.LastTailRefIdeal.nD Cert.LastTailRefIdeal.τ).loc Cert.LastTailRefIdeal.main_arg4) = m ((c.tc : Thread Cert.LastTailIdeal.nD Cert.LastTailIdeal.τ).loc Cert.LastTailIdeal.main_arg4)
      ∧ m' ((c.tc : Thread Cert.LastTailRefIdeal.nD Cert.LastTailRefIdeal.τ).loc Cert.LastTailRefIdeal.main_arg5) = m ((c.tc : Thread Cert.LastTailIdeal.nD Cert.LastTailIdeal.τ).loc Cert.LastTailIdeal.main_arg5)
      ∧ m' ((c.tc : Thread Cert.LastTailRefIdeal.nD Cert.LastTailRefIdeal.τ).loc Cert.LastTailRefIdeal.main_arg6) = m ((c.tc : Thread Cert.LastTailIdeal.nD Cert.LastTailIdeal.τ).loc Cert.LastTailIdeal.main_arg6)) →
    ∃ (v0 : (c : Dev Cert.LastTailIdeal.nD) → Buf (Elt Ideal) ((c.tc : Thread Cert.LastTailIdeal.nD Cert.LastTailIdeal.τ).loc Cert.LastTailIdeal.main_v3)),
      θ_run (Cert.LastTailIdeal.defs (F := Ideal)) (onTc (τ := Cert.LastTailIdeal.τ) (Cert.LastTailIdeal.main (F := Ideal))) ⟨m, fun _ => 0, g⟩ (fun r => ∀ c : Dev Cert.LastTailIdeal.nD,
          r.2.mem ((c.tc : Thread Cert.LastTailIdeal.nD Cert.LastTailIdeal.τ).loc Cert.LastTailIdeal.main_v3) = v0 c
          ∧ r.2.mem ((c.tc : Thread Cert.LastTailIdeal.nD Cert.LastTailIdeal.τ).loc Cert.LastTailIdeal.main_arg0) = m ((c.tc : Thread Cert.LastTailIdeal.nD Cert.LastTailIdeal.τ).loc Cert.LastTailIdeal.main_arg0)
          ∧ r.2.mem ((c.tc : Thread Cert.LastTailIdeal.nD Cert.LastTailIdeal.τ).loc Cert.LastTailIdeal.main_arg1) = m ((c.tc : Thread Cert.LastTailIdeal.nD Cert.LastTailIdeal.τ).loc Cert.LastTailIdeal.main_arg1)
          ∧ r.2.mem ((c.tc : Thread Cert.LastTailIdeal.nD Cert.LastTailIdeal.τ).loc Cert.LastTailIdeal.main_arg2) = m ((c.tc : Thread Cert.LastTailIdeal.nD Cert.LastTailIdeal.τ).loc Cert.LastTailIdeal.main_arg2)
          ∧ r.2.mem ((c.tc : Thread Cert.LastTailIdeal.nD Cert.LastTailIdeal.τ).loc Cert.LastTailIdeal.main_arg3) = m ((c.tc : Thread Cert.LastTailIdeal.nD Cert.LastTailIdeal.τ).loc Cert.LastTailIdeal.main_arg3)
          ∧ r.2.mem ((c.tc : Thread Cert.LastTailIdeal.nD Cert.LastTailIdeal.τ).loc Cert.LastTailIdeal.main_arg4) = m ((c.tc : Thread Cert.LastTailIdeal.nD Cert.LastTailIdeal.τ).loc Cert.LastTailIdeal.main_arg4)
          ∧ r.2.mem ((c.tc : Thread Cert.LastTailIdeal.nD Cert.LastTailIdeal.τ).loc Cert.LastTailIdeal.main_arg5) = m ((c.tc : Thread Cert.LastTailIdeal.nD Cert.LastTailIdeal.τ).loc Cert.LastTailIdeal.main_arg5)
          ∧ r.2.mem ((c.tc : Thread Cert.LastTailIdeal.nD Cert.LastTailIdeal.τ).loc Cert.LastTailIdeal.main_arg6) = m ((c.tc : Thread Cert.LastTailIdeal.nD Cert.LastTailIdeal.τ).loc Cert.LastTailIdeal.main_arg6))
      ∧ θ_run (Cert.LastTailRefIdeal.defs (F := Ideal)) (onTc (τ := Cert.LastTailRefIdeal.τ) (Cert.LastTailRefIdeal.main (F := Ideal))) ⟨m', fun _ => 0, g'⟩ (fun r => ∀ c : Dev Cert.LastTailRefIdeal.nD,
          r.2.mem ((c.tc : Thread Cert.LastTailRefIdeal.nD Cert.LastTailRefIdeal.τ).loc Cert.LastTailRefIdeal.main_v23) = v0 c
          ∧ r.2.mem ((c.tc : Thread Cert.LastTailRefIdeal.nD Cert.LastTailRefIdeal.τ).loc Cert.LastTailRefIdeal.main_arg0) = m' ((c.tc : Thread Cert.LastTailRefIdeal.nD Cert.LastTailRefIdeal.τ).loc Cert.LastTailRefIdeal.main_arg0)
          ∧ r.2.mem ((c.tc : Thread Cert.LastTailRefIdeal.nD Cert.LastTailRefIdeal.τ).loc Cert.LastTailRefIdeal.main_arg1) = m' ((c.tc : Thread Cert.LastTailRefIdeal.nD Cert.LastTailRefIdeal.τ).loc Cert.LastTailRefIdeal.main_arg1)
          ∧ r.2.mem ((c.tc : Thread Cert.LastTailRefIdeal.nD Cert.LastTailRefIdeal.τ).loc Cert.LastTailRefIdeal.main_arg2) = m' ((c.tc : Thread Cert.LastTailRefIdeal.nD Cert.LastTailRefIdeal.τ).loc Cert.LastTailRefIdeal.main_arg2)
          ∧ r.2.mem ((c.tc : Thread Cert.LastTailRefIdeal.nD Cert.LastTailRefIdeal.τ).loc Cert.LastTailRefIdeal.main_arg3) = m' ((c.tc : Thread Cert.LastTailRefIdeal.nD Cert.LastTailRefIdeal.τ).loc Cert.LastTailRefIdeal.main_arg3)
          ∧ r.2.mem ((c.tc : Thread Cert.LastTailRefIdeal.nD Cert.LastTailRefIdeal.τ).loc Cert.LastTailRefIdeal.main_arg4) = m' ((c.tc : Thread Cert.LastTailRefIdeal.nD Cert.LastTailRefIdeal.τ).loc Cert.LastTailRefIdeal.main_arg4)
          ∧ r.2.mem ((c.tc : Thread Cert.LastTailRefIdeal.nD Cert.LastTailRefIdeal.τ).loc Cert.LastTailRefIdeal.main_arg5) = m' ((c.tc : Thread Cert.LastTailRefIdeal.nD Cert.LastTailRefIdeal.τ).loc Cert.LastTailRefIdeal.main_arg5)
          ∧ r.2.mem ((c.tc : Thread Cert.LastTailRefIdeal.nD Cert.LastTailRefIdeal.τ).loc Cert.LastTailRefIdeal.main_arg6) = m' ((c.tc : Thread Cert.LastTailRefIdeal.nD Cert.LastTailRefIdeal.τ).loc Cert.LastTailRefIdeal.main_arg6))

def preserves_SharedTail_SharedTailIdeal : Prop :=
  IdealRules.named_const.Statement Cert.SharedTailIdeal.κ "query_factor" .f32 0x3E38AA3B#32 (((Real.sqrt 64)⁻¹ * (Real.log 2)⁻¹ : ℝ) : EReal)

def algebraic_SharedTailIdeal_SharedTailRefIdeal [hSharedTailIdeal : Cert.SharedTailIdeal.Facts] [hSharedTailRefIdeal : Cert.SharedTailRefIdeal.Facts] : Prop :=
  ∀ (m : (ℓ : Loc Cert.SharedTailIdeal.nD Cert.SharedTailIdeal.τ Cert.SharedTailIdeal.sig) → Buf (Elt Ideal) ℓ) (g : Dev Cert.SharedTailIdeal.nD → PrngReg)
    (m' : (ℓ : Loc Cert.SharedTailRefIdeal.nD Cert.SharedTailRefIdeal.τ Cert.SharedTailRefIdeal.sig) → Buf (Elt Ideal) ℓ) (g' : Dev Cert.SharedTailRefIdeal.nD → PrngReg), Pre_SharedTailIdeal m →
    (∀ c : Dev Cert.SharedTailIdeal.nD,
      m' ((c.tc : Thread Cert.SharedTailRefIdeal.nD Cert.SharedTailRefIdeal.τ).loc Cert.SharedTailRefIdeal.main_arg0) = m ((c.tc : Thread Cert.SharedTailIdeal.nD Cert.SharedTailIdeal.τ).loc Cert.SharedTailIdeal.main_arg0)
      ∧ m' ((c.tc : Thread Cert.SharedTailRefIdeal.nD Cert.SharedTailRefIdeal.τ).loc Cert.SharedTailRefIdeal.main_arg1) = m ((c.tc : Thread Cert.SharedTailIdeal.nD Cert.SharedTailIdeal.τ).loc Cert.SharedTailIdeal.main_arg1)
      ∧ m' ((c.tc : Thread Cert.SharedTailRefIdeal.nD Cert.SharedTailRefIdeal.τ).loc Cert.SharedTailRefIdeal.main_arg2) = m ((c.tc : Thread Cert.SharedTailIdeal.nD Cert.SharedTailIdeal.τ).loc Cert.SharedTailIdeal.main_arg2)
      ∧ m' ((c.tc : Thread Cert.SharedTailRefIdeal.nD Cert.SharedTailRefIdeal.τ).loc Cert.SharedTailRefIdeal.main_arg3) = m ((c.tc : Thread Cert.SharedTailIdeal.nD Cert.SharedTailIdeal.τ).loc Cert.SharedTailIdeal.main_arg3)
      ∧ m' ((c.tc : Thread Cert.SharedTailRefIdeal.nD Cert.SharedTailRefIdeal.τ).loc Cert.SharedTailRefIdeal.main_arg4) = m ((c.tc : Thread Cert.SharedTailIdeal.nD Cert.SharedTailIdeal.τ).loc Cert.SharedTailIdeal.main_arg4)
      ∧ m' ((c.tc : Thread Cert.SharedTailRefIdeal.nD Cert.SharedTailRefIdeal.τ).loc Cert.SharedTailRefIdeal.main_arg5) = m ((c.tc : Thread Cert.SharedTailIdeal.nD Cert.SharedTailIdeal.τ).loc Cert.SharedTailIdeal.main_arg5)
      ∧ m' ((c.tc : Thread Cert.SharedTailRefIdeal.nD Cert.SharedTailRefIdeal.τ).loc Cert.SharedTailRefIdeal.main_arg6) = m ((c.tc : Thread Cert.SharedTailIdeal.nD Cert.SharedTailIdeal.τ).loc Cert.SharedTailIdeal.main_arg6)
      ∧ m' ((c.tc : Thread Cert.SharedTailRefIdeal.nD Cert.SharedTailRefIdeal.τ).loc Cert.SharedTailRefIdeal.main_arg7) = m ((c.tc : Thread Cert.SharedTailIdeal.nD Cert.SharedTailIdeal.τ).loc Cert.SharedTailIdeal.main_arg7)
      ∧ m' ((c.tc : Thread Cert.SharedTailRefIdeal.nD Cert.SharedTailRefIdeal.τ).loc Cert.SharedTailRefIdeal.main_arg8) = m ((c.tc : Thread Cert.SharedTailIdeal.nD Cert.SharedTailIdeal.τ).loc Cert.SharedTailIdeal.main_arg8)
      ∧ m' ((c.tc : Thread Cert.SharedTailRefIdeal.nD Cert.SharedTailRefIdeal.τ).loc Cert.SharedTailRefIdeal.main_arg9) = m ((c.tc : Thread Cert.SharedTailIdeal.nD Cert.SharedTailIdeal.τ).loc Cert.SharedTailIdeal.main_arg9)
      ∧ m' ((c.tc : Thread Cert.SharedTailRefIdeal.nD Cert.SharedTailRefIdeal.τ).loc Cert.SharedTailRefIdeal.main_arg10) = m ((c.tc : Thread Cert.SharedTailIdeal.nD Cert.SharedTailIdeal.τ).loc Cert.SharedTailIdeal.main_arg10)) →
    ∃ (v0 : (c : Dev Cert.SharedTailIdeal.nD) → Buf (Elt Ideal) ((c.tc : Thread Cert.SharedTailIdeal.nD Cert.SharedTailIdeal.τ).loc Cert.SharedTailIdeal.main_v7_0)) (v1 : (c : Dev Cert.SharedTailIdeal.nD) → Buf (Elt Ideal) ((c.tc : Thread Cert.SharedTailIdeal.nD Cert.SharedTailIdeal.τ).loc Cert.SharedTailIdeal.main_v7_1)) (v2 : (c : Dev Cert.SharedTailIdeal.nD) → Buf (Elt Ideal) ((c.tc : Thread Cert.SharedTailIdeal.nD Cert.SharedTailIdeal.τ).loc Cert.SharedTailIdeal.main_v7_2)) (v3 : (c : Dev Cert.SharedTailIdeal.nD) → Buf (Elt Ideal) ((c.tc : Thread Cert.SharedTailIdeal.nD Cert.SharedTailIdeal.τ).loc Cert.SharedTailIdeal.main_v7_3)) (v4 : (c : Dev Cert.SharedTailIdeal.nD) → Buf (Elt Ideal) ((c.tc : Thread Cert.SharedTailIdeal.nD Cert.SharedTailIdeal.τ).loc Cert.SharedTailIdeal.main_v7_4)),
      θ_run (Cert.SharedTailIdeal.defs (F := Ideal)) (onTc (τ := Cert.SharedTailIdeal.τ) (Cert.SharedTailIdeal.main (F := Ideal))) ⟨m, fun _ => 0, g⟩ (fun r => ∀ c : Dev Cert.SharedTailIdeal.nD,
          r.2.mem ((c.tc : Thread Cert.SharedTailIdeal.nD Cert.SharedTailIdeal.τ).loc Cert.SharedTailIdeal.main_v7_0) = v0 c
          ∧ r.2.mem ((c.tc : Thread Cert.SharedTailIdeal.nD Cert.SharedTailIdeal.τ).loc Cert.SharedTailIdeal.main_v7_1) = v1 c
          ∧ r.2.mem ((c.tc : Thread Cert.SharedTailIdeal.nD Cert.SharedTailIdeal.τ).loc Cert.SharedTailIdeal.main_v7_2) = v2 c
          ∧ r.2.mem ((c.tc : Thread Cert.SharedTailIdeal.nD Cert.SharedTailIdeal.τ).loc Cert.SharedTailIdeal.main_v7_3) = v3 c
          ∧ r.2.mem ((c.tc : Thread Cert.SharedTailIdeal.nD Cert.SharedTailIdeal.τ).loc Cert.SharedTailIdeal.main_v7_4) = v4 c
          ∧ r.2.mem ((c.tc : Thread Cert.SharedTailIdeal.nD Cert.SharedTailIdeal.τ).loc Cert.SharedTailIdeal.main_arg0) = m ((c.tc : Thread Cert.SharedTailIdeal.nD Cert.SharedTailIdeal.τ).loc Cert.SharedTailIdeal.main_arg0)
          ∧ r.2.mem ((c.tc : Thread Cert.SharedTailIdeal.nD Cert.SharedTailIdeal.τ).loc Cert.SharedTailIdeal.main_arg1) = m ((c.tc : Thread Cert.SharedTailIdeal.nD Cert.SharedTailIdeal.τ).loc Cert.SharedTailIdeal.main_arg1)
          ∧ r.2.mem ((c.tc : Thread Cert.SharedTailIdeal.nD Cert.SharedTailIdeal.τ).loc Cert.SharedTailIdeal.main_arg2) = m ((c.tc : Thread Cert.SharedTailIdeal.nD Cert.SharedTailIdeal.τ).loc Cert.SharedTailIdeal.main_arg2)
          ∧ r.2.mem ((c.tc : Thread Cert.SharedTailIdeal.nD Cert.SharedTailIdeal.τ).loc Cert.SharedTailIdeal.main_arg3) = m ((c.tc : Thread Cert.SharedTailIdeal.nD Cert.SharedTailIdeal.τ).loc Cert.SharedTailIdeal.main_arg3)
          ∧ r.2.mem ((c.tc : Thread Cert.SharedTailIdeal.nD Cert.SharedTailIdeal.τ).loc Cert.SharedTailIdeal.main_arg4) = m ((c.tc : Thread Cert.SharedTailIdeal.nD Cert.SharedTailIdeal.τ).loc Cert.SharedTailIdeal.main_arg4)
          ∧ r.2.mem ((c.tc : Thread Cert.SharedTailIdeal.nD Cert.SharedTailIdeal.τ).loc Cert.SharedTailIdeal.main_arg5) = m ((c.tc : Thread Cert.SharedTailIdeal.nD Cert.SharedTailIdeal.τ).loc Cert.SharedTailIdeal.main_arg5)
          ∧ r.2.mem ((c.tc : Thread Cert.SharedTailIdeal.nD Cert.SharedTailIdeal.τ).loc Cert.SharedTailIdeal.main_arg6) = m ((c.tc : Thread Cert.SharedTailIdeal.nD Cert.SharedTailIdeal.τ).loc Cert.SharedTailIdeal.main_arg6)
          ∧ r.2.mem ((c.tc : Thread Cert.SharedTailIdeal.nD Cert.SharedTailIdeal.τ).loc Cert.SharedTailIdeal.main_arg7) = m ((c.tc : Thread Cert.SharedTailIdeal.nD Cert.SharedTailIdeal.τ).loc Cert.SharedTailIdeal.main_arg7)
          ∧ r.2.mem ((c.tc : Thread Cert.SharedTailIdeal.nD Cert.SharedTailIdeal.τ).loc Cert.SharedTailIdeal.main_arg8) = m ((c.tc : Thread Cert.SharedTailIdeal.nD Cert.SharedTailIdeal.τ).loc Cert.SharedTailIdeal.main_arg8)
          ∧ r.2.mem ((c.tc : Thread Cert.SharedTailIdeal.nD Cert.SharedTailIdeal.τ).loc Cert.SharedTailIdeal.main_arg9) = m ((c.tc : Thread Cert.SharedTailIdeal.nD Cert.SharedTailIdeal.τ).loc Cert.SharedTailIdeal.main_arg9)
          ∧ r.2.mem ((c.tc : Thread Cert.SharedTailIdeal.nD Cert.SharedTailIdeal.τ).loc Cert.SharedTailIdeal.main_arg10) = m ((c.tc : Thread Cert.SharedTailIdeal.nD Cert.SharedTailIdeal.τ).loc Cert.SharedTailIdeal.main_arg10))
      ∧ θ_run (Cert.SharedTailRefIdeal.defs (F := Ideal)) (onTc (τ := Cert.SharedTailRefIdeal.τ) (Cert.SharedTailRefIdeal.main (F := Ideal))) ⟨m', fun _ => 0, g'⟩ (fun r => ∀ c : Dev Cert.SharedTailRefIdeal.nD,
          r.2.mem ((c.tc : Thread Cert.SharedTailRefIdeal.nD Cert.SharedTailRefIdeal.τ).loc Cert.SharedTailRefIdeal.main_v23) = v0 c
          ∧ r.2.mem ((c.tc : Thread Cert.SharedTailRefIdeal.nD Cert.SharedTailRefIdeal.τ).loc Cert.SharedTailRefIdeal.main_v62) = v1 c
          ∧ r.2.mem ((c.tc : Thread Cert.SharedTailRefIdeal.nD Cert.SharedTailRefIdeal.τ).loc Cert.SharedTailRefIdeal.main_v64) = v2 c
          ∧ r.2.mem ((c.tc : Thread Cert.SharedTailRefIdeal.nD Cert.SharedTailRefIdeal.τ).loc Cert.SharedTailRefIdeal.main_v65) = v3 c
          ∧ r.2.mem ((c.tc : Thread Cert.SharedTailRefIdeal.nD Cert.SharedTailRefIdeal.τ).loc Cert.SharedTailRefIdeal.main_v66) = v4 c
          ∧ r.2.mem ((c.tc : Thread Cert.SharedTailRefIdeal.nD Cert.SharedTailRefIdeal.τ).loc Cert.SharedTailRefIdeal.main_arg0) = m' ((c.tc : Thread Cert.SharedTailRefIdeal.nD Cert.SharedTailRefIdeal.τ).loc Cert.SharedTailRefIdeal.main_arg0)
          ∧ r.2.mem ((c.tc : Thread Cert.SharedTailRefIdeal.nD Cert.SharedTailRefIdeal.τ).loc Cert.SharedTailRefIdeal.main_arg1) = m' ((c.tc : Thread Cert.SharedTailRefIdeal.nD Cert.SharedTailRefIdeal.τ).loc Cert.SharedTailRefIdeal.main_arg1)
          ∧ r.2.mem ((c.tc : Thread Cert.SharedTailRefIdeal.nD Cert.SharedTailRefIdeal.τ).loc Cert.SharedTailRefIdeal.main_arg2) = m' ((c.tc : Thread Cert.SharedTailRefIdeal.nD Cert.SharedTailRefIdeal.τ).loc Cert.SharedTailRefIdeal.main_arg2)
          ∧ r.2.mem ((c.tc : Thread Cert.SharedTailRefIdeal.nD Cert.SharedTailRefIdeal.τ).loc Cert.SharedTailRefIdeal.main_arg3) = m' ((c.tc : Thread Cert.SharedTailRefIdeal.nD Cert.SharedTailRefIdeal.τ).loc Cert.SharedTailRefIdeal.main_arg3)
          ∧ r.2.mem ((c.tc : Thread Cert.SharedTailRefIdeal.nD Cert.SharedTailRefIdeal.τ).loc Cert.SharedTailRefIdeal.main_arg4) = m' ((c.tc : Thread Cert.SharedTailRefIdeal.nD Cert.SharedTailRefIdeal.τ).loc Cert.SharedTailRefIdeal.main_arg4)
          ∧ r.2.mem ((c.tc : Thread Cert.SharedTailRefIdeal.nD Cert.SharedTailRefIdeal.τ).loc Cert.SharedTailRefIdeal.main_arg5) = m' ((c.tc : Thread Cert.SharedTailRefIdeal.nD Cert.SharedTailRefIdeal.τ).loc Cert.SharedTailRefIdeal.main_arg5)
          ∧ r.2.mem ((c.tc : Thread Cert.SharedTailRefIdeal.nD Cert.SharedTailRefIdeal.τ).loc Cert.SharedTailRefIdeal.main_arg6) = m' ((c.tc : Thread Cert.SharedTailRefIdeal.nD Cert.SharedTailRefIdeal.τ).loc Cert.SharedTailRefIdeal.main_arg6)
          ∧ r.2.mem ((c.tc : Thread Cert.SharedTailRefIdeal.nD Cert.SharedTailRefIdeal.τ).loc Cert.SharedTailRefIdeal.main_arg7) = m' ((c.tc : Thread Cert.SharedTailRefIdeal.nD Cert.SharedTailRefIdeal.τ).loc Cert.SharedTailRefIdeal.main_arg7)
          ∧ r.2.mem ((c.tc : Thread Cert.SharedTailRefIdeal.nD Cert.SharedTailRefIdeal.τ).loc Cert.SharedTailRefIdeal.main_arg8) = m' ((c.tc : Thread Cert.SharedTailRefIdeal.nD Cert.SharedTailRefIdeal.τ).loc Cert.SharedTailRefIdeal.main_arg8)
          ∧ r.2.mem ((c.tc : Thread Cert.SharedTailRefIdeal.nD Cert.SharedTailRefIdeal.τ).loc Cert.SharedTailRefIdeal.main_arg9) = m' ((c.tc : Thread Cert.SharedTailRefIdeal.nD Cert.SharedTailRefIdeal.τ).loc Cert.SharedTailRefIdeal.main_arg9)
          ∧ r.2.mem ((c.tc : Thread Cert.SharedTailRefIdeal.nD Cert.SharedTailRefIdeal.τ).loc Cert.SharedTailRefIdeal.main_arg10) = m' ((c.tc : Thread Cert.SharedTailRefIdeal.nD Cert.SharedTailRefIdeal.τ).loc Cert.SharedTailRefIdeal.main_arg10))

def preserves_NextTail_NextTailIdeal : Prop :=
  IdealRules.named_const.Statement Cert.NextTailIdeal.κ "query_factor" .f32 0x3E38AA3B#32 (((Real.sqrt 64)⁻¹ * (Real.log 2)⁻¹ : ℝ) : EReal)

def algebraic_NextTailIdeal_NextTailRefIdeal [hNextTailIdeal : Cert.NextTailIdeal.Facts] [hNextTailRefIdeal : Cert.NextTailRefIdeal.Facts] : Prop :=
  ∀ (m : (ℓ : Loc Cert.NextTailIdeal.nD Cert.NextTailIdeal.τ Cert.NextTailIdeal.sig) → Buf (Elt Ideal) ℓ) (g : Dev Cert.NextTailIdeal.nD → PrngReg)
    (m' : (ℓ : Loc Cert.NextTailRefIdeal.nD Cert.NextTailRefIdeal.τ Cert.NextTailRefIdeal.sig) → Buf (Elt Ideal) ℓ) (g' : Dev Cert.NextTailRefIdeal.nD → PrngReg), Pre_NextTailIdeal m →
    (∀ c : Dev Cert.NextTailIdeal.nD,
      m' ((c.tc : Thread Cert.NextTailRefIdeal.nD Cert.NextTailRefIdeal.τ).loc Cert.NextTailRefIdeal.main_arg0) = m ((c.tc : Thread Cert.NextTailIdeal.nD Cert.NextTailIdeal.τ).loc Cert.NextTailIdeal.main_arg0)
      ∧ m' ((c.tc : Thread Cert.NextTailRefIdeal.nD Cert.NextTailRefIdeal.τ).loc Cert.NextTailRefIdeal.main_arg1) = m ((c.tc : Thread Cert.NextTailIdeal.nD Cert.NextTailIdeal.τ).loc Cert.NextTailIdeal.main_arg1)
      ∧ m' ((c.tc : Thread Cert.NextTailRefIdeal.nD Cert.NextTailRefIdeal.τ).loc Cert.NextTailRefIdeal.main_arg2) = m ((c.tc : Thread Cert.NextTailIdeal.nD Cert.NextTailIdeal.τ).loc Cert.NextTailIdeal.main_arg2)
      ∧ m' ((c.tc : Thread Cert.NextTailRefIdeal.nD Cert.NextTailRefIdeal.τ).loc Cert.NextTailRefIdeal.main_arg3) = m ((c.tc : Thread Cert.NextTailIdeal.nD Cert.NextTailIdeal.τ).loc Cert.NextTailIdeal.main_arg3)
      ∧ m' ((c.tc : Thread Cert.NextTailRefIdeal.nD Cert.NextTailRefIdeal.τ).loc Cert.NextTailRefIdeal.main_arg4) = m ((c.tc : Thread Cert.NextTailIdeal.nD Cert.NextTailIdeal.τ).loc Cert.NextTailIdeal.main_arg4)
      ∧ m' ((c.tc : Thread Cert.NextTailRefIdeal.nD Cert.NextTailRefIdeal.τ).loc Cert.NextTailRefIdeal.main_arg5) = m ((c.tc : Thread Cert.NextTailIdeal.nD Cert.NextTailIdeal.τ).loc Cert.NextTailIdeal.main_arg5)
      ∧ m' ((c.tc : Thread Cert.NextTailRefIdeal.nD Cert.NextTailRefIdeal.τ).loc Cert.NextTailRefIdeal.main_arg6) = m ((c.tc : Thread Cert.NextTailIdeal.nD Cert.NextTailIdeal.τ).loc Cert.NextTailIdeal.main_arg6)
      ∧ m' ((c.tc : Thread Cert.NextTailRefIdeal.nD Cert.NextTailRefIdeal.τ).loc Cert.NextTailRefIdeal.main_arg7) = m ((c.tc : Thread Cert.NextTailIdeal.nD Cert.NextTailIdeal.τ).loc Cert.NextTailIdeal.main_arg7)
      ∧ m' ((c.tc : Thread Cert.NextTailRefIdeal.nD Cert.NextTailRefIdeal.τ).loc Cert.NextTailRefIdeal.main_arg8) = m ((c.tc : Thread Cert.NextTailIdeal.nD Cert.NextTailIdeal.τ).loc Cert.NextTailIdeal.main_arg8)) →
    ∃ (v0 : (c : Dev Cert.NextTailIdeal.nD) → Buf (Elt Ideal) ((c.tc : Thread Cert.NextTailIdeal.nD Cert.NextTailIdeal.τ).loc Cert.NextTailIdeal.main_v5_0)) (v1 : (c : Dev Cert.NextTailIdeal.nD) → Buf (Elt Ideal) ((c.tc : Thread Cert.NextTailIdeal.nD Cert.NextTailIdeal.τ).loc Cert.NextTailIdeal.main_v5_1)) (v2 : (c : Dev Cert.NextTailIdeal.nD) → Buf (Elt Ideal) ((c.tc : Thread Cert.NextTailIdeal.nD Cert.NextTailIdeal.τ).loc Cert.NextTailIdeal.main_v5_2)),
      θ_run (Cert.NextTailIdeal.defs (F := Ideal)) (onTc (τ := Cert.NextTailIdeal.τ) (Cert.NextTailIdeal.main (F := Ideal))) ⟨m, fun _ => 0, g⟩ (fun r => ∀ c : Dev Cert.NextTailIdeal.nD,
          r.2.mem ((c.tc : Thread Cert.NextTailIdeal.nD Cert.NextTailIdeal.τ).loc Cert.NextTailIdeal.main_v5_0) = v0 c
          ∧ r.2.mem ((c.tc : Thread Cert.NextTailIdeal.nD Cert.NextTailIdeal.τ).loc Cert.NextTailIdeal.main_v5_1) = v1 c
          ∧ r.2.mem ((c.tc : Thread Cert.NextTailIdeal.nD Cert.NextTailIdeal.τ).loc Cert.NextTailIdeal.main_v5_2) = v2 c
          ∧ r.2.mem ((c.tc : Thread Cert.NextTailIdeal.nD Cert.NextTailIdeal.τ).loc Cert.NextTailIdeal.main_arg0) = m ((c.tc : Thread Cert.NextTailIdeal.nD Cert.NextTailIdeal.τ).loc Cert.NextTailIdeal.main_arg0)
          ∧ r.2.mem ((c.tc : Thread Cert.NextTailIdeal.nD Cert.NextTailIdeal.τ).loc Cert.NextTailIdeal.main_arg1) = m ((c.tc : Thread Cert.NextTailIdeal.nD Cert.NextTailIdeal.τ).loc Cert.NextTailIdeal.main_arg1)
          ∧ r.2.mem ((c.tc : Thread Cert.NextTailIdeal.nD Cert.NextTailIdeal.τ).loc Cert.NextTailIdeal.main_arg2) = m ((c.tc : Thread Cert.NextTailIdeal.nD Cert.NextTailIdeal.τ).loc Cert.NextTailIdeal.main_arg2)
          ∧ r.2.mem ((c.tc : Thread Cert.NextTailIdeal.nD Cert.NextTailIdeal.τ).loc Cert.NextTailIdeal.main_arg3) = m ((c.tc : Thread Cert.NextTailIdeal.nD Cert.NextTailIdeal.τ).loc Cert.NextTailIdeal.main_arg3)
          ∧ r.2.mem ((c.tc : Thread Cert.NextTailIdeal.nD Cert.NextTailIdeal.τ).loc Cert.NextTailIdeal.main_arg4) = m ((c.tc : Thread Cert.NextTailIdeal.nD Cert.NextTailIdeal.τ).loc Cert.NextTailIdeal.main_arg4)
          ∧ r.2.mem ((c.tc : Thread Cert.NextTailIdeal.nD Cert.NextTailIdeal.τ).loc Cert.NextTailIdeal.main_arg5) = m ((c.tc : Thread Cert.NextTailIdeal.nD Cert.NextTailIdeal.τ).loc Cert.NextTailIdeal.main_arg5)
          ∧ r.2.mem ((c.tc : Thread Cert.NextTailIdeal.nD Cert.NextTailIdeal.τ).loc Cert.NextTailIdeal.main_arg6) = m ((c.tc : Thread Cert.NextTailIdeal.nD Cert.NextTailIdeal.τ).loc Cert.NextTailIdeal.main_arg6)
          ∧ r.2.mem ((c.tc : Thread Cert.NextTailIdeal.nD Cert.NextTailIdeal.τ).loc Cert.NextTailIdeal.main_arg7) = m ((c.tc : Thread Cert.NextTailIdeal.nD Cert.NextTailIdeal.τ).loc Cert.NextTailIdeal.main_arg7)
          ∧ r.2.mem ((c.tc : Thread Cert.NextTailIdeal.nD Cert.NextTailIdeal.τ).loc Cert.NextTailIdeal.main_arg8) = m ((c.tc : Thread Cert.NextTailIdeal.nD Cert.NextTailIdeal.τ).loc Cert.NextTailIdeal.main_arg8))
      ∧ θ_run (Cert.NextTailRefIdeal.defs (F := Ideal)) (onTc (τ := Cert.NextTailRefIdeal.τ) (Cert.NextTailRefIdeal.main (F := Ideal))) ⟨m', fun _ => 0, g'⟩ (fun r => ∀ c : Dev Cert.NextTailRefIdeal.nD,
          r.2.mem ((c.tc : Thread Cert.NextTailRefIdeal.nD Cert.NextTailRefIdeal.τ).loc Cert.NextTailRefIdeal.main_v23) = v0 c
          ∧ r.2.mem ((c.tc : Thread Cert.NextTailRefIdeal.nD Cert.NextTailRefIdeal.τ).loc Cert.NextTailRefIdeal.main_v47) = v1 c
          ∧ r.2.mem ((c.tc : Thread Cert.NextTailRefIdeal.nD Cert.NextTailRefIdeal.τ).loc Cert.NextTailRefIdeal.main_v48) = v2 c
          ∧ r.2.mem ((c.tc : Thread Cert.NextTailRefIdeal.nD Cert.NextTailRefIdeal.τ).loc Cert.NextTailRefIdeal.main_arg0) = m' ((c.tc : Thread Cert.NextTailRefIdeal.nD Cert.NextTailRefIdeal.τ).loc Cert.NextTailRefIdeal.main_arg0)
          ∧ r.2.mem ((c.tc : Thread Cert.NextTailRefIdeal.nD Cert.NextTailRefIdeal.τ).loc Cert.NextTailRefIdeal.main_arg1) = m' ((c.tc : Thread Cert.NextTailRefIdeal.nD Cert.NextTailRefIdeal.τ).loc Cert.NextTailRefIdeal.main_arg1)
          ∧ r.2.mem ((c.tc : Thread Cert.NextTailRefIdeal.nD Cert.NextTailRefIdeal.τ).loc Cert.NextTailRefIdeal.main_arg2) = m' ((c.tc : Thread Cert.NextTailRefIdeal.nD Cert.NextTailRefIdeal.τ).loc Cert.NextTailRefIdeal.main_arg2)
          ∧ r.2.mem ((c.tc : Thread Cert.NextTailRefIdeal.nD Cert.NextTailRefIdeal.τ).loc Cert.NextTailRefIdeal.main_arg3) = m' ((c.tc : Thread Cert.NextTailRefIdeal.nD Cert.NextTailRefIdeal.τ).loc Cert.NextTailRefIdeal.main_arg3)
          ∧ r.2.mem ((c.tc : Thread Cert.NextTailRefIdeal.nD Cert.NextTailRefIdeal.τ).loc Cert.NextTailRefIdeal.main_arg4) = m' ((c.tc : Thread Cert.NextTailRefIdeal.nD Cert.NextTailRefIdeal.τ).loc Cert.NextTailRefIdeal.main_arg4)
          ∧ r.2.mem ((c.tc : Thread Cert.NextTailRefIdeal.nD Cert.NextTailRefIdeal.τ).loc Cert.NextTailRefIdeal.main_arg5) = m' ((c.tc : Thread Cert.NextTailRefIdeal.nD Cert.NextTailRefIdeal.τ).loc Cert.NextTailRefIdeal.main_arg5)
          ∧ r.2.mem ((c.tc : Thread Cert.NextTailRefIdeal.nD Cert.NextTailRefIdeal.τ).loc Cert.NextTailRefIdeal.main_arg6) = m' ((c.tc : Thread Cert.NextTailRefIdeal.nD Cert.NextTailRefIdeal.τ).loc Cert.NextTailRefIdeal.main_arg6)
          ∧ r.2.mem ((c.tc : Thread Cert.NextTailRefIdeal.nD Cert.NextTailRefIdeal.τ).loc Cert.NextTailRefIdeal.main_arg7) = m' ((c.tc : Thread Cert.NextTailRefIdeal.nD Cert.NextTailRefIdeal.τ).loc Cert.NextTailRefIdeal.main_arg7)
          ∧ r.2.mem ((c.tc : Thread Cert.NextTailRefIdeal.nD Cert.NextTailRefIdeal.τ).loc Cert.NextTailRefIdeal.main_arg8) = m' ((c.tc : Thread Cert.NextTailRefIdeal.nD Cert.NextTailRefIdeal.τ).loc Cert.NextTailRefIdeal.main_arg8))

def preserves_Front_FrontIdeal : Prop :=
  IdealRules.named_const.Statement Cert.FrontIdeal.κ "head_eps" .f32 0x38C9539C#32 ((26388279 / 274877906944 : ℝ) : EReal)

def algebraic_FrontIdeal_FrontRefIdeal [hFrontIdeal : Cert.FrontIdeal.Facts] [hFrontRefIdeal : Cert.FrontRefIdeal.Facts] : Prop :=
  ∀ (m : (ℓ : Loc Cert.FrontIdeal.nD Cert.FrontIdeal.τ Cert.FrontIdeal.sig) → Buf (Elt Ideal) ℓ) (g : Dev Cert.FrontIdeal.nD → PrngReg)
    (m' : (ℓ : Loc Cert.FrontRefIdeal.nD Cert.FrontRefIdeal.τ Cert.FrontRefIdeal.sig) → Buf (Elt Ideal) ℓ) (g' : Dev Cert.FrontRefIdeal.nD → PrngReg), Pre_FrontIdeal m →
    (∀ c : Dev Cert.FrontIdeal.nD,
      m' ((c.tc : Thread Cert.FrontRefIdeal.nD Cert.FrontRefIdeal.τ).loc Cert.FrontRefIdeal.main_arg0) = m ((c.tc : Thread Cert.FrontIdeal.nD Cert.FrontIdeal.τ).loc Cert.FrontIdeal.main_arg0)
      ∧ m' ((c.tc : Thread Cert.FrontRefIdeal.nD Cert.FrontRefIdeal.τ).loc Cert.FrontRefIdeal.main_arg1) = m ((c.tc : Thread Cert.FrontIdeal.nD Cert.FrontIdeal.τ).loc Cert.FrontIdeal.main_arg1)
      ∧ m' ((c.tc : Thread Cert.FrontRefIdeal.nD Cert.FrontRefIdeal.τ).loc Cert.FrontRefIdeal.main_arg2) = m ((c.tc : Thread Cert.FrontIdeal.nD Cert.FrontIdeal.τ).loc Cert.FrontIdeal.main_arg2)
      ∧ m' ((c.tc : Thread Cert.FrontRefIdeal.nD Cert.FrontRefIdeal.τ).loc Cert.FrontRefIdeal.main_arg3) = m ((c.tc : Thread Cert.FrontIdeal.nD Cert.FrontIdeal.τ).loc Cert.FrontIdeal.main_arg3)
      ∧ m' ((c.tc : Thread Cert.FrontRefIdeal.nD Cert.FrontRefIdeal.τ).loc Cert.FrontRefIdeal.main_arg4) = m ((c.tc : Thread Cert.FrontIdeal.nD Cert.FrontIdeal.τ).loc Cert.FrontIdeal.main_arg4)
      ∧ m' ((c.tc : Thread Cert.FrontRefIdeal.nD Cert.FrontRefIdeal.τ).loc Cert.FrontRefIdeal.main_arg5) = m ((c.tc : Thread Cert.FrontIdeal.nD Cert.FrontIdeal.τ).loc Cert.FrontIdeal.main_arg5)
      ∧ m' ((c.tc : Thread Cert.FrontRefIdeal.nD Cert.FrontRefIdeal.τ).loc Cert.FrontRefIdeal.main_arg6) = m ((c.tc : Thread Cert.FrontIdeal.nD Cert.FrontIdeal.τ).loc Cert.FrontIdeal.main_arg6)
      ∧ m' ((c.tc : Thread Cert.FrontRefIdeal.nD Cert.FrontRefIdeal.τ).loc Cert.FrontRefIdeal.main_arg7) = m ((c.tc : Thread Cert.FrontIdeal.nD Cert.FrontIdeal.τ).loc Cert.FrontIdeal.main_arg7)
      ∧ m' ((c.tc : Thread Cert.FrontRefIdeal.nD Cert.FrontRefIdeal.τ).loc Cert.FrontRefIdeal.main_arg8) = m ((c.tc : Thread Cert.FrontIdeal.nD Cert.FrontIdeal.τ).loc Cert.FrontIdeal.main_arg8)
      ∧ m' ((c.tc : Thread Cert.FrontRefIdeal.nD Cert.FrontRefIdeal.τ).loc Cert.FrontRefIdeal.main_arg9) = m ((c.tc : Thread Cert.FrontIdeal.nD Cert.FrontIdeal.τ).loc Cert.FrontIdeal.main_arg9)) →
    ∃ (v0 : (c : Dev Cert.FrontIdeal.nD) → Buf (Elt Ideal) ((c.tc : Thread Cert.FrontIdeal.nD Cert.FrontIdeal.τ).loc Cert.FrontIdeal.main_v103_0)) (v1 : (c : Dev Cert.FrontIdeal.nD) → Buf (Elt Ideal) ((c.tc : Thread Cert.FrontIdeal.nD Cert.FrontIdeal.τ).loc Cert.FrontIdeal.main_v103_1)) (v2 : (c : Dev Cert.FrontIdeal.nD) → Buf (Elt Ideal) ((c.tc : Thread Cert.FrontIdeal.nD Cert.FrontIdeal.τ).loc Cert.FrontIdeal.main_v103_2)) (v3 : (c : Dev Cert.FrontIdeal.nD) → Buf (Elt Ideal) ((c.tc : Thread Cert.FrontIdeal.nD Cert.FrontIdeal.τ).loc Cert.FrontIdeal.main_v103_3)),
      θ_run (Cert.FrontIdeal.defs (F := Ideal)) (onTc (τ := Cert.FrontIdeal.τ) (Cert.FrontIdeal.main (F := Ideal))) ⟨m, fun _ => 0, g⟩ (fun r => ∀ c : Dev Cert.FrontIdeal.nD,
          r.2.mem ((c.tc : Thread Cert.FrontIdeal.nD Cert.FrontIdeal.τ).loc Cert.FrontIdeal.main_v103_0) = v0 c
          ∧ r.2.mem ((c.tc : Thread Cert.FrontIdeal.nD Cert.FrontIdeal.τ).loc Cert.FrontIdeal.main_v103_1) = v1 c
          ∧ r.2.mem ((c.tc : Thread Cert.FrontIdeal.nD Cert.FrontIdeal.τ).loc Cert.FrontIdeal.main_v103_2) = v2 c
          ∧ r.2.mem ((c.tc : Thread Cert.FrontIdeal.nD Cert.FrontIdeal.τ).loc Cert.FrontIdeal.main_v103_3) = v3 c
          ∧ r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
          ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
          ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
          ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
          ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
          ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
          ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
          ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7)
          ∧ r.2.mem ((c.tc : Thread Cert.FrontIdeal.nD Cert.FrontIdeal.τ).loc Cert.FrontIdeal.main_arg8) = m ((c.tc : Thread Cert.FrontIdeal.nD Cert.FrontIdeal.τ).loc Cert.FrontIdeal.main_arg8)
          ∧ r.2.mem ((c.tc : Thread Cert.FrontIdeal.nD Cert.FrontIdeal.τ).loc Cert.FrontIdeal.main_arg9) = m ((c.tc : Thread Cert.FrontIdeal.nD Cert.FrontIdeal.τ).loc Cert.FrontIdeal.main_arg9))
      ∧ θ_run (Cert.FrontRefIdeal.defs (F := Ideal)) (onTc (τ := Cert.FrontRefIdeal.τ) (Cert.FrontRefIdeal.main (F := Ideal))) ⟨m', fun _ => 0, g'⟩ (fun r => ∀ c : Dev Cert.FrontRefIdeal.nD,
          r.2.mem ((c.tc : Thread Cert.FrontRefIdeal.nD Cert.FrontRefIdeal.τ).loc Cert.FrontRefIdeal.main_v164) = v0 c
          ∧ r.2.mem ((c.tc : Thread Cert.FrontRefIdeal.nD Cert.FrontRefIdeal.τ).loc Cert.FrontRefIdeal.main_v166) = v1 c
          ∧ r.2.mem ((c.tc : Thread Cert.FrontRefIdeal.nD Cert.FrontRefIdeal.τ).loc Cert.FrontRefIdeal.main_v168) = v2 c
          ∧ r.2.mem ((c.tc : Thread Cert.FrontRefIdeal.nD Cert.FrontRefIdeal.τ).loc Cert.FrontRefIdeal.main_v169) = v3 c
          ∧ r.2.mem ((c.tc : Thread Cert.FrontRefIdeal.nD Cert.FrontRefIdeal.τ).loc Cert.FrontRefIdeal.main_arg0) = m' ((c.tc : Thread Cert.FrontRefIdeal.nD Cert.FrontRefIdeal.τ).loc Cert.FrontRefIdeal.main_arg0)
          ∧ r.2.mem ((c.tc : Thread Cert.FrontRefIdeal.nD Cert.FrontRefIdeal.τ).loc Cert.FrontRefIdeal.main_arg1) = m' ((c.tc : Thread Cert.FrontRefIdeal.nD Cert.FrontRefIdeal.τ).loc Cert.FrontRefIdeal.main_arg1)
          ∧ r.2.mem ((c.tc : Thread Cert.FrontRefIdeal.nD Cert.FrontRefIdeal.τ).loc Cert.FrontRefIdeal.main_arg2) = m' ((c.tc : Thread Cert.FrontRefIdeal.nD Cert.FrontRefIdeal.τ).loc Cert.FrontRefIdeal.main_arg2)
          ∧ r.2.mem ((c.tc : Thread Cert.FrontRefIdeal.nD Cert.FrontRefIdeal.τ).loc Cert.FrontRefIdeal.main_arg3) = m' ((c.tc : Thread Cert.FrontRefIdeal.nD Cert.FrontRefIdeal.τ).loc Cert.FrontRefIdeal.main_arg3)
          ∧ r.2.mem ((c.tc : Thread Cert.FrontRefIdeal.nD Cert.FrontRefIdeal.τ).loc Cert.FrontRefIdeal.main_arg4) = m' ((c.tc : Thread Cert.FrontRefIdeal.nD Cert.FrontRefIdeal.τ).loc Cert.FrontRefIdeal.main_arg4)
          ∧ r.2.mem ((c.tc : Thread Cert.FrontRefIdeal.nD Cert.FrontRefIdeal.τ).loc Cert.FrontRefIdeal.main_arg5) = m' ((c.tc : Thread Cert.FrontRefIdeal.nD Cert.FrontRefIdeal.τ).loc Cert.FrontRefIdeal.main_arg5)
          ∧ r.2.mem ((c.tc : Thread Cert.FrontRefIdeal.nD Cert.FrontRefIdeal.τ).loc Cert.FrontRefIdeal.main_arg6) = m' ((c.tc : Thread Cert.FrontRefIdeal.nD Cert.FrontRefIdeal.τ).loc Cert.FrontRefIdeal.main_arg6)
          ∧ r.2.mem ((c.tc : Thread Cert.FrontRefIdeal.nD Cert.FrontRefIdeal.τ).loc Cert.FrontRefIdeal.main_arg7) = m' ((c.tc : Thread Cert.FrontRefIdeal.nD Cert.FrontRefIdeal.τ).loc Cert.FrontRefIdeal.main_arg7)
          ∧ r.2.mem ((c.tc : Thread Cert.FrontRefIdeal.nD Cert.FrontRefIdeal.τ).loc Cert.FrontRefIdeal.main_arg8) = m' ((c.tc : Thread Cert.FrontRefIdeal.nD Cert.FrontRefIdeal.τ).loc Cert.FrontRefIdeal.main_arg8)
          ∧ r.2.mem ((c.tc : Thread Cert.FrontRefIdeal.nD Cert.FrontRefIdeal.τ).loc Cert.FrontRefIdeal.main_arg9) = m' ((c.tc : Thread Cert.FrontRefIdeal.nD Cert.FrontRefIdeal.τ).loc Cert.FrontRefIdeal.main_arg9))

def Claim : Prop :=
  ∃ (hAttention : Cert.Attention.Facts) (hAttentionIdeal : Cert.AttentionIdeal.Facts) (hAttentionRefIdeal : Cert.AttentionRefIdeal.Facts) (hLastTail : Cert.LastTail.Facts) (hLastTailIdeal : Cert.LastTailIdeal.Facts) (hLastTailRefIdeal : Cert.LastTailRefIdeal.Facts) (hSharedTail : Cert.SharedTail.Facts) (hSharedTailIdeal : Cert.SharedTailIdeal.Facts) (hSharedTailRefIdeal : Cert.SharedTailRefIdeal.Facts) (hNextTail : Cert.NextTail.Facts) (hNextTailIdeal : Cert.NextTailIdeal.Facts) (hNextTailRefIdeal : Cert.NextTailRefIdeal.Facts) (hFront : Cert.Front.Facts) (hFrontIdeal : Cert.FrontIdeal.Facts) (hFrontRefIdeal : Cert.FrontRefIdeal.Facts) (hPre_finite_and_ones : Cert.Pre_finite_and_ones.Facts),
    quiescent_Attention (hAttention := hAttention)
    ∧ quiescent_AttentionIdeal (hAttentionIdeal := hAttentionIdeal)
    ∧ quiescent_AttentionIdeal_pre_finite_and_ones (hAttentionIdeal := hAttentionIdeal) (hPre_finite_and_ones := hPre_finite_and_ones)
    ∧ quiescent_AttentionRefIdeal (hAttentionRefIdeal := hAttentionRefIdeal)
    ∧ quiescent_AttentionRefIdeal_pre_finite_and_ones (hAttentionRefIdeal := hAttentionRefIdeal) (hPre_finite_and_ones := hPre_finite_and_ones)
    ∧ quiescent_LastTail (hLastTail := hLastTail)
    ∧ quiescent_LastTailIdeal (hLastTailIdeal := hLastTailIdeal)
    ∧ quiescent_LastTailRefIdeal (hLastTailRefIdeal := hLastTailRefIdeal)
    ∧ quiescent_SharedTail (hSharedTail := hSharedTail)
    ∧ quiescent_SharedTailIdeal (hSharedTailIdeal := hSharedTailIdeal)
    ∧ quiescent_SharedTailRefIdeal (hSharedTailRefIdeal := hSharedTailRefIdeal)
    ∧ quiescent_NextTail (hNextTail := hNextTail)
    ∧ quiescent_NextTailIdeal (hNextTailIdeal := hNextTailIdeal)
    ∧ quiescent_NextTailRefIdeal (hNextTailRefIdeal := hNextTailRefIdeal)
    ∧ quiescent_Front (hFront := hFront)
    ∧ quiescent_FrontIdeal (hFrontIdeal := hFrontIdeal)
    ∧ quiescent_FrontRefIdeal (hFrontRefIdeal := hFrontRefIdeal)
    ∧ preserves_Attention_AttentionIdeal
    ∧ algebraic_AttentionIdeal_AttentionRefIdeal_pre_finite_and_ones (hAttentionIdeal := hAttentionIdeal) (hAttentionRefIdeal := hAttentionRefIdeal) (hPre_finite_and_ones := hPre_finite_and_ones)
    ∧ preserves_LastTail_LastTailIdeal
    ∧ algebraic_LastTailIdeal_LastTailRefIdeal (hLastTailIdeal := hLastTailIdeal) (hLastTailRefIdeal := hLastTailRefIdeal)
    ∧ preserves_SharedTail_SharedTailIdeal
    ∧ algebraic_SharedTailIdeal_SharedTailRefIdeal (hSharedTailIdeal := hSharedTailIdeal) (hSharedTailRefIdeal := hSharedTailRefIdeal)
    ∧ preserves_NextTail_NextTailIdeal
    ∧ algebraic_NextTailIdeal_NextTailRefIdeal (hNextTailIdeal := hNextTailIdeal) (hNextTailRefIdeal := hNextTailRefIdeal)
    ∧ preserves_Front_FrontIdeal
    ∧ algebraic_FrontIdeal_FrontRefIdeal (hFrontIdeal := hFrontIdeal) (hFrontRefIdeal := hFrontRefIdeal)
-- ==== Pre_finite_and_ones.lean ====
abbrev S16384x2048 : Shape := ⟨2, ![16384, 2048]⟩
abbrev S16384x8x2x128 : Shape := ⟨4, ![16384, 8, 2, 128]⟩
abbrev S16384x8x1x64 : Shape := ⟨4, ![16384, 8, 1, 64]⟩
abbrev S16384x8x64 : Shape := ⟨3, ![16384, 8, 64]⟩
abbrev S_ : Shape := ⟨0, ![]⟩

class Facts : Prop where
  bitsLt_bf16_f32 : FTy.bits .bf16 < FTy.bits .f32
  shapeCasts_S16384x2048_S16384x8x2x128 : S16384x2048.ShapeCasts S16384x8x2x128
  slices_S16384x8x2x128_S16384x8x1x64_0_0_0_64 : S16384x8x2x128.Slices ![0, 0, 0, 64] S16384x8x1x64
  shapeCasts_S16384x8x1x64_S16384x8x64 : S16384x8x1x64.ShapeCasts S16384x8x64
  bcast_S_S16384x8x64 : S_.BroadcastsInDim S16384x8x64 (![] : Fin 0 → Fin S16384x8x64.rank)
  reducesTo_S16384x8x64_S_d0_1_2 : S16384x8x64.ReducesTo [0, 1, 2] S_
  h_S_ : 0 < S_.numel
  slices_S16384x8x2x128_S16384x8x1x64_0_0_1_0 : S16384x8x2x128.Slices ![0, 0, 1, 0] S16384x8x1x64
  bcast_S_S16384x2048 : S_.BroadcastsInDim S16384x2048 (![] : Fin 0 → Fin S16384x2048.rank)
  reducesTo_S16384x2048_S_d0_1 : S16384x2048.ReducesTo [0, 1] S_

variable [Facts]

def fn_part1 {F : FTy → Type} [FloatOps F] (main_arg1 : FVec F S16384x2048 .bf16) (main_v12 : IVec S_ 1) (main_v17 : IVec S_ 1) : IVec S_ 1 :=
  let main_v18 : FVec F S16384x2048 .f32 := (extf .f32 · bitsLt_bf16_f32) main_arg1
  let main_v19 : FVec F S16384x2048 .f32 := Host.absf main_v18
  let main_cst_4 : FVec F S_ .f32 := constant S_ .f32 0x7F800000#32
  let main_v20 : FVec F S16384x2048 .f32 := broadcastInDim S16384x2048 ![] bcast_S_S16384x2048 main_cst_4
  let main_v21 : IVec S16384x2048 1 := cmpf .olt main_v19 main_v20
  let main_c_5 : IVec S_ 1 := constantI S_ 1 1#1
  let main_v22 : IVec S_ 1 := (fun x v => Host.reduce IntOp.andi x v reducesTo_S16384x2048_S_d0_1 h_S_) main_v21 main_c_5
  let main_v23 : IVec S_ 1 := andi main_v17 main_v22
  let main_v24 : IVec S_ 1 := andi main_v23 main_v12
  main_v24

def fn {F : FTy → Type} [FloatOps F] (main_arg0 : FVec F S16384x2048 .bf16) (main_arg1 : FVec F S16384x2048 .bf16) (main_arg2 : FVec F S16384x2048 .bf16) : IVec S_ 1 :=
  let main_v0 : FVec F S16384x2048 .f32 := (extf .f32 · bitsLt_bf16_f32) main_arg2
  let main_v1 : FVec F S16384x8x2x128 .f32 := shapeCast S16384x8x2x128 main_v0 shapeCasts_S16384x2048_S16384x8x2x128
  let main_v2 : FVec F S16384x8x1x64 .f32 := (extractStridedSlice S16384x8x1x64 ![0, 0, 0, 64] · slices_S16384x8x2x128_S16384x8x1x64_0_0_0_64) main_v1
  let main_v3 : FVec F S16384x8x64 .f32 := shapeCast S16384x8x64 main_v2 shapeCasts_S16384x8x1x64_S16384x8x64
  let main_cst : FVec F S_ .f32 := constant S_ .f32 0x3F800000#32
  let main_v4 : FVec F S16384x8x64 .f32 := broadcastInDim S16384x8x64 ![] bcast_S_S16384x8x64 main_cst
  let main_v5 : IVec S16384x8x64 1 := cmpf .oeq main_v3 main_v4
  let main_c : IVec S_ 1 := constantI S_ 1 1#1
  let main_v6 : IVec S_ 1 := (fun x v => Host.reduce IntOp.andi x v reducesTo_S16384x8x64_S_d0_1_2 h_S_) main_v5 main_c
  let main_v7 : FVec F S16384x8x1x64 .f32 := (extractStridedSlice S16384x8x1x64 ![0, 0, 1, 0] · slices_S16384x8x2x128_S16384x8x1x64_0_0_1_0) main_v1
  let main_v8 : FVec F S16384x8x64 .f32 := shapeCast S16384x8x64 main_v7 shapeCasts_S16384x8x1x64_S16384x8x64
  let main_cst_0 : FVec F S_ .f32 := constant S_ .f32 0x3F800000#32
  let main_v9 : FVec F S16384x8x64 .f32 := broadcastInDim S16384x8x64 ![] bcast_S_S16384x8x64 main_cst_0
  let main_v10 : IVec S16384x8x64 1 := cmpf .oeq main_v8 main_v9
  let main_c_1 : IVec S_ 1 := constantI S_ 1 1#1
  let main_v11 : IVec S_ 1 := (fun x v => Host.reduce IntOp.andi x v reducesTo_S16384x8x64_S_d0_1_2 h_S_) main_v10 main_c_1
  let main_v12 : IVec S_ 1 := andi main_v6 main_v11
  let main_v13 : FVec F S16384x2048 .f32 := (extf .f32 · bitsLt_bf16_f32) main_arg0
  let main_v14 : FVec F S16384x2048 .f32 := Host.absf main_v13
  let main_cst_2 : FVec F S_ .f32 := constant S_ .f32 0x7F800000#32
  let main_v15 : FVec F S16384x2048 .f32 := broadcastInDim S16384x2048 ![] bcast_S_S16384x2048 main_cst_2
  let main_v16 : IVec S16384x2048 1 := cmpf .olt main_v14 main_v15
  let main_c_3 : IVec S_ 1 := constantI S_ 1 1#1
  let main_v17 : IVec S_ 1 := (fun x v => Host.reduce IntOp.andi x v reducesTo_S16384x2048_S_d0_1 h_S_) main_v16 main_c_3
  fn_part1 (F := F) main_arg1 main_v12 main_v17
-- ==== Attention.lean ====
abbrev S16384x2048 : Shape := ⟨2, ![16384, 2048]⟩
abbrev S8x2048x2048 : Shape := ⟨3, ![8, 2048, 2048]⟩
abbrev S8x2048x1024 : Shape := ⟨3, ![8, 2048, 1024]⟩
abbrev S1x256x2048 : Shape := ⟨3, ![1, 256, 2048]⟩
abbrev S1x2048x2048 : Shape := ⟨3, ![1, 2048, 2048]⟩
abbrev S1x256x1024 : Shape := ⟨3, ![1, 256, 1024]⟩
abbrev S16x256x128 : Shape := ⟨3, ![16, 256, 128]⟩
abbrev S256x256 : Shape := ⟨2, ![256, 256]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩
abbrev S256x512 : Shape := ⟨2, ![256, 512]⟩
abbrev S1x512x128 : Shape := ⟨3, ![1, 512, 128]⟩
abbrev S512x128 : Shape := ⟨2, ![512, 128]⟩

abbrev nBuf : Space → Nat
  | .hbm => 7
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x2048, .bf16⟩
  | .hbm, ⟨3, _⟩ => ⟨S8x2048x2048, .bf16⟩
  | .hbm, ⟨4, _⟩ => ⟨S8x2048x2048, .bf16⟩
  | .hbm, ⟨5, _⟩ => ⟨S8x2048x2048, .bf16⟩
  | .hbm, ⟨6, _⟩ => ⟨S8x2048x1024, .bf16⟩
  | .local _ .vmem, ⟨0, _⟩ => ⟨S1x256x2048, .bf16⟩
  | .local _ .vmem, ⟨1, _⟩ => ⟨S1x256x2048, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S1x2048x2048, .bf16⟩
  | .local _ .vmem, ⟨5, _⟩ => ⟨S1x2048x2048, .bf16⟩
  | .local _ .vmem, ⟨6, _⟩ => ⟨S1x256x1024, .bf16⟩
  | .local _ .vmem, ⟨7, _⟩ => ⟨S1x256x1024, .bf16⟩
  | .local _ .vmem, ⟨8, _⟩ => ⟨S16x256x128, .f32⟩
  | .local _ .vmem, ⟨9, _⟩ => ⟨S16x256x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 8], ![false, false, false]⟩

def k0_cond1 (i : grid0.Coords) : BitVec 1 :=
  let arg2 : BitVec 32 := BitVec.ofNat 32 (i 2).val
  let c1_i32_4 : BitVec 32 := 1#32
  let v20 : BitVec 32 := Scalar.andi arg2 c1_i32_4
  let c1_i32_5 : BitVec 32 := 1#32
  let v21 : BitVec 1 := Scalar.cmpi .eq v20 c1_i32_5
  let v_true : BitVec 1 := 1#1
  let v22 : BitVec 1 := Scalar.xori v21 v_true
  let v23 : BitVec 32 := Scalar.extui v22
  let c0_i32_6 : BitVec 32 := 0#32
  let v24 : BitVec 1 := Scalar.cmpi .ne v23 c0_i32_6
  v24

def k0_mult1 (i : grid0.Coords) : BitVec 32 :=
  let arg2 : BitVec 32 := BitVec.ofNat 32 (i 2).val
  let c256_i32 : BitVec 32 := 256#32
  let v137 : BitVec 32 := Scalar.muli arg2 c256_i32
  v137
def k0_off1 (i : grid0.Coords) : Fin 3 → Nat :=
  let c0_80 : Index := 0#32
  let arg2 : BitVec 32 := BitVec.ofNat 32 (i 2).val
  let c256_i32 : BitVec 32 := 256#32
  let v137 : BitVec 32 := Scalar.muli arg2 c256_i32
  let v138 : BitVec 32 := v137
  let v141 : Index := Scalar.indexCast v138
  let c0_81 : Index := 0#32
  ![0, v141.toNat, 0]
def k0_off2 (i : grid0.Coords) : Fin 3 → Nat :=
  let c0_85 : Index := 0#32
  let arg2 : BitVec 32 := BitVec.ofNat 32 (i 2).val
  let c256_i32 : BitVec 32 := 256#32
  let v137 : BitVec 32 := Scalar.muli arg2 c256_i32
  let v138 : BitVec 32 := v137
  let v147 : Index := Scalar.indexCast v138
  let c128_86 : Index := 128#32
  ![0, v147.toNat, 128]
def k0_off3 (i : grid0.Coords) : Fin 3 → Nat :=
  let c0_91 : Index := 0#32
  let arg2 : BitVec 32 := BitVec.ofNat 32 (i 2).val
  let c256_i32 : BitVec 32 := 256#32
  let v137 : BitVec 32 := Scalar.muli arg2 c256_i32
  let v138 : BitVec 32 := v137
  let v153 : Index := Scalar.indexCast v138
  let c256_92 : Index := 256#32
  ![0, v153.toNat, 256]
def k0_off4 (i : grid0.Coords) : Fin 3 → Nat :=
  let c0_97 : Index := 0#32
  let arg2 : BitVec 32 := BitVec.ofNat 32 (i 2).val
  let c256_i32 : BitVec 32 := 256#32
  let v137 : BitVec 32 := Scalar.muli arg2 c256_i32
  let v138 : BitVec 32 := v137
  let v159 : Index := Scalar.indexCast v138
  let c384_98 : Index := 384#32
  ![0, v159.toNat, 384]
def k0_off5 (i : grid0.Coords) : Fin 3 → Nat :=
  let c0_103 : Index := 0#32
  let arg2 : BitVec 32 := BitVec.ofNat 32 (i 2).val
  let c256_i32 : BitVec 32 := 256#32
  let v137 : BitVec 32 := Scalar.muli arg2 c256_i32
  let v138 : BitVec 32 := v137
  let v165 : Index := Scalar.indexCast v138
  let c512_104 : Index := 512#32
  ![0, v165.toNat, 512]
def k0_off6 (i : grid0.Coords) : Fin 3 → Nat :=
  let c0_109 : Index := 0#32
  let arg2 : BitVec 32 := BitVec.ofNat 32 (i 2).val
  let c256_i32 : BitVec 32 := 256#32
  let v137 : BitVec 32 := Scalar.muli arg2 c256_i32
  let v138 : BitVec 32 := v137
  let v171 : Index := Scalar.indexCast v138
  let c640_110 : Index := 640#32
  ![0, v171.toNat, 640]
def k0_off7 (i : grid0.Coords) : Fin 3 → Nat :=
  let c0_115 : Index := 0#32
  let arg2 : BitVec 32 := BitVec.ofNat 32 (i 2).val
  let c256_i32 : BitVec 32 := 256#32
  let v137 : BitVec 32 := Scalar.muli arg2 c256_i32
  let v138 : BitVec 32 := v137
  let v177 : Index := Scalar.indexCast v138
  let c768_116 : Index := 768#32
  ![0, v177.toNat, 768]
def k0_off8 (i : grid0.Coords) : Fin 3 → Nat :=
  let c0_121 : Index := 0#32
  let arg2 : BitVec 32 := BitVec.ofNat 32 (i 2).val
  let c256_i32 : BitVec 32 := 256#32
  let v137 : BitVec 32 := Scalar.muli arg2 c256_i32
  let v138 : BitVec 32 := v137
  let v183 : Index := Scalar.indexCast v138
  let c896_122 : Index := 896#32
  ![0, v183.toNat, 896]
def k0_off9 (i : grid0.Coords) : Fin 3 → Nat :=
  let c0_126 : Index := 0#32
  let arg2 : BitVec 32 := BitVec.ofNat 32 (i 2).val
  let c256_i32 : BitVec 32 := 256#32
  let v137 : BitVec 32 := Scalar.muli arg2 c256_i32
  let v138 : BitVec 32 := v137
  let v189 : Index := Scalar.indexCast v138
  let c1024_127 : Index := 1024#32
  ![0, v189.toNat, 1024]
def k0_off10 (i : grid0.Coords) : Fin 3 → Nat :=
  let c0_131 : Index := 0#32
  let arg2 : BitVec 32 := BitVec.ofNat 32 (i 2).val
  let c256_i32 : BitVec 32 := 256#32
  let v137 : BitVec 32 := Scalar.muli arg2 c256_i32
  let v138 : BitVec 32 := v137
  let v195 : Index := Scalar.indexCast v138
  let c1152_132 : Index := 1152#32
  ![0, v195.toNat, 1152]
def k0_off11 (i : grid0.Coords) : Fin 3 → Nat :=
  let c0_136 : Index := 0#32
  let arg2 : BitVec 32 := BitVec.ofNat 32 (i 2).val
  let c256_i32 : BitVec 32 := 256#32
  let v137 : BitVec 32 := Scalar.muli arg2 c256_i32
  let v138 : BitVec 32 := v137
  let v201 : Index := Scalar.indexCast v138
  let c1280_137 : Index := 1280#32
  ![0, v201.toNat, 1280]
def k0_off12 (i : grid0.Coords) : Fin 3 → Nat :=
  let c0_141 : Index := 0#32
  let arg2 : BitVec 32 := BitVec.ofNat 32 (i 2).val
  let c256_i32 : BitVec 32 := 256#32
  let v137 : BitVec 32 := Scalar.muli arg2 c256_i32
  let v138 : BitVec 32 := v137
  let v207 : Index := Scalar.indexCast v138
  let c1408_142 : Index := 1408#32
  ![0, v207.toNat, 1408]
def k0_off13 (i : grid0.Coords) : Fin 3 → Nat :=
  let c0_146 : Index := 0#32
  let arg2 : BitVec 32 := BitVec.ofNat 32 (i 2).val
  let c256_i32 : BitVec 32 := 256#32
  let v137 : BitVec 32 := Scalar.muli arg2 c256_i32
  let v138 : BitVec 32 := v137
  let v213 : Index := Scalar.indexCast v138
  let c1536_147 : Index := 1536#32
  ![0, v213.toNat, 1536]
def k0_off14 (i : grid0.Coords) : Fin 3 → Nat :=
  let c0_151 : Index := 0#32
  let arg2 : BitVec 32 := BitVec.ofNat 32 (i 2).val
  let c256_i32 : BitVec 32 := 256#32
  let v137 : BitVec 32 := Scalar.muli arg2 c256_i32
  let v138 : BitVec 32 := v137
  let v219 : Index := Scalar.indexCast v138
  let c1664_152 : Index := 1664#32
  ![0, v219.toNat, 1664]
def k0_off15 (i : grid0.Coords) : Fin 3 → Nat :=
  let c0_156 : Index := 0#32
  let arg2 : BitVec 32 := BitVec.ofNat 32 (i 2).val
  let c256_i32 : BitVec 32 := 256#32
  let v137 : BitVec 32 := Scalar.muli arg2 c256_i32
  let v138 : BitVec 32 := v137
  let v225 : Index := Scalar.indexCast v138
  let c1792_157 : Index := 1792#32
  ![0, v225.toNat, 1792]
def k0_off16 (i : grid0.Coords) : Fin 3 → Nat :=
  let c0_161 : Index := 0#32
  let arg2 : BitVec 32 := BitVec.ofNat 32 (i 2).val
  let c256_i32 : BitVec 32 := 256#32
  let v137 : BitVec 32 := Scalar.muli arg2 c256_i32
  let v138 : BitVec 32 := v137
  let v231 : Index := Scalar.indexCast v138
  let c1920_162 : Index := 1920#32
  ![0, v231.toNat, 1920]
def k0_cond2 (i : grid0.Coords) : BitVec 1 :=
  let arg2 : BitVec 32 := BitVec.ofNat 32 (i 2).val
  let c1_i32_7 : BitVec 32 := 1#32
  let v25 : BitVec 32 := Scalar.andi arg2 c1_i32_7
  let c1_i32_8 : BitVec 32 := 1#32
  let v26 : BitVec 1 := Scalar.cmpi .eq v25 c1_i32_8
  let v27 : BitVec 32 := Scalar.extui v26
  let c0_i32_9 : BitVec 32 := 0#32
  let v28 : BitVec 1 := Scalar.cmpi .ne v27 c0_i32_9
  v28

def k0_mult2 (i : grid0.Coords) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c512_i32 : BitVec 32 := 512#32
  let v139 : BitVec 32 := Scalar.muli v16 c512_i32
  v139
def k0_off17 (i : grid0.Coords) : Fin 3 → Nat :=
  let c0_80 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c512_i32 : BitVec 32 := 512#32
  let v139 : BitVec 32 := Scalar.muli v16 c512_i32
  let v140 : BitVec 32 := v139
  let v146 : Index := Scalar.indexCast v140
  let c0_81 : Index := 0#32
  ![0, v146.toNat, 0]
def k0_off18 (i : grid0.Coords) : Fin 3 → Nat :=
  let c0_85 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c512_i32 : BitVec 32 := 512#32
  let v139 : BitVec 32 := Scalar.muli v16 c512_i32
  let v140 : BitVec 32 := v139
  let v152 : Index := Scalar.indexCast v140
  let c128_86 : Index := 128#32
  ![0, v152.toNat, 128]
def k0_off19 (i : grid0.Coords) : Fin 3 → Nat :=
  let c0_91 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c512_i32 : BitVec 32 := 512#32
  let v139 : BitVec 32 := Scalar.muli v16 c512_i32
  let v140 : BitVec 32 := v139
  let v158 : Index := Scalar.indexCast v140
  let c256_92 : Index := 256#32
  ![0, v158.toNat, 256]
def k0_off20 (i : grid0.Coords) : Fin 3 → Nat :=
  let c0_97 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c512_i32 : BitVec 32 := 512#32
  let v139 : BitVec 32 := Scalar.muli v16 c512_i32
  let v140 : BitVec 32 := v139
  let v164 : Index := Scalar.indexCast v140
  let c384_98 : Index := 384#32
  ![0, v164.toNat, 384]
def k0_off21 (i : grid0.Coords) : Fin 3 → Nat :=
  let c0_103 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c512_i32 : BitVec 32 := 512#32
  let v139 : BitVec 32 := Scalar.muli v16 c512_i32
  let v140 : BitVec 32 := v139
  let v170 : Index := Scalar.indexCast v140
  let c512_104 : Index := 512#32
  ![0, v170.toNat, 512]
def k0_off22 (i : grid0.Coords) : Fin 3 → Nat :=
  let c0_109 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c512_i32 : BitVec 32 := 512#32
  let v139 : BitVec 32 := Scalar.muli v16 c512_i32
  let v140 : BitVec 32 := v139
  let v176 : Index := Scalar.indexCast v140
  let c640_110 : Index := 640#32
  ![0, v176.toNat, 640]
def k0_off23 (i : grid0.Coords) : Fin 3 → Nat :=
  let c0_115 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c512_i32 : BitVec 32 := 512#32
  let v139 : BitVec 32 := Scalar.muli v16 c512_i32
  let v140 : BitVec 32 := v139
  let v182 : Index := Scalar.indexCast v140
  let c768_116 : Index := 768#32
  ![0, v182.toNat, 768]
def k0_off24 (i : grid0.Coords) : Fin 3 → Nat :=
  let c0_121 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c512_i32 : BitVec 32 := 512#32
  let v139 : BitVec 32 := Scalar.muli v16 c512_i32
  let v140 : BitVec 32 := v139
  let v188 : Index := Scalar.indexCast v140
  let c896_122 : Index := 896#32
  ![0, v188.toNat, 896]
def k0_off25 (i : grid0.Coords) : Fin 3 → Nat :=
  let c0_126 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c512_i32 : BitVec 32 := 512#32
  let v139 : BitVec 32 := Scalar.muli v16 c512_i32
  let v140 : BitVec 32 := v139
  let v194 : Index := Scalar.indexCast v140
  let c1024_127 : Index := 1024#32
  ![0, v194.toNat, 1024]
def k0_off26 (i : grid0.Coords) : Fin 3 → Nat :=
  let c0_131 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c512_i32 : BitVec 32 := 512#32
  let v139 : BitVec 32 := Scalar.muli v16 c512_i32
  let v140 : BitVec 32 := v139
  let v200 : Index := Scalar.indexCast v140
  let c1152_132 : Index := 1152#32
  ![0, v200.toNat, 1152]
def k0_off27 (i : grid0.Coords) : Fin 3 → Nat :=
  let c0_136 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c512_i32 : BitVec 32 := 512#32
  let v139 : BitVec 32 := Scalar.muli v16 c512_i32
  let v140 : BitVec 32 := v139
  let v206 : Index := Scalar.indexCast v140
  let c1280_137 : Index := 1280#32
  ![0, v206.toNat, 1280]
def k0_off28 (i : grid0.Coords) : Fin 3 → Nat :=
  let c0_141 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c512_i32 : BitVec 32 := 512#32
  let v139 : BitVec 32 := Scalar.muli v16 c512_i32
  let v140 : BitVec 32 := v139
  let v212 : Index := Scalar.indexCast v140
  let c1408_142 : Index := 1408#32
  ![0, v212.toNat, 1408]
def k0_off29 (i : grid0.Coords) : Fin 3 → Nat :=
  let c0_146 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c512_i32 : BitVec 32 := 512#32
  let v139 : BitVec 32 := Scalar.muli v16 c512_i32
  let v140 : BitVec 32 := v139
  let v218 : Index := Scalar.indexCast v140
  let c1536_147 : Index := 1536#32
  ![0, v218.toNat, 1536]
def k0_off30 (i : grid0.Coords) : Fin 3 → Nat :=
  let c0_151 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c512_i32 : BitVec 32 := 512#32
  let v139 : BitVec 32 := Scalar.muli v16 c512_i32
  let v140 : BitVec 32 := v139
  let v224 : Index := Scalar.indexCast v140
  let c1664_152 : Index := 1664#32
  ![0, v224.toNat, 1664]
def k0_off31 (i : grid0.Coords) : Fin 3 → Nat :=
  let c0_156 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c512_i32 : BitVec 32 := 512#32
  let v139 : BitVec 32 := Scalar.muli v16 c512_i32
  let v140 : BitVec 32 := v139
  let v230 : Index := Scalar.indexCast v140
  let c1792_157 : Index := 1792#32
  ![0, v230.toNat, 1792]
def k0_off32 (i : grid0.Coords) : Fin 3 → Nat :=
  let c0_161 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c512_i32 : BitVec 32 := 512#32
  let v139 : BitVec 32 := Scalar.muli v16 c512_i32
  let v140 : BitVec 32 := v139
  let v236 : Index := Scalar.indexCast v140
  let c1920_162 : Index := 1920#32
  ![0, v236.toNat, 1920]
@[reducible] def k0_t1_loop (i : grid0.Coords) : Scf.Loop 32 :=
  let c0_i32_16 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c0_i32_10 : BitVec 32 := 0#32
  let v29 : BitVec 32 := Scalar.subi v16 c0_i32_10
  let c1_i32_11 : BitVec 32 := 1#32
  let c1_i32_12 : BitVec 32 := 1#32
  let v30 : BitVec 32 := Scalar.subi c1_i32_11 c1_i32_12
  let v31 : BitVec 32 := Scalar.addi v29 v30
  let c1_i32_13 : BitVec 32 := 1#32
  let v32 : BitVec 32 := Scalar.divsi v31 c1_i32_13
  let v33 : BitVec 32 := Scalar.subi v32 c0_i32_16
  let c1_i32_17 : BitVec 32 := 1#32
  let v35 : BitVec 32 := Scalar.divsi v33 c1_i32_17
  let v36 : BitVec 32 := Scalar.muli v35 c1_i32_17
  let v37 : BitVec 32 := Scalar.addi c0_i32_16 v36
  let c1_i32_18 : BitVec 32 := 1#32
  ⟨c0_i32_16, v37, c1_i32_18⟩
def k0_mult3 (i : grid0.Coords) (k0_t1 : Fin (k0_t1_loop i).trips) : BitVec 32 :=
  let c0_i32_15 : BitVec 32 := 0#32
  let c0_i32_16 : BitVec 32 := 0#32
  let c1_i32_18 : BitVec 32 := 1#32
  let arg9 : BitVec 32 := Scf.iv c0_i32_16 c1_i32_18 k0_t1
  let c1_i32_14 : BitVec 32 := 1#32
  let v137 : BitVec 32 := Scalar.muli arg9 c1_i32_14
  let v138 : BitVec 32 := Scalar.addi c0_i32_15 v137
  let c512_i32 : BitVec 32 := 512#32
  let v139 : BitVec 32 := Scalar.muli v138 c512_i32
  v139
def k0_off33 (i : grid0.Coords) (k0_t1 : Fin (k0_t1_loop i).trips) : Fin 3 → Nat :=
  let c0_80 : Index := 0#32
  let c0_i32_15 : BitVec 32 := 0#32
  let c0_i32_16 : BitVec 32 := 0#32
  let c1_i32_18 : BitVec 32 := 1#32
  let arg9 : BitVec 32 := Scf.iv c0_i32_16 c1_i32_18 k0_t1
  let c1_i32_14 : BitVec 32 := 1#32
  let v137 : BitVec 32 := Scalar.muli arg9 c1_i32_14
  let v138 : BitVec 32 := Scalar.addi c0_i32_15 v137
  let c512_i32 : BitVec 32 := 512#32
  let v139 : BitVec 32 := Scalar.muli v138 c512_i32
  let v140 : BitVec 32 := v139
  let v143 : Index := Scalar.indexCast v140
  let c0_81 : Index := 0#32
  ![0, v143.toNat, 0]
def k0_off34 (i : grid0.Coords) (k0_t1 : Fin (k0_t1_loop i).trips) : Fin 3 → Nat :=
  let c0_85 : Index := 0#32
  let c0_i32_15 : BitVec 32 := 0#32
  let c0_i32_16 : BitVec 32 := 0#32
  let c1_i32_18 : BitVec 32 := 1#32
  let arg9 : BitVec 32 := Scf.iv c0_i32_16 c1_i32_18 k0_t1
  let c1_i32_14 : BitVec 32 := 1#32
  let v137 : BitVec 32 := Scalar.muli arg9 c1_i32_14
  let v138 : BitVec 32 := Scalar.addi c0_i32_15 v137
  let c512_i32 : BitVec 32 := 512#32
  let v139 : BitVec 32 := Scalar.muli v138 c512_i32
  let v140 : BitVec 32 := v139
  let v149 : Index := Scalar.indexCast v140
  let c128_86 : Index := 128#32
  ![0, v149.toNat, 128]
def k0_off35 (i : grid0.Coords) (k0_t1 : Fin (k0_t1_loop i).trips) : Fin 3 → Nat :=
  let c0_91 : Index := 0#32
  let c0_i32_15 : BitVec 32 := 0#32
  let c0_i32_16 : BitVec 32 := 0#32
  let c1_i32_18 : BitVec 32 := 1#32
  let arg9 : BitVec 32 := Scf.iv c0_i32_16 c1_i32_18 k0_t1
  let c1_i32_14 : BitVec 32 := 1#32
  let v137 : BitVec 32 := Scalar.muli arg9 c1_i32_14
  let v138 : BitVec 32 := Scalar.addi c0_i32_15 v137
  let c512_i32 : BitVec 32 := 512#32
  let v139 : BitVec 32 := Scalar.muli v138 c512_i32
  let v140 : BitVec 32 := v139
  let v155 : Index := Scalar.indexCast v140
  let c256_92 : Index := 256#32
  ![0, v155.toNat, 256]
def k0_off36 (i : grid0.Coords) (k0_t1 : Fin (k0_t1_loop i).trips) : Fin 3 → Nat :=
  let c0_97 : Index := 0#32
  let c0_i32_15 : BitVec 32 := 0#32
  let c0_i32_16 : BitVec 32 := 0#32
  let c1_i32_18 : BitVec 32 := 1#32
  let arg9 : BitVec 32 := Scf.iv c0_i32_16 c1_i32_18 k0_t1
  let c1_i32_14 : BitVec 32 := 1#32
  let v137 : BitVec 32 := Scalar.muli arg9 c1_i32_14
  let v138 : BitVec 32 := Scalar.addi c0_i32_15 v137
  let c512_i32 : BitVec 32 := 512#32
  let v139 : BitVec 32 := Scalar.muli v138 c512_i32
  let v140 : BitVec 32 := v139
  let v161 : Index := Scalar.indexCast v140
  let c384_98 : Index := 384#32
  ![0, v161.toNat, 384]
def k0_off37 (i : grid0.Coords) (k0_t1 : Fin (k0_t1_loop i).trips) : Fin 3 → Nat :=
  let c0_103 : Index := 0#32
  let c0_i32_15 : BitVec 32 := 0#32
  let c0_i32_16 : BitVec 32 := 0#32
  let c1_i32_18 : BitVec 32 := 1#32
  let arg9 : BitVec 32 := Scf.iv c0_i32_16 c1_i32_18 k0_t1
  let c1_i32_14 : BitVec 32 := 1#32
  let v137 : BitVec 32 := Scalar.muli arg9 c1_i32_14
  let v138 : BitVec 32 := Scalar.addi c0_i32_15 v137
  let c512_i32 : BitVec 32 := 512#32
  let v139 : BitVec 32 := Scalar.muli v138 c512_i32
  let v140 : BitVec 32 := v139
  let v167 : Index := Scalar.indexCast v140
  let c512_104 : Index := 512#32
  ![0, v167.toNat, 512]
def k0_off38 (i : grid0.Coords) (k0_t1 : Fin (k0_t1_loop i).trips) : Fin 3 → Nat :=
  let c0_109 : Index := 0#32
  let c0_i32_15 : BitVec 32 := 0#32
  let c0_i32_16 : BitVec 32 := 0#32
  let c1_i32_18 : BitVec 32 := 1#32
  let arg9 : BitVec 32 := Scf.iv c0_i32_16 c1_i32_18 k0_t1
  let c1_i32_14 : BitVec 32 := 1#32
  let v137 : BitVec 32 := Scalar.muli arg9 c1_i32_14
  let v138 : BitVec 32 := Scalar.addi c0_i32_15 v137
  let c512_i32 : BitVec 32 := 512#32
  let v139 : BitVec 32 := Scalar.muli v138 c512_i32
  let v140 : BitVec 32 := v139
  let v173 : Index := Scalar.indexCast v140
  let c640_110 : Index := 640#32
  ![0, v173.toNat, 640]
def k0_off39 (i : grid0.Coords) (k0_t1 : Fin (k0_t1_loop i).trips) : Fin 3 → Nat :=
  let c0_115 : Index := 0#32
  let c0_i32_15 : BitVec 32 := 0#32
  let c0_i32_16 : BitVec 32 := 0#32
  let c1_i32_18 : BitVec 32 := 1#32
  let arg9 : BitVec 32 := Scf.iv c0_i32_16 c1_i32_18 k0_t1
  let c1_i32_14 : BitVec 32 := 1#32
  let v137 : BitVec 32 := Scalar.muli arg9 c1_i32_14
  let v138 : BitVec 32 := Scalar.addi c0_i32_15 v137
  let c512_i32 : BitVec 32 := 512#32
  let v139 : BitVec 32 := Scalar.muli v138 c512_i32
  let v140 : BitVec 32 := v139
  let v179 : Index := Scalar.indexCast v140
  let c768_116 : Index := 768#32
  ![0, v179.toNat, 768]
def k0_off40 (i : grid0.Coords) (k0_t1 : Fin (k0_t1_loop i).trips) : Fin 3 → Nat :=
  let c0_121 : Index := 0#32
  let c0_i32_15 : BitVec 32 := 0#32
  let c0_i32_16 : BitVec 32 := 0#32
  let c1_i32_18 : BitVec 32 := 1#32
  let arg9 : BitVec 32 := Scf.iv c0_i32_16 c1_i32_18 k0_t1
  let c1_i32_14 : BitVec 32 := 1#32
  let v137 : BitVec 32 := Scalar.muli arg9 c1_i32_14
  let v138 : BitVec 32 := Scalar.addi c0_i32_15 v137
  let c512_i32 : BitVec 32 := 512#32
  let v139 : BitVec 32 := Scalar.muli v138 c512_i32
  let v140 : BitVec 32 := v139
  let v185 : Index := Scalar.indexCast v140
  let c896_122 : Index := 896#32
  ![0, v185.toNat, 896]
def k0_off41 (i : grid0.Coords) (k0_t1 : Fin (k0_t1_loop i).trips) : Fin 3 → Nat :=
  let c0_126 : Index := 0#32
  let c0_i32_15 : BitVec 32 := 0#32
  let c0_i32_16 : BitVec 32 := 0#32
  let c1_i32_18 : BitVec 32 := 1#32
  let arg9 : BitVec 32 := Scf.iv c0_i32_16 c1_i32_18 k0_t1
  let c1_i32_14 : BitVec 32 := 1#32
  let v137 : BitVec 32 := Scalar.muli arg9 c1_i32_14
  let v138 : BitVec 32 := Scalar.addi c0_i32_15 v137
  let c512_i32 : BitVec 32 := 512#32
  let v139 : BitVec 32 := Scalar.muli v138 c512_i32
  let v140 : BitVec 32 := v139
  let v191 : Index := Scalar.indexCast v140
  let c1024_127 : Index := 1024#32
  ![0, v191.toNat, 1024]
def k0_off42 (i : grid0.Coords) (k0_t1 : Fin (k0_t1_loop i).trips) : Fin 3 → Nat :=
  let c0_131 : Index := 0#32
  let c0_i32_15 : BitVec 32 := 0#32
  let c0_i32_16 : BitVec 32 := 0#32
  let c1_i32_18 : BitVec 32 := 1#32
  let arg9 : BitVec 32 := Scf.iv c0_i32_16 c1_i32_18 k0_t1
  let c1_i32_14 : BitVec 32 := 1#32
  let v137 : BitVec 32 := Scalar.muli arg9 c1_i32_14
  let v138 : BitVec 32 := Scalar.addi c0_i32_15 v137
  let c512_i32 : BitVec 32 := 512#32
  let v139 : BitVec 32 := Scalar.muli v138 c512_i32
  let v140 : BitVec 32 := v139
  let v197 : Index := Scalar.indexCast v140
  let c1152_132 : Index := 1152#32
  ![0, v197.toNat, 1152]
def k0_off43 (i : grid0.Coords) (k0_t1 : Fin (k0_t1_loop i).trips) : Fin 3 → Nat :=
  let c0_136 : Index := 0#32
  let c0_i32_15 : BitVec 32 := 0#32
  let c0_i32_16 : BitVec 32 := 0#32
  let c1_i32_18 : BitVec 32 := 1#32
  let arg9 : BitVec 32 := Scf.iv c0_i32_16 c1_i32_18 k0_t1
  let c1_i32_14 : BitVec 32 := 1#32
  let v137 : BitVec 32 := Scalar.muli arg9 c1_i32_14
  let v138 : BitVec 32 := Scalar.addi c0_i32_15 v137
  let c512_i32 : BitVec 32 := 512#32
  let v139 : BitVec 32 := Scalar.muli v138 c512_i32
  let v140 : BitVec 32 := v139
  let v203 : Index := Scalar.indexCast v140
  let c1280_137 : Index := 1280#32
  ![0, v203.toNat, 1280]
def k0_off44 (i : grid0.Coords) (k0_t1 : Fin (k0_t1_loop i).trips) : Fin 3 → Nat :=
  let c0_141 : Index := 0#32
  let c0_i32_15 : BitVec 32 := 0#32
  let c0_i32_16 : BitVec 32 := 0#32
  let c1_i32_18 : BitVec 32 := 1#32
  let arg9 : BitVec 32 := Scf.iv c0_i32_16 c1_i32_18 k0_t1
  let c1_i32_14 : BitVec 32 := 1#32
  let v137 : BitVec 32 := Scalar.muli arg9 c1_i32_14
  let v138 : BitVec 32 := Scalar.addi c0_i32_15 v137
  let c512_i32 : BitVec 32 := 512#32
  let v139 : BitVec 32 := Scalar.muli v138 c512_i32
  let v140 : BitVec 32 := v139
  let v209 : Index := Scalar.indexCast v140
  let c1408_142 : Index := 1408#32
  ![0, v209.toNat, 1408]
def k0_off45 (i : grid0.Coords) (k0_t1 : Fin (k0_t1_loop i).trips) : Fin 3 → Nat :=
  let c0_146 : Index := 0#32
  let c0_i32_15 : BitVec 32 := 0#32
  let c0_i32_16 : BitVec 32 := 0#32
  let c1_i32_18 : BitVec 32 := 1#32
  let arg9 : BitVec 32 := Scf.iv c0_i32_16 c1_i32_18 k0_t1
  let c1_i32_14 : BitVec 32 := 1#32
  let v137 : BitVec 32 := Scalar.muli arg9 c1_i32_14
  let v138 : BitVec 32 := Scalar.addi c0_i32_15 v137
  let c512_i32 : BitVec 32 := 512#32
  let v139 : BitVec 32 := Scalar.muli v138 c512_i32
  let v140 : BitVec 32 := v139
  let v215 : Index := Scalar.indexCast v140
  let c1536_147 : Index := 1536#32
  ![0, v215.toNat, 1536]
def k0_off46 (i : grid0.Coords) (k0_t1 : Fin (k0_t1_loop i).trips) : Fin 3 → Nat :=
  let c0_151 : Index := 0#32
  let c0_i32_15 : BitVec 32 := 0#32
  let c0_i32_16 : BitVec 32 := 0#32
  let c1_i32_18 : BitVec 32 := 1#32
  let arg9 : BitVec 32 := Scf.iv c0_i32_16 c1_i32_18 k0_t1
  let c1_i32_14 : BitVec 32 := 1#32
  let v137 : BitVec 32 := Scalar.muli arg9 c1_i32_14
  let v138 : BitVec 32 := Scalar.addi c0_i32_15 v137
  let c512_i32 : BitVec 32 := 512#32
  let v139 : BitVec 32 := Scalar.muli v138 c512_i32
  let v140 : BitVec 32 := v139
  let v221 : Index := Scalar.indexCast v140
  let c1664_152 : Index := 1664#32
  ![0, v221.toNat, 1664]
def k0_off47 (i : grid0.Coords) (k0_t1 : Fin (k0_t1_loop i).trips) : Fin 3 → Nat :=
  let c0_156 : Index := 0#32
  let c0_i32_15 : BitVec 32 := 0#32
  let c0_i32_16 : BitVec 32 := 0#32
  let c1_i32_18 : BitVec 32 := 1#32
  let arg9 : BitVec 32 := Scf.iv c0_i32_16 c1_i32_18 k0_t1
  let c1_i32_14 : BitVec 32 := 1#32
  let v137 : BitVec 32 := Scalar.muli arg9 c1_i32_14
  let v138 : BitVec 32 := Scalar.addi c0_i32_15 v137
  let c512_i32 : BitVec 32 := 512#32
  let v139 : BitVec 32 := Scalar.muli v138 c512_i32
  let v140 : BitVec 32 := v139
  let v227 : Index := Scalar.indexCast v140
  let c1792_157 : Index := 1792#32
  ![0, v227.toNat, 1792]
def k0_off48 (i : grid0.Coords) (k0_t1 : Fin (k0_t1_loop i).trips) : Fin 3 → Nat :=
  let c0_161 : Index := 0#32
  let c0_i32_15 : BitVec 32 := 0#32
  let c0_i32_16 : BitVec 32 := 0#32
  let c1_i32_18 : BitVec 32 := 1#32
  let arg9 : BitVec 32 := Scf.iv c0_i32_16 c1_i32_18 k0_t1
  let c1_i32_14 : BitVec 32 := 1#32
  let v137 : BitVec 32 := Scalar.muli arg9 c1_i32_14
  let v138 : BitVec 32 := Scalar.addi c0_i32_15 v137
  let c512_i32 : BitVec 32 := 512#32
  let v139 : BitVec 32 := Scalar.muli v138 c512_i32
  let v140 : BitVec 32 := v139
  let v233 : Index := Scalar.indexCast v140
  let c1920_162 : Index := 1920#32
  ![0, v233.toNat, 1920]
@[reducible] def k0_t2_loop (i : grid0.Coords) : Scf.Loop 32 :=
  let c0_i32_16 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c0_i32_10 : BitVec 32 := 0#32
  let v29 : BitVec 32 := Scalar.subi v16 c0_i32_10
  let c1_i32_11 : BitVec 32 := 1#32
  let c1_i32_12 : BitVec 32 := 1#32
  let v30 : BitVec 32 := Scalar.subi c1_i32_11 c1_i32_12
  let v31 : BitVec 32 := Scalar.addi v29 v30
  let c1_i32_13 : BitVec 32 := 1#32
  let v32 : BitVec 32 := Scalar.divsi v31 c1_i32_13
  let v33 : BitVec 32 := Scalar.subi v32 c0_i32_16
  let c1_i32_17 : BitVec 32 := 1#32
  let v35 : BitVec 32 := Scalar.divsi v33 c1_i32_17
  let v36 : BitVec 32 := Scalar.muli v35 c1_i32_17
  let v37 : BitVec 32 := Scalar.addi c0_i32_16 v36
  let v34 : BitVec 32 := Scalar.addi c0_i32_16 v33
  let c1_i32_19 : BitVec 32 := 1#32
  ⟨v37, v34, c1_i32_19⟩
def k0_mult4 (i : grid0.Coords) (k0_t2 : Fin (k0_t2_loop i).trips) : BitVec 32 :=
  let c0_i32_15 : BitVec 32 := 0#32
  let c0_i32_16 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c0_i32_10 : BitVec 32 := 0#32
  let v29 : BitVec 32 := Scalar.subi v16 c0_i32_10
  let c1_i32_11 : BitVec 32 := 1#32
  let c1_i32_12 : BitVec 32 := 1#32
  let v30 : BitVec 32 := Scalar.subi c1_i32_11 c1_i32_12
  let v31 : BitVec 32 := Scalar.addi v29 v30
  let c1_i32_13 : BitVec 32 := 1#32
  let v32 : BitVec 32 := Scalar.divsi v31 c1_i32_13
  let v33 : BitVec 32 := Scalar.subi v32 c0_i32_16
  let c1_i32_17 : BitVec 32 := 1#32
  let v35 : BitVec 32 := Scalar.divsi v33 c1_i32_17
  let v36 : BitVec 32 := Scalar.muli v35 c1_i32_17
  let v37 : BitVec 32 := Scalar.addi c0_i32_16 v36
  let c1_i32_19 : BitVec 32 := 1#32
  let arg9 : BitVec 32 := Scf.iv v37 c1_i32_19 k0_t2
  let c1_i32_14 : BitVec 32 := 1#32
  let v137 : BitVec 32 := Scalar.muli arg9 c1_i32_14
  let v138 : BitVec 32 := Scalar.addi c0_i32_15 v137
  let c512_i32 : BitVec 32 := 512#32
  let v139 : BitVec 32 := Scalar.muli v138 c512_i32
  v139
def k0_off49 (i : grid0.Coords) (k0_t2 : Fin (k0_t2_loop i).trips) : Fin 3 → Nat :=
  let c0_80 : Index := 0#32
  let c0_i32_15 : BitVec 32 := 0#32
  let c0_i32_16 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c0_i32_10 : BitVec 32 := 0#32
  let v29 : BitVec 32 := Scalar.subi v16 c0_i32_10
  let c1_i32_11 : BitVec 32 := 1#32
  let c1_i32_12 : BitVec 32 := 1#32
  let v30 : BitVec 32 := Scalar.subi c1_i32_11 c1_i32_12
  let v31 : BitVec 32 := Scalar.addi v29 v30
  let c1_i32_13 : BitVec 32 := 1#32
  let v32 : BitVec 32 := Scalar.divsi v31 c1_i32_13
  let v33 : BitVec 32 := Scalar.subi v32 c0_i32_16
  let c1_i32_17 : BitVec 32 := 1#32
  let v35 : BitVec 32 := Scalar.divsi v33 c1_i32_17
  let v36 : BitVec 32 := Scalar.muli v35 c1_i32_17
  let v37 : BitVec 32 := Scalar.addi c0_i32_16 v36
  let c1_i32_19 : BitVec 32 := 1#32
  let arg9 : BitVec 32 := Scf.iv v37 c1_i32_19 k0_t2
  let c1_i32_14 : BitVec 32 := 1#32
  let v137 : BitVec 32 := Scalar.muli arg9 c1_i32_14
  let v138 : BitVec 32 := Scalar.addi c0_i32_15 v137
  let c512_i32 : BitVec 32 := 512#32
  let v139 : BitVec 32 := Scalar.muli v138 c512_i32
  let v140 : BitVec 32 := v139
  let v143 : Index := Scalar.indexCast v140
  let c0_81 : Index := 0#32
  ![0, v143.toNat, 0]
def k0_off50 (i : grid0.Coords) (k0_t2 : Fin (k0_t2_loop i).trips) : Fin 3 → Nat :=
  let c0_85 : Index := 0#32
  let c0_i32_15 : BitVec 32 := 0#32
  let c0_i32_16 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c0_i32_10 : BitVec 32 := 0#32
  let v29 : BitVec 32 := Scalar.subi v16 c0_i32_10
  let c1_i32_11 : BitVec 32 := 1#32
  let c1_i32_12 : BitVec 32 := 1#32
  let v30 : BitVec 32 := Scalar.subi c1_i32_11 c1_i32_12
  let v31 : BitVec 32 := Scalar.addi v29 v30
  let c1_i32_13 : BitVec 32 := 1#32
  let v32 : BitVec 32 := Scalar.divsi v31 c1_i32_13
  let v33 : BitVec 32 := Scalar.subi v32 c0_i32_16
  let c1_i32_17 : BitVec 32 := 1#32
  let v35 : BitVec 32 := Scalar.divsi v33 c1_i32_17
  let v36 : BitVec 32 := Scalar.muli v35 c1_i32_17
  let v37 : BitVec 32 := Scalar.addi c0_i32_16 v36
  let c1_i32_19 : BitVec 32 := 1#32
  let arg9 : BitVec 32 := Scf.iv v37 c1_i32_19 k0_t2
  let c1_i32_14 : BitVec 32 := 1#32
  let v137 : BitVec 32 := Scalar.muli arg9 c1_i32_14
  let v138 : BitVec 32 := Scalar.addi c0_i32_15 v137
  let c512_i32 : BitVec 32 := 512#32
  let v139 : BitVec 32 := Scalar.muli v138 c512_i32
  let v140 : BitVec 32 := v139
  let v149 : Index := Scalar.indexCast v140
  let c128_86 : Index := 128#32
  ![0, v149.toNat, 128]
def k0_off51 (i : grid0.Coords) (k0_t2 : Fin (k0_t2_loop i).trips) : Fin 3 → Nat :=
  let c0_91 : Index := 0#32
  let c0_i32_15 : BitVec 32 := 0#32
  let c0_i32_16 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c0_i32_10 : BitVec 32 := 0#32
  let v29 : BitVec 32 := Scalar.subi v16 c0_i32_10
  let c1_i32_11 : BitVec 32 := 1#32
  let c1_i32_12 : BitVec 32 := 1#32
  let v30 : BitVec 32 := Scalar.subi c1_i32_11 c1_i32_12
  let v31 : BitVec 32 := Scalar.addi v29 v30
  let c1_i32_13 : BitVec 32 := 1#32
  let v32 : BitVec 32 := Scalar.divsi v31 c1_i32_13
  let v33 : BitVec 32 := Scalar.subi v32 c0_i32_16
  let c1_i32_17 : BitVec 32 := 1#32
  let v35 : BitVec 32 := Scalar.divsi v33 c1_i32_17
  let v36 : BitVec 32 := Scalar.muli v35 c1_i32_17
  let v37 : BitVec 32 := Scalar.addi c0_i32_16 v36
  let c1_i32_19 : BitVec 32 := 1#32
  let arg9 : BitVec 32 := Scf.iv v37 c1_i32_19 k0_t2
  let c1_i32_14 : BitVec 32 := 1#32
  let v137 : BitVec 32 := Scalar.muli arg9 c1_i32_14
  let v138 : BitVec 32 := Scalar.addi c0_i32_15 v137
  let c512_i32 : BitVec 32 := 512#32
  let v139 : BitVec 32 := Scalar.muli v138 c512_i32
  let v140 : BitVec 32 := v139
  let v155 : Index := Scalar.indexCast v140
  let c256_92 : Index := 256#32
  ![0, v155.toNat, 256]
def k0_off52 (i : grid0.Coords) (k0_t2 : Fin (k0_t2_loop i).trips) : Fin 3 → Nat :=
  let c0_97 : Index := 0#32
  let c0_i32_15 : BitVec 32 := 0#32
  let c0_i32_16 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c0_i32_10 : BitVec 32 := 0#32
  let v29 : BitVec 32 := Scalar.subi v16 c0_i32_10
  let c1_i32_11 : BitVec 32 := 1#32
  let c1_i32_12 : BitVec 32 := 1#32
  let v30 : BitVec 32 := Scalar.subi c1_i32_11 c1_i32_12
  let v31 : BitVec 32 := Scalar.addi v29 v30
  let c1_i32_13 : BitVec 32 := 1#32
  let v32 : BitVec 32 := Scalar.divsi v31 c1_i32_13
  let v33 : BitVec 32 := Scalar.subi v32 c0_i32_16
  let c1_i32_17 : BitVec 32 := 1#32
  let v35 : BitVec 32 := Scalar.divsi v33 c1_i32_17
  let v36 : BitVec 32 := Scalar.muli v35 c1_i32_17
  let v37 : BitVec 32 := Scalar.addi c0_i32_16 v36
  let c1_i32_19 : BitVec 32 := 1#32
  let arg9 : BitVec 32 := Scf.iv v37 c1_i32_19 k0_t2
  let c1_i32_14 : BitVec 32 := 1#32
  let v137 : BitVec 32 := Scalar.muli arg9 c1_i32_14
  let v138 : BitVec 32 := Scalar.addi c0_i32_15 v137
  let c512_i32 : BitVec 32 := 512#32
  let v139 : BitVec 32 := Scalar.muli v138 c512_i32
  let v140 : BitVec 32 := v139
  let v161 : Index := Scalar.indexCast v140
  let c384_98 : Index := 384#32
  ![0, v161.toNat, 384]
def k0_off53 (i : grid0.Coords) (k0_t2 : Fin (k0_t2_loop i).trips) : Fin 3 → Nat :=
  let c0_103 : Index := 0#32
  let c0_i32_15 : BitVec 32 := 0#32
  let c0_i32_16 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c0_i32_10 : BitVec 32 := 0#32
  let v29 : BitVec 32 := Scalar.subi v16 c0_i32_10
  let c1_i32_11 : BitVec 32 := 1#32
  let c1_i32_12 : BitVec 32 := 1#32
  let v30 : BitVec 32 := Scalar.subi c1_i32_11 c1_i32_12
  let v31 : BitVec 32 := Scalar.addi v29 v30
  let c1_i32_13 : BitVec 32 := 1#32
  let v32 : BitVec 32 := Scalar.divsi v31 c1_i32_13
  let v33 : BitVec 32 := Scalar.subi v32 c0_i32_16
  let c1_i32_17 : BitVec 32 := 1#32
  let v35 : BitVec 32 := Scalar.divsi v33 c1_i32_17
  let v36 : BitVec 32 := Scalar.muli v35 c1_i32_17
  let v37 : BitVec 32 := Scalar.addi c0_i32_16 v36
  let c1_i32_19 : BitVec 32 := 1#32
  let arg9 : BitVec 32 := Scf.iv v37 c1_i32_19 k0_t2
  let c1_i32_14 : BitVec 32 := 1#32
  let v137 : BitVec 32 := Scalar.muli arg9 c1_i32_14
  let v138 : BitVec 32 := Scalar.addi c0_i32_15 v137
  let c512_i32 : BitVec 32 := 512#32
  let v139 : BitVec 32 := Scalar.muli v138 c512_i32
  let v140 : BitVec 32 := v139
  let v167 : Index := Scalar.indexCast v140
  let c512_104 : Index := 512#32
  ![0, v167.toNat, 512]
def k0_off54 (i : grid0.Coords) (k0_t2 : Fin (k0_t2_loop i).trips) : Fin 3 → Nat :=
  let c0_109 : Index := 0#32
  let c0_i32_15 : BitVec 32 := 0#32
  let c0_i32_16 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c0_i32_10 : BitVec 32 := 0#32
  let v29 : BitVec 32 := Scalar.subi v16 c0_i32_10
  let c1_i32_11 : BitVec 32 := 1#32
  let c1_i32_12 : BitVec 32 := 1#32
  let v30 : BitVec 32 := Scalar.subi c1_i32_11 c1_i32_12
  let v31 : BitVec 32 := Scalar.addi v29 v30
  let c1_i32_13 : BitVec 32 := 1#32
  let v32 : BitVec 32 := Scalar.divsi v31 c1_i32_13
  let v33 : BitVec 32 := Scalar.subi v32 c0_i32_16
  let c1_i32_17 : BitVec 32 := 1#32
  let v35 : BitVec 32 := Scalar.divsi v33 c1_i32_17
  let v36 : BitVec 32 := Scalar.muli v35 c1_i32_17
  let v37 : BitVec 32 := Scalar.addi c0_i32_16 v36
  let c1_i32_19 : BitVec 32 := 1#32
  let arg9 : BitVec 32 := Scf.iv v37 c1_i32_19 k0_t2
  let c1_i32_14 : BitVec 32 := 1#32
  let v137 : BitVec 32 := Scalar.muli arg9 c1_i32_14
  let v138 : BitVec 32 := Scalar.addi c0_i32_15 v137
  let c512_i32 : BitVec 32 := 512#32
  let v139 : BitVec 32 := Scalar.muli v138 c512_i32
  let v140 : BitVec 32 := v139
  let v173 : Index := Scalar.indexCast v140
  let c640_110 : Index := 640#32
  ![0, v173.toNat, 640]
def k0_off55 (i : grid0.Coords) (k0_t2 : Fin (k0_t2_loop i).trips) : Fin 3 → Nat :=
  let c0_115 : Index := 0#32
  let c0_i32_15 : BitVec 32 := 0#32
  let c0_i32_16 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c0_i32_10 : BitVec 32 := 0#32
  let v29 : BitVec 32 := Scalar.subi v16 c0_i32_10
  let c1_i32_11 : BitVec 32 := 1#32
  let c1_i32_12 : BitVec 32 := 1#32
  let v30 : BitVec 32 := Scalar.subi c1_i32_11 c1_i32_12
  let v31 : BitVec 32 := Scalar.addi v29 v30
  let c1_i32_13 : BitVec 32 := 1#32
  let v32 : BitVec 32 := Scalar.divsi v31 c1_i32_13
  let v33 : BitVec 32 := Scalar.subi v32 c0_i32_16
  let c1_i32_17 : BitVec 32 := 1#32
  let v35 : BitVec 32 := Scalar.divsi v33 c1_i32_17
  let v36 : BitVec 32 := Scalar.muli v35 c1_i32_17
  let v37 : BitVec 32 := Scalar.addi c0_i32_16 v36
  let c1_i32_19 : BitVec 32 := 1#32
  let arg9 : BitVec 32 := Scf.iv v37 c1_i32_19 k0_t2
  let c1_i32_14 : BitVec 32 := 1#32
  let v137 : BitVec 32 := Scalar.muli arg9 c1_i32_14
  let v138 : BitVec 32 := Scalar.addi c0_i32_15 v137
  let c512_i32 : BitVec 32 := 512#32
  let v139 : BitVec 32 := Scalar.muli v138 c512_i32
  let v140 : BitVec 32 := v139
  let v179 : Index := Scalar.indexCast v140
  let c768_116 : Index := 768#32
  ![0, v179.toNat, 768]
def k0_off56 (i : grid0.Coords) (k0_t2 : Fin (k0_t2_loop i).trips) : Fin 3 → Nat :=
  let c0_121 : Index := 0#32
  let c0_i32_15 : BitVec 32 := 0#32
  let c0_i32_16 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c0_i32_10 : BitVec 32 := 0#32
  let v29 : BitVec 32 := Scalar.subi v16 c0_i32_10
  let c1_i32_11 : BitVec 32 := 1#32
  let c1_i32_12 : BitVec 32 := 1#32
  let v30 : BitVec 32 := Scalar.subi c1_i32_11 c1_i32_12
  let v31 : BitVec 32 := Scalar.addi v29 v30
  let c1_i32_13 : BitVec 32 := 1#32
  let v32 : BitVec 32 := Scalar.divsi v31 c1_i32_13
  let v33 : BitVec 32 := Scalar.subi v32 c0_i32_16
  let c1_i32_17 : BitVec 32 := 1#32
  let v35 : BitVec 32 := Scalar.divsi v33 c1_i32_17
  let v36 : BitVec 32 := Scalar.muli v35 c1_i32_17
  let v37 : BitVec 32 := Scalar.addi c0_i32_16 v36
  let c1_i32_19 : BitVec 32 := 1#32
  let arg9 : BitVec 32 := Scf.iv v37 c1_i32_19 k0_t2
  let c1_i32_14 : BitVec 32 := 1#32
  let v137 : BitVec 32 := Scalar.muli arg9 c1_i32_14
  let v138 : BitVec 32 := Scalar.addi c0_i32_15 v137
  let c512_i32 : BitVec 32 := 512#32
  let v139 : BitVec 32 := Scalar.muli v138 c512_i32
  let v140 : BitVec 32 := v139
  let v185 : Index := Scalar.indexCast v140
  let c896_122 : Index := 896#32
  ![0, v185.toNat, 896]
def k0_off57 (i : grid0.Coords) (k0_t2 : Fin (k0_t2_loop i).trips) : Fin 3 → Nat :=
  let c0_126 : Index := 0#32
  let c0_i32_15 : BitVec 32 := 0#32
  let c0_i32_16 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c0_i32_10 : BitVec 32 := 0#32
  let v29 : BitVec 32 := Scalar.subi v16 c0_i32_10
  let c1_i32_11 : BitVec 32 := 1#32
  let c1_i32_12 : BitVec 32 := 1#32
  let v30 : BitVec 32 := Scalar.subi c1_i32_11 c1_i32_12
  let v31 : BitVec 32 := Scalar.addi v29 v30
  let c1_i32_13 : BitVec 32 := 1#32
  let v32 : BitVec 32 := Scalar.divsi v31 c1_i32_13
  let v33 : BitVec 32 := Scalar.subi v32 c0_i32_16
  let c1_i32_17 : BitVec 32 := 1#32
  let v35 : BitVec 32 := Scalar.divsi v33 c1_i32_17
  let v36 : BitVec 32 := Scalar.muli v35 c1_i32_17
  let v37 : BitVec 32 := Scalar.addi c0_i32_16 v36
  let c1_i32_19 : BitVec 32 := 1#32
  let arg9 : BitVec 32 := Scf.iv v37 c1_i32_19 k0_t2
  let c1_i32_14 : BitVec 32 := 1#32
  let v137 : BitVec 32 := Scalar.muli arg9 c1_i32_14
  let v138 : BitVec 32 := Scalar.addi c0_i32_15 v137
  let c512_i32 : BitVec 32 := 512#32
  let v139 : BitVec 32 := Scalar.muli v138 c512_i32
  let v140 : BitVec 32 := v139
  let v191 : Index := Scalar.indexCast v140
  let c1024_127 : Index := 1024#32
  ![0, v191.toNat, 1024]
def k0_off58 (i : grid0.Coords) (k0_t2 : Fin (k0_t2_loop i).trips) : Fin 3 → Nat :=
  let c0_131 : Index := 0#32
  let c0_i32_15 : BitVec 32 := 0#32
  let c0_i32_16 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c0_i32_10 : BitVec 32 := 0#32
  let v29 : BitVec 32 := Scalar.subi v16 c0_i32_10
  let c1_i32_11 : BitVec 32 := 1#32
  let c1_i32_12 : BitVec 32 := 1#32
  let v30 : BitVec 32 := Scalar.subi c1_i32_11 c1_i32_12
  let v31 : BitVec 32 := Scalar.addi v29 v30
  let c1_i32_13 : BitVec 32 := 1#32
  let v32 : BitVec 32 := Scalar.divsi v31 c1_i32_13
  let v33 : BitVec 32 := Scalar.subi v32 c0_i32_16
  let c1_i32_17 : BitVec 32 := 1#32
  let v35 : BitVec 32 := Scalar.divsi v33 c1_i32_17
  let v36 : BitVec 32 := Scalar.muli v35 c1_i32_17
  let v37 : BitVec 32 := Scalar.addi c0_i32_16 v36
  let c1_i32_19 : BitVec 32 := 1#32
  let arg9 : BitVec 32 := Scf.iv v37 c1_i32_19 k0_t2
  let c1_i32_14 : BitVec 32 := 1#32
  let v137 : BitVec 32 := Scalar.muli arg9 c1_i32_14
  let v138 : BitVec 32 := Scalar.addi c0_i32_15 v137
  let c512_i32 : BitVec 32 := 512#32
  let v139 : BitVec 32 := Scalar.muli v138 c512_i32
  let v140 : BitVec 32 := v139
  let v197 : Index := Scalar.indexCast v140
  let c1152_132 : Index := 1152#32
  ![0, v197.toNat, 1152]
def k0_off59 (i : grid0.Coords) (k0_t2 : Fin (k0_t2_loop i).trips) : Fin 3 → Nat :=
  let c0_136 : Index := 0#32
  let c0_i32_15 : BitVec 32 := 0#32
  let c0_i32_16 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c0_i32_10 : BitVec 32 := 0#32
  let v29 : BitVec 32 := Scalar.subi v16 c0_i32_10
  let c1_i32_11 : BitVec 32 := 1#32
  let c1_i32_12 : BitVec 32 := 1#32
  let v30 : BitVec 32 := Scalar.subi c1_i32_11 c1_i32_12
  let v31 : BitVec 32 := Scalar.addi v29 v30
  let c1_i32_13 : BitVec 32 := 1#32
  let v32 : BitVec 32 := Scalar.divsi v31 c1_i32_13
  let v33 : BitVec 32 := Scalar.subi v32 c0_i32_16
  let c1_i32_17 : BitVec 32 := 1#32
  let v35 : BitVec 32 := Scalar.divsi v33 c1_i32_17
  let v36 : BitVec 32 := Scalar.muli v35 c1_i32_17
  let v37 : BitVec 32 := Scalar.addi c0_i32_16 v36
  let c1_i32_19 : BitVec 32 := 1#32
  let arg9 : BitVec 32 := Scf.iv v37 c1_i32_19 k0_t2
  let c1_i32_14 : BitVec 32 := 1#32
  let v137 : BitVec 32 := Scalar.muli arg9 c1_i32_14
  let v138 : BitVec 32 := Scalar.addi c0_i32_15 v137
  let c512_i32 : BitVec 32 := 512#32
  let v139 : BitVec 32 := Scalar.muli v138 c512_i32
  let v140 : BitVec 32 := v139
  let v203 : Index := Scalar.indexCast v140
  let c1280_137 : Index := 1280#32
  ![0, v203.toNat, 1280]
def k0_off60 (i : grid0.Coords) (k0_t2 : Fin (k0_t2_loop i).trips) : Fin 3 → Nat :=
  let c0_141 : Index := 0#32
  let c0_i32_15 : BitVec 32 := 0#32
  let c0_i32_16 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c0_i32_10 : BitVec 32 := 0#32
  let v29 : BitVec 32 := Scalar.subi v16 c0_i32_10
  let c1_i32_11 : BitVec 32 := 1#32
  let c1_i32_12 : BitVec 32 := 1#32
  let v30 : BitVec 32 := Scalar.subi c1_i32_11 c1_i32_12
  let v31 : BitVec 32 := Scalar.addi v29 v30
  let c1_i32_13 : BitVec 32 := 1#32
  let v32 : BitVec 32 := Scalar.divsi v31 c1_i32_13
  let v33 : BitVec 32 := Scalar.subi v32 c0_i32_16
  let c1_i32_17 : BitVec 32 := 1#32
  let v35 : BitVec 32 := Scalar.divsi v33 c1_i32_17
  let v36 : BitVec 32 := Scalar.muli v35 c1_i32_17
  let v37 : BitVec 32 := Scalar.addi c0_i32_16 v36
  let c1_i32_19 : BitVec 32 := 1#32
  let arg9 : BitVec 32 := Scf.iv v37 c1_i32_19 k0_t2
  let c1_i32_14 : BitVec 32 := 1#32
  let v137 : BitVec 32 := Scalar.muli arg9 c1_i32_14
  let v138 : BitVec 32 := Scalar.addi c0_i32_15 v137
  let c512_i32 : BitVec 32 := 512#32
  let v139 : BitVec 32 := Scalar.muli v138 c512_i32
  let v140 : BitVec 32 := v139
  let v209 : Index := Scalar.indexCast v140
  let c1408_142 : Index := 1408#32
  ![0, v209.toNat, 1408]
def k0_off61 (i : grid0.Coords) (k0_t2 : Fin (k0_t2_loop i).trips) : Fin 3 → Nat :=
  let c0_146 : Index := 0#32
  let c0_i32_15 : BitVec 32 := 0#32
  let c0_i32_16 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c0_i32_10 : BitVec 32 := 0#32
  let v29 : BitVec 32 := Scalar.subi v16 c0_i32_10
  let c1_i32_11 : BitVec 32 := 1#32
  let c1_i32_12 : BitVec 32 := 1#32
  let v30 : BitVec 32 := Scalar.subi c1_i32_11 c1_i32_12
  let v31 : BitVec 32 := Scalar.addi v29 v30
  let c1_i32_13 : BitVec 32 := 1#32
  let v32 : BitVec 32 := Scalar.divsi v31 c1_i32_13
  let v33 : BitVec 32 := Scalar.subi v32 c0_i32_16
  let c1_i32_17 : BitVec 32 := 1#32
  let v35 : BitVec 32 := Scalar.divsi v33 c1_i32_17
  let v36 : BitVec 32 := Scalar.muli v35 c1_i32_17
  let v37 : BitVec 32 := Scalar.addi c0_i32_16 v36
  let c1_i32_19 : BitVec 32 := 1#32
  let arg9 : BitVec 32 := Scf.iv v37 c1_i32_19 k0_t2
  let c1_i32_14 : BitVec 32 := 1#32
  let v137 : BitVec 32 := Scalar.muli arg9 c1_i32_14
  let v138 : BitVec 32 := Scalar.addi c0_i32_15 v137
  let c512_i32 : BitVec 32 := 512#32
  let v139 : BitVec 32 := Scalar.muli v138 c512_i32
  let v140 : BitVec 32 := v139
  let v215 : Index := Scalar.indexCast v140
  let c1536_147 : Index := 1536#32
  ![0, v215.toNat, 1536]
def k0_off62 (i : grid0.Coords) (k0_t2 : Fin (k0_t2_loop i).trips) : Fin 3 → Nat :=
  let c0_151 : Index := 0#32
  let c0_i32_15 : BitVec 32 := 0#32
  let c0_i32_16 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c0_i32_10 : BitVec 32 := 0#32
  let v29 : BitVec 32 := Scalar.subi v16 c0_i32_10
  let c1_i32_11 : BitVec 32 := 1#32
  let c1_i32_12 : BitVec 32 := 1#32
  let v30 : BitVec 32 := Scalar.subi c1_i32_11 c1_i32_12
  let v31 : BitVec 32 := Scalar.addi v29 v30
  let c1_i32_13 : BitVec 32 := 1#32
  let v32 : BitVec 32 := Scalar.divsi v31 c1_i32_13
  let v33 : BitVec 32 := Scalar.subi v32 c0_i32_16
  let c1_i32_17 : BitVec 32 := 1#32
  let v35 : BitVec 32 := Scalar.divsi v33 c1_i32_17
  let v36 : BitVec 32 := Scalar.muli v35 c1_i32_17
  let v37 : BitVec 32 := Scalar.addi c0_i32_16 v36
  let c1_i32_19 : BitVec 32 := 1#32
  let arg9 : BitVec 32 := Scf.iv v37 c1_i32_19 k0_t2
  let c1_i32_14 : BitVec 32 := 1#32
  let v137 : BitVec 32 := Scalar.muli arg9 c1_i32_14
  let v138 : BitVec 32 := Scalar.addi c0_i32_15 v137
  let c512_i32 : BitVec 32 := 512#32
  let v139 : BitVec 32 := Scalar.muli v138 c512_i32
  let v140 : BitVec 32 := v139
  let v221 : Index := Scalar.indexCast v140
  let c1664_152 : Index := 1664#32
  ![0, v221.toNat, 1664]
def k0_off63 (i : grid0.Coords) (k0_t2 : Fin (k0_t2_loop i).trips) : Fin 3 → Nat :=
  let c0_156 : Index := 0#32
  let c0_i32_15 : BitVec 32 := 0#32
  let c0_i32_16 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c0_i32_10 : BitVec 32 := 0#32
  let v29 : BitVec 32 := Scalar.subi v16 c0_i32_10
  let c1_i32_11 : BitVec 32 := 1#32
  let c1_i32_12 : BitVec 32 := 1#32
  let v30 : BitVec 32 := Scalar.subi c1_i32_11 c1_i32_12
  let v31 : BitVec 32 := Scalar.addi v29 v30
  let c1_i32_13 : BitVec 32 := 1#32
  let v32 : BitVec 32 := Scalar.divsi v31 c1_i32_13
  let v33 : BitVec 32 := Scalar.subi v32 c0_i32_16
  let c1_i32_17 : BitVec 32 := 1#32
  let v35 : BitVec 32 := Scalar.divsi v33 c1_i32_17
  let v36 : BitVec 32 := Scalar.muli v35 c1_i32_17
  let v37 : BitVec 32 := Scalar.addi c0_i32_16 v36
  let c1_i32_19 : BitVec 32 := 1#32
  let arg9 : BitVec 32 := Scf.iv v37 c1_i32_19 k0_t2
  let c1_i32_14 : BitVec 32 := 1#32
  let v137 : BitVec 32 := Scalar.muli arg9 c1_i32_14
  let v138 : BitVec 32 := Scalar.addi c0_i32_15 v137
  let c512_i32 : BitVec 32 := 512#32
  let v139 : BitVec 32 := Scalar.muli v138 c512_i32
  let v140 : BitVec 32 := v139
  let v227 : Index := Scalar.indexCast v140
  let c1792_157 : Index := 1792#32
  ![0, v227.toNat, 1792]
def k0_off64 (i : grid0.Coords) (k0_t2 : Fin (k0_t2_loop i).trips) : Fin 3 → Nat :=
  let c0_161 : Index := 0#32
  let c0_i32_15 : BitVec 32 := 0#32
  let c0_i32_16 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let v0 : BitVec 32 := Scalar.divsi arg2 c2_i32
  let c1_i32 : BitVec 32 := 1#32
  let v15 : BitVec 32 := Scalar.subi v0 c1_i32
  let v16 : BitVec 32 := Scalar.select v14 v15 v0
  let c0_i32_10 : BitVec 32 := 0#32
  let v29 : BitVec 32 := Scalar.subi v16 c0_i32_10
  let c1_i32_11 : BitVec 32 := 1#32
  let c1_i32_12 : BitVec 32 := 1#32
  let v30 : BitVec 32 := Scalar.subi c1_i32_11 c1_i32_12
  let v31 : BitVec 32 := Scalar.addi v29 v30
  let c1_i32_13 : BitVec 32 := 1#32
  let v32 : BitVec 32 := Scalar.divsi v31 c1_i32_13
  let v33 : BitVec 32 := Scalar.subi v32 c0_i32_16
  let c1_i32_17 : BitVec 32 := 1#32
  let v35 : BitVec 32 := Scalar.divsi v33 c1_i32_17
  let v36 : BitVec 32 := Scalar.muli v35 c1_i32_17
  let v37 : BitVec 32 := Scalar.addi c0_i32_16 v36
  let c1_i32_19 : BitVec 32 := 1#32
  let arg9 : BitVec 32 := Scf.iv v37 c1_i32_19 k0_t2
  let c1_i32_14 : BitVec 32 := 1#32
  let v137 : BitVec 32 := Scalar.muli arg9 c1_i32_14
  let v138 : BitVec 32 := Scalar.addi c0_i32_15 v137
  let c512_i32 : BitVec 32 := 512#32
  let v139 : BitVec 32 := Scalar.muli v138 c512_i32
  let v140 : BitVec 32 := v139
  let v233 : Index := Scalar.indexCast v140
  let c1920_162 : Index := 1920#32
  ![0, v233.toNat, 1920]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttentionRefIdeal.lean ====
abbrev S16384x2048 : Shape := ⟨2, ![16384, 2048]⟩
abbrev S8x2048x16x128 : Shape := ⟨4, ![8, 2048, 16, 128]⟩
abbrev S8x16x2048x128 : Shape := ⟨4, ![8, 16, 2048, 128]⟩
abbrev S8x2048x8x2x128 : Shape := ⟨5, ![8, 2048, 8, 2, 128]⟩
abbrev S8x2048x8x1x64 : Shape := ⟨5, ![8, 2048, 8, 1, 64]⟩
abbrev S8x2048x8x64 : Shape := ⟨4, ![8, 2048, 8, 64]⟩
abbrev S8x2048x8x2x64 : Shape := ⟨5, ![8, 2048, 8, 2, 64]⟩
abbrev S8x2048x16x64 : Shape := ⟨4, ![8, 2048, 16, 64]⟩
abbrev S8x16x2048x64 : Shape := ⟨4, ![8, 16, 2048, 64]⟩
abbrev S8x16x2048x2048 : Shape := ⟨4, ![8, 16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x16x2048 : Shape := ⟨3, ![8, 16, 2048]⟩
abbrev S8x16x2048x1 : Shape := ⟨4, ![8, 16, 2048, 1]⟩
abbrev S8x2048x1024 : Shape := ⟨3, ![8, 2048, 1024]⟩

abbrev nBuf : Space → Nat
  | .hbm => 54
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x2048, .bf16⟩
  | .hbm, ⟨3, _⟩ => ⟨S16384x2048, .f32⟩
  | .hbm, ⟨4, _⟩ => ⟨S8x2048x16x128, .f32⟩
  | .hbm, ⟨5, _⟩ => ⟨S8x16x2048x128, .f32⟩
  | .hbm, ⟨6, _⟩ => ⟨S16384x2048, .f32⟩
  | .hbm, ⟨7, _⟩ => ⟨S8x2048x16x128, .f32⟩
  | .hbm, ⟨8, _⟩ => ⟨S8x16x2048x128, .f32⟩
  | .hbm, ⟨9, _⟩ => ⟨S16384x2048, .f32⟩
  | .hbm, ⟨10, _⟩ => ⟨S8x2048x8x2x128, .f32⟩
  | .hbm, ⟨11, _⟩ => ⟨S8x2048x8x1x64, .f32⟩
  | .hbm, ⟨12, _⟩ => ⟨S8x2048x8x64, .f32⟩
  | .hbm, ⟨13, _⟩ => ⟨S8x2048x8x1x64, .f32⟩
  | .hbm, ⟨14, _⟩ => ⟨S8x2048x8x64, .f32⟩
  | .hbm, ⟨15, _⟩ => ⟨S8x2048x8x1x64, .f32⟩
  | .hbm, ⟨16, _⟩ => ⟨S8x2048x8x1x64, .f32⟩
  | .hbm, ⟨17, _⟩ => ⟨S8x2048x8x2x64, .f32⟩
  | .hbm, ⟨18, _⟩ => ⟨S8x2048x16x64, .f32⟩
  | .hbm, ⟨19, _⟩ => ⟨S8x16x2048x64, .f32⟩
  | .hbm, ⟨20, _⟩ => ⟨S8x16x2048x2048, .f32⟩
  | .hbm, ⟨21, _⟩ => ⟨S_, .f32⟩
  | .hbm, ⟨22, _⟩ => ⟨S_, .f32⟩
  | .hbm, ⟨23, _⟩ => ⟨S8x16x2048x2048, .f32⟩
  | .hbm, ⟨24, _⟩ => ⟨S8x16x2048x2048, .f32⟩
  | .hbm, ⟨25, _⟩ => ⟨S2048, .i32⟩
  | .hbm, ⟨26, _⟩ => ⟨S1x2048, .i32⟩
  | .hbm, ⟨27, _⟩ => ⟨S2048x1, .i32⟩
  | .hbm, ⟨28, _⟩ => ⟨S2048x2048, .i32⟩
  | .hbm, ⟨29, _⟩ => ⟨S2048x2048, .i32⟩
  | .hbm, ⟨30, _⟩ => ⟨S2048x2048, .i1⟩
  | .hbm, ⟨31, _⟩ => ⟨S_, .f32⟩
  | .hbm, ⟨32, _⟩ => ⟨S_, .f32⟩
  | .hbm, ⟨33, _⟩ => ⟨S8x16x2048x2048, .i1⟩
  | .hbm, ⟨34, _⟩ => ⟨S8x16x2048x2048, .f32⟩
  | .hbm, ⟨35, _⟩ => ⟨S8x16x2048x2048, .f32⟩
  | .hbm, ⟨36, _⟩ => ⟨S_, .f32⟩
  | .hbm, ⟨37, _⟩ => ⟨S8x16x2048, .f32⟩
  | .hbm, ⟨38, _⟩ => ⟨S_, .f32⟩
  | .hbm, ⟨39, _⟩ => ⟨S8x16x2048, .f32⟩
  | .hbm, ⟨40, _⟩ => ⟨S8x16x2048, .f32⟩
  | .hbm, ⟨41, _⟩ => ⟨S8x16x2048x1, .f32⟩
  | .hbm, ⟨42, _⟩ => ⟨S8x16x2048x2048, .f32⟩
  | .hbm, ⟨43, _⟩ => ⟨S8x16x2048x2048, .f32⟩
  | .hbm, ⟨44, _⟩ => ⟨S8x16x2048x2048, .f32⟩
  | .hbm, ⟨45, _⟩ => ⟨S_, .f32⟩
  | .hbm, ⟨46, _⟩ => ⟨S8x16x2048, .f32⟩
  | .hbm, ⟨47, _⟩ => ⟨S8x16x2048x1, .f32⟩
  | .hbm, ⟨48, _⟩ => ⟨S8x16x2048x2048, .f32⟩
  | .hbm, ⟨49, _⟩ => ⟨S8x16x2048x2048, .f32⟩
  | .hbm, ⟨50, _⟩ => ⟨S8x16x2048x64, .f32⟩
  | .hbm, ⟨51, _⟩ => ⟨S8x2048x16x64, .f32⟩
  | .hbm, ⟨52, _⟩ => ⟨S8x2048x1024, .f32⟩
  | .hbm, ⟨53, _⟩ => ⟨S8x2048x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩

abbrev nD : Nat := 1
abbrev τ : Topo := Topo.v7x

variable {F : FTy → Type} [FloatOps F]
-- ==== LastTail.lean ====
abbrev S16384x1024 : Shape := ⟨2, ![16384, 1024]⟩
abbrev S4x16384x256 : Shape := ⟨3, ![4, 16384, 256]⟩
abbrev S2x1024x1024 : Shape := ⟨3, ![2, 1024, 1024]⟩
abbrev S4x1024x1024 : Shape := ⟨3, ![4, 1024, 1024]⟩
abbrev S4x256x1024 : Shape := ⟨3, ![4, 256, 1024]⟩
abbrev S512x1024 : Shape := ⟨2, ![512, 1024]⟩
abbrev S1x512x256 : Shape := ⟨3, ![1, 512, 256]⟩
abbrev S1x1024x1024 : Shape := ⟨3, ![1, 1024, 1024]⟩
abbrev S1x256x1024 : Shape := ⟨3, ![1, 256, 1024]⟩
abbrev S256x1024 : Shape := ⟨2, ![256, 1024]⟩
abbrev S1x256x256 : Shape := ⟨3, ![1, 256, 256]⟩
abbrev S256x256 : Shape := ⟨2, ![256, 256]⟩
abbrev S1024x1024 : Shape := ⟨2, ![1024, 1024]⟩

abbrev nBuf : Space → Nat
  | .hbm => 11
  | .vmem => 13
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .f32⟩
  | .hbm, ⟨3, _⟩ => ⟨S4x16384x256, .f32⟩
  | .hbm, ⟨4, _⟩ => ⟨S2x1024x1024, .f32⟩
  | .hbm, ⟨5, _⟩ => ⟨S4x1024x1024, .f32⟩
  | .hbm, ⟨6, _⟩ => ⟨S4x256x1024, .f32⟩
  | .hbm, ⟨7, _⟩ => ⟨S2x1024x1024, .bf16⟩
  | .hbm, ⟨8, _⟩ => ⟨S4x1024x1024, .bf16⟩
  | .hbm, ⟨9, _⟩ => ⟨S4x256x1024, .bf16⟩
  | .hbm, ⟨10, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1x512x256, .f32⟩
  | .local _ .vmem, ⟨7, _⟩ => ⟨S1x512x256, .f32⟩
  | .local _ .vmem, ⟨8, _⟩ => ⟨S1x1024x1024, .bf16⟩
  | .local _ .vmem, ⟨9, _⟩ => ⟨S1x1024x1024, .bf16⟩
  | .local _ .vmem, ⟨10, _⟩ => ⟨S1x256x1024, .bf16⟩
  | .local _ .vmem, ⟨11, _⟩ => ⟨S512x1024, .f32⟩
  | .local _ .vmem, ⟨12, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== LastTailRefIdeal.lean ====
abbrev S16384x1024 : Shape := ⟨2, ![16384, 1024]⟩
abbrev S4x16384x256 : Shape := ⟨3, ![4, 16384, 256]⟩
abbrev S2x1024x1024 : Shape := ⟨3, ![2, 1024, 1024]⟩
abbrev S4x1024x1024 : Shape := ⟨3, ![4, 1024, 1024]⟩
abbrev S4x256x1024 : Shape := ⟨3, ![4, 256, 1024]⟩
abbrev S1x16384x256 : Shape := ⟨3, ![1, 16384, 256]⟩
abbrev S16384x256 : Shape := ⟨2, ![16384, 256]⟩
abbrev S1x1024x1024 : Shape := ⟨3, ![1, 1024, 1024]⟩
abbrev S1024x1024 : Shape := ⟨2, ![1024, 1024]⟩
abbrev S1x256x1024 : Shape := ⟨3, ![1, 256, 1024]⟩
abbrev S256x1024 : Shape := ⟨2, ![256, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .f32⟩
  | .hbm, ⟨3, _⟩ => ⟨S4x16384x256, .f32⟩
  | .hbm, ⟨4, _⟩ => ⟨S2x1024x1024, .f32⟩
  | .hbm, ⟨5, _⟩ => ⟨S4x1024x1024, .f32⟩
  | .hbm, ⟨6, _⟩ => ⟨S4x256x1024, .f32⟩
  | .hbm, ⟨7, _⟩ => ⟨S1x16384x256, .f32⟩
  | .hbm, ⟨8, _⟩ => ⟨S16384x256, .f32⟩
  | .hbm, ⟨9, _⟩ => ⟨S1x1024x1024, .f32⟩
  | .hbm, ⟨10, _⟩ => ⟨S1024x1024, .f32⟩
  | .hbm, ⟨11, _⟩ => ⟨S1x1024x1024, .f32⟩
  | .hbm, ⟨12, _⟩ => ⟨S1024x1024, .f32⟩
  | .hbm, ⟨13, _⟩ => ⟨S1x256x1024, .f32⟩
  | .hbm, ⟨14, _⟩ => ⟨S256x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_v18 : Ref sig .tc := ⟨.hbm, 34, rfl⟩
abbrev main_cst_0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩

abbrev nD : Nat := 1
abbrev τ : Topo := Topo.v7x

variable {F : FTy → Type} [FloatOps F]
-- ==== SharedTail.lean ====
abbrev S16384x1024 : Shape := ⟨2, ![16384, 1024]⟩
abbrev S4x16384x256 : Shape := ⟨3, ![4, 16384, 256]⟩
abbrev S2x1024x1024 : Shape := ⟨3, ![2, 1024, 1024]⟩
abbrev S4x1024x1024 : Shape := ⟨3, ![4, 1024, 1024]⟩
abbrev S4x256x1024 : Shape := ⟨3, ![4, 256, 1024]⟩
abbrev S1024 : Shape := ⟨1, ![1024]⟩
abbrev S1024x2048 : Shape := ⟨2, ![1024, 2048]⟩
abbrev S2x1024x2048 : Shape := ⟨3, ![2, 1024, 2048]⟩
abbrev S1x1024 : Shape := ⟨2, ![1, 1024]⟩
abbrev S512x1024 : Shape := ⟨2, ![512, 1024]⟩
abbrev S1x512x256 : Shape := ⟨3, ![1, 512, 256]⟩
abbrev S1x1024x1024 : Shape := ⟨3, ![1, 1024, 1024]⟩
abbrev S1x256x1024 : Shape := ⟨3, ![1, 256, 1024]⟩
abbrev S256x1024 : Shape := ⟨2, ![256, 1024]⟩
abbrev S1x256x256 : Shape := ⟨3, ![1, 256, 256]⟩
abbrev S256x256 : Shape := ⟨2, ![256, 256]⟩
abbrev S1024x1024 : Shape := ⟨2, ![1024, 1024]⟩
abbrev S256 : Shape := ⟨1, ![256]⟩
abbrev S256x1 : Shape := ⟨2, ![256, 1]⟩
abbrev S256x2048 : Shape := ⟨2, ![256, 2048]⟩

abbrev nBuf : Space → Nat
  | .hbm => 23
  | .vmem => 26
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .f32⟩
  | .hbm, ⟨3, _⟩ => ⟨S4x16384x256, .f32⟩
  | .hbm, ⟨4, _⟩ => ⟨S2x1024x1024, .f32⟩
  | .hbm, ⟨5, _⟩ => ⟨S4x1024x1024, .f32⟩
  | .hbm, ⟨6, _⟩ => ⟨S4x256x1024, .f32⟩
  | .hbm, ⟨7, _⟩ => ⟨S1024, .f32⟩
  | .hbm, ⟨8, _⟩ => ⟨S1024x2048, .f32⟩
  | .hbm, ⟨9, _⟩ => ⟨S1024, .f32⟩
  | .hbm, ⟨10, _⟩ => ⟨S2x1024x2048, .f32⟩
  | .hbm, ⟨11, _⟩ => ⟨S2x1024x1024, .bf16⟩
  | .hbm, ⟨12, _⟩ => ⟨S4x1024x1024, .bf16⟩
  | .hbm, ⟨13, _⟩ => ⟨S4x256x1024, .bf16⟩
  | .hbm, ⟨14, _⟩ => ⟨S2x1024x2048, .bf16⟩
  | .hbm, ⟨15, _⟩ => ⟨S1x1024, .f32⟩
  | .hbm, ⟨16, _⟩ => ⟨S1024x2048, .bf16⟩
  | .hbm, ⟨17, _⟩ => ⟨S1x1024, .f32⟩
  | .hbm, ⟨18, _⟩ => ⟨S16384x1024, .f32⟩
  | .hbm, ⟨19, _⟩ => ⟨S16384x1024, .bf16⟩
  | .hbm, ⟨20, _⟩ => ⟨S16384x1024, .bf16⟩
  | .hbm, ⟨21, _⟩ => ⟨S16384x1024, .bf16⟩
  | .hbm, ⟨22, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1x512x256, .f32⟩
  | .local _ .vmem, ⟨7, _⟩ => ⟨S1x512x256, .f32⟩
  | .local _ .vmem, ⟨8, _⟩ => ⟨S1x1024x1024, .bf16⟩
  | .local _ .vmem, ⟨9, _⟩ => ⟨S1x1024x1024, .bf16⟩
  | .local _ .vmem, ⟨10, _⟩ => ⟨S1x256x1024, .bf16⟩
  | .local _ .vmem, ⟨11, _⟩ => ⟨S1x1024, .f32⟩
  | .local _ .vmem, ⟨12, _⟩ => ⟨S1024x2048, .bf16⟩
  | .local _ .vmem, ⟨13, _⟩ => ⟨S1x1024, .f32⟩
  | .local _ .vmem, ⟨14, _⟩ => ⟨S1x1024x1024, .bf16⟩
  | .local _ .vmem, ⟨15, _⟩ => ⟨S1x1024x1024, .bf16⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v7_2 : Ref sig .tc := ⟨.hbm, 20, rfl⟩
abbrev main_v7_3 : Ref sig .tc := ⟨.hbm, 21, rfl⟩
abbrev main_v7_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== SharedTailIdeal.lean ====
variable {F : FTy → Type} [FloatOps F] [Named F]
def κ : String → Option EReal := fun
  | "query_factor" => some (((Real.sqrt 64)⁻¹ * (Real.log 2)⁻¹ : ℝ) : EReal)
  | _ => none
-- ==== SharedTailRefIdeal.lean ====
abbrev S16384x1024 : Shape := ⟨2, ![16384, 1024]⟩
abbrev S4x16384x256 : Shape := ⟨3, ![4, 16384, 256]⟩
abbrev S2x1024x1024 : Shape := ⟨3, ![2, 1024, 1024]⟩
abbrev S4x1024x1024 : Shape := ⟨3, ![4, 1024, 1024]⟩
abbrev S4x256x1024 : Shape := ⟨3, ![4, 256, 1024]⟩
abbrev S1024 : Shape := ⟨1, ![1024]⟩
abbrev S1024x2048 : Shape := ⟨2, ![1024, 2048]⟩
abbrev S2x1024x2048 : Shape := ⟨3, ![2, 1024, 2048]⟩
abbrev S1x16384x256 : Shape := ⟨3, ![1, 16384, 256]⟩
abbrev S16384x256 : Shape := ⟨2, ![16384, 256]⟩
abbrev S1x1024x1024 : Shape := ⟨3, ![1, 1024, 1024]⟩
abbrev S1024x1024 : Shape := ⟨2, ![1024, 1024]⟩
abbrev S1x256x1024 : Shape := ⟨3, ![1, 256, 1024]⟩
abbrev S256x1024 : Shape := ⟨2, ![256, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2048 : Shape := ⟨2, ![16384, 2048]⟩
abbrev S1x1024x2048 : Shape := ⟨3, ![1, 1024, 2048]⟩

abbrev nBuf : Space → Nat
  | .hbm => 96
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .f32⟩
  | .hbm, ⟨3, _⟩ => ⟨S4x16384x256, .f32⟩
  | .hbm, ⟨4, _⟩ => ⟨S2x1024x1024, .f32⟩
  | .hbm, ⟨5, _⟩ => ⟨S4x1024x1024, .f32⟩
  | .hbm, ⟨6, _⟩ => ⟨S4x256x1024, .f32⟩
  | .hbm, ⟨7, _⟩ => ⟨S1024, .f32⟩
  | .hbm, ⟨8, _⟩ => ⟨S1024x2048, .f32⟩
  | .hbm, ⟨9, _⟩ => ⟨S1024, .f32⟩
  | .hbm, ⟨10, _⟩ => ⟨S2x1024x2048, .f32⟩
  | .hbm, ⟨11, _⟩ => ⟨S1x16384x256, .f32⟩
  | .hbm, ⟨12, _⟩ => ⟨S16384x256, .f32⟩
  | .hbm, ⟨13, _⟩ => ⟨S1x1024x1024, .f32⟩
  | .hbm, ⟨14, _⟩ => ⟨S1024x1024, .f32⟩
  | .hbm, ⟨15, _⟩ => ⟨S1x1024x1024, .f32⟩
  | .hbm, ⟨16, _⟩ => ⟨S1024x1024, .f32⟩
  | .hbm, ⟨17, _⟩ => ⟨S1x256x1024, .f32⟩
  | .hbm, ⟨18, _⟩ => ⟨S256x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S16384x1, .f32⟩
  | .hbm, ⟨56, _⟩ => ⟨S16384x1024, .f32⟩
  | .hbm, ⟨57, _⟩ => ⟨S16384x1024, .f32⟩
  | .hbm, ⟨58, _⟩ => ⟨S1x1024, .f32⟩
  | .hbm, ⟨59, _⟩ => ⟨S16384x1024, .f32⟩
  | .hbm, ⟨60, _⟩ => ⟨S16384x1024, .f32⟩
  | .hbm, ⟨61, _⟩ => ⟨S16384x2048, .f32⟩
  | .hbm, ⟨62, _⟩ => ⟨S16384x1024, .f32⟩
  | .hbm, ⟨63, _⟩ => ⟨S_, .f32⟩
  | .hbm, ⟨64, _⟩ => ⟨S16384, .f32⟩
  | .hbm, ⟨65, _⟩ => ⟨S16384x1, .f32⟩
  | .hbm, ⟨66, _⟩ => ⟨S_, .f32⟩
  | .hbm, ⟨67, _⟩ => ⟨S16384x1, .f32⟩
  | .hbm, ⟨68, _⟩ => ⟨S16384x1, .f32⟩
  | .hbm, ⟨69, _⟩ => ⟨S_, .f32⟩
  | .hbm, ⟨70, _⟩ => ⟨S16384x1, .f32⟩
  | .hbm, ⟨71, _⟩ => ⟨S16384x1, .f32⟩
  | .hbm, ⟨72, _⟩ => ⟨S16384x1, .f32⟩
  | .hbm, ⟨73, _⟩ => ⟨S16384x1024, .f32⟩
  | .hbm, ⟨74, _⟩ => ⟨S16384x1024, .f32⟩
  | .hbm, ⟨75, _⟩ => ⟨S1x1024, .f32⟩
  | .hbm, ⟨76, _⟩ => ⟨S16384x1024, .f32⟩
  | .hbm, ⟨77, _⟩ => ⟨S16384x1024, .f32⟩
  | .hbm, ⟨78, _⟩ => ⟨S1x1024x2048, .f32⟩
  | .hbm, ⟨79, _⟩ => ⟨S1024x2048, .f32⟩
  | .hbm, ⟨80, _⟩ => ⟨S16384x2048, .f32⟩
  | .hbm, ⟨81, _⟩ => ⟨S16384x1024, .f32⟩
  | .hbm, ⟨82, _⟩ => ⟨S16384x1024, .f32⟩
  | .hbm, ⟨83, _⟩ => ⟨S_, .f32⟩
  | .hbm, ⟨84, _⟩ => ⟨S16384x1024, .f32⟩
  | .hbm, ⟨85, _⟩ => ⟨S16384x1024, .f32⟩
  | .hbm, ⟨86, _⟩ => ⟨S_, .f32⟩
  | .hbm, ⟨87, _⟩ => ⟨S_, .f32⟩
  | .hbm, ⟨88, _⟩ => ⟨S16384x1024, .f32⟩
  | .hbm, ⟨89, _⟩ => ⟨S16384x1024, .f32⟩
  | .hbm, ⟨90, _⟩ => ⟨S16384x1024, .f32⟩
  | .hbm, ⟨91, _⟩ => ⟨S16384x1024, .bf16⟩
  | .hbm, ⟨92, _⟩ => ⟨S16384x1024, .f32⟩
  | .hbm, ⟨93, _⟩ => ⟨S16384x1024, .bf16⟩
  | .hbm, ⟨94, _⟩ => ⟨S16384x1024, .bf16⟩
  | .hbm, ⟨95, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst : Ref sig .tc := ⟨.hbm, 36, rfl⟩
abbrev main_v17 : Ref sig .tc := ⟨.hbm, 37, rfl⟩
abbrev main_v18 : Ref sig .tc := ⟨.hbm, 38, rfl⟩
abbrev main_cst_0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_1 : Ref sig .tc := ⟨.hbm, 46, rfl⟩
abbrev main_v25 : Ref sig .tc := ⟨.hbm, 47, rfl⟩
abbrev main_v26 : Ref sig .tc := ⟨.hbm, 48, rfl⟩
abbrev main_cst_2 : Ref sig .tc := ⟨.hbm, 49, rfl⟩
abbrev main_v27 : Ref sig .tc := ⟨.hbm, 50, rfl⟩
abbrev main_v28 : Ref sig .tc := ⟨.hbm, 51, rfl⟩
abbrev main_cst_3 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_4 : Ref sig .tc := ⟨.hbm, 63, rfl⟩
abbrev main_v39 : Ref sig .tc := ⟨.hbm, 64, rfl⟩
abbrev main_v40 : Ref sig .tc := ⟨.hbm, 65, rfl⟩
abbrev main_cst_5 : Ref sig .tc := ⟨.hbm, 66, rfl⟩
abbrev main_v41 : Ref sig .tc := ⟨.hbm, 67, rfl⟩
abbrev main_v42 : Ref sig .tc := ⟨.hbm, 68, rfl⟩
abbrev main_cst_6 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_7 : Ref sig .tc := ⟨.hbm, 83, rfl⟩
abbrev main_v56 : Ref sig .tc := ⟨.hbm, 84, rfl⟩
abbrev main_v57 : Ref sig .tc := ⟨.hbm, 85, rfl⟩
abbrev main_cst_8 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩

abbrev nD : Nat := 1
abbrev τ : Topo := Topo.v7x

variable {F : FTy → Type} [FloatOps F]
-- ==== NextTail.lean ====
abbrev S16384x1024 : Shape := ⟨2, ![16384, 1024]⟩
abbrev S4x16384x256 : Shape := ⟨3, ![4, 16384, 256]⟩
abbrev S2x1024x1024 : Shape := ⟨3, ![2, 1024, 1024]⟩
abbrev S4x1024x1024 : Shape := ⟨3, ![4, 1024, 1024]⟩
abbrev S4x256x1024 : Shape := ⟨3, ![4, 256, 1024]⟩
abbrev S1024 : Shape := ⟨1, ![1024]⟩
abbrev S2x1024x2048 : Shape := ⟨3, ![2, 1024, 2048]⟩
abbrev S1x1024 : Shape := ⟨2, ![1, 1024]⟩
abbrev S512x1024 : Shape := ⟨2, ![512, 1024]⟩
abbrev S1x512x256 : Shape := ⟨3, ![1, 512, 256]⟩
abbrev S1x1024x1024 : Shape := ⟨3, ![1, 1024, 1024]⟩
abbrev S1x256x1024 : Shape := ⟨3, ![1, 256, 1024]⟩
abbrev S256x1024 : Shape := ⟨2, ![256, 1024]⟩
abbrev S1x256x256 : Shape := ⟨3, ![1, 256, 256]⟩
abbrev S256x256 : Shape := ⟨2, ![256, 256]⟩
abbrev S1024x1024 : Shape := ⟨2, ![1024, 1024]⟩
abbrev S256 : Shape := ⟨1, ![256]⟩
abbrev S256x1 : Shape := ⟨2, ![256, 1]⟩

abbrev nBuf : Space → Nat
  | .hbm => 17
  | .vmem => 20
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .f32⟩
  | .hbm, ⟨3, _⟩ => ⟨S4x16384x256, .f32⟩
  | .hbm, ⟨4, _⟩ => ⟨S2x1024x1024, .f32⟩
  | .hbm, ⟨5, _⟩ => ⟨S4x1024x1024, .f32⟩
  | .hbm, ⟨6, _⟩ => ⟨S4x256x1024, .f32⟩
  | .hbm, ⟨7, _⟩ => ⟨S1024, .f32⟩
  | .hbm, ⟨8, _⟩ => ⟨S2x1024x2048, .f32⟩
  | .hbm, ⟨9, _⟩ => ⟨S2x1024x1024, .bf16⟩
  | .hbm, ⟨10, _⟩ => ⟨S4x1024x1024, .bf16⟩
  | .hbm, ⟨11, _⟩ => ⟨S4x256x1024, .bf16⟩
  | .hbm, ⟨12, _⟩ => ⟨S2x1024x2048, .bf16⟩
  | .hbm, ⟨13, _⟩ => ⟨S1x1024, .f32⟩
  | .hbm, ⟨14, _⟩ => ⟨S16384x1024, .f32⟩
  | .hbm, ⟨15, _⟩ => ⟨S16384x1024, .bf16⟩
  | .hbm, ⟨16, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1x512x256, .f32⟩
  | .local _ .vmem, ⟨7, _⟩ => ⟨S1x512x256, .f32⟩
  | .local _ .vmem, ⟨8, _⟩ => ⟨S1x1024x1024, .bf16⟩
  | .local _ .vmem, ⟨9, _⟩ => ⟨S1x1024x1024, .bf16⟩
  | .local _ .vmem, ⟨10, _⟩ => ⟨S1x256x1024, .bf16⟩
  | .local _ .vmem, ⟨11, _⟩ => ⟨S1x1024, .f32⟩
  | .local _ .vmem, ⟨12, _⟩ => ⟨S1x1024x1024, .bf16⟩
  | .local _ .vmem, ⟨13, _⟩ => ⟨S1x1024x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_6 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c1_i32_0 : BitVec 32 := 1#32
  let c0_i32_1 : BitVec 32 := 0#32
  ![c1_i32.toNat, c0_i32.toNat, c1_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== NextTailIdeal.lean ====
variable {F : FTy → Type} [FloatOps F] [Named F]
def κ : String → Option EReal := fun
  | "query_factor" => some (((Real.sqrt 64)⁻¹ * (Real.log 2)⁻¹ : ℝ) : EReal)
  | _ => none
-- ==== NextTailRefIdeal.lean ====
abbrev S16384x1024 : Shape := ⟨2, ![16384, 1024]⟩
abbrev S4x16384x256 : Shape := ⟨3, ![4, 16384, 256]⟩
abbrev S2x1024x1024 : Shape := ⟨3, ![2, 1024, 1024]⟩
abbrev S4x1024x1024 : Shape := ⟨3, ![4, 1024, 1024]⟩
abbrev S4x256x1024 : Shape := ⟨3, ![4, 256, 1024]⟩
abbrev S1024 : Shape := ⟨1, ![1024]⟩
abbrev S2x1024x2048 : Shape := ⟨3, ![2, 1024, 2048]⟩
abbrev S1x16384x256 : Shape := ⟨3, ![1, 16384, 256]⟩
abbrev S16384x256 : Shape := ⟨2, ![16384, 256]⟩
abbrev S1x1024x1024 : Shape := ⟨3, ![1, 1024, 1024]⟩
abbrev S1024x1024 : Shape := ⟨2, ![1024, 1024]⟩
abbrev S1x256x1024 : Shape := ⟨3, ![1, 256, 1024]⟩
abbrev S256x1024 : Shape := ⟨2, ![256, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1024x2048 : Shape := ⟨3, ![1, 1024, 2048]⟩
abbrev S1024x2048 : Shape := ⟨2, ![1024, 2048]⟩
abbrev S16384x2048 : Shape := ⟨2, ![16384, 2048]⟩

abbrev nBuf : Space → Nat
  | .hbm => 73
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .f32⟩
  | .hbm, ⟨3, _⟩ => ⟨S4x16384x256, .f32⟩
  | .hbm, ⟨4, _⟩ => ⟨S2x1024x1024, .f32⟩
  | .hbm, ⟨5, _⟩ => ⟨S4x1024x1024, .f32⟩
  | .hbm, ⟨6, _⟩ => ⟨S4x256x1024, .f32⟩
  | .hbm, ⟨7, _⟩ => ⟨S1024, .f32⟩
  | .hbm, ⟨8, _⟩ => ⟨S2x1024x2048, .f32⟩
  | .hbm, ⟨9, _⟩ => ⟨S1x16384x256, .f32⟩
  | .hbm, ⟨10, _⟩ => ⟨S16384x256, .f32⟩
  | .hbm, ⟨11, _⟩ => ⟨S1x1024x1024, .f32⟩
  | .hbm, ⟨12, _⟩ => ⟨S1024x1024, .f32⟩
  | .hbm, ⟨13, _⟩ => ⟨S1x1024x1024, .f32⟩
  | .hbm, ⟨14, _⟩ => ⟨S1024x1024, .f32⟩
  | .hbm, ⟨15, _⟩ => ⟨S1x256x1024, .f32⟩
  | .hbm, ⟨16, _⟩ => ⟨S256x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S16384x1, .f32⟩
  | .hbm, ⟨54, _⟩ => ⟨S16384x1024, .f32⟩
  | .hbm, ⟨55, _⟩ => ⟨S16384x1024, .f32⟩
  | .hbm, ⟨56, _⟩ => ⟨S1x1024, .f32⟩
  | .hbm, ⟨57, _⟩ => ⟨S16384x1024, .f32⟩
  | .hbm, ⟨58, _⟩ => ⟨S16384x1024, .f32⟩
  | .hbm, ⟨59, _⟩ => ⟨S1x1024x2048, .f32⟩
  | .hbm, ⟨60, _⟩ => ⟨S1024x2048, .f32⟩
  | .hbm, ⟨61, _⟩ => ⟨S16384x2048, .f32⟩
  | .hbm, ⟨62, _⟩ => ⟨S16384x1024, .f32⟩
  | .hbm, ⟨63, _⟩ => ⟨S16384x1024, .f32⟩
  | .hbm, ⟨64, _⟩ => ⟨S_, .f32⟩
  | .hbm, ⟨65, _⟩ => ⟨S16384x1024, .f32⟩
  | .hbm, ⟨66, _⟩ => ⟨S16384x1024, .f32⟩
  | .hbm, ⟨67, _⟩ => ⟨S_, .f32⟩
  | .hbm, ⟨68, _⟩ => ⟨S_, .f32⟩
  | .hbm, ⟨69, _⟩ => ⟨S16384x1024, .f32⟩
  | .hbm, ⟨70, _⟩ => ⟨S16384x1024, .f32⟩
  | .hbm, ⟨71, _⟩ => ⟨S16384x1024, .bf16⟩
  | .hbm, ⟨72, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst : Ref sig .tc := ⟨.hbm, 34, rfl⟩
abbrev main_v17 : Ref sig .tc := ⟨.hbm, 35, rfl⟩
abbrev main_v18 : Ref sig .tc := ⟨.hbm, 36, rfl⟩
abbrev main_cst_0 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_1 : Ref sig .tc := ⟨.hbm, 44, rfl⟩
abbrev main_v25 : Ref sig .tc := ⟨.hbm, 45, rfl⟩
abbrev main_v26 : Ref sig .tc := ⟨.hbm, 46, rfl⟩
abbrev main_cst_2 : Ref sig .tc := ⟨.hbm, 47, rfl⟩
abbrev main_v27 : Ref sig .tc := ⟨.hbm, 48, rfl⟩
abbrev main_v28 : Ref sig .tc := ⟨.hbm, 49, rfl⟩
abbrev main_cst_3 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_4 : Ref sig .tc := ⟨.hbm, 64, rfl⟩
abbrev main_v42 : Ref sig .tc := ⟨.hbm, 65, rfl⟩
abbrev main_v43 : Ref sig .tc := ⟨.hbm, 66, rfl⟩
abbrev main_cst_5 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩

abbrev nD : Nat := 1
abbrev τ : Topo := Topo.v7x

variable {F : FTy → Type} [FloatOps F]
-- ==== Front.lean ====
abbrev S16384x1024 : Shape := ⟨2, ![16384, 1024]⟩
abbrev S8x2048 : Shape := ⟨2, ![8, 2048]⟩
abbrev S1024 : Shape := ⟨1, ![1024]⟩
abbrev S1024x1696 : Shape := ⟨2, ![1024, 1696]⟩
abbrev S384 : Shape := ⟨1, ![384]⟩
abbrev S256 : Shape := ⟨1, ![256]⟩
abbrev S384x1536 : Shape := ⟨2, ![384, 1536]⟩
abbrev S256x2048 : Shape := ⟨2, ![256, 2048]⟩
abbrev S96 : Shape := ⟨1, ![96]⟩
abbrev S16384x1 : Shape := ⟨2, ![16384, 1]⟩
abbrev S16 : Shape := ⟨1, ![16]⟩
abbrev S_ : Shape := ⟨0, ![]⟩
abbrev S64 : Shape := ⟨1, ![64]⟩
abbrev S128 : Shape := ⟨1, ![128]⟩
abbrev S1x128 : Shape := ⟨2, ![1, 128]⟩
abbrev S16384x128 : Shape := ⟨2, ![16384, 128]⟩
abbrev S1024x256 : Shape := ⟨2, ![1024, 256]⟩
abbrev S1024x32 : Shape := ⟨2, ![1024, 32]⟩
abbrev S1024x96 : Shape := ⟨2, ![1024, 96]⟩
abbrev S1024x16 : Shape := ⟨2, ![1024, 16]⟩
abbrev S1024x128 : Shape := ⟨2, ![1024, 128]⟩
abbrev S1024x384 : Shape := ⟨2, ![1024, 384]⟩
abbrev S1024x512 : Shape := ⟨2, ![1024, 512]⟩
abbrev S1024x1024 : Shape := ⟨2, ![1024, 1024]⟩
abbrev S384x16x96 : Shape := ⟨3, ![384, 16, 96]⟩
abbrev S384x16x16 : Shape := ⟨3, ![384, 16, 16]⟩
abbrev S384x16x128 : Shape := ⟨3, ![384, 16, 128]⟩
abbrev S384x2048 : Shape := ⟨2, ![384, 2048]⟩
abbrev S256x16x128 : Shape := ⟨3, ![256, 16, 128]⟩
abbrev S256x16x64 : Shape := ⟨3, ![256, 16, 64]⟩
abbrev S256x1024 : Shape := ⟨2, ![256, 1024]⟩
abbrev S1x16x1 : Shape := ⟨3, ![1, 16, 1]⟩
abbrev S16x1 : Shape := ⟨2, ![16, 1]⟩
abbrev S16x128 : Shape := ⟨2, ![16, 128]⟩
abbrev S1x2048 : Shape := ⟨2, ![1, 2048]⟩
abbrev S1x1024 : Shape := ⟨2, ![1, 1024]⟩
abbrev S1x384 : Shape := ⟨2, ![1, 384]⟩
abbrev S1x256 : Shape := ⟨2, ![1, 256]⟩
abbrev S16384x2048 : Shape := ⟨2, ![16384, 2048]⟩
abbrev S512x1024 : Shape := ⟨2, ![512, 1024]⟩
abbrev S512x128 : Shape := ⟨2, ![512, 128]⟩
abbrev S512x2048 : Shape := ⟨2, ![512, 2048]⟩
abbrev S256x256 : Shape := ⟨2, ![256, 256]⟩
abbrev S256x1 : Shape := ⟨2, ![256, 1]⟩
abbrev S256x512 : Shape := ⟨2, ![256, 512]⟩
abbrev S256x384 : Shape := ⟨2, ![256, 384]⟩
abbrev S256x128 : Shape := ⟨2, ![256, 128]⟩
abbrev S384x256 : Shape := ⟨2, ![384, 256]⟩

abbrev nBuf : Space → Nat
  | .hbm => 165
  | .vmem => 27
  | .smem => 0
  | _ => 0

abbrev hbmTy0_0 (i : Nat) : BufTy := match i % 128 with
  | 0 => ⟨S16384x1024, .f32⟩
  | 1 => ⟨S8x2048, .i32⟩
  | 2 => ⟨S1024, .f32⟩
  | 3 => ⟨S1024x1696, .f32⟩
  | 4 => ⟨S384, .f32⟩
  | 5 => ⟨S256, .f32⟩
  | 6 => ⟨S384x1536, .f32⟩
  | 7 => ⟨S256x2048, .f32⟩
  | 8 => ⟨S96, .f32⟩
  | 9 => ⟨S96, .f32⟩
  | 10 => ⟨S8x2048, .f32⟩
  | 11 => ⟨S16384x1, .f32⟩
  | 12 => ⟨S16, .f32⟩
  | 13 => ⟨S_, .f32⟩
  | 14 => ⟨S16, .f32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S_, .f32⟩
  | 23 => ⟨S64, .f32⟩
  | 24 => ⟨S_, .f32⟩
  | 25 => ⟨S16, .f32⟩
  | 26 => ⟨S_, .f32⟩
  | 27 => ⟨S16, .f32⟩
  | 28 => ⟨S128, .f32⟩
  | 29 => ⟨S1x128, .f32⟩
  | 30 => ⟨S16, .f32⟩
  | 31 => ⟨S_, .f32⟩
  | 32 => ⟨S16, .f32⟩
  | 33 => ⟨S128, .f32⟩
  | 34 => ⟨S1x128, .f32⟩
  | 35 => ⟨S128, .i32⟩
  | 36 => ⟨S_, .i32⟩
  | 37 => ⟨S128, .i32⟩
  | 38 => ⟨S128, .i1⟩
  | 39 => ⟨S128, .f32⟩
  | 40 => ⟨S1x128, .f32⟩
  | 41 => ⟨S1x128, .f32⟩
  | 42 => ⟨S16384x128, .f32⟩
  | 43 => ⟨S16384x128, .f32⟩
  | 44 => ⟨S16384x128, .f32⟩
  | 45 => ⟨S16384x128, .f32⟩
  | 46 => ⟨S128, .i32⟩
  | 47 => ⟨S_, .i32⟩
  | 48 => ⟨S128, .i32⟩
  | 49 => ⟨S128, .i1⟩
  | 50 => ⟨S128, .f32⟩
  | 51 => ⟨S1x128, .f32⟩
  | 52 => ⟨S16384x128, .f32⟩
  | 53 => ⟨S16384x128, .f32⟩
  | 54 => ⟨S16384x128, .f32⟩
  | 55 => ⟨S16384x128, .f32⟩
  | 56 => ⟨S16384x128, .f32⟩
  | 57 => ⟨S1024x256, .f32⟩
  | 58 => ⟨S1024x256, .bf16⟩
  | 59 => ⟨S1024x32, .f32⟩
  | 60 => ⟨S_, .i32⟩
  | 61 => ⟨S_, .f32⟩
  | 62 => ⟨S1024x96, .f32⟩
  | 63 => ⟨S1024x16, .f32⟩
  | 64 => ⟨S_, .f32⟩
  | 65 => ⟨S1024x16, .f32⟩
  | 66 => ⟨S1024x128, .f32⟩
  | 67 => ⟨S1024x384, .f32⟩
  | 68 => ⟨S1024x512, .f32⟩
  | 69 => ⟨S1024x512, .bf16⟩
  | 70 => ⟨S1024x1024, .f32⟩
  | 71 => ⟨S1024x1024, .bf16⟩
  | 72 => ⟨S384x16x96, .f32⟩
  | 73 => ⟨S384x16x16, .f32⟩
  | 74 => ⟨S_, .f32⟩
  | 75 => ⟨S384x16x16, .f32⟩
  | 76 => ⟨S384x16x128, .f32⟩
  | 77 => ⟨S384x2048, .f32⟩
  | 78 => ⟨S384x2048, .bf16⟩
  | 79 => ⟨S256x16x128, .f32⟩
  | 80 => ⟨S256x16x64, .f32⟩
  | 81 => ⟨S256x1024, .f32⟩
  | 82 => ⟨S256x16x64, .f32⟩
  | 83 => ⟨S_, .i32⟩
  | 84 => ⟨S_, .f32⟩
  | 85 => ⟨S256x16x128, .f32⟩
  | 86 => ⟨S256x2048, .f32⟩
  | 87 => ⟨S256x2048, .bf16⟩
  | 88 => ⟨S256x16x64, .f32⟩
  | 89 => ⟨S16, .i32⟩
  | 90 => ⟨S_, .i32⟩
  | 91 => ⟨S_, .i32⟩
  | 92 => ⟨S_, .i32⟩
  | 93 => ⟨S_, .i1⟩
  | 94 => ⟨S_, .i32⟩
  | 95 => ⟨S_, .i32⟩
  | 96 => ⟨S16, .i32⟩
  | 97 => ⟨S16, .i32⟩
  | 98 => ⟨S_, .i32⟩
  | 99 => ⟨S16, .i32⟩
  | 100 => ⟨S16, .i1⟩
  | 101 => ⟨S_, .i32⟩
  | 102 => ⟨S16, .i32⟩
  | 103 => ⟨S16, .i1⟩
  | 104 => ⟨S_, .i32⟩
  | 105 => ⟨S_, .i1⟩
  | 106 => ⟨S16, .i1⟩
  | 107 => ⟨S16, .i1⟩
  | 108 => ⟨S16, .i1⟩
  | 109 => ⟨S16, .i32⟩
  | 110 => ⟨S16, .i32⟩
  | 111 => ⟨S16, .i32⟩
  | 112 => ⟨S_, .i32⟩
  | 113 => ⟨S16, .i32⟩
  | 114 => ⟨S16, .i1⟩
  | 115 => ⟨S1x16x1, .i1⟩
  | 116 => ⟨S_, .f32⟩
  | 117 => ⟨S256x16x64, .f32⟩
  | 118 => ⟨S256x16x128, .f32⟩
  | 119 => ⟨S_, .f32⟩
  | 120 => ⟨S256x16x64, .f32⟩
  | 121 => ⟨S256x16x128, .f32⟩
  | 122 => ⟨S256x16x128, .i1⟩
  | 123 => ⟨S256x16x128, .f32⟩
  | 124 => ⟨S256x2048, .f32⟩
  | 125 => ⟨S256x2048, .bf16⟩
  | 126 => ⟨S128, .i32⟩
  | 127 => ⟨S_, .i32⟩
  | _ => ⟨S16384x1024, .f32⟩

abbrev hbmTy0_1 (i : Nat) : BufTy := match i % 128 with
  | 0 => ⟨S128, .i32⟩
  | 1 => ⟨S128, .i1⟩
  | 2 => ⟨S1x128, .i1⟩
  | 3 => ⟨S16x1, .i1⟩
  | 4 => ⟨S16x128, .i1⟩
  | 5 => ⟨S16x128, .i1⟩
  | 6 => ⟨S16x128, .i1⟩
  | 7 => ⟨S_, .f32⟩
  | 8 => ⟨S_, .f32⟩
  | 9 => ⟨S16x128, .f32⟩
  | 10 => ⟨S16x128, .f32⟩
  | 11 => ⟨S16x128, .f32⟩
  | 12 => ⟨S16x128, .f32⟩
  | 13 => ⟨S1x2048, .f32⟩
  | 14 => ⟨S1x1024, .f32⟩
  | 15 => ⟨S1x384, .f32⟩
  | 16 => ⟨S1x256, .f32⟩
  | 17 => ⟨S16, .f32⟩
  | 18 => ⟨S_, .f32⟩
  | 19 => ⟨S16, .f32⟩
  | 20 => ⟨S128, .f32⟩
  | 21 => ⟨S1x128, .f32⟩
  | 22 => ⟨S16, .f32⟩
  | 23 => ⟨S_, .f32⟩
  | 24 => ⟨S16, .f32⟩
  | 25 => ⟨S128, .f32⟩
  | 26 => ⟨S1x128, .f32⟩
  | 27 => ⟨S128, .i32⟩
  | 28 => ⟨S_, .i32⟩
  | 29 => ⟨S128, .i32⟩
  | 30 => ⟨S128, .i1⟩
  | 31 => ⟨S128, .f32⟩
  | 32 => ⟨S1x128, .f32⟩
  | 33 => ⟨S16384x2048, .bf16⟩
  | 34 => ⟨S16384x2048, .bf16⟩
  | 35 => ⟨S16384x2048, .bf16⟩
  | 36 => ⟨S16384x1024, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x256, .bf16⟩
  | .local _ .vmem, ⟨5, _⟩ => ⟨S1024x1024, .bf16⟩
  | .local _ .vmem, ⟨6, _⟩ => ⟨S1x384, .f32⟩
  | .local _ .vmem, ⟨7, _⟩ => ⟨S1x256, .f32⟩
  | .local _ .vmem, ⟨8, _⟩ => ⟨S384x2048, .bf16⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x2048, .bf16⟩
  | .local _ .vmem, ⟨20, _⟩ => ⟨S512x2048, .bf16⟩
  | .local _ .vmem, ⟨21, _⟩ => ⟨S512x2048, .bf16⟩
  | .local _ .vmem, ⟨22, _⟩ => ⟨S512x2048, .bf16⟩
  | .local _ .vmem, ⟨23, _⟩ => ⟨S512x2048, .bf16⟩
  | .local _ .vmem, ⟨24, _⟩ => ⟨S512x2048, .bf16⟩
  | .local _ .vmem, ⟨25, _⟩ => ⟨S512x1024, .bf16⟩
  | .local _ .vmem, ⟨26, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_cst_3 : Ref sig .tc := ⟨.hbm, 24, rfl⟩
abbrev main_v10 : Ref sig .tc := ⟨.hbm, 25, rfl⟩
abbrev main_cst_4 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_7 : Ref sig .tc := ⟨.hbm, 60, rfl⟩
abbrev main_call0_v0 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_9 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c_10 : Ref sig .tc := ⟨.hbm, 83, rfl⟩
abbrev main_call1_v0 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_11 : Ref sig .tc := ⟨.hbm, 90, rfl⟩
abbrev main_call2_v0 : Ref sig .tc := ⟨.hbm, 91, rfl⟩
abbrev main_call2_c : Ref sig .tc := ⟨.hbm, 92, rfl⟩
abbrev main_call2_v1 : Ref sig .tc := ⟨.hbm, 93, rfl⟩
abbrev main_call2_c_0 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_c_1 : Ref sig .tc := ⟨.hbm, 98, rfl⟩
abbrev main_call2_v5 : Ref sig .tc := ⟨.hbm, 99, rfl⟩
abbrev main_call2_v6 : Ref sig .tc := ⟨.hbm, 100, rfl⟩
abbrev main_call2_c_2 : Ref sig .tc := ⟨.hbm, 101, rfl⟩
abbrev main_call2_v7 : Ref sig .tc := ⟨.hbm, 102, rfl⟩
abbrev main_call2_v8 : Ref sig .tc := ⟨.hbm, 103, rfl⟩
abbrev main_call2_c_3 : Ref sig .tc := ⟨.hbm, 104, rfl⟩
abbrev main_call2_v9 : Ref sig .tc := ⟨.hbm, 105, rfl⟩
abbrev main_call2_v10 : Ref sig .tc := ⟨.hbm, 106, rfl⟩
abbrev main_call2_v11 : Ref sig .tc := ⟨.hbm, 107, rfl⟩
abbrev main_call2_v12 : Ref sig .tc := ⟨.hbm, 108, rfl⟩
abbrev main_call2_v13 : Ref sig .tc := ⟨.hbm, 109, rfl⟩
abbrev main_call2_v14 : Ref sig .tc := ⟨.hbm, 110, rfl⟩
abbrev main_v65 : Ref sig .tc := ⟨.hbm, 111, rfl⟩
abbrev main_c_12 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_cst_13 : Ref sig .tc := ⟨.hbm, 116, rfl⟩
abbrev main_v69 : Ref sig .tc := ⟨.hbm, 117, rfl⟩
abbrev main_v70 : Ref sig .tc := ⟨.hbm, 118, rfl⟩
abbrev main_cst_14 : Ref sig .tc := ⟨.hbm, 119, rfl⟩
abbrev main_v71 : Ref sig .tc := ⟨.hbm, 120, rfl⟩
abbrev main_v72 : Ref sig .tc := ⟨.hbm, 121, rfl⟩
abbrev main_call3_v0 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_c_15 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_cst_16 : Ref sig .tc := ⟨.hbm, 135, rfl⟩
abbrev main_cst_17 : Ref sig .tc := ⟨.hbm, 136, rfl⟩
abbrev main_call4_v0 : Ref sig .tc := ⟨.hbm, 137, rfl⟩
abbrev main_call4_v1 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_cst_18 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_cst_19 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_c_20 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103_0 : Ref sig .tc := ⟨.hbm, 161, rfl⟩
abbrev main_v103_1 : Ref sig .tc := ⟨.hbm, 162, rfl⟩
abbrev main_v103_2 : Ref sig .tc := ⟨.hbm, 163, rfl⟩
abbrev main_v103_3 : Ref sig .tc := ⟨.hbm, 164, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== FrontIdeal.lean ====
variable {F : FTy → Type} [FloatOps F] [Named F]
def κ : String → Option EReal := fun
  | "head_eps" => some ((26388279 / 274877906944 : ℝ) : EReal)
  | _ => none
-- ==== FrontRefIdeal.lean ====
abbrev S16384x1024 : Shape := ⟨2, ![16384, 1024]⟩
abbrev S8x2048 : Shape := ⟨2, ![8, 2048]⟩
abbrev S1024 : Shape := ⟨1, ![1024]⟩
abbrev S1024x1696 : Shape := ⟨2, ![1024, 1696]⟩
abbrev S384 : Shape := ⟨1, ![384]⟩
abbrev S256 : Shape := ⟨1, ![256]⟩
abbrev S384x1536 : Shape := ⟨2, ![384, 1536]⟩
abbrev S256x2048 : Shape := ⟨2, ![256, 2048]⟩
abbrev S96 : Shape := ⟨1, ![96]⟩
abbrev S16384 : Shape := ⟨1, ![16384]⟩
abbrev S_ : Shape := ⟨0, ![]⟩
abbrev S16384x1 : Shape := ⟨2, ![16384, 1]⟩
abbrev S1x1024 : Shape := ⟨2, ![1, 1024]⟩
abbrev S16384x1696 : Shape := ⟨2, ![16384, 1696]⟩
abbrev S16384x384 : Shape := ⟨2, ![16384, 384]⟩
abbrev S16384x256 : Shape := ⟨2, ![16384, 256]⟩
abbrev S16384x32 : Shape := ⟨2, ![16384, 32]⟩
abbrev S1x384 : Shape := ⟨2, ![1, 384]⟩
abbrev S16384x1536 : Shape := ⟨2, ![16384, 1536]⟩
abbrev S16384x16x96 : Shape := ⟨3, ![16384, 16, 96]⟩
abbrev S1x256 : Shape := ⟨2, ![1, 256]⟩
abbrev S16384x2048 : Shape := ⟨2, ![16384, 2048]⟩
abbrev S16384x16x128 : Shape := ⟨3, ![16384, 16, 128]⟩
abbrev S16384x16x64 : Shape := ⟨3, ![16384, 16, 64]⟩
abbrev S16384x1x32 : Shape := ⟨3, ![16384, 1, 32]⟩
abbrev S16384x16x32 : Shape := ⟨3, ![16384, 16, 32]⟩
abbrev S16384x16 : Shape := ⟨2, ![16384, 16]⟩
abbrev S16384x16x1 : Shape := ⟨3, ![16384, 16, 1]⟩
abbrev S1x1x96 : Shape := ⟨3, ![1, 1, 96]⟩
abbrev S16 : Shape := ⟨1, ![16]⟩
abbrev S1x16 : Shape := ⟨2, ![1, 16]⟩
abbrev S16384x1x16 : Shape := ⟨3, ![16384, 1, 16]⟩
abbrev S16384x16x16 : Shape := ⟨3, ![16384, 16, 16]⟩
abbrev S16384x8x2x64 : Shape := ⟨4, ![16384, 8, 2, 64]⟩
abbrev S16384x8x64 : Shape := ⟨3, ![16384, 8, 64]⟩
abbrev S16384x8x1x64 : Shape := ⟨4, ![16384, 8, 1, 64]⟩
abbrev S16384x8x256 : Shape := ⟨3, ![16384, 8, 256]⟩

abbrev nBuf : Space → Nat
  | .hbm => 204
  | .vmem => 0
  | .smem => 0
  | _ => 0

abbrev hbmTy0_0 (i : Nat) : BufTy := match i % 128 with
  | 0 => ⟨S16384x1024, .f32⟩
  | 1 => ⟨S8x2048, .i32⟩
  | 2 => ⟨S1024, .f32⟩
  | 3 => ⟨S1024x1696, .f32⟩
  | 4 => ⟨S384, .f32⟩
  | 5 => ⟨S256, .f32⟩
  | 6 => ⟨S384x1536, .f32⟩
  | 7 => ⟨S256x2048, .f32⟩
  | 8 => ⟨S96, .f32⟩
  | 9 => ⟨S96, .f32⟩
  | 10 => ⟨S16384, .i32⟩
  | 11 => ⟨S16384x1024, .f32⟩
  | 12 => ⟨S_, .f32⟩
  | 13 => ⟨S16384, .f32⟩
  | 14 => ⟨S16384x1, .f32⟩
  | 15 => ⟨S_, .f32⟩
  | 16 => ⟨S16384x1, .f32⟩
  | 17 => ⟨S16384x1, .f32⟩
  | 18 => ⟨S_, .f32⟩
  | 19 => ⟨S16384x1, .f32⟩
  | 20 => ⟨S16384x1, .f32⟩
  | 21 => ⟨S16384x1, .f32⟩
  | 22 => ⟨S16384x1024, .f32⟩
  | 23 => ⟨S16384x1024, .f32⟩
  | 24 => ⟨S1x1024, .f32⟩
  | 25 => ⟨S16384x1024, .f32⟩
  | 26 => ⟨S16384x1024, .f32⟩
  | 27 => ⟨S16384x1696, .f32⟩
  | 28 => ⟨S16384x384, .f32⟩
  | 29 => ⟨S16384x256, .f32⟩
  | 30 => ⟨S16384x32, .f32⟩
  | 31 => ⟨S16384x1024, .f32⟩
  | 32 => ⟨S16384x384, .f32⟩
  | 33 => ⟨S_, .f32⟩
  | 34 => ⟨S16384, .f32⟩
  | 35 => ⟨S16384x1, .f32⟩
  | 36 => ⟨S_, .f32⟩
  | 37 => ⟨S16384x1, .f32⟩
  | 38 => ⟨S16384x1, .f32⟩
  | 39 => ⟨S_, .f32⟩
  | 40 => ⟨S16384x1, .f32⟩
  | 41 => ⟨S16384x1, .f32⟩
  | 42 => ⟨S16384x1, .f32⟩
  | 43 => ⟨S16384x384, .f32⟩
  | 44 => ⟨S16384x384, .f32⟩
  | 45 => ⟨S1x384, .f32⟩
  | 46 => ⟨S16384x384, .f32⟩
  | 47 => ⟨S16384x384, .f32⟩
  | 48 => ⟨S16384x1536, .f32⟩
  | 49 => ⟨S16384x16x96, .f32⟩
  | 50 => ⟨S16384x256, .f32⟩
  | 51 => ⟨S_, .f32⟩
  | 52 => ⟨S16384, .f32⟩
  | 53 => ⟨S16384x1, .f32⟩
  | 54 => ⟨S_, .f32⟩
  | 55 => ⟨S16384x1, .f32⟩
  | 56 => ⟨S16384x1, .f32⟩
  | 57 => ⟨S_, .f32⟩
  | 58 => ⟨S16384x1, .f32⟩
  | 59 => ⟨S16384x1, .f32⟩
  | 60 => ⟨S16384x1, .f32⟩
  | 61 => ⟨S16384x256, .f32⟩
  | 62 => ⟨S16384x256, .f32⟩
  | 63 => ⟨S1x256, .f32⟩
  | 64 => ⟨S16384x256, .f32⟩
  | 65 => ⟨S16384x256, .f32⟩
  | 66 => ⟨S16384x2048, .f32⟩
  | 67 => ⟨S16384x16x128, .f32⟩
  | 68 => ⟨S16384x16x64, .f32⟩
  | 69 => ⟨S16384x16x64, .f32⟩
  | 70 => ⟨S16384x1x32, .f32⟩
  | 71 => ⟨S16384x16x32, .f32⟩
  | 72 => ⟨S16384x16x96, .f32⟩
  | 73 => ⟨S16384x16x96, .f32⟩
  | 74 => ⟨S_, .f32⟩
  | 75 => ⟨S16384x16, .f32⟩
  | 76 => ⟨S16384x16x1, .f32⟩
  | 77 => ⟨S_, .f32⟩
  | 78 => ⟨S16384x16x1, .f32⟩
  | 79 => ⟨S16384x16x1, .f32⟩
  | 80 => ⟨S_, .f32⟩
  | 81 => ⟨S16384x16x1, .f32⟩
  | 82 => ⟨S16384x16x1, .f32⟩
  | 83 => ⟨S16384x16x1, .f32⟩
  | 84 => ⟨S16384x16x96, .f32⟩
  | 85 => ⟨S16384x16x96, .f32⟩
  | 86 => ⟨S1x1x96, .f32⟩
  | 87 => ⟨S16384x16x96, .f32⟩
  | 88 => ⟨S16384x16x96, .f32⟩
  | 89 => ⟨S16384x16x96, .f32⟩
  | 90 => ⟨S_, .f32⟩
  | 91 => ⟨S16384x16, .f32⟩
  | 92 => ⟨S16384x16x1, .f32⟩
  | 93 => ⟨S_, .f32⟩
  | 94 => ⟨S16384x16x1, .f32⟩
  | 95 => ⟨S16384x16x1, .f32⟩
  | 96 => ⟨S_, .f32⟩
  | 97 => ⟨S16384x16x1, .f32⟩
  | 98 => ⟨S16384x16x1, .f32⟩
  | 99 => ⟨S16384x16x1, .f32⟩
  | 100 => ⟨S16384x16x96, .f32⟩
  | 101 => ⟨S16384x16x96, .f32⟩
  | 102 => ⟨S1x1x96, .f32⟩
  | 103 => ⟨S16384x16x96, .f32⟩
  | 104 => ⟨S16384x16x96, .f32⟩
  | 105 => ⟨S_, .f32⟩
  | 106 => ⟨S16384x16x32, .f32⟩
  | 107 => ⟨S_, .f32⟩
  | 108 => ⟨S_, .f32⟩
  | 109 => ⟨S16384x16x64, .f32⟩
  | 110 => ⟨S16384x16x64, .f32⟩
  | 111 => ⟨S16384x16x64, .f32⟩
  | 112 => ⟨S16384x16x32, .f32⟩
  | 113 => ⟨S16, .f32⟩
  | 114 => ⟨S_, .f32⟩
  | 115 => ⟨S16, .f32⟩
  | 116 => ⟨S16, .f32⟩
  | 117 => ⟨S_, .f32⟩
  | 118 => ⟨S16, .f32⟩
  | 119 => ⟨S16, .f32⟩
  | 120 => ⟨S_, .f32⟩
  | 121 => ⟨S16, .f32⟩
  | 122 => ⟨S16, .f32⟩
  | 123 => ⟨S16384, .f32⟩
  | 124 => ⟨S16384x1, .f32⟩
  | 125 => ⟨S1x16, .f32⟩
  | 126 => ⟨S16384x16, .f32⟩
  | 127 => ⟨S16384x16, .f32⟩
  | _ => ⟨S16384x1024, .f32⟩

abbrev hbmTy0_1 (i : Nat) : BufTy := match i % 128 with
  | 0 => ⟨S16384x16, .f32⟩
  | 1 => ⟨S16384x16, .f32⟩
  | 2 => ⟨S16384x1x16, .f32⟩
  | 3 => ⟨S16384x16, .f32⟩
  | 4 => ⟨S16384x1x16, .f32⟩
  | 5 => ⟨S16384x16x16, .f32⟩
  | 6 => ⟨S16384x16x16, .f32⟩
  | 7 => ⟨S16384x16x16, .f32⟩
  | 8 => ⟨S16384x16x16, .f32⟩
  | 9 => ⟨S16384x16x16, .f32⟩
  | 10 => ⟨S16384x16x16, .f32⟩
  | 11 => ⟨S16384x16x16, .f32⟩
  | 12 => ⟨S16384x16x16, .f32⟩
  | 13 => ⟨S16384x16x16, .f32⟩
  | 14 => ⟨S16384x16x16, .f32⟩
  | 15 => ⟨S16384x16x16, .f32⟩
  | 16 => ⟨S16384x16x16, .f32⟩
  | 17 => ⟨S16384x16x32, .f32⟩
  | 18 => ⟨S16384x16x32, .f32⟩
  | 19 => ⟨S16384x16x32, .f32⟩
  | 20 => ⟨S16384x16x128, .f32⟩
  | 21 => ⟨S16384x16x64, .f32⟩
  | 22 => ⟨S16384x16x64, .f32⟩
  | 23 => ⟨S16384x16x64, .f32⟩
  | 24 => ⟨S16384x16x32, .f32⟩
  | 25 => ⟨S16, .f32⟩
  | 26 => ⟨S_, .f32⟩
  | 27 => ⟨S16, .f32⟩
  | 28 => ⟨S16, .f32⟩
  | 29 => ⟨S_, .f32⟩
  | 30 => ⟨S16, .f32⟩
  | 31 => ⟨S16, .f32⟩
  | 32 => ⟨S_, .f32⟩
  | 33 => ⟨S16, .f32⟩
  | 34 => ⟨S16, .f32⟩
  | 35 => ⟨S16384, .f32⟩
  | 36 => ⟨S16384x1, .f32⟩
  | 37 => ⟨S1x16, .f32⟩
  | 38 => ⟨S16384x16, .f32⟩
  | 39 => ⟨S16384x16, .f32⟩
  | 40 => ⟨S16384x16, .f32⟩
  | 41 => ⟨S16384x16, .f32⟩
  | 42 => ⟨S16384x1x16, .f32⟩
  | 43 => ⟨S16384x16, .f32⟩
  | 44 => ⟨S16384x1x16, .f32⟩
  | 45 => ⟨S16384x16x16, .f32⟩
  | 46 => ⟨S16384x16x16, .f32⟩
  | 47 => ⟨S16384x16x16, .f32⟩
  | 48 => ⟨S16384x16x16, .f32⟩
  | 49 => ⟨S16384x16x16, .f32⟩
  | 50 => ⟨S16384x16x16, .f32⟩
  | 51 => ⟨S16384x16x16, .f32⟩
  | 52 => ⟨S16384x16x16, .f32⟩
  | 53 => ⟨S16384x16x16, .f32⟩
  | 54 => ⟨S16384x16x16, .f32⟩
  | 55 => ⟨S16384x16x16, .f32⟩
  | 56 => ⟨S16384x16x16, .f32⟩
  | 57 => ⟨S16384x16x32, .f32⟩
  | 58 => ⟨S16384x16x32, .f32⟩
  | 59 => ⟨S16384x16x32, .f32⟩
  | 60 => ⟨S16384x16x128, .f32⟩
  | 61 => ⟨S16384x8x2x64, .f32⟩
  | 62 => ⟨S_, .f32⟩
  | 63 => ⟨S16384x8x64, .f32⟩
  | 64 => ⟨S16384x8x1x64, .f32⟩
  | 65 => ⟨S16384x8x64, .f32⟩
  | 66 => ⟨S16384x8x1x64, .f32⟩
  | 67 => ⟨S16384x8x64, .f32⟩
  | 68 => ⟨S16384x8x256, .f32⟩
  | 69 => ⟨S16384x2048, .f32⟩
  | 70 => ⟨S16384x2048, .bf16⟩
  | 71 => ⟨S16384x2048, .f32⟩
  | 72 => ⟨S16384x2048, .bf16⟩
  | 73 => ⟨S16384x2048, .f32⟩
  | 74 => ⟨S16384x2048, .bf16⟩
  | 75 => ⟨S16384x1024, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_8 : Ref sig .tc := ⟨.hbm, 74, rfl⟩
abbrev main_v55 : Ref sig .tc := ⟨.hbm, 75, rfl⟩
abbrev main_v56 : Ref sig .tc := ⟨.hbm, 76, rfl⟩
abbrev main_cst_9 : Ref sig .tc := ⟨.hbm, 77, rfl⟩
abbrev main_v57 : Ref sig .tc := ⟨.hbm, 78, rfl⟩
abbrev main_v58 : Ref sig .tc := ⟨.hbm, 79, rfl⟩
abbrev main_cst_10 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_11 : Ref sig .tc := ⟨.hbm, 90, rfl⟩
abbrev main_v68 : Ref sig .tc := ⟨.hbm, 91, rfl⟩
abbrev main_v69 : Ref sig .tc := ⟨.hbm, 92, rfl⟩
abbrev main_cst_12 : Ref sig .tc := ⟨.hbm, 93, rfl⟩
abbrev main_v70 : Ref sig .tc := ⟨.hbm, 94, rfl⟩
abbrev main_v71 : Ref sig .tc := ⟨.hbm, 95, rfl⟩
abbrev main_cst_13 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_14 : Ref sig .tc := ⟨.hbm, 105, rfl⟩
abbrev main_v80 : Ref sig .tc := ⟨.hbm, 106, rfl⟩
abbrev main_cst_15 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_16 : Ref sig .tc := ⟨.hbm, 114, rfl⟩
abbrev main_v87 : Ref sig .tc := ⟨.hbm, 115, rfl⟩
abbrev main_v88 : Ref sig .tc := ⟨.hbm, 116, rfl⟩
abbrev main_cst_17 : Ref sig .tc := ⟨.hbm, 117, rfl⟩
abbrev main_v89 : Ref sig .tc := ⟨.hbm, 118, rfl⟩
abbrev main_v90 : Ref sig .tc := ⟨.hbm, 119, rfl⟩
abbrev main_cst_18 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_cst_19 : Ref sig .tc := ⟨.hbm, 154, rfl⟩
abbrev main_v124 : Ref sig .tc := ⟨.hbm, 155, rfl⟩
abbrev main_v125 : Ref sig .tc := ⟨.hbm, 156, rfl⟩
abbrev main_cst_20 : Ref sig .tc := ⟨.hbm, 157, rfl⟩
abbrev main_v126 : Ref sig .tc := ⟨.hbm, 158, rfl⟩
abbrev main_v127 : Ref sig .tc := ⟨.hbm, 159, rfl⟩
abbrev main_cst_21 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_cst_22 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩

abbrev nD : Nat := 1
abbrev τ : Topo := Topo.v7x

variable {F : FTy → Type} [FloatOps F]
-- ==== Proof.Att.Step.lean ====
/-
  One head of the attention kernel, as vector operations: the scores of 256 queries against a block of keys, the
  running maximum, and the weighted sums of the value rows, for a block that starts the accumulation and for a block
  that continues it. The pieces that the runs found are restated over these functions, head by head.
-/
module

public import proofs.«01_k».proof.Proof.Gen.AttentionIdeal.Frame

@[expose] public section

set_option maxRecDepth 16384

noncomputable section

namespace Cert.AttentionIdeal.Att

open Cert.AttentionIdeal Cert.AttentionIdeal.Gen Idealize.ShloMosaic Idealize.ShloMosaic.TcCoe
open Facts

variable {F : FTy → Type} [FloatOps F]

/-- Scores of 256 queries against 512 keys. -/
def score512 (q : Vec F S1x256x128 .bf16) (k : Vec F S1x512x128 .bf16) : FVec F S256x512 .f32 :=
  matmul dot_S256x128_S512x128_S256x512_1_1_0_0_n_n none (shapeCast S256x128 q shapeCasts_S1x256x128_S256x128)
    (shapeCast S512x128 k shapeCasts_S1x512x128_S512x128) (constant S256x512 .f32 0x00000000#32)

/-- Scores of 256 queries against 256 keys. -/
def score256 (q k : Vec F S1x256x128 .bf16) : FVec F S256x256 .f32 :=
  matmul dot_S256x128_S256x128_S256x256_1_1_0_0_n_n none (shapeCast S256x128 q shapeCasts_S1x256x128_S256x128)
    (shapeCast S256x128 k shapeCasts_S1x256x128_S256x128) (constant S256x256 .f32 0x00000000#32)

/-- The scores of the keys at or before each query, the others at minus infinity (256 keys). -/
def mask256 (s : FVec F S256x256 .f32) : FVec F S256x256 .f32 :=
  select k0_pay349 s (broadcast S256x256 (Scalar.ofBits .f32 0xFF800000#32))

/-- The scores of the keys at or before each query, the others at minus infinity (512 keys, the queries the last 256). -/
def mask512 (s : FVec F S256x512 .f32) : FVec F S256x512 .f32 :=
  select k0_pay91 s (broadcast S256x512 (Scalar.ofBits .f32 0xFF800000#32))

/-- The row maxima, one copy per lane (256 keys). -/
def rowMax256 (s : FVec F S256x256 .f32) : FVec F S256x128 .f32 :=
  broadcastTo S256x128 (shapeCast S256x1 (shapeCast S256x1 (multiReduction .maximumf [1] S256 s 0xFF800000#32 reduces_S256x256_S256 (.inl rfl) rfl)
    shapeCasts_S256_S256x1) shapeCasts_S256x1_S256x1) broadcasts_S256x1_S256x128

/-- The row maxima, one copy per lane (512 keys). -/
def rowMax512 (s : FVec F S256x512 .f32) : FVec F S256x128 .f32 :=
  broadcastTo S256x128 (shapeCast S256x1 (shapeCast S256x1 (multiReduction .maximumf [1] S256 s 0xFF800000#32 reduces_S256x512_S256 (.inl rfl) rfl)
    shapeCasts_S256_S256x1) shapeCasts_S256x1_S256x1) broadcasts_S256x1_S256x128

/-- The value rows weighted by `exp2 (score - maximum)` and summed (256 keys). -/
def sum256 (s : FVec F S256x256 .f32) (mx : FVec F S256x128 .f32) (v : Vec F S1x256x128 .bf16) : FVec F S256x128 .f32 :=
  matmul dot_S256x256_S256x128_S256x128_1_0_0_1_n_n none
    (truncf .bf16 (exp2 (subf s (concatenate S256x256 1 [⟨S256x128, mx⟩, ⟨S256x128, mx⟩] concatenates_S256x128_S256x128_S256x256_d1))) bitsLt_bf16_f32)
    (shapeCast S256x128 v shapeCasts_S1x256x128_S256x128) (constant S256x128 .f32 0x00000000#32)

/-- The value rows weighted by `exp2 (score - maximum)` and summed (512 keys). -/
def sum512 (s : FVec F S256x512 .f32) (mx : FVec F S256x128 .f32) (v : Vec F S1x512x128 .bf16) : FVec F S256x128 .f32 :=
  matmul dot_S256x512_S512x128_S256x128_1_0_0_1_n_n none
    (truncf .bf16 (exp2 (subf s (concatenate S256x512 1 [⟨S256x128, mx⟩, ⟨S256x128, mx⟩, ⟨S256x128, mx⟩, ⟨S256x128, mx⟩]
      concatenates_S256x128_S256x128_S256x128_S256x128_S256x512_d1))) bitsLt_bf16_f32)
    (shapeCast S512x128 v shapeCasts_S1x512x128_S512x128) (constant S256x128 .f32 0x00000000#32)

/-- A plane of the scratch arrays. -/
abbrev plane (x : FVec F S256x128 .f32) : Vec F S1x256x128 .f32 := shapeCast S1x256x128 x shapeCasts_S256x128_S1x256x128

/-- A plane without its leading axis. -/
abbrev flat (x : Vec F S1x256x128 .f32) : FVec F S256x128 .f32 := shapeCast S256x128 x shapeCasts_S1x256x128_S256x128

/-- The maximum after a first block of 256 keys. -/
def firstMax256 (q k : Vec F S1x256x128 .bf16) : FVec F S256x128 .f32 := rowMax256 (mask256 (score256 q k))

/-- The sums after a first block of 256 keys. -/
def firstSum256 (q k v : Vec F S1x256x128 .bf16) : FVec F S256x128 .f32 := sum256 (mask256 (score256 q k)) (firstMax256 q k) v

/-- The maximum after a first block of 512 keys. -/
def firstMax512 (q : Vec F S1x256x128 .bf16) (k : Vec F S1x512x128 .bf16) : FVec F S256x128 .f32 := rowMax512 (mask512 (score512 q k))

/-- The sums after a first block of 512 keys. -/
def firstSum512 (q : Vec F S1x256x128 .bf16) (k v : Vec F S1x512x128 .bf16) : FVec F S256x128 .f32 :=
  sum512 (mask512 (score512 q k)) (firstMax512 q k) v

/-- The maximum after one more block of 512 keys. -/
def nextMax (q : Vec F S1x256x128 .bf16) (k : Vec F S1x512x128 .bf16) (m : Vec F S1x256x128 .f32) : FVec F S256x128 .f32 :=
  maximumf (flat m) (rowMax512 (score512 q k))

/-- The sums after one more block of 512 keys. -/
def nextSum (q : Vec F S1x256x128 .bf16) (k v : Vec F S1x512x128 .bf16) (m a : Vec F S1x256x128 .f32) : FVec F S256x128 .f32 :=
  addf (mulf (exp2 (subf (flat m) (nextMax q k m))) (flat a)) (sum512 (score512 q k) (nextMax q k m) v)

/-- The lanes of a pair's first head. -/
def pairOut (a b : Vec F S1x256x128 .f32) : Vec F S1x256x128 .bf16 :=
  shapeCast S1x256x128 (truncf .bf16 (divf (select k0_pay356 (flat a) (flat b))
    (dynamicRotate 1 64#32 none (select k0_pay356 (flat b) (flat a)) rotates_S256x128_d1)) bitsLt_bf16_f32) shapeCasts_S256x128_S1x256x128

theorem head_inb (h : Fin 16) : ∀ a, (![h.val, 0, 0] : Fin 3 → ℕ) a + S1x256x128.size a ≤ S16x256x128.size a := by
  intro a; have := h.isLt; fin_cases a <;> simp <;> omega

theorem lanes_inb (h : Fin 16) : ∀ a, (![0, 0, 128 * h.val] : Fin 3 → ℕ) a + S1x256x128.size a ≤ S1x256x2048.size a := by
  intro a; have := h.isLt; fin_cases a <;> simp <;> omega

theorem keys512_inb (r : ℕ) (hr : r + 512 ≤ 2048) (h : Fin 16) :
    ∀ a, (![0, r, 128 * h.val] : Fin 3 → ℕ) a + S1x512x128.size a ≤ S1x2048x2048.size a := by
  intro a; have := h.isLt; fin_cases a <;> simp <;> omega

theorem keys256_inb (r : ℕ) (hr : r + 256 ≤ 2048) (h : Fin 16) :
    ∀ a, (![0, r, 128 * h.val] : Fin 3 → ℕ) a + S1x256x128.size a ≤ S1x2048x2048.size a := by
  intro a; have := h.isLt; fin_cases a <;> simp <;> omega

/-- Head `h`'s plane of a scratch array. -/
abbrev headRect (h : Fin 16) : Rect S16x256x128 := Rect.unit ![h.val, 0, 0] S1x256x128.size (head_inb h)

/-- Head `h`'s queries. -/
abbrev queryRect (h : Fin 16) : Rect S1x256x2048 := Rect.unit ![0, 0, 128 * h.val] S1x256x128.size (lanes_inb h)

/-- Head `h`'s keys or values, 512 rows from row `r`. -/
abbrev keyRect512 (r : ℕ) (hr : r + 512 ≤ 2048) (h : Fin 16) : Rect S1x2048x2048 := Rect.unit ![0, r, 128 * h.val] S1x512x128.size (keys512_inb r hr h)

/-- Head `h`'s keys or values, 256 rows from row `r`. -/
abbrev keyRect256 (r : ℕ) (hr : r + 256 ≤ 2048) (h : Fin 16) : Rect S1x2048x2048 := Rect.unit ![0, r, 128 * h.val] S1x256x128.size (keys256_inb r hr h)

/-- The sixteen planes, the last head's first. -/
def planes (w : Fin 16 → FVec F S256x128 .f32) : List (View.Piece (Elt F) S16x256x128 .f32) :=
  [15, 14, 13, 12, 11, 10, 9, 8, 7, 6, 5, 4, 3, 2, 1, 0].map fun h : Fin 16 => ⟨headRect h, plane (w h)⟩

/-- The row a trip of the key loop starts from. -/
abbrev tripRow (i : grid0.Coords) (k : Fin (k0_t1_loop i).trips) : ℕ := k0_off33 i k 1

theorem tripRow_inb (i : grid0.Coords) (k : Fin (k0_t1_loop i).trips) : tripRow i k + 512 ≤ 2048 := k0_off33_inb i k 1

theorem trip_max (𝒱 : Variants) (c : Dev nD) (bd : Option 𝒱.V) (i : grid0.Coords) (arg3 : Memref sig .tc .vmem S1x256x2048 .bf16) (harg3 : arg3.IsWhole) (arg4 : Memref sig .tc .vmem S1x2048x2048 .bf16) (harg4 : arg4.IsWhole) (arg5 : Memref sig .tc .vmem S1x2048x2048 .bf16) (harg5 : arg5.IsWhole) (arg6 : Memref sig .tc .vmem S1x256x1024 .bf16) (harg6 : arg6.IsWhole) (arg7 : Memref sig .tc .vmem S16x256x128 .f32) (harg7 : arg7.IsWhole) (arg8 : Memref sig .tc .vmem S16x256x128 .f32) (harg8 : arg8.IsWhole) (c1 c2 c3 c4 : BitVec 32) (X3 : BufTy.Contents (Elt F) arg3.view.ty) (X4 : BufTy.Contents (Elt F) arg4.view.ty) (X5 : BufTy.Contents (Elt F) arg5.view.ty) (k : Fin (k0_t1_loop i).trips) (f7 : BufTy.Contents (Elt F) arg7.view.ty) (f8 : BufTy.Contents (Elt F) arg8.view.ty) :
    (tripL_k0_t1 𝒱 c bd i arg3 harg3 arg4 harg4 arg5 harg5 arg6 harg6 arg7 harg7 arg8 harg8 c1 c2 c3 c4 X3 X4 X5 k f7 f8).1
      = planes fun h => nextMax (arg3.view.readAt (Elt F) (queryRect h).toLoadRect X3)
          (arg4.view.readAt (Elt F) (keyRect512 (tripRow i k) (tripRow_inb i k) h).toLoadRect X4)
          (arg7.view.readAt (Elt F) (headRect h).toLoadRect f7) := by
  unfold tripL_k0_t1 trip_k0_t1
  rfl

theorem trip_sum (𝒱 : Variants) (c : Dev nD) (bd : Option 𝒱.V) (i : grid0.Coords) (arg3 : Memref sig .tc .vmem S1x256x2048 .bf16) (harg3 : arg3.IsWhole) (arg4 : Memref sig .tc .vmem S1x2048x2048 .bf16) (harg4 : arg4.IsWhole) (arg5 : Memref sig .tc .vmem S1x2048x2048 .bf16) (harg5 : arg5.IsWhole) (arg6 : Memref sig .tc .vmem S1x256x1024 .bf16) (harg6 : arg6.IsWhole) (arg7 : Memref sig .tc .vmem S16x256x128 .f32) (harg7 : arg7.IsWhole) (arg8 : Memref sig .tc .vmem S16x256x128 .f32) (harg8 : arg8.IsWhole) (c1 c2 c3 c4 : BitVec 32) (X3 : BufTy.Contents (Elt F) arg3.view.ty) (X4 : BufTy.Contents (Elt F) arg4.view.ty) (X5 : BufTy.Contents (Elt F) arg5.view.ty) (k : Fin (k0_t1_loop i).trips) (f7 : BufTy.Contents (Elt F) arg7.view.ty) (f8 : BufTy.Contents (Elt F) arg8.view.ty) :
    (tripL_k0_t1 𝒱 c bd i arg3 harg3 arg4 harg4 arg5 harg5 arg6 harg6 arg7 harg7 arg8 harg8 c1 c2 c3 c4 X3 X4 X5 k f7 f8).2
      = planes fun h => nextSum (arg3.view.readAt (Elt F) (queryRect h).toLoadRect X3)
          (arg4.view.readAt (Elt F) (keyRect512 (tripRow i k) (tripRow_inb i k) h).toLoadRect X4)
          (arg5.view.readAt (Elt F) (keyRect512 (tripRow i k) (tripRow_inb i k) h).toLoadRect X5)
          (arg7.view.readAt (Elt F) (headRect h).toLoadRect f7) (arg8.view.readAt (Elt F) (headRect h).toLoadRect f8) := by
  unfold tripL_k0_t1 trip_k0_t1
  rfl

/-- What the loops over earlier keys leave on top of the first block's planes `H7` (maxima) and `H8` (sums): the pieces
of the sums. -/
def sumPieces (c : Dev nD) (i : grid0.Coords) (arg3 : Memref sig .tc .vmem S1x256x2048 .bf16) (harg3 : arg3.IsWhole) (arg4 : Memref sig .tc .vmem S1x2048x2048 .bf16) (harg4 : arg4.IsWhole) (arg5 : Memref sig .tc .vmem S1x2048x2048 .bf16) (harg5 : arg5.IsWhole) (arg6 : Memref sig .tc .vmem S1x256x1024 .bf16) (harg6 : arg6.IsWhole) (arg7 : Memref sig .tc .vmem S16x256x128 .f32) (harg7 : arg7.IsWhole) (arg8 : Memref sig .tc .vmem S16x256x128 .f32) (harg8 : arg8.IsWhole)
    (x0 : Vec F S1x256x2048 .bf16) (x1 x2 : Vec F S1x2048x2048 .bf16) (w w' : BitVec 32)
    (H7 H8 : List (View.Piece (Elt F) S16x256x128 .f32)) : List (View.Piece (Elt F) S16x256x128 .f32) :=
  (pb_k0_t2 Variants.none c none i arg3 harg3 arg4 harg4 arg5 harg5 arg6 harg6 arg7 harg7 arg8 harg8 1#32 0#32 0#32 w w' (harg3.unread x0) (harg4.unread x1) (harg5.unread x2)
    (arg7.view.writes (Elt F) arg7.view.junk ((pb_k0_t1 Variants.none c none i arg3 harg3 arg4 harg4 arg5 harg5 arg6 harg6 arg7 harg7 arg8 harg8 1#32 0#32 0#32 w (harg3.unread x0) (harg4.unread x1) (harg5.unread x2)
      (arg7.view.writes (Elt F) arg7.view.junk H7) (arg8.view.writes (Elt F) arg8.view.junk H8) (k0_t1_loop i).trips).1 ++ H7))
    (arg8.view.writes (Elt F) arg8.view.junk ((pb_k0_t1 Variants.none c none i arg3 harg3 arg4 harg4 arg5 harg5 arg6 harg6 arg7 harg7 arg8 harg8 1#32 0#32 0#32 w (harg3.unread x0) (harg4.unread x1) (harg5.unread x2)
      (arg7.view.writes (Elt F) arg7.view.junk H7) (arg8.view.writes (Elt F) arg8.view.junk H8) (k0_t1_loop i).trips).2 ++ H8))
    (k0_t2_loop i).trips).2
  ++ ((pb_k0_t1 Variants.none c none i arg3 harg3 arg4 harg4 arg5 harg5 arg6 harg6 arg7 harg7 arg8 harg8 1#32 0#32 0#32 w (harg3.unread x0) (harg4.unread x1) (harg5.unread x2)
      (arg7.view.writes (Elt F) arg7.view.junk H7) (arg8.view.writes (Elt F) arg8.view.junk H8) (k0_t1_loop i).trips).2 ++ H8)

theorem out_inb (b : Fin 8) : ∀ a, (![0, 0, 128 * b.val] : Fin 3 → ℕ) a + S1x256x128.size a ≤ S1x256x1024.size a := by
  intro a; have := b.isLt; fin_cases a <;> simp <;> omega

/-- The eight output blocks of head pairs, the last pair's first, from the planes of the sums. -/
def outPieces (w : Fin 16 → Vec F S1x256x128 .f32) : List (View.Piece (Elt F) S1x256x1024 .bf16) :=
  [7, 6, 5, 4, 3, 2, 1, 0].map fun b : Fin 8 => ⟨Rect.unit ![0, 0, 128 * b.val] S1x256x128.size (out_inb b),
    pairOut (w ⟨2 * b.val, by omega⟩) (w ⟨2 * b.val + 1, by omega⟩)⟩

theorem pieces_A (c : Dev nD) (i : grid0.Coords) (arg3 : Memref sig .tc .vmem S1x256x2048 .bf16) (harg3 : arg3.IsWhole) (arg4 : Memref sig .tc .vmem S1x2048x2048 .bf16) (harg4 : arg4.IsWhole) (arg5 : Memref sig .tc .vmem S1x2048x2048 .bf16) (harg5 : arg5.IsWhole) (arg6 : Memref sig .tc .vmem S1x256x1024 .bf16) (harg6 : arg6.IsWhole) (arg7 : Memref sig .tc .vmem S16x256x128 .f32) (harg7 : arg7.IsWhole) (arg8 : Memref sig .tc .vmem S16x256x128 .f32) (harg8 : arg8.IsWhole) (hc0 : cond0_0 i) (hc1 : ¬cond0_1 i) (hr : k0_off1 i 1 + 256 ≤ 2048)
    (x0 : Vec F S1x256x2048 .bf16) (x1 x2 : Vec F S1x2048x2048 .bf16) :
    ∃ w w' : BitVec 32, (kernelRun0_A c i arg3 harg3 arg4 harg4 arg5 harg5 arg6 harg6 arg7 harg7 arg8 harg8 hc0 hc1 x0 x1 x2).1
      = outPieces fun h => arg8.view.readCov (sumPieces c i arg3 harg3 arg4 harg4 arg5 harg5 arg6 harg6 arg7 harg7 arg8 harg8 x0 x1 x2 w w'
          (planes fun h => firstMax256 (arg3.view.readAt (Elt F) (queryRect h).toLoadRect (harg3.unread x0))
            (arg4.view.readAt (Elt F) (keyRect256 (k0_off1 i 1) hr h).toLoadRect (harg4.unread x1)))
          (planes fun h => firstSum256 (arg3.view.readAt (Elt F) (queryRect h).toLoadRect (harg3.unread x0))
            (arg4.view.readAt (Elt F) (keyRect256 (k0_off1 i 1) hr h).toLoadRect (harg4.unread x1))
            (arg5.view.readAt (Elt F) (keyRect256 (k0_off1 i 1) hr h).toLoadRect (harg5.unread x2)))) (headRect h).toLoadRect :=
  ⟨_, _, rfl⟩

theorem pieces_B (c : Dev nD) (i : grid0.Coords) (arg3 : Memref sig .tc .vmem S1x256x2048 .bf16) (harg3 : arg3.IsWhole) (arg4 : Memref sig .tc .vmem S1x2048x2048 .bf16) (harg4 : arg4.IsWhole) (arg5 : Memref sig .tc .vmem S1x2048x2048 .bf16) (harg5 : arg5.IsWhole) (arg6 : Memref sig .tc .vmem S1x256x1024 .bf16) (harg6 : arg6.IsWhole) (arg7 : Memref sig .tc .vmem S16x256x128 .f32) (harg7 : arg7.IsWhole) (arg8 : Memref sig .tc .vmem S16x256x128 .f32) (harg8 : arg8.IsWhole) (hc0 : ¬cond0_0 i) (hc1 : cond0_1 i) (hr : k0_off17 i 1 + 512 ≤ 2048)
    (x0 : Vec F S1x256x2048 .bf16) (x1 x2 : Vec F S1x2048x2048 .bf16) :
    ∃ w w' : BitVec 32, (kernelRun0_B c i arg3 harg3 arg4 harg4 arg5 harg5 arg6 harg6 arg7 harg7 arg8 harg8 hc0 hc1 x0 x1 x2).1
      = outPieces fun h => arg8.view.readCov (sumPieces c i arg3 harg3 arg4 harg4 arg5 harg5 arg6 harg6 arg7 harg7 arg8 harg8 x0 x1 x2 w w'
          (planes fun h => firstMax512 (arg3.view.readAt (Elt F) (queryRect h).toLoadRect (harg3.unread x0))
            (arg4.view.readAt (Elt F) (keyRect512 (k0_off17 i 1) hr h).toLoadRect (harg4.unread x1)))
          (planes fun h => firstSum512 (arg3.view.readAt (Elt F) (queryRect h).toLoadRect (harg3.unread x0))
            (arg4.view.readAt (Elt F) (keyRect512 (k0_off17 i 1) hr h).toLoadRect (harg4.unread x1))
            (arg5.view.readAt (Elt F) (keyRect512 (k0_off17 i 1) hr h).toLoadRect (harg5.unread x2)))) (headRect h).toLoadRect :=
  ⟨_, _, rfl⟩

end Cert.AttentionIdeal.Att

end
-- ==== Proof.Att.Idx.lean ====
/-
  The vector operations of one head read at an index: over the extended reals the maxima are suprema over the block's
  keys and the sums are sums over them.
-/
module

public import proofs.«01_k».proof.Proof.Att.Step
public import Idealize.ShloMosaic.Lib.Pointwise

@[expose] public section

set_option maxRecDepth 16384

noncomputable section

namespace Cert.AttentionIdeal.Att

open Cert.AttentionIdeal Cert.AttentionIdeal.Gen Idealize.ShloMosaic Idealize.ShloMosaic.TcCoe
open Facts

/-- The word of −∞ reads as `⊥`. -/
theorem negInf_f32 : Ideal.ofBits .f32 0xFF800000#32 = ⊥ := by
  simp [Ideal.ofBits, Ideal.ieee]

theorem fold_max_bot {ι : Type} [Fintype ι] (f : ι → EReal) :
    Finset.fold max (Ideal.ofBits .f32 0xFF800000#32) f Finset.univ = Finset.univ.sup f := by
  rw [negInf_f32]; rfl

/-- The lane a key's row maximum is read at. -/
abbrev lane (c : ℕ) : Fin 128 := ⟨c % 128, Nat.mod_lt _ (by norm_num)⟩

theorem score512_apply (q : Vec Ideal S1x256x128 .bf16) (k : Vec Ideal S1x512x128 .bf16) (r : Fin 256) (c : Fin 512) :
    score512 q k (ix2 r c) = (∑ d : Fin 128, q (ix3 0 r d) * k (ix3 0 c d) : EReal) := by
  pointwise [score512]

theorem rowMax512_apply (s : FVec Ideal S256x512 .f32) (r : Fin 256) (l : Fin 128) :
    rowMax512 s (ix2 r l) = Finset.univ.sup fun c : Fin 512 => (s (ix2 r c) : EReal) := by
  pointwise [rowMax512]
  exact fold_max_bot _

theorem mask512_apply (s : FVec Ideal S256x512 .f32) (r : Fin 256) (c : Fin 512) :
    mask512 s (ix2 r c) = if c.val ≤ r.val + 256 then (s (ix2 r c) : EReal) else ⊥ := by
  pointwise [mask512, k0_pay91]
  rw [negInf_f32]
  rw [show IntOp.addi (BitVec.ofNat 32 r.val) 256#32 = BitVec.ofNat 32 (r.val + 256) from (BitVec.ofNat_add _ _).symm]
  rw [WordCmp.cmpi_sle_ofNat (by omega) (by omega)]
  by_cases h : c.val ≤ r.val + 256
  · simp [h, Scalar.select]
  · simp [h, Scalar.select]

theorem sum512_apply (s : FVec Ideal S256x512 .f32) (mx : FVec Ideal S256x128 .f32) (v : Vec Ideal S1x512x128 .bf16) (r : Fin 256) (l : Fin 128) :
    sum512 s mx v (ix2 r l) = (∑ c : Fin 512, Ideal.exp2 (s (ix2 r c) - mx (ix2 r (lane c.val))) * v (ix3 0 c l) : EReal) := by
  pointwise [sum512]
  refine Finset.sum_congr (M := EReal) rfl fun c _ => ?_
  refine congrArg (fun x : EReal => Ideal.exp2 (s (ix2 r c) - x) * v (ix3 0 c l)) ?_
  try split_ifs
  all_goals exact congrArg (fun l => mx (ix2 r l)) (Fin.ext (by simp only [lane]; omega))

theorem score256_apply (q : Vec Ideal S1x256x128 .bf16) (k : Vec Ideal S1x256x128 .bf16) (r : Fin 256) (c : Fin 256) :
    score256 q k (ix2 r c) = (∑ d : Fin 128, q (ix3 0 r d) * k (ix3 0 c d) : EReal) := by
  pointwise [score256]

theorem rowMax256_apply (s : FVec Ideal S256x256 .f32) (r : Fin 256) (l : Fin 128) :
    rowMax256 s (ix2 r l) = Finset.univ.sup fun c : Fin 256 => (s (ix2 r c) : EReal) := by
  pointwise [rowMax256]
  exact fold_max_bot _

theorem mask256_apply (s : FVec Ideal S256x256 .f32) (r : Fin 256) (c : Fin 256) :
    mask256 s (ix2 r c) = if c.val ≤ r.val then (s (ix2 r c) : EReal) else ⊥ := by
  pointwise [mask256, k0_pay349]
  rw [negInf_f32]

  rw [WordCmp.cmpi_sle_ofNat (by omega) (by omega)]
  by_cases h : c.val ≤ r.val
  · have h' : c ≤ r := h
    simp [h', Scalar.select]
  · have h' : ¬ c ≤ r := h
    simp [h', Scalar.select]

theorem sum256_apply (s : FVec Ideal S256x256 .f32) (mx : FVec Ideal S256x128 .f32) (v : Vec Ideal S1x256x128 .bf16) (r : Fin 256) (l : Fin 128) :
    sum256 s mx v (ix2 r l) = (∑ c : Fin 256, Ideal.exp2 (s (ix2 r c) - mx (ix2 r (lane c.val))) * v (ix3 0 c l) : EReal) := by
  pointwise [sum256]
  refine Eq.trans ?_ (Fin.sum_univ_add (M := EReal) (a := 128) (b := 128) (fun c : Fin 256 => Ideal.exp2 (s (ix2 r c) - mx (ix2 r (lane c.val))) * v (ix3 0 c l))).symm
  refine congrArg₂ (· + ·) (Finset.sum_congr (M := EReal) rfl fun c _ => ?_) (Finset.sum_congr (M := EReal) rfl fun c _ => ?_)
  · exact congrArg (fun x => Ideal.exp2 (s (ix2 r _) - mx (ix2 r x)) * v (ix3 0 _ l)) (Fin.ext (by have := c.isLt; simp [lane]; omega))
  · exact congrArg (fun x => Ideal.exp2 (s (ix2 r _) - mx (ix2 r x)) * v (ix3 0 _ l)) (Fin.ext (by have := c.isLt; simp [lane]; omega))

theorem pairOut_apply (a b : Vec Ideal S1x256x128 .f32) (r : Fin 256) (l : Fin 128) :
    pairOut a b (ix3 0 r l) = if l.val < 64 then Ideal.div (a (ix3 0 r l)) (a (ix3 0 r (lane (l.val + 64)))) else Ideal.div (b (ix3 0 r l)) (b (ix3 0 r (lane (l.val + 64)))) := by
  pointwise [pairOut, k0_pay356]
  have e : (l.val + 128 - 64) % 128 = (l.val + 64) % 128 := by omega
  rw [WordCmp.cmpi_slt_ofNat (by omega) (by omega), WordCmp.cmpi_slt_ofNat (by omega) (by omega)]
  simp only [e]
  by_cases h : l.val < 64
  · have h2 : ¬ (l.val + 64) % 128 < 64 := by omega
    simp [h, h2, Scalar.select, lane]
  · have h2 : (l.val + 64) % 128 < 64 := by omega
    simp [h, h2, Scalar.select, lane]

theorem nextMax_apply (q : Vec Ideal S1x256x128 .bf16) (k : Vec Ideal S1x512x128 .bf16) (m : Vec Ideal S1x256x128 .f32) (r : Fin 256) (l : Fin 128) :
    nextMax q k m (ix2 r l) = max (m (ix3 0 r l)) (Finset.univ.sup fun c : Fin 512 => (score512 q k (ix2 r c) : EReal)) := by
  pointwise [nextMax]
  exact congrArg (max _) (rowMax512_apply _ _ _)

theorem nextSum_apply (q : Vec Ideal S1x256x128 .bf16) (k : Vec Ideal S1x512x128 .bf16) (v : Vec Ideal S1x512x128 .bf16) (m a : Vec Ideal S1x256x128 .f32) (r : Fin 256) (l : Fin 128) :
    nextSum q k v m a (ix2 r l) = (Ideal.exp2 (m (ix3 0 r l) - nextMax q k m (ix2 r l)) * a (ix3 0 r l) + sum512 (score512 q k) (nextMax q k m) v (ix2 r l) : EReal) := by
  pointwise [nextSum]
  try rfl

end Cert.AttentionIdeal.Att

end
-- ==== Proof.Att.Math.lean ====
/-
  The online softmax over the extended reals: the maximum and the weighted sum of a set of keys, and what one more block
  of keys makes of them.
-/
module

public import Idealize.ShloMosaic.Lib.Pointwise

@[expose] public section

noncomputable section

namespace Cert.Softmax

open Idealize.ShloMosaic

/-- The largest logit of a set of keys. -/
def top (S : ℕ → ℝ) (T : Finset ℕ) : EReal := T.sup fun c => (S c : EReal)

/-- The keys' values weighted by 2 to their logit less `m`. -/
def weighted (S : ℕ → ℝ) (v : ℕ → EReal) (m : EReal) (T : Finset ℕ) : EReal :=
  ∑ c ∈ T, Ideal.exp2 ((S c : EReal) - m) * v c

/-- A nonempty set's largest logit is one of its logits. -/
theorem top_attained (S : ℕ → ℝ) {T : Finset ℕ} (hT : T.Nonempty) : ∃ c ∈ T, top S T = (S c : EReal) :=
  Finset.exists_mem_eq_sup T hT _

theorem top_union (S : ℕ → ℝ) (T T' : Finset ℕ) : top S (T ∪ T') = max (top S T) (top S T') :=
  Finset.sup_union

theorem exp2_sub_coe (a b : ℝ) : Ideal.exp2 ((a : EReal) - (b : EReal)) = (((2 : ℝ) ^ (a - b) : ℝ) : EReal) := by
  rw [← EReal.coe_sub, Ideal.exp2_coe, Real.rpow_eq_pow]

theorem mul_sum_of_coe {ι : Type} (c : ℝ) (hc : 0 ≤ c) (s : Finset ι) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, ← ih,
      EReal.left_distrib_of_nonneg_of_ne_top (by exact_mod_cast hc) (EReal.coe_ne_top c)]

/-- The sums of a set of keys, rescaled to the larger maximum, plus those of the next keys, are the sums of the union. -/
theorem weighted_union (S : ℕ → ℝ) (v : ℕ → EReal) {T T' : Finset ℕ} (hT : T.Nonempty) (hd : Disjoint T T') :
    Ideal.exp2 (top S T - top S (T ∪ T')) * weighted S v (top S T) T + weighted S v (top S (T ∪ T')) T'
      = weighted S v (top S (T ∪ T')) (T ∪ T') := by
  obtain ⟨c, -, hc⟩ := top_attained S hT
  obtain ⟨d, -, hd'⟩ := top_attained S (T := T ∪ T') (hT.mono Finset.subset_union_left)
  rw [hc, hd']
  simp only [weighted]
  rw [Finset.sum_union hd, exp2_sub_coe, mul_sum_of_coe _ (by positivity)]
  refine congrArg (· + _) (Finset.sum_congr rfl fun x _ => ?_)
  rw [exp2_sub_coe, exp2_sub_coe, ← mul_assoc, ← EReal.coe_mul, ← Real.rpow_add (by norm_num)]
  exact congrArg (fun y : ℝ => (((2 : ℝ) ^ y : ℝ) : EReal) * v x) (by ring)

/-- The denominator is a positive real number. -/
theorem weighted_one (S : ℕ → ℝ) {T : Finset ℕ} (hT : T.Nonempty) :
    ∃ d : ℝ, 0 < d ∧ weighted S (fun _ => 1) (top S T) T = (d : EReal) := by
  obtain ⟨c, hcT, hc⟩ := top_attained S hT
  refine ⟨∑ x ∈ T, (2 : ℝ) ^ (S x - S c), Finset.sum_pos (fun x _ => by positivity) hT, ?_⟩
  rw [hc, weighted]
  simp only [exp2_sub_coe, mul_one]
  exact (map_sum (⟨⟨Real.toEReal, rfl⟩, EReal.coe_add⟩ : ℝ →+ EReal) _ T).symm

/-- The quotient of the sums is the sum of the values by the quotients. -/
theorem quotient (S : ℕ → ℝ) (v : ℕ → EReal) {T : Finset ℕ} (hT : T.Nonempty) :
    Ideal.div (weighted S v (top S T) T) (weighted S (fun _ => 1) (top S T) T)
      = ∑ c ∈ T, Ideal.div (Ideal.exp2 ((S c : EReal) - top S T)) (weighted S (fun _ => 1) (top S T) T) * v c := by
  obtain ⟨d, hd, e⟩ := weighted_one S hT
  rw [e]
  simp only [Ideal.div_coe hd.ne', weighted]
  rw [mul_comm, mul_sum_of_coe _ (by positivity)]
  refine Finset.sum_congr rfl fun c _ => ?_
  rw [← mul_assoc, mul_comm (_ : EReal) (Ideal.exp2 _)]

/-- The exponential of the difference of the logits in natural units is 2 to their difference. -/
theorem exp_mul_log_two (a b : ℝ) :
    Ideal.exp ((a : EReal) * (Real.log 2 : ℝ) - (b : EReal) * (Real.log 2 : ℝ)) = Ideal.exp2 ((a : EReal) - (b : EReal)) := by
  rw [exp2_sub_coe, ← EReal.coe_mul, ← EReal.coe_mul, ← EReal.coe_sub, Ideal.exp_coe, Real.rpow_def_of_pos (by norm_num)]
  congr 2
  ring

theorem top_mul_log_two (S : ℕ → ℝ) {T : Finset ℕ} (hT : T.Nonempty) :
    (T.sup fun c => (S c : EReal) * (Real.log 2 : ℝ)) = top S T * (Real.log 2 : ℝ) := by
  obtain ⟨c, hcT, hc⟩ := top_attained S hT
  rw [hc]
  refine le_antisymm (Finset.sup_le fun x hx => ?_) (Finset.le_sup (f := fun c => (S c : EReal) * (Real.log 2 : ℝ)) hcT)
  have h : (S x : EReal) ≤ S c := by rw [← hc]; exact Finset.le_sup (f := fun c => (S c : EReal)) hx
  rw [← EReal.coe_mul, ← EReal.coe_mul]
  have h2 : S x ≤ S c := by exact_mod_cast h
  exact_mod_cast mul_le_mul_of_nonneg_right h2 (Real.log_nonneg (by norm_num))

/-- The keys of one block of `n` from `r0`. -/
def block (r0 n : ℕ) : Finset ℕ := Finset.Ico r0 (r0 + n)

theorem sum_block (r0 n : ℕ) (f : ℕ → EReal) : ∑ c : Fin n, f (r0 + c.val) = ∑ c ∈ block r0 n, f c := by
  rw [block, Finset.sum_Ico_eq_sum_range, Nat.add_sub_cancel_left]
  exact Fin.sum_univ_eq_sum_range (fun c => f (r0 + c)) n

theorem sup_block (r0 n : ℕ) (f : ℕ → EReal) : (Finset.univ.sup fun c : Fin n => f (r0 + c.val)) = (block r0 n).sup f := by
  refine le_antisymm (Finset.sup_le fun c _ => Finset.le_sup (f := f) ?_) (Finset.sup_le fun c hc => ?_)
  · simp [block]
  · obtain ⟨h1, h2⟩ := Finset.mem_Ico.1 hc
    have := Finset.le_sup (f := fun c : Fin n => f (r0 + c.val)) (Finset.mem_univ ⟨c - r0, by omega⟩)
    simpa [Nat.add_sub_cancel' h1] using this

/-- Keys masked by ⊥ count for nothing in the maximum. -/
theorem sup_masked (T : Finset ℕ) (p : ℕ → Prop) [DecidablePred p] (f : ℕ → EReal) :
    (T.sup fun c => if p c then f c else ⊥) = (T.filter p).sup f := by
  refine le_antisymm (Finset.sup_le fun c hc => ?_) (Finset.sup_le fun c hc => ?_)
  · by_cases h : p c
    · simpa [h] using Finset.le_sup (f := f) (Finset.mem_filter.2 ⟨hc, h⟩)
    · simp [h]
  · obtain ⟨h1, h2⟩ := Finset.mem_filter.1 hc
    simpa [h2] using Finset.le_sup (f := fun c => if p c then f c else ⊥) h1

/-- Nor in the sums. -/
theorem sum_masked (T : Finset ℕ) (p : ℕ → Prop) [DecidablePred p] (f v : ℕ → EReal) (m : EReal) :
    ∑ c ∈ T, Ideal.exp2 ((if p c then f c else ⊥) - m) * v c = ∑ c ∈ T.filter p, Ideal.exp2 (f c - m) * v c := by
  rw [Finset.sum_filter]
  refine Finset.sum_congr rfl fun c _ => ?_
  by_cases h : p c <;> simp [h]

/-- The softmax over all keys, those after `r` masked by ⊥ and the logits in natural units, is the quotient of the sums
    over the keys at or before `r`. -/
theorem masked_softmax (S : ℕ → ℝ) (v : ℕ → EReal) {n r : ℕ} (hr : r < n) (L : Fin n → EReal)
    (hL : ∀ x : Fin n, L x = if x.val ≤ r then (S x.val : EReal) * (Real.log 2 : ℝ) else ⊥) (w : Fin n → EReal) (hw : ∀ x : Fin n, w x = v x.val) :
    ∑ x : Fin n, Ideal.div (Ideal.exp (L x - max ⊥ (Finset.univ.sup L))) (∑ y : Fin n, Ideal.exp (L y - max ⊥ (Finset.univ.sup L))) * w x
      = Ideal.div (weighted S v (top S (Finset.range (r + 1))) (Finset.range (r + 1)))
          (weighted S (fun _ => 1) (top S (Finset.range (r + 1))) (Finset.range (r + 1))) := by
  have hT : (Finset.range (r + 1)).Nonempty := ⟨0, by simp⟩
  have hf : (Finset.range n).filter (fun x => x ≤ r) = Finset.range (r + 1) := by
    ext x; simp only [Finset.mem_filter, Finset.mem_range]; omega
  have hmax : max ⊥ (Finset.univ.sup L) = top S (Finset.range (r + 1)) * (Real.log 2 : ℝ) := by
    rw [max_eq_right bot_le, ← top_mul_log_two S hT, ← hf, ← sup_masked]
    have h := sup_block 0 n fun x => if x ≤ r then (S x : EReal) * (Real.log 2 : ℝ) else ⊥
    simp only [Nat.zero_add, block, ← Finset.range_eq_Ico] at h
    rw [← h]
    exact Finset.sup_congr rfl fun x _ => hL x
  have hexp : ∀ x : Fin n, Ideal.exp (L x - max ⊥ (Finset.univ.sup L))
      = if x.val ≤ r then Ideal.exp2 ((S x.val : EReal) - top S (Finset.range (r + 1))) else 0 := by
    intro x
    rw [hmax, hL]
    obtain ⟨c, -, hc⟩ := top_attained S hT
    rw [hc]
    by_cases h : x.val ≤ r
    · rw [if_pos h, if_pos h, exp_mul_log_two]
    · rw [if_neg h, if_neg h, EReal.bot_sub, Ideal.exp_bot]
  have hden : ∑ y : Fin n, Ideal.exp (L y - max ⊥ (Finset.univ.sup L)) = weighted S (fun _ => 1) (top S (Finset.range (r + 1))) (Finset.range (r + 1)) := by
    simp only [hexp]
    rw [Fin.sum_univ_eq_sum_range (fun x => if x ≤ r then Ideal.exp2 ((S x : EReal) - top S (Finset.range (r + 1))) else 0) n, ← Finset.sum_filter, hf]
    simp only [weighted, mul_one]
  rw [hden, quotient S v hT]
  obtain ⟨d, hd, e⟩ := weighted_one S hT
  rw [e, ← hf, Finset.sum_filter, ← Fin.sum_univ_eq_sum_range
    (fun x => if x ≤ r then Ideal.div (Ideal.exp2 ((S x : EReal) - top S ((Finset.range n).filter fun x => x ≤ r))) (d : EReal) * v x else 0) n]
  refine Finset.sum_congr rfl fun x _ => ?_
  rw [hexp, hw, hf]
  by_cases h : x.val ≤ r
  · simp only [if_pos h]
  · simp only [if_neg h, Ideal.div_coe hd.ne', zero_mul]

end Cert.Softmax

end
-- ==== Proof.Att.Holds.lean ====
/-
  The planes of one head, block after block: after any number of blocks of keys the maxima are the largest logits of the
  keys seen, and the sums the values weighted against that maximum.
-/
module

public import proofs.«01_k».proof.Proof.Att.Idx
public import proofs.«01_k».proof.Proof.Att.Math

@[expose] public section

set_option maxRecDepth 16384

noncomputable section

namespace Cert.AttentionIdeal.Att

open Cert.AttentionIdeal Cert.AttentionIdeal.Gen Idealize.ShloMosaic Idealize.ShloMosaic.TcCoe
open Cert.Softmax

/-- The planes `m` and `a` hold the maxima and the sums of the keys `T r` of each query row `r`. -/
def Holds (S : Fin 256 → ℕ → ℝ) (v : Fin 128 → ℕ → EReal) (T : Fin 256 → Finset ℕ) (m a : Vec Ideal S1x256x128 .f32) : Prop :=
  ∀ (r : Fin 256) (l : Fin 128), m (ix3 0 r l) = top (S r) (T r) ∧ a (ix3 0 r l) = weighted (S r) (v l) (top (S r) (T r)) (T r)

theorem plane_apply (x : FVec Ideal S256x128 .f32) (r : Fin 256) (l : Fin 128) : plane x (ix3 0 r l) = x (ix2 r l) := by
  pointwise

theorem holds_first256 (S : Fin 256 → ℕ → ℝ) (v : Fin 128 → ℕ → EReal) (r0 : ℕ) (q k w : Vec Ideal S1x256x128 .bf16)
    (hS : ∀ (r c : Fin 256), (∑ d : Fin 128, q (ix3 0 r d) * k (ix3 0 c d) : EReal) = S r (r0 + c.val))
    (hv : ∀ (c : Fin 256) (l : Fin 128), w (ix3 0 c l) = v l (r0 + c.val)) :
    Holds S v (fun r => (block r0 256).filter fun c => c ≤ r0 + r.val) (plane (firstMax256 q k)) (plane (firstSum256 q k w)) := by
  have hs : ∀ r c : Fin 256, mask256 (score256 q k) (ix2 r c) = (fun c : ℕ => if c ≤ r0 + r.val then ((S r c : ℝ) : EReal) else ⊥) (r0 + c.val) := by
    intro r c
    rw [mask256_apply, score256_apply, hS]
    simp only [Nat.add_le_add_iff_left]
  have hm : ∀ (r : Fin 256) (l : Fin 128), firstMax256 q k (ix2 r l) = top (S r) ((block r0 256).filter fun c => c ≤ r0 + r.val) := by
    intro r l
    rw [firstMax256, rowMax256_apply]
    simp only [hs]
    rw [sup_block r0 256 (fun c : ℕ => if c ≤ r0 + r.val then ((S r c : ℝ) : EReal) else ⊥), sup_masked]
    rfl
  intro r l
  rw [plane_apply, plane_apply]
  refine ⟨hm r l, ?_⟩
  rw [firstSum256, sum256_apply]
  simp only [hs, hm, hv]
  rw [sum_block r0 256 (fun c : ℕ => Ideal.exp2 ((if c ≤ r0 + r.val then ((S r c : ℝ) : EReal) else ⊥) - _) * v l c), sum_masked]
  rfl

theorem holds_first512 (S : Fin 256 → ℕ → ℝ) (v : Fin 128 → ℕ → EReal) (r0 : ℕ) (q : Vec Ideal S1x256x128 .bf16) (k w : Vec Ideal S1x512x128 .bf16)
    (hS : ∀ (r : Fin 256) (c : Fin 512), (∑ d : Fin 128, q (ix3 0 r d) * k (ix3 0 c d) : EReal) = S r (r0 + c.val))
    (hv : ∀ (c : Fin 512) (l : Fin 128), w (ix3 0 c l) = v l (r0 + c.val)) :
    Holds S v (fun r => (block r0 512).filter fun c => c ≤ r0 + (r.val + 256)) (plane (firstMax512 q k)) (plane (firstSum512 q k w)) := by
  have hs : ∀ (r : Fin 256) (c : Fin 512), mask512 (score512 q k) (ix2 r c) = (fun c : ℕ => if c ≤ r0 + (r.val + 256) then ((S r c : ℝ) : EReal) else ⊥) (r0 + c.val) := by
    intro r c
    rw [mask512_apply, score512_apply, hS]
    simp only [Nat.add_le_add_iff_left]
  have hm : ∀ (r : Fin 256) (l : Fin 128), firstMax512 q k (ix2 r l) = top (S r) ((block r0 512).filter fun c => c ≤ r0 + (r.val + 256)) := by
    intro r l
    rw [firstMax512, rowMax512_apply]
    simp only [hs]
    rw [sup_block r0 512 (fun c : ℕ => if c ≤ r0 + (r.val + 256) then ((S r c : ℝ) : EReal) else ⊥), sup_masked]
    rfl
  intro r l
  rw [plane_apply, plane_apply]
  refine ⟨hm r l, ?_⟩
  rw [firstSum512, sum512_apply]
  simp only [hs, hm, hv]
  rw [sum_block r0 512 (fun c : ℕ => Ideal.exp2 ((if c ≤ r0 + (r.val + 256) then ((S r c : ℝ) : EReal) else ⊥) - _) * v l c), sum_masked]
  rfl

theorem holds_next (S : Fin 256 → ℕ → ℝ) (v : Fin 128 → ℕ → EReal) (T : Fin 256 → Finset ℕ) (r0 : ℕ) (q : Vec Ideal S1x256x128 .bf16) (k w : Vec Ideal S1x512x128 .bf16)
    (m a : Vec Ideal S1x256x128 .f32) (h : Holds S v T m a) (hT : ∀ r, (T r).Nonempty) (hd : ∀ r, Disjoint (T r) (block r0 512))
    (hS : ∀ (r : Fin 256) (c : Fin 512), (∑ d : Fin 128, q (ix3 0 r d) * k (ix3 0 c d) : EReal) = S r (r0 + c.val))
    (hv : ∀ (c : Fin 512) (l : Fin 128), w (ix3 0 c l) = v l (r0 + c.val)) :
    Holds S v (fun r => T r ∪ block r0 512) (plane (nextMax q k m)) (plane (nextSum q k w m a)) := by
  have hm : ∀ (r : Fin 256) (l : Fin 128), nextMax q k m (ix2 r l) = top (S r) (T r ∪ block r0 512) := by
    intro r l
    rw [nextMax_apply, (h r l).1, top_union]
    simp only [score512_apply, hS]
    rw [sup_block r0 512 (fun c => ((S r c : ℝ) : EReal))]
    rfl
  intro r l
  rw [plane_apply, plane_apply]
  refine ⟨hm r l, ?_⟩
  rw [nextSum_apply, sum512_apply, (h r l).1, (h r l).2]
  simp only [hm, hv, score512_apply, hS]
  rw [sum_block r0 512 (fun c : ℕ => Ideal.exp2 (((S r c : ℝ) : EReal) - _) * v l c)]
  exact weighted_union (S r) (v l) (hT r) (hd r)

end Cert.AttentionIdeal.Att

end
-- ==== Proof.Att.Loop.lean ====
/-
  The loop over the earlier keys: the trips of a grid point, the planes they leave, and what the sums read after them.
-/
module

public import proofs.«01_k».proof.Proof.Att.Holds
public import Idealize.ShloMosaic.Lib.WritesUnit

@[expose] public section

set_option maxRecDepth 16384

noncomputable section

namespace Cert.AttentionIdeal.Att

open Cert.AttentionIdeal Cert.AttentionIdeal.Gen Idealize.ShloMosaic Idealize.ShloMosaic.TcCoe
open Cert.Softmax

/-! ### Trip counts and rows -/

theorem trips_one : ∀ t : Fin grid0.N, (k0_t1_loop (grid0.coords t)).trips = t.val % 8 / 2 := by decide +kernel

theorem trips_two : ∀ t : Fin grid0.N, (k0_t2_loop (grid0.coords t)).trips = 0 := by decide +kernel

theorem row_A : ∀ t : Fin grid0.N, k0_off1 (grid0.coords t) 1 = 256 * (t.val % 8) := by decide +kernel

theorem row_B : ∀ t : Fin grid0.N, k0_off17 (grid0.coords t) 1 = 512 * (t.val % 8 / 2) := by decide +kernel

theorem trip_row : ∀ (t : Fin grid0.N) (k : Fin (k0_t1_loop (grid0.coords t)).trips), tripRow (grid0.coords t) k = 512 * k.val := by
  decide +kernel

/-! ### Reading loads and planes -/

/-- Lane `d` of head `h`. -/
abbrev headLane (h : Fin 16) (d : Fin 128) : Fin 2048 := ⟨128 * h.val + d.val, by omega⟩

theorem read_query (arg3 : Memref sig .tc .vmem S1x256x2048 .bf16) (harg3 : arg3.IsWhole) (x0 : Vec Ideal S1x256x2048 .bf16) (h : Fin 16) (r : Fin 256) (d : Fin 128) :
    arg3.view.readAt (Elt Ideal) (queryRect h).toLoadRect (harg3.unread x0) (ix3 0 r d) = x0 (ix3 0 r (headLane h d)) := by
  rw [View.readAt_apply, harg3.read_unread]
  refine congrArg x0 (funext fun a => Fin.ext ?_)
  fin_cases a <;> simp [LoadRect.idx, Rect.toLoadRect, Rect.unit, ix3]

theorem read_key512 (arg4 : Memref sig .tc .vmem S1x2048x2048 .bf16) (harg4 : arg4.IsWhole) (x1 : Vec Ideal S1x2048x2048 .bf16) (r0 : ℕ) (hr : r0 + 512 ≤ 2048) (h : Fin 16) (c : Fin 512) (d : Fin 128) :
    arg4.view.readAt (Elt Ideal) (keyRect512 r0 hr h).toLoadRect (harg4.unread x1) (ix3 0 c d) = x1 (ix3 0 ⟨r0 + c.val, by omega⟩ (headLane h d)) := by
  rw [View.readAt_apply, harg4.read_unread]
  refine congrArg x1 (funext fun a => Fin.ext ?_)
  fin_cases a <;> simp [LoadRect.idx, Rect.toLoadRect, Rect.unit, ix3]

theorem read_key256 (arg4 : Memref sig .tc .vmem S1x2048x2048 .bf16) (harg4 : arg4.IsWhole) (x1 : Vec Ideal S1x2048x2048 .bf16) (r0 : ℕ) (hr : r0 + 256 ≤ 2048) (h : Fin 16) (c : Fin 256) (d : Fin 128) :
    arg4.view.readAt (Elt Ideal) (keyRect256 r0 hr h).toLoadRect (harg4.unread x1) (ix3 0 c d) = x1 (ix3 0 ⟨r0 + c.val, by omega⟩ (headLane h d)) := by
  rw [View.readAt_apply, harg4.read_unread]
  refine congrArg x1 (funext fun a => Fin.ext ?_)
  fin_cases a <;> simp [LoadRect.idx, Rect.toLoadRect, Rect.unit, ix3]

/-- A head's plane reads back from any list of planes that has it. -/
theorem read_planes_list (arg : Memref sig .tc .vmem S16x256x128 .f32) (f : arg.view.ty.Contents (Elt Ideal)) (w : Fin 16 → FVec Ideal S256x128 .f32)
    (L : List (View.Piece (Elt Ideal) S16x256x128 .f32)) (h : Fin 16) : ∀ hs : List (Fin 16), h ∈ hs →
    arg.view.readAt (Elt Ideal) (headRect h).toLoadRect (arg.view.writes (Elt Ideal) f ((hs.map fun h : Fin 16 => (⟨headRect h, plane (w h)⟩ : View.Piece (Elt Ideal) S16x256x128 .f32)) ++ L)) = plane (w h)
  | [], hm => absurd hm (by simp)
  | b :: hs, hm => by
    funext y
    rw [View.readAt_apply, List.map_cons, List.cons_append]
    by_cases e : h = b
    · subst e
      exact View.read_writes_cons_unit_of_mem _ _ _ _ _ _ y rfl (fun a => by fin_cases a <;> simp [LoadRect.idx, Rect.toLoadRect, Rect.unit])
    · rw [View.read_writes_cons_unit_of_not_mem _ _ _ _ _ _ rfl 0 (by
        have h0 : (y 0).val = 0 := by have := (y 0).isLt; simp at this; omega
        have hne : h.val ≠ b.val := fun e' => e (Fin.ext e')
        simp [LoadRect.idx, Rect.toLoadRect, Rect.unit, h0]
        omega)]
      exact congrFun (read_planes_list arg f w L h hs (by simpa [e] using hm)) y

theorem read_planes (arg : Memref sig .tc .vmem S16x256x128 .f32) (f : arg.view.ty.Contents (Elt Ideal)) (w : Fin 16 → FVec Ideal S256x128 .f32)
    (L : List (View.Piece (Elt Ideal) S16x256x128 .f32)) (h : Fin 16) :
    arg.view.readAt (Elt Ideal) (headRect h).toLoadRect (arg.view.writes (Elt Ideal) f (planes w ++ L)) = plane (w h) :=
  read_planes_list arg f w L h _ (by fin_cases h <;> simp)

theorem range_block (n : ℕ) : Finset.range (512 * n) ∪ block (512 * n) 512 = Finset.range (512 * (n + 1)) := by
  ext x; simp [block]; omega

/-- After `n` trips the planes hold the first `512 n` keys as well. -/
theorem holds_trips (c : Dev nD) (t : Fin grid0.N) (arg3 : Memref sig .tc .vmem S1x256x2048 .bf16) (harg3 : arg3.IsWhole) (arg4 : Memref sig .tc .vmem S1x2048x2048 .bf16) (harg4 : arg4.IsWhole) (arg5 : Memref sig .tc .vmem S1x2048x2048 .bf16) (harg5 : arg5.IsWhole) (arg6 : Memref sig .tc .vmem S1x256x1024 .bf16) (harg6 : arg6.IsWhole) (arg7 : Memref sig .tc .vmem S16x256x128 .f32) (harg7 : arg7.IsWhole) (arg8 : Memref sig .tc .vmem S16x256x128 .f32) (harg8 : arg8.IsWhole)
    (w : BitVec 32) (x0 : Vec Ideal S1x256x2048 .bf16) (x1 x2 : Vec Ideal S1x2048x2048 .bf16) (G7 : arg7.view.ty.Contents (Elt Ideal)) (G8 : arg8.view.ty.Contents (Elt Ideal))
    (S : Fin 16 → Fin 256 → ℕ → ℝ) (v : Fin 16 → Fin 128 → ℕ → EReal) (T : Fin 256 → Finset ℕ)
    (hS : ∀ h r (c : Fin 2048), (∑ d : Fin 128, x0 (ix3 0 r (headLane h d)) * x1 (ix3 0 c (headLane h d)) : EReal) = S h r c.val)
    (hv : ∀ h l (c : Fin 2048), x2 (ix3 0 c (headLane h l)) = v h l c.val)
    (hT : ∀ r, (T r).Nonempty) (hd : ∀ r, ∀ c ∈ T r, 512 * (t.val % 8 / 2) ≤ c)
    (h0 : ∀ h, Holds (S h) (v h) T (arg7.view.readAt (Elt Ideal) (headRect h).toLoadRect G7) (arg8.view.readAt (Elt Ideal) (headRect h).toLoadRect G8)) :
    ∀ n ≤ (k0_t1_loop (grid0.coords t)).trips, ∀ h, Holds (S h) (v h) (fun r => T r ∪ Finset.range (512 * n))
      (arg7.view.readAt (Elt Ideal) (headRect h).toLoadRect (arg7.view.writes (Elt Ideal) G7 (pb_k0_t1 Variants.none c none (grid0.coords t) arg3 harg3 arg4 harg4 arg5 harg5 arg6 harg6 arg7 harg7 arg8 harg8 1#32 0#32 0#32 w (harg3.unread x0) (harg4.unread x1) (harg5.unread x2) G7 G8 n).1))
      (arg8.view.readAt (Elt Ideal) (headRect h).toLoadRect (arg8.view.writes (Elt Ideal) G8 (pb_k0_t1 Variants.none c none (grid0.coords t) arg3 harg3 arg4 harg4 arg5 harg5 arg6 harg6 arg7 harg7 arg8 harg8 1#32 0#32 0#32 w (harg3.unread x0) (harg4.unread x1) (harg5.unread x2) G7 G8 n).2)) := by
  intro n
  induction n with
  | zero => intro _ h; simpa [pb_k0_t1, View.writes_nil] using h0 h
  | succ n ih =>
    intro hn h
    have ih' := ih (Nat.le_of_succ_le hn)
    have e := pb_k0_t1_succ (F := Ideal) Variants.none c none (grid0.coords t) arg3 harg3 arg4 harg4 arg5 harg5 arg6 harg6 arg7 harg7 arg8 harg8 1#32 0#32 0#32 w (harg3.unread x0) (harg4.unread x1) (harg5.unread x2) G7 G8 ⟨n, hn⟩
    have er := trip_row t ⟨n, hn⟩
    rw [trips_one] at hn
    rw [(congrArg Prod.fst e).trans (congrArg (· ++ _) (trip_max ..)), (congrArg Prod.snd e).trans (congrArg (· ++ _) (trip_sum ..)),
      read_planes, read_planes]
    have := holds_next (S h) (v h) (fun r => T r ∪ Finset.range (512 * n)) (512 * n) _ _ (ih' h)
      (fun r => (hT r).mono Finset.subset_union_left)
      (fun r => by
        rw [Finset.disjoint_left]
        intro x hx hb
        obtain ⟨h1, h2⟩ := Finset.mem_Ico.1 hb
        rcases Finset.mem_union.1 hx with h | h
        · have := hd r x h; omega
        · have := Finset.mem_range.1 h; omega)
      (q := arg3.view.readAt (Elt Ideal) (queryRect h).toLoadRect (harg3.unread x0))
      (k := arg4.view.readAt (Elt Ideal) (keyRect512 (tripRow (grid0.coords t) ⟨n, by rw [trips_one]; exact hn⟩) (tripRow_inb _ _) h).toLoadRect (harg4.unread x1))
      (w := arg5.view.readAt (Elt Ideal) (keyRect512 (tripRow (grid0.coords t) ⟨n, by rw [trips_one]; exact hn⟩) (tripRow_inb _ _) h).toLoadRect (harg5.unread x2))
      (fun r c => by
        simp only [read_query, read_key512]
        rw [hS h r]
        exact congrArg (fun x => ((S h r x : ℝ) : EReal)) (congrArg (· + c.val) er))
      (fun c l => by
        rw [read_key512, hv]
        exact congrArg (v h l) (congrArg (· + c.val) er))
    have et : (fun r => T r ∪ Finset.range (512 * n) ∪ block (512 * n) 512) = fun r => T r ∪ Finset.range (512 * (n + 1)) := by
      funext r; rw [Finset.union_assoc, range_block]
    rw [et] at this
    exact this

/-- What the sums' planes read after the loops. -/
theorem holds_sums (c : Dev nD) (t : Fin grid0.N) (arg3 : Memref sig .tc .vmem S1x256x2048 .bf16) (harg3 : arg3.IsWhole) (arg4 : Memref sig .tc .vmem S1x2048x2048 .bf16) (harg4 : arg4.IsWhole) (arg5 : Memref sig .tc .vmem S1x2048x2048 .bf16) (harg5 : arg5.IsWhole) (arg6 : Memref sig .tc .vmem S1x256x1024 .bf16) (harg6 : arg6.IsWhole) (arg7 : Memref sig .tc .vmem S16x256x128 .f32) (harg7 : arg7.IsWhole) (arg8 : Memref sig .tc .vmem S16x256x128 .f32) (harg8 : arg8.IsWhole)
    (x0 : Vec Ideal S1x256x2048 .bf16) (x1 x2 : Vec Ideal S1x2048x2048 .bf16) (w w' : BitVec 32) (H7 H8 : Fin 16 → FVec Ideal S256x128 .f32)
    (S : Fin 16 → Fin 256 → ℕ → ℝ) (v : Fin 16 → Fin 128 → ℕ → EReal) (T : Fin 256 → Finset ℕ)
    (hS : ∀ h r (c : Fin 2048), (∑ d : Fin 128, x0 (ix3 0 r (headLane h d)) * x1 (ix3 0 c (headLane h d)) : EReal) = S h r c.val)
    (hv : ∀ h l (c : Fin 2048), x2 (ix3 0 c (headLane h l)) = v h l c.val)
    (hT : ∀ r, (T r).Nonempty) (hd : ∀ r, ∀ c ∈ T r, 512 * (t.val % 8 / 2) ≤ c)
    (h0 : ∀ h, Holds (S h) (v h) T (plane (H7 h)) (plane (H8 h))) (h : Fin 16) (r : Fin 256) (l : Fin 128) :
    arg8.view.readCov (sumPieces c (grid0.coords t) arg3 harg3 arg4 harg4 arg5 harg5 arg6 harg6 arg7 harg7 arg8 harg8 x0 x1 x2 w w' (planes H7) (planes H8)) (headRect h).toLoadRect (ix3 0 r l)
      = weighted (S h r) (v h l) (top (S h r) (T r ∪ Finset.range (512 * (t.val % 8 / 2)))) (T r ∪ Finset.range (512 * (t.val % 8 / 2))) := by
  have e := holds_trips c t arg3 harg3 arg4 harg4 arg5 harg5 arg6 harg6 arg7 harg7 arg8 harg8 w x0 x1 x2 (arg7.view.writes (Elt Ideal) arg7.view.junk (planes H7)) (arg8.view.writes (Elt Ideal) arg8.view.junk (planes H8)) S v T hS hv hT hd
    (fun h => by
      rw [← List.append_nil (planes H7), ← List.append_nil (planes H8), read_planes, read_planes]
      exact h0 h) _ le_rfl h r l
  rw [sumPieces, trips_two, View.readCov]
  simp only [pb_k0_t2, List.nil_append]
  rw [View.writes_append, e.2, trips_one]

end Cert.AttentionIdeal.Att

end
-- ==== Proof.Att.Out.lean ====
/-
  What one grid point puts into its output block: each head's softmax over the keys at or before the query.
-/
module

public import proofs.«01_k».proof.Proof.Att.Loop
public import proofs.«01_k».proof.Proof.Gen.AttentionIdeal.Frame

@[expose] public section

set_option maxRecDepth 16384

noncomputable section

namespace Cert.AttentionIdeal.Att

open Cert.AttentionIdeal Cert.AttentionIdeal.Gen Idealize.ShloMosaic Idealize.ShloMosaic.TcCoe
open Cert.Softmax

/-- An output lane's block reads back from the list of blocks. -/
theorem read_out_list (V : View sig .tc .vmem S1x256x1024 .bf16) (f : V.ty.Contents (Elt Ideal)) (w : Fin 16 → Vec Ideal S1x256x128 .f32)
    (b : Fin 8) (r : Fin 256) (l : Fin 128) : ∀ bs : List (Fin 8), b ∈ bs →
    V.read (Elt Ideal) (V.writes (Elt Ideal) f (bs.map fun b : Fin 8 => (⟨Rect.unit ![0, 0, 128 * b.val] S1x256x128.size (out_inb b),
      pairOut (w ⟨2 * b.val, by omega⟩) (w ⟨2 * b.val + 1, by omega⟩)⟩ : View.Piece (Elt Ideal) S1x256x1024 .bf16))) (ix3 0 r ⟨128 * b.val + l.val, by omega⟩)
      = pairOut (w ⟨2 * b.val, by omega⟩) (w ⟨2 * b.val + 1, by omega⟩) (ix3 0 r l)
  | [], hm => absurd hm (by simp)
  | b' :: bs, hm => by
    rw [List.map_cons]
    by_cases e : b = b'
    · subst e
      refine View.read_writes_cons_unit_of_mem V f (out_inb b) (pairOut (w ⟨2 * b.val, by omega⟩) (w ⟨2 * b.val + 1, by omega⟩)) _ _ (ix3 0 r l) rfl ?_
      intro a
      fin_cases a
      · rfl
      · exact (Nat.zero_add _).symm
      · rfl
    · rw [View.read_writes_cons_unit_of_not_mem _ _ _ _ _ _ rfl 2 (by
        have hne : b.val ≠ b'.val := fun e' => e (Fin.ext e')
        show 128 * b.val + l.val < 128 * b'.val ∨ 128 * b'.val + 128 ≤ 128 * b.val + l.val
        omega)]
      exact read_out_list V f w b r l bs (by simpa [e] using hm)

theorem read_out (V : View sig .tc .vmem S1x256x1024 .bf16) (f : V.ty.Contents (Elt Ideal)) (w : Fin 16 → Vec Ideal S1x256x128 .f32)
    (b : Fin 8) (r : Fin 256) (l : Fin 128) :
    V.read (Elt Ideal) (V.writes (Elt Ideal) f (outPieces w)) (ix3 0 r ⟨128 * b.val + l.val, by omega⟩)
      = pairOut (w ⟨2 * b.val, by omega⟩) (w ⟨2 * b.val + 1, by omega⟩) (ix3 0 r l) :=
  read_out_list V f w b r l _ (by fin_cases b <;> simp)

/-- The head an output lane belongs to. -/
abbrev headOf (b : Fin 8) (l : Fin 128) : Fin 16 := ⟨2 * b.val + l.val / 64, by omega⟩

/-- The keys a query may see. -/
abbrev seen (t : Fin grid0.N) (r : Fin 256) : Finset ℕ := Finset.range (256 * (t.val % 8) + r.val + 1)

/-- Pairing the planes of sums. -/
theorem pair_holds (S : Fin 16 → Fin 256 → ℕ → ℝ) (v : Fin 16 → Fin 128 → ℕ → EReal) (T : Fin 256 → Finset ℕ) (w : Fin 16 → Vec Ideal S1x256x128 .f32)
    (hw : ∀ h r l, w h (ix3 0 r l) = weighted (S h r) (v h l) (top (S h r) (T r)) (T r))
    (hone : ∀ b l, v (headOf b l) (lane (l.val + 64)) = fun _ => 1) (b : Fin 8) (r : Fin 256) (l : Fin 128) :
    pairOut (w ⟨2 * b.val, by omega⟩) (w ⟨2 * b.val + 1, by omega⟩) (ix3 0 r l)
      = Ideal.div (weighted (S (headOf b l) r) (v (headOf b l) l) (top (S (headOf b l) r) (T r)) (T r))
          (weighted (S (headOf b l) r) (fun _ => 1) (top (S (headOf b l) r) (T r)) (T r)) := by
  rw [← hone b l, pairOut_apply, ← hw, ← hw]
  by_cases h : l.val < 64
  · rw [if_pos h, show headOf b l = ⟨2 * b.val, by omega⟩ from Fin.ext (by show 2 * b.val + l.val / 64 = 2 * b.val; omega)]
  · rw [if_neg h, show headOf b l = ⟨2 * b.val + 1, by omega⟩ from Fin.ext (by show 2 * b.val + l.val / 64 = 2 * b.val + 1; omega)]

/-- A point's output block from its pieces. -/
theorem out_of_pieces (V : View sig .tc .vmem S1x256x1024 .bf16) (f : V.ty.Contents (Elt Ideal)) {L : List (View.Piece (Elt Ideal) S1x256x1024 .bf16)}
    {w : Fin 16 → Vec Ideal S1x256x128 .f32} (e : L = outPieces w)
    (S : Fin 16 → Fin 256 → ℕ → ℝ) (v : Fin 16 → Fin 128 → ℕ → EReal) (T : Fin 256 → Finset ℕ)
    (hw : ∀ h r l, w h (ix3 0 r l) = weighted (S h r) (v h l) (top (S h r) (T r)) (T r))
    (hone : ∀ b l, v (headOf b l) (lane (l.val + 64)) = fun _ => 1) (b : Fin 8) (r : Fin 256) (l : Fin 128) :
    V.read (Elt Ideal) (V.writes (Elt Ideal) f L) (ix3 0 r ⟨128 * b.val + l.val, by omega⟩)
      = Ideal.div (weighted (S (headOf b l) r) (v (headOf b l) l) (top (S (headOf b l) r) (T r)) (T r))
          (weighted (S (headOf b l) r) (fun _ => 1) (top (S (headOf b l) r) (T r)) (T r)) := by
  rw [e, read_out, pair_holds S v T w hw hone]

theorem out_A (c : Dev nD) (t : Fin grid0.N) (arg3 : Memref sig .tc .vmem S1x256x2048 .bf16) (harg3 : arg3.IsWhole) (arg4 : Memref sig .tc .vmem S1x2048x2048 .bf16) (harg4 : arg4.IsWhole) (arg5 : Memref sig .tc .vmem S1x2048x2048 .bf16) (harg5 : arg5.IsWhole) (arg6 : Memref sig .tc .vmem S1x256x1024 .bf16) (harg6 : arg6.IsWhole) (arg7 : Memref sig .tc .vmem S16x256x128 .f32) (harg7 : arg7.IsWhole) (arg8 : Memref sig .tc .vmem S16x256x128 .f32) (harg8 : arg8.IsWhole)
    (hc0 : cond0_0 (grid0.coords t)) (hc1 : ¬ cond0_1 (grid0.coords t)) (ht : t.val % 2 = 0)
    (x0 : Vec Ideal S1x256x2048 .bf16) (x1 x2 : Vec Ideal S1x2048x2048 .bf16)
    (S : Fin 16 → Fin 256 → ℕ → ℝ) (v : Fin 16 → Fin 128 → ℕ → EReal)
    (hS : ∀ h r (c : Fin 2048), (∑ d : Fin 128, x0 (ix3 0 r (headLane h d)) * x1 (ix3 0 c (headLane h d)) : EReal) = S h r c.val)
    (hv : ∀ h l (c : Fin 2048), x2 (ix3 0 c (headLane h l)) = v h l c.val)
    (hone : ∀ b l, v (headOf b l) (lane (l.val + 64)) = fun _ => 1) (b : Fin 8) (r : Fin 256) (l : Fin 128) :
    out0_A_3 c (grid0.coords t) arg3 harg3 arg4 harg4 arg5 harg5 arg6 harg6 arg7 harg7 arg8 harg8 hc0 hc1 x0 x1 x2 (ix3 0 r ⟨128 * b.val + l.val, by omega⟩)
      = Ideal.div (weighted (S (headOf b l) r) (v (headOf b l) l) (top (S (headOf b l) r) (seen t r)) (seen t r))
          (weighted (S (headOf b l) r) (fun _ => 1) (top (S (headOf b l) r) (seen t r)) (seen t r)) := by
  have hr : k0_off1 (grid0.coords t) 1 + 256 ≤ 2048 := by rw [row_A]; omega
  obtain ⟨w, w', e⟩ := pieces_A c (grid0.coords t) arg3 harg3 arg4 harg4 arg5 harg5 arg6 harg6 arg7 harg7 arg8 harg8 hc0 hc1 hr x0 x1 x2
  unfold out0_A_3
  refine out_of_pieces VO0_3 _ e S v (seen t) (fun h r l => ?_) hone b r l
  refine (holds_sums c t arg3 harg3 arg4 harg4 arg5 harg5 arg6 harg6 arg7 harg7 arg8 harg8 x0 x1 x2 w w' _ _ S v (fun r => (block (256 * (t.val % 8)) 256).filter fun c => c ≤ 256 * (t.val % 8) + r.val) hS hv ?_ ?_ ?_ h r l).trans ?_
  · exact fun r => ⟨256 * (t.val % 8), by simp [block]⟩
  · intro r c hc
    have := (Finset.mem_Ico.1 (Finset.mem_filter.1 hc).1).1
    omega
  · intro h
    refine holds_first256 _ _ (256 * (t.val % 8)) _ _ _ (fun r c => ?_) (fun c l => ?_)
    · simp only [read_query, read_key256]
      rw [hS h r]
      exact congrArg (fun x => ((S h r x : ℝ) : EReal)) (congrArg (· + c.val) (row_A t))
    · rw [read_key256, hv]
      exact congrArg (v h l) (congrArg (· + c.val) (row_A t))
  · have e : (block (256 * (t.val % 8)) 256).filter (fun c => c ≤ 256 * (t.val % 8) + r.val) ∪ Finset.range (512 * (t.val % 8 / 2)) = seen t r := by
      ext x; simp [block, seen]; omega
    simp only [e]

theorem out_B (c : Dev nD) (t : Fin grid0.N) (arg3 : Memref sig .tc .vmem S1x256x2048 .bf16) (harg3 : arg3.IsWhole) (arg4 : Memref sig .tc .vmem S1x2048x2048 .bf16) (harg4 : arg4.IsWhole) (arg5 : Memref sig .tc .vmem S1x2048x2048 .bf16) (harg5 : arg5.IsWhole) (arg6 : Memref sig .tc .vmem S1x256x1024 .bf16) (harg6 : arg6.IsWhole) (arg7 : Memref sig .tc .vmem S16x256x128 .f32) (harg7 : arg7.IsWhole) (arg8 : Memref sig .tc .vmem S16x256x128 .f32) (harg8 : arg8.IsWhole)
    (hc0 : ¬ cond0_0 (grid0.coords t)) (hc1 : cond0_1 (grid0.coords t)) (ht : t.val % 2 = 1)
    (x0 : Vec Ideal S1x256x2048 .bf16) (x1 x2 : Vec Ideal S1x2048x2048 .bf16)
    (S : Fin 16 → Fin 256 → ℕ → ℝ) (v : Fin 16 → Fin 128 → ℕ → EReal)
    (hS : ∀ h r (c : Fin 2048), (∑ d : Fin 128, x0 (ix3 0 r (headLane h d)) * x1 (ix3 0 c (headLane h d)) : EReal) = S h r c.val)
    (hv : ∀ h l (c : Fin 2048), x2 (ix3 0 c (headLane h l)) = v h l c.val)
    (hone : ∀ b l, v (headOf b l) (lane (l.val + 64)) = fun _ => 1) (b : Fin 8) (r : Fin 256) (l : Fin 128) :
    out0_B_3 c (grid0.coords t) arg3 harg3 arg4 harg4 arg5 harg5 arg6 harg6 arg7 harg7 arg8 harg8 hc0 hc1 x0 x1 x2 (ix3 0 r ⟨128 * b.val + l.val, by omega⟩)
      = Ideal.div (weighted (S (headOf b l) r) (v (headOf b l) l) (top (S (headOf b l) r) (seen t r)) (seen t r))
          (weighted (S (headOf b l) r) (fun _ => 1) (top (S (headOf b l) r) (seen t r)) (seen t r)) := by
  have hr : k0_off17 (grid0.coords t) 1 + 512 ≤ 2048 := by rw [row_B]; omega
  obtain ⟨w, w', e⟩ := pieces_B c (grid0.coords t) arg3 harg3 arg4 harg4 arg5 harg5 arg6 harg6 arg7 harg7 arg8 harg8 hc0 hc1 hr x0 x1 x2
  unfold out0_B_3
  refine out_of_pieces VO0_3 _ e S v (seen t) (fun h r l => ?_) hone b r l
  refine (holds_sums c t arg3 harg3 arg4 harg4 arg5 harg5 arg6 harg6 arg7 harg7 arg8 harg8 x0 x1 x2 w w' _ _ S v (fun r => (block (512 * (t.val % 8 / 2)) 512).filter fun c => c ≤ 512 * (t.val % 8 / 2) + (r.val + 256)) hS hv ?_ ?_ ?_ h r l).trans ?_
  · exact fun r => ⟨512 * (t.val % 8 / 2), by simp [block]⟩
  · intro r c hc
    have := (Finset.mem_Ico.1 (Finset.mem_filter.1 hc).1).1
    omega
  · intro h
    refine holds_first512 _ _ (512 * (t.val % 8 / 2)) _ _ _ (fun r c => ?_) (fun c l => ?_)
    · simp only [read_query, read_key512]
      rw [hS h r]
      exact congrArg (fun x => ((S h r x : ℝ) : EReal)) (congrArg (· + c.val) (row_B t))
    · rw [read_key512, hv]
      exact congrArg (v h l) (congrArg (· + c.val) (row_B t))
  · have e : (block (512 * (t.val % 8 / 2)) 512).filter (fun c => c ≤ 512 * (t.val % 8 / 2) + (r.val + 256)) ∪ Finset.range (512 * (t.val % 8 / 2)) = seen t r := by
      ext x; simp [block, seen]; omega
    simp only [e]

end Cert.AttentionIdeal.Att

end
-- ==== Proof.Att.Run.lean ====
/-
  The kernel's result array: at each row and lane the softmax of that lane's head over the keys at or before the row.
-/
module

public import proofs.«01_k».proof.Proof.Att.Out
public import proofs.«01_k».proof.Proof.Gen.AttentionIdeal.Value
public import Idealize.ShloMosaic.Lib.Pipeline.ValueKit

@[expose] public section

set_option maxRecDepth 16384

noncomputable section

namespace Cert.AttentionIdeal.Att

open Cert.AttentionIdeal Cert.AttentionIdeal.Gen Cert.AttentionIdeal.Value Idealize.ShloMosaic Idealize.ShloMosaic.TcCoe Idealize.SL.Sem
open Cert.Softmax

/-- Row `r` of batch `b`. -/
abbrev rowOf (b : Fin 8) (r : Fin 2048) : Fin 16384 := ⟨2048 * b.val + r.val, by omega⟩

/-- The logit of query row `r` and key `c` of head `h`, as a real number. -/
def logit (Q K : Vec Ideal S16384x2048 .bf16) (b : Fin 8) (h : Fin 16) (r : Fin 2048) (c : ℕ) : ℝ :=
  if hc : c < 2048 then EReal.toReal (∑ d : Fin 128, Q (ix2 (rowOf b r) (headLane h d)) * K (ix2 (rowOf b ⟨c, hc⟩) (headLane h d))) else 0

/-- Lane `l` of head `h`'s value row `c`. -/
def value (W : Vec Ideal S16384x2048 .bf16) (b : Fin 8) (h : Fin 16) (l : Fin 128) (c : ℕ) : EReal :=
  if hc : c < 2048 then W (ix2 (rowOf b ⟨c, hc⟩) (headLane h l)) else 1

/-- The head of output lane `j`, and the lane of its value rows. -/
abbrev headOfLane (j : Fin 1024) : Fin 16 := ⟨j.val / 64, by omega⟩

/-- The softmax over the keys at or before row `r`, at output lane `j`. -/
def softmaxAt (Q K W : Vec Ideal S16384x2048 .bf16) (b : Fin 8) (r : Fin 2048) (j : Fin 1024) : EReal :=
  let S := logit Q K b (headOfLane j) r
  let T := Finset.range (r.val + 1)
  Ideal.div (weighted S (value W b (headOfLane j) (lane j.val)) (top S T) T) (weighted S (fun _ => 1) (top S T) T)

/-- The result array. -/
def result (Q K W : Vec Ideal S16384x2048 .bf16) : Vec Ideal S8x2048x1024 .bf16 := fun i => softmaxAt Q K W (i 0) (i 1) (i 2)

/-- A finite array: every entry is a real number. -/
def Finite (X : Vec Ideal S16384x2048 .bf16) : Prop := ∀ i j, ∃ x : ℝ, X (ix2 i j) = (x : EReal)

/-- The lanes beside each head's values hold ones. -/
def Ones (W : Vec Ideal S16384x2048 .bf16) : Prop := ∀ i b l, W (ix2 i (headLane (headOf b l) (lane (l.val + 64)))) = (1 : EReal)

theorem dot_coe {n : ℕ} (f g : Fin n → EReal) (hf : ∀ d, ∃ x : ℝ, f d = x) (hg : ∀ d, ∃ x : ℝ, g d = x) :
    ((EReal.toReal (∑ d, f d * g d) : ℝ) : EReal) = ∑ d, f d * g d := by
  choose a ha using hf
  choose b hb using hg
  have e : ∑ d, f d * g d = ((∑ d, a d * b d : ℝ) : EReal) := by
    simp only [ha, hb, ← EReal.coe_mul]
    exact (map_sum (⟨⟨Real.toEReal, rfl⟩, EReal.coe_add⟩ : ℝ →+ EReal) _ _).symm
  rw [e, EReal.toReal_coe]

theorem logit_coe (Q K : Vec Ideal S16384x2048 .bf16) (hQ : Finite Q) (hK : Finite K) (b : Fin 8) (h : Fin 16) (r c : Fin 2048) :
    ((logit Q K b h r c.val : ℝ) : EReal) = ∑ d : Fin 128, Q (ix2 (rowOf b r) (headLane h d)) * K (ix2 (rowOf b c) (headLane h d)) := by
  rw [logit, dif_pos c.isLt]
  exact dot_coe _ _ (fun d => hQ _ _) (fun d => hK _ _)

section

variable (m : (ℓ : Loc nD τ sig) → Buf (Elt Ideal) ℓ)

theorem windows : ∀ t : Fin cfg0.N, win0_0.index t = ![t.val / 8, t.val % 8, 0] ∧ win0_1.index t = ![t.val / 8, 0, 0]
    ∧ win0_2.index t = ![t.val / 8, 0, 0] ∧ win0_3.index t = ![t.val / 8, t.val % 8, 0] :=
  (by decide +kernel : ∀ t : Fin grid0.N, win0_0.index t = ![t.val / 8, t.val % 8, 0] ∧ win0_1.index t = ![t.val / 8, 0, 0]
    ∧ win0_2.index t = ![t.val / 8, 0, 0] ∧ win0_3.index t = ![t.val / 8, t.val % 8, 0])

/-- The batch and the query row of a point. -/
abbrev batch (t : Fin cfg0.N) : Fin 8 := ⟨t.val / 8, by have : t.val < 64 := lt_of_lt_of_eq t.isLt (show cfg0.N = 64 from N_0); omega⟩
abbrev queryRow (t : Fin cfg0.N) (r : Fin 256) : Fin 2048 := ⟨256 * (t.val % 8) + r.val, by omega⟩

theorem queries_apply (c : Dev nD) (t : Fin cfg0.N) (r : Fin 256) (j : Fin 2048) :
    iblk m c 0 t (ix3 0 r j) = m ((c : Thread nD τ).loc main_arg0) (ix2 (rowOf (batch t) (queryRow t r)) j) := by
  have h := windows t
  blk_ext! [iblk, V, h.1]

theorem keys_apply (c : Dev nD) (t : Fin cfg0.N) (r j : Fin 2048) :
    iblk m c 1 t (ix3 0 r j) = m ((c : Thread nD τ).loc main_arg1) (ix2 (rowOf (batch t) r) j) := by
  have h := windows t
  blk_ext! [iblk, V, h.2.1]

theorem values_apply (c : Dev nD) (t : Fin cfg0.N) (r j : Fin 2048) :
    iblk m c 2 t (ix3 0 r j) = m ((c : Thread nD τ).loc main_arg2) (ix2 (rowOf (batch t) r) j) := by
  have h := windows t
  blk_ext! [iblk, V, h.2.2.1]

theorem cut_apply (t : Fin cfg0.N) (X : Vec Ideal S1x256x1024 .bf16) (r : Fin 256) (j : Fin 1024) :
    (cfg0.win 3).cut (grid0.coords t) X (ix3 0 r j) = X (ix3 0 r j) := rfl

theorem emb_apply (t : Fin cfg0.N) (r : Fin 256) (j : Fin 1024) :
    ((cfg0.win 3).blk t).view.emb (ix3 0 r j) = ix3 (batch t) (queryRow t r) j := by
  have h := (windows t).2.2.2
  blk_ext [h]

/-- The point's queries, keys and values. -/
abbrev queries (c : Dev nD) (t : Fin cfg0.N) : Vec Ideal S1x256x2048 .bf16 := iblk m c 0 t
abbrev keys (c : Dev nD) (t : Fin cfg0.N) : Vec Ideal S1x2048x2048 .bf16 := iblk m c 1 t
abbrev values (c : Dev nD) (t : Fin cfg0.N) : Vec Ideal S1x2048x2048 .bf16 := iblk m c 2 t

/-- What a point's block of the result is. -/
theorem flushed_apply (c : Dev nD) (t : Fin cfg0.N) (Q K W : Vec Ideal S16384x2048 .bf16)
    (eQ : m ((c : Thread nD τ).loc main_arg0) = Q) (eK : m ((c : Thread nD τ).loc main_arg1) = K) (eW : m ((c : Thread nD τ).loc main_arg2) = W)
    (hQ : Finite Q) (hK : Finite K) (hW : Ones W) (b : Fin 8) (r : Fin 256) (l : Fin 128) :
    (dats m 0 c).flushed 3 t (ix3 0 r ⟨128 * b.val + l.val, by omega⟩)
      = softmaxAt Q K W (batch t) (queryRow t r) ⟨128 * b.val + l.val, by omega⟩ := by
  have hl : lane (128 * b.val + l.val) = l := Fin.ext (by show (128 * b.val + l.val) % 128 = l.val; omega)
  have hh : headOfLane ⟨128 * b.val + l.val, by omega⟩ = headOf b l := Fin.ext (by show (128 * b.val + l.val) / 64 = 2 * b.val + l.val / 64; omega)
  obtain ⟨S, eS⟩ : ∃ S : Fin 16 → Fin 256 → ℕ → ℝ, S = fun h r => logit Q K (batch t) h (queryRow t r) := ⟨_, rfl⟩
  obtain ⟨v, ev⟩ : ∃ v : Fin 16 → Fin 128 → ℕ → EReal, v = fun h l => value W (batch t) h l := ⟨_, rfl⟩
  have hone : ∀ b' l', v (headOf b' l') (lane (l'.val + 64)) = fun _ => 1 := by
    intro b' l'
    funext x
    by_cases hx : x < 2048
    · simp only [ev, value, dif_pos hx]
      exact hW _ _ _
    · simp only [ev, value, dif_neg hx]
  have hS : ∀ (h : Fin 16) (r : Fin 256) (k : Fin 2048), (∑ d : Fin 128, queries m c t (ix3 0 r (headLane h d)) * keys m c t (ix3 0 k (headLane h d)) : EReal)
      = S h r k.val := by
    intro h r k
    rw [eS]
    show _ = ((logit Q K (batch t) h (queryRow t r) k.val : ℝ) : EReal)
    rw [logit_coe _ _ hQ hK]
    refine Finset.sum_congr rfl fun d _ => congrArg₂ (fun x y : EReal => x * y) ?_ ?_
    · rw [← eQ]; exact queries_apply m c t r _
    · rw [← eK]; exact keys_apply m c t k _
  have hv : ∀ (h : Fin 16) (l : Fin 128) (k : Fin 2048), values m c t (ix3 0 k (headLane h l)) = v h l k.val := by
    intro h l k
    simp only [ev, value, dif_pos k.isLt]
    rw [← eW]
    exact values_apply m c t k _
  have e : softmaxAt Q K W (batch t) (queryRow t r) ⟨128 * b.val + l.val, by omega⟩
      = Ideal.div (weighted (S (headOf b l) r) (v (headOf b l) l) (top (S (headOf b l) r) (seen t r)) (seen t r))
          (weighted (S (headOf b l) r) (fun _ => 1) (top (S (headOf b l) r) (seen t r)) (seen t r)) := by
    rw [eS, ev, softmaxAt, hl, hh]
  rw [e]
  by_cases ht : t.val % 2 = 0
  · have h1 : ¬ t.val % 2 = 1 := by omega
    exact (congrFun (flushed3_A m c t ht h1) _).trans
      (out_A c t (ms0_0 t) (hs0_0 t) (ms0_1 t) (hs0_1 t) (ms0_2 t) (hs0_2 t) (ms0_3 t) (hs0_3 t) scM0_0 (Memref.isWhole_whole _) scM0_1 (Memref.isWhole_whole _)
        ((hcond0_0 t).mpr ht) (fun h => h1 ((hcond0_1 t).mp h)) ht (queries m c t) (keys m c t) (values m c t) S v hS hv hone b r l)
  · have h1 : t.val % 2 = 1 := by omega
    exact (congrFun (flushed3_B m c t ht h1) _).trans
      (out_B c t (ms0_0 t) (hs0_0 t) (ms0_1 t) (hs0_1 t) (ms0_2 t) (hs0_2 t) (ms0_3 t) (hs0_3 t) scM0_0 (Memref.isWhole_whole _) scM0_1 (Memref.isWhole_whole _)
        (fun h => ht ((hcond0_0 t).mp h)) ((hcond0_1 t).mpr h1) h1 (queries m c t) (keys m c t) (values m c t) S v hS hv hone b r l)

/-- The result array after the run. -/
theorem final (c : Dev nD) (Q K W : Vec Ideal S16384x2048 .bf16)
    (eQ : m ((c : Thread nD τ).loc main_arg0) = Q) (eK : m ((c : Thread nD τ).loc main_arg1) = K) (eW : m ((c : Thread nD τ).loc main_arg2) = W)
    (hQ : Finite Q) (hK : Finite K) (hW : Ones W) :
    (dats m 0 c).arrAt 3 cfg0.N = result Q K W := by
  refine (dats m 0 c).arrAt_eq_of_covers 3 _ (by decide +kernel) fun t hf y => ?_
  obtain ⟨b, r, l, e⟩ : ∃ (b : Fin 8) (r : Fin 256) (l : Fin 128), y = ix3 0 r ⟨128 * b.val + l.val, by omega⟩ := by
    have h2 : (y 2).val < 1024 := (y 2).isLt
    refine ⟨⟨(y 2).val / 128, by omega⟩, y 1, ⟨(y 2).val % 128, by omega⟩, ?_⟩
    blk_ext
  rw [e]
  refine (flushed_apply m c t Q K W eQ eK eW hQ hK hW b r l).trans ?_
  exact (congrArg (result Q K W) (emb_apply t r _)).symm

end

end Cert.AttentionIdeal.Att

end
-- ==== Proof.Att.Ref.lean ====
/-
  The reference's result read at an index: the same softmax, over the logits in natural units.
-/
module

public import proofs.«01_k».proof.Proof.Att.Run
public import proofs.«01_k».proof.Proof.Gen.AttentionRefIdeal.Run
public import Idealize.ShloMosaic.Lib.Tactic.CleanTypes

@[expose] public section

set_option maxRecDepth 16384

noncomputable section

namespace Cert.AttentionRefIdeal.Att

open Cert.AttentionRefIdeal Cert.AttentionRefIdeal.Gen Cert.AttentionRefIdeal.Value Idealize.ShloMosaic Idealize.ShloMosaic.TcCoe Idealize.SL.Sem
open Cert.Softmax

open Cert.AttentionIdeal.Att (rowOf headLane logit value headOfLane lane softmaxAt result Finite logit_coe negInf_f32 fold_max_bot)

theorem two_f32 : Ideal.ofBits .f32 0x40000000#32 = ((2 : ℝ) : EReal) := by
  simp only [Ideal.ofBits, Ideal.ieee]
  simp
  rw [← EReal.coe_mul]
  norm_num

theorem log_two : Ideal.log (Ideal.ofBits .f32 0x40000000#32) = ((Real.log 2 : ℝ) : EReal) := by
  rw [two_f32, Ideal.log_coe, if_neg (by norm_num)]

/-- The reference's stages: a head's rows, the masked logits, the rows' maxima, the weights, the values, the result. -/
def heads (X : FVec Ideal S16384x2048 .bf16) : FVec Ideal S8x16x2048x128 .f32 :=
  transpose S8x16x2048x128 [0, 2, 1, 3] (shapeCast S8x2048x16x128 (extf .f32 X bitsLt_bf16_f32) shapeCasts_S16384x2048_S8x2048x16x128) transposes_S8x2048x16x128_S8x16x2048x128_0_2_1_3

def logits (Q K : FVec Ideal S16384x2048 .bf16) : FVec Ideal S8x16x2048x2048 .f32 :=
  select (broadcastInDim S8x16x2048x2048 ![2, 3] bcast_S2048x2048_S8x16x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0)))))
    (mulf (Host.dotGeneral dot_S8x16x2048x128_S8x16x2048x128_S8x16x2048x2048_3_3_2_2_01_01 none (heads Q) (heads K)) (broadcastInDim S8x16x2048x2048 ![] bcast_S_S8x16x2048x2048 (Host.log (constant S_ .f32 0x40000000#32))))
    (broadcastInDim S8x16x2048x2048 ![] bcast_S_S8x16x2048x2048 (constant S_ .f32 0xFF800000#32))

def maxima (s : FVec Ideal S8x16x2048x2048 .f32) : FVec Ideal S8x16x2048 .f32 :=
  maximumf (broadcastInDim S8x16x2048 ![] bcast_S_S8x16x2048 (constant S_ .f32 0xFF800000#32)) (Host.reduce FloatOps.maximumf s (constant S_ .f32 0xFF800000#32) reducesTo_S8x16x2048x2048_S8x16x2048_d3 h_S_)

def exps (s : FVec Ideal S8x16x2048x2048 .f32) : FVec Ideal S8x16x2048x2048 .f32 :=
  Host.exp (subf s (broadcastInDim S8x16x2048x2048 ![0, 1, 2, 3] bcast_S8x16x2048x1_S8x16x2048x2048_0_1_2_3 (broadcastInDim S8x16x2048x1 ![0, 1, 2] bcast_S8x16x2048_S8x16x2048x1_0_1_2 (maxima s))))

def weights (e : FVec Ideal S8x16x2048x2048 .f32) : FVec Ideal S8x16x2048x2048 .f32 :=
  Host.divf e (broadcastInDim S8x16x2048x2048 ![0, 1, 2, 3] bcast_S8x16x2048x1_S8x16x2048x2048_0_1_2_3 (broadcastInDim S8x16x2048x1 ![0, 1, 2] bcast_S8x16x2048_S8x16x2048x1_0_1_2 (Host.reduceAdd e (constant S_ .f32 0x00000000#32) reducesTo_S8x16x2048x2048_S8x16x2048_d3 h_S_)))

def vals (X : FVec Ideal S16384x2048 .bf16) : FVec Ideal S8x16x2048x64 .f32 :=
  transpose S8x16x2048x64 [0, 2, 1, 3] (shapeCast S8x2048x16x64 (concatenate S8x2048x8x2x64 3 [⟨S8x2048x8x1x64, (broadcastInDim S8x2048x8x1x64 ![0, 1, 2, 4] bcast_S8x2048x8x64_S8x2048x8x1x64_0_1_2_4 (shapeCast S8x2048x8x64 (extractStridedSlice S8x2048x8x1x64 ![0, 0, 0, 0, 0] (shapeCast S8x2048x8x2x128 (extf .f32 X bitsLt_bf16_f32) shapeCasts_S16384x2048_S8x2048x8x2x128) slices_S8x2048x8x2x128_S8x2048x8x1x64_0_0_0_0_0) shapeCasts_S8x2048x8x1x64_S8x2048x8x64))⟩, ⟨S8x2048x8x1x64, (broadcastInDim S8x2048x8x1x64 ![0, 1, 2, 4] bcast_S8x2048x8x64_S8x2048x8x1x64_0_1_2_4 (shapeCast S8x2048x8x64 (extractStridedSlice S8x2048x8x1x64 ![0, 0, 0, 1, 64] (shapeCast S8x2048x8x2x128 (extf .f32 X bitsLt_bf16_f32) shapeCasts_S16384x2048_S8x2048x8x2x128) slices_S8x2048x8x2x128_S8x2048x8x1x64_0_0_0_1_64) shapeCasts_S8x2048x8x1x64_S8x2048x8x64))⟩] concatenates_S8x2048x8x1x64_S8x2048x8x1x64_S8x2048x8x2x64_d3) shapeCasts_S8x2048x8x2x64_S8x2048x16x64) transposes_S8x2048x16x64_S8x16x2048x64_0_2_1_3

def output (w : FVec Ideal S8x16x2048x2048 .f32) (v : FVec Ideal S8x16x2048x64 .f32) : FVec Ideal S8x2048x1024 .bf16 :=
  truncf .bf16 (shapeCast S8x2048x1024 (transpose S8x2048x16x64 [0, 2, 1, 3] (Host.dotGeneral dot_S8x16x2048x2048_S8x16x2048x64_S8x16x2048x64_3_2_2_3_01_01 none w v) transposes_S8x16x2048x64_S8x2048x16x64_0_2_1_3) shapeCasts_S8x2048x16x64_S8x2048x1024) bitsLt_bf16_f32

theorem logits_apply (Q K : FVec Ideal S16384x2048 .bf16) (b : Fin 8) (h : Fin 16) (r x : Fin 2048) :
    logits Q K (ix4 b h r x) = Scalar.select (IntOp.cmpi .sle (BitVec.ofNat 32 x.val) (BitVec.ofNat 32 r.val))
      ((∑ d : Fin 128, Q (ix2 ⟨b.val * 2048 + r.val, by omega⟩ ⟨h.val * 128 + d.val, by omega⟩)
        * K (ix2 ⟨b.val * 2048 + x.val, by omega⟩ ⟨h.val * 128 + d.val, by omega⟩)) * Ideal.log (Ideal.ofBits .f32 0x40000000#32))
      (Ideal.ofBits .f32 0xFF800000#32 : EReal) := by
  pointwise [logits, heads]

/-- A maximum along the last of four axes, from −∞. -/
theorem reduce_max {n0 n1 n2 n3 : ℕ} (s : FVec Ideal ⟨4, ![n0, n1, n2, n3]⟩ .f32) (init : FVec Ideal S_ .f32) (hi : ∀ i, init i = (⊥ : EReal))
    (h : (⟨4, ![n0, n1, n2, n3]⟩ : Shape).ReducesTo [3] ⟨3, ![n0, n1, n2]⟩) (hu : 0 < S_.numel) (b : Fin n0) (i : Fin n1) (r : Fin n2) :
    Host.reduce FloatOps.maximumf s init h hu (ix3 b i r) = (Finset.univ.sup fun x : Fin n3 => (s (ix4 b i r x) : EReal)) := by
  pointwise
  exact congrArg (fun z : EReal => Finset.fold max z (fun x : Fin n3 => (s (ix4 b i r x) : EReal)) Finset.univ) (hi _)

theorem max_negInf (a x : Ideal .f32) (ha : a = (⊥ : EReal)) : FloatOps.maximumf a x = max (⊥ : EReal) x := by
  rw [ha]; rfl

theorem maxima_apply (s : FVec Ideal S8x16x2048x2048 .f32) (b : Fin 8) (h : Fin 16) (r : Fin 2048) :
    maxima s (ix3 b h r) = max ⊥ (Finset.univ.sup fun x : Fin 2048 => (s (ix4 b h r x) : EReal)) := by
  have e := reduce_max s (constant S_ .f32 0xFF800000#32) (fun _ => negInf_f32) reducesTo_S8x16x2048x2048_S8x16x2048_d3 h_S_ b h r
  rw [← e]
  unfold maxima
  refine (maximumf_apply _ _ _).trans ?_
  generalize Host.reduce FloatOps.maximumf s (constant S_ .f32 0xFF800000#32) reducesTo_S8x16x2048x2048_S8x16x2048_d3 h_S_ (ix3 b h r) = z
  exact max_negInf _ _ negInf_f32

theorem exps_apply (s : FVec Ideal S8x16x2048x2048 .f32) (b : Fin 8) (h : Fin 16) (r x : Fin 2048) :
    exps s (ix4 b h r x) = Ideal.exp ((s (ix4 b h r x) : EReal) - maxima s (ix3 b h r)) := by
  pointwise [exps]

theorem weights_apply (e : FVec Ideal S8x16x2048x2048 .f32) (b : Fin 8) (h : Fin 16) (r x : Fin 2048) :
    weights e (ix4 b h r x) = Ideal.div (e (ix4 b h r x)) (∑ y : Fin 2048, (e (ix4 b h r y) : EReal)) := by
  pointwise [weights]

/-- One half of each pair of heads' values. -/
def part (X : FVec Ideal S16384x2048 .bf16) (o : Fin 5 → ℕ) (ho : S8x2048x8x2x128.Slices o S8x2048x8x1x64) : FVec Ideal S8x2048x8x1x64 .f32 :=
  broadcastInDim S8x2048x8x1x64 ![0, 1, 2, 4] bcast_S8x2048x8x64_S8x2048x8x1x64_0_1_2_4 (shapeCast S8x2048x8x64 (extractStridedSlice S8x2048x8x1x64 o (shapeCast S8x2048x8x2x128 (extf .f32 X bitsLt_bf16_f32) shapeCasts_S16384x2048_S8x2048x8x2x128) ho) shapeCasts_S8x2048x8x1x64_S8x2048x8x64)

def merged (y : FVec Ideal S8x2048x8x2x64 .f32) : FVec Ideal S8x16x2048x64 .f32 :=
  transpose S8x16x2048x64 [0, 2, 1, 3] (shapeCast S8x2048x16x64 y shapeCasts_S8x2048x8x2x64_S8x2048x16x64) transposes_S8x2048x16x64_S8x16x2048x64_0_2_1_3

theorem merged_apply (y : FVec Ideal S8x2048x8x2x64 .f32) (b : Fin 8) (h : Fin 16) (x : Fin 2048) (l : Fin 64) :
   merged y (ix4 b h x l) = y (ix5 b x ⟨h.val / 2, by omega⟩ ⟨h.val % 2, by omega⟩ l) := by
  pointwise [merged]

def paired (p q : FVec Ideal S8x2048x8x1x64 .f32) : FVec Ideal S8x2048x8x2x64 .f32 :=
  concatenate S8x2048x8x2x64 3 [⟨S8x2048x8x1x64, p⟩, ⟨S8x2048x8x1x64, q⟩] concatenates_S8x2048x8x1x64_S8x2048x8x1x64_S8x2048x8x2x64_d3

theorem paired_left (p q : FVec Ideal S8x2048x8x1x64 .f32) (b : Fin 8) (h : Fin 8) (x : Fin 2048) (l : Fin 64) (k : Fin 2) (hk : k.val = 0) :
   paired p q (ix5 b x h k l) = p (ix5 b x h 0 l) := by
  refine concatenate_pair_apply_left (t := S8x2048x8x2x64) (s₁ := S8x2048x8x1x64) (s₂ := S8x2048x8x1x64) 3 p q _ _ rfl _ ?_
  intro a
  fin_cases a <;> first | rfl | exact hk.symm

theorem paired_right (p q : FVec Ideal S8x2048x8x1x64 .f32) (b : Fin 8) (h : Fin 8) (x : Fin 2048) (l : Fin 64) (k : Fin 2) (hk : k.val = 1) :
   paired p q (ix5 b x h k l) = q (ix5 b x h 0 l) := by
  refine concatenate_pair_apply_right (t := S8x2048x8x2x64) (s₁ := S8x2048x8x1x64) (s₂ := S8x2048x8x1x64) 3 p q _ _ rfl rfl _ ?_ ?_
  · intro a ha
    fin_cases a <;> first | rfl | exact absurd rfl ha
  · exact hk.symm

theorem part0_apply (X : FVec Ideal S16384x2048 .bf16)  (b : Fin 8) (h : Fin 8) (x : Fin 2048) (l : Fin 64) :
   part X ![0, 0, 0, 0, 0] slices_S8x2048x8x2x128_S8x2048x8x1x64_0_0_0_0_0 (ix5 b x h 0 l) = X (ix2 ⟨b.val * 2048 + x.val, by omega⟩ ⟨h.val * 256 + l.val, by omega⟩) := by
  pointwise [part]

theorem part1_apply (X : FVec Ideal S16384x2048 .bf16)  (b : Fin 8) (h : Fin 8) (x : Fin 2048) (l : Fin 64) :
   part X ![0, 0, 0, 1, 64] slices_S8x2048x8x2x128_S8x2048x8x1x64_0_0_0_1_64 (ix5 b x h 0 l) = X (ix2 ⟨b.val * 2048 + x.val, by omega⟩ ⟨h.val * 256 + 128 + (64 + l.val), by omega⟩) := by
  pointwise [part]

theorem vals_apply (X : FVec Ideal S16384x2048 .bf16) (b : Fin 8) (h : Fin 16) (x : Fin 2048) (l : Fin 64) :
    vals X (ix4 b h x l) = if h.val % 2 < 1 then X (ix2 ⟨b.val * 2048 + x.val, by omega⟩ ⟨h.val / 2 * 256 + l.val, by omega⟩)
      else X (ix2 ⟨b.val * 2048 + x.val, by omega⟩ ⟨h.val / 2 * 256 + 128 + (64 + l.val), by omega⟩) := by
  have e : vals X = merged (paired (part X ![0, 0, 0, 0, 0] slices_S8x2048x8x2x128_S8x2048x8x1x64_0_0_0_0_0) (part X ![0, 0, 0, 1, 64] slices_S8x2048x8x2x128_S8x2048x8x1x64_0_0_0_1_64)) := rfl
  rw [e, merged_apply]
  split_ifs with hp
  · rw [paired_left _ _ _ _ _ _ _ (by simp only; omega), part0_apply]
  · rw [paired_right _ _ _ _ _ _ _ (by simp only; omega), part1_apply]

theorem output_apply (w : FVec Ideal S8x16x2048x2048 .f32) (v : FVec Ideal S8x16x2048x64 .f32) (b : Fin 8) (r : Fin 2048) (j : Fin 1024) :
    output w v (ix3 b r j) = (∑ x : Fin 2048, w (ix4 b (headOfLane j) r x) * v (ix4 b (headOfLane j) x ⟨j.val % 64, by omega⟩) : EReal) := by
  pointwise [output]

theorem masked_eq (Q K : Vec Ideal S16384x2048 .bf16) (hQ : Finite Q) (hK : Finite K) (b : Fin 8) (r : Fin 2048) (h : Fin 16) (x : Fin 2048) :
    Scalar.select (IntOp.cmpi .sle (BitVec.ofNat 32 x.val) (BitVec.ofNat 32 r.val))
      ((∑ d : Fin 128, Q (ix2 ⟨b.val * 2048 + r.val, by omega⟩ ⟨h.val * 128 + d.val, by omega⟩)
        * K (ix2 ⟨b.val * 2048 + x.val, by omega⟩ ⟨h.val * 128 + d.val, by omega⟩)) * Ideal.log (Ideal.ofBits .f32 0x40000000#32))
      (Ideal.ofBits .f32 0xFF800000#32 : EReal) = if x.val ≤ r.val then ((logit Q K b h r x.val : ℝ) : EReal) * (Real.log 2 : ℝ) else ⊥ := by
  have e : (∑ d : Fin 128, Q (ix2 ⟨b.val * 2048 + r.val, by omega⟩ ⟨h.val * 128 + d.val, by omega⟩)
      * K (ix2 ⟨b.val * 2048 + x.val, by omega⟩ ⟨h.val * 128 + d.val, by omega⟩) : EReal) = ((logit Q K b h r x.val : ℝ) : EReal) := by
    rw [logit_coe Q K hQ hK b h r x]
    refine Finset.sum_congr rfl fun d _ => congrArg₂ (fun x y : EReal => x * y) (congrArg Q ?_) (congrArg K ?_)
    · exact congrArg₂ (fun a b => ix2 a b) (Fin.ext (by simp only; omega)) (Fin.ext (by simp only [headLane]; omega))
    · exact congrArg₂ (fun a b => ix2 a b) (Fin.ext (by simp only; omega)) (Fin.ext (by simp only [headLane]; omega))
  rw [e, log_two, negInf_f32, WordCmp.cmpi_sle_ofNat (by omega) (by omega)]
  by_cases h : x.val ≤ r.val
  · rw [if_pos h, decide_eq_true h]; rfl
  · rw [if_neg h, decide_eq_false h]; rfl

theorem valueAt_eq (W : Vec Ideal S16384x2048 .bf16) (b : Fin 8) (j : Fin 1024) (x : Fin 2048) :
    (if (headOfLane j).val % 2 < 1 then W (ix2 ⟨b.val * 2048 + x.val, by omega⟩ ⟨(headOfLane j).val / 2 * 256 + j.val % 64, by omega⟩)
      else W (ix2 ⟨b.val * 2048 + x.val, by omega⟩ ⟨(headOfLane j).val / 2 * 256 + 128 + (64 + j.val % 64), by omega⟩))
      = value W b (headOfLane j) (lane j.val) x.val := by
  simp only [value, dif_pos x.isLt]
  split_ifs with hp
  · exact congrArg W (congrArg₂ (fun a b => ix2 a b) (Fin.ext (by simp only; omega)) (Fin.ext (by simp only [headLane, lane, headOfLane] at hp ⊢; omega)))
  · exact congrArg W (congrArg₂ (fun a b => ix2 a b) (Fin.ext (by simp only; omega)) (Fin.ext (by simp only [headLane, lane, headOfLane] at hp ⊢; omega)))

variable (m : (ℓ : Loc nD τ sig) → Buf (Elt Ideal) ℓ) (c : Dev nD)

theorem res_stages : res_out0 m c = output (weights (exps (logits (m ((c.tc : Thread nD τ).loc main_arg0)) (m ((c.tc : Thread nD τ).loc main_arg1))))) (vals (m ((c.tc : Thread nD τ).loc main_arg2))) := rfl

theorem res_apply (Q K W : Vec Ideal S16384x2048 .bf16) (eQ : m ((c.tc : Thread nD τ).loc main_arg0) = Q) (eK : m ((c.tc : Thread nD τ).loc main_arg1) = K)
    (eW : m ((c.tc : Thread nD τ).loc main_arg2) = W) (hQ : Finite Q) (hK : Finite K) (b : Fin 8) (r : Fin 2048) (j : Fin 1024) :
    res_out0 m c (ix3 b r j) = softmaxAt Q K W b r j := by
  rw [res_stages m c, eQ, eK, eW, output_apply]
  simp only [weights_apply, exps_apply, maxima_apply]
  refine masked_softmax (logit Q K b (headOfLane j) r) (value W b (headOfLane j) (lane j.val)) r.isLt (fun x => logits Q K (ix4 b (headOfLane j) r x)) (fun x => ?_)
    (fun x => vals W (ix4 b (headOfLane j) x ⟨j.val % 64, by omega⟩)) (fun x => ?_)
  · exact (logits_apply Q K b (headOfLane j) r x).trans (masked_eq Q K hQ hK b r (headOfLane j) x)
  · exact (vals_apply W b (headOfLane j) x _).trans (valueAt_eq W b j x)

theorem res_eq (Q K W : Vec Ideal S16384x2048 .bf16) (eQ : m ((c.tc : Thread nD τ).loc main_arg0) = Q) (eK : m ((c.tc : Thread nD τ).loc main_arg1) = K)
    (eW : m ((c.tc : Thread nD τ).loc main_arg2) = W) (hQ : Finite Q) (hK : Finite K) : res_out0 m c = result Q K W :=
  funext fun i => by
    obtain ⟨b, r, j, e⟩ : ∃ (b : Fin 8) (r : Fin 2048) (j : Fin 1024), i = ix3 b r j := ⟨i 0, i 1, i 2, by blk_ext⟩
    rw [e]
    exact res_apply m c Q K W eQ eK eW hQ hK b r j

end Cert.AttentionRefIdeal.Att

end
-- ==== Proof.Att.Pre.lean ====
/-
  The precondition read: the queries and keys are finite, and ones stand beside each head's values.
-/
module

public import proofs.«01_k».proof.Proof.Att.Run
public import proofs.«01_k».proof.Proof.Gen.Pre_finite_and_ones
public import Idealize.ShloMosaic.Lib.ReduceAll

@[expose] public section

set_option maxRecDepth 16384

noncomputable section

namespace Cert.Pre_finite_and_ones.Att

open Cert.Pre_finite_and_ones Cert.Pre_finite_and_ones.Gen Idealize.ShloMosaic
open Facts

attribute [local instance] Cert.Pre_finite_and_ones.Gen.facts

theorem inf_f32 : Ideal.ofBits .f32 0x7F800000#32 = ⊤ := by
  simp [Ideal.ofBits, Ideal.ieee]

/-- A number whose absolute value lies below +∞ is real. -/
theorem finite_of_word (x : EReal) (h : BitVec.ofBool (decide (max x (-x) < Ideal.ofBits .f32 0x7F800000#32)) = 1#1) : ∃ y : ℝ, x = (y : EReal) := by
  rw [inf_f32] at h
  have h' : max x (-x) < ⊤ := by
    by_contra hc
    rw [decide_eq_false hc] at h
    exact absurd h (by decide)
  induction x with
  | bot => simp at h'
  | top => simp at h'
  | coe y => exact ⟨y, rfl⟩

theorem one_of_word {x : EReal} (h : BitVec.ofBool (decide (x = 1)) = 1#1) : x = 1 := by
  by_contra hc
  rw [decide_eq_false hc] at h
  exact absurd h (by decide)

theorem decode (q k v : Vec Ideal S16384x2048 .bf16) (h : fn (F := Ideal) q k v = fun _ => 1#1) :
    AttentionIdeal.Att.Finite q ∧ AttentionIdeal.Att.Finite k ∧ AttentionIdeal.Att.Ones v := by
  have h0 := congrFun h ix0
  dsimp only [fn, fn_part1] at h0
  haveI : Subsingleton S_.Idx := ⟨fun a b => funext fun i => i.elim0⟩
  obtain ⟨h1, h2⟩ := IntOp.andi_eq_one.mp h0
  obtain ⟨hq, hk⟩ := IntOp.andi_eq_one.mp h1
  obtain ⟨ha, hb⟩ := IntOp.andi_eq_one.mp h2
  refine ⟨fun i j => ?_, fun i j => ?_, fun i b l => ?_⟩
  · have := Host.reduce_andi_all _ _ _ _ _ hq (ix2 i j)
    revert this
    pointwise
    exact finite_of_word _
  · have := Host.reduce_andi_all _ _ _ _ _ hk (ix2 i j)
    revert this
    pointwise
    exact finite_of_word _
  · have e1 := Host.reduce_andi_all _ _ _ _ _ ha (ix3 i b ⟨l.val % 64, by omega⟩)
    have e2 := Host.reduce_andi_all _ _ _ _ _ hb (ix3 i b ⟨l.val % 64, by omega⟩)
    revert e1 e2
    pointwise
    intro e1 e2
    have w1 := one_of_word e1
    have w2 := one_of_word e2
    by_cases hl : l.val < 64
    · exact (congrArg v (congrArg (fun x => ix2 i x) (Fin.ext (by simp only [AttentionIdeal.Att.headLane, AttentionIdeal.Att.headOf, AttentionIdeal.Att.lane]; omega)))).trans w1
    · exact (congrArg v (congrArg (fun x => ix2 i x) (Fin.ext (by simp only [AttentionIdeal.Att.headLane, AttentionIdeal.Att.headOf, AttentionIdeal.Att.lane]; omega)))).trans w2

end Cert.Pre_finite_and_ones.Att

end
-- ==== Proof.Att.Claims.lean ====
/-
  The claims about the attention call.
-/
module

public import proofs.«01_k».proof.Defs
public import proofs.«01_k».proof.Proof.Gen.Attention.Frame
public import proofs.«01_k».proof.Proof.Gen.AttentionIdeal.Frame
public import proofs.«01_k».proof.Proof.Att.Ref
public import proofs.«01_k».proof.Proof.Att.Pre

@[expose] public section

noncomputable section

namespace Cert.Proof.AttentionClaims

open Idealize.ShloMosaic Idealize.ShloMosaic.TcCoe Idealize.SL.Sem Cert.AttentionIdeal.Att

theorem frame_p : Cert.quiescent_Attention := fun m ρ _ => Cert.Attention.Gen.frame m ρ
theorem frame_pi : Cert.quiescent_AttentionIdeal := fun m ρ _ => Cert.AttentionIdeal.Gen.frame m ρ
theorem frame_pi_pre : Cert.quiescent_AttentionIdeal_pre_finite_and_ones := fun m ρ _ => Cert.AttentionIdeal.Gen.frame m ρ
theorem frame_ri : Cert.quiescent_AttentionRefIdeal := fun m ρ _ =>
  (θ_run Cert.AttentionRefIdeal.defs _ _).mono (fun r h => ⟨fun c => (h c).2, sem_eq_zero_of_no_sems (by decide) r.2⟩)
    (Cert.AttentionRefIdeal.Value.run (F := Ideal) m ρ)
theorem frame_ri_pre : Cert.quiescent_AttentionRefIdeal_pre_finite_and_ones := fun m ρ _ => frame_ri m ρ trivial

theorem preserves : Cert.preserves_Attention_AttentionIdeal := trivial

/-- Both runs end at the softmax of the arguments. -/
theorem algebraic : Cert.algebraic_AttentionIdeal_AttentionRefIdeal_pre_finite_and_ones := by
  intro m ρ m' ρ' hpre hagree
  refine ⟨fun c => result (m ((c.tc : Thread AttentionIdeal.nD AttentionIdeal.τ).loc AttentionIdeal.main_arg0))
    (m ((c.tc : Thread AttentionIdeal.nD AttentionIdeal.τ).loc AttentionIdeal.main_arg1)) (m ((c.tc : Thread AttentionIdeal.nD AttentionIdeal.τ).loc AttentionIdeal.main_arg2)), ?_, ?_⟩
  · refine (θ_run Cert.AttentionIdeal.defs _ _).mono (fun _ h c => ⟨(h c).1.trans ?_, (h c).2⟩) (Cert.AttentionIdeal.Value.run_blocks m ρ)
    obtain ⟨hQ, hK, hW⟩ := Cert.Pre_finite_and_ones.Att.decode _ _ _ (hpre c)
    exact final m c _ _ _ rfl rfl rfl hQ hK hW
  · refine (θ_run Cert.AttentionRefIdeal.defs _ _).mono (fun _ h c => ⟨(h c).1.trans ?_, (h c).2⟩) (Cert.AttentionRefIdeal.Value.run (F := Ideal) m' ρ')
    obtain ⟨hQ, hK, hW⟩ := Cert.Pre_finite_and_ones.Att.decode _ _ _ (hpre c)
    exact Cert.AttentionRefIdeal.Att.res_eq m' c _ _ _ (hagree c).1 (hagree c).2.1 (hagree c).2.2 hQ hK

end Cert.Proof.AttentionClaims

end
-- ==== Proof.Tail.Math.lean ====
/-
  A layer's tail on one token, over the extended reals: the mixer output is gated and projected onto the residual
  stream, the layer's input embedding is added behind its own gate, and the fronts that follow read the normalised row.
-/
module

public import Idealize.ShloMosaic.PureOps
public import Idealize.ShloMosaic.Lib.Pointwise
public import Idealize.ShloMosaic.Lib.Pipeline.ValueKit

@[expose] public section

set_option maxRecDepth 16384

noncomputable section

namespace Cert.Tail

open Idealize.ShloMosaic

/-- The logistic function. -/
def sigmoid (x : EReal) : EReal := Ideal.div 1 (1 + Ideal.exp (-x))

/-- The gated mixer output. -/
def gated (o g : EReal) : EReal := o * (g * sigmoid g)

/-- The residual row after the mixer's projection. -/
def mid (o g x : Fin 1024 → EReal) (W : Fin 1024 → Fin 1024 → EReal) (k : Fin 1024) : EReal :=
  x k + ∑ j, gated (o j) (g j) * W j k

/-- The row after the layer's input embedding. -/
def after (o g x : Fin 1024 → EReal) (p : Fin 256 → EReal) (W V : Fin 1024 → Fin 1024 → EReal) (P : Fin 256 → Fin 1024 → EReal) (k : Fin 1024) : EReal :=
  mid o g x W k + sigmoid (∑ j, mid o g x W j * V j k) * ∑ j, p j * P j k

/-- The normalised row: the row over its root mean square, times the layer's factors. -/
def normed (y n : Fin 1024 → EReal) (k : Fin 1024) : EReal :=
  y k * Ideal.rsqrt (Ideal.div (∑ j, y j * y j) (Ideal.ofBits .f32 0x44800000#32) + Ideal.ofBits .f32 0x358637BD#32) * n k

/-- A front's projection of the normalised row. -/
def front {n : ℕ} (y s : Fin 1024 → EReal) (Z : Fin 1024 → Fin n → EReal) (k : Fin n) : EReal := ∑ j, normed y s j * Z j k

/-- A query: the front's projection times 1/√64 and log₂ e. -/
def scaled (q : EReal) : EReal := q * (((Real.sqrt 64)⁻¹ * (Real.log 2)⁻¹ : ℝ) : EReal)

theorem front_congr {n : ℕ} {y s y' s' : Fin 1024 → EReal} {Z Z' : Fin 1024 → Fin n → EReal} (hy : ∀ j, y j = y' j) (hs : ∀ j, s j = s' j)
    (hZ : ∀ j k, Z j k = Z' j k) (k : Fin n) : front y s Z k = front y' s' Z' k := by
  obtain rfl : y = y' := funext hy
  obtain rfl : s = s' := funext hs
  obtain rfl : Z = Z' := funext fun j => funext (hZ j)
  rfl

theorem after_congr {o g x o' g' x' : Fin 1024 → EReal} {p p' : Fin 256 → EReal} {W V W' V' : Fin 1024 → Fin 1024 → EReal} {P P' : Fin 256 → Fin 1024 → EReal}
    (ho : ∀ j, o j = o' j) (hg : ∀ j, g j = g' j) (hx : ∀ j, x j = x' j) (hp : ∀ j, p j = p' j) (hW : ∀ j k, W j k = W' j k) (hV : ∀ j k, V j k = V' j k)
    (hP : ∀ j k, P j k = P' j k) (k : Fin 1024) : after o g x p W V P k = after o' g' x' p' W' V' P' k := by
  obtain rfl : o = o' := funext ho
  obtain rfl : g = g' := funext hg
  obtain rfl : x = x' := funext hx
  obtain rfl : p = p' := funext hp
  obtain rfl : W = W' := funext fun j => funext (hW j)
  obtain rfl : V = V' := funext fun j => funext (hV j)
  obtain rfl : P = P' := funext fun j => funext (hP j)
  rfl

section

/-- The block of 512 rows and the group of 256 rows. -/
abbrev Block : Shape := ⟨2, ![512, 1024]⟩
abbrev Group : Shape := ⟨2, ![256, 1024]⟩

/-- A group of rows of an array. -/
theorem ld_rows {e : EltTy} {a n b o : ℕ} (h : ∀ i, (![o, 0] : Fin 2 → ℕ) i + (![n, b] : Fin 2 → ℕ) i ≤ (⟨2, ![a, b]⟩ : Shape).size i)
    (x : Vec Ideal ⟨2, ![a, b]⟩ e) (r : Fin n) (r' : Fin a) (hr : r'.val = o + r.val) (j : Fin b) :
    View.ld x (Rect.unit (s := ⟨2, ![a, b]⟩) ![o, 0] ![n, b] h) (ix2 r j) = x (ix2 r' j) := by
  refine congrArg x (funext fun i => Fin.ext ?_)
  match i with
  | 0 => exact (show o + 1 * r.val = r'.val by omega)
  | 1 => exact (show 0 + 1 * j.val = j.val by omega)

/-- A group of rows of a stack of one array. -/
theorem ld_rows3 {e : EltTy} {a n b o : ℕ} (h : ∀ i, (![0, o, 0] : Fin 3 → ℕ) i + (![1, n, b] : Fin 3 → ℕ) i ≤ (⟨3, ![1, a, b]⟩ : Shape).size i)
    (x : Vec Ideal ⟨3, ![1, a, b]⟩ e) (r : Fin n) (r' : Fin a) (hr : r'.val = o + r.val) (j : Fin b) :
    View.ld x (Rect.unit (s := ⟨3, ![1, a, b]⟩) ![0, o, 0] ![1, n, b] h) (ix3 0 r j) = x (ix3 0 r' j) := by
  refine congrArg x (funext fun i => Fin.ext ?_)
  match i with
  | 0 => rfl
  | 1 => exact (show o + 1 * r.val = r'.val by omega)
  | 2 => exact (show 0 + 1 * j.val = j.val by omega)

/-- A block stored as two groups of rows. -/
theorem canon_groups {e : EltTy} (h0 : ∀ a, (![0, 0] : Fin 2 → ℕ) a + Group.size a ≤ Block.size a) (h1 : ∀ a, (![256, 0] : Fin 2 → ℕ) a + Group.size a ≤ Block.size a)
    (w0 w1 : Vec Ideal Group e) (G : Fin 512 → Fin 1024 → Elt Ideal e)
    (e0 : ∀ (r : Fin 256) (j : Fin 1024), w0 (ix2 r j) = G ⟨r.val, by omega⟩ j) (e1 : ∀ (r : Fin 256) (j : Fin 1024), w1 (ix2 r j) = G ⟨256 + r.val, by omega⟩ j)
    (r : Fin 512) (j : Fin 1024) :
    View.canon (Val := Elt Ideal) [⟨Rect.unit (s := Block) ![256, 0] Group.size h1, w1⟩, ⟨Rect.unit (s := Block) ![0, 0] Group.size h0, w0⟩] (ix2 r j) = G r j := by
  refine View.canon_apply_of_pieces (Val := Elt Ideal) (fun i : Block.Idx => G (i 0) (i 1)) _ (fun p hp x => ?_) (ix2 r j)
    (View.cover_of_tiled [⟨Rect.unit (s := Block) ![256, 0] Group.size h1, w1⟩, ⟨Rect.unit (s := Block) ![0, 0] Group.size h0, w0⟩] Group.size (by rfl) (ix2 r j))
  rcases List.mem_cons.mp hp with rfl | hp
  · refine (congrArg w1 (ix2_eta x).symm).trans ((e1 (x 0) (x 1)).trans ?_)
    exact congrArg₂ G (Fin.ext (show 256 + (x 0).val = 256 + 1 * (x 0).val by omega)) (Fin.ext (show (x 1).val = 0 + 1 * (x 1).val by omega))
  · obtain rfl := List.mem_singleton.mp hp
    refine (congrArg w0 (ix2_eta x).symm).trans ((e0 (x 0) (x 1)).trans ?_)
    exact congrArg₂ G (Fin.ext (show (x 0).val = 0 + 1 * (x 0).val by omega)) (Fin.ext (show (x 1).val = 0 + 1 * (x 1).val by omega))

end

end Cert.Tail

end
-- ==== Proof.Tail.LastKernel.lean ====
/-
  The last tail's result array: at each token its row after the tail.
-/
module

public import proofs.«01_k».proof.Proof.Tail.Math
public import proofs.«01_k».proof.Proof.Gen.LastTailIdeal.Value

@[expose] public section

set_option maxRecDepth 16384

noncomputable section

namespace Cert.LastTailIdeal.Tail

open Cert.LastTailIdeal Cert.LastTailIdeal.Gen Cert.LastTailIdeal.Value Idealize.ShloMosaic Idealize.ShloMosaic.TcCoe Idealize.SL.Sem
open Cert.Tail

theorem pay2_apply (g o : Vec Ideal S256x1024 .bf16) (r : Fin 256) (j : Fin 1024) :
    k0_pay2 g o (ix2 r j) = gated (o (ix2 r j)) (g (ix2 r j)) := by
  pointwise [k0_pay2]
  simp only [Ideal.ofBits_one_f32, Ideal.ofBits_zero_f32, zero_sub]
  rfl

theorem pay4_apply (p : Vec Ideal S1x256x256 .f32) (P : Vec Ideal S1x256x1024 .bf16) (r : Fin 256) (k : Fin 1024) :
    k0_pay4 p P (ix2 r k) = (∑ j : Fin 256, p (ix3 0 r j) * P (ix3 0 j k) : EReal) := by
  pointwise [k0_pay4]

theorem pay6_apply (u : FVec Ideal S256x1024 .bf16) (x : Vec Ideal S256x1024 .f32) (W : Vec Ideal S1x1024x1024 .bf16) (r : Fin 256) (k : Fin 1024) :
    k0_pay6 u x W (ix2 r k) = (x (ix2 r k) + ∑ j : Fin 1024, u (ix2 r j) * W (ix3 0 j k) : EReal) := by
  pointwise [k0_pay6]

theorem pay7_apply (u : FVec Ideal S256x1024 .bf16) (x : Vec Ideal S256x1024 .f32) (W V : Vec Ideal S1x1024x1024 .bf16) (r : Fin 256) (k : Fin 1024) :
    k0_pay7 u x W V (ix2 r k) = (∑ j : Fin 1024, k0_pay6 u x W (ix2 r j) * V (ix3 0 j k) : EReal) := by
  obtain ⟨y, ey⟩ : ∃ y, y = k0_pay6 u x W := ⟨_, rfl⟩
  unfold k0_pay7
  rw [← ey]
  clear ey
  pointwise

theorem pay1_apply (e y g : FVec Ideal S256x1024 .f32) (r : Fin 256) (k : Fin 1024) :
    k0_pay1 e y g (Scalar.ofBits .f32 0x00000000#32) (ix2 r k) = (y (ix2 r k) + sigmoid (g (ix2 r k)) * e (ix2 r k) : EReal) := by
  pointwise [k0_pay1]
  simp only [Ideal.ofBits_one_f32, Ideal.ofBits_zero_f32, zero_sub]
  rfl

/-- A group's rows after the tail. -/
theorem tail_apply (o g : Vec Ideal S256x1024 .bf16) (x : Vec Ideal S256x1024 .f32) (p : Vec Ideal S1x256x256 .f32) (W V : Vec Ideal S1x1024x1024 .bf16)
    (P : Vec Ideal S1x256x1024 .bf16) (r : Fin 256) (k : Fin 1024) :
    k0_pay1 (k0_pay4 p P) (k0_pay6 (k0_pay2 g o) x W) (k0_pay7 (k0_pay2 g o) x W V) (Scalar.ofBits .f32 0x00000000#32) (ix2 r k)
      = after (fun j => o (ix2 r j)) (fun j => g (ix2 r j)) (fun j => x (ix2 r j)) (fun j => p (ix3 0 r j))
          (fun j k => W (ix3 0 j k)) (fun j k => V (ix3 0 j k)) (fun j k => P (ix3 0 j k)) k := by
  rw [pay1_apply, pay4_apply, pay7_apply]
  simp only [pay6_apply, pay2_apply]
  rfl

theorem ld_first {e : EltTy} (x : Vec Ideal S512x1024 e) (r : Fin 256) (j : Fin 1024) : View.ld x r0_0 (ix2 r j) = x (ix2 ⟨r.val, by omega⟩ j) :=
  ld_rows _ x r _ (by show r.val = 0 + r.val; omega) j
theorem ld_second {e : EltTy} (x : Vec Ideal S512x1024 e) (r : Fin 256) (j : Fin 1024) : View.ld x r0_1 (ix2 r j) = x (ix2 ⟨256 + r.val, by omega⟩ j) :=
  ld_rows _ x r _ rfl j
theorem ld_first_emb (x : Vec Ideal S1x512x256 .f32) (r : Fin 256) (j : Fin 256) : View.ld x r0_2 (ix3 0 r j) = x (ix3 0 ⟨r.val, by omega⟩ j) :=
  ld_rows3 _ x r _ (by show r.val = 0 + r.val; omega) j
theorem ld_second_emb (x : Vec Ideal S1x512x256 .f32) (r : Fin 256) (j : Fin 256) : View.ld x r0_4 (ix3 0 r j) = x (ix3 0 ⟨256 + r.val, by omega⟩ j) :=
  ld_rows3 _ x r _ rfl j
theorem ld_square (x : Vec Ideal S1x1024x1024 .bf16) (j k : Fin 1024) : View.ld x r0_5 (ix3 0 j k) = x (ix3 0 j k) :=
  ld_rows3 _ x j _ (by omega) k
theorem ld_proj (x : Vec Ideal S1x256x1024 .bf16) (j : Fin 256) (k : Fin 1024) : View.ld x r0_3 (ix3 0 j k) = x (ix3 0 j k) :=
  ld_rows3 _ x j _ (by omega) k

/-- A block's rows after the tail. -/
theorem out_apply (x0 x1 : Vec Ideal S512x1024 .bf16) (x2 : Vec Ideal S512x1024 .f32) (x3 : Vec Ideal S1x512x256 .f32) (x4 x5 : Vec Ideal S1x1024x1024 .bf16)
    (x6 : Vec Ideal S1x256x1024 .bf16) (r : Fin 512) (k : Fin 1024) :
    out0_7 x0 x1 x2 x3 x4 x5 x6 (ix2 r k)
      = after (fun j => x0 (ix2 r j)) (fun j => x1 (ix2 r j)) (fun j => x2 (ix2 r j)) (fun j => x3 (ix3 0 r j))
          (fun j k => x4 (ix3 0 j k)) (fun j k => x5 (ix3 0 j k)) (fun j k => x6 (ix3 0 j k)) k := by
  refine canon_groups (e := .f32) inb_S512x1024_S256x1024_0_0 inb_S512x1024_S256x1024_256_0 _ _
    (fun r k => after (fun j => x0 (ix2 r j)) (fun j => x1 (ix2 r j)) (fun j => x2 (ix2 r j)) (fun j => x3 (ix3 0 r j))
          (fun j k => x4 (ix3 0 j k)) (fun j k => x5 (ix3 0 j k)) (fun j k => x6 (ix3 0 j k)) k) ?_ ?_ r k
  · intro r j
    refine (tail_apply (View.ld x0 r0_0) (View.ld x1 r0_0) (View.ld x2 r0_0) (View.ld x3 r0_2) (View.ld x4 r0_5) (View.ld x5 r0_5) (View.ld x6 r0_3) r j).trans ?_
    exact after_congr (fun j => ld_first x0 r j) (fun j => ld_first x1 r j) (fun j => ld_first x2 r j) (fun j => ld_first_emb x3 r j)
      (fun j k => ld_square x4 j k) (fun j k => ld_square x5 j k) (fun j k => ld_proj x6 j k) j
  · intro r j
    refine (tail_apply (View.ld x0 r0_1) (View.ld x1 r0_1) (View.ld x2 r0_1) (View.ld x3 r0_4) (View.ld x4 r0_5) (View.ld x5 r0_5) (View.ld x6 r0_3) r j).trans ?_
    exact after_congr (fun j => ld_second x0 r j) (fun j => ld_second x1 r j) (fun j => ld_second x2 r j) (fun j => ld_second_emb x3 r j)
      (fun j k => ld_square x4 j k) (fun j k => ld_square x5 j k) (fun j k => ld_proj x6 j k) j

section

variable (m : (ℓ : Loc nD τ sig) → Buf (Elt Ideal) ℓ)

theorem windows : ∀ t : Fin cfg0.N, (win0_0.index t = ![t.val, 0] ∧ win0_1.index t = ![t.val, 0] ∧ win0_2.index t = ![t.val, 0] ∧ win0_3.index t = ![3, t.val, 0])
    ∧ (win0_4.index t = ![1, 0, 0] ∧ win0_5.index t = ![3, 0, 0] ∧ win0_6.index t = ![3, 0, 0] ∧ win0_7.index t = ![t.val, 0]) :=
  (by decide +kernel : ∀ t : Fin grid0.N, (win0_0.index t = ![t.val, 0] ∧ win0_1.index t = ![t.val, 0] ∧ win0_2.index t = ![t.val, 0] ∧ win0_3.index t = ![3, t.val, 0])
    ∧ (win0_4.index t = ![1, 0, 0] ∧ win0_5.index t = ![3, 0, 0] ∧ win0_6.index t = ![3, 0, 0] ∧ win0_7.index t = ![t.val, 0]))

/-- The token of a point's row. -/
abbrev token (t : Fin cfg0.N) (r : Fin 512) : Fin 16384 := ⟨512 * t.val + r.val, by have : t.val < 32 := lt_of_lt_of_eq t.isLt (show cfg0.N = 32 from N_0); omega⟩

theorem mixer_apply (c : Dev nD) (t : Fin cfg0.N) (r : Fin 512) (j : Fin 1024) :
    iblk m c 0 t (ix2 r j) = m ((c : Thread nD τ).loc main_arg0) (ix2 (token t r) j) := by
  have h := (windows t).1.1
  blk_ext! [iblk, V, h]

theorem gate_apply (c : Dev nD) (t : Fin cfg0.N) (r : Fin 512) (j : Fin 1024) :
    iblk m c 1 t (ix2 r j) = m ((c : Thread nD τ).loc main_arg1) (ix2 (token t r) j) := by
  have h := (windows t).1.2.1
  blk_ext! [iblk, V, h]

theorem residual_apply (c : Dev nD) (t : Fin cfg0.N) (r : Fin 512) (j : Fin 1024) :
    iblk m c 2 t (ix2 r j) = m ((c : Thread nD τ).loc main_arg2) (ix2 (token t r) j) := by
  have h := (windows t).1.2.2.1
  blk_ext! [iblk, V, h]

theorem embedding_apply (c : Dev nD) (t : Fin cfg0.N) (r : Fin 512) (j : Fin 256) :
    iblk m c 3 t (ix3 0 r j) = m ((c : Thread nD τ).loc main_arg3) (ix3 3 (token t r) j) := by
  have h := (windows t).1.2.2.2
  blk_ext! [iblk, V, h]

theorem out_weight_apply (c : Dev nD) (t : Fin cfg0.N) (j k : Fin 1024) :
    iblk m c 4 t (ix3 0 j k) = m ((c : Thread nD τ).loc main_arg4) (ix3 1 j k) := by
  have h := (windows t).2.1
  blk_ext! [iblk, V, h]

theorem gate_weight_apply (c : Dev nD) (t : Fin cfg0.N) (j k : Fin 1024) :
    iblk m c 5 t (ix3 0 j k) = m ((c : Thread nD τ).loc main_arg5) (ix3 3 j k) := by
  have h := (windows t).2.2.1
  blk_ext! [iblk, V, h]

theorem proj_weight_apply (c : Dev nD) (t : Fin cfg0.N) (j : Fin 256) (k : Fin 1024) :
    iblk m c 6 t (ix3 0 j k) = m ((c : Thread nD τ).loc main_arg6) (ix3 3 j k) := by
  have h := (windows t).2.2.2.1
  blk_ext! [iblk, V, h]

theorem emb_apply (t : Fin cfg0.N) (r : Fin 512) (j : Fin 1024) :
    ((cfg0.win 7).blk t).view.emb (ix2 r j) = ix2 (token t r) j := by
  have h := (windows t).2.2.2.2
  blk_ext [h]

/-- The result array. -/
def result (O G : Vec Ideal S16384x1024 .bf16) (X : Vec Ideal S16384x1024 .f32) (E : Vec Ideal S4x16384x256 .f32) (W : Vec Ideal S2x1024x1024 .f32)
    (V : Vec Ideal S4x1024x1024 .f32) (P : Vec Ideal S4x256x1024 .f32) : Vec Ideal S16384x1024 .f32 := fun i =>
  after (fun j => O (ix2 (i 0) j)) (fun j => G (ix2 (i 0) j)) (fun j => X (ix2 (i 0) j)) (fun j => E (ix3 3 (i 0) j))
    (fun j k => W (ix3 1 j k)) (fun j k => V (ix3 3 j k)) (fun j k => P (ix3 3 j k)) (i 1)

/-- The result array after the run. -/
theorem final (c : Dev nD) :
    (dats m 0 c).arrAt 7 cfg0.N = result (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  obtain ⟨r, k, e⟩ : ∃ (r : Fin 512) (k : Fin 1024), y = ix2 r k := ⟨y 0, y 1, by blk_ext⟩
  rw [e]
  refine ((congrFun (flushed7 m c t) (ix2 r k)).trans (out_apply (iblk m c 0 t) (iblk m c 1 t) (iblk m c 2 t) (iblk m c 3 t) (iblk m c 4 t) (iblk m c 5 t) (iblk m c 6 t) r k)).trans ?_
  refine Eq.trans ?_ (congrArg (result _ _ _ _ _ _ _) (emb_apply t r k)).symm
  exact after_congr (fun j => mixer_apply m c t r j) (fun j => gate_apply m c t r j) (fun j => residual_apply m c t r j) (fun j => embedding_apply m c t r j)
    (fun j k => out_weight_apply m c t j k) (fun j k => gate_weight_apply m c t j k) (fun j k => proj_weight_apply m c t j k) k

end

end Cert.LastTailIdeal.Tail

end
-- ==== Proof.Tail.LastRef.lean ====
/-
  The last tail's reference read at a token.
-/
module

public import proofs.«01_k».proof.Proof.Tail.LastKernel
public import proofs.«01_k».proof.Proof.Gen.LastTailRefIdeal.Run

@[expose] public section

set_option maxRecDepth 16384

noncomputable section

namespace Cert.LastTailRefIdeal.Tail

open Cert.LastTailRefIdeal Cert.LastTailRefIdeal.Gen Cert.LastTailRefIdeal.Value Idealize.ShloMosaic Idealize.ShloMosaic.TcCoe Idealize.SL.Sem
open Cert.Tail

/-! The reference's stages on the token array, and each stage read at a token. -/

def sigmoids (z : FVec Ideal S16384x1024 .f32) : FVec Ideal S16384x1024 .f32 :=
  Host.divf (broadcastInDim S16384x1024 ![] bcast_S_S16384x1024 (constant S_ .f32 0x3F800000#32)) (addf (broadcastInDim S16384x1024 ![] bcast_S_S16384x1024 (constant S_ .f32 0x3F800000#32)) (Host.exp (Host.negf z)))

def gates (O G : FVec Ideal S16384x1024 .bf16) : FVec Ideal S16384x1024 .f32 :=
  mulf (extf .f32 O bitsLt_bf16_f32) (mulf (extf .f32 G bitsLt_bf16_f32) (sigmoids (extf .f32 G bitsLt_bf16_f32)))

def outWeight (W : FVec Ideal S2x1024x1024 .f32) : FVec Ideal S1024x1024 .f32 :=
  shapeCast S1024x1024 (extractStridedSlice S1x1024x1024 ![1, 0, 0] W slices_S2x1024x1024_S1x1024x1024_1_0_0) shapeCasts_S1x1024x1024_S1024x1024

def gateWeight (V : FVec Ideal S4x1024x1024 .f32) : FVec Ideal S1024x1024 .f32 :=
  shapeCast S1024x1024 (extractStridedSlice S1x1024x1024 ![3, 0, 0] V slices_S4x1024x1024_S1x1024x1024_3_0_0) shapeCasts_S1x1024x1024_S1024x1024

def product (y : FVec Ideal S16384x1024 .f32) (W : FVec Ideal S1024x1024 .f32) : FVec Ideal S16384x1024 .f32 :=
  Host.dotGeneral dot_S16384x1024_S1024x1024_S16384x1024_1_0_0_1_n_n none y W

def embedded (E : FVec Ideal S4x16384x256 .f32) (P : FVec Ideal S4x256x1024 .f32) : FVec Ideal S16384x1024 .f32 :=
  Host.dotGeneral dot_S16384x256_S256x1024_S16384x1024_1_0_0_1_n_n none (shapeCast S16384x256 (extractStridedSlice S1x16384x256 ![3, 0, 0] E slices_S4x16384x256_S1x16384x256_3_0_0) shapeCasts_S1x16384x256_S16384x256)
    (shapeCast S256x1024 (extractStridedSlice S1x256x1024 ![3, 0, 0] P slices_S4x256x1024_S1x256x1024_3_0_0) shapeCasts_S1x256x1024_S256x1024)

def mids (O G : FVec Ideal S16384x1024 .bf16) (X : FVec Ideal S16384x1024 .f32) (W : FVec Ideal S2x1024x1024 .f32) : FVec Ideal S16384x1024 .f32 :=
  addf X (product (gates O G) (outWeight W))

def afters (y e z : FVec Ideal S16384x1024 .f32) : FVec Ideal S16384x1024 .f32 := addf y (mulf (sigmoids z) e)

def rows (O G : FVec Ideal S16384x1024 .bf16) (X : FVec Ideal S16384x1024 .f32) (E : FVec Ideal S4x16384x256 .f32) (W : FVec Ideal S2x1024x1024 .f32)
    (V : FVec Ideal S4x1024x1024 .f32) (P : FVec Ideal S4x256x1024 .f32) : FVec Ideal S16384x1024 .f32 :=
  afters (mids O G X W) (embedded E P) (product (mids O G X W) (gateWeight V))

theorem sigmoids_apply (z : FVec Ideal S16384x1024 .f32) (i : Fin 16384) (j : Fin 1024) : sigmoids z (ix2 i j) = sigmoid (z (ix2 i j)) := by
  pointwise [sigmoids]
  rfl

theorem gates_apply (O G : FVec Ideal S16384x1024 .bf16) (i : Fin 16384) (j : Fin 1024) : gates O G (ix2 i j) = gated (O (ix2 i j)) (G (ix2 i j)) := by
  exact congrArg (fun s : EReal => (O (ix2 i j) : EReal) * ((G (ix2 i j) : EReal) * s)) (sigmoids_apply (extf .f32 G bitsLt_bf16_f32) i j)

theorem outWeight_apply (W : FVec Ideal S2x1024x1024 .f32) (j k : Fin 1024) : outWeight W (ix2 j k) = W (ix3 1 j k) := by
  pointwise [outWeight]

theorem gateWeight_apply (V : FVec Ideal S4x1024x1024 .f32) (j k : Fin 1024) : gateWeight V (ix2 j k) = V (ix3 3 j k) := by
  pointwise [gateWeight]

theorem product_apply (y : FVec Ideal S16384x1024 .f32) (W : FVec Ideal S1024x1024 .f32) (i : Fin 16384) (k : Fin 1024) :
    product y W (ix2 i k) = (∑ j : Fin 1024, y (ix2 i j) * W (ix2 j k) : EReal) := by
  pointwise [product]

theorem embedded_apply (E : FVec Ideal S4x16384x256 .f32) (P : FVec Ideal S4x256x1024 .f32) (i : Fin 16384) (k : Fin 1024) :
    embedded E P (ix2 i k) = (∑ j : Fin 256, E (ix3 3 i j) * P (ix3 3 j k) : EReal) := by
  pointwise [embedded]

theorem mids_apply (O G : FVec Ideal S16384x1024 .bf16) (X : FVec Ideal S16384x1024 .f32) (W : FVec Ideal S2x1024x1024 .f32) (i : Fin 16384) (k : Fin 1024) :
    mids O G X W (ix2 i k) = mid (fun j => O (ix2 i j)) (fun j => G (ix2 i j)) (fun j => X (ix2 i j)) (fun j k => W (ix3 1 j k)) k := by
  refine congrArg (fun s : EReal => (X (ix2 i k) : EReal) + s) ?_
  rw [product_apply]
  simp only [gates_apply, outWeight_apply]

theorem afters_apply (y e z : FVec Ideal S16384x1024 .f32) (i : Fin 16384) (k : Fin 1024) :
    afters y e z (ix2 i k) = (y (ix2 i k) + sigmoid (z (ix2 i k)) * e (ix2 i k) : EReal) := by
  exact congrArg (fun s : EReal => (y (ix2 i k) : EReal) + s * e (ix2 i k)) (sigmoids_apply z i k)

theorem rows_apply (O G : FVec Ideal S16384x1024 .bf16) (X : FVec Ideal S16384x1024 .f32) (E : FVec Ideal S4x16384x256 .f32) (W : FVec Ideal S2x1024x1024 .f32)
    (V : FVec Ideal S4x1024x1024 .f32) (P : FVec Ideal S4x256x1024 .f32) (i : Fin 16384) (k : Fin 1024) :
    rows O G X E W V P (ix2 i k) = after (fun j => O (ix2 i j)) (fun j => G (ix2 i j)) (fun j => X (ix2 i j)) (fun j => E (ix3 3 i j))
      (fun j k => W (ix3 1 j k)) (fun j k => V (ix3 3 j k)) (fun j k => P (ix3 3 j k)) k := by
  unfold rows
  rw [afters_apply, product_apply, embedded_apply]
  simp only [mids_apply, gateWeight_apply]
  rfl

theorem rows_eq (O G : FVec Ideal S16384x1024 .bf16) (X : FVec Ideal S16384x1024 .f32) (E : FVec Ideal S4x16384x256 .f32) (W : FVec Ideal S2x1024x1024 .f32)
    (V : FVec Ideal S4x1024x1024 .f32) (P : FVec Ideal S4x256x1024 .f32) : rows O G X E W V P = LastTailIdeal.Tail.result O G X E W V P := by
  funext i
  exact (congrArg (rows O G X E W V P) (eq_ix2 i)).trans (rows_apply O G X E W V P (i 0) (i 1))

end Cert.LastTailRefIdeal.Tail

end
-- ==== Proof.Tail.LastClaims.lean ====
/-
  The claims about the last layer's tail.
-/
module

public import proofs.«01_k».proof.Defs
public import proofs.«01_k».proof.Proof.Gen.LastTail.Frame
public import proofs.«01_k».proof.Proof.Tail.LastRef

@[expose] public section

set_option maxRecDepth 16384

noncomputable section

namespace Cert.Proof.LastTailClaims

open Idealize.ShloMosaic Idealize.ShloMosaic.TcCoe Idealize.SL.Sem Cert.LastTailIdeal.Tail

theorem frame_p : Cert.quiescent_LastTail := fun m ρ _ => Cert.LastTail.Gen.frame m ρ
theorem frame_pi : Cert.quiescent_LastTailIdeal := fun m ρ _ => Cert.LastTailIdeal.Gen.frame m ρ
theorem frame_ri : Cert.quiescent_LastTailRefIdeal := fun m ρ _ =>
  (θ_run Cert.LastTailRefIdeal.defs _ _).mono (fun r h => ⟨fun c => (h c).2, sem_eq_zero_of_no_sems (by decide) r.2⟩)
    (Cert.LastTailRefIdeal.Value.run (F := Ideal) m ρ)

theorem preserves : Cert.preserves_LastTail_LastTailIdeal := trivial

/-- Both runs end at the tokens' rows after the tail. -/
theorem algebraic : Cert.algebraic_LastTailIdeal_LastTailRefIdeal := by
  intro m ρ m' ρ' _ hagree
  refine ⟨fun c => result (m ((c.tc : Thread LastTailIdeal.nD LastTailIdeal.τ).loc LastTailIdeal.main_arg0))
    (m ((c.tc : Thread LastTailIdeal.nD LastTailIdeal.τ).loc LastTailIdeal.main_arg1)) (m ((c.tc : Thread LastTailIdeal.nD LastTailIdeal.τ).loc LastTailIdeal.main_arg2))
    (m ((c.tc : Thread LastTailIdeal.nD LastTailIdeal.τ).loc LastTailIdeal.main_arg3)) (m ((c.tc : Thread LastTailIdeal.nD LastTailIdeal.τ).loc LastTailIdeal.main_arg4))
    (m ((c.tc : Thread LastTailIdeal.nD LastTailIdeal.τ).loc LastTailIdeal.main_arg5)) (m ((c.tc : Thread LastTailIdeal.nD LastTailIdeal.τ).loc LastTailIdeal.main_arg6)), ?_, ?_⟩
  · exact (θ_run Cert.LastTailIdeal.defs _ _).mono (fun _ h c => ⟨(h c).1.trans (final m c), (h c).2⟩) (Cert.LastTailIdeal.Value.run_blocks m ρ)
  · refine (θ_run Cert.LastTailRefIdeal.defs _ _).mono (fun _ h c => ⟨(h c).1.trans ?_, (h c).2⟩) (Cert.LastTailRefIdeal.Value.run (F := Ideal) m' ρ')
    obtain ⟨h0, h1, h2, h3, h4, h5, h6⟩ := hagree c
    refine (Cert.LastTailRefIdeal.Tail.rows_eq _ _ _ _ _ _ _).trans ?_
    rw [h0, h1, h2, h3, h4, h5, h6]

end Cert.Proof.LastTailClaims

end
-- ==== Proof.Tail.SharedKernel.lean ====
/-
  The tail of the last latent-attention layer: each token's row after the tail, the shared key and value, and the next layer's query and gate.
-/
module

public import proofs.«01_k».proof.Proof.Tail.Math
public import proofs.«01_k».proof.Proof.Gen.SharedTailIdeal.Value

@[expose] public section

set_option maxRecDepth 16384

noncomputable section

namespace Cert.SharedTailIdeal.Tail

open Cert.SharedTailIdeal Cert.SharedTailIdeal.Gen Cert.SharedTailIdeal.Value Idealize.ShloMosaic Idealize.ShloMosaic.TcCoe Idealize.SL.Sem
open Cert.Tail

theorem gated_apply (g o : Vec Ideal S256x1024 .bf16) (r : Fin 256) (j : Fin 1024) :
    k0_pay1 g o (ix2 r j) = gated (o (ix2 r j)) (g (ix2 r j)) := by
  pointwise [k0_pay1]
  simp only [Ideal.ofBits_one_f32, Ideal.ofBits_zero_f32, zero_sub]
  rfl

theorem emb_dot_apply (p : Vec Ideal S1x256x256 .f32) (P : Vec Ideal S1x256x1024 .bf16) (r : Fin 256) (k : Fin 1024) :
    k0_pay3 p P (ix2 r k) = (∑ j : Fin 256, p (ix3 0 r j) * P (ix3 0 j k) : EReal) := by
  pointwise [k0_pay3]

theorem mid_apply (u : FVec Ideal S256x1024 .bf16) (x : Vec Ideal S256x1024 .f32) (W : Vec Ideal S1x1024x1024 .bf16) (r : Fin 256) (k : Fin 1024) :
    k0_pay5 u x W (ix2 r k) = (x (ix2 r k) + ∑ j : Fin 1024, u (ix2 r j) * W (ix3 0 j k) : EReal) := by
  pointwise [k0_pay5]

theorem logit_apply (u : FVec Ideal S256x1024 .bf16) (x : Vec Ideal S256x1024 .f32) (W V : Vec Ideal S1x1024x1024 .bf16) (r : Fin 256) (k : Fin 1024) :
    k0_pay6 u x W V (ix2 r k) = (∑ j : Fin 1024, k0_pay5 u x W (ix2 r j) * V (ix3 0 j k) : EReal) := by
  obtain ⟨y, ey⟩ : ∃ y, y = k0_pay5 u x W := ⟨_, rfl⟩
  unfold k0_pay6
  rw [← ey]
  clear ey
  pointwise

theorem after_apply (e y g : FVec Ideal S256x1024 .f32) (r : Fin 256) (k : Fin 1024) :
    k0_pay8 e y g (Scalar.ofBits .f32 0x00000000#32) (ix2 r k) = (y (ix2 r k) + sigmoid (g (ix2 r k)) * e (ix2 r k) : EReal) := by
  pointwise [k0_pay8]
  simp only [Ideal.ofBits_one_f32, Ideal.ofBits_zero_f32, zero_sub]
  rfl

/-- A group's rows after the tail. -/
def rows (o g : Vec Ideal S256x1024 .bf16) (x : Vec Ideal S256x1024 .f32) (p : Vec Ideal S1x256x256 .f32) (W V : Vec Ideal S1x1024x1024 .bf16)
    (P : Vec Ideal S1x256x1024 .bf16) : FVec Ideal S256x1024 .f32 :=
  k0_pay8 (k0_pay3 p P) (k0_pay5 (k0_pay1 g o) x W) (k0_pay6 (k0_pay1 g o) x W V) (Scalar.ofBits .f32 0x00000000#32)

theorem rows_apply (o g : Vec Ideal S256x1024 .bf16) (x : Vec Ideal S256x1024 .f32) (p : Vec Ideal S1x256x256 .f32) (W V : Vec Ideal S1x1024x1024 .bf16)
    (P : Vec Ideal S1x256x1024 .bf16) (r : Fin 256) (k : Fin 1024) :
    rows o g x p W V P (ix2 r k)
      = after (fun j => o (ix2 r j)) (fun j => g (ix2 r j)) (fun j => x (ix2 r j)) (fun j => p (ix3 0 r j))
          (fun j k => W (ix3 0 j k)) (fun j k => V (ix3 0 j k)) (fun j k => P (ix3 0 j k)) k := by
  unfold rows
  rw [after_apply, emb_dot_apply, logit_apply]
  simp only [mid_apply, gated_apply]
  rfl

theorem ld_first {e : EltTy} (x : Vec Ideal S512x1024 e) (r : Fin 256) (j : Fin 1024) : View.ld x r0_0 (ix2 r j) = x (ix2 ⟨r.val, by omega⟩ j) :=
  ld_rows _ x r _ (by show r.val = 0 + r.val; omega) j
theorem ld_second {e : EltTy} (x : Vec Ideal S512x1024 e) (r : Fin 256) (j : Fin 1024) : View.ld x r0_1 (ix2 r j) = x (ix2 ⟨256 + r.val, by omega⟩ j) :=
  ld_rows _ x r _ rfl j
theorem ld_first_emb (x : Vec Ideal S1x512x256 .f32) (r : Fin 256) (j : Fin 256) : View.ld x r0_2 (ix3 0 r j) = x (ix3 0 ⟨r.val, by omega⟩ j) :=
  ld_rows3 _ x r _ (by show r.val = 0 + r.val; omega) j
theorem ld_second_emb (x : Vec Ideal S1x512x256 .f32) (r : Fin 256) (j : Fin 256) : View.ld x r0_4 (ix3 0 r j) = x (ix3 0 ⟨256 + r.val, by omega⟩ j) :=
  ld_rows3 _ x r _ rfl j
theorem ld_square (x : Vec Ideal S1x1024x1024 .bf16) (j k : Fin 1024) : View.ld x r0_5 (ix3 0 j k) = x (ix3 0 j k) :=
  ld_rows3 _ x j _ (by omega) k
theorem ld_proj (x : Vec Ideal S1x256x1024 .bf16) (j : Fin 256) (k : Fin 1024) : View.ld x r0_3 (ix3 0 j k) = x (ix3 0 j k) :=
  ld_rows3 _ x j _ (by omega) k
theorem ld_scale (x : Vec Ideal S1x1024 .f32) (k : Fin 1024) : View.ld x r0_6 (ix2 0 k) = x (ix2 0 k) :=
  ld_rows _ x 0 _ rfl k

theorem normed_apply (y : FVec Ideal S256x1024 .f32) (n : Vec Ideal S1x1024 .f32) (r : Fin 256) (k : Fin 1024) :
    k0_pay16 y n (ix2 r k) = normed (fun j => y (ix2 r j)) (fun j => n (ix2 0 j)) k := by
  pointwise [k0_pay16]
  rfl

theorem gate_dot_apply (h : FVec Ideal S256x1024 .bf16) (Z : Vec Ideal S1x1024x1024 .bf16) (r : Fin 256) (k : Fin 1024) :
    k0_pay22 h Z (ix2 r k) = (∑ j : Fin 1024, h (ix2 r j) * Z (ix3 0 j k) : EReal) := by
  pointwise [k0_pay22]

theorem query_factor : Named.named (F := Ideal) κ "query_factor" (φ := .f32) 0x3E38AA3B#32 = (((Real.sqrt 64)⁻¹ * (Real.log 2)⁻¹ : ℝ) : EReal) :=
  IdealRules.named_const.ideal_named_scalar _ _ _ _ rfl

theorem query_dot_apply (h : FVec Ideal S256x1024 .bf16) (Z : Vec Ideal S1x1024x1024 .bf16) (r : Fin 256) (k : Fin 1024) :
    k0_pay21 h Z (ix2 r k) = scaled (∑ j : Fin 1024, h (ix2 r j) * Z (ix3 0 j k) : EReal) := by
  pointwise [k0_pay21]
  rw [query_factor]
  rfl

theorem gates_apply (y : FVec Ideal S256x1024 .f32) (n : Vec Ideal S1x1024 .f32) (Z : Vec Ideal S1x1024x1024 .bf16) (r : Fin 256) (k : Fin 1024) :
    k0_pay22 (k0_pay16 y n) Z (ix2 r k) = front (fun j => y (ix2 r j)) (fun j => n (ix2 0 j)) (fun j k => Z (ix3 0 j k)) k := by
  rw [gate_dot_apply]
  simp only [normed_apply]
  rfl

theorem queries_apply (y : FVec Ideal S256x1024 .f32) (n : Vec Ideal S1x1024 .f32) (Z : Vec Ideal S1x1024x1024 .bf16) (r : Fin 256) (k : Fin 1024) :
    k0_pay21 (k0_pay16 y n) Z (ix2 r k) = scaled (front (fun j => y (ix2 r j)) (fun j => n (ix2 0 j)) (fun j k => Z (ix3 0 j k)) k) := by
  rw [query_dot_apply]
  simp only [normed_apply]
  rfl

theorem ld_kv (x : Vec Ideal S1024x2048 .bf16) (j : Fin 1024) (k : Fin 2048) : View.ld x r0_7 (ix2 j k) = x (ix2 j k) :=
  ld_rows _ x j _ (by show j.val = 0 + j.val; omega) k

theorem kv_dot_apply (h : FVec Ideal S256x1024 .bf16) (Z : Vec Ideal S1024x2048 .bf16) (r : Fin 256) (k : Fin 2048) :
    k0_pay11 h Z (ix2 r k) = (∑ j : Fin 1024, h (ix2 r j) * Z (ix2 j k) : EReal) := by
  pointwise [k0_pay11]

theorem keys_apply (y : FVec Ideal S256x1024 .f32) (n : Vec Ideal S1x1024 .f32) (Z : Vec Ideal S1024x2048 .bf16) (r : Fin 256) (k : Fin 1024) :
    k0_pay14 (k0_pay16 y n) Z (ix2 r k) = front (fun j => y (ix2 r j)) (fun j => n (ix2 0 j)) (fun j (k : Fin 1024) => Z (ix2 j ⟨k.val, by omega⟩)) k := by
  obtain ⟨q, eq⟩ : ∃ q, q = k0_pay11 (k0_pay16 y n) Z := ⟨_, rfl⟩
  have e : k0_pay14 (k0_pay16 y n) Z (ix2 r k) = k0_pay11 (k0_pay16 y n) Z (ix2 r (⟨k.val, by omega⟩ : Fin 2048)) := by
    unfold k0_pay14
    rw [← eq]
    pointwise
  rw [e, kv_dot_apply]
  simp only [normed_apply]
  rfl

theorem values_apply (y : FVec Ideal S256x1024 .f32) (n : Vec Ideal S1x1024 .f32) (Z : Vec Ideal S1024x2048 .bf16) (r : Fin 256) (k : Fin 1024) :
    k0_pay15 (k0_pay16 y n) Z (ix2 r k) = front (fun j => y (ix2 r j)) (fun j => n (ix2 0 j)) (fun j (k : Fin 1024) => Z (ix2 j ⟨1024 + k.val, by omega⟩)) k := by
  obtain ⟨q, eq⟩ : ∃ q, q = k0_pay11 (k0_pay16 y n) Z := ⟨_, rfl⟩
  have e : k0_pay15 (k0_pay16 y n) Z (ix2 r k) = k0_pay11 (k0_pay16 y n) Z (ix2 r (⟨1024 + k.val, by omega⟩ : Fin 2048)) := by
    unfold k0_pay15
    rw [← eq]
    pointwise
  rw [e, kv_dot_apply]
  simp only [normed_apply]
  rfl

/-- A block's row after the tail. -/
abbrev blockRow (x0 x1 : Vec Ideal S512x1024 .bf16) (x2 : Vec Ideal S512x1024 .f32) (x3 : Vec Ideal S1x512x256 .f32) (x4 x5 : Vec Ideal S1x1024x1024 .bf16)
    (x6 : Vec Ideal S1x256x1024 .bf16) (r : Fin 512) : Fin 1024 → EReal :=
  after (fun j => x0 (ix2 r j)) (fun j => x1 (ix2 r j)) (fun j => x2 (ix2 r j)) (fun j => x3 (ix3 0 r j))
    (fun j k => x4 (ix3 0 j k)) (fun j k => x5 (ix3 0 j k)) (fun j k => x6 (ix3 0 j k))

theorem first_rows (x0 x1 : Vec Ideal S512x1024 .bf16) (x2 : Vec Ideal S512x1024 .f32) (x3 : Vec Ideal S1x512x256 .f32) (x4 x5 : Vec Ideal S1x1024x1024 .bf16)
    (x6 : Vec Ideal S1x256x1024 .bf16) (r : Fin 256) (k : Fin 1024) :
    rows (View.ld x0 r0_0) (View.ld x1 r0_0) (View.ld x2 r0_0) (View.ld x3 r0_2) (View.ld x4 r0_5) (View.ld x5 r0_5) (View.ld x6 r0_3) (ix2 r k)
      = blockRow x0 x1 x2 x3 x4 x5 x6 ⟨r.val, by omega⟩ k :=
  (rows_apply (View.ld x0 r0_0) (View.ld x1 r0_0) (View.ld x2 r0_0) (View.ld x3 r0_2) (View.ld x4 r0_5) (View.ld x5 r0_5) (View.ld x6 r0_3) r k).trans
    (after_congr (fun j => ld_first x0 r j) (fun j => ld_first x1 r j) (fun j => ld_first x2 r j) (fun j => ld_first_emb x3 r j)
      (fun j k => ld_square x4 j k) (fun j k => ld_square x5 j k) (fun j k => ld_proj x6 j k) k)

theorem second_rows (x0 x1 : Vec Ideal S512x1024 .bf16) (x2 : Vec Ideal S512x1024 .f32) (x3 : Vec Ideal S1x512x256 .f32) (x4 x5 : Vec Ideal S1x1024x1024 .bf16)
    (x6 : Vec Ideal S1x256x1024 .bf16) (r : Fin 256) (k : Fin 1024) :
    rows (View.ld x0 r0_1) (View.ld x1 r0_1) (View.ld x2 r0_1) (View.ld x3 r0_4) (View.ld x4 r0_5) (View.ld x5 r0_5) (View.ld x6 r0_3) (ix2 r k)
      = blockRow x0 x1 x2 x3 x4 x5 x6 ⟨256 + r.val, by omega⟩ k :=
  (rows_apply (View.ld x0 r0_1) (View.ld x1 r0_1) (View.ld x2 r0_1) (View.ld x3 r0_4) (View.ld x4 r0_5) (View.ld x5 r0_5) (View.ld x6 r0_3) r k).trans
    (after_congr (fun j => ld_second x0 r j) (fun j => ld_second x1 r j) (fun j => ld_second x2 r j) (fun j => ld_second_emb x3 r j)
      (fun j k => ld_square x4 j k) (fun j k => ld_square x5 j k) (fun j k => ld_proj x6 j k) k)

theorem out_rows (x0 x1 : Vec Ideal S512x1024 .bf16) (x2 : Vec Ideal S512x1024 .f32) (x3 : Vec Ideal S1x512x256 .f32) (x4 x5 : Vec Ideal S1x1024x1024 .bf16)
    (x6 : Vec Ideal S1x256x1024 .bf16) (x7 : Vec Ideal S1x1024 .f32) (x8 : Vec Ideal S1024x2048 .bf16) (x9 : Vec Ideal S1x1024 .f32) (x10 x11 : Vec Ideal S1x1024x1024 .bf16) (r : Fin 512) (k : Fin 1024) :
    out0_12 x0 x1 x2 x3 x4 x5 x6 x7 x8 x9 x10 x11 (ix2 r k) = blockRow x0 x1 x2 x3 x4 x5 x6 r k :=
  canon_groups (e := .f32) inb_S512x1024_S256x1024_0_0 inb_S512x1024_S256x1024_256_0 _ _ (blockRow x0 x1 x2 x3 x4 x5 x6)
    (fun r k => first_rows x0 x1 x2 x3 x4 x5 x6 r k) (fun r k => second_rows x0 x1 x2 x3 x4 x5 x6 r k) r k

/-- A block's keys. -/
theorem out_keys (x0 x1 : Vec Ideal S512x1024 .bf16) (x2 : Vec Ideal S512x1024 .f32) (x3 : Vec Ideal S1x512x256 .f32) (x4 x5 : Vec Ideal S1x1024x1024 .bf16)
    (x6 : Vec Ideal S1x256x1024 .bf16) (x7 : Vec Ideal S1x1024 .f32) (x8 : Vec Ideal S1024x2048 .bf16) (x9 : Vec Ideal S1x1024 .f32) (x10 x11 : Vec Ideal S1x1024x1024 .bf16) (r : Fin 512) (k : Fin 1024) :
    out0_13 x0 x1 x2 x3 x4 x5 x6 x7 x8 x9 x10 x11 (ix2 r k) = front (blockRow x0 x1 x2 x3 x4 x5 x6 r) (fun j => x7 (ix2 0 j)) (fun j (k : Fin 1024) => x8 (ix2 j ⟨k.val, by omega⟩)) k := by
  refine canon_groups (e := .bf16) inb_S512x1024_S256x1024_0_0 inb_S512x1024_S256x1024_256_0 _ _ (fun r k => front (blockRow x0 x1 x2 x3 x4 x5 x6 r) (fun j => x7 (ix2 0 j)) (fun j (k : Fin 1024) => x8 (ix2 j ⟨k.val, by omega⟩)) k) ?_ ?_ r k
  · intro r k
    refine (keys_apply (rows (View.ld x0 r0_0) (View.ld x1 r0_0) (View.ld x2 r0_0) (View.ld x3 r0_2) (View.ld x4 r0_5) (View.ld x5 r0_5) (View.ld x6 r0_3)) (View.ld x7 r0_6) (View.ld x8 r0_7) r k).trans ?_
    exact front_congr (fun j => first_rows x0 x1 x2 x3 x4 x5 x6 r j) (fun j => ld_scale x7 j) (fun j k => ld_kv x8 j _) _
  · intro r k
    refine (keys_apply (rows (View.ld x0 r0_1) (View.ld x1 r0_1) (View.ld x2 r0_1) (View.ld x3 r0_4) (View.ld x4 r0_5) (View.ld x5 r0_5) (View.ld x6 r0_3)) (View.ld x7 r0_6) (View.ld x8 r0_7) r k).trans ?_
    exact front_congr (fun j => second_rows x0 x1 x2 x3 x4 x5 x6 r j) (fun j => ld_scale x7 j) (fun j k => ld_kv x8 j _) _

/-- A block's values. -/
theorem out_values (x0 x1 : Vec Ideal S512x1024 .bf16) (x2 : Vec Ideal S512x1024 .f32) (x3 : Vec Ideal S1x512x256 .f32) (x4 x5 : Vec Ideal S1x1024x1024 .bf16)
    (x6 : Vec Ideal S1x256x1024 .bf16) (x7 : Vec Ideal S1x1024 .f32) (x8 : Vec Ideal S1024x2048 .bf16) (x9 : Vec Ideal S1x1024 .f32) (x10 x11 : Vec Ideal S1x1024x1024 .bf16) (r : Fin 512) (k : Fin 1024) :
    out0_14 x0 x1 x2 x3 x4 x5 x6 x7 x8 x9 x10 x11 (ix2 r k) = front (blockRow x0 x1 x2 x3 x4 x5 x6 r) (fun j => x7 (ix2 0 j)) (fun j (k : Fin 1024) => x8 (ix2 j ⟨1024 + k.val, by omega⟩)) k := by
  refine canon_groups (e := .bf16) inb_S512x1024_S256x1024_0_0 inb_S512x1024_S256x1024_256_0 _ _ (fun r k => front (blockRow x0 x1 x2 x3 x4 x5 x6 r) (fun j => x7 (ix2 0 j)) (fun j (k : Fin 1024) => x8 (ix2 j ⟨1024 + k.val, by omega⟩)) k) ?_ ?_ r k
  · intro r k
    refine (values_apply (rows (View.ld x0 r0_0) (View.ld x1 r0_0) (View.ld x2 r0_0) (View.ld x3 r0_2) (View.ld x4 r0_5) (View.ld x5 r0_5) (View.ld x6 r0_3)) (View.ld x7 r0_6) (View.ld x8 r0_7) r k).trans ?_
    exact front_congr (fun j => first_rows x0 x1 x2 x3 x4 x5 x6 r j) (fun j => ld_scale x7 j) (fun j k => ld_kv x8 j _) _
  · intro r k
    refine (values_apply (rows (View.ld x0 r0_1) (View.ld x1 r0_1) (View.ld x2 r0_1) (View.ld x3 r0_4) (View.ld x4 r0_5) (View.ld x5 r0_5) (View.ld x6 r0_3)) (View.ld x7 r0_6) (View.ld x8 r0_7) r k).trans ?_
    exact front_congr (fun j => second_rows x0 x1 x2 x3 x4 x5 x6 r j) (fun j => ld_scale x7 j) (fun j k => ld_kv x8 j _) _

/-- A block's queries. -/
theorem out_queries (x0 x1 : Vec Ideal S512x1024 .bf16) (x2 : Vec Ideal S512x1024 .f32) (x3 : Vec Ideal S1x512x256 .f32) (x4 x5 : Vec Ideal S1x1024x1024 .bf16)
    (x6 : Vec Ideal S1x256x1024 .bf16) (x7 : Vec Ideal S1x1024 .f32) (x8 : Vec Ideal S1024x2048 .bf16) (x9 : Vec Ideal S1x1024 .f32) (x10 x11 : Vec Ideal S1x1024x1024 .bf16) (r : Fin 512) (k : Fin 1024) :
    out0_15 x0 x1 x2 x3 x4 x5 x6 x7 x8 x9 x10 x11 (ix2 r k) = scaled (front (blockRow x0 x1 x2 x3 x4 x5 x6 r) (fun j => x9 (ix2 0 j)) (fun j (k : Fin 1024) => x10 (ix3 0 j k)) k) := by
  refine canon_groups (e := .bf16) inb_S512x1024_S256x1024_0_0 inb_S512x1024_S256x1024_256_0 _ _ (fun r k => scaled (front (blockRow x0 x1 x2 x3 x4 x5 x6 r) (fun j => x9 (ix2 0 j)) (fun j (k : Fin 1024) => x10 (ix3 0 j k)) k)) ?_ ?_ r k
  · intro r k
    refine (queries_apply (rows (View.ld x0 r0_0) (View.ld x1 r0_0) (View.ld x2 r0_0) (View.ld x3 r0_2) (View.ld x4 r0_5) (View.ld x5 r0_5) (View.ld x6 r0_3)) (View.ld x9 r0_6) (View.ld x10 r0_5) r k).trans ?_
    exact congrArg scaled (front_congr (fun j => first_rows x0 x1 x2 x3 x4 x5 x6 r j) (fun j => ld_scale x9 j) (fun j k => ld_square x10 j k) _)
  · intro r k
    refine (queries_apply (rows (View.ld x0 r0_1) (View.ld x1 r0_1) (View.ld x2 r0_1) (View.ld x3 r0_4) (View.ld x4 r0_5) (View.ld x5 r0_5) (View.ld x6 r0_3)) (View.ld x9 r0_6) (View.ld x10 r0_5) r k).trans ?_
    exact congrArg scaled (front_congr (fun j => second_rows x0 x1 x2 x3 x4 x5 x6 r j) (fun j => ld_scale x9 j) (fun j k => ld_square x10 j k) _)

/-- A block's gates. -/
theorem out_gates (x0 x1 : Vec Ideal S512x1024 .bf16) (x2 : Vec Ideal S512x1024 .f32) (x3 : Vec Ideal S1x512x256 .f32) (x4 x5 : Vec Ideal S1x1024x1024 .bf16)
    (x6 : Vec Ideal S1x256x1024 .bf16) (x7 : Vec Ideal S1x1024 .f32) (x8 : Vec Ideal S1024x2048 .bf16) (x9 : Vec Ideal S1x1024 .f32) (x10 x11 : Vec Ideal S1x1024x1024 .bf16) (r : Fin 512) (k : Fin 1024) :
    out0_16 x0 x1 x2 x3 x4 x5 x6 x7 x8 x9 x10 x11 (ix2 r k) = front (blockRow x0 x1 x2 x3 x4 x5 x6 r) (fun j => x9 (ix2 0 j)) (fun j (k : Fin 1024) => x11 (ix3 0 j k)) k := by
  refine canon_groups (e := .bf16) inb_S512x1024_S256x1024_0_0 inb_S512x1024_S256x1024_256_0 _ _ (fun r k => front (blockRow x0 x1 x2 x3 x4 x5 x6 r) (fun j => x9 (ix2 0 j)) (fun j (k : Fin 1024) => x11 (ix3 0 j k)) k) ?_ ?_ r k
  · intro r k
    refine (gates_apply (rows (View.ld x0 r0_0) (View.ld x1 r0_0) (View.ld x2 r0_0) (View.ld x3 r0_2) (View.ld x4 r0_5) (View.ld x5 r0_5) (View.ld x6 r0_3)) (View.ld x9 r0_6) (View.ld x11 r0_5) r k).trans ?_
    exact front_congr (fun j => first_rows x0 x1 x2 x3 x4 x5 x6 r j) (fun j => ld_scale x9 j) (fun j k => ld_square x11 j k) _
  · intro r k
    refine (gates_apply (rows (View.ld x0 r0_1) (View.ld x1 r0_1) (View.ld x2 r0_1) (View.ld x3 r0_4) (View.ld x4 r0_5) (View.ld x5 r0_5) (View.ld x6 r0_3)) (View.ld x9 r0_6) (View.ld x11 r0_5) r k).trans ?_
    exact front_congr (fun j => second_rows x0 x1 x2 x3 x4 x5 x6 r j) (fun j => ld_scale x9 j) (fun j k => ld_square x11 j k) _

section

variable (m : (ℓ : Loc nD τ sig) → Buf (Elt Ideal) ℓ)

theorem windows : ∀ t : Fin cfg0.N, win0_0.index t = ![t.val, 0] ∧ win0_1.index t = ![t.val, 0] ∧ win0_2.index t = ![t.val, 0] ∧ win0_3.index t = ![1, t.val, 0] ∧ win0_4.index t = ![1, 0, 0] ∧ win0_5.index t = ![1, 0, 0] ∧ win0_6.index t = ![1, 0, 0] ∧ win0_7.index t = ![0, 0] ∧ win0_8.index t = ![0, 0] ∧ win0_9.index t = ![0, 0] ∧ win0_10.index t = ![0, 0, 0] ∧ win0_11.index t = ![0, 0, 1] ∧ win0_12.index t = ![t.val, 0] ∧ win0_13.index t = ![t.val, 0] ∧ win0_14.index t = ![t.val, 0] ∧ win0_15.index t = ![t.val, 0] ∧ win0_16.index t = ![t.val, 0] :=
  (by decide +kernel : ∀ t : Fin grid0.N, win0_0.index t = ![t.val, 0] ∧ win0_1.index t = ![t.val, 0] ∧ win0_2.index t = ![t.val, 0] ∧ win0_3.index t = ![1, t.val, 0] ∧ win0_4.index t = ![1, 0, 0] ∧ win0_5.index t = ![1, 0, 0] ∧ win0_6.index t = ![1, 0, 0] ∧ win0_7.index t = ![0, 0] ∧ win0_8.index t = ![0, 0] ∧ win0_9.index t = ![0, 0] ∧ win0_10.index t = ![0, 0, 0] ∧ win0_11.index t = ![0, 0, 1] ∧ win0_12.index t = ![t.val, 0] ∧ win0_13.index t = ![t.val, 0] ∧ win0_14.index t = ![t.val, 0] ∧ win0_15.index t = ![t.val, 0] ∧ win0_16.index t = ![t.val, 0])

/-- The token of a point's row. -/
abbrev token (t : Fin cfg0.N) (r : Fin 512) : Fin 16384 := ⟨512 * t.val + r.val, by have : t.val < 32 := lt_of_lt_of_eq t.isLt (show cfg0.N = 32 from N_0); omega⟩

theorem mixer_apply (c : Dev nD) (t : Fin cfg0.N) (r : Fin 512) (j : Fin 1024) :
    iblk m c 0 t (ix2 r j) = m ((c : Thread nD τ).loc main_arg0) (ix2 (token t r) j) := by
  have h := (windows t).1
  blk_ext! [iblk, V, h]

theorem gate_apply (c : Dev nD) (t : Fin cfg0.N) (r : Fin 512) (j : Fin 1024) :
    iblk m c 1 t (ix2 r j) = m ((c : Thread nD τ).loc main_arg1) (ix2 (token t r) j) := by
  have h := (windows t).2.1
  blk_ext! [iblk, V, h]

theorem residual_apply (c : Dev nD) (t : Fin cfg0.N) (r : Fin 512) (j : Fin 1024) :
    iblk m c 2 t (ix2 r j) = m ((c : Thread nD τ).loc main_arg2) (ix2 (token t r) j) := by
  have h := (windows t).2.2.1
  blk_ext! [iblk, V, h]

theorem embedding_apply (c : Dev nD) (t : Fin cfg0.N) (r : Fin 512) (j : Fin 256) :
    iblk m c 3 t (ix3 0 r j) = m ((c : Thread nD τ).loc main_arg3) (ix3 1 (token t r) j) := by
  have h := (windows t).2.2.2.1
  blk_ext! [iblk, V, h]

theorem out_weight_apply (c : Dev nD) (t : Fin cfg0.N) (j k : Fin 1024) :
    iblk m c 4 t (ix3 0 j k) = m ((c : Thread nD τ).loc main_arg4) (ix3 1 j k) := by
  have h := (windows t).2.2.2.2.1
  blk_ext! [iblk, V, h]

theorem gate_weight_apply (c : Dev nD) (t : Fin cfg0.N) (j k : Fin 1024) :
    iblk m c 5 t (ix3 0 j k) = m ((c : Thread nD τ).loc main_arg5) (ix3 1 j k) := by
  have h := (windows t).2.2.2.2.2.1
  blk_ext! [iblk, V, h]

theorem proj_weight_apply (c : Dev nD) (t : Fin cfg0.N) (j : Fin 256) (k : Fin 1024) :
    iblk m c 6 t (ix3 0 j k) = m ((c : Thread nD τ).loc main_arg6) (ix3 1 j k) := by
  have h := (windows t).2.2.2.2.2.2.1
  blk_ext! [iblk, V, h]

theorem kv_scale_apply (c : Dev nD) (t : Fin cfg0.N) (k : Fin 1024) :
    iblk m c 7 t (ix2 0 k) = m ((c : Thread nD τ).loc main_arg7) (ix1 k) := by
  have h := (windows t).2.2.2.2.2.2.2.1
  blk_ext! [iblk, V, h]

theorem kv_weight_apply (c : Dev nD) (t : Fin cfg0.N) (j : Fin 1024) (k : Fin 2048) :
    iblk m c 8 t (ix2 j k) = m ((c : Thread nD τ).loc main_arg8) (ix2 j k) := by
  have h := (windows t).2.2.2.2.2.2.2.2.1
  blk_ext! [iblk, V, h]

theorem scale_apply (c : Dev nD) (t : Fin cfg0.N) (k : Fin 1024) :
    iblk m c 9 t (ix2 0 k) = m ((c : Thread nD τ).loc main_arg9) (ix1 k) := by
  have h := (windows t).2.2.2.2.2.2.2.2.2.1
  blk_ext! [iblk, V, h]

theorem query_weight_apply (c : Dev nD) (t : Fin cfg0.N) (j k : Fin 1024) :
    iblk m c 10 t (ix3 0 j k) = m ((c : Thread nD τ).loc main_arg10) (ix3 0 j ⟨k.val, by omega⟩) := by
  have h := (windows t).2.2.2.2.2.2.2.2.2.2.1
  blk_ext! [iblk, V, h]

theorem next_gate_weight_apply (c : Dev nD) (t : Fin cfg0.N) (j k : Fin 1024) :
    iblk m c 11 t (ix3 0 j k) = m ((c : Thread nD τ).loc main_arg10) (ix3 0 j ⟨1024 + k.val, by omega⟩) := by
  have h := (windows t).2.2.2.2.2.2.2.2.2.2.2.1
  blk_ext! [iblk, V, h]

theorem emb12_apply (t : Fin cfg0.N) (r : Fin 512) (k : Fin 1024) : ((cfg0.win 12).blk t).view.emb (ix2 r k) = ix2 (token t r) k := by
  have h := (windows t).2.2.2.2.2.2.2.2.2.2.2.2.1
  blk_ext [h]

theorem emb13_apply (t : Fin cfg0.N) (r : Fin 512) (k : Fin 1024) : ((cfg0.win 13).blk t).view.emb (ix2 r k) = ix2 (token t r) k := by
  have h := (windows t).2.2.2.2.2.2.2.2.2.2.2.2.2.1
  blk_ext [h]

theorem emb14_apply (t : Fin cfg0.N) (r : Fin 512) (k : Fin 1024) : ((cfg0.win 14).blk t).view.emb (ix2 r k) = ix2 (token t r) k := by
  have h := (windows t).2.2.2.2.2.2.2.2.2.2.2.2.2.2.1
  blk_ext [h]

theorem emb15_apply (t : Fin cfg0.N) (r : Fin 512) (k : Fin 1024) : ((cfg0.win 15).blk t).view.emb (ix2 r k) = ix2 (token t r) k := by
  have h := (windows t).2.2.2.2.2.2.2.2.2.2.2.2.2.2.2.1
  blk_ext [h]

theorem emb16_apply (t : Fin cfg0.N) (r : Fin 512) (k : Fin 1024) : ((cfg0.win 16).blk t).view.emb (ix2 r k) = ix2 (token t r) k := by
  have h := (windows t).2.2.2.2.2.2.2.2.2.2.2.2.2.2.2.2
  blk_ext [h]

/-- A token's row after the tail. -/
abbrev tokenRow (O G : Vec Ideal S16384x1024 .bf16) (X : Vec Ideal S16384x1024 .f32) (E : Vec Ideal S4x16384x256 .f32) (W : Vec Ideal S2x1024x1024 .f32)
    (V : Vec Ideal S4x1024x1024 .f32) (P : Vec Ideal S4x256x1024 .f32) (i : Fin 16384) : Fin 1024 → EReal :=
  after (fun j => O (ix2 i j)) (fun j => G (ix2 i j)) (fun j => X (ix2 i j)) (fun j => E (ix3 1 i j))
    (fun j k => W (ix3 1 j k)) (fun j k => V (ix3 1 j k)) (fun j k => P (ix3 1 j k))

/-- The rows after the tail. -/
def result (O G : Vec Ideal S16384x1024 .bf16) (X : Vec Ideal S16384x1024 .f32) (E : Vec Ideal S4x16384x256 .f32) (W : Vec Ideal S2x1024x1024 .f32)
    (V : Vec Ideal S4x1024x1024 .f32) (P : Vec Ideal S4x256x1024 .f32) : Vec Ideal S16384x1024 .f32 := fun i => tokenRow O G X E W V P (i 0) (i 1)

theorem blockRow_eq (c : Dev nD) (t : Fin cfg0.N) (r : Fin 512) (k : Fin 1024) :
    blockRow (iblk m c 0 t) (iblk m c 1 t) (iblk m c 2 t) (iblk m c 3 t) (iblk m c 4 t) (iblk m c 5 t) (iblk m c 6 t) r k
      = tokenRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (token t r) k :=
  after_congr (fun j => mixer_apply m c t r j) (fun j => gate_apply m c t r j) (fun j => residual_apply m c t r j) (fun j => embedding_apply m c t r j)
    (fun j k => out_weight_apply m c t j k) (fun j k => gate_weight_apply m c t j k) (fun j k => proj_weight_apply m c t j k) k

/-- The shared keys and values, and the next layer's queries and gates. -/
def keys (O G : Vec Ideal S16384x1024 .bf16) (X : Vec Ideal S16384x1024 .f32) (E : Vec Ideal S4x16384x256 .f32) (W : Vec Ideal S2x1024x1024 .f32)
    (V : Vec Ideal S4x1024x1024 .f32) (P : Vec Ideal S4x256x1024 .f32)  (N : Vec Ideal S1024 .f32) (Z : Vec Ideal S1024x2048 .f32) : Vec Ideal S16384x1024 .bf16 := fun i =>
  front (tokenRow O G X E W V P (i 0)) (fun j => N (ix1 j)) (fun j (k : Fin 1024) => Z (ix2 j ⟨k.val, by omega⟩)) (i 1)
def values (O G : Vec Ideal S16384x1024 .bf16) (X : Vec Ideal S16384x1024 .f32) (E : Vec Ideal S4x16384x256 .f32) (W : Vec Ideal S2x1024x1024 .f32)
    (V : Vec Ideal S4x1024x1024 .f32) (P : Vec Ideal S4x256x1024 .f32)  (N : Vec Ideal S1024 .f32) (Z : Vec Ideal S1024x2048 .f32) : Vec Ideal S16384x1024 .bf16 := fun i =>
  front (tokenRow O G X E W V P (i 0)) (fun j => N (ix1 j)) (fun j (k : Fin 1024) => Z (ix2 j ⟨1024 + k.val, by omega⟩)) (i 1)
def queries (O G : Vec Ideal S16384x1024 .bf16) (X : Vec Ideal S16384x1024 .f32) (E : Vec Ideal S4x16384x256 .f32) (W : Vec Ideal S2x1024x1024 .f32)
    (V : Vec Ideal S4x1024x1024 .f32) (P : Vec Ideal S4x256x1024 .f32)  (N : Vec Ideal S1024 .f32) (Z : Vec Ideal S2x1024x2048 .f32) : Vec Ideal S16384x1024 .bf16 := fun i =>
  scaled (front (tokenRow O G X E W V P (i 0)) (fun j => N (ix1 j)) (fun j (k : Fin 1024) => Z (ix3 0 j ⟨k.val, by omega⟩)) (i 1))
def gates (O G : Vec Ideal S16384x1024 .bf16) (X : Vec Ideal S16384x1024 .f32) (E : Vec Ideal S4x16384x256 .f32) (W : Vec Ideal S2x1024x1024 .f32)
    (V : Vec Ideal S4x1024x1024 .f32) (P : Vec Ideal S4x256x1024 .f32)  (N : Vec Ideal S1024 .f32) (Z : Vec Ideal S2x1024x2048 .f32) : Vec Ideal S16384x1024 .bf16 := fun i =>
  front (tokenRow O G X E W V P (i 0)) (fun j => N (ix1 j)) (fun j (k : Fin 1024) => Z (ix3 0 j ⟨1024 + k.val, by omega⟩)) (i 1)

/-- The rows after the run. -/
theorem final_rows (c : Dev nD) :
    (dats m 0 c).arrAt 12 cfg0.N = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 12 _ (by decide +kernel) fun t hf y => ?_
  obtain ⟨r, k, e⟩ : ∃ (r : Fin 512) (k : Fin 1024), y = ix2 r k := ⟨y 0, y 1, by blk_ext⟩
  rw [e]
  refine ((congrFun (flushed12 m c t) (ix2 r k)).trans (out_rows (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r k)).trans ?_
  refine Eq.trans ?_ (congrArg (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (emb12_apply t r k)).symm
  exact blockRow_eq m c t r k

/-- The keys after the run. -/
theorem final_keys (c : Dev nD) :
    (dats m 0 c).arrAt 13 cfg0.N = keys (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 13 _ (by decide +kernel) fun t hf y => ?_
  obtain ⟨r, k, e⟩ : ∃ (r : Fin 512) (k : Fin 1024), y = ix2 r k := ⟨y 0, y 1, by blk_ext⟩
  rw [e]
  refine ((congrFun (flushed13 m c t) (ix2 r k)).trans (out_keys (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r k)).trans ?_
  refine Eq.trans ?_ (congrArg (keys (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (emb13_apply t r k)).symm
  exact front_congr (fun j => blockRow_eq m c t r j) (fun j => kv_scale_apply m c t j) (fun j k => kv_weight_apply m c t j _) k

/-- The values after the run. -/
theorem final_values (c : Dev nD) :
    (dats m 0 c).arrAt 14 cfg0.N = values (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 14 _ (by decide +kernel) fun t hf y => ?_
  obtain ⟨r, k, e⟩ : ∃ (r : Fin 512) (k : Fin 1024), y = ix2 r k := ⟨y 0, y 1, by blk_ext⟩
  rw [e]
  refine ((congrFun (flushed14 m c t) (ix2 r k)).trans (out_values (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r k)).trans ?_
  refine Eq.trans ?_ (congrArg (values (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (emb14_apply t r k)).symm
  exact front_congr (fun j => blockRow_eq m c t r j) (fun j => kv_scale_apply m c t j) (fun j k => kv_weight_apply m c t j _) k

/-- The queries after the run. -/
theorem final_queries (c : Dev nD) :
    (dats m 0 c).arrAt 15 cfg0.N = queries (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) := by
  refine (dats m 0 c).arrAt_eq_of_covers 15 _ (by decide +kernel) fun t hf y => ?_
  obtain ⟨r, k, e⟩ : ∃ (r : Fin 512) (k : Fin 1024), y = ix2 r k := ⟨y 0, y 1, by blk_ext⟩
  rw [e]
  refine ((congrFun (flushed15 m c t) (ix2 r k)).trans (out_queries (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r k)).trans ?_
  refine Eq.trans ?_ (congrArg (queries (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10))) (emb15_apply t r k)).symm
  exact congrArg scaled (front_congr (fun j => blockRow_eq m c t r j) (fun j => scale_apply m c t j) (fun j k => query_weight_apply m c t j k) k)

/-- The gates after the run. -/
theorem final_gates (c : Dev nD) :
    (dats m 0 c).arrAt 16 cfg0.N = gates (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) := by
  refine (dats m 0 c).arrAt_eq_of_covers 16 _ (by decide +kernel) fun t hf y => ?_
  obtain ⟨r, k, e⟩ : ∃ (r : Fin 512) (k : Fin 1024), y = ix2 r k := ⟨y 0, y 1, by blk_ext⟩
  rw [e]
  refine ((congrFun (flushed16 m c t) (ix2 r k)).trans (out_gates (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r k)).trans ?_
  refine Eq.trans ?_ (congrArg (gates (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10))) (emb16_apply t r k)).symm
  exact front_congr (fun j => blockRow_eq m c t r j) (fun j => scale_apply m c t j) (fun j k => next_gate_weight_apply m c t j k) k

end

end Cert.SharedTailIdeal.Tail

end
-- ==== Proof.Tail.Scale.lean ====
/-
  The queries' factor, written as the reference writes it.
-/
module

public import proofs.«01_k».proof.Proof.Att.Ref
public import proofs.«01_k».proof.Proof.Tail.Math

@[expose] public section

noncomputable section

namespace Cert.Tail

open Idealize.ShloMosaic

theorem eighth_f32 : Ideal.ofBits .f32 0x3E000000#32 = ((8⁻¹ : ℝ) : EReal) := by
  simp only [Ideal.ofBits, Ideal.ieee]
  simp
  rw [← EReal.coe_mul]
  norm_num

theorem scaled_eq (q : EReal) : Ideal.div (q * Ideal.ofBits .f32 0x3E000000#32) (Ideal.log (Ideal.ofBits .f32 0x40000000#32)) = scaled q := by
  have hs : Real.sqrt 64 = 8 := by rw [show (64 : ℝ) = 8 * 8 by norm_num]; exact Real.sqrt_mul_self (by norm_num)
  rw [eighth_f32, Cert.AttentionRefIdeal.Att.log_two, Ideal.div_coe (Real.log_pos (by norm_num)).ne', mul_assoc, ← EReal.coe_mul, scaled, hs, one_div]

end Cert.Tail

end
-- ==== Proof.Tail.SharedRef.lean ====
/-
  The reference of the tail of the last latent-attention layer, read at a token.
-/
module

public import proofs.«01_k».proof.Proof.Tail.SharedKernel
public import proofs.«01_k».proof.Proof.Tail.Scale
public import proofs.«01_k».proof.Proof.Gen.SharedTailRefIdeal.Run

@[expose] public section

set_option maxRecDepth 16384

noncomputable section

namespace Cert.SharedTailRefIdeal.Tail

open Cert.SharedTailRefIdeal Cert.SharedTailRefIdeal.Gen Cert.SharedTailRefIdeal.Value Idealize.ShloMosaic Idealize.ShloMosaic.TcCoe Idealize.SL.Sem
open Cert.Tail

/-! The reference's stages on the token array, and each stage read at a token. -/

def sigmoids (z : FVec Ideal S16384x1024 .f32) : FVec Ideal S16384x1024 .f32 :=
  Host.divf (broadcastInDim S16384x1024 ![] bcast_S_S16384x1024 (constant S_ .f32 0x3F800000#32)) (addf (broadcastInDim S16384x1024 ![] bcast_S_S16384x1024 (constant S_ .f32 0x3F800000#32)) (Host.exp (Host.negf z)))

def gates (O G : FVec Ideal S16384x1024 .bf16) : FVec Ideal S16384x1024 .f32 :=
  mulf (extf .f32 O bitsLt_bf16_f32) (mulf (extf .f32 G bitsLt_bf16_f32) (sigmoids (extf .f32 G bitsLt_bf16_f32)))

def outWeight (W : FVec Ideal S2x1024x1024 .f32) : FVec Ideal S1024x1024 .f32 :=
  shapeCast S1024x1024 (extractStridedSlice S1x1024x1024 ![1, 0, 0] W slices_S2x1024x1024_S1x1024x1024_1_0_0) shapeCasts_S1x1024x1024_S1024x1024

def gateWeight (V : FVec Ideal S4x1024x1024 .f32) : FVec Ideal S1024x1024 .f32 :=
  shapeCast S1024x1024 (extractStridedSlice S1x1024x1024 ![1, 0, 0] V slices_S4x1024x1024_S1x1024x1024_1_0_0) shapeCasts_S1x1024x1024_S1024x1024

def product (y : FVec Ideal S16384x1024 .f32) (W : FVec Ideal S1024x1024 .f32) : FVec Ideal S16384x1024 .f32 :=
  Host.dotGeneral dot_S16384x1024_S1024x1024_S16384x1024_1_0_0_1_n_n none y W

def embedded (E : FVec Ideal S4x16384x256 .f32) (P : FVec Ideal S4x256x1024 .f32) : FVec Ideal S16384x1024 .f32 :=
  Host.dotGeneral dot_S16384x256_S256x1024_S16384x1024_1_0_0_1_n_n none (shapeCast S16384x256 (extractStridedSlice S1x16384x256 ![1, 0, 0] E slices_S4x16384x256_S1x16384x256_1_0_0) shapeCasts_S1x16384x256_S16384x256)
    (shapeCast S256x1024 (extractStridedSlice S1x256x1024 ![1, 0, 0] P slices_S4x256x1024_S1x256x1024_1_0_0) shapeCasts_S1x256x1024_S256x1024)

def mids (O G : FVec Ideal S16384x1024 .bf16) (X : FVec Ideal S16384x1024 .f32) (W : FVec Ideal S2x1024x1024 .f32) : FVec Ideal S16384x1024 .f32 :=
  addf X (product (gates O G) (outWeight W))

def afters (y e z : FVec Ideal S16384x1024 .f32) : FVec Ideal S16384x1024 .f32 := addf y (mulf (sigmoids z) e)

def rows (O G : FVec Ideal S16384x1024 .bf16) (X : FVec Ideal S16384x1024 .f32) (E : FVec Ideal S4x16384x256 .f32) (W : FVec Ideal S2x1024x1024 .f32)
    (V : FVec Ideal S4x1024x1024 .f32) (P : FVec Ideal S4x256x1024 .f32) : FVec Ideal S16384x1024 .f32 :=
  afters (mids O G X W) (embedded E P) (product (mids O G X W) (gateWeight V))

theorem sigmoids_apply (z : FVec Ideal S16384x1024 .f32) (i : Fin 16384) (j : Fin 1024) : sigmoids z (ix2 i j) = sigmoid (z (ix2 i j)) := by
  pointwise [sigmoids]
  rfl

theorem gates_apply (O G : FVec Ideal S16384x1024 .bf16) (i : Fin 16384) (j : Fin 1024) : gates O G (ix2 i j) = gated (O (ix2 i j)) (G (ix2 i j)) := by
  exact congrArg (fun s : EReal => (O (ix2 i j) : EReal) * ((G (ix2 i j) : EReal) * s)) (sigmoids_apply (extf .f32 G bitsLt_bf16_f32) i j)

theorem outWeight_apply (W : FVec Ideal S2x1024x1024 .f32) (j k : Fin 1024) : outWeight W (ix2 j k) = W (ix3 1 j k) := by
  pointwise [outWeight]

theorem gateWeight_apply (V : FVec Ideal S4x1024x1024 .f32) (j k : Fin 1024) : gateWeight V (ix2 j k) = V (ix3 1 j k) := by
  pointwise [gateWeight]

theorem product_apply (y : FVec Ideal S16384x1024 .f32) (W : FVec Ideal S1024x1024 .f32) (i : Fin 16384) (k : Fin 1024) :
    product y W (ix2 i k) = (∑ j : Fin 1024, y (ix2 i j) * W (ix2 j k) : EReal) := by
  pointwise [product]

theorem embedded_apply (E : FVec Ideal S4x16384x256 .f32) (P : FVec Ideal S4x256x1024 .f32) (i : Fin 16384) (k : Fin 1024) :
    embedded E P (ix2 i k) = (∑ j : Fin 256, E (ix3 1 i j) * P (ix3 1 j k) : EReal) := by
  pointwise [embedded]

theorem mids_apply (O G : FVec Ideal S16384x1024 .bf16) (X : FVec Ideal S16384x1024 .f32) (W : FVec Ideal S2x1024x1024 .f32) (i : Fin 16384) (k : Fin 1024) :
    mids O G X W (ix2 i k) = mid (fun j => O (ix2 i j)) (fun j => G (ix2 i j)) (fun j => X (ix2 i j)) (fun j k => W (ix3 1 j k)) k := by
  refine congrArg (fun s : EReal => (X (ix2 i k) : EReal) + s) ?_
  rw [product_apply]
  simp only [gates_apply, outWeight_apply]

theorem afters_apply (y e z : FVec Ideal S16384x1024 .f32) (i : Fin 16384) (k : Fin 1024) :
    afters y e z (ix2 i k) = (y (ix2 i k) + sigmoid (z (ix2 i k)) * e (ix2 i k) : EReal) := by
  exact congrArg (fun s : EReal => (y (ix2 i k) : EReal) + s * e (ix2 i k)) (sigmoids_apply z i k)

theorem rows_apply (O G : FVec Ideal S16384x1024 .bf16) (X : FVec Ideal S16384x1024 .f32) (E : FVec Ideal S4x16384x256 .f32) (W : FVec Ideal S2x1024x1024 .f32)
    (V : FVec Ideal S4x1024x1024 .f32) (P : FVec Ideal S4x256x1024 .f32) (i : Fin 16384) (k : Fin 1024) :
    rows O G X E W V P (ix2 i k) = after (fun j => O (ix2 i j)) (fun j => G (ix2 i j)) (fun j => X (ix2 i j)) (fun j => E (ix3 1 i j))
      (fun j k => W (ix3 1 j k)) (fun j k => V (ix3 1 j k)) (fun j k => P (ix3 1 j k)) k := by
  unfold rows
  rw [afters_apply, product_apply, embedded_apply]
  simp only [mids_apply, gateWeight_apply]
  rfl

def norms (Y : FVec Ideal S16384x1024 .f32) (N : FVec Ideal S1024 .f32) : FVec Ideal S16384x1024 .f32 :=
  mulf (mulf Y (broadcastInDim S16384x1024 ![0, 1] bcast_S16384x1_S16384x1024_0_1 (Host.rsqrt (addf (Host.divf (broadcastInDim S16384x1 ![0] bcast_S16384_S16384x1_0 (Host.reduceAdd (mulf Y Y) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 N))

def wide (Y : FVec Ideal S16384x1024 .f32) (Z : FVec Ideal S1024x2048 .f32) : FVec Ideal S16384x2048 .f32 :=
  Host.dotGeneral dot_S16384x1024_S1024x2048_S16384x2048_1_0_0_1_n_n none Y Z

def nextWeight (Z : FVec Ideal S2x1024x2048 .f32) : FVec Ideal S1024x2048 .f32 :=
  shapeCast S1024x2048 (extractStridedSlice S1x1024x2048 ![0, 0, 0] Z slices_S2x1024x2048_S1x1024x2048_0_0_0) shapeCasts_S1x1024x2048_S1024x2048

def leftHalf (Q : FVec Ideal S16384x2048 .f32) : FVec Ideal S16384x1024 .f32 := extractStridedSlice S16384x1024 ![0, 0] Q slices_S16384x2048_S16384x1024_0_0

def rightHalf (Q : FVec Ideal S16384x2048 .f32) : FVec Ideal S16384x1024 .f32 := extractStridedSlice S16384x1024 ![0, 1024] Q slices_S16384x2048_S16384x1024_0_1024

def scales (Q : FVec Ideal S16384x1024 .f32) : FVec Ideal S16384x1024 .f32 :=
  Host.divf (mulf Q (broadcastInDim S16384x1024 ![] bcast_S_S16384x1024 (constant S_ .f32 0x3E000000#32))) (broadcastInDim S16384x1024 ![] bcast_S_S16384x1024 (Host.log (constant S_ .f32 0x40000000#32)))

theorem norms_apply (Y : FVec Ideal S16384x1024 .f32) (N : FVec Ideal S1024 .f32) (i : Fin 16384) (k : Fin 1024) :
    norms Y N (ix2 i k) = normed (fun j => Y (ix2 i j)) (fun j => N (ix1 j)) k := by
  pointwise [norms]
  rfl

theorem wide_apply (Y : FVec Ideal S16384x1024 .f32) (Z : FVec Ideal S1024x2048 .f32) (i : Fin 16384) (k : Fin 2048) :
    wide Y Z (ix2 i k) = (∑ j : Fin 1024, Y (ix2 i j) * Z (ix2 j k) : EReal) := by
  pointwise [wide]

theorem nextWeight_apply (Z : FVec Ideal S2x1024x2048 .f32) (j : Fin 1024) (k : Fin 2048) : nextWeight Z (ix2 j k) = Z (ix3 0 j k) := by
  pointwise [nextWeight]

theorem leftHalf_apply (Q : FVec Ideal S16384x2048 .f32) (i : Fin 16384) (k : Fin 1024) : leftHalf Q (ix2 i k) = Q (ix2 i ⟨k.val, by omega⟩) := by
  pointwise [leftHalf]

theorem rightHalf_apply (Q : FVec Ideal S16384x2048 .f32) (i : Fin 16384) (k : Fin 1024) : rightHalf Q (ix2 i k) = Q (ix2 i ⟨1024 + k.val, by omega⟩) := by
  pointwise [rightHalf]

theorem scales_apply (Q : FVec Ideal S16384x1024 .f32) (i : Fin 16384) (k : Fin 1024) : scales Q (ix2 i k) = scaled (Q (ix2 i k)) := by
  refine Eq.trans ?_ (scaled_eq (Q (ix2 i k)))
  pointwise [scales]

theorem front_apply (Y : FVec Ideal S16384x1024 .f32) (N : FVec Ideal S1024 .f32) (Z : FVec Ideal S1024x2048 .f32) (i : Fin 16384) (k : Fin 2048) :
    wide (norms Y N) Z (ix2 i k) = front (fun j => Y (ix2 i j)) (fun j => N (ix1 j)) (fun j k => Z (ix2 j k)) k := by
  rw [wide_apply]
  simp only [norms_apply]
  rfl

theorem rows_eq (O G : FVec Ideal S16384x1024 .bf16) (X : FVec Ideal S16384x1024 .f32) (E : FVec Ideal S4x16384x256 .f32) (W : FVec Ideal S2x1024x1024 .f32)
    (V : FVec Ideal S4x1024x1024 .f32) (P : FVec Ideal S4x256x1024 .f32) : rows O G X E W V P = SharedTailIdeal.Tail.result O G X E W V P := by
  funext i
  exact (congrArg (rows O G X E W V P) (eq_ix2 i)).trans (rows_apply O G X E W V P (i 0) (i 1))

theorem keys_eq (O G : FVec Ideal S16384x1024 .bf16) (X : FVec Ideal S16384x1024 .f32) (E : FVec Ideal S4x16384x256 .f32) (W : FVec Ideal S2x1024x1024 .f32)
    (V : FVec Ideal S4x1024x1024 .f32) (P : FVec Ideal S4x256x1024 .f32)
    (N : FVec Ideal S1024 .f32) (Z : FVec Ideal S1024x2048 .f32) :
    truncf .bf16 (leftHalf (wide (norms (rows O G X E W V P) N) Z)) bitsLt_bf16_f32 = SharedTailIdeal.Tail.keys O G X E W V P N Z := by
  funext i
  obtain ⟨r, k, e⟩ : ∃ (r : Fin 16384) (k : Fin 1024), i = ix2 r k := ⟨i 0, i 1, eq_ix2 i⟩
  rw [e]
  exact (leftHalf_apply (wide (norms (rows O G X E W V P) N) (Z)) r k).trans ((front_apply (rows O G X E W V P) N (Z) r ⟨k.val, by omega⟩).trans
    (front_congr (Z := fun j (_ : Fin 1) => Z (ix2 j ⟨k.val, by omega⟩)) (fun j => rows_apply O G X E W V P r j) (fun j => rfl) (fun j k => rfl) 0))

theorem values_eq (O G : FVec Ideal S16384x1024 .bf16) (X : FVec Ideal S16384x1024 .f32) (E : FVec Ideal S4x16384x256 .f32) (W : FVec Ideal S2x1024x1024 .f32)
    (V : FVec Ideal S4x1024x1024 .f32) (P : FVec Ideal S4x256x1024 .f32)
    (N : FVec Ideal S1024 .f32) (Z : FVec Ideal S1024x2048 .f32) :
    truncf .bf16 (rightHalf (wide (norms (rows O G X E W V P) N) Z)) bitsLt_bf16_f32 = SharedTailIdeal.Tail.values O G X E W V P N Z := by
  funext i
  obtain ⟨r, k, e⟩ : ∃ (r : Fin 16384) (k : Fin 1024), i = ix2 r k := ⟨i 0, i 1, eq_ix2 i⟩
  rw [e]
  exact (rightHalf_apply (wide (norms (rows O G X E W V P) N) (Z)) r k).trans ((front_apply (rows O G X E W V P) N (Z) r ⟨1024 + k.val, by omega⟩).trans
    (front_congr (Z := fun j (_ : Fin 1) => Z (ix2 j ⟨1024 + k.val, by omega⟩)) (fun j => rows_apply O G X E W V P r j) (fun j => rfl) (fun j k => rfl) 0))

theorem queries_eq (O G : FVec Ideal S16384x1024 .bf16) (X : FVec Ideal S16384x1024 .f32) (E : FVec Ideal S4x16384x256 .f32) (W : FVec Ideal S2x1024x1024 .f32)
    (V : FVec Ideal S4x1024x1024 .f32) (P : FVec Ideal S4x256x1024 .f32)
    (N : FVec Ideal S1024 .f32) (Z : FVec Ideal S2x1024x2048 .f32) :
    truncf .bf16 (scales (leftHalf (wide (norms (rows O G X E W V P) N) (nextWeight Z)))) bitsLt_bf16_f32 = SharedTailIdeal.Tail.queries O G X E W V P N Z := by
  funext i
  obtain ⟨r, k, e⟩ : ∃ (r : Fin 16384) (k : Fin 1024), i = ix2 r k := ⟨i 0, i 1, eq_ix2 i⟩
  rw [e]
  exact (scales_apply (leftHalf (wide (norms (rows O G X E W V P) N) (nextWeight Z))) r k).trans (congrArg scaled ((leftHalf_apply (wide (norms (rows O G X E W V P) N) (nextWeight Z)) r k).trans ((front_apply (rows O G X E W V P) N (nextWeight Z) r ⟨k.val, by omega⟩).trans
    (front_congr (Z := fun j (_ : Fin 1) => nextWeight Z (ix2 j ⟨k.val, by omega⟩)) (fun j => rows_apply O G X E W V P r j) (fun j => rfl) (fun j k => nextWeight_apply Z j _) 0))))

theorem gates_eq (O G : FVec Ideal S16384x1024 .bf16) (X : FVec Ideal S16384x1024 .f32) (E : FVec Ideal S4x16384x256 .f32) (W : FVec Ideal S2x1024x1024 .f32)
    (V : FVec Ideal S4x1024x1024 .f32) (P : FVec Ideal S4x256x1024 .f32)
    (N : FVec Ideal S1024 .f32) (Z : FVec Ideal S2x1024x2048 .f32) :
    truncf .bf16 (rightHalf (wide (norms (rows O G X E W V P) N) (nextWeight Z))) bitsLt_bf16_f32 = SharedTailIdeal.Tail.gates O G X E W V P N Z := by
  funext i
  obtain ⟨r, k, e⟩ : ∃ (r : Fin 16384) (k : Fin 1024), i = ix2 r k := ⟨i 0, i 1, eq_ix2 i⟩
  rw [e]
  exact (rightHalf_apply (wide (norms (rows O G X E W V P) N) (nextWeight Z)) r k).trans ((front_apply (rows O G X E W V P) N (nextWeight Z) r ⟨1024 + k.val, by omega⟩).trans
    (front_congr (Z := fun j (_ : Fin 1) => nextWeight Z (ix2 j ⟨1024 + k.val, by omega⟩)) (fun j => rows_apply O G X E W V P r j) (fun j => rfl) (fun j k => nextWeight_apply Z j _) 0))

end Cert.SharedTailRefIdeal.Tail

end
-- ==== Proof.Tail.SharedClaims.lean ====
/-
  The claims about the tail that writes the shared keys and values.
-/
module

public import proofs.«01_k».proof.Defs
public import proofs.«01_k».proof.Proof.Gen.SharedTail.Frame
public import proofs.«01_k».proof.Proof.Tail.SharedRef

@[expose] public section

set_option maxRecDepth 16384

noncomputable section

namespace Cert.Proof.SharedTailClaims

open Idealize.ShloMosaic Idealize.ShloMosaic.TcCoe Idealize.SL.Sem Cert.SharedTailIdeal.Tail

theorem frame_p : Cert.quiescent_SharedTail := fun m ρ _ => Cert.SharedTail.Gen.frame m ρ
theorem frame_pi : Cert.quiescent_SharedTailIdeal := fun m ρ _ => Cert.SharedTailIdeal.Gen.frame m ρ
theorem frame_ri : Cert.quiescent_SharedTailRefIdeal := fun m ρ _ =>
  (θ_run Cert.SharedTailRefIdeal.defs _ _).mono (fun r h => ⟨fun c => (h c).2.2.2.2.2, sem_eq_zero_of_no_sems (by decide) r.2⟩)
    (Cert.SharedTailRefIdeal.Value.run (F := Ideal) m ρ)

/-- The queries' factor is its named real. -/
theorem preserves : Cert.preserves_SharedTail_SharedTailIdeal :=
  IdealRules.named_const.statement Cert.SharedTailIdeal.κ "query_factor" .f32 0x3E38AA3B#32 (((Real.sqrt 64)⁻¹ * (Real.log 2)⁻¹ : ℝ) : EReal) rfl

/-- Both runs end at the same arrays. -/
theorem algebraic : Cert.algebraic_SharedTailIdeal_SharedTailRefIdeal := by
  intro m ρ m' ρ' _ hagree
  refine ⟨fun c => result (m ((c.tc : Thread SharedTailIdeal.nD SharedTailIdeal.τ).loc SharedTailIdeal.main_arg0)) (m ((c.tc : Thread SharedTailIdeal.nD SharedTailIdeal.τ).loc SharedTailIdeal.main_arg1)) (m ((c.tc : Thread SharedTailIdeal.nD SharedTailIdeal.τ).loc SharedTailIdeal.main_arg2))
      (m ((c.tc : Thread SharedTailIdeal.nD SharedTailIdeal.τ).loc SharedTailIdeal.main_arg3)) (m ((c.tc : Thread SharedTailIdeal.nD SharedTailIdeal.τ).loc SharedTailIdeal.main_arg4)) (m ((c.tc : Thread SharedTailIdeal.nD SharedTailIdeal.τ).loc SharedTailIdeal.main_arg5))
      (m ((c.tc : Thread SharedTailIdeal.nD SharedTailIdeal.τ).loc SharedTailIdeal.main_arg6)),
    fun c => keys (m ((c.tc : Thread SharedTailIdeal.nD SharedTailIdeal.τ).loc SharedTailIdeal.main_arg0)) (m ((c.tc : Thread SharedTailIdeal.nD SharedTailIdeal.τ).loc SharedTailIdeal.main_arg1)) (m ((c.tc : Thread SharedTailIdeal.nD SharedTailIdeal.τ).loc SharedTailIdeal.main_arg2))
      (m ((c.tc : Thread SharedTailIdeal.nD SharedTailIdeal.τ).loc SharedTailIdeal.main_arg3)) (m ((c.tc : Thread SharedTailIdeal.nD SharedTailIdeal.τ).loc SharedTailIdeal.main_arg4)) (m ((c.tc : Thread SharedTailIdeal.nD SharedTailIdeal.τ).loc SharedTailIdeal.main_arg5))
      (m ((c.tc : Thread SharedTailIdeal.nD SharedTailIdeal.τ).loc SharedTailIdeal.main_arg6)) (m ((c.tc : Thread SharedTailIdeal.nD SharedTailIdeal.τ).loc SharedTailIdeal.main_arg7)) (m ((c.tc : Thread SharedTailIdeal.nD SharedTailIdeal.τ).loc SharedTailIdeal.main_arg8)),
    fun c => values (m ((c.tc : Thread SharedTailIdeal.nD SharedTailIdeal.τ).loc SharedTailIdeal.main_arg0)) (m ((c.tc : Thread SharedTailIdeal.nD SharedTailIdeal.τ).loc SharedTailIdeal.main_arg1)) (m ((c.tc : Thread SharedTailIdeal.nD SharedTailIdeal.τ).loc SharedTailIdeal.main_arg2))
      (m ((c.tc : Thread SharedTailIdeal.nD SharedTailIdeal.τ).loc SharedTailIdeal.main_arg3)) (m ((c.tc : Thread SharedTailIdeal.nD SharedTailIdeal.τ).loc SharedTailIdeal.main_arg4)) (m ((c.tc : Thread SharedTailIdeal.nD SharedTailIdeal.τ).loc SharedTailIdeal.main_arg5))
      (m ((c.tc : Thread SharedTailIdeal.nD SharedTailIdeal.τ).loc SharedTailIdeal.main_arg6)) (m ((c.tc : Thread SharedTailIdeal.nD SharedTailIdeal.τ).loc SharedTailIdeal.main_arg7)) (m ((c.tc : Thread SharedTailIdeal.nD SharedTailIdeal.τ).loc SharedTailIdeal.main_arg8)),
    fun c => queries (m ((c.tc : Thread SharedTailIdeal.nD SharedTailIdeal.τ).loc SharedTailIdeal.main_arg0)) (m ((c.tc : Thread SharedTailIdeal.nD SharedTailIdeal.τ).loc SharedTailIdeal.main_arg1)) (m ((c.tc : Thread SharedTailIdeal.nD SharedTailIdeal.τ).loc SharedTailIdeal.main_arg2))
      (m ((c.tc : Thread SharedTailIdeal.nD SharedTailIdeal.τ).loc SharedTailIdeal.main_arg3)) (m ((c.tc : Thread SharedTailIdeal.nD SharedTailIdeal.τ).loc SharedTailIdeal.main_arg4)) (m ((c.tc : Thread SharedTailIdeal.nD SharedTailIdeal.τ).loc SharedTailIdeal.main_arg5))
      (m ((c.tc : Thread SharedTailIdeal.nD SharedTailIdeal.τ).loc SharedTailIdeal.main_arg6)) (m ((c.tc : Thread SharedTailIdeal.nD SharedTailIdeal.τ).loc SharedTailIdeal.main_arg9)) (m ((c.tc : Thread SharedTailIdeal.nD SharedTailIdeal.τ).loc SharedTailIdeal.main_arg10)),
    fun c => gates (m ((c.tc : Thread SharedTailIdeal.nD SharedTailIdeal.τ).loc SharedTailIdeal.main_arg0)) (m ((c.tc : Thread SharedTailIdeal.nD SharedTailIdeal.τ).loc SharedTailIdeal.main_arg1)) (m ((c.tc : Thread SharedTailIdeal.nD SharedTailIdeal.τ).loc SharedTailIdeal.main_arg2))
      (m ((c.tc : Thread SharedTailIdeal.nD SharedTailIdeal.τ).loc SharedTailIdeal.main_arg3)) (m ((c.tc : Thread SharedTailIdeal.nD SharedTailIdeal.τ).loc SharedTailIdeal.main_arg4)) (m ((c.tc : Thread SharedTailIdeal.nD SharedTailIdeal.τ).loc SharedTailIdeal.main_arg5))
      (m ((c.tc : Thread SharedTailIdeal.nD SharedTailIdeal.τ).loc SharedTailIdeal.main_arg6)) (m ((c.tc : Thread SharedTailIdeal.nD SharedTailIdeal.τ).loc SharedTailIdeal.main_arg9)) (m ((c.tc : Thread SharedTailIdeal.nD SharedTailIdeal.τ).loc SharedTailIdeal.main_arg10)), ?_, ?_⟩
  · exact (θ_run Cert.SharedTailIdeal.defs _ _).mono (fun _ h c => ⟨(h c).1.trans (final_rows m c), (h c).2.1.trans (final_keys m c), (h c).2.2.1.trans (final_values m c), (h c).2.2.2.1.trans (final_queries m c), (h c).2.2.2.2.1.trans (final_gates m c), (h c).2.2.2.2.2⟩) (Cert.SharedTailIdeal.Value.run_blocks m ρ)
  · refine (θ_run Cert.SharedTailRefIdeal.defs _ _).mono (fun _ h c => ⟨(h c).1.trans ?_, (h c).2.1.trans ?_, (h c).2.2.1.trans ?_, (h c).2.2.2.1.trans ?_, (h c).2.2.2.2.1.trans ?_, (h c).2.2.2.2.2⟩) (Cert.SharedTailRefIdeal.Value.run (F := Ideal) m' ρ')
    all_goals obtain ⟨h0, h1, h2, h3, h4, h5, h6, h7, h8, h9, h10⟩ := hagree c
    · refine (Cert.SharedTailRefIdeal.Tail.rows_eq _ _ _ _ _ _ _).trans ?_
      rw [h0, h1, h2, h3, h4, h5, h6]
    · refine (Cert.SharedTailRefIdeal.Tail.keys_eq _ _ _ _ _ _ _ _ _).trans ?_
      rw [h0, h1, h2, h3, h4, h5, h6, h7, h8]
    · refine (Cert.SharedTailRefIdeal.Tail.values_eq _ _ _ _ _ _ _ _ _).trans ?_
      rw [h0, h1, h2, h3, h4, h5, h6, h7, h8]
    · refine (Cert.SharedTailRefIdeal.Tail.queries_eq _ _ _ _ _ _ _ _ _).trans ?_
      rw [h0, h1, h2, h3, h4, h5, h6, h9, h10]
    · refine (Cert.SharedTailRefIdeal.Tail.gates_eq _ _ _ _ _ _ _ _ _).trans ?_
      rw [h0, h1, h2, h3, h4, h5, h6, h9, h10]

end Cert.Proof.SharedTailClaims

end
-- ==== Proof.Tail.NextKernel.lean ====
/-
  The tail of a layer that another of its kind follows: each token's row after the tail, and the next layer's query and gate.
-/
module

public import proofs.«01_k».proof.Proof.Tail.Math
public import proofs.«01_k».proof.Proof.Gen.NextTailIdeal.Value

@[expose] public section

set_option maxRecDepth 16384

noncomputable section

namespace Cert.NextTailIdeal.Tail

open Cert.NextTailIdeal Cert.NextTailIdeal.Gen Cert.NextTailIdeal.Value Idealize.ShloMosaic Idealize.ShloMosaic.TcCoe Idealize.SL.Sem
open Cert.Tail

theorem gated_apply (g o : Vec Ideal S256x1024 .bf16) (r : Fin 256) (j : Fin 1024) :
    k0_pay5 g o (ix2 r j) = gated (o (ix2 r j)) (g (ix2 r j)) := by
  pointwise [k0_pay5]
  simp only [Ideal.ofBits_one_f32, Ideal.ofBits_zero_f32, zero_sub]
  rfl

theorem emb_dot_apply (p : Vec Ideal S1x256x256 .f32) (P : Vec Ideal S1x256x1024 .bf16) (r : Fin 256) (k : Fin 1024) :
    k0_pay7 p P (ix2 r k) = (∑ j : Fin 256, p (ix3 0 r j) * P (ix3 0 j k) : EReal) := by
  pointwise [k0_pay7]

theorem mid_apply (u : FVec Ideal S256x1024 .bf16) (x : Vec Ideal S256x1024 .f32) (W : Vec Ideal S1x1024x1024 .bf16) (r : Fin 256) (k : Fin 1024) :
    k0_pay9 u x W (ix2 r k) = (x (ix2 r k) + ∑ j : Fin 1024, u (ix2 r j) * W (ix3 0 j k) : EReal) := by
  pointwise [k0_pay9]

theorem logit_apply (u : FVec Ideal S256x1024 .bf16) (x : Vec Ideal S256x1024 .f32) (W V : Vec Ideal S1x1024x1024 .bf16) (r : Fin 256) (k : Fin 1024) :
    k0_pay10 u x W V (ix2 r k) = (∑ j : Fin 1024, k0_pay9 u x W (ix2 r j) * V (ix3 0 j k) : EReal) := by
  obtain ⟨y, ey⟩ : ∃ y, y = k0_pay9 u x W := ⟨_, rfl⟩
  unfold k0_pay10
  rw [← ey]
  clear ey
  pointwise

theorem after_apply (e y g : FVec Ideal S256x1024 .f32) (r : Fin 256) (k : Fin 1024) :
    k0_pay12 e y g (Scalar.ofBits .f32 0x00000000#32) (ix2 r k) = (y (ix2 r k) + sigmoid (g (ix2 r k)) * e (ix2 r k) : EReal) := by
  pointwise [k0_pay12]
  simp only [Ideal.ofBits_one_f32, Ideal.ofBits_zero_f32, zero_sub]
  rfl

/-- A group's rows after the tail. -/
def rows (o g : Vec Ideal S256x1024 .bf16) (x : Vec Ideal S256x1024 .f32) (p : Vec Ideal S1x256x256 .f32) (W V : Vec Ideal S1x1024x1024 .bf16)
    (P : Vec Ideal S1x256x1024 .bf16) : FVec Ideal S256x1024 .f32 :=
  k0_pay12 (k0_pay7 p P) (k0_pay9 (k0_pay5 g o) x W) (k0_pay10 (k0_pay5 g o) x W V) (Scalar.ofBits .f32 0x00000000#32)

theorem rows_apply (o g : Vec Ideal S256x1024 .bf16) (x : Vec Ideal S256x1024 .f32) (p : Vec Ideal S1x256x256 .f32) (W V : Vec Ideal S1x1024x1024 .bf16)
    (P : Vec Ideal S1x256x1024 .bf16) (r : Fin 256) (k : Fin 1024) :
    rows o g x p W V P (ix2 r k)
      = after (fun j => o (ix2 r j)) (fun j => g (ix2 r j)) (fun j => x (ix2 r j)) (fun j => p (ix3 0 r j))
          (fun j k => W (ix3 0 j k)) (fun j k => V (ix3 0 j k)) (fun j k => P (ix3 0 j k)) k := by
  unfold rows
  rw [after_apply, emb_dot_apply, logit_apply]
  simp only [mid_apply, gated_apply]
  rfl

theorem ld_first {e : EltTy} (x : Vec Ideal S512x1024 e) (r : Fin 256) (j : Fin 1024) : View.ld x r0_0 (ix2 r j) = x (ix2 ⟨r.val, by omega⟩ j) :=
  ld_rows _ x r _ (by show r.val = 0 + r.val; omega) j
theorem ld_second {e : EltTy} (x : Vec Ideal S512x1024 e) (r : Fin 256) (j : Fin 1024) : View.ld x r0_1 (ix2 r j) = x (ix2 ⟨256 + r.val, by omega⟩ j) :=
  ld_rows _ x r _ rfl j
theorem ld_first_emb (x : Vec Ideal S1x512x256 .f32) (r : Fin 256) (j : Fin 256) : View.ld x r0_2 (ix3 0 r j) = x (ix3 0 ⟨r.val, by omega⟩ j) :=
  ld_rows3 _ x r _ (by show r.val = 0 + r.val; omega) j
theorem ld_second_emb (x : Vec Ideal S1x512x256 .f32) (r : Fin 256) (j : Fin 256) : View.ld x r0_4 (ix3 0 r j) = x (ix3 0 ⟨256 + r.val, by omega⟩ j) :=
  ld_rows3 _ x r _ rfl j
theorem ld_square (x : Vec Ideal S1x1024x1024 .bf16) (j k : Fin 1024) : View.ld x r0_5 (ix3 0 j k) = x (ix3 0 j k) :=
  ld_rows3 _ x j _ (by omega) k
theorem ld_proj (x : Vec Ideal S1x256x1024 .bf16) (j : Fin 256) (k : Fin 1024) : View.ld x r0_3 (ix3 0 j k) = x (ix3 0 j k) :=
  ld_rows3 _ x j _ (by omega) k
theorem ld_scale (x : Vec Ideal S1x1024 .f32) (k : Fin 1024) : View.ld x r0_6 (ix2 0 k) = x (ix2 0 k) :=
  ld_rows _ x 0 _ rfl k

theorem normed_apply (y : FVec Ideal S256x1024 .f32) (n : Vec Ideal S1x1024 .f32) (r : Fin 256) (k : Fin 1024) :
    k0_pay13 y n (ix2 r k) = normed (fun j => y (ix2 r j)) (fun j => n (ix2 0 j)) k := by
  pointwise [k0_pay13]
  rfl

theorem gate_dot_apply (h : FVec Ideal S256x1024 .bf16) (Z : Vec Ideal S1x1024x1024 .bf16) (r : Fin 256) (k : Fin 1024) :
    k0_pay2 h Z (ix2 r k) = (∑ j : Fin 1024, h (ix2 r j) * Z (ix3 0 j k) : EReal) := by
  pointwise [k0_pay2]

theorem query_factor : Named.named (F := Ideal) κ "query_factor" (φ := .f32) 0x3E38AA3B#32 = (((Real.sqrt 64)⁻¹ * (Real.log 2)⁻¹ : ℝ) : EReal) :=
  IdealRules.named_const.ideal_named_scalar _ _ _ _ rfl

theorem query_dot_apply (h : FVec Ideal S256x1024 .bf16) (Z : Vec Ideal S1x1024x1024 .bf16) (r : Fin 256) (k : Fin 1024) :
    k0_pay3 h Z (ix2 r k) = scaled (∑ j : Fin 1024, h (ix2 r j) * Z (ix3 0 j k) : EReal) := by
  pointwise [k0_pay3]
  rw [query_factor]
  rfl

theorem gates_apply (y : FVec Ideal S256x1024 .f32) (n : Vec Ideal S1x1024 .f32) (Z : Vec Ideal S1x1024x1024 .bf16) (r : Fin 256) (k : Fin 1024) :
    k0_pay2 (k0_pay13 y n) Z (ix2 r k) = front (fun j => y (ix2 r j)) (fun j => n (ix2 0 j)) (fun j k => Z (ix3 0 j k)) k := by
  rw [gate_dot_apply]
  simp only [normed_apply]
  rfl

theorem queries_apply (y : FVec Ideal S256x1024 .f32) (n : Vec Ideal S1x1024 .f32) (Z : Vec Ideal S1x1024x1024 .bf16) (r : Fin 256) (k : Fin 1024) :
    k0_pay3 (k0_pay13 y n) Z (ix2 r k) = scaled (front (fun j => y (ix2 r j)) (fun j => n (ix2 0 j)) (fun j k => Z (ix3 0 j k)) k) := by
  rw [query_dot_apply]
  simp only [normed_apply]
  rfl

/-- A block's row after the tail. -/
abbrev blockRow (x0 x1 : Vec Ideal S512x1024 .bf16) (x2 : Vec Ideal S512x1024 .f32) (x3 : Vec Ideal S1x512x256 .f32) (x4 x5 : Vec Ideal S1x1024x1024 .bf16)
    (x6 : Vec Ideal S1x256x1024 .bf16) (r : Fin 512) : Fin 1024 → EReal :=
  after (fun j => x0 (ix2 r j)) (fun j => x1 (ix2 r j)) (fun j => x2 (ix2 r j)) (fun j => x3 (ix3 0 r j))
    (fun j k => x4 (ix3 0 j k)) (fun j k => x5 (ix3 0 j k)) (fun j k => x6 (ix3 0 j k))

theorem first_rows (x0 x1 : Vec Ideal S512x1024 .bf16) (x2 : Vec Ideal S512x1024 .f32) (x3 : Vec Ideal S1x512x256 .f32) (x4 x5 : Vec Ideal S1x1024x1024 .bf16)
    (x6 : Vec Ideal S1x256x1024 .bf16) (r : Fin 256) (k : Fin 1024) :
    rows (View.ld x0 r0_0) (View.ld x1 r0_0) (View.ld x2 r0_0) (View.ld x3 r0_2) (View.ld x4 r0_5) (View.ld x5 r0_5) (View.ld x6 r0_3) (ix2 r k)
      = blockRow x0 x1 x2 x3 x4 x5 x6 ⟨r.val, by omega⟩ k :=
  (rows_apply (View.ld x0 r0_0) (View.ld x1 r0_0) (View.ld x2 r0_0) (View.ld x3 r0_2) (View.ld x4 r0_5) (View.ld x5 r0_5) (View.ld x6 r0_3) r k).trans
    (after_congr (fun j => ld_first x0 r j) (fun j => ld_first x1 r j) (fun j => ld_first x2 r j) (fun j => ld_first_emb x3 r j)
      (fun j k => ld_square x4 j k) (fun j k => ld_square x5 j k) (fun j k => ld_proj x6 j k) k)

theorem second_rows (x0 x1 : Vec Ideal S512x1024 .bf16) (x2 : Vec Ideal S512x1024 .f32) (x3 : Vec Ideal S1x512x256 .f32) (x4 x5 : Vec Ideal S1x1024x1024 .bf16)
    (x6 : Vec Ideal S1x256x1024 .bf16) (r : Fin 256) (k : Fin 1024) :
    rows (View.ld x0 r0_1) (View.ld x1 r0_1) (View.ld x2 r0_1) (View.ld x3 r0_4) (View.ld x4 r0_5) (View.ld x5 r0_5) (View.ld x6 r0_3) (ix2 r k)
      = blockRow x0 x1 x2 x3 x4 x5 x6 ⟨256 + r.val, by omega⟩ k :=
  (rows_apply (View.ld x0 r0_1) (View.ld x1 r0_1) (View.ld x2 r0_1) (View.ld x3 r0_4) (View.ld x4 r0_5) (View.ld x5 r0_5) (View.ld x6 r0_3) r k).trans
    (after_congr (fun j => ld_second x0 r j) (fun j => ld_second x1 r j) (fun j => ld_second x2 r j) (fun j => ld_second_emb x3 r j)
      (fun j k => ld_square x4 j k) (fun j k => ld_square x5 j k) (fun j k => ld_proj x6 j k) k)

theorem out_rows (x0 x1 : Vec Ideal S512x1024 .bf16) (x2 : Vec Ideal S512x1024 .f32) (x3 : Vec Ideal S1x512x256 .f32) (x4 x5 : Vec Ideal S1x1024x1024 .bf16)
    (x6 : Vec Ideal S1x256x1024 .bf16) (x7 : Vec Ideal S1x1024 .f32) (x8 x9 : Vec Ideal S1x1024x1024 .bf16) (r : Fin 512) (k : Fin 1024) :
    out0_10 x0 x1 x2 x3 x4 x5 x6 x7 x8 x9 (ix2 r k) = blockRow x0 x1 x2 x3 x4 x5 x6 r k :=
  canon_groups (e := .f32) inb_S512x1024_S256x1024_0_0 inb_S512x1024_S256x1024_256_0 _ _ (blockRow x0 x1 x2 x3 x4 x5 x6)
    (fun r k => first_rows x0 x1 x2 x3 x4 x5 x6 r k) (fun r k => second_rows x0 x1 x2 x3 x4 x5 x6 r k) r k

/-- A block's queries. -/
theorem out_queries (x0 x1 : Vec Ideal S512x1024 .bf16) (x2 : Vec Ideal S512x1024 .f32) (x3 : Vec Ideal S1x512x256 .f32) (x4 x5 : Vec Ideal S1x1024x1024 .bf16)
    (x6 : Vec Ideal S1x256x1024 .bf16) (x7 : Vec Ideal S1x1024 .f32) (x8 x9 : Vec Ideal S1x1024x1024 .bf16) (r : Fin 512) (k : Fin 1024) :
    out0_11 x0 x1 x2 x3 x4 x5 x6 x7 x8 x9 (ix2 r k) = scaled (front (blockRow x0 x1 x2 x3 x4 x5 x6 r) (fun j => x7 (ix2 0 j)) (fun j k => x8 (ix3 0 j k)) k) := by
  refine canon_groups (e := .bf16) inb_S512x1024_S256x1024_0_0 inb_S512x1024_S256x1024_256_0 _ _ (fun r k => scaled (front (blockRow x0 x1 x2 x3 x4 x5 x6 r) (fun j => x7 (ix2 0 j)) (fun j k => x8 (ix3 0 j k)) k)) ?_ ?_ r k
  · intro r k
    refine (queries_apply (rows (View.ld x0 r0_0) (View.ld x1 r0_0) (View.ld x2 r0_0) (View.ld x3 r0_2) (View.ld x4 r0_5) (View.ld x5 r0_5) (View.ld x6 r0_3)) (View.ld x7 r0_6) (View.ld x8 r0_5) r k).trans ?_
    exact congrArg scaled (front_congr (fun j => first_rows x0 x1 x2 x3 x4 x5 x6 r j) (fun j => ld_scale x7 j) (fun j k => ld_square x8 j k) _)
  · intro r k
    refine (queries_apply (rows (View.ld x0 r0_1) (View.ld x1 r0_1) (View.ld x2 r0_1) (View.ld x3 r0_4) (View.ld x4 r0_5) (View.ld x5 r0_5) (View.ld x6 r0_3)) (View.ld x7 r0_6) (View.ld x8 r0_5) r k).trans ?_
    exact congrArg scaled (front_congr (fun j => second_rows x0 x1 x2 x3 x4 x5 x6 r j) (fun j => ld_scale x7 j) (fun j k => ld_square x8 j k) _)

/-- A block's gates. -/
theorem out_gates (x0 x1 : Vec Ideal S512x1024 .bf16) (x2 : Vec Ideal S512x1024 .f32) (x3 : Vec Ideal S1x512x256 .f32) (x4 x5 : Vec Ideal S1x1024x1024 .bf16)
    (x6 : Vec Ideal S1x256x1024 .bf16) (x7 : Vec Ideal S1x1024 .f32) (x8 x9 : Vec Ideal S1x1024x1024 .bf16) (r : Fin 512) (k : Fin 1024) :
    out0_12 x0 x1 x2 x3 x4 x5 x6 x7 x8 x9 (ix2 r k) = front (blockRow x0 x1 x2 x3 x4 x5 x6 r) (fun j => x7 (ix2 0 j)) (fun j k => x9 (ix3 0 j k)) k := by
  refine canon_groups (e := .bf16) inb_S512x1024_S256x1024_0_0 inb_S512x1024_S256x1024_256_0 _ _ (fun r k => front (blockRow x0 x1 x2 x3 x4 x5 x6 r) (fun j => x7 (ix2 0 j)) (fun j k => x9 (ix3 0 j k)) k) ?_ ?_ r k
  · intro r k
    refine (gates_apply (rows (View.ld x0 r0_0) (View.ld x1 r0_0) (View.ld x2 r0_0) (View.ld x3 r0_2) (View.ld x4 r0_5) (View.ld x5 r0_5) (View.ld x6 r0_3)) (View.ld x7 r0_6) (View.ld x9 r0_5) r k).trans ?_
    exact front_congr (fun j => first_rows x0 x1 x2 x3 x4 x5 x6 r j) (fun j => ld_scale x7 j) (fun j k => ld_square x9 j k) _
  · intro r k
    refine (gates_apply (rows (View.ld x0 r0_1) (View.ld x1 r0_1) (View.ld x2 r0_1) (View.ld x3 r0_4) (View.ld x4 r0_5) (View.ld x5 r0_5) (View.ld x6 r0_3)) (View.ld x7 r0_6) (View.ld x9 r0_5) r k).trans ?_
    exact front_congr (fun j => second_rows x0 x1 x2 x3 x4 x5 x6 r j) (fun j => ld_scale x7 j) (fun j k => ld_square x9 j k) _

section

variable (m : (ℓ : Loc nD τ sig) → Buf (Elt Ideal) ℓ)

theorem windows : ∀ t : Fin cfg0.N, win0_0.index t = ![t.val, 0] ∧ win0_1.index t = ![t.val, 0] ∧ win0_2.index t = ![t.val, 0] ∧ win0_3.index t = ![2, t.val, 0] ∧ win0_4.index t = ![0, 0, 0] ∧ win0_5.index t = ![2, 0, 0] ∧ win0_6.index t = ![2, 0, 0] ∧ win0_7.index t = ![0, 0] ∧ win0_8.index t = ![1, 0, 0] ∧ win0_9.index t = ![1, 0, 1] ∧ win0_10.index t = ![t.val, 0] ∧ win0_11.index t = ![t.val, 0] ∧ win0_12.index t = ![t.val, 0] :=
  (by decide +kernel : ∀ t : Fin grid0.N, win0_0.index t = ![t.val, 0] ∧ win0_1.index t = ![t.val, 0] ∧ win0_2.index t = ![t.val, 0] ∧ win0_3.index t = ![2, t.val, 0] ∧ win0_4.index t = ![0, 0, 0] ∧ win0_5.index t = ![2, 0, 0] ∧ win0_6.index t = ![2, 0, 0] ∧ win0_7.index t = ![0, 0] ∧ win0_8.index t = ![1, 0, 0] ∧ win0_9.index t = ![1, 0, 1] ∧ win0_10.index t = ![t.val, 0] ∧ win0_11.index t = ![t.val, 0] ∧ win0_12.index t = ![t.val, 0])

/-- The token of a point's row. -/
abbrev token (t : Fin cfg0.N) (r : Fin 512) : Fin 16384 := ⟨512 * t.val + r.val, by have : t.val < 32 := lt_of_lt_of_eq t.isLt (show cfg0.N = 32 from N_0); omega⟩

theorem mixer_apply (c : Dev nD) (t : Fin cfg0.N) (r : Fin 512) (j : Fin 1024) :
    iblk m c 0 t (ix2 r j) = m ((c : Thread nD τ).loc main_arg0) (ix2 (token t r) j) := by
  have h := (windows t).1
  blk_ext! [iblk, V, h]

theorem gate_apply (c : Dev nD) (t : Fin cfg0.N) (r : Fin 512) (j : Fin 1024) :
    iblk m c 1 t (ix2 r j) = m ((c : Thread nD τ).loc main_arg1) (ix2 (token t r) j) := by
  have h := (windows t).2.1
  blk_ext! [iblk, V, h]

theorem residual_apply (c : Dev nD) (t : Fin cfg0.N) (r : Fin 512) (j : Fin 1024) :
    iblk m c 2 t (ix2 r j) = m ((c : Thread nD τ).loc main_arg2) (ix2 (token t r) j) := by
  have h := (windows t).2.2.1
  blk_ext! [iblk, V, h]

theorem embedding_apply (c : Dev nD) (t : Fin cfg0.N) (r : Fin 512) (j : Fin 256) :
    iblk m c 3 t (ix3 0 r j) = m ((c : Thread nD τ).loc main_arg3) (ix3 2 (token t r) j) := by
  have h := (windows t).2.2.2.1
  blk_ext! [iblk, V, h]

theorem out_weight_apply (c : Dev nD) (t : Fin cfg0.N) (j k : Fin 1024) :
    iblk m c 4 t (ix3 0 j k) = m ((c : Thread nD τ).loc main_arg4) (ix3 0 j k) := by
  have h := (windows t).2.2.2.2.1
  blk_ext! [iblk, V, h]

theorem gate_weight_apply (c : Dev nD) (t : Fin cfg0.N) (j k : Fin 1024) :
    iblk m c 5 t (ix3 0 j k) = m ((c : Thread nD τ).loc main_arg5) (ix3 2 j k) := by
  have h := (windows t).2.2.2.2.2.1
  blk_ext! [iblk, V, h]

theorem proj_weight_apply (c : Dev nD) (t : Fin cfg0.N) (j : Fin 256) (k : Fin 1024) :
    iblk m c 6 t (ix3 0 j k) = m ((c : Thread nD τ).loc main_arg6) (ix3 2 j k) := by
  have h := (windows t).2.2.2.2.2.2.1
  blk_ext! [iblk, V, h]

theorem scale_apply (c : Dev nD) (t : Fin cfg0.N) (k : Fin 1024) :
    iblk m c 7 t (ix2 0 k) = m ((c : Thread nD τ).loc main_arg7) (ix1 k) := by
  have h := (windows t).2.2.2.2.2.2.2.1
  blk_ext! [iblk, V, h]

theorem query_weight_apply (c : Dev nD) (t : Fin cfg0.N) (j k : Fin 1024) :
    iblk m c 8 t (ix3 0 j k) = m ((c : Thread nD τ).loc main_arg8) (ix3 1 j ⟨k.val, by omega⟩) := by
  have h := (windows t).2.2.2.2.2.2.2.2.1
  blk_ext! [iblk, V, h]

theorem next_gate_weight_apply (c : Dev nD) (t : Fin cfg0.N) (j k : Fin 1024) :
    iblk m c 9 t (ix3 0 j k) = m ((c : Thread nD τ).loc main_arg8) (ix3 1 j ⟨1024 + k.val, by omega⟩) := by
  have h := (windows t).2.2.2.2.2.2.2.2.2.1
  blk_ext! [iblk, V, h]

theorem emb10_apply (t : Fin cfg0.N) (r : Fin 512) (k : Fin 1024) : ((cfg0.win 10).blk t).view.emb (ix2 r k) = ix2 (token t r) k := by
  have h := (windows t).2.2.2.2.2.2.2.2.2.2.1
  blk_ext [h]

theorem emb11_apply (t : Fin cfg0.N) (r : Fin 512) (k : Fin 1024) : ((cfg0.win 11).blk t).view.emb (ix2 r k) = ix2 (token t r) k := by
  have h := (windows t).2.2.2.2.2.2.2.2.2.2.2.1
  blk_ext [h]

theorem emb12_apply (t : Fin cfg0.N) (r : Fin 512) (k : Fin 1024) : ((cfg0.win 12).blk t).view.emb (ix2 r k) = ix2 (token t r) k := by
  have h := (windows t).2.2.2.2.2.2.2.2.2.2.2.2
  blk_ext [h]

/-- A token's row after the tail. -/
abbrev tokenRow (O G : Vec Ideal S16384x1024 .bf16) (X : Vec Ideal S16384x1024 .f32) (E : Vec Ideal S4x16384x256 .f32) (W : Vec Ideal S2x1024x1024 .f32)
    (V : Vec Ideal S4x1024x1024 .f32) (P : Vec Ideal S4x256x1024 .f32) (i : Fin 16384) : Fin 1024 → EReal :=
  after (fun j => O (ix2 i j)) (fun j => G (ix2 i j)) (fun j => X (ix2 i j)) (fun j => E (ix3 2 i j))
    (fun j k => W (ix3 0 j k)) (fun j k => V (ix3 2 j k)) (fun j k => P (ix3 2 j k))

/-- The rows after the tail. -/
def result (O G : Vec Ideal S16384x1024 .bf16) (X : Vec Ideal S16384x1024 .f32) (E : Vec Ideal S4x16384x256 .f32) (W : Vec Ideal S2x1024x1024 .f32)
    (V : Vec Ideal S4x1024x1024 .f32) (P : Vec Ideal S4x256x1024 .f32) : Vec Ideal S16384x1024 .f32 := fun i => tokenRow O G X E W V P (i 0) (i 1)

theorem blockRow_eq (c : Dev nD) (t : Fin cfg0.N) (r : Fin 512) (k : Fin 1024) :
    blockRow (iblk m c 0 t) (iblk m c 1 t) (iblk m c 2 t) (iblk m c 3 t) (iblk m c 4 t) (iblk m c 5 t) (iblk m c 6 t) r k
      = tokenRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (token t r) k :=
  after_congr (fun j => mixer_apply m c t r j) (fun j => gate_apply m c t r j) (fun j => residual_apply m c t r j) (fun j => embedding_apply m c t r j)
    (fun j k => out_weight_apply m c t j k) (fun j k => gate_weight_apply m c t j k) (fun j k => proj_weight_apply m c t j k) k

/-- The next layer's queries and gates. -/
def queries (O G : Vec Ideal S16384x1024 .bf16) (X : Vec Ideal S16384x1024 .f32) (E : Vec Ideal S4x16384x256 .f32) (W : Vec Ideal S2x1024x1024 .f32)
    (V : Vec Ideal S4x1024x1024 .f32) (P : Vec Ideal S4x256x1024 .f32)  (N : Vec Ideal S1024 .f32) (Z : Vec Ideal S2x1024x2048 .f32) : Vec Ideal S16384x1024 .bf16 := fun i =>
  scaled (front (tokenRow O G X E W V P (i 0)) (fun j => N (ix1 j)) (fun j (k : Fin 1024) => Z (ix3 1 j ⟨k.val, by omega⟩)) (i 1))
def gates (O G : Vec Ideal S16384x1024 .bf16) (X : Vec Ideal S16384x1024 .f32) (E : Vec Ideal S4x16384x256 .f32) (W : Vec Ideal S2x1024x1024 .f32)
    (V : Vec Ideal S4x1024x1024 .f32) (P : Vec Ideal S4x256x1024 .f32)  (N : Vec Ideal S1024 .f32) (Z : Vec Ideal S2x1024x2048 .f32) : Vec Ideal S16384x1024 .bf16 := fun i =>
  front (tokenRow O G X E W V P (i 0)) (fun j => N (ix1 j)) (fun j (k : Fin 1024) => Z (ix3 1 j ⟨1024 + k.val, by omega⟩)) (i 1)

/-- The rows after the run. -/
theorem final_rows (c : Dev nD) :
    (dats m 0 c).arrAt 10 cfg0.N = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 10 _ (by decide +kernel) fun t hf y => ?_
  obtain ⟨r, k, e⟩ : ∃ (r : Fin 512) (k : Fin 1024), y = ix2 r k := ⟨y 0, y 1, by blk_ext⟩
  rw [e]
  refine ((congrFun (flushed10 m c t) (ix2 r k)).trans (out_rows (iblk m c 0 t) (iblk m c 1 t) (iblk m c 2 t) (iblk m c 3 t) (iblk m c 4 t) (iblk m c 5 t) (iblk m c 6 t) (iblk m c 7 t) (iblk m c 8 t) (iblk m c 9 t) r k)).trans ?_
  refine Eq.trans ?_ (congrArg (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (emb10_apply t r k)).symm
  exact blockRow_eq m c t r k

/-- The queries after the run. -/
theorem final_queries (c : Dev nD) :
    (dats m 0 c).arrAt 11 cfg0.N = queries (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 11 _ (by decide +kernel) fun t hf y => ?_
  obtain ⟨r, k, e⟩ : ∃ (r : Fin 512) (k : Fin 1024), y = ix2 r k := ⟨y 0, y 1, by blk_ext⟩
  rw [e]
  refine ((congrFun (flushed11 m c t) (ix2 r k)).trans (out_queries (iblk m c 0 t) (iblk m c 1 t) (iblk m c 2 t) (iblk m c 3 t) (iblk m c 4 t) (iblk m c 5 t) (iblk m c 6 t) (iblk m c 7 t) (iblk m c 8 t) (iblk m c 9 t) r k)).trans ?_
  refine Eq.trans ?_ (congrArg (queries (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (emb11_apply t r k)).symm
  exact congrArg scaled (front_congr (fun j => blockRow_eq m c t r j) (fun j => scale_apply m c t j) (fun j k => query_weight_apply m c t j k) k)

/-- The gates after the run. -/
theorem final_gates (c : Dev nD) :
    (dats m 0 c).arrAt 12 cfg0.N = gates (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 12 _ (by decide +kernel) fun t hf y => ?_
  obtain ⟨r, k, e⟩ : ∃ (r : Fin 512) (k : Fin 1024), y = ix2 r k := ⟨y 0, y 1, by blk_ext⟩
  rw [e]
  refine ((congrFun (flushed12 m c t) (ix2 r k)).trans (out_gates (iblk m c 0 t) (iblk m c 1 t) (iblk m c 2 t) (iblk m c 3 t) (iblk m c 4 t) (iblk m c 5 t) (iblk m c 6 t) (iblk m c 7 t) (iblk m c 8 t) (iblk m c 9 t) r k)).trans ?_
  refine Eq.trans ?_ (congrArg (gates (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (emb12_apply t r k)).symm
  exact front_congr (fun j => blockRow_eq m c t r j) (fun j => scale_apply m c t j) (fun j k => next_gate_weight_apply m c t j k) k

end

end Cert.NextTailIdeal.Tail

end
-- ==== Proof.Tail.NextRef.lean ====
/-
  The reference of the tail that another layer of its kind follows, read at a token.
-/
module

public import proofs.«01_k».proof.Proof.Tail.NextKernel
public import proofs.«01_k».proof.Proof.Tail.Scale
public import proofs.«01_k».proof.Proof.Gen.NextTailRefIdeal.Run

@[expose] public section

set_option maxRecDepth 16384

noncomputable section

namespace Cert.NextTailRefIdeal.Tail

open Cert.NextTailRefIdeal Cert.NextTailRefIdeal.Gen Cert.NextTailRefIdeal.Value Idealize.ShloMosaic Idealize.ShloMosaic.TcCoe Idealize.SL.Sem
open Cert.Tail

/-! The reference's stages on the token array, and each stage read at a token. -/

def sigmoids (z : FVec Ideal S16384x1024 .f32) : FVec Ideal S16384x1024 .f32 :=
  Host.divf (broadcastInDim S16384x1024 ![] bcast_S_S16384x1024 (constant S_ .f32 0x3F800000#32)) (addf (broadcastInDim S16384x1024 ![] bcast_S_S16384x1024 (constant S_ .f32 0x3F800000#32)) (Host.exp (Host.negf z)))

def gates (O G : FVec Ideal S16384x1024 .bf16) : FVec Ideal S16384x1024 .f32 :=
  mulf (extf .f32 O bitsLt_bf16_f32) (mulf (extf .f32 G bitsLt_bf16_f32) (sigmoids (extf .f32 G bitsLt_bf16_f32)))

def outWeight (W : FVec Ideal S2x1024x1024 .f32) : FVec Ideal S1024x1024 .f32 :=
  shapeCast S1024x1024 (extractStridedSlice S1x1024x1024 ![0, 0, 0] W slices_S2x1024x1024_S1x1024x1024_0_0_0) shapeCasts_S1x1024x1024_S1024x1024

def gateWeight (V : FVec Ideal S4x1024x1024 .f32) : FVec Ideal S1024x1024 .f32 :=
  shapeCast S1024x1024 (extractStridedSlice S1x1024x1024 ![2, 0, 0] V slices_S4x1024x1024_S1x1024x1024_2_0_0) shapeCasts_S1x1024x1024_S1024x1024

def product (y : FVec Ideal S16384x1024 .f32) (W : FVec Ideal S1024x1024 .f32) : FVec Ideal S16384x1024 .f32 :=
  Host.dotGeneral dot_S16384x1024_S1024x1024_S16384x1024_1_0_0_1_n_n none y W

def embedded (E : FVec Ideal S4x16384x256 .f32) (P : FVec Ideal S4x256x1024 .f32) : FVec Ideal S16384x1024 .f32 :=
  Host.dotGeneral dot_S16384x256_S256x1024_S16384x1024_1_0_0_1_n_n none (shapeCast S16384x256 (extractStridedSlice S1x16384x256 ![2, 0, 0] E slices_S4x16384x256_S1x16384x256_2_0_0) shapeCasts_S1x16384x256_S16384x256)
    (shapeCast S256x1024 (extractStridedSlice S1x256x1024 ![2, 0, 0] P slices_S4x256x1024_S1x256x1024_2_0_0) shapeCasts_S1x256x1024_S256x1024)

def mids (O G : FVec Ideal S16384x1024 .bf16) (X : FVec Ideal S16384x1024 .f32) (W : FVec Ideal S2x1024x1024 .f32) : FVec Ideal S16384x1024 .f32 :=
  addf X (product (gates O G) (outWeight W))

def afters (y e z : FVec Ideal S16384x1024 .f32) : FVec Ideal S16384x1024 .f32 := addf y (mulf (sigmoids z) e)

def rows (O G : FVec Ideal S16384x1024 .bf16) (X : FVec Ideal S16384x1024 .f32) (E : FVec Ideal S4x16384x256 .f32) (W : FVec Ideal S2x1024x1024 .f32)
    (V : FVec Ideal S4x1024x1024 .f32) (P : FVec Ideal S4x256x1024 .f32) : FVec Ideal S16384x1024 .f32 :=
  afters (mids O G X W) (embedded E P) (product (mids O G X W) (gateWeight V))

theorem sigmoids_apply (z : FVec Ideal S16384x1024 .f32) (i : Fin 16384) (j : Fin 1024) : sigmoids z (ix2 i j) = sigmoid (z (ix2 i j)) := by
  pointwise [sigmoids]
  rfl

theorem gates_apply (O G : FVec Ideal S16384x1024 .bf16) (i : Fin 16384) (j : Fin 1024) : gates O G (ix2 i j) = gated (O (ix2 i j)) (G (ix2 i j)) := by
  exact congrArg (fun s : EReal => (O (ix2 i j) : EReal) * ((G (ix2 i j) : EReal) * s)) (sigmoids_apply (extf .f32 G bitsLt_bf16_f32) i j)

theorem outWeight_apply (W : FVec Ideal S2x1024x1024 .f32) (j k : Fin 1024) : outWeight W (ix2 j k) = W (ix3 0 j k) := by
  pointwise [outWeight]

theorem gateWeight_apply (V : FVec Ideal S4x1024x1024 .f32) (j k : Fin 1024) : gateWeight V (ix2 j k) = V (ix3 2 j k) := by
  pointwise [gateWeight]

theorem product_apply (y : FVec Ideal S16384x1024 .f32) (W : FVec Ideal S1024x1024 .f32) (i : Fin 16384) (k : Fin 1024) :
    product y W (ix2 i k) = (∑ j : Fin 1024, y (ix2 i j) * W (ix2 j k) : EReal) := by
  pointwise [product]

theorem embedded_apply (E : FVec Ideal S4x16384x256 .f32) (P : FVec Ideal S4x256x1024 .f32) (i : Fin 16384) (k : Fin 1024) :
    embedded E P (ix2 i k) = (∑ j : Fin 256, E (ix3 2 i j) * P (ix3 2 j k) : EReal) := by
  pointwise [embedded]

theorem mids_apply (O G : FVec Ideal S16384x1024 .bf16) (X : FVec Ideal S16384x1024 .f32) (W : FVec Ideal S2x1024x1024 .f32) (i : Fin 16384) (k : Fin 1024) :
    mids O G X W (ix2 i k) = mid (fun j => O (ix2 i j)) (fun j => G (ix2 i j)) (fun j => X (ix2 i j)) (fun j k => W (ix3 0 j k)) k := by
  refine congrArg (fun s : EReal => (X (ix2 i k) : EReal) + s) ?_
  rw [product_apply]
  simp only [gates_apply, outWeight_apply]

theorem afters_apply (y e z : FVec Ideal S16384x1024 .f32) (i : Fin 16384) (k : Fin 1024) :
    afters y e z (ix2 i k) = (y (ix2 i k) + sigmoid (z (ix2 i k)) * e (ix2 i k) : EReal) := by
  exact congrArg (fun s : EReal => (y (ix2 i k) : EReal) + s * e (ix2 i k)) (sigmoids_apply z i k)

theorem rows_apply (O G : FVec Ideal S16384x1024 .bf16) (X : FVec Ideal S16384x1024 .f32) (E : FVec Ideal S4x16384x256 .f32) (W : FVec Ideal S2x1024x1024 .f32)
    (V : FVec Ideal S4x1024x1024 .f32) (P : FVec Ideal S4x256x1024 .f32) (i : Fin 16384) (k : Fin 1024) :
    rows O G X E W V P (ix2 i k) = after (fun j => O (ix2 i j)) (fun j => G (ix2 i j)) (fun j => X (ix2 i j)) (fun j => E (ix3 2 i j))
      (fun j k => W (ix3 0 j k)) (fun j k => V (ix3 2 j k)) (fun j k => P (ix3 2 j k)) k := by
  unfold rows
  rw [afters_apply, product_apply, embedded_apply]
  simp only [mids_apply, gateWeight_apply]
  rfl

def norms (Y : FVec Ideal S16384x1024 .f32) (N : FVec Ideal S1024 .f32) : FVec Ideal S16384x1024 .f32 :=
  mulf (mulf Y (broadcastInDim S16384x1024 ![0, 1] bcast_S16384x1_S16384x1024_0_1 (Host.rsqrt (addf (Host.divf (broadcastInDim S16384x1 ![0] bcast_S16384_S16384x1_0 (Host.reduceAdd (mulf Y Y) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 N))

def wide (Y : FVec Ideal S16384x1024 .f32) (Z : FVec Ideal S1024x2048 .f32) : FVec Ideal S16384x2048 .f32 :=
  Host.dotGeneral dot_S16384x1024_S1024x2048_S16384x2048_1_0_0_1_n_n none Y Z

def nextWeight (Z : FVec Ideal S2x1024x2048 .f32) : FVec Ideal S1024x2048 .f32 :=
  shapeCast S1024x2048 (extractStridedSlice S1x1024x2048 ![1, 0, 0] Z slices_S2x1024x2048_S1x1024x2048_1_0_0) shapeCasts_S1x1024x2048_S1024x2048

def leftHalf (Q : FVec Ideal S16384x2048 .f32) : FVec Ideal S16384x1024 .f32 := extractStridedSlice S16384x1024 ![0, 0] Q slices_S16384x2048_S16384x1024_0_0

def rightHalf (Q : FVec Ideal S16384x2048 .f32) : FVec Ideal S16384x1024 .f32 := extractStridedSlice S16384x1024 ![0, 1024] Q slices_S16384x2048_S16384x1024_0_1024

def scales (Q : FVec Ideal S16384x1024 .f32) : FVec Ideal S16384x1024 .f32 :=
  Host.divf (mulf Q (broadcastInDim S16384x1024 ![] bcast_S_S16384x1024 (constant S_ .f32 0x3E000000#32))) (broadcastInDim S16384x1024 ![] bcast_S_S16384x1024 (Host.log (constant S_ .f32 0x40000000#32)))

theorem norms_apply (Y : FVec Ideal S16384x1024 .f32) (N : FVec Ideal S1024 .f32) (i : Fin 16384) (k : Fin 1024) :
    norms Y N (ix2 i k) = normed (fun j => Y (ix2 i j)) (fun j => N (ix1 j)) k := by
  pointwise [norms]
  rfl

theorem wide_apply (Y : FVec Ideal S16384x1024 .f32) (Z : FVec Ideal S1024x2048 .f32) (i : Fin 16384) (k : Fin 2048) :
    wide Y Z (ix2 i k) = (∑ j : Fin 1024, Y (ix2 i j) * Z (ix2 j k) : EReal) := by
  pointwise [wide]

theorem nextWeight_apply (Z : FVec Ideal S2x1024x2048 .f32) (j : Fin 1024) (k : Fin 2048) : nextWeight Z (ix2 j k) = Z (ix3 1 j k) := by
  pointwise [nextWeight]

theorem leftHalf_apply (Q : FVec Ideal S16384x2048 .f32) (i : Fin 16384) (k : Fin 1024) : leftHalf Q (ix2 i k) = Q (ix2 i ⟨k.val, by omega⟩) := by
  pointwise [leftHalf]

theorem rightHalf_apply (Q : FVec Ideal S16384x2048 .f32) (i : Fin 16384) (k : Fin 1024) : rightHalf Q (ix2 i k) = Q (ix2 i ⟨1024 + k.val, by omega⟩) := by
  pointwise [rightHalf]

theorem scales_apply (Q : FVec Ideal S16384x1024 .f32) (i : Fin 16384) (k : Fin 1024) : scales Q (ix2 i k) = scaled (Q (ix2 i k)) := by
  refine Eq.trans ?_ (scaled_eq (Q (ix2 i k)))
  pointwise [scales]

theorem front_apply (Y : FVec Ideal S16384x1024 .f32) (N : FVec Ideal S1024 .f32) (Z : FVec Ideal S1024x2048 .f32) (i : Fin 16384) (k : Fin 2048) :
    wide (norms Y N) Z (ix2 i k) = front (fun j => Y (ix2 i j)) (fun j => N (ix1 j)) (fun j k => Z (ix2 j k)) k := by
  rw [wide_apply]
  simp only [norms_apply]
  rfl

theorem rows_eq (O G : FVec Ideal S16384x1024 .bf16) (X : FVec Ideal S16384x1024 .f32) (E : FVec Ideal S4x16384x256 .f32) (W : FVec Ideal S2x1024x1024 .f32)
    (V : FVec Ideal S4x1024x1024 .f32) (P : FVec Ideal S4x256x1024 .f32) : rows O G X E W V P = NextTailIdeal.Tail.result O G X E W V P := by
  funext i
  exact (congrArg (rows O G X E W V P) (eq_ix2 i)).trans (rows_apply O G X E W V P (i 0) (i 1))

theorem queries_eq (O G : FVec Ideal S16384x1024 .bf16) (X : FVec Ideal S16384x1024 .f32) (E : FVec Ideal S4x16384x256 .f32) (W : FVec Ideal S2x1024x1024 .f32)
    (V : FVec Ideal S4x1024x1024 .f32) (P : FVec Ideal S4x256x1024 .f32)
    (N : FVec Ideal S1024 .f32) (Z : FVec Ideal S2x1024x2048 .f32) :
    truncf .bf16 (scales (leftHalf (wide (norms (rows O G X E W V P) N) (nextWeight Z)))) bitsLt_bf16_f32 = NextTailIdeal.Tail.queries O G X E W V P N Z := by
  funext i
  obtain ⟨r, k, e⟩ : ∃ (r : Fin 16384) (k : Fin 1024), i = ix2 r k := ⟨i 0, i 1, eq_ix2 i⟩
  rw [e]
  exact (scales_apply (leftHalf (wide (norms (rows O G X E W V P) N) (nextWeight Z))) r k).trans (congrArg scaled ((leftHalf_apply (wide (norms (rows O G X E W V P) N) (nextWeight Z)) r k).trans ((front_apply (rows O G X E W V P) N (nextWeight Z) r ⟨k.val, by omega⟩).trans
    (front_congr (Z := fun j (_ : Fin 1) => nextWeight Z (ix2 j ⟨k.val, by omega⟩)) (fun j => rows_apply O G X E W V P r j) (fun j => rfl) (fun j k => nextWeight_apply Z j _) 0))))

theorem gates_eq (O G : FVec Ideal S16384x1024 .bf16) (X : FVec Ideal S16384x1024 .f32) (E : FVec Ideal S4x16384x256 .f32) (W : FVec Ideal S2x1024x1024 .f32)
    (V : FVec Ideal S4x1024x1024 .f32) (P : FVec Ideal S4x256x1024 .f32)
    (N : FVec Ideal S1024 .f32) (Z : FVec Ideal S2x1024x2048 .f32) :
    truncf .bf16 (rightHalf (wide (norms (rows O G X E W V P) N) (nextWeight Z))) bitsLt_bf16_f32 = NextTailIdeal.Tail.gates O G X E W V P N Z := by
  funext i
  obtain ⟨r, k, e⟩ : ∃ (r : Fin 16384) (k : Fin 1024), i = ix2 r k := ⟨i 0, i 1, eq_ix2 i⟩
  rw [e]
  exact (rightHalf_apply (wide (norms (rows O G X E W V P) N) (nextWeight Z)) r k).trans ((front_apply (rows O G X E W V P) N (nextWeight Z) r ⟨1024 + k.val, by omega⟩).trans
    (front_congr (Z := fun j (_ : Fin 1) => nextWeight Z (ix2 j ⟨1024 + k.val, by omega⟩)) (fun j => rows_apply O G X E W V P r j) (fun j => rfl) (fun j k => nextWeight_apply Z j _) 0))

end Cert.NextTailRefIdeal.Tail

end
-- ==== Proof.Tail.NextClaims.lean ====
/-
  The claims about the tail that another layer of its kind follows.
-/
module

public import proofs.«01_k».proof.Defs
public import proofs.«01_k».proof.Proof.Gen.NextTail.Frame
public import proofs.«01_k».proof.Proof.Tail.NextRef

@[expose] public section

set_option maxRecDepth 16384

noncomputable section

namespace Cert.Proof.NextTailClaims

open Idealize.ShloMosaic Idealize.ShloMosaic.TcCoe Idealize.SL.Sem Cert.NextTailIdeal.Tail

theorem frame_p : Cert.quiescent_NextTail := fun m ρ _ => Cert.NextTail.Gen.frame m ρ
theorem frame_pi : Cert.quiescent_NextTailIdeal := fun m ρ _ => Cert.NextTailIdeal.Gen.frame m ρ
theorem frame_ri : Cert.quiescent_NextTailRefIdeal := fun m ρ _ =>
  (θ_run Cert.NextTailRefIdeal.defs _ _).mono (fun r h => ⟨fun c => (h c).2.2.2, sem_eq_zero_of_no_sems (by decide) r.2⟩)
    (Cert.NextTailRefIdeal.Value.run (F := Ideal) m ρ)

/-- The queries' factor is its named real. -/
theorem preserves : Cert.preserves_NextTail_NextTailIdeal :=
  IdealRules.named_const.statement Cert.NextTailIdeal.κ "query_factor" .f32 0x3E38AA3B#32 (((Real.sqrt 64)⁻¹ * (Real.log 2)⁻¹ : ℝ) : EReal) rfl

/-- Both runs end at the same arrays. -/
theorem algebraic : Cert.algebraic_NextTailIdeal_NextTailRefIdeal := by
  intro m ρ m' ρ' _ hagree
  refine ⟨fun c => result (m ((c.tc : Thread NextTailIdeal.nD NextTailIdeal.τ).loc NextTailIdeal.main_arg0)) (m ((c.tc : Thread NextTailIdeal.nD NextTailIdeal.τ).loc NextTailIdeal.main_arg1)) (m ((c.tc : Thread NextTailIdeal.nD NextTailIdeal.τ).loc NextTailIdeal.main_arg2))
      (m ((c.tc : Thread NextTailIdeal.nD NextTailIdeal.τ).loc NextTailIdeal.main_arg3)) (m ((c.tc : Thread NextTailIdeal.nD NextTailIdeal.τ).loc NextTailIdeal.main_arg4)) (m ((c.tc : Thread NextTailIdeal.nD NextTailIdeal.τ).loc NextTailIdeal.main_arg5))
      (m ((c.tc : Thread NextTailIdeal.nD NextTailIdeal.τ).loc NextTailIdeal.main_arg6)),
    fun c => queries (m ((c.tc : Thread NextTailIdeal.nD NextTailIdeal.τ).loc NextTailIdeal.main_arg0)) (m ((c.tc : Thread NextTailIdeal.nD NextTailIdeal.τ).loc NextTailIdeal.main_arg1)) (m ((c.tc : Thread NextTailIdeal.nD NextTailIdeal.τ).loc NextTailIdeal.main_arg2))
      (m ((c.tc : Thread NextTailIdeal.nD NextTailIdeal.τ).loc NextTailIdeal.main_arg3)) (m ((c.tc : Thread NextTailIdeal.nD NextTailIdeal.τ).loc NextTailIdeal.main_arg4)) (m ((c.tc : Thread NextTailIdeal.nD NextTailIdeal.τ).loc NextTailIdeal.main_arg5))
      (m ((c.tc : Thread NextTailIdeal.nD NextTailIdeal.τ).loc NextTailIdeal.main_arg6)) (m ((c.tc : Thread NextTailIdeal.nD NextTailIdeal.τ).loc NextTailIdeal.main_arg7)) (m ((c.tc : Thread NextTailIdeal.nD NextTailIdeal.τ).loc NextTailIdeal.main_arg8)),
    fun c => gates (m ((c.tc : Thread NextTailIdeal.nD NextTailIdeal.τ).loc NextTailIdeal.main_arg0)) (m ((c.tc : Thread NextTailIdeal.nD NextTailIdeal.τ).loc NextTailIdeal.main_arg1)) (m ((c.tc : Thread NextTailIdeal.nD NextTailIdeal.τ).loc NextTailIdeal.main_arg2))
      (m ((c.tc : Thread NextTailIdeal.nD NextTailIdeal.τ).loc NextTailIdeal.main_arg3)) (m ((c.tc : Thread NextTailIdeal.nD NextTailIdeal.τ).loc NextTailIdeal.main_arg4)) (m ((c.tc : Thread NextTailIdeal.nD NextTailIdeal.τ).loc NextTailIdeal.main_arg5))
      (m ((c.tc : Thread NextTailIdeal.nD NextTailIdeal.τ).loc NextTailIdeal.main_arg6)) (m ((c.tc : Thread NextTailIdeal.nD NextTailIdeal.τ).loc NextTailIdeal.main_arg7)) (m ((c.tc : Thread NextTailIdeal.nD NextTailIdeal.τ).loc NextTailIdeal.main_arg8)), ?_, ?_⟩
  · exact (θ_run Cert.NextTailIdeal.defs _ _).mono (fun _ h c => ⟨(h c).1.trans (final_rows m c), (h c).2.1.trans (final_queries m c), (h c).2.2.1.trans (final_gates m c), (h c).2.2.2⟩) (Cert.NextTailIdeal.Value.run_blocks m ρ)
  · refine (θ_run Cert.NextTailRefIdeal.defs _ _).mono (fun _ h c => ⟨(h c).1.trans ?_, (h c).2.1.trans ?_, (h c).2.2.1.trans ?_, (h c).2.2.2⟩) (Cert.NextTailRefIdeal.Value.run (F := Ideal) m' ρ')
    all_goals obtain ⟨h0, h1, h2, h3, h4, h5, h6, h7, h8⟩ := hagree c
    · refine (Cert.NextTailRefIdeal.Tail.rows_eq _ _ _ _ _ _ _).trans ?_
      rw [h0, h1, h2, h3, h4, h5, h6]
    · refine (Cert.NextTailRefIdeal.Tail.queries_eq _ _ _ _ _ _ _ _ _).trans ?_
      rw [h0, h1, h2, h3, h4, h5, h6, h7, h8]
    · refine (Cert.NextTailRefIdeal.Tail.gates_eq _ _ _ _ _ _ _ _ _).trans ?_
      rw [h0, h1, h2, h3, h4, h5, h6, h7, h8]

end Cert.Proof.NextTailClaims

end
-- ==== Proof.Front.Math.lean ====
/-
  A head's query or key of one token over the extended reals: the reference's form, and the lanes the call computes.
-/
module

public import Idealize.ShloMosaic.PureOps
public import Idealize.ShloMosaic.Lib.Pointwise

@[expose] public section

noncomputable section

namespace Cert.Front

open Idealize.ShloMosaic

/-- The small term of every root mean square. -/
def small : EReal := Ideal.ofBits .f32 0x358637BD#32

/-- A row over its root mean square, times the row's factors; `c` is the number of the row's entries. -/
def normed {n : ℕ} (c : EReal) (y g : Fin n → EReal) (k : Fin n) : EReal :=
  y k * Ideal.rsqrt (Ideal.div (∑ j, y j * y j) c + small) * g k

/-- A row times a matrix. -/
def proj {n m : ℕ} (h : Fin n → EReal) (W : Fin n → Fin m → EReal) (k : Fin m) : EReal := ∑ j, h j * W j k

/-- The number of a head's lanes, and its square root. -/
def lanes : EReal := Ideal.ofBits .f32 0x42C00000#32
def root : EReal := Ideal.sqrt lanes

/-- The small term under a head's squares not yet divided. -/
def headSmall : EReal := ((26388279 / 274877906944 : ℝ) : EReal)

/-- A head's normalised lanes, the rotary ones turned, over the root, in the 128 lanes of the call's layout. -/
def laid (y g : Fin 96 → EReal) (c s : Fin 16 → EReal) (l : Fin 128) : EReal :=
  if h : l.val < 64 then Ideal.div (normed lanes y g ⟨l.val, by omega⟩) root
  else if h' : l.val < 80 then
    Ideal.div (normed lanes y g ⟨l.val, by omega⟩ * c ⟨l.val - 64, by omega⟩ - normed lanes y g ⟨l.val + 16, by omega⟩ * s ⟨l.val - 64, by omega⟩) root
  else if h'' : l.val < 96 then
    Ideal.div (normed lanes y g ⟨l.val, by omega⟩ * c ⟨l.val - 80, by omega⟩ + normed lanes y g ⟨l.val - 16, by omega⟩ * s ⟨l.val - 80, by omega⟩) root
  else 0

/-- The call's lanes of a head's row: the row, its first rotary half again, and zeros. -/
def spread (y : Fin 96 → EReal) (l : Fin 128) : EReal :=
  if h : l.val < 96 then y ⟨l.val, h⟩ else if h' : l.val < 112 then y ⟨l.val - 32, by omega⟩ else 0

/-- The lanes before the rotary ones, and the others. -/
def front (y : Fin 96 → EReal) (l : Fin 128) : EReal := if h : l.val < 64 then y ⟨l.val, by omega⟩ else 0
def back (y : Fin 96 → EReal) (l : Fin 128) : EReal := if l.val < 64 then 0 else spread y l

/-- The rotary tables' lanes. -/
def cosLanes (c : Fin 16 → EReal) (l : Fin 128) : EReal :=
  if l.val < 64 then 1 else if h : l.val < 80 then c ⟨l.val - 64, by omega⟩ else if h' : l.val < 96 then c ⟨l.val - 80, by omega⟩ else 0
def sinLanes (s : Fin 16 → EReal) (l : Fin 128) : EReal :=
  if l.val < 64 then 0 else if h : l.val < 80 then -s ⟨l.val - 64, by omega⟩ else if h' : l.val < 96 then s ⟨l.val - 80, by omega⟩ else 0

/-- The lane sixteen further on. -/
abbrev further (l : Fin 128) : Fin 128 := ⟨(l.val + 16) % 128, by omega⟩

/-- The call's turned lanes. -/
def turned (Y C S : Fin 128 → EReal) (l : Fin 128) : EReal := Y l * C l + Y (further l) * S l

/-! Sums of squares. -/

theorem sum_part {n N : ℕ} {f : Fin n → EReal} {g : Fin N → EReal} (e : Fin n → Fin N) (he : Function.Injective e)
    (h0 : ∀ i, (∀ j, e j ≠ i) → g i = 0) (h : ∀ j, g (e j) = f j) : ∑ i, g i = ∑ j, f j := by
  symm
  refine Finset.sum_of_injOn e he.injOn (fun _ _ => Finset.mem_coe.mpr (Finset.mem_univ _)) (fun i _ hi => h0 i fun j hj => hi ⟨j, Finset.mem_coe.mpr (Finset.mem_univ _), hj⟩) fun j _ => (h j).symm

/-- The squares of one half of a pair of heads, in the lanes below `n`. -/
theorem pair_squares {n : ℕ} (hn : n ≤ 128) (e : Fin 2) (F : Fin 256 → EReal) (B : Fin 256 → EReal)
    (hB : ∀ a, B a = if a.val / 128 = e.val ∧ a.val % 128 < n then 1 else 0) :
    ∑ a, F a * B a = ∑ l : Fin n, F ⟨128 * e.val + l.val, by omega⟩ := by
  refine sum_part (fun l : Fin n => (⟨128 * e.val + l.val, by omega⟩ : Fin 256)) (fun a b hab => Fin.ext ?_) (fun i hi => ?_) fun l => ?_
  · have := congrArg Fin.val hab
    simp only at this
    omega
  · rw [hB, if_neg, mul_zero]
    rintro ⟨h1, h2⟩
    exact hi ⟨i.val % 128, h2⟩ (Fin.ext (by show 128 * e.val + i.val % 128 = i.val; omega))
  · rw [hB, if_pos, mul_one]
    constructor
    · show (128 * e.val + l.val) / 128 = e.val; omega
    · show (128 * e.val + l.val) % 128 < n; omega

/-- The squares of the lanes before the rotary ones and of the rotary lanes are a head's squares. -/
theorem head_squares (y : Fin 96 → EReal) (K : Fin 128 → EReal) (hK : ∀ l, K l = if l.val < 96 then 1 else 0) :
    (∑ l, front y l * front y l) + ∑ l, back y l * back y l * K l = ∑ j, y j * y j := by
  rw [← Finset.sum_add_distrib]
  refine sum_part (fun j : Fin 96 => (⟨j.val, by omega⟩ : Fin 128)) (fun a b hab => Fin.ext (show a.val = b.val from congrArg (fun i : Fin 128 => i.val) hab)) (fun i hi => ?_) fun j => ?_
  · have h : ¬ i.val < 96 := fun h => hi ⟨i.val, h⟩ rfl
    rw [hK, if_neg h, front, dif_neg (by omega)]
    simp
  · by_cases h : j.val < 64
    · simp [front, back, h]
    · simp [front, back, spread, hK, h]

/-! The norm. -/

theorem lanes_eq : lanes = ((96 : ℝ) : EReal) := by
  unfold lanes
  simp only [Ideal.ofBits, Ideal.ieee]
  simp
  rw [← EReal.coe_mul]
  norm_num

theorem small_eq : small = ((8796093 / 8796093022208 : ℝ) : EReal) := by
  unfold small
  simp only [Ideal.ofBits, Ideal.ieee]
  simp
  rw [← EReal.coe_mul]
  norm_num

theorem root_eq : root = ((Real.sqrt 96 : ℝ) : EReal) := by
  rw [root, lanes_eq, Ideal.sqrt_coe, if_neg (by norm_num)]

theorem square_nonneg (x : EReal) : 0 ≤ x * x := by
  rcases le_total 0 x with h | h
  · exact mul_nonneg h h
  · have := mul_nonneg (EReal.neg_nonneg.mpr h) (EReal.neg_nonneg.mpr h)
    rwa [neg_mul_neg] at this

theorem norm_eq {S : EReal} (hS : 0 ≤ S) :
    ∃ r : ℝ, 0 ≤ r ∧ Ideal.rsqrt (Ideal.div S lanes + small) = (r : EReal) ∧ Ideal.rsqrt (S + headSmall) = ((r * (1 / Real.sqrt 96) : ℝ) : EReal) := by
  rw [lanes_eq, small_eq, headSmall, Ideal.div_coe (by norm_num)]
  induction S using EReal.rec with
  | bot => exact absurd hS (by simp)
  | top =>
    refine ⟨0, le_refl _, ?_, ?_⟩
    · rw [EReal.top_mul_coe_of_pos (by norm_num), EReal.top_add_coe, Ideal.rsqrt_top]; rfl
    · rw [EReal.top_add_coe, Ideal.rsqrt_top, zero_mul]; rfl
  | coe s =>
    have hs : 0 ≤ s := EReal.coe_nonneg.mp hS
    refine ⟨(Real.sqrt (s * (1 / 96) + 8796093 / 8796093022208))⁻¹, by positivity, ?_, ?_⟩
    · have hp : 0 < s * (1 / 96) + 8796093 / 8796093022208 := by positivity
      rw [← EReal.coe_mul, ← EReal.coe_add, Ideal.rsqrt_coe, if_neg hp.le.not_gt, if_neg hp.ne']
    · have h1 : s + 26388279 / 274877906944 = (s * (1 / 96) + 8796093 / 8796093022208) * 96 := by ring
      have hp : 0 < s + 26388279 / 274877906944 := by positivity
      rw [← EReal.coe_add, Ideal.rsqrt_coe, if_neg hp.le.not_gt, if_neg hp.ne', h1, Real.sqrt_mul (by positivity), mul_inv, one_div (Real.sqrt 96)]

/-! The lanes. -/

theorem laid_eq (y g : Fin 96 → EReal) (c s : Fin 16 → EReal) (l : Fin 128) :
    turned (fun l => spread y l * spread g l) (cosLanes c) (sinLanes s) l * Ideal.rsqrt ((∑ j, y j * y j) + headSmall) = laid y g c s l := by
  obtain ⟨r, hr, h1, h2⟩ := norm_eq (S := ∑ j, y j * y j) (Finset.sum_nonneg fun j _ => square_nonneg (y j))
  have hn : ∀ j, normed lanes y g j = (r : EReal) * (y j * g j) := fun j => by
    rw [normed, h1, mul_comm (y j), mul_assoc]
  have hd : ∀ x : EReal, Ideal.div x root = x * ((1 / Real.sqrt 96 : ℝ) : EReal) := fun x => by
    rw [root_eq, Ideal.div_coe (Real.sqrt_pos.mpr (by norm_num)).ne']
  have hadd : ∀ a b : EReal, (r : EReal) * (a + b) = r * a + r * b := fun a b =>
    EReal.left_distrib_of_nonneg_of_ne_top (EReal.coe_nonneg.mpr hr) (EReal.coe_ne_top r) a b
  have hf : ∀ z : EReal, z * ((r * (1 / Real.sqrt 96) : ℝ) : EReal) = r * z * ((1 / Real.sqrt 96 : ℝ) : EReal) := fun z => by
    rw [EReal.coe_mul, ← mul_assoc, mul_comm z]
  rw [h2, hf]
  by_cases a : l.val < 64
  · have a' : l.val < 96 := by omega
    simp only [laid, turned, cosLanes, sinLanes, spread, a, a', dif_pos, if_pos, hn, hd, mul_one, mul_zero, add_zero]
  by_cases b : l.val < 80
  · have b' : l.val < 96 := by omega
    have e : (further l).val = l.val + 16 := by show (l.val + 16) % 128 = _; omega
    have b'' : (further l).val < 96 := by omega
    have e' : (⟨(further l).val, b''⟩ : Fin 96) = ⟨l.val + 16, by omega⟩ := Fin.ext e
    simp only [laid, turned, cosLanes, sinLanes, spread, a, b, b', b'', dif_pos, if_pos, if_neg, dif_neg, not_false_eq_true, hn, hd, e', hadd]
    rw [sub_eq_add_neg, mul_neg, mul_neg, mul_assoc (r : EReal), mul_assoc (r : EReal)]
  by_cases d : l.val < 96
  · have e : (further l).val = l.val + 16 := by show (l.val + 16) % 128 = _; omega
    have d' : ¬ (further l).val < 96 := by omega
    have d'' : (further l).val < 112 := by omega
    have e' : (⟨(further l).val - 32, by omega⟩ : Fin 96) = ⟨l.val - 16, by omega⟩ := Fin.ext (show (further l).val - 32 = l.val - 16 by omega)
    simp only [laid, turned, cosLanes, sinLanes, spread, a, b, d, d', d'', dif_pos, if_pos, if_neg, dif_neg, not_false_eq_true, hn, hd, e', hadd]
    rw [mul_assoc (r : EReal), mul_assoc (r : EReal)]
  · simp only [laid, turned, cosLanes, sinLanes, a, b, d, if_neg, dif_neg, not_false_eq_true, mul_zero, add_zero, zero_mul]

/-- A key's lanes: the lanes before the rotary ones beside the turned others. -/
theorem key_lanes (y g : Fin 96 → EReal) (c s : Fin 16 → EReal) (l : Fin 128) :
    front y l * spread g l + turned (fun l => back y l * spread g l) (cosLanes c) (sinLanes s) l
      = turned (fun l => spread y l * spread g l) (cosLanes c) (sinLanes s) l := by
  by_cases a : l.val < 64
  · have a' : l.val < 96 := by omega
    simp only [turned, cosLanes, sinLanes, front, back, spread, a, a', dif_pos, if_pos, mul_one, mul_zero, add_zero, zero_mul]
  · by_cases d : l.val < 96
    · have e : (further l).val = l.val + 16 := by show (l.val + 16) % 128 = _; omega
      have e' : ¬ (further l).val < 64 := by omega
      simp only [turned, front, back, a, e', if_neg, dif_neg, not_false_eq_true, zero_mul, zero_add]
    · have b : ¬ l.val < 80 := by omega
      simp only [turned, cosLanes, sinLanes, front, a, b, d, if_neg, dif_neg, not_false_eq_true, mul_zero, add_zero, zero_mul]

theorem query_laid (y g : Fin 96 → EReal) (c s : Fin 16 → EReal) (S : EReal) (hS : S = ∑ j, y j * y j) (l : Fin 128) :
    turned (fun l => spread y l * spread g l) (cosLanes c) (sinLanes s) l * Ideal.rsqrt (S + headSmall) = laid y g c s l := by
  rw [hS, laid_eq]

theorem key_laid (y g : Fin 96 → EReal) (c s : Fin 16 → EReal) (K : Fin 128 → EReal) (hK : ∀ l, K l = if l.val < 96 then 1 else 0) (S : EReal)
    (hS : S = ∑ l, front y l * front y l) (l : Fin 128) :
    (front y l * spread g l + turned (fun l => back y l * spread g l) (cosLanes c) (sinLanes s) l) * Ideal.rsqrt (S + ((∑ l, back y l * back y l * K l) + headSmall))
      = laid y g c s l := by
  rw [key_lanes, ← add_assoc, hS, head_squares y K hK, laid_eq]

/-! The call's lanes of one head of a pair. -/

/-- A head of a pair's first lane and on. -/
abbrev lane (e : Fin 2) (l : Fin 128) : Fin 256 := ⟨128 * e.val + l.val, by omega⟩

/-- A query's lane: `p` is the row of the pair of heads. -/
def queryLane (e : Fin 2) (p : Fin 256 → EReal) (g C S : Fin 128 → EReal) (l : Fin 128) : EReal :=
  turned (fun l => p (lane e l) * g l) C S l * Ideal.rsqrt ((∑ a : Fin 256, p a * p a * (if a.val / 128 = e.val ∧ a.val % 128 < 96 then 1 else 0)) + headSmall)

/-- A key's lane: `p` is the pair's lanes before the rotary ones and `b` the rotary lanes. -/
def keyLane (e : Fin 2) (p : Fin 256 → EReal) (b g K C S : Fin 128 → EReal) (l : Fin 128) : EReal :=
  (p (lane e l) * g l + turned (fun l => b l * g l) C S l)
    * Ideal.rsqrt ((∑ a : Fin 256, p a * p a * (if a.val / 128 = e.val then 1 else 0)) + ((∑ l, b l * b l * K l) + headSmall))

theorem queryLane_eq (e : Fin 2) (p : Fin 256 → EReal) (g C S : Fin 128 → EReal) (y f : Fin 96 → EReal) (c s : Fin 16 → EReal)
    (hp : ∀ l, p (lane e l) = spread y l) (hg : ∀ l, g l = spread f l) (hC : ∀ l, C l = cosLanes c l) (hS : ∀ l, S l = sinLanes s l) (l : Fin 128) :
    queryLane e p g C S l = laid y f c s l := by
  obtain rfl : g = spread f := funext hg
  obtain rfl : C = cosLanes c := funext hC
  obtain rfl : S = sinLanes s := funext hS
  rw [queryLane]
  simp only [hp]
  refine query_laid y f c s _ ?_ l
  rw [pair_squares (n := 96) (by omega) e _ _ fun a => rfl]
  refine Finset.sum_congr rfl fun j _ => ?_
  have h := hp ⟨j.val, by omega⟩
  rw [spread, dif_pos j.isLt] at h
  exact congrArg (fun z => z * z) h

theorem keyLane_eq (e : Fin 2) (p : Fin 256 → EReal) (b g K C S : Fin 128 → EReal) (y f : Fin 96 → EReal) (c s : Fin 16 → EReal)
    (hp : ∀ l, p (lane e l) = front y l) (hb : ∀ l, b l = back y l) (hg : ∀ l, g l = spread f l) (hK : ∀ l, K l = if l.val < 96 then 1 else 0)
    (hC : ∀ l, C l = cosLanes c l) (hS : ∀ l, S l = sinLanes s l) (l : Fin 128) :
    keyLane e p b g K C S l = laid y f c s l := by
  obtain rfl : b = back y := funext hb
  obtain rfl : g = spread f := funext hg
  obtain rfl : C = cosLanes c := funext hC
  obtain rfl : S = sinLanes s := funext hS
  rw [keyLane]
  simp only [hp]
  refine key_laid y f c s K hK _ ?_ l
  rw [pair_squares (n := 128) (by omega) e _ _ fun a => if_congr (by have := Nat.mod_lt a.val (show 0 < 128 by norm_num); tauto) rfl rfl]
  exact Finset.sum_congr rfl fun j _ => congrArg (fun z => z * z) (hp j)

/-! The call's rows before the heads. -/

/-- The normalised row, the two latent rows, and the shared rotary lanes. -/
def hidRow (x n : Fin 1024 → EReal) : Fin 1024 → EReal := normed (Ideal.ofBits .f32 0x44800000#32) x n
def latRow (x n : Fin 1024 → EReal) (W : Fin 1024 → Fin 256 → EReal) (f : Fin 256 → EReal) : Fin 256 → EReal :=
  normed (Ideal.ofBits .f32 0x43800000#32) (proj (hidRow x n) W) f
def queryLatRow (x n : Fin 1024 → EReal) (W : Fin 1024 → Fin 512 → EReal) (f : Fin 384 → EReal) : Fin 384 → EReal :=
  normed (Ideal.ofBits .f32 0x43C00000#32) (fun l => proj (hidRow x n) W ⟨l.val, by omega⟩) f
def backRow (x n : Fin 1024 → EReal) (W : Fin 1024 → Fin 512 → EReal) (l : Fin 128) : EReal := proj (hidRow x n) W ⟨384 + l.val, by omega⟩

end Cert.Front

end
-- ==== Proof.Front.Rows.lean ====
/-
  The projection call's stages on a group of rows, each read at a row.
-/
module

public import proofs.«01_k».proof.Proof.Front.Math
public import proofs.«01_k».proof.Proof.Gen.FrontIdeal.Value

@[expose] public section

set_option maxRecDepth 16384

noncomputable section

namespace Cert.FrontIdeal.Rows

open Cert.FrontIdeal Cert.FrontIdeal.Gen Idealize.ShloMosaic Idealize.ShloMosaic.TcCoe Idealize.SL.Sem
open Cert.Front

/-! A normalised row. -/

def normOf (y : FVec Ideal S256x1024 .f32) (n : Vec Ideal S1x1024 .f32) : FVec Ideal S256x1024 .bf16 :=
  truncf .bf16 (mulf (mulf y (broadcastTo S256x1024 (rsqrt (addf (divf (shapeCast S256x1 (multiReduction .add [1] S256 (mulf y y) 0x00000000#32 reduces_S256x1024_S256 (.inl rfl) rfl) shapeCasts_S256_S256x1)
    (broadcast S256x1 (Scalar.ofBits .f32 0x44800000#32))) (broadcast S256x1 (Scalar.ofBits .f32 0x358637BD#32)))) broadcasts_S256x1_S256x1024))
    (broadcastTo S256x1024 (shapeCast S1x1024 n shapeCasts_S1x1024_S1x1024) broadcasts_S1x1024_S256x1024)) bitsLt_bf16_f32

theorem normOf_apply (y : FVec Ideal S256x1024 .f32) (n : Vec Ideal S1x1024 .f32) (r : Fin 256) (k : Fin 1024) :
    normOf y n (ix2 r k) = normed (Ideal.ofBits .f32 0x44800000#32) (fun j => y (ix2 r j)) (fun j => n (ix2 0 j)) k := by
  pointwise [normOf]
  rfl

def normQ (y : FVec Ideal S256x384 .f32) (n : Vec Ideal S1x384 .f32) : FVec Ideal S256x384 .bf16 :=
  truncf .bf16 (mulf (mulf y (broadcastTo S256x384 (rsqrt (addf (divf (shapeCast S256x1 (multiReduction .add [1] S256 (mulf y y) 0x00000000#32 reduces_S256x384_S256 (.inl rfl) rfl) shapeCasts_S256_S256x1)
    (broadcast S256x1 (Scalar.ofBits .f32 0x43C00000#32))) (broadcast S256x1 (Scalar.ofBits .f32 0x358637BD#32)))) broadcasts_S256x1_S256x384))
    (broadcastTo S256x384 (shapeCast S1x384 n shapeCasts_S1x384_S1x384) broadcasts_S1x384_S256x384)) bitsLt_bf16_f32

theorem normQ_apply (y : FVec Ideal S256x384 .f32) (n : Vec Ideal S1x384 .f32) (r : Fin 256) (k : Fin 384) :
    normQ y n (ix2 r k) = normed (Ideal.ofBits .f32 0x43C00000#32) (fun j => y (ix2 r j)) (fun j => n (ix2 0 j)) k := by
  pointwise [normQ]
  rfl

def normKV (y : FVec Ideal S256x256 .f32) (n : Vec Ideal S1x256 .f32) : FVec Ideal S256x256 .bf16 :=
  truncf .bf16 (mulf (mulf y (broadcastTo S256x256 (rsqrt (addf (divf (shapeCast S256x1 (multiReduction .add [1] S256 (mulf y y) 0x00000000#32 reduces_S256x256_S256 (.inl rfl) rfl) shapeCasts_S256_S256x1)
    (broadcast S256x1 (Scalar.ofBits .f32 0x43800000#32))) (broadcast S256x1 (Scalar.ofBits .f32 0x358637BD#32)))) broadcasts_S256x1_S256x256))
    (broadcastTo S256x256 (shapeCast S1x256 n shapeCasts_S1x256_S1x256) broadcasts_S1x256_S256x256)) bitsLt_bf16_f32

theorem normKV_apply (y : FVec Ideal S256x256 .f32) (n : Vec Ideal S1x256 .f32) (r : Fin 256) (k : Fin 256) :
    normKV y n (ix2 r k) = normed (Ideal.ofBits .f32 0x43800000#32) (fun j => y (ix2 r j)) (fun j => n (ix2 0 j)) k := by
  pointwise [normKV]
  rfl

/-! Products. -/

def mulJoint (y : FVec Ideal S256x1024 .bf16) (w : Vec Ideal S1024x512 .bf16) : FVec Ideal S256x512 .f32 :=
  matmul dot_S256x1024_S1024x512_S256x512_1_0_0_1_n_n none y (shapeCast S1024x512 w shapeCasts_S1024x512_S1024x512 : FVec Ideal S1024x512 .bf16) (constant S256x512 .f32 0x00000000#32)

theorem mulJoint_apply (y : FVec Ideal S256x1024 .bf16) (w : Vec Ideal S1024x512 .bf16) (r : Fin 256) (k : Fin 512) :
    mulJoint y w (ix2 r k) = proj (fun j => y (ix2 r j)) (fun j k => w (ix2 j k)) k := by
  pointwise [mulJoint]
  rfl

def mulKV (y : FVec Ideal S256x1024 .bf16) (w : Vec Ideal S1024x256 .bf16) : FVec Ideal S256x256 .f32 :=
  matmul dot_S256x1024_S1024x256_S256x256_1_0_0_1_n_n none y (shapeCast S1024x256 w shapeCasts_S1024x256_S1024x256 : FVec Ideal S1024x256 .bf16) (constant S256x256 .f32 0x00000000#32)

theorem mulKV_apply (y : FVec Ideal S256x1024 .bf16) (w : Vec Ideal S1024x256 .bf16) (r : Fin 256) (k : Fin 256) :
    mulKV y w (ix2 r k) = proj (fun j => y (ix2 r j)) (fun j k => w (ix2 j k)) k := by
  pointwise [mulKV]
  rfl

def mulGate (y : FVec Ideal S256x1024 .bf16) (w : Vec Ideal S1024x1024 .bf16) : FVec Ideal S256x1024 .f32 :=
  matmul dot_S256x1024_S1024x1024_S256x1024_1_0_0_1_n_n none y (shapeCast S1024x1024 w shapeCasts_S1024x1024_S1024x1024 : FVec Ideal S1024x1024 .bf16) (constant S256x1024 .f32 0x00000000#32)

theorem mulGate_apply (y : FVec Ideal S256x1024 .bf16) (w : Vec Ideal S1024x1024 .bf16) (r : Fin 256) (k : Fin 1024) :
    mulGate y w (ix2 r k) = proj (fun j => y (ix2 r j)) (fun j k => w (ix2 j k)) k := by
  pointwise [mulGate]
  rfl

def mulQ (y : FVec Ideal S256x384 .bf16) (w : Vec Ideal S384x256 .bf16) : FVec Ideal S256x256 .f32 :=
  matmul dot_S256x384_S384x256_S256x256_1_0_0_1_n_n none y (shapeCast S384x256 w shapeCasts_S384x256_S384x256 : FVec Ideal S384x256 .bf16) (constant S256x256 .f32 0x00000000#32)

theorem mulQ_apply (y : FVec Ideal S256x384 .bf16) (w : Vec Ideal S384x256 .bf16) (r : Fin 256) (k : Fin 256) :
    mulQ y w (ix2 r k) = proj (fun j => y (ix2 r j)) (fun j k => w (ix2 j k)) k := by
  pointwise [mulQ]
  rfl

def mulK (y : FVec Ideal S256x256 .bf16) (w : Vec Ideal S256x256 .bf16) : FVec Ideal S256x256 .f32 :=
  matmul dot_S256x256_S256x256_S256x256_1_0_0_1_n_n none y (shapeCast S256x256 w shapeCasts_S256x256_S256x256 : FVec Ideal S256x256 .bf16) (constant S256x256 .f32 0x00000000#32)

theorem mulK_apply (y : FVec Ideal S256x256 .bf16) (w : Vec Ideal S256x256 .bf16) (r : Fin 256) (k : Fin 256) :
    mulK y w (ix2 r k) = proj (fun j => y (ix2 r j)) (fun j k => w (ix2 j k)) k := by
  pointwise [mulK]
  rfl

def mulV (y : FVec Ideal S256x256 .bf16) (w : Vec Ideal S256x2048 .bf16) : FVec Ideal S256x2048 .f32 :=
  matmul dot_S256x256_S256x2048_S256x2048_1_0_0_1_n_n none y (shapeCast S256x2048 w shapeCasts_S256x2048_S256x2048 : FVec Ideal S256x2048 .bf16) (constant S256x2048 .f32 0x00000000#32)

theorem mulV_apply (y : FVec Ideal S256x256 .bf16) (w : Vec Ideal S256x2048 .bf16) (r : Fin 256) (k : Fin 2048) :
    mulV y w (ix2 r k) = proj (fun j => y (ix2 r j)) (fun j k => w (ix2 j k)) k := by
  pointwise [mulV]
  rfl

/-! The ones of a head's lanes. -/

def rowIx : IVec S256x256 32 := iota .tc S256x256 32 [0] iota_S256x256_d0_w32
def colIx : IVec S256x256 32 := iota .tc S256x256 32 [1] iota_S256x256_d1_w32

def rowHead : IVec S256x256 32 := (select (andi (cmpi .ne (subi (extui 32 (cmpi .sgt rowIx (broadcast S256x256 0#32)) natLt_1_32) (extui 32 (cmpi .slt rowIx (broadcast S256x256 0#32)) natLt_1_32))
        (broadcast S256x256 (Scalar.subi (Scalar.extui (Scalar.cmpi .sgt 128#32 0#32)) (Scalar.extui (Scalar.cmpi .slt 128#32 0#32)))))
      (cmpi .ne (remsi rowIx (broadcast S256x256 128#32)) (broadcast S256x256 0#32)))
    (subi (divsi rowIx (broadcast S256x256 128#32)) (broadcast S256x256 1#32)) (divsi rowIx (broadcast S256x256 128#32)))
def colHead : IVec S256x256 32 := (select (andi (cmpi .ne (subi (extui 32 (cmpi .sgt colIx (broadcast S256x256 0#32)) natLt_1_32) (extui 32 (cmpi .slt colIx (broadcast S256x256 0#32)) natLt_1_32))
        (broadcast S256x256 (Scalar.subi (Scalar.extui (Scalar.cmpi .sgt 128#32 0#32)) (Scalar.extui (Scalar.cmpi .slt 128#32 0#32)))))
      (cmpi .ne (remsi colIx (broadcast S256x256 128#32)) (broadcast S256x256 0#32)))
    (subi (divsi colIx (broadcast S256x256 128#32)) (broadcast S256x256 1#32)) (divsi colIx (broadcast S256x256 128#32)))

def onesK : FVec Ideal S256x256 .bf16 :=
  truncf .bf16 (select (cmpi .eq rowHead colHead) (broadcast S256x256 (Scalar.ofBits .f32 0x3F800000#32)) (broadcast S256x256 (Scalar.ofBits .f32 0x00000000#32))) bitsLt_bf16_f32

def onesQ : FVec Ideal S256x256 .bf16 :=
  truncf .bf16 (select (andi (cmpi .eq rowHead colHead) (cmpi .slt (andi rowIx (broadcast S256x256 127#32)) (broadcast S256x256 96#32)))
    (broadcast S256x256 (Scalar.ofBits .f32 0x3F800000#32)) (broadcast S256x256 (Scalar.ofBits .f32 0x00000000#32))) bitsLt_bf16_f32

theorem rowHead_apply (a b : Fin 256) : rowHead (ix2 a b) = BitVec.ofNat 32 (a.val / 128) := by
  pointwise [rowHead, rowIx]
  revert a
  decide +kernel

theorem colHead_apply (a b : Fin 256) : colHead (ix2 a b) = BitVec.ofNat 32 (b.val / 128) := by
  pointwise [colHead, colIx]
  revert b
  decide +kernel

theorem same_head (a b : Fin 256) : IntOp.cmpi CmpIPredicate.eq (BitVec.ofNat 32 (a.val / 128)) (BitVec.ofNat 32 (b.val / 128)) = if a.val / 128 = b.val / 128 then 1#1 else 0#1 := by
  by_cases h : a.val / 128 = b.val / 128
  · rw [if_pos h, h]
    simp [IntOp.cmpi]
  · have e : BitVec.ofNat 32 (a.val / 128) ≠ BitVec.ofNat 32 (b.val / 128) := fun e => h (by
      have := congrArg BitVec.toNat e
      simp only [BitVec.toNat_ofNat] at this
      omega)
    rw [if_neg h]
    simp only [IntOp.cmpi, beq_eq_false_iff_ne.mpr e]
    rfl

theorem onesK_apply (a b : Fin 256) : onesK (ix2 a b) = if a.val / 128 = b.val / 128 then (1 : EReal) else 0 := by
  have ha := rowHead_apply a b
  have hb := colHead_apply a b
  unfold onesK
  generalize rowHead = R at *
  generalize colHead = C at *
  pointwise
  rw [ha, hb, same_head]
  by_cases h : a.val / 128 = b.val / 128
  · simp [h, Scalar.select]
  · simp [h, Scalar.select]

def realLane : IVec S256x256 1 := cmpi .slt (andi rowIx (broadcast S256x256 127#32)) (broadcast S256x256 96#32)

theorem realLane_apply (a b : Fin 256) : realLane (ix2 a b) = if a.val % 128 < 96 then 1#1 else 0#1 := by
  pointwise [realLane, rowIx]
  revert a
  decide +kernel

theorem onesQ_apply (a b : Fin 256) : onesQ (ix2 a b) = if a.val / 128 = b.val / 128 ∧ a.val % 128 < 96 then (1 : EReal) else 0 := by
  have ha := rowHead_apply a b
  have hb := colHead_apply a b
  have hl := realLane_apply a b
  unfold onesQ
  rw [← realLane]
  generalize rowHead = R at *
  generalize colHead = C at *
  generalize realLane = L at *
  pointwise
  rw [ha, hb, hl, same_head]
  by_cases h : a.val / 128 = b.val / 128 <;> by_cases h' : a.val % 128 < 96 <;> simp [h, h', Scalar.select, IntOp.andi]

/-! The parts of a joint product, of a pair of heads, and of the tables. -/

def backOf (j : FVec Ideal S256x512 .f32) : FVec Ideal S256x128 .f32 := extractStridedSlice S256x128 ![0, 384] j slices_S256x512_o0_384_S256x128
theorem backOf_apply (j : FVec Ideal S256x512 .f32) (r : Fin 256) (l : Fin 128) : backOf j (ix2 r l) = j (ix2 r ⟨384 + l.val, by omega⟩) := by
  pointwise [backOf]

def cqOf (j : FVec Ideal S256x512 .f32) : FVec Ideal S256x384 .f32 := extractStridedSlice S256x384 ![0, 0] j slices_S256x512_o0_0_S256x384
theorem cqOf_apply (j : FVec Ideal S256x512 .f32) (r : Fin 256) (l : Fin 384) : cqOf j (ix2 r l) = j (ix2 r ⟨l.val, by omega⟩) := by
  pointwise [cqOf]

def row128 (g : Vec Ideal S1x128 .f32) : FVec Ideal S256x128 .f32 := broadcastTo S256x128 (shapeCast S1x128 g shapeCasts_S1x128_S1x128 : FVec Ideal S1x128 .f32) broadcasts_S1x128_S256x128
theorem row128_apply (g : Vec Ideal S1x128 .f32) (r : Fin 256) (l : Fin 128) : row128 g (ix2 r l) = g (ix2 0 l) := by
  pointwise [row128]

def turnOf (y : FVec Ideal S256x128 .f32) (C S : Vec Ideal S256x128 .f32) : FVec Ideal S256x128 .f32 :=
  addf (mulf y (shapeCast S256x128 C shapeCasts_S256x128_S256x128 : FVec Ideal S256x128 .f32)) (mulf (dynamicRotate 1 112#32 none y rotates_S256x128_d1) (shapeCast S256x128 S shapeCasts_S256x128_S256x128 : FVec Ideal S256x128 .f32))
theorem turnOf_apply (y : FVec Ideal S256x128 .f32) (C S : Vec Ideal S256x128 .f32) (r : Fin 256) (l : Fin 128) :
    turnOf y C S (ix2 r l) = turned (fun l => y (ix2 r l)) (fun l => C (ix2 r l)) (fun l => S (ix2 r l)) l := by
  pointwise [turnOf]
  rfl

def squaresOf (p : FVec Ideal S256x256 .f32) (o : FVec Ideal S256x256 .bf16) : FVec Ideal S256x256 .f32 :=
  matmul dot_S256x256_S256x256_S256x256_1_0_0_1_n_n none (truncf .bf16 (mulf p p) bitsLt_bf16_f32) o (constant S256x256 .f32 0x00000000#32)
theorem squaresOf_apply (p : FVec Ideal S256x256 .f32) (o : FVec Ideal S256x256 .bf16) (r k : Fin 256) :
    squaresOf p o (ix2 r k) = (∑ a : Fin 256, p (ix2 r a) * p (ix2 r a) * o (ix2 a k) : EReal) := by
  pointwise [squaresOf]

theorem head_small : Named.named (F := Ideal) κ "head_eps" (φ := .f32) 0x38C9539C#32 = headSmall := IdealRules.named_const.ideal_named_scalar _ _ _ _ rfl

def backSq (b : FVec Ideal S256x128 .f32) (K : Vec Ideal S1x128 .f32) : FVec Ideal S256x1 .f32 :=
  addf (shapeCast S256x1 (multiReduction .add [1] S256 (mulf (mulf b b) (row128 K)) 0x00000000#32 reduces_S256x128_S256 (.inl rfl) rfl) shapeCasts_S256_S256x1)
    (broadcast S256x1 (Named.named κ "head_eps" 0x38C9539C#32))
theorem backSq_apply (b : FVec Ideal S256x128 .f32) (K : Vec Ideal S1x128 .f32) (r : Fin 256) :
    backSq b K (ix2 r 0) = ((∑ l : Fin 128, b (ix2 r l) * b (ix2 r l) * K (ix2 0 l)) + headSmall : EReal) := by
  pointwise [backSq, row128]
  rw [head_small]

def halfFirst (p : FVec Ideal S256x256 .f32) : FVec Ideal S256x128 .f32 := extractStridedSlice S256x128 ![0, 0] p slices_S256x256_o0_0_S256x128
theorem halfFirst_apply (p : FVec Ideal S256x256 .f32) (r : Fin 256) (l : Fin 128) : halfFirst p (ix2 r l) = p (ix2 r (lane 0 l)) := by
  unfold halfFirst
  refine (by pointwise : _ = p (ix2 r ⟨0 + l.val, by omega⟩)).trans (congrArg p (congrArg (ix2 r) (Fin.ext (by show 0 + l.val = 128 * 0 + l.val; omega))))

def keyFirst (p : FVec Ideal S256x256 .f32) (b : FVec Ideal S256x128 .f32) (g K : Vec Ideal S1x128 .f32) (C S : Vec Ideal S256x128 .f32) : FVec Ideal S256x128 .bf16 :=
  truncf .bf16 (mulf (addf (mulf (halfFirst p) (row128 g)) (turnOf (mulf b (row128 g)) C S))
    (rsqrt (addf (halfFirst (squaresOf p onesK)) (broadcastTo S256x128 (backSq b K) broadcasts_S256x1_S256x128)))) bitsLt_bf16_f32
theorem keyFirst_apply (p : FVec Ideal S256x256 .f32) (b : FVec Ideal S256x128 .f32) (g K : Vec Ideal S1x128 .f32) (C S : Vec Ideal S256x128 .f32) (r : Fin 256) (l : Fin 128) :
    keyFirst p b g K C S (ix2 r l) = keyLane 0 (fun a => p (ix2 r a)) (fun l => b (ix2 r l)) (fun l => g (ix2 0 l)) (fun l => K (ix2 0 l)) (fun l => C (ix2 r l)) (fun l => S (ix2 r l)) l := by
  have h1 := halfFirst_apply p r l
  have h2 := row128_apply g r l
  have h3 := turnOf_apply (mulf b (row128 g)) C S r l
  have h4 := halfFirst_apply (squaresOf p onesK) r l
  rw [squaresOf_apply] at h4
  have h5 := backSq_apply b K r
  have h6 : ∀ l, (mulf b (row128 g)) (ix2 r l) = (b (ix2 r l) * g (ix2 0 l) : EReal) := fun l => congrArg (fun z : EReal => (b (ix2 r l) : EReal) * z) (row128_apply g r l)
  unfold keyFirst
  generalize halfFirst (squaresOf p onesK) = A4 at *
  generalize halfFirst p = A1 at *
  generalize turnOf (mulf b (row128 g)) C S = A3 at *
  generalize row128 g = A2 at *
  generalize backSq b K = A5 at *
  pointwise
  rw [h1, h2, h3, h4, h5]
  simp only [h6]
  have h7 : ∀ a : Fin 256, onesK (ix2 a (lane 0 l)) = if a.val / 128 = 0 then (1 : EReal) else 0 := fun a => by
    rw [onesK_apply, show (lane 0 l).val / 128 = 0 from by show (128 * 0 + l.val) / 128 = 0; omega]
  simp only [h7]
  rfl

def queryFirst (p : FVec Ideal S256x256 .f32) (g : Vec Ideal S1x128 .f32) (C S : Vec Ideal S256x128 .f32) : FVec Ideal S256x128 .bf16 :=
  truncf .bf16 (mulf (turnOf (mulf (halfFirst p) (row128 g)) C S)
    (rsqrt (addf (halfFirst (squaresOf p onesQ)) (broadcast S256x128 (Named.named κ "head_eps" 0x38C9539C#32))))) bitsLt_bf16_f32
theorem queryFirst_apply (p : FVec Ideal S256x256 .f32) (g : Vec Ideal S1x128 .f32) (C S : Vec Ideal S256x128 .f32) (r : Fin 256) (l : Fin 128) :
    queryFirst p g C S (ix2 r l) = queryLane 0 (fun a => p (ix2 r a)) (fun l => g (ix2 0 l)) (fun l => C (ix2 r l)) (fun l => S (ix2 r l)) l := by
  have h3 := turnOf_apply (mulf (halfFirst p) (row128 g)) C S r l
  have h4 := halfFirst_apply (squaresOf p onesQ) r l
  rw [squaresOf_apply] at h4
  have h6 : ∀ l, (mulf (halfFirst p) (row128 g)) (ix2 r l) = (p (ix2 r (lane 0 l)) * g (ix2 0 l) : EReal) := fun l => congrArg₂ (fun y z : EReal => y * z) (halfFirst_apply p r l) (row128_apply g r l)
  unfold queryFirst
  generalize halfFirst (squaresOf p onesQ) = A4 at *
  generalize turnOf (mulf (halfFirst p) (row128 g)) C S = A3 at *
  pointwise
  rw [h3, h4, head_small]
  simp only [h6]
  have h7 : ∀ a : Fin 256, onesQ (ix2 a (lane 0 l)) = if a.val / 128 = 0 ∧ a.val % 128 < 96 then (1 : EReal) else 0 := fun a => by
    rw [onesQ_apply, show (lane 0 l).val / 128 = 0 from by show (128 * 0 + l.val) / 128 = 0; omega]
  simp only [h7]
  rfl

def halfSecond (p : FVec Ideal S256x256 .f32) : FVec Ideal S256x128 .f32 := extractStridedSlice S256x128 ![0, 128] p slices_S256x256_o0_128_S256x128
theorem halfSecond_apply (p : FVec Ideal S256x256 .f32) (r : Fin 256) (l : Fin 128) : halfSecond p (ix2 r l) = p (ix2 r (lane 1 l)) := by
  unfold halfSecond
  refine (by pointwise : _ = p (ix2 r ⟨128 + l.val, by omega⟩)).trans (congrArg p (congrArg (ix2 r) (Fin.ext (by show 128 + l.val = 128 * 1 + l.val; omega))))

def keySecond (p : FVec Ideal S256x256 .f32) (b : FVec Ideal S256x128 .f32) (g K : Vec Ideal S1x128 .f32) (C S : Vec Ideal S256x128 .f32) : FVec Ideal S256x128 .bf16 :=
  truncf .bf16 (mulf (addf (mulf (halfSecond p) (row128 g)) (turnOf (mulf b (row128 g)) C S))
    (rsqrt (addf (halfSecond (squaresOf p onesK)) (broadcastTo S256x128 (backSq b K) broadcasts_S256x1_S256x128)))) bitsLt_bf16_f32
theorem keySecond_apply (p : FVec Ideal S256x256 .f32) (b : FVec Ideal S256x128 .f32) (g K : Vec Ideal S1x128 .f32) (C S : Vec Ideal S256x128 .f32) (r : Fin 256) (l : Fin 128) :
    keySecond p b g K C S (ix2 r l) = keyLane 1 (fun a => p (ix2 r a)) (fun l => b (ix2 r l)) (fun l => g (ix2 0 l)) (fun l => K (ix2 0 l)) (fun l => C (ix2 r l)) (fun l => S (ix2 r l)) l := by
  have h1 := halfSecond_apply p r l
  have h2 := row128_apply g r l
  have h3 := turnOf_apply (mulf b (row128 g)) C S r l
  have h4 := halfSecond_apply (squaresOf p onesK) r l
  rw [squaresOf_apply] at h4
  have h5 := backSq_apply b K r
  have h6 : ∀ l, (mulf b (row128 g)) (ix2 r l) = (b (ix2 r l) * g (ix2 0 l) : EReal) := fun l => congrArg (fun z : EReal => (b (ix2 r l) : EReal) * z) (row128_apply g r l)
  unfold keySecond
  generalize halfSecond (squaresOf p onesK) = A4 at *
  generalize halfSecond p = A1 at *
  generalize turnOf (mulf b (row128 g)) C S = A3 at *
  generalize row128 g = A2 at *
  generalize backSq b K = A5 at *
  pointwise
  rw [h1, h2, h3, h4, h5]
  simp only [h6]
  have h7 : ∀ a : Fin 256, onesK (ix2 a (lane 1 l)) = if a.val / 128 = 1 then (1 : EReal) else 0 := fun a => by
    rw [onesK_apply, show (lane 1 l).val / 128 = 1 from by show (128 * 1 + l.val) / 128 = 1; omega]
  simp only [h7]
  rfl

def querySecond (p : FVec Ideal S256x256 .f32) (g : Vec Ideal S1x128 .f32) (C S : Vec Ideal S256x128 .f32) : FVec Ideal S256x128 .bf16 :=
  truncf .bf16 (mulf (turnOf (mulf (halfSecond p) (row128 g)) C S)
    (rsqrt (addf (halfSecond (squaresOf p onesQ)) (broadcast S256x128 (Named.named κ "head_eps" 0x38C9539C#32))))) bitsLt_bf16_f32
theorem querySecond_apply (p : FVec Ideal S256x256 .f32) (g : Vec Ideal S1x128 .f32) (C S : Vec Ideal S256x128 .f32) (r : Fin 256) (l : Fin 128) :
    querySecond p g C S (ix2 r l) = queryLane 1 (fun a => p (ix2 r a)) (fun l => g (ix2 0 l)) (fun l => C (ix2 r l)) (fun l => S (ix2 r l)) l := by
  have h3 := turnOf_apply (mulf (halfSecond p) (row128 g)) C S r l
  have h4 := halfSecond_apply (squaresOf p onesQ) r l
  rw [squaresOf_apply] at h4
  have h6 : ∀ l, (mulf (halfSecond p) (row128 g)) (ix2 r l) = (p (ix2 r (lane 1 l)) * g (ix2 0 l) : EReal) := fun l => congrArg₂ (fun y z : EReal => y * z) (halfSecond_apply p r l) (row128_apply g r l)
  unfold querySecond
  generalize halfSecond (squaresOf p onesQ) = A4 at *
  generalize turnOf (mulf (halfSecond p) (row128 g)) C S = A3 at *
  pointwise
  rw [h3, h4, head_small]
  simp only [h6]
  have h7 : ∀ a : Fin 256, onesQ (ix2 a (lane 1 l)) = if a.val / 128 = 1 ∧ a.val % 128 < 96 then (1 : EReal) else 0 := fun a => by
    rw [onesQ_apply, show (lane 1 l).val / 128 = 1 from by show (128 * 1 + l.val) / 128 = 1; omega]
  simp only [h7]
  rfl

end Cert.FrontIdeal.Rows

end
-- ==== Proof.Front.Out.lean ====
/-
  What a point writes: the queries, keys, values and gates of its rows.
-/
module

public import proofs.«01_k».proof.Proof.Front.Rows
public import proofs.«01_k».proof.Proof.Tail.Math

@[expose] public section

set_option maxRecDepth 16384

noncomputable section

namespace Cert.FrontIdeal.Rows

open Cert.FrontIdeal Cert.FrontIdeal.Gen Idealize.ShloMosaic Idealize.ShloMosaic.TcCoe Idealize.SL.Sem
open Cert.Front

/-! A group's stages from the arrays it reads. -/

def latOf (x : Vec Ideal S256x1024 .f32) (n : Vec Ideal S1x1024 .f32) (W : Vec Ideal S1024x256 .bf16) (f : Vec Ideal S1x256 .f32) : FVec Ideal S256x256 .bf16 :=
  normKV (mulKV (normOf x n) W) f
def queryLatOf (x : Vec Ideal S256x1024 .f32) (n : Vec Ideal S1x1024 .f32) (W : Vec Ideal S1024x512 .bf16) (f : Vec Ideal S1x384 .f32) : FVec Ideal S256x384 .bf16 :=
  normQ (cqOf (mulJoint (normOf x n) W)) f

section

variable {x : Vec Ideal S256x1024 .f32} {n : Vec Ideal S1x1024 .f32} {r : Fin 256} {X N : Fin 1024 → EReal}

theorem normOf_row (hx : ∀ j, x (ix2 r j) = X j) (hn : ∀ j, n (ix2 0 j) = N j) (j : Fin 1024) : normOf x n (ix2 r j) = hidRow X N j := by
  obtain rfl : _ = X := funext hx
  obtain rfl : _ = N := funext hn
  exact normOf_apply x n r j

theorem proj_congr {a b : ℕ} {h h' : Fin a → EReal} {W W' : Fin a → Fin b → EReal} (hh : ∀ j, h j = h' j) (hW : ∀ j k, W j k = W' j k) (k : Fin b) : proj h W k = proj h' W' k := by
  obtain rfl : h = h' := funext hh
  obtain rfl : W = W' := funext fun j => funext (hW j)
  rfl

theorem normed_congr {a : ℕ} {c : EReal} {y g y' g' : Fin a → EReal} (hy : ∀ j, y j = y' j) (hg : ∀ j, g j = g' j) (k : Fin a) : normed c y g k = normed c y' g' k := by
  obtain rfl : y = y' := funext hy
  obtain rfl : g = g' := funext hg
  rfl

theorem latOf_row {W : Vec Ideal S1024x256 .bf16} {f : Vec Ideal S1x256 .f32} {W' : Fin 1024 → Fin 256 → EReal} {f' : Fin 256 → EReal}
    (hx : ∀ j, x (ix2 r j) = X j) (hn : ∀ j, n (ix2 0 j) = N j) (hW : ∀ j k, W (ix2 j k) = W' j k) (hf : ∀ j, f (ix2 0 j) = f' j) (j : Fin 256) :
    latOf x n W f (ix2 r j) = latRow X N W' f' j :=
  (normKV_apply _ f r j).trans (normed_congr (fun j => (mulKV_apply _ W r j).trans (proj_congr (normOf_row hx hn) hW j)) hf j)

theorem queryLatOf_row {W : Vec Ideal S1024x512 .bf16} {f : Vec Ideal S1x384 .f32} {W' : Fin 1024 → Fin 512 → EReal} {f' : Fin 384 → EReal}
    (hx : ∀ j, x (ix2 r j) = X j) (hn : ∀ j, n (ix2 0 j) = N j) (hW : ∀ j k, W (ix2 j k) = W' j k) (hf : ∀ j, f (ix2 0 j) = f' j) (j : Fin 384) :
    queryLatOf x n W f (ix2 r j) = queryLatRow X N W' f' j :=
  (normQ_apply _ f r j).trans (normed_congr (fun j => (cqOf_apply _ r j).trans ((mulJoint_apply _ W r _).trans (proj_congr (normOf_row hx hn) hW _))) hf j)

theorem backOf_row {W : Vec Ideal S1024x512 .bf16} {W' : Fin 1024 → Fin 512 → EReal}
    (hx : ∀ j, x (ix2 r j) = X j) (hn : ∀ j, n (ix2 0 j) = N j) (hW : ∀ j k, W (ix2 j k) = W' j k) (l : Fin 128) :
    backOf (mulJoint (normOf x n) W) (ix2 r l) = backRow X N W' l :=
  (backOf_apply _ r l).trans ((mulJoint_apply _ W r _).trans (proj_congr (normOf_row hx hn) hW _))

theorem queryLane_congr {e : Fin 2} {p p' : Fin 256 → EReal} {g C S g' C' S' : Fin 128 → EReal} (hp : ∀ l, p l = p' l) (hg : ∀ l, g l = g' l) (hC : ∀ l, C l = C' l)
    (hS : ∀ l, S l = S' l) (l : Fin 128) : queryLane e p g C S l = queryLane e p' g' C' S' l := by
  obtain rfl : p = p' := funext hp
  obtain rfl : g = g' := funext hg
  obtain rfl : C = C' := funext hC
  obtain rfl : S = S' := funext hS
  rfl

theorem keyLane_congr {e : Fin 2} {p p' : Fin 256 → EReal} {b g K C S b' g' K' C' S' : Fin 128 → EReal} (hp : ∀ l, p l = p' l) (hb : ∀ l, b l = b' l) (hg : ∀ l, g l = g' l)
    (hK : ∀ l, K l = K' l) (hC : ∀ l, C l = C' l) (hS : ∀ l, S l = S' l) (l : Fin 128) : keyLane e p b g K C S l = keyLane e p' b' g' K' C' S' l := by
  obtain rfl : p = p' := funext hp
  obtain rfl : b = b' := funext hb
  obtain rfl : g = g' := funext hg
  obtain rfl : K = K' := funext hK
  obtain rfl : C = C' := funext hC
  obtain rfl : S = S' := funext hS
  rfl

theorem queryFirst_row {W : Vec Ideal S1024x512 .bf16} {f : Vec Ideal S1x384 .f32} {w : Vec Ideal S384x256 .bf16} {g : Vec Ideal S1x128 .f32} {C S : Vec Ideal S256x128 .f32}
    {W' : Fin 1024 → Fin 512 → EReal} {f' : Fin 384 → EReal} {w' : Fin 384 → Fin 256 → EReal} {g' C' S' : Fin 128 → EReal}
    (hx : ∀ j, x (ix2 r j) = X j) (hn : ∀ j, n (ix2 0 j) = N j) (hW : ∀ j k, W (ix2 j k) = W' j k) (hf : ∀ j, f (ix2 0 j) = f' j) (hw : ∀ j k, w (ix2 j k) = w' j k)
    (hg : ∀ l, g (ix2 0 l) = g' l) (hC : ∀ l, C (ix2 r l) = C' l) (hS : ∀ l, S (ix2 r l) = S' l) (l : Fin 128) :
    queryFirst (mulQ (queryLatOf x n W f) w) g C S (ix2 r l) = queryLane 0 (proj (queryLatRow X N W' f') w') g' C' S' l :=
  (queryFirst_apply _ g C S r l).trans (queryLane_congr (fun a => (mulQ_apply _ w r a).trans (proj_congr (queryLatOf_row hx hn hW hf) hw a)) hg hC hS l)

theorem keyFirst_row {W : Vec Ideal S1024x512 .bf16} {V : Vec Ideal S1024x256 .bf16} {f : Vec Ideal S1x256 .f32} {w : Vec Ideal S256x256 .bf16} {g K : Vec Ideal S1x128 .f32} {C S : Vec Ideal S256x128 .f32}
    {W' : Fin 1024 → Fin 512 → EReal} {V' : Fin 1024 → Fin 256 → EReal} {f' : Fin 256 → EReal} {w' : Fin 256 → Fin 256 → EReal} {g' K' C' S' : Fin 128 → EReal}
    (hx : ∀ j, x (ix2 r j) = X j) (hn : ∀ j, n (ix2 0 j) = N j) (hW : ∀ j k, W (ix2 j k) = W' j k) (hV : ∀ j k, V (ix2 j k) = V' j k) (hf : ∀ j, f (ix2 0 j) = f' j)
    (hw : ∀ j k, w (ix2 j k) = w' j k) (hg : ∀ l, g (ix2 0 l) = g' l) (hK : ∀ l, K (ix2 0 l) = K' l) (hC : ∀ l, C (ix2 r l) = C' l) (hS : ∀ l, S (ix2 r l) = S' l) (l : Fin 128) :
    keyFirst (mulK (latOf x n V f) w) (backOf (mulJoint (normOf x n) W)) g K C S (ix2 r l) = keyLane 0 (proj (latRow X N V' f') w') (backRow X N W') g' K' C' S' l :=
  (keyFirst_apply _ _ g K C S r l).trans (keyLane_congr (fun a => (mulK_apply _ w r a).trans (proj_congr (latOf_row hx hn hV hf) hw a)) (backOf_row hx hn hW) hg hK hC hS l)

theorem querySecond_row {W : Vec Ideal S1024x512 .bf16} {f : Vec Ideal S1x384 .f32} {w : Vec Ideal S384x256 .bf16} {g : Vec Ideal S1x128 .f32} {C S : Vec Ideal S256x128 .f32}
    {W' : Fin 1024 → Fin 512 → EReal} {f' : Fin 384 → EReal} {w' : Fin 384 → Fin 256 → EReal} {g' C' S' : Fin 128 → EReal}
    (hx : ∀ j, x (ix2 r j) = X j) (hn : ∀ j, n (ix2 0 j) = N j) (hW : ∀ j k, W (ix2 j k) = W' j k) (hf : ∀ j, f (ix2 0 j) = f' j) (hw : ∀ j k, w (ix2 j k) = w' j k)
    (hg : ∀ l, g (ix2 0 l) = g' l) (hC : ∀ l, C (ix2 r l) = C' l) (hS : ∀ l, S (ix2 r l) = S' l) (l : Fin 128) :
    querySecond (mulQ (queryLatOf x n W f) w) g C S (ix2 r l) = queryLane 1 (proj (queryLatRow X N W' f') w') g' C' S' l :=
  (querySecond_apply _ g C S r l).trans (queryLane_congr (fun a => (mulQ_apply _ w r a).trans (proj_congr (queryLatOf_row hx hn hW hf) hw a)) hg hC hS l)

theorem keySecond_row {W : Vec Ideal S1024x512 .bf16} {V : Vec Ideal S1024x256 .bf16} {f : Vec Ideal S1x256 .f32} {w : Vec Ideal S256x256 .bf16} {g K : Vec Ideal S1x128 .f32} {C S : Vec Ideal S256x128 .f32}
    {W' : Fin 1024 → Fin 512 → EReal} {V' : Fin 1024 → Fin 256 → EReal} {f' : Fin 256 → EReal} {w' : Fin 256 → Fin 256 → EReal} {g' K' C' S' : Fin 128 → EReal}
    (hx : ∀ j, x (ix2 r j) = X j) (hn : ∀ j, n (ix2 0 j) = N j) (hW : ∀ j k, W (ix2 j k) = W' j k) (hV : ∀ j k, V (ix2 j k) = V' j k) (hf : ∀ j, f (ix2 0 j) = f' j)
    (hw : ∀ j k, w (ix2 j k) = w' j k) (hg : ∀ l, g (ix2 0 l) = g' l) (hK : ∀ l, K (ix2 0 l) = K' l) (hC : ∀ l, C (ix2 r l) = C' l) (hS : ∀ l, S (ix2 r l) = S' l) (l : Fin 128) :
    keySecond (mulK (latOf x n V f) w) (backOf (mulJoint (normOf x n) W)) g K C S (ix2 r l) = keyLane 1 (proj (latRow X N V' f') w') (backRow X N W') g' K' C' S' l :=
  (keySecond_apply _ _ g K C S r l).trans (keyLane_congr (fun a => (mulK_apply _ w r a).trans (proj_congr (latOf_row hx hn hV hf) hw a)) (backOf_row hx hn hW) hg hK hC hS l)

def valueOf (y : FVec Ideal S256x256 .bf16) (w : Vec Ideal S256x2048 .bf16) (o : Vec Ideal S1x2048 .f32) : FVec Ideal S256x2048 .bf16 :=
  truncf .bf16 (addf (mulV y w) (broadcastTo S256x2048 (shapeCast S1x2048 o shapeCasts_S1x2048_S1x2048 : FVec Ideal S1x2048 .f32) broadcasts_S1x2048_S256x2048)) bitsLt_bf16_f32

theorem valueOf_apply (y : FVec Ideal S256x256 .bf16) (w : Vec Ideal S256x2048 .bf16) (o : Vec Ideal S1x2048 .f32) (r : Fin 256) (k : Fin 2048) :
    valueOf y w o (ix2 r k) = proj (fun j => y (ix2 r j)) (fun j k => w (ix2 j k)) k + o (ix2 0 k) := by
  have h := mulV_apply y w r k
  unfold valueOf
  generalize mulV y w = A at *
  pointwise
  rw [h]

theorem valueOf_row {V : Vec Ideal S1024x256 .bf16} {f : Vec Ideal S1x256 .f32} {w : Vec Ideal S256x2048 .bf16} {o : Vec Ideal S1x2048 .f32}
    {V' : Fin 1024 → Fin 256 → EReal} {f' : Fin 256 → EReal} {w' : Fin 256 → Fin 2048 → EReal} {o' : Fin 2048 → EReal}
    (hx : ∀ j, x (ix2 r j) = X j) (hn : ∀ j, n (ix2 0 j) = N j) (hV : ∀ j k, V (ix2 j k) = V' j k) (hf : ∀ j, f (ix2 0 j) = f' j)
    (hw : ∀ j k, w (ix2 j k) = w' j k) (ho : ∀ k, o (ix2 0 k) = o' k) (k : Fin 2048) :
    valueOf (latOf x n V f) w o (ix2 r k) = proj (latRow X N V' f') w' k + o' k :=
  (valueOf_apply _ w o r k).trans (congrArg₂ (fun a b : EReal => a + b) (proj_congr (latOf_row hx hn hV hf) hw k) (ho k))

theorem gate_row {w : Vec Ideal S1024x1024 .bf16} {w' : Fin 1024 → Fin 1024 → EReal} (hx : ∀ j, x (ix2 r j) = X j) (hn : ∀ j, n (ix2 0 j) = N j)
    (hw : ∀ j k, w (ix2 j k) = w' j k) (k : Fin 1024) :
    (truncf .bf16 (mulGate (normOf x n) w) bitsLt_bf16_f32 : FVec Ideal S256x1024 .bf16) (ix2 r k) = proj (hidRow X N) w' k :=
  (mulGate_apply _ w r k).trans (proj_congr (normOf_row hx hn) hw k)

end

/-! The loads. -/

theorem ld_cols {e : EltTy} {a b n o : ℕ} (h : ∀ i, (![0, o] : Fin 2 → ℕ) i + (![a, n] : Fin 2 → ℕ) i ≤ (⟨2, ![a, b]⟩ : Shape).size i)
    (x : Vec Ideal ⟨2, ![a, b]⟩ e) (j : Fin a) (k : Fin n) (k' : Fin b) (hk : k'.val = o + k.val) :
    View.ld x (Rect.unit (s := ⟨2, ![a, b]⟩) ![0, o] ![a, n] h) (ix2 j k) = x (ix2 j k') := by
  refine congrArg x (funext fun i => Fin.ext ?_)
  match i with
  | 0 => exact (show 0 + 1 * j.val = j.val by omega)
  | 1 => exact (show o + 1 * k.val = k'.val by omega)

theorem ld_whole {e : EltTy} {a b : ℕ} (h : ∀ i, (![0, 0] : Fin 2 → ℕ) i + (![a, b] : Fin 2 → ℕ) i ≤ (⟨2, ![a, b]⟩ : Shape).size i)
    (x : Vec Ideal ⟨2, ![a, b]⟩ e) (j : Fin a) (k : Fin b) :
    View.ld x (Rect.unit (s := ⟨2, ![a, b]⟩) ![0, 0] ![a, b] h) (ix2 j k) = x (ix2 j k) := ld_cols h x j k k (by omega)

/-! The point's lanes. -/

abbrev headOf (k : Fin 2048) : Fin 2 := ⟨k.val / 128 % 2, by omega⟩
abbrev laneOf (k : Fin 2048) : Fin 128 := ⟨k.val % 128, by omega⟩
abbrev pairCol (k : Fin 2048) (a : Fin 256) : Fin 2048 := ⟨256 * (k.val / 256) + a.val, by omega⟩

/-- A row's queries, keys and values, from the row and the arrays. -/
def queryRow (x n : Fin 1024 → EReal) (W : Fin 1024 → Fin 512 → EReal) (f : Fin 384 → EReal) (w : Fin 384 → Fin 2048 → EReal) (g C S : Fin 128 → EReal) (k : Fin 2048) : EReal :=
  queryLane (headOf k) (proj (queryLatRow x n W f) fun j a => w j (pairCol k a)) g C S (laneOf k)
def keyRow (x n : Fin 1024 → EReal) (W : Fin 1024 → Fin 512 → EReal) (V : Fin 1024 → Fin 256 → EReal) (f : Fin 256 → EReal) (w : Fin 256 → Fin 2048 → EReal) (g K C S : Fin 128 → EReal)
    (k : Fin 2048) : EReal :=
  keyLane (headOf k) (proj (latRow x n V f) fun j a => w j (pairCol k a)) (backRow x n W) g K C S (laneOf k)
def valueRow (x n : Fin 1024 → EReal) (V : Fin 1024 → Fin 256 → EReal) (f : Fin 256 → EReal) (w : Fin 256 → Fin 2048 → EReal) (o : Fin 2048 → EReal) (k : Fin 2048) : EReal :=
  proj (latRow x n V f) w k + o k

theorem queryRow_at {x n : Fin 1024 → EReal} {W : Fin 1024 → Fin 512 → EReal} {f : Fin 384 → EReal} {w : Fin 384 → Fin 2048 → EReal} {g C S : Fin 128 → EReal}
    (p : Fin 8) (e : Fin 2) (l : Fin 128) (k : Fin 2048) (hk : k.val = 256 * p.val + 128 * e.val + l.val) :
    queryLane e (proj (queryLatRow x n W f) fun j a => w j ⟨256 * p.val + a.val, by omega⟩) g C S l = queryRow x n W f w g C S k := by
  obtain rfl : headOf k = e := Fin.ext (by show k.val / 128 % 2 = e.val; omega)
  obtain rfl : laneOf k = l := Fin.ext (by show k.val % 128 = l.val; omega)
  have hc : ∀ a : Fin 256, (⟨256 * p.val + a.val, by omega⟩ : Fin 2048) = pairCol k a := fun a => Fin.ext (by
    show 256 * p.val + a.val = 256 * (k.val / 256) + a.val
    have h : k.val = 256 * p.val + 128 * (k.val / 128 % 2) + k.val % 128 := hk
    omega)
  simp only [queryRow, hc]

theorem keyRow_at {x n : Fin 1024 → EReal} {W : Fin 1024 → Fin 512 → EReal} {V : Fin 1024 → Fin 256 → EReal} {f : Fin 256 → EReal} {w : Fin 256 → Fin 2048 → EReal} {g K C S : Fin 128 → EReal}
    (p : Fin 8) (e : Fin 2) (l : Fin 128) (k : Fin 2048) (hk : k.val = 256 * p.val + 128 * e.val + l.val) :
    keyLane e (proj (latRow x n V f) fun j a => w j ⟨256 * p.val + a.val, by omega⟩) (backRow x n W) g K C S l = keyRow x n W V f w g K C S k := by
  obtain rfl : headOf k = e := Fin.ext (by show k.val / 128 % 2 = e.val; omega)
  obtain rfl : laneOf k = l := Fin.ext (by show k.val % 128 = l.val; omega)
  have hc : ∀ a : Fin 256, (⟨256 * p.val + a.val, by omega⟩ : Fin 2048) = pairCol k a := fun a => Fin.ext (by
    show 256 * p.val + a.val = 256 * (k.val / 256) + a.val
    have h : k.val = 256 * p.val + 128 * (k.val / 128 % 2) + k.val % 128 := hk
    omega)
  simp only [keyRow, hc]
/-! A block's results, from the blocks it reads. -/

def queryBlock (x0 : Vec Ideal S512x1024 .f32) (x1 : Vec Ideal S1x1024 .f32) (x2 : Vec Ideal S1024x512 .bf16) (x3 : Vec Ideal S1024x256 .bf16) (x4 : Vec Ideal S1024x1024 .bf16) (x5 : Vec Ideal S1x384 .f32) (x6 : Vec Ideal S1x256 .f32) (x7 : Vec Ideal S384x2048 .bf16) (x8 : Vec Ideal S256x2048 .bf16)
    (x9 : Vec Ideal S256x2048 .bf16) (x10 : Vec Ideal S1x2048 .f32) (x11 : Vec Ideal S1x128 .f32) (x12 : Vec Ideal S1x128 .f32) (x13 : Vec Ideal S1x128 .f32) (x14 : Vec Ideal S512x128 .f32) (x15 : Vec Ideal S512x128 .f32) (r : Fin 512) (k : Fin 2048) : EReal :=
  queryRow (fun j => x0 (ix2 r j)) (fun j => x1 (ix2 0 j)) (fun j k => x2 (ix2 j k)) (fun j => x5 (ix2 0 j)) (fun j k => x7 (ix2 j k)) (fun j => x11 (ix2 0 j)) (fun j => x14 (ix2 r j)) (fun j => x15 (ix2 r j)) k
def keyBlock (x0 : Vec Ideal S512x1024 .f32) (x1 : Vec Ideal S1x1024 .f32) (x2 : Vec Ideal S1024x512 .bf16) (x3 : Vec Ideal S1024x256 .bf16) (x4 : Vec Ideal S1024x1024 .bf16) (x5 : Vec Ideal S1x384 .f32) (x6 : Vec Ideal S1x256 .f32) (x7 : Vec Ideal S384x2048 .bf16) (x8 : Vec Ideal S256x2048 .bf16)
    (x9 : Vec Ideal S256x2048 .bf16) (x10 : Vec Ideal S1x2048 .f32) (x11 : Vec Ideal S1x128 .f32) (x12 : Vec Ideal S1x128 .f32) (x13 : Vec Ideal S1x128 .f32) (x14 : Vec Ideal S512x128 .f32) (x15 : Vec Ideal S512x128 .f32) (r : Fin 512) (k : Fin 2048) : EReal :=
  keyRow (fun j => x0 (ix2 r j)) (fun j => x1 (ix2 0 j)) (fun j k => x2 (ix2 j k)) (fun j k => x3 (ix2 j k)) (fun j => x6 (ix2 0 j)) (fun j k => x8 (ix2 j k)) (fun j => x12 (ix2 0 j)) (fun j => x13 (ix2 0 j)) (fun j => x14 (ix2 r j)) (fun j => x15 (ix2 r j)) k
def valueBlock (x0 : Vec Ideal S512x1024 .f32) (x1 : Vec Ideal S1x1024 .f32) (x2 : Vec Ideal S1024x512 .bf16) (x3 : Vec Ideal S1024x256 .bf16) (x4 : Vec Ideal S1024x1024 .bf16) (x5 : Vec Ideal S1x384 .f32) (x6 : Vec Ideal S1x256 .f32) (x7 : Vec Ideal S384x2048 .bf16) (x8 : Vec Ideal S256x2048 .bf16)
    (x9 : Vec Ideal S256x2048 .bf16) (x10 : Vec Ideal S1x2048 .f32) (x11 : Vec Ideal S1x128 .f32) (x12 : Vec Ideal S1x128 .f32) (x13 : Vec Ideal S1x128 .f32) (x14 : Vec Ideal S512x128 .f32) (x15 : Vec Ideal S512x128 .f32) (r : Fin 512) (k : Fin 2048) : EReal :=
  valueRow (fun j => x0 (ix2 r j)) (fun j => x1 (ix2 0 j)) (fun j k => x3 (ix2 j k)) (fun j => x6 (ix2 0 j)) (fun j k => x9 (ix2 j k)) (fun j => x10 (ix2 0 j)) k
def gateBlock (x0 : Vec Ideal S512x1024 .f32) (x1 : Vec Ideal S1x1024 .f32) (x2 : Vec Ideal S1024x512 .bf16) (x3 : Vec Ideal S1024x256 .bf16) (x4 : Vec Ideal S1024x1024 .bf16) (x5 : Vec Ideal S1x384 .f32) (x6 : Vec Ideal S1x256 .f32) (x7 : Vec Ideal S384x2048 .bf16) (x8 : Vec Ideal S256x2048 .bf16)
    (x9 : Vec Ideal S256x2048 .bf16) (x10 : Vec Ideal S1x2048 .f32) (x11 : Vec Ideal S1x128 .f32) (x12 : Vec Ideal S1x128 .f32) (x13 : Vec Ideal S1x128 .f32) (x14 : Vec Ideal S512x128 .f32) (x15 : Vec Ideal S512x128 .f32) (r : Fin 512) (k : Fin 1024) : EReal :=
  proj (hidRow (fun j => x0 (ix2 r j)) (fun j => x1 (ix2 0 j))) (fun j k => x4 (ix2 j k)) k

end Cert.FrontIdeal.Rows

end
-- ==== Proof.Front.OutQuery.lean ====
/-
  A block's queries, head by head.
-/
module

public import proofs.«01_k».proof.Proof.Front.Out

@[expose] public section

set_option maxRecDepth 16384

noncomputable section

namespace Cert.FrontIdeal.Rows

open Cert.FrontIdeal Cert.FrontIdeal.Gen Idealize.ShloMosaic Idealize.ShloMosaic.TcCoe Idealize.SL.Sem
open Cert.Front

variable (x0 : Vec Ideal S512x1024 .f32) (x1 : Vec Ideal S1x1024 .f32) (x2 : Vec Ideal S1024x512 .bf16) (x3 : Vec Ideal S1024x256 .bf16) (x4 : Vec Ideal S1024x1024 .bf16) (x5 : Vec Ideal S1x384 .f32) (x6 : Vec Ideal S1x256 .f32) (x7 : Vec Ideal S384x2048 .bf16) (x8 : Vec Ideal S256x2048 .bf16)
    (x9 : Vec Ideal S256x2048 .bf16) (x10 : Vec Ideal S1x2048 .f32) (x11 : Vec Ideal S1x128 .f32) (x12 : Vec Ideal S1x128 .f32) (x13 : Vec Ideal S1x128 .f32) (x14 : Vec Ideal S512x128 .f32) (x15 : Vec Ideal S512x128 .f32)

theorem query_0_0 (r : Fin 256) (l : Fin 128) :
    (k0_pay172 (k0_pay135 (k0_pay407 x0 x1 x2 x3 x4 x5 x6 x7 x8 x9 x10 x11 x12 x13 x14 x15)) (k0_pay153 (k0_pay345 x0 x1 x2 x3 x4 x5 x6 x7 x8 x9 x10 x11 x12 x13 x14 x15) (k0_pay395 x0 x1 x2 x3 x4 x5 x6 x7 x8 x9 x10 x11 x12 x13 x14 x15) (k0_pay396 x0 x1 x2 x3 x4 x5 x6 x7 x8 x9 x10 x11 x12 x13 x14 x15) (k0_pay85 (k0_pay367 x0 x1 x2 x3 x4 x5 x6 x7 x8 x9 x10 x11 x12 x13 x14 x15)))) (ix2 r l) = queryBlock x0 x1 x2 x3 x4 x5 x6 x7 x8 x9 x10 x11 x12 x13 x14 x15 ⟨r.val, by omega⟩ ⟨0 + l.val, by omega⟩ := by
  have e : k0_pay172 (k0_pay135 (k0_pay407 x0 x1 x2 x3 x4 x5 x6 x7 x8 x9 x10 x11 x12 x13 x14 x15)) (k0_pay153 (k0_pay345 x0 x1 x2 x3 x4 x5 x6 x7 x8 x9 x10 x11 x12 x13 x14 x15) (k0_pay395 x0 x1 x2 x3 x4 x5 x6 x7 x8 x9 x10 x11 x12 x13 x14 x15) (k0_pay396 x0 x1 x2 x3 x4 x5 x6 x7 x8 x9 x10 x11 x12 x13 x14 x15) (k0_pay85 (k0_pay367 x0 x1 x2 x3 x4 x5 x6 x7 x8 x9 x10 x11 x12 x13 x14 x15))) = queryFirst (mulQ (queryLatOf (View.ld x0 r0_1) (View.ld x1 r0_2) (View.ld x2 r0_3) (View.ld x5 r0_6)) (View.ld x7 r0_19)) (View.ld x11 r0_0) (View.ld x14 r0_29) (View.ld x15 r0_29) := by
    dsimp only [k0_pay4, k0_pay6, k0_pay7, k0_pay8, k0_pay9, k0_pay11, k0_pay12, k0_pay13, k0_pay17, k0_pay30, k0_pay67, k0_pay68, k0_pay85, k0_pay111, k0_pay135, k0_pay153, k0_pay172, k0_pay343, k0_pay345, k0_pay347, k0_pay348, k0_pay349, k0_pay351, k0_pay352, k0_pay355, k0_pay367, k0_pay395, k0_pay396, k0_pay407, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (queryFirst_row (x := View.ld x0 r0_1) (n := View.ld x1 r0_2) (W := View.ld x2 r0_3) (f := View.ld x5 r0_6) (w := View.ld x7 r0_19) (g := View.ld x11 r0_0) (C := View.ld x14 r0_29) (S := View.ld x15 r0_29)
    (fun j => Cert.Tail.ld_rows _ _ r (⟨r.val, by omega⟩ : Fin 512) (by show r.val = 0 + r.val; omega) j) (fun j => ld_whole _ _ 0 j) (fun j k => ld_whole _ _ j k) (fun j => ld_whole _ _ 0 j) (fun j a => ld_cols (o := 0) _ _ j a ⟨256 * 0 + a.val, by omega⟩ (by show 256 * 0 + a.val = 0 + a.val; omega)) (fun j => ld_whole _ _ 0 j) (fun j => Cert.Tail.ld_rows _ _ r (⟨r.val, by omega⟩ : Fin 512) (by show r.val = 0 + r.val; omega) j) (fun j => Cert.Tail.ld_rows _ _ r (⟨r.val, by omega⟩ : Fin 512) (by show r.val = 0 + r.val; omega) j) l).trans
    (queryRow_at (x := (fun j => x0 (ix2 (⟨r.val, by omega⟩ : Fin 512) j))) (n := (fun j => x1 (ix2 0 j))) (W := (fun j k => x2 (ix2 j k))) (f := (fun j => x5 (ix2 0 j))) (w := (fun j k => x7 (ix2 j k))) (g := (fun j => x11 (ix2 0 j))) (C := (fun j => x14 (ix2 (⟨r.val, by omega⟩ : Fin 512) j))) (S := (fun j => x15 (ix2 (⟨r.val, by omega⟩ : Fin 512) j))) 0 0 l ⟨0 + l.val, by omega⟩ (by show 0 + l.val = 256 * 0 + 128 * 0 + l.val; omega))

theorem query_0_1 (r : Fin 256) (l : Fin 128) :
    (k0_pay175 (k0_pay174 (k0_pay136 (k0_pay407 x0 x1 x2 x3 x4 x5 x6 x7 x8 x9 x10 x11 x12 x13 x14 x15)) (k0_pay154 (k0_pay345 x0 x1 x2 x3 x4 x5 x6 x7 x8 x9 x10 x11 x12 x13 x14 x15) (k0_pay395 x0 x1 x2 x3 x4 x5 x6 x7 x8 x9 x10 x11 x12 x13 x14 x15) (k0_pay396 x0 x1 x2 x3 x4 x5 x6 x7 x8 x9 x10 x11 x12 x13 x14 x15) (k0_pay86 (k0_pay367 x0 x1 x2 x3 x4 x5 x6 x7 x8 x9 x10 x11 x12 x13 x14 x15))))) (ix2 r l) = queryBlock x0 x1 x2 x3 x4 x5 x6 x7 x8 x9 x10 x11 x12 x13 x14 x15 ⟨r.val, by omega⟩ ⟨128 + l.val, by omega⟩ := by
  have e : k0_pay175 (k0_pay174 (k0_pay136 (k0_pay407 x0 x1 x2 x3 x4 x5 x6 x7 x8 x9 x10 x11 x12 x13 x14 x15)) (k0_pay154 (k0_pay345 x0 x1 x2 x3 x4 x5 x6 x7 x8 x9 x10 x11 x12 x13 x14 x15) (k0_pay395 x0 x1 x2 x3 x4 x5 x6 x7 x8 x9 x10 x11 x12 x13 x14 x15) (k0_pay396 x0 x1 x2 x3 x4 x5 x6 x7 x8 x9 x10 x11 x12 x13 x14 x15) (k0_pay86 (k0_pay367 x0 x1 x2 x3 x4 x5 x6 x7 x8 x9 x10 x11 x12 x13 x14 x15)))) = querySecond (mulQ (queryLatOf (View.ld x0 r0_1) (View.ld x1 r0_2) (View.ld x2 r0_3) (View.ld x5 r0_6)) (View.ld x7 r0_19)) (View.ld x11 r0_0) (View.ld x14 r0_29) (View.ld x15 r0_29) := by
    dsimp only [k0_pay4, k0_pay6, k0_pay7, k0_pay8, k0_pay9, k0_pay11, k0_pay12, k0_pay13, k0_pay17, k0_pay30, k0_pay67, k0_pay68, k0_pay86, k0_pay111, k0_pay136, k0_pay154, k0_pay174, k0_pay175, k0_pay343, k0_pay345, k0_pay347, k0_pay348, k0_pay349, k0_pay351, k0_pay352, k0_pay355, k0_pay367, k0_pay395, k0_pay396, k0_pay407, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (querySecond_row (x := View.ld x0 r0_1) (n := View.ld x1 r0_2) (W := View.ld x2 r0_3) (f := View.ld x5 r0_6) (w := View.ld x7 r0_19) (g := View.ld x11 r0_0) (C := View.ld x14 r0_29) (S := View.ld x15 r0_29)
    (fun j => Cert.Tail.ld_rows _ _ r (⟨r.val, by omega⟩ : Fin 512) (by show r.val = 0 + r.val; omega) j) (fun j => ld_whole _ _ 0 j) (fun j k => ld_whole _ _ j k) (fun j => ld_whole _ _ 0 j) (fun j a => ld_cols (o := 0) _ _ j a ⟨256 * 0 + a.val, by omega⟩ (by show 256 * 0 + a.val = 0 + a.val; omega)) (fun j => ld_whole _ _ 0 j) (fun j => Cert.Tail.ld_rows _ _ r (⟨r.val, by omega⟩ : Fin 512) (by show r.val = 0 + r.val; omega) j) (fun j => Cert.Tail.ld_rows _ _ r (⟨r.val, by omega⟩ : Fin 512) (by show r.val = 0 + r.val; omega) j) l).trans
    (queryRow_at (x := (fun j => x0 (ix2 (⟨r.val, by omega⟩ : Fin 512) j))) (n := (fun j => x1 (ix2 0 j))) (W := (fun j k => x2 (ix2 j k))) (f := (fun j => x5 (ix2 0 j))) (w := (fun j k => x7 (ix2 j k))) (g := (fun j => x11 (ix2 0 j))) (C := (fun j => x14 (ix2 (⟨r.val, by omega⟩ : Fin 512) j))) (S := (fun j => x15 (ix2 (⟨r.val, by omega⟩ : Fin 512) j))) 0 1 l ⟨128 + l.val, by omega⟩ (by show 128 + l.val = 256 * 0 + 128 * 1 + l.val; omega))

theorem query_0_2 (r : Fin 256) (l : Fin 128) :
    (k0_pay177 (k0_pay137 (k0_pay408 x0 x1 x2 x3 x4 x5 x6 x7 x8 x9 x10 x11 x12 x13 x14 x15)) (k0_pay157 (k0_pay396 x0 x1 x2 x3 x4 x5 x6 x7 x8 x9 x10 x11 x12 x13 x14 x15) (k0_pay155 (k0_pay345 x0 x1 x2 x3 x4 x5 x6 x7 x8 x9 x10 x11 x12 x13 x14 x15) (k0_pay397 x0 x1 x2 x3 x4 x5 x6 x7 x8 x9 x10 x11 x12 x13 x14 x15)) (k0_pay156 (k0_pay345 x0 x1 x2 x3 x4 x5 x6 x7 x8 x9 x10 x11 x12 x13 x14 x15) (k0_pay395 x0 x1 x2 x3 x4 x5 x6 x7 x8 x9 x10 x11 x12 x13 x14 x15) (k0_pay397 x0 x1 x2 x3 x4 x5 x6 x7 x8 x9 x10 x11 x12 x13 x14 x15)))) (ix2 r l) = queryBlock x0 x1 x2 x3 x4 x5 x6 x7 x8 x9 x10 x11 x12 x13 x14 x15 ⟨r.val, by omega⟩ ⟨256 + l.val, by omega⟩ := by
  have e : k0_pay177 (k0_pay137 (k0_pay408 x0 x1 x2 x3 x4 x5 x6 x7 x8 x9 x10 x11 x12 x13 x14 x15)) (k0_pay157 (k0_pay396 x0 x1 x2 x3 x4 x5 x6 x7 x8 x9 x10 x11 x12 x13 x14 x15) (k0_pay155 (k0_pay345 x0 x1 x2 x3 x4 x5 x6 x7 x8 x9 x10 x11 x12 x13 x14 x15) (k0_pay397 x0 x1 x2 x3 x4 x5 x6 x7 x8 x9 x10 x11 x12 x13 x14 x15)) (k0_pay156 (k0_pay345 x0 x1 x2 x3 x4 x5 x6 x7 x8 x9 x10 x11 x12 x13 x14 x15) (k0_pay395 x0 x1 x2 x3 x4 x5 x6 x7 x8 x9 x10 x11 x12 x13 x14 x15) (k0_pay397 x0 x1 x2 x3 x4 x5 x6 x7 x8 x9 x10 x11 x12 x13 x14 x15))) = queryFirst (mulQ (queryLatOf (View.ld x0 r0_1) (View.ld x1 r0_2) (View.ld x2 r0_3) (View.ld x5 r0_6)) (View.ld x7 r0_20)) (View.ld x11 r0_0) (View.ld x14 r0_29) (View.ld x15 r0_29) := by
    dsimp only [k0_pay4, k0_pay6, k0_pay7, k0_pay8, k0_pay9, k0_pay11, k0_pay12, k0_pay13, k0_pay17, k0_pay31, k0_pay67, k0_pay68, k0_pay87, k0_pay112, k0_pay137, k0_pay155, k0_pay156, k0_pay157, k0_pay177, k0_pay343, k0_pay345, k0_pay347, k0_pay348, k0_pay349, k0_pay351, k0_pay352, k0_pay355, k0_pay368, k0_pay395, k0_pay396, k0_pay397, k0_pay408, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (queryFirst_row (x := View.ld x0 r0_1) (n := View.ld x1 r0_2) (W := View.ld x2 r0_3) (f := View.ld x5 r0_6) (w := View.ld x7 r0_20) (g := View.ld x11 r0_0) (C := View.ld x14 r0_29) (S := View.ld x15 r0_29)
    (fun j => Cert.Tail.ld_rows _ _ r (⟨r.val, by omega⟩ : Fin 512) (by show r.val = 0 + r.val; omega) j) (fun j => ld_whole _ _ 0 j) (fun j k => ld_whole _ _ j k) (fun j => ld_whole _ _ 0 j) (fun j a => ld_cols (o := 256) _ _ j a ⟨256 * 1 + a.val, by omega⟩ (by show 256 * 1 + a.val = 256 + a.val; omega)) (fun j => ld_whole _ _ 0 j) (fun j => Cert.Tail.ld_rows _ _ r (⟨r.val, by omega⟩ : Fin 512) (by show r.val = 0 + r.val; omega) j) (fun j => Cert.Tail.ld_rows _ _ r (⟨r.val, by omega⟩ : Fin 512) (by show r.val = 0 + r.val; omega) j) l).trans
    (queryRow_at (x := (fun j => x0 (ix2 (⟨r.val, by omega⟩ : Fin 512) j))) (n := (fun j => x1 (ix2 0 j))) (W := (fun j k => x2 (ix2 j k))) (f := (fun j => x5 (ix2 0 j))) (w := (fun j k => x7 (ix2 j k))) (g := (fun j => x11 (ix2 0 j))) (C := (fun j => x14 (ix2 (⟨r.val, by omega⟩ : Fin 512) j))) (S := (fun j => x15 (ix2 (⟨r.val, by omega⟩ : Fin 512) j))) 1 0 l ⟨256 + l.val, by omega⟩ (by show 256 + l.val = 256 * 1 + 128 * 0 + l.val; omega))

theorem query_0_3 (r : Fin 256) (l : Fin 128) :
    (k0_pay179 (k0_pay138 (k0_pay408 x0 x1 x2 x3 x4 x5 x6 x7 x8 x9 x10 x11 x12 x13 x14 x15)) (k0_pay158 (k0_pay345 x0 x1 x2 x3 x4 x5 x6 x7 x8 x9 x10 x11 x12 x13 x14 x15) (k0_pay395 x0 x1 x2 x3 x4 x5 x6 x7 x8 x9 x10 x11 x12 x13 x14 x15) (k0_pay396 x0 x1 x2 x3 x4 x5 x6 x7 x8 x9 x10 x11 x12 x13 x14 x15) (k0_pay88 (k0_pay368 x0 x1 x2 x3 x4 x5 x6 x7 x8 x9 x10 x11 x12 x13 x14 x15)))) (ix2 r l) = queryBlock x0 x1 x2 x3 x4 x5 x6 x7 x8 x9 x10 x11 x12 x13 x14 x15 ⟨r.val, by omega⟩ ⟨384 + l.val, by omega⟩ := by
  have e : k0_pay179 (k0_pay138 (k0_pay408 x0 x1 x2 x3 x4 x5 x6 x7 x8 x9 x10 x11 x12 x13 x14 x15)) (k0_pay158 (k0_pay345 x0 x1 x2 x3 x4 x5 x6 x7 x8 x9 x10 x11 x12 x13 x14 x15) (k0_pay395 x0 x1 x2 x3 x4 x5 x6 x7 x8 x9 x10 x11 x12 x13 x14 x15) (k0_pay396 x0 x1 x2 x3 x4 x5 x6 x7 x8 x9 x10 x11 x12 x13 x14 x15) (k0_pay88 (k0_pay368 x0 x1 x2 x3 x4 x5 x6 x7 x8 x9 x10 x11 x12 x13 x14 x15))) = querySecond (mulQ (queryLatOf (View.ld x0 r0_1) (View.ld x1 r0_2) (View.ld x2 r0_3) (View.ld x5 r0_6)) (View.ld x7 r0_20)) (View.ld x11 r0_0) (View.ld x14 r0_29) (View.ld x15 r0_29) := by
    dsimp only [k0_pay4, k0_pay6, k0_pay7, k0_pay8, k0_pay9, k0_pay11, k0_pay12, k0_pay13, k0_pay17, k0_pay31, k0_pay67, k0_pay68, k0_pay88, k0_pay112, k0_pay138, k0_pay158, k0_pay179, k0_pay343, k0_pay345, k0_pay347, k0_pay348, k0_pay349, k0_pay351, k0_pay352, k0_pay355, k0_pay368, k0_pay395, k0_pay396, k0_pay408, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (querySecond_row (x := View.ld x0 r0_1) (n := View.ld x1 r0_2) (W := View.ld x2 r0_3) (f := View.ld x5 r0_6) (w := View.ld x7 r0_20) (g := View.ld x11 r0_0) (C := View.ld x14 r0_29) (S := View.ld x15 r0_29)
    (fun j => Cert.Tail.ld_rows _ _ r (⟨r.val, by omega⟩ : Fin 512) (by show r.val = 0 + r.val; omega) j) (fun j => ld_whole _ _ 0 j) (fun j k => ld_whole _ _ j k) (fun j => ld_whole _ _ 0 j) (fun j a => ld_cols (o := 256) _ _ j a ⟨256 * 1 + a.val, by omega⟩ (by show 256 * 1 + a.val = 256 + a.val; omega)) (fun j => ld_whole _ _ 0 j) (fun j => Cert.Tail.ld_rows _ _ r (⟨r.val, by omega⟩ : Fin 512) (by show r.val = 0 + r.val; omega) j) (fun j => Cert.Tail.ld_rows _ _ r (⟨r.val, by omega⟩ : Fin 512) (by show r.val = 0 + r.val; omega) j) l).trans
    (queryRow_at (x := (fun j => x0 (ix2 (⟨r.val, by omega⟩ : Fin 512) j))) (n := (fun j => x1 (ix2 0 j))) (W := (fun j k => x2 (ix2 j k))) (f := (fun j => x5 (ix2 0 j))) (w := (fun j k => x7 (ix2 j k))) (g := (fun j => x11 (ix2 0 j))) (C := (fun j => x14 (ix2 (⟨r.val, by omega⟩ : Fin 512) j))) (S := (fun j => x15 (ix2 (⟨r.val, by omega⟩ : Fin 512) j))) 1 1 l ⟨384 + l.val, by omega⟩ (by show 384 + l.val = 256 * 1 + 128 * 1 + l.val; omega))

theorem query_0_4 (r : Fin 256) (l : Fin 128) :
    (k0_pay181 (k0_pay139 (k0_pay409 x0 x1 x2 x3 x4 x5 x6 x7 x8 x9 x10 x11 x12 x13 x14 x15)) (k0_pay159 (k0_pay345 x0 x1 x2 x3 x4 x5 x6 x7 x8 x9 x10 x11 x12 x13 x14 x15) (k0_pay395 x0 x1 x2 x3 x4 x5 x6 x7 x8 x9 x10 x11 x12 x13 x14 x15) (k0_pay396 x0 x1 x2 x3 x4 x5 x6 x7 x8 x9 x10 x11 x12 x13 x14 x15) (k0_pay89 (k0_pay369 x0 x1 x2 x3 x4 x5 x6 x7 x8 x9 x10 x11 x12 x13 x14 x15)))) (ix2 r l) = queryBlock x0 x1 x2 x3 x4 x5 x6 x7 x8 x9 x10 x11 x12 x13 x14 x15 ⟨r.val, by omega⟩ ⟨512 + l.val, by omega⟩ := by
  have e : k0_pay181 (k0_pay139 (k0_pay409 x0 x1 x2 x3 x4 x5 x6 x7 x8 x9 x10 x11 x12 x13 x14 x15)) (k0_pay159 (k0_pay345 x0 x1 x2 x3 x4 x5 x6 x7 x8 x9 x10 x11 x12 x13 x14 x15) (k0_pay395 x0 x1 x2 x3 x4 x5 x6 x7 x8 x9 x10 x11 x12 x13 x14 x15) (k0_pay396 x0 x1 x2 x3 x4 x5 x6 x7 x8 x9 x10 x11 x12 x13 x14 x15) (k0_pay89 (k0_pay369 x0 x1 x2 x3 x4 x5 x6 x7 x8 x9 x10 x11 x12 x13 x14 x15))) = queryFirst (mulQ (queryLatOf (View.ld x0 r0_1) (View.ld x1 r0_2) (View.ld x2 r0_3) (View.ld x5 r0_6)) (View.ld x7 r0_21)) (View.ld x11 r0_0) (View.ld x14 r0_29) (View.ld x15 r0_29) := by
    dsimp only [k0_pay4, k0_pay6, k0_pay7, k0_pay8, k0_pay9, k0_pay11, k0_pay12, k0_pay13, k0_pay17, k0_pay32, k0_pay67, k0_pay68, k0_pay89, k0_pay113, k0_pay139, k0_pay159, k0_pay181, k0_pay343, k0_pay345, k0_pay347, k0_pay348, k0_pay349, k0_pay351, k0_pay352, k0_pay355, k0_pay369, k0_pay395, k0_pay396, k0_pay409, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (queryFirst_row (x := View.ld x0 r0_1) (n := View.ld x1 r0_2) (W := View.ld x2 r0_3) (f := View.ld x5 r0_6) (w := View.ld x7 r0_21) (g := View.ld x11 r0_0) (C := View.ld x14 r0_29) (S := View.ld x15 r0_29)
    (fun j => Cert.Tail.ld_rows _ _ r (⟨r.val, by omega⟩ : Fin 512) (by show r.val = 0 + r.val; omega) j) (fun j => ld_whole _ _ 0 j) (fun j k => ld_whole _ _ j k) (fun j => ld_whole _ _ 0 j) (fun j a => ld_cols (o := 512) _ _ j a ⟨256 * 2 + a.val, by omega⟩ (by show 256 * 2 + a.val = 512 + a.val; omega)) (fun j => ld_whole _ _ 0 j) (fun j => Cert.Tail.ld_rows _ _ r (⟨r.val, by omega⟩ : Fin 512) (by show r.val = 0 + r.val; omega) j) (fun j => Cert.Tail.ld_rows _ _ r (⟨r.val, by omega⟩ : Fin 512) (by show r.val = 0 + r.val; omega) j) l).trans
    (queryRow_at (x := (fun j => x0 (ix2 (⟨r.val, by omega⟩ : Fin 512) j))) (n := (fun j => x1 (ix2 0 j))) (W := (fun j k => x2 (ix2 j k))) (f := (fun j => x5 (ix2 0 j))) (w := (fun j k => x7 (ix2 j k))) (g := (fun j => x11 (ix2 0 j))) (C := (fun j => x14 (ix2 (⟨r.val, by omega⟩ : Fin 512) j))) (S := (fun j => x15 (ix2 (⟨r.val, by omega⟩ : Fin 512) j))) 2 0 l ⟨512 + l.val, by omega⟩ (by show 512 + l.val = 256 * 2 + 128 * 0 + l.val; omega))

theorem query_0_5 (r : Fin 256) (l : Fin 128) :
    (k0_pay184 (k0_pay183 (k0_pay140 (k0_pay409 x0 x1 x2 x3 x4 x5 x6 x7 x8 x9 x10 x11 x12 x13 x14 x15)) (k0_pay160 (k0_pay345 x0 x1 x2 x3 x4 x5 x6 x7 x8 x9 x10 x11 x12 x13 x14 x15) (k0_pay395 x0 x1 x2 x3 x4 x5 x6 x7 x8 x9 x10 x11 x12 x13 x14 x15) (k0_pay396 x0 x1 x2 x3 x4 x5 x6 x7 x8 x9 x10 x11 x12 x13 x14 x15) (k0_pay90 (k0_pay369 x0 x1 x2 x3 x4 x5 x6 x7 x8 x9 x10 x11 x12 x13 x14 x15))))) (ix2 r l) = queryBlock x0 x1 x2 x3 x4 x5 x6 x7 x8 x9 x10 x11 x12 x13 x14 x15 ⟨r.val, by omega⟩ ⟨640 + l.val, by omega⟩ := by
  have e : k0_pay184 (k0_pay183 (k0_pay140 (k0_pay409 x0 x1 x2 x3 x4 x5 x6 x7 x8 x9 x10 x11 x12 x13 x14 x15)) (k0_pay160 (k0_pay345 x0 x1 x2 x3 x4 x5 x6 x7 x8 x9 x10 x11 x12 x13 x14 x15) (k0_pay395 x0 x1 x2 x3 x4 x5 x6 x7 x8 x9 x10 x11 x12 x13 x14 x15) (k0_pay396 x0 x1 x2 x3 x4 x5 x6 x7 x8 x9 x10 x11 x12 x13 x14 x15) (k0_pay90 (k0_pay369 x0 x1 x2 x3 x4 x5 x6 x7 x8 x9 x10 x11 x12 x13 x14 x15)))) = querySecond (mulQ (queryLatOf (View.ld x0 r0_1) (View.ld x1 r0_2) (View.ld x2 r0_3) (View.ld x5 r0_6)) (View.ld x7 r0_21)) (View.ld x11 r0_0) (View.ld x14 r0_29) (View.ld x15 r0_29) := by
    dsimp only [k0_pay4, k0_pay6, k0_pay7, k0_pay8, k0_pay9, k0_pay11, k0_pay12, k0_pay13, k0_pay17, k0_pay32, k0_pay67, k0_pay68, k0_pay90, k0_pay113, k0_pay140, k0_pay160, k0_pay183, k0_pay184, k0_pay343, k0_pay345, k0_pay347, k0_pay348, k0_pay349, k0_pay351, k0_pay352, k0_pay355, k0_pay369, k0_pay395, k0_pay396, k0_pay409, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (querySecond_row (x := View.ld x0 r0_1) (n := View.ld x1 r0_2) (W := View.ld x2 r0_3) (f := View.ld x5 r0_6) (w := View.ld x7 r0_21) (g := View.ld x11 r0_0) (C := View.ld x14 r0_29) (S := View.ld x15 r0_29)
    (fun j => Cert.Tail.ld_rows _ _ r (⟨r.val, by omega⟩ : Fin 512) (by show r.val = 0 + r.val; omega) j) (fun j => ld_whole _ _ 0 j) (fun j k => ld_whole _ _ j k) (fun j => ld_whole _ _ 0 j) (fun j a => ld_cols (o := 512) _ _ j a ⟨256 * 2 + a.val, by omega⟩ (by show 256 * 2 + a.val = 512 + a.val; omega)) (fun j => ld_whole _ _ 0 j) (fun j => Cert.Tail.ld_rows _ _ r (⟨r.val, by omega⟩ : Fin 512) (by show r.val = 0 + r.val; omega) j) (fun j => Cert.Tail.ld_rows _ _ r (⟨r.val, by omega⟩ : Fin 512) (by show r.val = 0 + r.val; omega) j) l).trans
    (queryRow_at (x := (fun j => x0 (ix2 (⟨r.val, by omega⟩ : Fin 512) j))) (n := (fun j => x1 (ix2 0 j))) (W := (fun j k => x2 (ix2 j k))) (f := (fun j => x5 (ix2 0 j))) (w := (fun j k => x7 (ix2 j k))) (g := (fun j => x11 (ix2 0 j))) (C := (fun j => x14 (ix2 (⟨r.val, by omega⟩ : Fin 512) j))) (S := (fun j => x15 (ix2 (⟨r.val, by omega⟩ : Fin 512) j))) 2 1 l ⟨640 + l.val, by omega⟩ (by show 640 + l.val = 256 * 2 + 128 * 1 + l.val; omega))

theorem query_0_6 (r : Fin 256) (l : Fin 128) :
    (k0_pay186 (k0_pay141 (k0_pay410 x0 x1 x2 x3 x4 x5 x6 x7 x8 x9 x10 x11 x12 x13 x14 x15)) (k0_pay161 (k0_pay345 x0 x1 x2 x3 x4 x5 x6 x7 x8 x9 x10 x11 x12 x13 x14 x15) (k0_pay395 x0 x1 x2 x3 x4 x5 x6 x7 x8 x9 x10 x11 x12 x13 x14 x15) (k0_pay396 x0 x1 x2 x3 x4 x5 x6 x7 x8 x9 x10 x11 x12 x13 x14 x15) (k0_pay91 (k0_pay370 x0 x1 x2 x3 x4 x5 x6 x7 x8 x9 x10 x11 x12 x13 x14 x15)))) (ix2 r l) = queryBlock x0 x1 x2 x3 x4 x5 x6 x7 x8 x9 x10 x11 x12 x13 x14 x15 ⟨r.val, by omega⟩ ⟨768 + l.val, by omega⟩ := by
  have e : k0_pay186 (k0_pay141 (k0_pay410 x0 x1 x2 x3 x4 x5 x6 x7 x8 x9 x10 x11 x12 x13 x14 x15)) (k0_pay161 (k0_pay345 x0 x1 x2 x3 x4 x5 x6 x7 x8 x9 x10 x11 x12 x13 x14 x15) (k0_pay395 x0 x1 x2 x3 x4 x5 x6 x7 x8 x9 x10 x11 x12 x13 x14 x15) (k0_pay396 x0 x1 x2 x3 x4 x5 x6 x7 x8 x9 x10 x11 x12 x13 x14 x15) (k0_pay91 (k0_pay370 x0 x1 x2 x3 x4 x5 x6 x7 x8 x9 x10 x11 x12 x13 x14 x15))) = queryFirst (mulQ (queryLatOf (View.ld x0 r0_1) (View.ld x1 r0_2) (View.ld x2 r0_3) (View.ld x5 r0_6)) (View.ld x7 r0_22)) (View.ld x11 r0_0) (View.ld x14 r0_29) (View.ld x15 r0_29) := by
    dsimp only [k0_pay4, k0_pay6, k0_pay7, k0_pay8, k0_pay9, k0_pay11, k0_pay12, k0_pay13, k0_pay17, k0_pay33, k0_pay67, k0_pay68, k0_pay91, k0_pay114, k0_pay141, k0_pay161, k0_pay186, k0_pay343, k0_pay345, k0_pay347, k0_pay348, k0_pay349, k0_pay351, k0_pay352, k0_pay355, k0_pay370, k0_pay395, k0_pay396, k0_pay410, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (queryFirst_row (x := View.ld x0 r0_1) (n := View.ld x1 r0_2) (W := View.ld x2 r0_3) (f := View.ld x5 r0_6) (w := View.ld x7 r0_22) (g := View.ld x11 r0_0) (C := View.ld x14 r0_29) (S := View.ld x15 r0_29)
    (fun j => Cert.Tail.ld_rows _ _ r (⟨r.val, by omega⟩ : Fin 512) (by show r.val = 0 + r.val; omega) j) (fun j => ld_whole _ _ 0 j) (fun j k => ld_whole _ _ j k) (fun j => ld_whole _ _ 0 j) (fun j a => ld_cols (o := 768) _ _ j a ⟨256 * 3 + a.val, by omega⟩ (by show 256 * 3 + a.val = 768 + a.val; omega)) (fun j => ld_whole _ _ 0 j) (fun j => Cert.Tail.ld_rows _ _ r (⟨r.val, by omega⟩ : Fin 512) (by show r.val = 0 + r.val; omega) j) (fun j => Cert.Tail.ld_rows _ _ r (⟨r.val, by omega⟩ : Fin 512) (by show r.val = 0 + r.val; omega) j) l).trans
    (queryRow_at (x := (fun j => x0 (ix2 (⟨r.val, by omega⟩ : Fin 512) j))) (n := (fun j => x1 (ix2 0 j))) (W := (fun j k => x2 (ix2 j k))) (f := (fun j => x5 (ix2 0 j))) (w := (fun j k => x7 (ix2 j k))) (g := (fun j => x11 (ix2 0 j))) (C := (fun j => x14 (ix2 (⟨r.val, by omega⟩ : Fin 512) j))) (S := (fun j => x15 (ix2 (⟨r.val, by omega⟩ : Fin 512) j))) 3 0 l ⟨768 + l.val, by omega⟩ (by show 768 + l.val = 256 * 3 + 128 * 0 + l.val; omega))

theorem query_0_7 (r : Fin 256) (l : Fin 128) :
    (k0_pay188 (k0_pay142 (k0_pay410 x0 x1 x2 x3 x4 x5 x6 x7 x8 x9 x10 x11 x12 x13 x14 x15)) (k0_pay162 (k0_pay345 x0 x1 x2 x3 x4 x5 x6 x7 x8 x9 x10 x11 x12 x13 x14 x15) (k0_pay395 x0 x1 x2 x3 x4 x5 x6 x7 x8 x9 x10 x11 x12 x13 x14 x15) (k0_pay396 x0 x1 x2 x3 x4 x5 x6 x7 x8 x9 x10 x11 x12 x13 x14 x15) (k0_pay92 (k0_pay370 x0 x1 x2 x3 x4 x5 x6 x7 x8 x9 x10 x11 x12 x13 x14 x15)))) (ix2 r l) = queryBlock x0 x1 x2 x3 x4 x5 x6 x7 x8 x9 x10 x11 x12 x13 x14 x15 ⟨r.val, by omega⟩ ⟨896 + l.val, by omega⟩ := by
  have e : k0_pay188 (k0_pay142 (k0_pay410 x0 x1 x2 x3 x4 x5 x6 x7 x8 x9 x10 x11 x12 x13 x14 x15)) (k0_pay162 (k0_pay345 x0 x1 x2 x3 x4 x5 x6 x7 x8 x9 x10 x11 x12 x13 x14 x15) (k0_pay395 x0 x1 x2 x3 x4 x5 x6 x7 x8 x9 x10 x11 x12 x13 x14 x15) (k0_pay396 x0 x1 x2 x3 x4 x5 x6 x7 x8 x9 x10 x11 x12 x13 x14 x15) (k0_pay92 (k0_pay370 x0 x1 x2 x3 x4 x5 x6 x7 x8 x9 x10 x11 x12 x13 x14 x15))) = querySecond (mulQ (queryLatOf (View.ld x0 r0_1) (View.ld x1 r0_2) (View.ld x2 r0_3) (View.ld x5 r0_6)) (View.ld x7 r0_22)) (View.ld x11 r0_0) (View.ld x14 r0_29) (View.ld x15 r0_29) := by
    dsimp only [k0_pay4, k0_pay6, k0_pay7, k0_pay8, k0_pay9, k0_pay11, k0_pay12, k0_pay13, k0_pay17, k0_pay33, k0_pay67, k0_pay68, k0_pay92, k0_pay114, k0_pay142, k0_pay162, k0_pay188, k0_pay343, k0_pay345, k0_pay347, k0_pay348, k0_pay349, k0_pay351, k0_pay352, k0_pay355, k0_pay370, k0_pay395, k0_pay396, k0_pay410, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (querySecond_row (x := View.ld x0 r0_1) (n := View.ld x1 r0_2) (W := View.ld x2 r0_3) (f := View.ld x5 r0_6) (w := View.ld x7 r0_22) (g := View.ld x11 r0_0) (C := View.ld x14 r0_29) (S := View.ld x15 r0_29)
    (fun j => Cert.Tail.ld_rows _ _ r (⟨r.val, by omega⟩ : Fin 512) (by show r.val = 0 + r.val; omega) j) (fun j => ld_whole _ _ 0 j) (fun j k => ld_whole _ _ j k) (fun j => ld_whole _ _ 0 j) (fun j a => ld_cols (o := 768) _ _ j a ⟨256 * 3 + a.val, by omega⟩ (by show 256 * 3 + a.val = 768 + a.val; omega)) (fun j => ld_whole _ _ 0 j) (fun j => Cert.Tail.ld_rows _ _ r (⟨r.val, by omega⟩ : Fin 512) (by show r.val = 0 + r.val; omega) j) (fun j => Cert.Tail.ld_rows _ _ r (⟨r.val, by omega⟩ : Fin 512) (by show r.val = 0 + r.val; omega) j) l).trans
    (queryRow_at (x := (fun j => x0 (ix2 (⟨r.val, by omega⟩ : Fin 512) j))) (n := (fun j => x1 (ix2 0 j))) (W := (fun j k => x2 (ix2 j k))) (f := (fun j => x5 (ix2 0 j))) (w := (fun j k => x7 (ix2 j k))) (g := (fun j => x11 (ix2 0 j))) (C := (fun j => x14 (ix2 (⟨r.val, by omega⟩ : Fin 512) j))) (S := (fun j => x15 (ix2 (⟨r.val, by omega⟩ : Fin 512) j))) 3 1 l ⟨896 + l.val, by omega⟩ (by show 896 + l.val = 256 * 3 + 128 * 1 + l.val; omega))

theorem query_0_8 (r : Fin 256) (l : Fin 128) :
    (k0_pay190 (k0_pay144 (k0_pay143 (k0_pay411 x0 x1 x2 x3 x4 x5 x6 x7 x8 x9 x10 x11 x12 x13 x14 x15))) (k0_pay163 (k0_pay345 x0 x1 x2 x3 x4 x5 x6 x7 x8 x9 x10 x11 x12 x13 x14 x15) (k0_pay395 x0 x1 x2 x3 x4 x5 x6 x7 x8 x9 x10 x11 x12 x13 x14 x15) (k0_pay396 x0 x1 x2 x3 x4 x5 x6 x7 x8 x9 x10 x11 x12 x13 x14 x15) (k0_pay93 (k0_pay371 x0 x1 x2 x3 x4 x5 x6 x7 x8 x9 x10 x11 x12 x13 x14 x15)))) (ix2 r l) = queryBlock x0 x1 x2 x3 x4 x5 x6 x7 x8 x9 x10 x11 x12 x13 x14 x15 ⟨r.val, by omega⟩ ⟨1024 + l.val, by omega⟩ := by
  have e : k0_pay190 (k0_pay144 (k0_pay143 (k0_pay411 x0 x1 x2 x3 x4 x5 x6 x7 x8 x9 x10 x11 x12 x13 x14 x15))) (k0_pay163 (k0_pay345 x0 x1 x2 x3 x4 x5 x6 x7 x8 x9 x10 x11 x12 x13 x14 x15) (k0_pay395 x0 x1 x2 x3 x4 x5 x6 x7 x8 x9 x10 x11 x12 x13 x14 x15) (k0_pay396 x0 x1 x2 x3 x4 x5 x6 x7 x8 x9 x10 x11 x12 x13 x14 x15) (k0_pay93 (k0_pay371 x0 x1 x2 x3 x4 x5 x6 x7 x8 x9 x10 x11 x12 x13 x14 x15))) = queryFirst (mulQ (queryLatOf (View.ld x0 r0_1) (View.ld x1 r0_2) (View.ld x2 r0_3) (View.ld x5 r0_6)) (View.ld x7 r0_23)) (View.ld x11 r0_0) (View.ld x14 r0_29) (View.ld x15 r0_29) := by
    dsimp only [k0_pay4, k0_pay6, k0_pay7, k0_pay8, k0_pay9, k0_pay11, k0_pay12, k0_pay13, k0_pay17, k0_pay34, k0_pay67, k0_pay68, k0_pay93, k0_pay115, k0_pay143, k0_pay144, k0_pay163, k0_pay190, k0_pay343, k0_pay345, k0_pay347, k0_pay348, k0_pay349, k0_pay351, k0_pay352, k0_pay355, k0_pay371, k0_pay395, k0_pay396, k0_pay411, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (queryFirst_row (x := View.ld x0 r0_1) (n := View.ld x1 r0_2) (W := View.ld x2 r0_3) (f := View.ld x5 r0_6) (w := View.ld x7 r0_23) (g := View.ld x11 r0_0) (C := View.ld x14 r0_29) (S := View.ld x15 r0_29)
    (fun j => Cert.Tail.ld_rows _ _ r (⟨r.val, by omega⟩ : Fin 512) (by show r.val = 0 + r.val; omega) j) (fun j => ld_whole _ _ 0 j) (fun j k => ld_whole _ _ j k) (fun j => ld_whole _ _ 0 j) (fun j a => ld_cols (o := 1024) _ _ j a ⟨256 * 4 + a.val, by omega⟩ (by show 256 * 4 + a.val = 1024 + a.val; omega)) (fun j => ld_whole _ _ 0 j) (fun j => Cert.Tail.ld_rows _ _ r (⟨r.val, by omega⟩ : Fin 512) (by show r.val = 0 + r.val; omega) j) (fun j => Cert.Tail.ld_rows _ _ r (⟨r.val, by omega⟩ : Fin 512) (by show r.val = 0 + r.val; omega) j) l).trans
    (queryRow_at (x := (fun j => x0 (ix2 (⟨r.val, by omega⟩ : Fin 512) j))) (n := (fun j => x1 (ix2 0 j))) (W := (fun j k => x2 (ix2 j k))) (f := (fun j => x5 (ix2 0 j))) (w := (fun j k => x7 (ix2 j k))) (g := (fun j => x11 (ix2 0 j))) (C := (fun j => x14 (ix2 (⟨r.val, by omega⟩ : Fin 512) j))) (S := (fun j => x15 (ix2 (⟨r.val, by omega⟩ : Fin 512) j))) 4 0 l ⟨1024 + l.val, by omega⟩ (by show 1024 + l.val = 256 * 4 + 128 * 0 + l.val; omega))

theorem query_0_9 (r : Fin 256) (l : Fin 128) :
    (k0_pay193 (k0_pay192 (k0_pay145 (k0_pay411 x0 x1 x2 x3 x4 x5 x6 x7 x8 x9 x10 x11 x12 x13 x14 x15)) (k0_pay164 (k0_pay345 x0 x1 x2 x3 x4 x5 x6 x7 x8 x9 x10 x11 x12 x13 x14 x15) (k0_pay395 x0 x1 x2 x3 x4 x5 x6 x7 x8 x9 x10 x11 x12 x13 x14 x15) (k0_pay396 x0 x1 x2 x3 x4 x5 x6 x7 x8 x9 x10 x11 x12 x13 x14 x15) (k0_pay94 (k0_pay371 x0 x1 x2 x3 x4 x5 x6 x7 x8 x9 x10 x11 x12 x13 x14 x15))))) (ix2 r l) = queryBlock x0 x1 x2 x3 x4 x5 x6 x7 x8 x9 x10 x11 x12 x13 x14 x15 ⟨r.val, by omega⟩ ⟨1152 + l.val, by omega⟩ := by
  have e : k0_pay193 (k0_pay192 (k0_pay145 (k0_pay411 x0 x1 x2 x3 x4 x5 x6 x7 x8 x9 x10 x11 x12 x13 x14 x15)) (k0_pay164 (k0_pay345 x0 x1 x2 x3 x4 x5 x6 x7 x8 x9 x10 x11 x12 x13 x14 x15) (k0_pay395 x0 x1 x2 x3 x4 x5 x6 x7 x8 x9 x10 x11 x12 x13 x14 x15) (k0_pay396 x0 x1 x2 x3 x4 x5 x6 x7 x8 x9 x10 x11 x12 x13 x14 x15) (k0_pay94 (k0_pay371 x0 x1 x2 x3 x4 x5 x6 x7 x8 x9 x10 x11 x12 x13 x14 x15)))) = querySecond (mulQ (queryLatOf (View.ld x0 r0_1) (View.ld x1 r0_2) (View.ld x2 r0_3) (View.ld x5 r0_6)) (View.ld x7 r0_23)) (View.ld x11 r0_0) (View.ld x14 r0_29) (View.ld x15 r0_29) := by
    dsimp only [k0_pay4, k0_pay6, k0_pay7, k0_pay8, k0_pay9, k0_pay11, k0_pay12, k0_pay13, k0_pay17, k0_pay34, k0_pay67, k0_pay68, k0_pay94, k0_pay115, k0_pay145, k0_pay164, k0_pay192, k0_pay193, k0_pay343, k0_pay345, k0_pay347, k0_pay348, k0_pay349, k0_pay351, k0_pay352, k0_pay355, k0_pay371, k0_pay395, k0_pay396, k0_pay411, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (querySecond_row (x := View.ld x0 r0_1) (n := View.ld x1 r0_2) (W := View.ld x2 r0_3) (f := View.ld x5 r0_6) (w := View.ld x7 r0_23) (g := View.ld x11 r0_0) (C := View.ld x14 r0_29) (S := View.ld x15 r0_29)
    (fun j => Cert.Tail.ld_rows _ _ r (⟨r.val, by omega⟩ : Fin 512) (by show r.val = 0 + r.val; omega) j) (fun j => ld_whole _ _ 0 j) (fun j k => ld_whole _ _ j k) (fun j => ld_whole _ _ 0 j) (fun j a => ld_cols (o := 1024) _ _ j a ⟨256 * 4 + a.val, by omega⟩ (by show 256 * 4 + a.val = 1024 + a.val; omega)) (fun j => ld_whole _ _ 0 j) (fun j => Cert.Tail.ld_rows _ _ r (⟨r.val, by omega⟩ : Fin 512) (by show r.val = 0 + r.val; omega) j) (fun j => Cert.Tail.ld_rows _ _ r (⟨r.val, by omega⟩ : Fin 512) (by show r.val = 0 + r.val; omega) j) l).trans
    (queryRow_at (x := (fun j => x0 (ix2 (⟨r.val, by omega⟩ : Fin 512) j))) (n := (fun j => x1 (ix2 0 j))) (W := (fun j k => x2 (ix2 j k))) (f := (fun j => x5 (ix2 0 j))) (w := (fun j k => x7 (ix2 j k))) (g := (fun j => x11 (ix2 0 j))) (C := (fun j => x14 (ix2 (⟨r.val, by omega⟩ : Fin 512) j))) (S := (fun j => x15 (ix2 (⟨r.val, by omega⟩ : Fin 512) j))) 4 1 l ⟨1152 + l.val, by omega⟩ (by show 1152 + l.val = 256 * 4 + 128 * 1 + l.val; omega))

theorem query_0_10 (r : Fin 256) (l : Fin 128) :
    (k0_pay195 (k0_pay146 (k0_pay412 x0 x1 x2 x3 x4 x5 x6 x7 x8 x9 x10 x11 x12 x13 x14 x15)) (k0_pay165 (k0_pay345 x0 x1 x2 x3 x4 x5 x6 x7 x8 x9 x10 x11 x12 x13 x14 x15) (k0_pay395 x0 x1 x2 x3 x4 x5 x6 x7 x8 x9 x10 x11 x12 x13 x14 x15) (k0_pay396 x0 x1 x2 x3 x4 x5 x6 x7 x8 x9 x10 x11 x12 x13 x14 x15) (k0_pay95 (k0_pay372 x0 x1 x2 x3 x4 x5 x6 x7 x8 x9 x10 x11 x12 x13 x14 x15)))) (ix2 r l) = queryBlock x0 x1 x2 x3 x4 x5 x6 x7 x8 x9 x10 x11 x12 x13 x14 x15 ⟨r.val, by omega⟩ ⟨1280 + l.val, by omega⟩ := by
  have e : k0_pay195 (k0_pay146 (k0_pay412 x0 x1 x2 x3 x4 x5 x6 x7 x8 x9 x10 x11 x12 x13 x14 x15)) (k0_pay165 (k0_pay345 x0 x1 x2 x3 x4 x5 x6 x7 x8 x9 x10 x11 x12 x13 x14 x15) (k0_pay395 x0 x1 x2 x3 x4 x5 x6 x7 x8 x9 x10 x11 x12 x13 x14 x15) (k0_pay396 x0 x1 x2 x3 x4 x5 x6 x7 x8 x9 x10 x11 x12 x13 x14 x15) (k0_pay95 (k0_pay372 x0 x1 x2 x3 x4 x5 x6 x7 x8 x9 x10 x11 x12 x13 x14 x15))) = queryFirst (mulQ (queryLatOf (View.ld x0 r0_1) (View.ld x1 r0_2) (View.ld x2 r0_3) (View.ld x5 r0_6)) (View.ld x7 r0_24)) (View.ld x11 r0_0) (View.ld x14 r0_29) (View.ld x15 r0_29) := by
    dsimp only [k0_pay4, k0_pay6, k0_pay7, k0_pay8, k0_pay9, k0_pay11, k0_pay12, k0_pay13, k0_pay17, k0_pay35, k0_pay67, k0_pay68, k0_pay95, k0_pay116, k0_pay146, k0_pay165, k0_pay195, k0_pay343, k0_pay345, k0_pay347, k0_pay348, k0_pay349, k0_pay351, k0_pay352, k0_pay355, k0_pay372, k0_pay395, k0_pay396, k0_pay412, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (queryFirst_row (x := View.ld x0 r0_1) (n := View.ld x1 r0_2) (W := View.ld x2 r0_3) (f := View.ld x5 r0_6) (w := View.ld x7 r0_24) (g := View.ld x11 r0_0) (C := View.ld x14 r0_29) (S := View.ld x15 r0_29)
    (fun j => Cert.Tail.ld_rows _ _ r (⟨r.val, by omega⟩ : Fin 512) (by show r.val = 0 + r.val; omega) j) (fun j => ld_whole _ _ 0 j) (fun j k => ld_whole _ _ j k) (fun j => ld_whole _ _ 0 j) (fun j a => ld_cols (o := 1280) _ _ j a ⟨256 * 5 + a.val, by omega⟩ (by show 256 * 5 + a.val = 1280 + a.val; omega)) (fun j => ld_whole _ _ 0 j) (fun j => Cert.Tail.ld_rows _ _ r (⟨r.val, by omega⟩ : Fin 512) (by show r.val = 0 + r.val; omega) j) (fun j => Cert.Tail.ld_rows _ _ r (⟨r.val, by omega⟩ : Fin 512) (by show r.val = 0 + r.val; omega) j) l).trans
    (queryRow_at (x := (fun j => x0 (ix2 (⟨r.val, by omega⟩ : Fin 512) j))) (n := (fun j => x1 (ix2 0 j))) (W := (fun j k => x2 (ix2 j k))) (f := (fun j => x5 (ix2 0 j))) (w := (fun j k => x7 (ix2 j k))) (g := (fun j => x11 (ix2 0 j))) (C := (fun j => x14 (ix2 (⟨r.val, by omega⟩ : Fin 512) j))) (S := (fun j => x15 (ix2 (⟨r.val, by omega⟩ : Fin 512) j))) 5 0 l ⟨1280 + l.val, by omega⟩ (by show 1280 + l.val = 256 * 5 + 128 * 0 + l.val; omega))

theorem query_0_11 (r : Fin 256) (l : Fin 128) :
    (k0_pay197 (k0_pay147 (k0_pay412 x0 x1 x2 x3 x4 x5 x6 x7 x8 x9 x10 x11 x12 x13 x14 x15)) (k0_pay166 (k0_pay345 x0 x1 x2 x3 x4 x5 x6 x7 x8 x9 x10 x11 x12 x13 x14 x15) (k0_pay395 x0 x1 x2 x3 x4 x5 x6 x7 x8 x9 x10 x11 x12 x13 x14 x15) (k0_pay396 x0 x1 x2 x3 x4 x5 x6 x7 x8 x9 x10 x11 x12 x13 x14 x15) (k0_pay96 (k0_pay372 x0 x1 x2 x3 x4 x5 x6 x7 x8 x9 x10 x11 x12 x13 x14 x15)))) (ix2 r l) = queryBlock x0 x1 x2 x3 x4 x5 x6 x7 x8 x9 x10 x11 x12 x13 x14 x15 ⟨r.val, by omega⟩ ⟨1408 + l.val, by omega⟩ := by
  have e : k0_pay197 (k0_pay147 (k0_pay412 x0 x1 x2 x3 x4 x5 x6 x7 x8 x9 x10 x11 x12 x13 x14 x15)) (k0_pay166 (k0_pay345 x0 x1 x2 x3 x4 x5 x6 x7 x8 x9 x10 x11 x12 x13 x14 x15) (k0_pay395 x0 x1 x2 x3 x4 x5 x6 x7 x8 x9 x10 x11 x12 x13 x14 x15) (k0_pay396 x0 x1 x2 x3 x4 x5 x6 x7 x8 x9 x10 x11 x12 x13 x14 x15) (k0_pay96 (k0_pay372 x0 x1 x2 x3 x4 x5 x6 x7 x8 x9 x10 x11 x12 x13 x14 x15))) = querySecond (mulQ (queryLatOf (View.ld x0 r0_1) (View.ld x1 r0_2) (View.ld x2 r0_3) (View.ld x5 r0_6)) (View.ld x7 r0_24)) (View.ld x11 r0_0) (View.ld x14 r0_29) (View.ld x15 r0_29) := by
    dsimp only [k0_pay4, k0_pay6, k0_pay7, k0_pay8, k0_pay9, k0_pay11, k0_pay12, k0_pay13, k0_pay17, k0_pay35, k0_pay67, k0_pay68, k0_pay96, k0_pay116, k0_pay147, k0_pay166, k0_pay197, k0_pay343, k0_pay345, k0_pay347, k0_pay348, k0_pay349, k0_pay351, k0_pay352, k0_pay355, k0_pay372, k0_pay395, k0_pay396, k0_pay412, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (querySecond_row (x := View.ld x0 r0_1) (n := View.ld x1 r0_2) (W := View.ld x2 r0_3) (f := View.ld x5 r0_6) (w := View.ld x7 r0_24) (g := View.ld x11 r0_0) (C := View.ld x14 r0_29) (S := View.ld x15 r0_29)
    (fun j => Cert.Tail.ld_rows _ _ r (⟨r.val, by omega⟩ : Fin 512) (by show r.val = 0 + r.val; omega) j) (fun j => ld_whole _ _ 0 j) (fun j k => ld_whole _ _ j k) (fun j => ld_whole _ _ 0 j) (fun j a => ld_cols (o := 1280) _ _ j a ⟨256 * 5 + a.val, by omega⟩ (by show 256 * 5 + a.val = 1280 + a.val; omega)) (fun j => ld_whole _ _ 0 j) (fun j => Cert.Tail.ld_rows _ _ r (⟨r.val, by omega⟩ : Fin 512) (by show r.val = 0 + r.val; omega) j) (fun j => Cert.Tail.ld_rows _ _ r (⟨r.val, by omega⟩ : Fin 512) (by show r.val = 0 + r.val; omega) j) l).trans
    (queryRow_at (x := (fun j => x0 (ix2 (⟨r.val, by omega⟩ : Fin 512) j))) (n := (fun j => x1 (ix2 0 j))) (W := (fun j k => x2 (ix2 j k))) (f := (fun j => x5 (ix2 0 j))) (w := (fun j k => x7 (ix2 j k))) (g := (fun j => x11 (ix2 0 j))) (C := (fun j => x14 (ix2 (⟨r.val, by omega⟩ : Fin 512) j))) (S := (fun j => x15 (ix2 (⟨r.val, by omega⟩ : Fin 512) j))) 5 1 l ⟨1408 + l.val, by omega⟩ (by show 1408 + l.val = 256 * 5 + 128 * 1 + l.val; omega))

theorem query_0_12 (r : Fin 256) (l : Fin 128) :
    (k0_pay199 (k0_pay148 (k0_pay413 x0 x1 x2 x3 x4 x5 x6 x7 x8 x9 x10 x11 x12 x13 x14 x15)) (k0_pay167 (k0_pay345 x0 x1 x2 x3 x4 x5 x6 x7 x8 x9 x10 x11 x12 x13 x14 x15) (k0_pay395 x0 x1 x2 x3 x4 x5 x6 x7 x8 x9 x10 x11 x12 x13 x14 x15) (k0_pay396 x0 x1 x2 x3 x4 x5 x6 x7 x8 x9 x10 x11 x12 x13 x14 x15) (k0_pay97 (k0_pay373 x0 x1 x2 x3 x4 x5 x6 x7 x8 x9 x10 x11 x12 x13 x14 x15)))) (ix2 r l) = queryBlock x0 x1 x2 x3 x4 x5 x6 x7 x8 x9 x10 x11 x12 x13 x14 x15 ⟨r.val, by omega⟩ ⟨1536 + l.val, by omega⟩ := by
  have e : k0_pay199 (k0_pay148 (k0_pay413 x0 x1 x2 x3 x4 x5 x6 x7 x8 x9 x10 x11 x12 x13 x14 x15)) (k0_pay167 (k0_pay345 x0 x1 x2 x3 x4 x5 x6 x7 x8 x9 x10 x11 x12 x13 x14 x15) (k0_pay395 x0 x1 x2 x3 x4 x5 x6 x7 x8 x9 x10 x11 x12 x13 x14 x15) (k0_pay396 x0 x1 x2 x3 x4 x5 x6 x7 x8 x9 x10 x11 x12 x13 x14 x15) (k0_pay97 (k0_pay373 x0 x1 x2 x3 x4 x5 x6 x7 x8 x9 x10 x11 x12 x13 x14 x15))) = queryFirst (mulQ (queryLatOf (View.ld x0 r0_1) (View.ld x1 r0_2) (View.ld x2 r0_3) (View.ld x5 r0_6)) (View.ld x7 r0_25)) (View.ld x11 r0_0) (View.ld x14 r0_29) (View.ld x15 r0_29) := by
    dsimp only [k0_pay4, k0_pay6, k0_pay7, k0_pay8, k0_pay9, k0_pay11, k0_pay12, k0_pay13, k0_pay17, k0_pay36, k0_pay67, k0_pay68, k0_pay97, k0_pay117, k0_pay148, k0_pay167, k0_pay199, k0_pay343, k0_pay345, k0_pay347, k0_pay348, k0_pay349, k0_pay351, k0_pay352, k0_pay355, k0_pay373, k0_pay395, k0_pay396, k0_pay413, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (queryFirst_row (x := View.ld x0 r0_1) (n := View.ld x1 r0_2) (W := View.ld x2 r0_3) (f := View.ld x5 r0_6) (w := View.ld x7 r0_25) (g := View.ld x11 r0_0) (C := View.ld x14 r0_29) (S := View.ld x15 r0_29)
    (fun j => Cert.Tail.ld_rows _ _ r (⟨r.val, by omega⟩ : Fin 512) (by show r.val = 0 + r.val; omega) j) (fun j => ld_whole _ _ 0 j) (fun j k => ld_whole _ _ j k) (fun j => ld_whole _ _ 0 j) (fun j a => ld_cols (o := 1536) _ _ j a ⟨256 * 6 + a.val, by omega⟩ (by show 256 * 6 + a.val = 1536 + a.val; omega)) (fun j => ld_whole _ _ 0 j) (fun j => Cert.Tail.ld_rows _ _ r (⟨r.val, by omega⟩ : Fin 512) (by show r.val = 0 + r.val; omega) j) (fun j => Cert.Tail.ld_rows _ _ r (⟨r.val, by omega⟩ : Fin 512) (by show r.val = 0 + r.val; omega) j) l).trans
    (queryRow_at (x := (fun j => x0 (ix2 (⟨r.val, by omega⟩ : Fin 512) j))) (n := (fun j => x1 (ix2 0 j))) (W := (fun j k => x2 (ix2 j k))) (f := (fun j => x5 (ix2 0 j))) (w := (fun j k => x7 (ix2 j k))) (g := (fun j => x11 (ix2 0 j))) (C := (fun j => x14 (ix2 (⟨r.val, by omega⟩ : Fin 512) j))) (S := (fun j => x15 (ix2 (⟨r.val, by omega⟩ : Fin 512) j))) 6 0 l ⟨1536 + l.val, by omega⟩ (by show 1536 + l.val = 256 * 6 + 128 * 0 + l.val; omega))

theorem query_0_13 (r : Fin 256) (l : Fin 128) :
    (k0_pay202 (k0_pay201 (k0_pay149 (k0_pay413 x0 x1 x2 x3 x4 x5 x6 x7 x8 x9 x10 x11 x12 x13 x14 x15)) (k0_pay168 (k0_pay345 x0 x1 x2 x3 x4 x5 x6 x7 x8 x9 x10 x11 x12 x13 x14 x15) (k0_pay395 x0 x1 x2 x3 x4 x5 x6 x7 x8 x9 x10 x11 x12 x13 x14 x15) (k0_pay396 x0 x1 x2 x3 x4 x5 x6 x7 x8 x9 x10 x11 x12 x13 x14 x15) (k0_pay98 (k0_pay373 x0 x1 x2 x3 x4 x5 x6 x7 x8 x9 x10 x11 x12 x13 x14 x15))))) (ix2 r l) = queryBlock x0 x1 x2 x3 x4 x5 x6 x7 x8 x9 x10 x11 x12 x13 x14 x15 ⟨r.val, by omega⟩ ⟨1664 + l.val, by omega⟩ := by
  have e : k0_pay202 (k0_pay201 (k0_pay149 (k0_pay413 x0 x1 x2 x3 x4 x5 x6 x7 x8 x9 x10 x11 x12 x13 x14 x15)) (k0_pay168 (k0_pay345 x0 x1 x2 x3 x4 x5 x6 x7 x8 x9 x10 x11 x12 x13 x14 x15) (k0_pay395 x0 x1 x2 x3 x4 x5 x6 x7 x8 x9 x10 x11 x12 x13 x14 x15) (k0_pay396 x0 x1 x2 x3 x4 x5 x6 x7 x8 x9 x10 x11 x12 x13 x14 x15) (k0_pay98 (k0_pay373 x0 x1 x2 x3 x4 x5 x6 x7 x8 x9 x10 x11 x12 x13 x14 x15)))) = querySecond (mulQ (queryLatOf (View.ld x0 r0_1) (View.ld x1 r0_2) (View.ld x2 r0_3) (View.ld x5 r0_6)) (View.ld x7 r0_25)) (View.ld x11 r0_0) (View.ld x14 r0_29) (View.ld x15 r0_29) := by
    dsimp only [k0_pay4, k0_pay6, k0_pay7, k0_pay8, k0_pay9, k0_pay11, k0_pay12, k0_pay13, k0_pay17, k0_pay36, k0_pay67, k0_pay68, k0_pay98, k0_pay117, k0_pay149, k0_pay168, k0_pay201, k0_pay202, k0_pay343, k0_pay345, k0_pay347, k0_pay348, k0_pay349, k0_pay351, k0_pay352, k0_pay355, k0_pay373, k0_pay395, k0_pay396, k0_pay413, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (querySecond_row (x := View.ld x0 r0_1) (n := View.ld x1 r0_2) (W := View.ld x2 r0_3) (f := View.ld x5 r0_6) (w := View.ld x7 r0_25) (g := View.ld x11 r0_0) (C := View.ld x14 r0_29) (S := View.ld x15 r0_29)
    (fun j => Cert.Tail.ld_rows _ _ r (⟨r.val, by omega⟩ : Fin 512) (by show r.val = 0 + r.val; omega) j) (fun j => ld_whole _ _ 0 j) (fun j k => ld_whole _ _ j k) (fun j => ld_whole _ _ 0 j) (fun j a => ld_cols (o := 1536) _ _ j a ⟨256 * 6 + a.val, by omega⟩ (by show 256 * 6 + a.val = 1536 + a.val; omega)) (fun j => ld_whole _ _ 0 j) (fun j => Cert.Tail.ld_rows _ _ r (⟨r.val, by omega⟩ : Fin 512) (by show r.val = 0 + r.val; omega) j) (fun j => Cert.Tail.ld_rows _ _ r (⟨r.val, by omega⟩ : Fin 512) (by show r.val = 0 + r.val; omega) j) l).trans
    (queryRow_at (x := (fun j => x0 (ix2 (⟨r.val, by omega⟩ : Fin 512) j))) (n := (fun j => x1 (ix2 0 j))) (W := (fun j k => x2 (ix2 j k))) (f := (fun j => x5 (ix2 0 j))) (w := (fun j k => x7 (ix2 j k))) (g := (fun j => x11 (ix2 0 j))) (C := (fun j => x14 (ix2 (⟨r.val, by omega⟩ : Fin 512) j))) (S := (fun j => x15 (ix2 (⟨r.val, by omega⟩ : Fin 512) j))) 6 1 l ⟨1664 + l.val, by omega⟩ (by show 1664 + l.val = 256 * 6 + 128 * 1 + l.val; omega))

theorem query_0_14 (r : Fin 256) (l : Fin 128) :
    (k0_pay204 (k0_pay150 (k0_pay414 x0 x1 x2 x3 x4 x5 x6 x7 x8 x9 x10 x11 x12 x13 x14 x15)) (k0_pay169 (k0_pay345 x0 x1 x2 x3 x4 x5 x6 x7 x8 x9 x10 x11 x12 x13 x14 x15) (k0_pay395 x0 x1 x2 x3 x4 x5 x6 x7 x8 x9 x10 x11 x12 x13 x14 x15) (k0_pay396 x0 x1 x2 x3 x4 x5 x6 x7 x8 x9 x10 x11 x12 x13 x14 x15) (k0_pay99 (k0_pay374 x0 x1 x2 x3 x4 x5 x6 x7 x8 x9 x10 x11 x12 x13 x14 x15)))) (ix2 r l) = queryBlock x0 x1 x2 x3 x4 x5 x6 x7 x8 x9 x10 x11 x12 x13 x14 x15 ⟨r.val, by omega⟩ ⟨1792 + l.val, by omega⟩ := by
  have e : k0_pay204 (k0_pay150 (k0_pay414 x0 x1 x2 x3 x4 x5 x6 x7 x8 x9 x10 x11 x12 x13 x14 x15)) (k0_pay169 (k0_pay345 x0 x1 x2 x3 x4 x5 x6 x7 x8 x9 x10 x11 x12 x13 x14 x15) (k0_pay395 x0 x1 x2 x3 x4 x5 x6 x7 x8 x9 x10 x11 x12 x13 x14 x15) (k0_pay396 x0 x1 x2 x3 x4 x5 x6 x7 x8 x9 x10 x11 x12 x13 x14 x15) (k0_pay99 (k0_pay374 x0 x1 x2 x3 x4 x5 x6 x7 x8 x9 x10 x11 x12 x13 x14 x15))) = queryFirst (mulQ (queryLatOf (View.ld x0 r0_1) (View.ld x1 r0_2) (View.ld x2 r0_3) (View.ld x5 r0_6)) (View.ld x7 r0_26)) (View.ld x11 r0_0) (View.ld x14 r0_29) (View.ld x15 r0_29) := by
    dsimp only [k0_pay4, k0_pay6, k0_pay7, k0_pay8, k0_pay9, k0_pay11, k0_pay12, k0_pay13, k0_pay17, k0_pay37, k0_pay67, k0_pay68, k0_pay99, k0_pay118, k0_pay150, k0_pay169, k0_pay204, k0_pay343, k0_pay345, k0_pay347, k0_pay348, k0_pay349, k0_pay351, k0_pay352, k0_pay355, k0_pay374, k0_pay395, k0_pay396, k0_pay414, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (queryFirst_row (x := View.ld x0 r0_1) (n := View.ld x1 r0_2) (W := View.ld x2 r0_3) (f := View.ld x5 r0_6) (w := View.ld x7 r0_26) (g := View.ld x11 r0_0) (C := View.ld x14 r0_29) (S := View.ld x15 r0_29)
    (fun j => Cert.Tail.ld_rows _ _ r (⟨r.val, by omega⟩ : Fin 512) (by show r.val = 0 + r.val; omega) j) (fun j => ld_whole _ _ 0 j) (fun j k => ld_whole _ _ j k) (fun j => ld_whole _ _ 0 j) (fun j a => ld_cols (o := 1792) _ _ j a ⟨256 * 7 + a.val, by omega⟩ (by show 256 * 7 + a.val = 1792 + a.val; omega)) (fun j => ld_whole _ _ 0 j) (fun j => Cert.Tail.ld_rows _ _ r (⟨r.val, by omega⟩ : Fin 512) (by show r.val = 0 + r.val; omega) j) (fun j => Cert.Tail.ld_rows _ _ r (⟨r.val, by omega⟩ : Fin 512) (by show r.val = 0 + r.val; omega) j) l).trans
    (queryRow_at (x := (fun j => x0 (ix2 (⟨r.val, by omega⟩ : Fin 512) j))) (n := (fun j => x1 (ix2 0 j))) (W := (fun j k => x2 (ix2 j k))) (f := (fun j => x5 (ix2 0 j))) (w := (fun j k => x7 (ix2 j k))) (g := (fun j => x11 (ix2 0 j))) (C := (fun j => x14 (ix2 (⟨r.val, by omega⟩ : Fin 512) j))) (S := (fun j => x15 (ix2 (⟨r.val, by omega⟩ : Fin 512) j))) 7 0 l ⟨1792 + l.val, by omega⟩ (by show 1792 + l.val = 256 * 7 + 128 * 0 + l.val; omega))

theorem query_0_15 (r : Fin 256) (l : Fin 128) :
    (k0_pay206 (k0_pay151 (k0_pay414 x0 x1 x2 x3 x4 x5 x6 x7 x8 x9 x10 x11 x12 x13 x14 x15)) (k0_pay170 (k0_pay345 x0 x1 x2 x3 x4 x5 x6 x7 x8 x9 x10 x11 x12 x13 x14 x15) (k0_pay395 x0 x1 x2 x3 x4 x5 x6 x7 x8 x9 x10 x11 x12 x13 x14 x15) (k0_pay396 x0 x1 x2 x3 x4 x5 x6 x7 x8 x9 x10 x11 x12 x13 x14 x15) (k0_pay100 (k0_pay374 x0 x1 x2 x3 x4 x5 x6 x7 x8 x9 x10 x11 x12 x13 x14 x15)))) (ix2 r l) = queryBlock x0 x1 x2 x3 x4 x5 x6 x7 x8 x9 x10 x11 x12 x13 x14 x15 ⟨r.val, by omega⟩ ⟨1920 + l.val, by omega⟩ := by
  have e : k0_pay206 (k0_pay151 (k0_pay414 x0 x1 x2 x3 x4 x5 x6 x7 x8 x9 x10 x11 x12 x13 x14 x15)) (k0_pay170 (k0_pay345 x0 x1 x2 x3 x4 x5 x6 x7 x8 x9 x10 x11 x12 x13 x14 x15) (k0_pay395 x0 x1 x2 x3 x4 x5 x6 x7 x8 x9 x10 x11 x12 x13 x14 x15) (k0_pay396 x0 x1 x2 x3 x4 x5 x6 x7 x8 x9 x10 x11 x12 x13 x14 x15) (k0_pay100 (k0_pay374 x0 x1 x2 x3 x4 x5 x6 x7 x8 x9 x10 x11 x12 x13 x14 x15))) = querySecond (mulQ (queryLatOf (View.ld x0 r0_1) (View.ld x1 r0_2) (View.ld x2 r0_3) (View.ld x5 r0_6)) (View.ld x7 r0_26)) (View.ld x11 r0_0) (View.ld x14 r0_29) (View.ld x15 r0_29) := by
    dsimp only [k0_pay4, k0_pay6, k0_pay7, k0_pay8, k0_pay9, k0_pay11, k0_pay12, k0_pay13, k0_pay17, k0_pay37, k0_pay67, k0_pay68, k0_pay100, k0_pay118, k0_pay151, k0_pay170, k0_pay206, k0_pay343, k0_pay345, k0_pay347, k0_pay348, k0_pay349, k0_pay351, k0_pay352, k0_pay355, k0_pay374, k0_pay395, k0_pay396, k0_pay414, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (querySecond_row (x := View.ld x0 r0_1) (n := View.ld x1 r0_2) (W := View.ld x2 r0_3) (f := View.ld x5 r0_6) (w := View.ld x7 r0_26) (g := View.ld x11 r0_0) (C := View.ld x14 r0_29) (S := View.ld x15 r0_29)
    (fun j => Cert.Tail.ld_rows _ _ r (⟨r.val, by omega⟩ : Fin 512) (by show r.val = 0 + r.val; omega) j) (fun j => ld_whole _ _ 0 j) (fun j k => ld_whole _ _ j k) (fun j => ld_whole _ _ 0 j) (fun j a => ld_cols (o := 1792) _ _ j a ⟨256 * 7 + a.val, by omega⟩ (by show 256 * 7 + a.val = 1792 + a.val; omega)) (fun j => ld_whole _ _ 0 j) (fun j => Cert.Tail.ld_rows _ _ r (⟨r.val, by omega⟩ : Fin 512) (by show r.val = 0 + r.val; omega) j) (fun j => Cert.Tail.ld_rows _ _ r (⟨r.val, by omega⟩ : Fin 512) (by show r.val = 0 + r.val; omega) j) l).trans
    (queryRow_at (x := (fun j => x0 (ix2 (⟨r.val, by omega⟩ : Fin 512) j))) (n := (fun j => x1 (ix2 0 j))) (W := (fun j k => x2 (ix2 j k))) (f := (fun j => x5 (ix2 0 j))) (w := (fun j k => x7 (ix2 j k))) (g := (fun j => x11 (ix2 0 j))) (C := (fun j => x14 (ix2 (⟨r.val, by omega⟩ : Fin 512) j))) (S := (fun j => x15 (ix2 (⟨r.val, by omega⟩ : Fin 512) j))) 7 1 l ⟨1920 + l.val, by omega⟩ (by show 1920 + l.val = 256 * 7 + 128 * 1 + l.val; omega))

theorem query_1_0 (r : Fin 256) (l : Fin 128) :
    (k0_pay314 (k0_pay274 (k0_pay428 x0 x1 x2 x3 x4 x5 x6 x7 x8 x9 x10 x11 x12 x13 x14 x15)) (k0_pay294 (k0_pay416 x0 x1 x2 x3 x4 x5 x6 x7 x8 x9 x10 x11 x12 x13 x14 x15) (k0_pay417 x0 x1 x2 x3 x4 x5 x6 x7 x8 x9 x10 x11 x12 x13 x14 x15) (k0_pay225 (k0_pay387 x0 x1 x2 x3 x4 x5 x6 x7 x8 x9 x10 x11 x12 x13 x14 x15)) (k0_pay293 (k0_pay345 x0 x1 x2 x3 x4 x5 x6 x7 x8 x9 x10 x11 x12 x13 x14 x15)))) (ix2 r l) = queryBlock x0 x1 x2 x3 x4 x5 x6 x7 x8 x9 x10 x11 x12 x13 x14 x15 ⟨256 + r.val, by omega⟩ ⟨0 + l.val, by omega⟩ := by
  have e : k0_pay314 (k0_pay274 (k0_pay428 x0 x1 x2 x3 x4 x5 x6 x7 x8 x9 x10 x11 x12 x13 x14 x15)) (k0_pay294 (k0_pay416 x0 x1 x2 x3 x4 x5 x6 x7 x8 x9 x10 x11 x12 x13 x14 x15) (k0_pay417 x0 x1 x2 x3 x4 x5 x6 x7 x8 x9 x10 x11 x12 x13 x14 x15) (k0_pay225 (k0_pay387 x0 x1 x2 x3 x4 x5 x6 x7 x8 x9 x10 x11 x12 x13 x14 x15)) (k0_pay293 (k0_pay345 x0 x1 x2 x3 x4 x5 x6 x7 x8 x9 x10 x11 x12 x13 x14 x15))) = queryFirst (mulQ (queryLatOf (View.ld x0 r0_27) (View.ld x1 r0_2) (View.ld x2 r0_3) (View.ld x5 r0_6)) (View.ld x7 r0_19)) (View.ld x11 r0_0) (View.ld x14 r0_46) (View.ld x15 r0_46) := by
    dsimp only [k0_pay4, k0_pay6, k0_pay7, k0_pay8, k0_pay9, k0_pay11, k0_pay38, k0_pay39, k0_pay40, k0_pay44, k0_pay45, k0_pay46, k0_pay58, k0_pay207, k0_pay208, k0_pay225, k0_pay250, k0_pay274, k0_pay293, k0_pay294, k0_pay314, k0_pay343, k0_pay345, k0_pay347, k0_pay348, k0_pay349, k0_pay351, k0_pay377, k0_pay387, k0_pay416, k0_pay417, k0_pay428, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (queryFirst_row (x := View.ld x0 r0_27) (n := View.ld x1 r0_2) (W := View.ld x2 r0_3) (f := View.ld x5 r0_6) (w := View.ld x7 r0_19) (g := View.ld x11 r0_0) (C := View.ld x14 r0_46) (S := View.ld x15 r0_46)
    (fun j => Cert.Tail.ld_rows _ _ r (⟨256 + r.val, by omega⟩ : Fin 512) (by show 256 + r.val = 256 + r.val; omega) j) (fun j => ld_whole _ _ 0 j) (fun j k => ld_whole _ _ j k) (fun j => ld_whole _ _ 0 j) (fun j a => ld_cols (o := 0) _ _ j a ⟨256 * 0 + a.val, by omega⟩ (by show 256 * 0 + a.val = 0 + a.val; omega)) (fun j => ld_whole _ _ 0 j) (fun j => Cert.Tail.ld_rows _ _ r (⟨256 + r.val, by omega⟩ : Fin 512) (by show 256 + r.val = 256 + r.val; omega) j) (fun j => Cert.Tail.ld_rows _ _ r (⟨256 + r.val, by omega⟩ : Fin 512) (by show 256 + r.val = 256 + r.val; omega) j) l).trans
    (queryRow_at (x := (fun j => x0 (ix2 (⟨256 + r.val, by omega⟩ : Fin 512) j))) (n := (fun j => x1 (ix2 0 j))) (W := (fun j k => x2 (ix2 j k))) (f := (fun j => x5 (ix2 0 j))) (w := (fun j k => x7 (ix2 j k))) (g := (fun j => x11 (ix2 0 j))) (C := (fun j => x14 (ix2 (⟨256 + r.val, by omega⟩ : Fin 512) j))) (S := (fun j => x15 (ix2 (⟨256 + r.val, by omega⟩ : Fin 512) j))) 0 0 l ⟨0 + l.val, by omega⟩ (by show 0 + l.val = 256 * 0 + 128 * 0 + l.val; omega))

theorem query_1_1 (r : Fin 256) (l : Fin 128) :
    (k0_pay316 (k0_pay275 (k0_pay428 x0 x1 x2 x3 x4 x5 x6 x7 x8 x9 x10 x11 x12 x13 x14 x15)) (k0_pay295 (k0_pay345 x0 x1 x2 x3 x4 x5 x6 x7 x8 x9 x10 x11 x12 x13 x14 x15) (k0_pay416 x0 x1 x2 x3 x4 x5 x6 x7 x8 x9 x10 x11 x12 x13 x14 x15) (k0_pay417 x0 x1 x2 x3 x4 x5 x6 x7 x8 x9 x10 x11 x12 x13 x14 x15) (k0_pay226 (k0_pay387 x0 x1 x2 x3 x4 x5 x6 x7 x8 x9 x10 x11 x12 x13 x14 x15)))) (ix2 r l) = queryBlock x0 x1 x2 x3 x4 x5 x6 x7 x8 x9 x10 x11 x12 x13 x14 x15 ⟨256 + r.val, by omega⟩ ⟨128 + l.val, by omega⟩ := by
  have e : k0_pay316 (k0_pay275 (k0_pay428 x0 x1 x2 x3 x4 x5 x6 x7 x8 x9 x10 x11 x12 x13 x14 x15)) (k0_pay295 (k0_pay345 x0 x1 x2 x3 x4 x5 x6 x7 x8 x9 x10 x11 x12 x13 x14 x15) (k0_pay416 x0 x1 x2 x3 x4 x5 x6 x7 x8 x9 x10 x11 x12 x13 x14 x15) (k0_pay417 x0 x1 x2 x3 x4 x5 x6 x7 x8 x9 x10 x11 x12 x13 x14 x15) (k0_pay226 (k0_pay387 x0 x1 x2 x3 x4 x5 x6 x7 x8 x9 x10 x11 x12 x13 x14 x15))) = querySecond (mulQ (queryLatOf (View.ld x0 r0_27) (View.ld x1 r0_2) (View.ld x2 r0_3) (View.ld x5 r0_6)) (View.ld x7 r0_19)) (View.ld x11 r0_0) (View.ld x14 r0_46) (View.ld x15 r0_46) := by
    dsimp only [k0_pay4, k0_pay6, k0_pay7, k0_pay8, k0_pay9, k0_pay11, k0_pay38, k0_pay39, k0_pay40, k0_pay44, k0_pay45, k0_pay46, k0_pay58, k0_pay207, k0_pay208, k0_pay226, k0_pay250, k0_pay275, k0_pay295, k0_pay316, k0_pay343, k0_pay345, k0_pay347, k0_pay348, k0_pay349, k0_pay351, k0_pay377, k0_pay387, k0_pay416, k0_pay417, k0_pay428, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (querySecond_row (x := View.ld x0 r0_27) (n := View.ld x1 r0_2) (W := View.ld x2 r0_3) (f := View.ld x5 r0_6) (w := View.ld x7 r0_19) (g := View.ld x11 r0_0) (C := View.ld x14 r0_46) (S := View.ld x15 r0_46)
    (fun j => Cert.Tail.ld_rows _ _ r (⟨256 + r.val, by omega⟩ : Fin 512) (by show 256 + r.val = 256 + r.val; omega) j) (fun j => ld_whole _ _ 0 j) (fun j k => ld_whole _ _ j k) (fun j => ld_whole _ _ 0 j) (fun j a => ld_cols (o := 0) _ _ j a ⟨256 * 0 + a.val, by omega⟩ (by show 256 * 0 + a.val = 0 + a.val; omega)) (fun j => ld_whole _ _ 0 j) (fun j => Cert.Tail.ld_rows _ _ r (⟨256 + r.val, by omega⟩ : Fin 512) (by show 256 + r.val = 256 + r.val; omega) j) (fun j => Cert.Tail.ld_rows _ _ r (⟨256 + r.val, by omega⟩ : Fin 512) (by show 256 + r.val = 256 + r.val; omega) j) l).trans
    (queryRow_at (x := (fun j => x0 (ix2 (⟨256 + r.val, by omega⟩ : Fin 512) j))) (n := (fun j => x1 (ix2 0 j))) (W := (fun j k => x2 (ix2 j k))) (f := (fun j => x5 (ix2 0 j))) (w := (fun j k => x7 (ix2 j k))) (g := (fun j => x11 (ix2 0 j))) (C := (fun j => x14 (ix2 (⟨256 + r.val, by omega⟩ : Fin 512) j))) (S := (fun j => x15 (ix2 (⟨256 + r.val, by omega⟩ : Fin 512) j))) 0 1 l ⟨128 + l.val, by omega⟩ (by show 128 + l.val = 256 * 0 + 128 * 1 + l.val; omega))

theorem query_1_2 (r : Fin 256) (l : Fin 128) :
    (k0_pay318 (k0_pay276 (k0_pay429 x0 x1 x2 x3 x4 x5 x6 x7 x8 x9 x10 x11 x12 x13 x14 x15)) (k0_pay296 (k0_pay345 x0 x1 x2 x3 x4 x5 x6 x7 x8 x9 x10 x11 x12 x13 x14 x15) (k0_pay416 x0 x1 x2 x3 x4 x5 x6 x7 x8 x9 x10 x11 x12 x13 x14 x15) (k0_pay417 x0 x1 x2 x3 x4 x5 x6 x7 x8 x9 x10 x11 x12 x13 x14 x15) (k0_pay227 (k0_pay388 x0 x1 x2 x3 x4 x5 x6 x7 x8 x9 x10 x11 x12 x13 x14 x15)))) (ix2 r l) = queryBlock x0 x1 x2 x3 x4 x5 x6 x7 x8 x9 x10 x11 x12 x13 x14 x15 ⟨256 + r.val, by omega⟩ ⟨256 + l.val, by omega⟩ := by
  have e : k0_pay318 (k0_pay276 (k0_pay429 x0 x1 x2 x3 x4 x5 x6 x7 x8 x9 x10 x11 x12 x13 x14 x15)) (k0_pay296 (k0_pay345 x0 x1 x2 x3 x4 x5 x6 x7 x8 x9 x10 x11 x12 x13 x14 x15) (k0_pay416 x0 x1 x2 x3 x4 x5 x6 x7 x8 x9 x10 x11 x12 x13 x14 x15) (k0_pay417 x0 x1 x2 x3 x4 x5 x6 x7 x8 x9 x10 x11 x12 x13 x14 x15) (k0_pay227 (k0_pay388 x0 x1 x2 x3 x4 x5 x6 x7 x8 x9 x10 x11 x12 x13 x14 x15))) = queryFirst (mulQ (queryLatOf (View.ld x0 r0_27) (View.ld x1 r0_2) (View.ld x2 r0_3) (View.ld x5 r0_6)) (View.ld x7 r0_20)) (View.ld x11 r0_0) (View.ld x14 r0_46) (View.ld x15 r0_46) := by
    dsimp only [k0_pay4, k0_pay6, k0_pay7, k0_pay8, k0_pay9, k0_pay11, k0_pay38, k0_pay39, k0_pay40, k0_pay44, k0_pay45, k0_pay46, k0_pay59, k0_pay207, k0_pay208, k0_pay227, k0_pay251, k0_pay276, k0_pay296, k0_pay318, k0_pay343, k0_pay345, k0_pay347, k0_pay348, k0_pay349, k0_pay351, k0_pay377, k0_pay388, k0_pay416, k0_pay417, k0_pay429, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (queryFirst_row (x := View.ld x0 r0_27) (n := View.ld x1 r0_2) (W := View.ld x2 r0_3) (f := View.ld x5 r0_6) (w := View.ld x7 r0_20) (g := View.ld x11 r0_0) (C := View.ld x14 r0_46) (S := View.ld x15 r0_46)
    (fun j => Cert.Tail.ld_rows _ _ r (⟨256 + r.val, by omega⟩ : Fin 512) (by show 256 + r.val = 256 + r.val; omega) j) (fun j => ld_whole _ _ 0 j) (fun j k => ld_whole _ _ j k) (fun j => ld_whole _ _ 0 j) (fun j a => ld_cols (o := 256) _ _ j a ⟨256 * 1 + a.val, by omega⟩ (by show 256 * 1 + a.val = 256 + a.val; omega)) (fun j => ld_whole _ _ 0 j) (fun j => Cert.Tail.ld_rows _ _ r (⟨256 + r.val, by omega⟩ : Fin 512) (by show 256 + r.val = 256 + r.val; omega) j) (fun j => Cert.Tail.ld_rows _ _ r (⟨256 + r.val, by omega⟩ : Fin 512) (by show 256 + r.val = 256 + r.val; omega) j) l).trans
    (queryRow_at (x := (fun j => x0 (ix2 (⟨256 + r.val, by omega⟩ : Fin 512) j))) (n := (fun j => x1 (ix2 0 j))) (W := (fun j k => x2 (ix2 j k))) (f := (fun j => x5 (ix2 0 j))) (w := (fun j k => x7 (ix2 j k))) (g := (fun j => x11 (ix2 0 j))) (C := (fun j => x14 (ix2 (⟨256 + r.val, by omega⟩ : Fin 512) j))) (S := (fun j => x15 (ix2 (⟨256 + r.val, by omega⟩ : Fin 512) j))) 1 0 l ⟨256 + l.val, by omega⟩ (by show 256 + l.val = 256 * 1 + 128 * 0 + l.val; omega))

theorem query_1_3 (r : Fin 256) (l : Fin 128) :
    (k0_pay320 (k0_pay277 (k0_pay429 x0 x1 x2 x3 x4 x5 x6 x7 x8 x9 x10 x11 x12 x13 x14 x15)) (k0_pay297 (k0_pay345 x0 x1 x2 x3 x4 x5 x6 x7 x8 x9 x10 x11 x12 x13 x14 x15) (k0_pay416 x0 x1 x2 x3 x4 x5 x6 x7 x8 x9 x10 x11 x12 x13 x14 x15) (k0_pay417 x0 x1 x2 x3 x4 x5 x6 x7 x8 x9 x10 x11 x12 x13 x14 x15) (k0_pay228 (k0_pay388 x0 x1 x2 x3 x4 x5 x6 x7 x8 x9 x10 x11 x12 x13 x14 x15)))) (ix2 r l) = queryBlock x0 x1 x2 x3 x4 x5 x6 x7 x8 x9 x10 x11 x12 x13 x14 x15 ⟨256 + r.val, by omega⟩ ⟨384 + l.val, by omega⟩ := by
  have e : k0_pay320 (k0_pay277 (k0_pay429 x0 x1 x2 x3 x4 x5 x6 x7 x8 x9 x10 x11 x12 x13 x14 x15)) (k0_pay297 (k0_pay345 x0 x1 x2 x3 x4 x5 x6 x7 x8 x9 x10 x11 x12 x13 x14 x15) (k0_pay416 x0 x1 x2 x3 x4 x5 x6 x7 x8 x9 x10 x11 x12 x13 x14 x15) (k0_pay417 x0 x1 x2 x3 x4 x5 x6 x7 x8 x9 x10 x11 x12 x13 x14 x15) (k0_pay228 (k0_pay388 x0 x1 x2 x3 x4 x5 x6 x7 x8 x9 x10 x11 x12 x13 x14 x15))) = querySecond (mulQ (queryLatOf (View.ld x0 r0_27) (View.ld x1 r0_2) (View.ld x2 r0_3) (View.ld x5 r0_6)) (View.ld x7 r0_20)) (View.ld x11 r0_0) (View.ld x14 r0_46) (View.ld x15 r0_46) := by
    dsimp only [k0_pay4, k0_pay6, k0_pay7, k0_pay8, k0_pay9, k0_pay11, k0_pay38, k0_pay39, k0_pay40, k0_pay44, k0_pay45, k0_pay46, k0_pay59, k0_pay207, k0_pay208, k0_pay228, k0_pay251, k0_pay277, k0_pay297, k0_pay320, k0_pay343, k0_pay345, k0_pay347, k0_pay348, k0_pay349, k0_pay351, k0_pay377, k0_pay388, k0_pay416, k0_pay417, k0_pay429, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (querySecond_row (x := View.ld x0 r0_27) (n := View.ld x1 r0_2) (W := View.ld x2 r0_3) (f := View.ld x5 r0_6) (w := View.ld x7 r0_20) (g := View.ld x11 r0_0) (C := View.ld x14 r0_46) (S := View.ld x15 r0_46)
    (fun j => Cert.Tail.ld_rows _ _ r (⟨256 + r.val, by omega⟩ : Fin 512) (by show 256 + r.val = 256 + r.val; omega) j) (fun j => ld_whole _ _ 0 j) (fun j k => ld_whole _ _ j k) (fun j => ld_whole _ _ 0 j) (fun j a => ld_cols (o := 256) _ _ j a ⟨256 * 1 + a.val, by omega⟩ (by show 256 * 1 + a.val = 256 + a.val; omega)) (fun j => ld_whole _ _ 0 j) (fun j => Cert.Tail.ld_rows _ _ r (⟨256 + r.val, by omega⟩ : Fin 512) (by show 256 + r.val = 256 + r.val; omega) j) (fun j => Cert.Tail.ld_rows _ _ r (⟨256 + r.val, by omega⟩ : Fin 512) (by show 256 + r.val = 256 + r.val; omega) j) l).trans
    (queryRow_at (x := (fun j => x0 (ix2 (⟨256 + r.val, by omega⟩ : Fin 512) j))) (n := (fun j => x1 (ix2 0 j))) (W := (fun j k => x2 (ix2 j k))) (f := (fun j => x5 (ix2 0 j))) (w := (fun j k => x7 (ix2 j k))) (g := (fun j => x11 (ix2 0 j))) (C := (fun j => x14 (ix2 (⟨256 + r.val, by omega⟩ : Fin 512) j))) (S := (fun j => x15 (ix2 (⟨256 + r.val, by omega⟩ : Fin 512) j))) 1 1 l ⟨384 + l.val, by omega⟩ (by show 384 + l.val = 256 * 1 + 128 * 1 + l.val; omega))

theorem query_1_4 (r : Fin 256) (l : Fin 128) :
    (k0_pay322 (k0_pay278 (k0_pay430 x0 x1 x2 x3 x4 x5 x6 x7 x8 x9 x10 x11 x12 x13 x14 x15)) (k0_pay298 (k0_pay345 x0 x1 x2 x3 x4 x5 x6 x7 x8 x9 x10 x11 x12 x13 x14 x15) (k0_pay416 x0 x1 x2 x3 x4 x5 x6 x7 x8 x9 x10 x11 x12 x13 x14 x15) (k0_pay417 x0 x1 x2 x3 x4 x5 x6 x7 x8 x9 x10 x11 x12 x13 x14 x15) (k0_pay229 (k0_pay389 x0 x1 x2 x3 x4 x5 x6 x7 x8 x9 x10 x11 x12 x13 x14 x15)))) (ix2 r l) = queryBlock x0 x1 x2 x3 x4 x5 x6 x7 x8 x9 x10 x11 x12 x13 x14 x15 ⟨256 + r.val, by omega⟩ ⟨512 + l.val, by omega⟩ := by
  have e : k0_pay322 (k0_pay278 (k0_pay430 x0 x1 x2 x3 x4 x5 x6 x7 x8 x9 x10 x11 x12 x13 x14 x15)) (k0_pay298 (k0_pay345 x0 x1 x2 x3 x4 x5 x6 x7 x8 x9 x10 x11 x12 x13 x14 x15) (k0_pay416 x0 x1 x2 x3 x4 x5 x6 x7 x8 x9 x10 x11 x12 x13 x14 x15) (k0_pay417 x0 x1 x2 x3 x4 x5 x6 x7 x8 x9 x10 x11 x12 x13 x14 x15) (k0_pay229 (k0_pay389 x0 x1 x2 x3 x4 x5 x6 x7 x8 x9 x10 x11 x12 x13 x14 x15))) = queryFirst (mulQ (queryLatOf (View.ld x0 r0_27) (View.ld x1 r0_2) (View.ld x2 r0_3) (View.ld x5 r0_6)) (View.ld x7 r0_21)) (View.ld x11 r0_0) (View.ld x14 r0_46) (View.ld x15 r0_46) := by
    dsimp only [k0_pay4, k0_pay6, k0_pay7, k0_pay8, k0_pay9, k0_pay11, k0_pay38, k0_pay39, k0_pay40, k0_pay44, k0_pay45, k0_pay46, k0_pay60, k0_pay207, k0_pay208, k0_pay229, k0_pay252, k0_pay278, k0_pay298, k0_pay322, k0_pay343, k0_pay345, k0_pay347, k0_pay348, k0_pay349, k0_pay351, k0_pay377, k0_pay389, k0_pay416, k0_pay417, k0_pay430, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (queryFirst_row (x := View.ld x0 r0_27) (n := View.ld x1 r0_2) (W := View.ld x2 r0_3) (f := View.ld x5 r0_6) (w := View.ld x7 r0_21) (g := View.ld x11 r0_0) (C := View.ld x14 r0_46) (S := View.ld x15 r0_46)
    (fun j => Cert.Tail.ld_rows _ _ r (⟨256 + r.val, by omega⟩ : Fin 512) (by show 256 + r.val = 256 + r.val; omega) j) (fun j => ld_whole _ _ 0 j) (fun j k => ld_whole _ _ j k) (fun j => ld_whole _ _ 0 j) (fun j a => ld_cols (o := 512) _ _ j a ⟨256 * 2 + a.val, by omega⟩ (by show 256 * 2 + a.val = 512 + a.val; omega)) (fun j => ld_whole _ _ 0 j) (fun j => Cert.Tail.ld_rows _ _ r (⟨256 + r.val, by omega⟩ : Fin 512) (by show 256 + r.val = 256 + r.val; omega) j) (fun j => Cert.Tail.ld_rows _ _ r (⟨256 + r.val, by omega⟩ : Fin 512) (by show 256 + r.val = 256 + r.val; omega) j) l).trans
    (queryRow_at (x := (fun j => x0 (ix2 (⟨256 + r.val, by omega⟩ : Fin 512) j))) (n := (fun j => x1 (ix2 0 j))) (W := (fun j k => x2 (ix2 j k))) (f := (fun j => x5 (ix2 0 j))) (w := (fun j k => x7 (ix2 j k))) (g := (fun j => x11 (ix2 0 j))) (C := (fun j => x14 (ix2 (⟨256 + r.val, by omega⟩ : Fin 512) j))) (S := (fun j => x15 (ix2 (⟨256 + r.val, by omega⟩ : Fin 512) j))) 2 0 l ⟨512 + l.val, by omega⟩ (by show 512 + l.val = 256 * 2 + 128 * 0 + l.val; omega))

theorem query_1_5 (r : Fin 256) (l : Fin 128) :
    (k0_pay324 (k0_pay281 (k0_pay279 (k0_pay430 x0 x1 x2 x3 x4 x5 x6 x7 x8 x9 x10 x11 x12 x13 x14 x15)) (k0_pay280 (F := Ideal))) (k0_pay299 (k0_pay345 x0 x1 x2 x3 x4 x5 x6 x7 x8 x9 x10 x11 x12 x13 x14 x15) (k0_pay416 x0 x1 x2 x3 x4 x5 x6 x7 x8 x9 x10 x11 x12 x13 x14 x15) (k0_pay417 x0 x1 x2 x3 x4 x5 x6 x7 x8 x9 x10 x11 x12 x13 x14 x15) (k0_pay230 (k0_pay389 x0 x1 x2 x3 x4 x5 x6 x7 x8 x9 x10 x11 x12 x13 x14 x15)))) (ix2 r l) = queryBlock x0 x1 x2 x3 x4 x5 x6 x7 x8 x9 x10 x11 x12 x13 x14 x15 ⟨256 + r.val, by omega⟩ ⟨640 + l.val, by omega⟩ := by
  have e : k0_pay324 (k0_pay281 (k0_pay279 (k0_pay430 x0 x1 x2 x3 x4 x5 x6 x7 x8 x9 x10 x11 x12 x13 x14 x15)) (k0_pay280 (F := Ideal))) (k0_pay299 (k0_pay345 x0 x1 x2 x3 x4 x5 x6 x7 x8 x9 x10 x11 x12 x13 x14 x15) (k0_pay416 x0 x1 x2 x3 x4 x5 x6 x7 x8 x9 x10 x11 x12 x13 x14 x15) (k0_pay417 x0 x1 x2 x3 x4 x5 x6 x7 x8 x9 x10 x11 x12 x13 x14 x15) (k0_pay230 (k0_pay389 x0 x1 x2 x3 x4 x5 x6 x7 x8 x9 x10 x11 x12 x13 x14 x15))) = querySecond (mulQ (queryLatOf (View.ld x0 r0_27) (View.ld x1 r0_2) (View.ld x2 r0_3) (View.ld x5 r0_6)) (View.ld x7 r0_21)) (View.ld x11 r0_0) (View.ld x14 r0_46) (View.ld x15 r0_46) := by
    dsimp only [k0_pay4, k0_pay6, k0_pay7, k0_pay8, k0_pay9, k0_pay11, k0_pay38, k0_pay39, k0_pay40, k0_pay44, k0_pay45, k0_pay46, k0_pay60, k0_pay207, k0_pay208, k0_pay230, k0_pay252, k0_pay279, k0_pay280, k0_pay281, k0_pay299, k0_pay324, k0_pay343, k0_pay345, k0_pay347, k0_pay348, k0_pay349, k0_pay351, k0_pay377, k0_pay389, k0_pay416, k0_pay417, k0_pay430, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (querySecond_row (x := View.ld x0 r0_27) (n := View.ld x1 r0_2) (W := View.ld x2 r0_3) (f := View.ld x5 r0_6) (w := View.ld x7 r0_21) (g := View.ld x11 r0_0) (C := View.ld x14 r0_46) (S := View.ld x15 r0_46)
    (fun j => Cert.Tail.ld_rows _ _ r (⟨256 + r.val, by omega⟩ : Fin 512) (by show 256 + r.val = 256 + r.val; omega) j) (fun j => ld_whole _ _ 0 j) (fun j k => ld_whole _ _ j k) (fun j => ld_whole _ _ 0 j) (fun j a => ld_cols (o := 512) _ _ j a ⟨256 * 2 + a.val, by omega⟩ (by show 256 * 2 + a.val = 512 + a.val; omega)) (fun j => ld_whole _ _ 0 j) (fun j => Cert.Tail.ld_rows _ _ r (⟨256 + r.val, by omega⟩ : Fin 512) (by show 256 + r.val = 256 + r.val; omega) j) (fun j => Cert.Tail.ld_rows _ _ r (⟨256 + r.val, by omega⟩ : Fin 512) (by show 256 + r.val = 256 + r.val; omega) j) l).trans
    (queryRow_at (x := (fun j => x0 (ix2 (⟨256 + r.val, by omega⟩ : Fin 512) j))) (n := (fun j => x1 (ix2 0 j))) (W := (fun j k => x2 (ix2 j k))) (f := (fun j => x5 (ix2 0 j))) (w := (fun j k => x7 (ix2 j k))) (g := (fun j => x11 (ix2 0 j))) (C := (fun j => x14 (ix2 (⟨256 + r.val, by omega⟩ : Fin 512) j))) (S := (fun j => x15 (ix2 (⟨256 + r.val, by omega⟩ : Fin 512) j))) 2 1 l ⟨640 + l.val, by omega⟩ (by show 640 + l.val = 256 * 2 + 128 * 1 + l.val; omega))

theorem query_1_6 (r : Fin 256) (l : Fin 128) :
    (k0_pay326 (k0_pay282 (k0_pay431 x0 x1 x2 x3 x4 x5 x6 x7 x8 x9 x10 x11 x12 x13 x14 x15)) (k0_pay300 (k0_pay345 x0 x1 x2 x3 x4 x5 x6 x7 x8 x9 x10 x11 x12 x13 x14 x15) (k0_pay416 x0 x1 x2 x3 x4 x5 x6 x7 x8 x9 x10 x11 x12 x13 x14 x15) (k0_pay417 x0 x1 x2 x3 x4 x5 x6 x7 x8 x9 x10 x11 x12 x13 x14 x15) (k0_pay231 (k0_pay390 x0 x1 x2 x3 x4 x5 x6 x7 x8 x9 x10 x11 x12 x13 x14 x15)))) (ix2 r l) = queryBlock x0 x1 x2 x3 x4 x5 x6 x7 x8 x9 x10 x11 x12 x13 x14 x15 ⟨256 + r.val, by omega⟩ ⟨768 + l.val, by omega⟩ := by
  have e : k0_pay326 (k0_pay282 (k0_pay431 x0 x1 x2 x3 x4 x5 x6 x7 x8 x9 x10 x11 x12 x13 x14 x15)) (k0_pay300 (k0_pay345 x0 x1 x2 x3 x4 x5 x6 x7 x8 x9 x10 x11 x12 x13 x14 x15) (k0_pay416 x0 x1 x2 x3 x4 x5 x6 x7 x8 x9 x10 x11 x12 x13 x14 x15) (k0_pay417 x0 x1 x2 x3 x4 x5 x6 x7 x8 x9 x10 x11 x12 x13 x14 x15) (k0_pay231 (k0_pay390 x0 x1 x2 x3 x4 x5 x6 x7 x8 x9 x10 x11 x12 x13 x14 x15))) = queryFirst (mulQ (queryLatOf (View.ld x0 r0_27) (View.ld x1 r0_2) (View.ld x2 r0_3) (View.ld x5 r0_6)) (View.ld x7 r0_22)) (View.ld x11 r0_0) (View.ld x14 r0_46) (View.ld x15 r0_46) := by
    dsimp only [k0_pay4, k0_pay6, k0_pay7, k0_pay8, k0_pay9, k0_pay11, k0_pay38, k0_pay39, k0_pay40, k0_pay44, k0_pay45, k0_pay46, k0_pay61, k0_pay207, k0_pay208, k0_pay231, k0_pay253, k0_pay282, k0_pay300, k0_pay326, k0_pay343, k0_pay345, k0_pay347, k0_pay348, k0_pay349, k0_pay351, k0_pay377, k0_pay390, k0_pay416, k0_pay417, k0_pay431, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (queryFirst_row (x := View.ld x0 r0_27) (n := View.ld x1 r0_2) (W := View.ld x2 r0_3) (f := View.ld x5 r0_6) (w := View.ld x7 r0_22) (g := View.ld x11 r0_0) (C := View.ld x14 r0_46) (S := View.ld x15 r0_46)
    (fun j => Cert.Tail.ld_rows _ _ r (⟨256 + r.val, by omega⟩ : Fin 512) (by show 256 + r.val = 256 + r.val; omega) j) (fun j => ld_whole _ _ 0 j) (fun j k => ld_whole _ _ j k) (fun j => ld_whole _ _ 0 j) (fun j a => ld_cols (o := 768) _ _ j a ⟨256 * 3 + a.val, by omega⟩ (by show 256 * 3 + a.val = 768 + a.val; omega)) (fun j => ld_whole _ _ 0 j) (fun j => Cert.Tail.ld_rows _ _ r (⟨256 + r.val, by omega⟩ : Fin 512) (by show 256 + r.val = 256 + r.val; omega) j) (fun j => Cert.Tail.ld_rows _ _ r (⟨256 + r.val, by omega⟩ : Fin 512) (by show 256 + r.val = 256 + r.val; omega) j) l).trans
    (queryRow_at (x := (fun j => x0 (ix2 (⟨256 + r.val, by omega⟩ : Fin 512) j))) (n := (fun j => x1 (ix2 0 j))) (W := (fun j k => x2 (ix2 j k))) (f := (fun j => x5 (ix2 0 j))) (w := (fun j k => x7 (ix2 j k))) (g := (fun j => x11 (ix2 0 j))) (C := (fun j => x14 (ix2 (⟨256 + r.val, by omega⟩ : Fin 512) j))) (S := (fun j => x15 (ix2 (⟨256 + r.val, by omega⟩ : Fin 512) j))) 3 0 l ⟨768 + l.val, by omega⟩ (by show 768 + l.val = 256 * 3 + 128 * 0 + l.val; omega))

theorem query_1_7 (r : Fin 256) (l : Fin 128) :
    (k0_pay328 (k0_pay283 (k0_pay431 x0 x1 x2 x3 x4 x5 x6 x7 x8 x9 x10 x11 x12 x13 x14 x15)) (k0_pay301 (k0_pay345 x0 x1 x2 x3 x4 x5 x6 x7 x8 x9 x10 x11 x12 x13 x14 x15) (k0_pay416 x0 x1 x2 x3 x4 x5 x6 x7 x8 x9 x10 x11 x12 x13 x14 x15) (k0_pay417 x0 x1 x2 x3 x4 x5 x6 x7 x8 x9 x10 x11 x12 x13 x14 x15) (k0_pay232 (k0_pay390 x0 x1 x2 x3 x4 x5 x6 x7 x8 x9 x10 x11 x12 x13 x14 x15)))) (ix2 r l) = queryBlock x0 x1 x2 x3 x4 x5 x6 x7 x8 x9 x10 x11 x12 x13 x14 x15 ⟨256 + r.val, by omega⟩ ⟨896 + l.val, by omega⟩ := by
  have e : k0_pay328 (k0_pay283 (k0_pay431 x0 x1 x2 x3 x4 x5 x6 x7 x8 x9 x10 x11 x12 x13 x14 x15)) (k0_pay301 (k0_pay345 x0 x1 x2 x3 x4 x5 x6 x7 x8 x9 x10 x11 x12 x13 x14 x15) (k0_pay416 x0 x1 x2 x3 x4 x5 x6 x7 x8 x9 x10 x11 x12 x13 x14 x15) (k0_pay417 x0 x1 x2 x3 x4 x5 x6 x7 x8 x9 x10 x11 x12 x13 x14 x15) (k0_pay232 (k0_pay390 x0 x1 x2 x3 x4 x5 x6 x7 x8 x9 x10 x11 x12 x13 x14 x15))) = querySecond (mulQ (queryLatOf (View.ld x0 r0_27) (View.ld x1 r0_2) (View.ld x2 r0_3) (View.ld x5 r0_6)) (View.ld x7 r0_22)) (View.ld x11 r0_0) (View.ld x14 r0_46) (View.ld x15 r0_46) := by
    dsimp only [k0_pay4, k0_pay6, k0_pay7, k0_pay8, k0_pay9, k0_pay11, k0_pay38, k0_pay39, k0_pay40, k0_pay44, k0_pay45, k0_pay46, k0_pay61, k0_pay207, k0_pay208, k0_pay232, k0_pay253, k0_pay283, k0_pay301, k0_pay328, k0_pay343, k0_pay345, k0_pay347, k0_pay348, k0_pay349, k0_pay351, k0_pay377, k0_pay390, k0_pay416, k0_pay417, k0_pay431, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (querySecond_row (x := View.ld x0 r0_27) (n := View.ld x1 r0_2) (W := View.ld x2 r0_3) (f := View.ld x5 r0_6) (w := View.ld x7 r0_22) (g := View.ld x11 r0_0) (C := View.ld x14 r0_46) (S := View.ld x15 r0_46)
    (fun j => Cert.Tail.ld_rows _ _ r (⟨256 + r.val, by omega⟩ : Fin 512) (by show 256 + r.val = 256 + r.val; omega) j) (fun j => ld_whole _ _ 0 j) (fun j k => ld_whole _ _ j k) (fun j => ld_whole _ _ 0 j) (fun j a => ld_cols (o := 768) _ _ j a ⟨256 * 3 + a.val, by omega⟩ (by show 256 * 3 + a.val = 768 + a.val; omega)) (fun j => ld_whole _ _ 0 j) (fun j => Cert.Tail.ld_rows _ _ r (⟨256 + r.val, by omega⟩ : Fin 512) (by show 256 + r.val = 256 + r.val; omega) j) (fun j => Cert.Tail.ld_rows _ _ r (⟨256 + r.val, by omega⟩ : Fin 512) (by show 256 + r.val = 256 + r.val; omega) j) l).trans
    (queryRow_at (x := (fun j => x0 (ix2 (⟨256 + r.val, by omega⟩ : Fin 512) j))) (n := (fun j => x1 (ix2 0 j))) (W := (fun j k => x2 (ix2 j k))) (f := (fun j => x5 (ix2 0 j))) (w := (fun j k => x7 (ix2 j k))) (g := (fun j => x11 (ix2 0 j))) (C := (fun j => x14 (ix2 (⟨256 + r.val, by omega⟩ : Fin 512) j))) (S := (fun j => x15 (ix2 (⟨256 + r.val, by omega⟩ : Fin 512) j))) 3 1 l ⟨896 + l.val, by omega⟩ (by show 896 + l.val = 256 * 3 + 128 * 1 + l.val; omega))

theorem query_1_8 (r : Fin 256) (l : Fin 128) :
    (k0_pay330 (k0_pay284 (k0_pay432 x0 x1 x2 x3 x4 x5 x6 x7 x8 x9 x10 x11 x12 x13 x14 x15)) (k0_pay305 (k0_pay417 x0 x1 x2 x3 x4 x5 x6 x7 x8 x9 x10 x11 x12 x13 x14 x15) (k0_pay303 (k0_pay345 x0 x1 x2 x3 x4 x5 x6 x7 x8 x9 x10 x11 x12 x13 x14 x15) (k0_pay416 x0 x1 x2 x3 x4 x5 x6 x7 x8 x9 x10 x11 x12 x13 x14 x15) (k0_pay418 x0 x1 x2 x3 x4 x5 x6 x7 x8 x9 x10 x11 x12 x13 x14 x15)) (k0_pay304 (k0_pay345 x0 x1 x2 x3 x4 x5 x6 x7 x8 x9 x10 x11 x12 x13 x14 x15) (k0_pay418 x0 x1 x2 x3 x4 x5 x6 x7 x8 x9 x10 x11 x12 x13 x14 x15)))) (ix2 r l) = queryBlock x0 x1 x2 x3 x4 x5 x6 x7 x8 x9 x10 x11 x12 x13 x14 x15 ⟨256 + r.val, by omega⟩ ⟨1024 + l.val, by omega⟩ := by
  have e : k0_pay330 (k0_pay284 (k0_pay432 x0 x1 x2 x3 x4 x5 x6 x7 x8 x9 x10 x11 x12 x13 x14 x15)) (k0_pay305 (k0_pay417 x0 x1 x2 x3 x4 x5 x6 x7 x8 x9 x10 x11 x12 x13 x14 x15) (k0_pay303 (k0_pay345 x0 x1 x2 x3 x4 x5 x6 x7 x8 x9 x10 x11 x12 x13 x14 x15) (k0_pay416 x0 x1 x2 x3 x4 x5 x6 x7 x8 x9 x10 x11 x12 x13 x14 x15) (k0_pay418 x0 x1 x2 x3 x4 x5 x6 x7 x8 x9 x10 x11 x12 x13 x14 x15)) (k0_pay304 (k0_pay345 x0 x1 x2 x3 x4 x5 x6 x7 x8 x9 x10 x11 x12 x13 x14 x15) (k0_pay418 x0 x1 x2 x3 x4 x5 x6 x7 x8 x9 x10 x11 x12 x13 x14 x15))) = queryFirst (mulQ (queryLatOf (View.ld x0 r0_27) (View.ld x1 r0_2) (View.ld x2 r0_3) (View.ld x5 r0_6)) (View.ld x7 r0_23)) (View.ld x11 r0_0) (View.ld x14 r0_46) (View.ld x15 r0_46) := by
    dsimp only [k0_pay4, k0_pay6, k0_pay7, k0_pay8, k0_pay9, k0_pay11, k0_pay38, k0_pay39, k0_pay40, k0_pay44, k0_pay45, k0_pay46, k0_pay62, k0_pay63, k0_pay207, k0_pay208, k0_pay233, k0_pay254, k0_pay284, k0_pay302, k0_pay303, k0_pay304, k0_pay305, k0_pay330, k0_pay343, k0_pay345, k0_pay347, k0_pay348, k0_pay349, k0_pay351, k0_pay377, k0_pay391, k0_pay416, k0_pay417, k0_pay418, k0_pay432, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (queryFirst_row (x := View.ld x0 r0_27) (n := View.ld x1 r0_2) (W := View.ld x2 r0_3) (f := View.ld x5 r0_6) (w := View.ld x7 r0_23) (g := View.ld x11 r0_0) (C := View.ld x14 r0_46) (S := View.ld x15 r0_46)
    (fun j => Cert.Tail.ld_rows _ _ r (⟨256 + r.val, by omega⟩ : Fin 512) (by show 256 + r.val = 256 + r.val; omega) j) (fun j => ld_whole _ _ 0 j) (fun j k => ld_whole _ _ j k) (fun j => ld_whole _ _ 0 j) (fun j a => ld_cols (o := 1024) _ _ j a ⟨256 * 4 + a.val, by omega⟩ (by show 256 * 4 + a.val = 1024 + a.val; omega)) (fun j => ld_whole _ _ 0 j) (fun j => Cert.Tail.ld_rows _ _ r (⟨256 + r.val, by omega⟩ : Fin 512) (by show 256 + r.val = 256 + r.val; omega) j) (fun j => Cert.Tail.ld_rows _ _ r (⟨256 + r.val, by omega⟩ : Fin 512) (by show 256 + r.val = 256 + r.val; omega) j) l).trans
    (queryRow_at (x := (fun j => x0 (ix2 (⟨256 + r.val, by omega⟩ : Fin 512) j))) (n := (fun j => x1 (ix2 0 j))) (W := (fun j k => x2 (ix2 j k))) (f := (fun j => x5 (ix2 0 j))) (w := (fun j k => x7 (ix2 j k))) (g := (fun j => x11 (ix2 0 j))) (C := (fun j => x14 (ix2 (⟨256 + r.val, by omega⟩ : Fin 512) j))) (S := (fun j => x15 (ix2 (⟨256 + r.val, by omega⟩ : Fin 512) j))) 4 0 l ⟨1024 + l.val, by omega⟩ (by show 1024 + l.val = 256 * 4 + 128 * 0 + l.val; omega))

theorem query_1_9 (r : Fin 256) (l : Fin 128) :
    (k0_pay332 (k0_pay285 (k0_pay432 x0 x1 x2 x3 x4 x5 x6 x7 x8 x9 x10 x11 x12 x13 x14 x15)) (k0_pay306 (k0_pay345 x0 x1 x2 x3 x4 x5 x6 x7 x8 x9 x10 x11 x12 x13 x14 x15) (k0_pay416 x0 x1 x2 x3 x4 x5 x6 x7 x8 x9 x10 x11 x12 x13 x14 x15) (k0_pay417 x0 x1 x2 x3 x4 x5 x6 x7 x8 x9 x10 x11 x12 x13 x14 x15) (k0_pay234 (k0_pay391 x0 x1 x2 x3 x4 x5 x6 x7 x8 x9 x10 x11 x12 x13 x14 x15)))) (ix2 r l) = queryBlock x0 x1 x2 x3 x4 x5 x6 x7 x8 x9 x10 x11 x12 x13 x14 x15 ⟨256 + r.val, by omega⟩ ⟨1152 + l.val, by omega⟩ := by
  have e : k0_pay332 (k0_pay285 (k0_pay432 x0 x1 x2 x3 x4 x5 x6 x7 x8 x9 x10 x11 x12 x13 x14 x15)) (k0_pay306 (k0_pay345 x0 x1 x2 x3 x4 x5 x6 x7 x8 x9 x10 x11 x12 x13 x14 x15) (k0_pay416 x0 x1 x2 x3 x4 x5 x6 x7 x8 x9 x10 x11 x12 x13 x14 x15) (k0_pay417 x0 x1 x2 x3 x4 x5 x6 x7 x8 x9 x10 x11 x12 x13 x14 x15) (k0_pay234 (k0_pay391 x0 x1 x2 x3 x4 x5 x6 x7 x8 x9 x10 x11 x12 x13 x14 x15))) = querySecond (mulQ (queryLatOf (View.ld x0 r0_27) (View.ld x1 r0_2) (View.ld x2 r0_3) (View.ld x5 r0_6)) (View.ld x7 r0_23)) (View.ld x11 r0_0) (View.ld x14 r0_46) (View.ld x15 r0_46) := by
    dsimp only [k0_pay4, k0_pay6, k0_pay7, k0_pay8, k0_pay9, k0_pay11, k0_pay38, k0_pay39, k0_pay40, k0_pay44, k0_pay45, k0_pay46, k0_pay62, k0_pay63, k0_pay207, k0_pay208, k0_pay234, k0_pay254, k0_pay285, k0_pay306, k0_pay332, k0_pay343, k0_pay345, k0_pay347, k0_pay348, k0_pay349, k0_pay351, k0_pay377, k0_pay391, k0_pay416, k0_pay417, k0_pay432, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (querySecond_row (x := View.ld x0 r0_27) (n := View.ld x1 r0_2) (W := View.ld x2 r0_3) (f := View.ld x5 r0_6) (w := View.ld x7 r0_23) (g := View.ld x11 r0_0) (C := View.ld x14 r0_46) (S := View.ld x15 r0_46)
    (fun j => Cert.Tail.ld_rows _ _ r (⟨256 + r.val, by omega⟩ : Fin 512) (by show 256 + r.val = 256 + r.val; omega) j) (fun j => ld_whole _ _ 0 j) (fun j k => ld_whole _ _ j k) (fun j => ld_whole _ _ 0 j) (fun j a => ld_cols (o := 1024) _ _ j a ⟨256 * 4 + a.val, by omega⟩ (by show 256 * 4 + a.val = 1024 + a.val; omega)) (fun j => ld_whole _ _ 0 j) (fun j => Cert.Tail.ld_rows _ _ r (⟨256 + r.val, by omega⟩ : Fin 512) (by show 256 + r.val = 256 + r.val; omega) j) (fun j => Cert.Tail.ld_rows _ _ r (⟨256 + r.val, by omega⟩ : Fin 512) (by show 256 + r.val = 256 + r.val; omega) j) l).trans
    (queryRow_at (x := (fun j => x0 (ix2 (⟨256 + r.val, by omega⟩ : Fin 512) j))) (n := (fun j => x1 (ix2 0 j))) (W := (fun j k => x2 (ix2 j k))) (f := (fun j => x5 (ix2 0 j))) (w := (fun j k => x7 (ix2 j k))) (g := (fun j => x11 (ix2 0 j))) (C := (fun j => x14 (ix2 (⟨256 + r.val, by omega⟩ : Fin 512) j))) (S := (fun j => x15 (ix2 (⟨256 + r.val, by omega⟩ : Fin 512) j))) 4 1 l ⟨1152 + l.val, by omega⟩ (by show 1152 + l.val = 256 * 4 + 128 * 1 + l.val; omega))

theorem query_1_10 (r : Fin 256) (l : Fin 128) :
    (k0_pay334 (k0_pay286 (k0_pay433 x0 x1 x2 x3 x4 x5 x6 x7 x8 x9 x10 x11 x12 x13 x14 x15)) (k0_pay307 (k0_pay345 x0 x1 x2 x3 x4 x5 x6 x7 x8 x9 x10 x11 x12 x13 x14 x15) (k0_pay416 x0 x1 x2 x3 x4 x5 x6 x7 x8 x9 x10 x11 x12 x13 x14 x15) (k0_pay417 x0 x1 x2 x3 x4 x5 x6 x7 x8 x9 x10 x11 x12 x13 x14 x15) (k0_pay235 (k0_pay392 x0 x1 x2 x3 x4 x5 x6 x7 x8 x9 x10 x11 x12 x13 x14 x15)))) (ix2 r l) = queryBlock x0 x1 x2 x3 x4 x5 x6 x7 x8 x9 x10 x11 x12 x13 x14 x15 ⟨256 + r.val, by omega⟩ ⟨1280 + l.val, by omega⟩ := by
  have e : k0_pay334 (k0_pay286 (k0_pay433 x0 x1 x2 x3 x4 x5 x6 x7 x8 x9 x10 x11 x12 x13 x14 x15)) (k0_pay307 (k0_pay345 x0 x1 x2 x3 x4 x5 x6 x7 x8 x9 x10 x11 x12 x13 x14 x15) (k0_pay416 x0 x1 x2 x3 x4 x5 x6 x7 x8 x9 x10 x11 x12 x13 x14 x15) (k0_pay417 x0 x1 x2 x3 x4 x5 x6 x7 x8 x9 x10 x11 x12 x13 x14 x15) (k0_pay235 (k0_pay392 x0 x1 x2 x3 x4 x5 x6 x7 x8 x9 x10 x11 x12 x13 x14 x15))) = queryFirst (mulQ (queryLatOf (View.ld x0 r0_27) (View.ld x1 r0_2) (View.ld x2 r0_3) (View.ld x5 r0_6)) (View.ld x7 r0_24)) (View.ld x11 r0_0) (View.ld x14 r0_46) (View.ld x15 r0_46) := by
    dsimp only [k0_pay4, k0_pay6, k0_pay7, k0_pay8, k0_pay9, k0_pay11, k0_pay38, k0_pay39, k0_pay40, k0_pay44, k0_pay45, k0_pay46, k0_pay64, k0_pay207, k0_pay208, k0_pay235, k0_pay255, k0_pay286, k0_pay307, k0_pay334, k0_pay343, k0_pay345, k0_pay347, k0_pay348, k0_pay349, k0_pay351, k0_pay377, k0_pay392, k0_pay416, k0_pay417, k0_pay433, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (queryFirst_row (x := View.ld x0 r0_27) (n := View.ld x1 r0_2) (W := View.ld x2 r0_3) (f := View.ld x5 r0_6) (w := View.ld x7 r0_24) (g := View.ld x11 r0_0) (C := View.ld x14 r0_46) (S := View.ld x15 r0_46)
    (fun j => Cert.Tail.ld_rows _ _ r (⟨256 + r.val, by omega⟩ : Fin 512) (by show 256 + r.val = 256 + r.val; omega) j) (fun j => ld_whole _ _ 0 j) (fun j k => ld_whole _ _ j k) (fun j => ld_whole _ _ 0 j) (fun j a => ld_cols (o := 1280) _ _ j a ⟨256 * 5 + a.val, by omega⟩ (by show 256 * 5 + a.val = 1280 + a.val; omega)) (fun j => ld_whole _ _ 0 j) (fun j => Cert.Tail.ld_rows _ _ r (⟨256 + r.val, by omega⟩ : Fin 512) (by show 256 + r.val = 256 + r.val; omega) j) (fun j => Cert.Tail.ld_rows _ _ r (⟨256 + r.val, by omega⟩ : Fin 512) (by show 256 + r.val = 256 + r.val; omega) j) l).trans
    (queryRow_at (x := (fun j => x0 (ix2 (⟨256 + r.val, by omega⟩ : Fin 512) j))) (n := (fun j => x1 (ix2 0 j))) (W := (fun j k => x2 (ix2 j k))) (f := (fun j => x5 (ix2 0 j))) (w := (fun j k => x7 (ix2 j k))) (g := (fun j => x11 (ix2 0 j))) (C := (fun j => x14 (ix2 (⟨256 + r.val, by omega⟩ : Fin 512) j))) (S := (fun j => x15 (ix2 (⟨256 + r.val, by omega⟩ : Fin 512) j))) 5 0 l ⟨1280 + l.val, by omega⟩ (by show 1280 + l.val = 256 * 5 + 128 * 0 + l.val; omega))

theorem query_1_11 (r : Fin 256) (l : Fin 128) :
    (k0_pay336 (k0_pay287 (k0_pay433 x0 x1 x2 x3 x4 x5 x6 x7 x8 x9 x10 x11 x12 x13 x14 x15)) (k0_pay308 (k0_pay345 x0 x1 x2 x3 x4 x5 x6 x7 x8 x9 x10 x11 x12 x13 x14 x15) (k0_pay416 x0 x1 x2 x3 x4 x5 x6 x7 x8 x9 x10 x11 x12 x13 x14 x15) (k0_pay417 x0 x1 x2 x3 x4 x5 x6 x7 x8 x9 x10 x11 x12 x13 x14 x15) (k0_pay236 (k0_pay392 x0 x1 x2 x3 x4 x5 x6 x7 x8 x9 x10 x11 x12 x13 x14 x15)))) (ix2 r l) = queryBlock x0 x1 x2 x3 x4 x5 x6 x7 x8 x9 x10 x11 x12 x13 x14 x15 ⟨256 + r.val, by omega⟩ ⟨1408 + l.val, by omega⟩ := by
  have e : k0_pay336 (k0_pay287 (k0_pay433 x0 x1 x2 x3 x4 x5 x6 x7 x8 x9 x10 x11 x12 x13 x14 x15)) (k0_pay308 (k0_pay345 x0 x1 x2 x3 x4 x5 x6 x7 x8 x9 x10 x11 x12 x13 x14 x15) (k0_pay416 x0 x1 x2 x3 x4 x5 x6 x7 x8 x9 x10 x11 x12 x13 x14 x15) (k0_pay417 x0 x1 x2 x3 x4 x5 x6 x7 x8 x9 x10 x11 x12 x13 x14 x15) (k0_pay236 (k0_pay392 x0 x1 x2 x3 x4 x5 x6 x7 x8 x9 x10 x11 x12 x13 x14 x15))) = querySecond (mulQ (queryLatOf (View.ld x0 r0_27) (View.ld x1 r0_2) (View.ld x2 r0_3) (View.ld x5 r0_6)) (View.ld x7 r0_24)) (View.ld x11 r0_0) (View.ld x14 r0_46) (View.ld x15 r0_46) := by
    dsimp only [k0_pay4, k0_pay6, k0_pay7, k0_pay8, k0_pay9, k0_pay11, k0_pay38, k0_pay39, k0_pay40, k0_pay44, k0_pay45, k0_pay46, k0_pay64, k0_pay207, k0_pay208, k0_pay236, k0_pay255, k0_pay287, k0_pay308, k0_pay336, k0_pay343, k0_pay345, k0_pay347, k0_pay348, k0_pay349, k0_pay351, k0_pay377, k0_pay392, k0_pay416, k0_pay417, k0_pay433, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (querySecond_row (x := View.ld x0 r0_27) (n := View.ld x1 r0_2) (W := View.ld x2 r0_3) (f := View.ld x5 r0_6) (w := View.ld x7 r0_24) (g := View.ld x11 r0_0) (C := View.ld x14 r0_46) (S := View.ld x15 r0_46)
    (fun j => Cert.Tail.ld_rows _ _ r (⟨256 + r.val, by omega⟩ : Fin 512) (by show 256 + r.val = 256 + r.val; omega) j) (fun j => ld_whole _ _ 0 j) (fun j k => ld_whole _ _ j k) (fun j => ld_whole _ _ 0 j) (fun j a => ld_cols (o := 1280) _ _ j a ⟨256 * 5 + a.val, by omega⟩ (by show 256 * 5 + a.val = 1280 + a.val; omega)) (fun j => ld_whole _ _ 0 j) (fun j => Cert.Tail.ld_rows _ _ r (⟨256 + r.val, by omega⟩ : Fin 512) (by show 256 + r.val = 256 + r.val; omega) j) (fun j => Cert.Tail.ld_rows _ _ r (⟨256 + r.val, by omega⟩ : Fin 512) (by show 256 + r.val = 256 + r.val; omega) j) l).trans
    (queryRow_at (x := (fun j => x0 (ix2 (⟨256 + r.val, by omega⟩ : Fin 512) j))) (n := (fun j => x1 (ix2 0 j))) (W := (fun j k => x2 (ix2 j k))) (f := (fun j => x5 (ix2 0 j))) (w := (fun j k => x7 (ix2 j k))) (g := (fun j => x11 (ix2 0 j))) (C := (fun j => x14 (ix2 (⟨256 + r.val, by omega⟩ : Fin 512) j))) (S := (fun j => x15 (ix2 (⟨256 + r.val, by omega⟩ : Fin 512) j))) 5 1 l ⟨1408 + l.val, by omega⟩ (by show 1408 + l.val = 256 * 5 + 128 * 1 + l.val; omega))

theorem query_1_12 (r : Fin 256) (l : Fin 128) :
    (k0_pay338 (k0_pay288 (k0_pay434 x0 x1 x2 x3 x4 x5 x6 x7 x8 x9 x10 x11 x12 x13 x14 x15)) (k0_pay309 (k0_pay345 x0 x1 x2 x3 x4 x5 x6 x7 x8 x9 x10 x11 x12 x13 x14 x15) (k0_pay416 x0 x1 x2 x3 x4 x5 x6 x7 x8 x9 x10 x11 x12 x13 x14 x15) (k0_pay417 x0 x1 x2 x3 x4 x5 x6 x7 x8 x9 x10 x11 x12 x13 x14 x15) (k0_pay237 (k0_pay393 x0 x1 x2 x3 x4 x5 x6 x7 x8 x9 x10 x11 x12 x13 x14 x15)))) (ix2 r l) = queryBlock x0 x1 x2 x3 x4 x5 x6 x7 x8 x9 x10 x11 x12 x13 x14 x15 ⟨256 + r.val, by omega⟩ ⟨1536 + l.val, by omega⟩ := by
  have e : k0_pay338 (k0_pay288 (k0_pay434 x0 x1 x2 x3 x4 x5 x6 x7 x8 x9 x10 x11 x12 x13 x14 x15)) (k0_pay309 (k0_pay345 x0 x1 x2 x3 x4 x5 x6 x7 x8 x9 x10 x11 x12 x13 x14 x15) (k0_pay416 x0 x1 x2 x3 x4 x5 x6 x7 x8 x9 x10 x11 x12 x13 x14 x15) (k0_pay417 x0 x1 x2 x3 x4 x5 x6 x7 x8 x9 x10 x11 x12 x13 x14 x15) (k0_pay237 (k0_pay393 x0 x1 x2 x3 x4 x5 x6 x7 x8 x9 x10 x11 x12 x13 x14 x15))) = queryFirst (mulQ (queryLatOf (View.ld x0 r0_27) (View.ld x1 r0_2) (View.ld x2 r0_3) (View.ld x5 r0_6)) (View.ld x7 r0_25)) (View.ld x11 r0_0) (View.ld x14 r0_46) (View.ld x15 r0_46) := by
    dsimp only [k0_pay4, k0_pay6, k0_pay7, k0_pay8, k0_pay9, k0_pay11, k0_pay38, k0_pay39, k0_pay40, k0_pay44, k0_pay45, k0_pay46, k0_pay65, k0_pay207, k0_pay208, k0_pay237, k0_pay256, k0_pay288, k0_pay309, k0_pay338, k0_pay343, k0_pay345, k0_pay347, k0_pay348, k0_pay349, k0_pay351, k0_pay377, k0_pay393, k0_pay416, k0_pay417, k0_pay434, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (queryFirst_row (x := View.ld x0 r0_27) (n := View.ld x1 r0_2) (W := View.ld x2 r0_3) (f := View.ld x5 r0_6) (w := View.ld x7 r0_25) (g := View.ld x11 r0_0) (C := View.ld x14 r0_46) (S := View.ld x15 r0_46)
    (fun j => Cert.Tail.ld_rows _ _ r (⟨256 + r.val, by omega⟩ : Fin 512) (by show 256 + r.val = 256 + r.val; omega) j) (fun j => ld_whole _ _ 0 j) (fun j k => ld_whole _ _ j k) (fun j => ld_whole _ _ 0 j) (fun j a => ld_cols (o := 1536) _ _ j a ⟨256 * 6 + a.val, by omega⟩ (by show 256 * 6 + a.val = 1536 + a.val; omega)) (fun j => ld_whole _ _ 0 j) (fun j => Cert.Tail.ld_rows _ _ r (⟨256 + r.val, by omega⟩ : Fin 512) (by show 256 + r.val = 256 + r.val; omega) j) (fun j => Cert.Tail.ld_rows _ _ r (⟨256 + r.val, by omega⟩ : Fin 512) (by show 256 + r.val = 256 + r.val; omega) j) l).trans
    (queryRow_at (x := (fun j => x0 (ix2 (⟨256 + r.val, by omega⟩ : Fin 512) j))) (n := (fun j => x1 (ix2 0 j))) (W := (fun j k => x2 (ix2 j k))) (f := (fun j => x5 (ix2 0 j))) (w := (fun j k => x7 (ix2 j k))) (g := (fun j => x11 (ix2 0 j))) (C := (fun j => x14 (ix2 (⟨256 + r.val, by omega⟩ : Fin 512) j))) (S := (fun j => x15 (ix2 (⟨256 + r.val, by omega⟩ : Fin 512) j))) 6 0 l ⟨1536 + l.val, by omega⟩ (by show 1536 + l.val = 256 * 6 + 128 * 0 + l.val; omega))

theorem query_1_13 (r : Fin 256) (l : Fin 128) :
    (k0_pay340 (k0_pay289 (k0_pay434 x0 x1 x2 x3 x4 x5 x6 x7 x8 x9 x10 x11 x12 x13 x14 x15)) (k0_pay310 (k0_pay345 x0 x1 x2 x3 x4 x5 x6 x7 x8 x9 x10 x11 x12 x13 x14 x15) (k0_pay416 x0 x1 x2 x3 x4 x5 x6 x7 x8 x9 x10 x11 x12 x13 x14 x15) (k0_pay417 x0 x1 x2 x3 x4 x5 x6 x7 x8 x9 x10 x11 x12 x13 x14 x15) (k0_pay238 (k0_pay393 x0 x1 x2 x3 x4 x5 x6 x7 x8 x9 x10 x11 x12 x13 x14 x15)))) (ix2 r l) = queryBlock x0 x1 x2 x3 x4 x5 x6 x7 x8 x9 x10 x11 x12 x13 x14 x15 ⟨256 + r.val, by omega⟩ ⟨1664 + l.val, by omega⟩ := by
  have e : k0_pay340 (k0_pay289 (k0_pay434 x0 x1 x2 x3 x4 x5 x6 x7 x8 x9 x10 x11 x12 x13 x14 x15)) (k0_pay310 (k0_pay345 x0 x1 x2 x3 x4 x5 x6 x7 x8 x9 x10 x11 x12 x13 x14 x15) (k0_pay416 x0 x1 x2 x3 x4 x5 x6 x7 x8 x9 x10 x11 x12 x13 x14 x15) (k0_pay417 x0 x1 x2 x3 x4 x5 x6 x7 x8 x9 x10 x11 x12 x13 x14 x15) (k0_pay238 (k0_pay393 x0 x1 x2 x3 x4 x5 x6 x7 x8 x9 x10 x11 x12 x13 x14 x15))) = querySecond (mulQ (queryLatOf (View.ld x0 r0_27) (View.ld x1 r0_2) (View.ld x2 r0_3) (View.ld x5 r0_6)) (View.ld x7 r0_25)) (View.ld x11 r0_0) (View.ld x14 r0_46) (View.ld x15 r0_46) := by
    dsimp only [k0_pay4, k0_pay6, k0_pay7, k0_pay8, k0_pay9, k0_pay11, k0_pay38, k0_pay39, k0_pay40, k0_pay44, k0_pay45, k0_pay46, k0_pay65, k0_pay207, k0_pay208, k0_pay238, k0_pay256, k0_pay289, k0_pay310, k0_pay340, k0_pay343, k0_pay345, k0_pay347, k0_pay348, k0_pay349, k0_pay351, k0_pay377, k0_pay393, k0_pay416, k0_pay417, k0_pay434, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (querySecond_row (x := View.ld x0 r0_27) (n := View.ld x1 r0_2) (W := View.ld x2 r0_3) (f := View.ld x5 r0_6) (w := View.ld x7 r0_25) (g := View.ld x11 r0_0) (C := View.ld x14 r0_46) (S := View.ld x15 r0_46)
    (fun j => Cert.Tail.ld_rows _ _ r (⟨256 + r.val, by omega⟩ : Fin 512) (by show 256 + r.val = 256 + r.val; omega) j) (fun j => ld_whole _ _ 0 j) (fun j k => ld_whole _ _ j k) (fun j => ld_whole _ _ 0 j) (fun j a => ld_cols (o := 1536) _ _ j a ⟨256 * 6 + a.val, by omega⟩ (by show 256 * 6 + a.val = 1536 + a.val; omega)) (fun j => ld_whole _ _ 0 j) (fun j => Cert.Tail.ld_rows _ _ r (⟨256 + r.val, by omega⟩ : Fin 512) (by show 256 + r.val = 256 + r.val; omega) j) (fun j => Cert.Tail.ld_rows _ _ r (⟨256 + r.val, by omega⟩ : Fin 512) (by show 256 + r.val = 256 + r.val; omega) j) l).trans
    (queryRow_at (x := (fun j => x0 (ix2 (⟨256 + r.val, by omega⟩ : Fin 512) j))) (n := (fun j => x1 (ix2 0 j))) (W := (fun j k => x2 (ix2 j k))) (f := (fun j => x5 (ix2 0 j))) (w := (fun j k => x7 (ix2 j k))) (g := (fun j => x11 (ix2 0 j))) (C := (fun j => x14 (ix2 (⟨256 + r.val, by omega⟩ : Fin 512) j))) (S := (fun j => x15 (ix2 (⟨256 + r.val, by omega⟩ : Fin 512) j))) 6 1 l ⟨1664 + l.val, by omega⟩ (by show 1664 + l.val = 256 * 6 + 128 * 1 + l.val; omega))

theorem query_1_14 (r : Fin 256) (l : Fin 128) :
    (k0_pay342 (k0_pay290 (k0_pay435 x0 x1 x2 x3 x4 x5 x6 x7 x8 x9 x10 x11 x12 x13 x14 x15)) (k0_pay311 (k0_pay345 x0 x1 x2 x3 x4 x5 x6 x7 x8 x9 x10 x11 x12 x13 x14 x15) (k0_pay416 x0 x1 x2 x3 x4 x5 x6 x7 x8 x9 x10 x11 x12 x13 x14 x15) (k0_pay417 x0 x1 x2 x3 x4 x5 x6 x7 x8 x9 x10 x11 x12 x13 x14 x15) (k0_pay239 (k0_pay394 x0 x1 x2 x3 x4 x5 x6 x7 x8 x9 x10 x11 x12 x13 x14 x15)))) (ix2 r l) = queryBlock x0 x1 x2 x3 x4 x5 x6 x7 x8 x9 x10 x11 x12 x13 x14 x15 ⟨256 + r.val, by omega⟩ ⟨1792 + l.val, by omega⟩ := by
  have e : k0_pay342 (k0_pay290 (k0_pay435 x0 x1 x2 x3 x4 x5 x6 x7 x8 x9 x10 x11 x12 x13 x14 x15)) (k0_pay311 (k0_pay345 x0 x1 x2 x3 x4 x5 x6 x7 x8 x9 x10 x11 x12 x13 x14 x15) (k0_pay416 x0 x1 x2 x3 x4 x5 x6 x7 x8 x9 x10 x11 x12 x13 x14 x15) (k0_pay417 x0 x1 x2 x3 x4 x5 x6 x7 x8 x9 x10 x11 x12 x13 x14 x15) (k0_pay239 (k0_pay394 x0 x1 x2 x3 x4 x5 x6 x7 x8 x9 x10 x11 x12 x13 x14 x15))) = queryFirst (mulQ (queryLatOf (View.ld x0 r0_27) (View.ld x1 r0_2) (View.ld x2 r0_3) (View.ld x5 r0_6)) (View.ld x7 r0_26)) (View.ld x11 r0_0) (View.ld x14 r0_46) (View.ld x15 r0_46) := by
    dsimp only [k0_pay4, k0_pay6, k0_pay7, k0_pay8, k0_pay9, k0_pay11, k0_pay38, k0_pay39, k0_pay40, k0_pay44, k0_pay45, k0_pay46, k0_pay66, k0_pay207, k0_pay208, k0_pay239, k0_pay257, k0_pay290, k0_pay311, k0_pay342, k0_pay343, k0_pay345, k0_pay347, k0_pay348, k0_pay349, k0_pay351, k0_pay377, k0_pay394, k0_pay416, k0_pay417, k0_pay435, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (queryFirst_row (x := View.ld x0 r0_27) (n := View.ld x1 r0_2) (W := View.ld x2 r0_3) (f := View.ld x5 r0_6) (w := View.ld x7 r0_26) (g := View.ld x11 r0_0) (C := View.ld x14 r0_46) (S := View.ld x15 r0_46)
    (fun j => Cert.Tail.ld_rows _ _ r (⟨256 + r.val, by omega⟩ : Fin 512) (by show 256 + r.val = 256 + r.val; omega) j) (fun j => ld_whole _ _ 0 j) (fun j k => ld_whole _ _ j k) (fun j => ld_whole _ _ 0 j) (fun j a => ld_cols (o := 1792) _ _ j a ⟨256 * 7 + a.val, by omega⟩ (by show 256 * 7 + a.val = 1792 + a.val; omega)) (fun j => ld_whole _ _ 0 j) (fun j => Cert.Tail.ld_rows _ _ r (⟨256 + r.val, by omega⟩ : Fin 512) (by show 256 + r.val = 256 + r.val; omega) j) (fun j => Cert.Tail.ld_rows _ _ r (⟨256 + r.val, by omega⟩ : Fin 512) (by show 256 + r.val = 256 + r.val; omega) j) l).trans
    (queryRow_at (x := (fun j => x0 (ix2 (⟨256 + r.val, by omega⟩ : Fin 512) j))) (n := (fun j => x1 (ix2 0 j))) (W := (fun j k => x2 (ix2 j k))) (f := (fun j => x5 (ix2 0 j))) (w := (fun j k => x7 (ix2 j k))) (g := (fun j => x11 (ix2 0 j))) (C := (fun j => x14 (ix2 (⟨256 + r.val, by omega⟩ : Fin 512) j))) (S := (fun j => x15 (ix2 (⟨256 + r.val, by omega⟩ : Fin 512) j))) 7 0 l ⟨1792 + l.val, by omega⟩ (by show 1792 + l.val = 256 * 7 + 128 * 0 + l.val; omega))

theorem query_1_15 (r : Fin 256) (l : Fin 128) :
    (k0_pay2 (k0_pay291 (k0_pay435 x0 x1 x2 x3 x4 x5 x6 x7 x8 x9 x10 x11 x12 x13 x14 x15)) (k0_pay312 (k0_pay345 x0 x1 x2 x3 x4 x5 x6 x7 x8 x9 x10 x11 x12 x13 x14 x15) (k0_pay416 x0 x1 x2 x3 x4 x5 x6 x7 x8 x9 x10 x11 x12 x13 x14 x15) (k0_pay417 x0 x1 x2 x3 x4 x5 x6 x7 x8 x9 x10 x11 x12 x13 x14 x15) (k0_pay240 (k0_pay394 x0 x1 x2 x3 x4 x5 x6 x7 x8 x9 x10 x11 x12 x13 x14 x15)))) (ix2 r l) = queryBlock x0 x1 x2 x3 x4 x5 x6 x7 x8 x9 x10 x11 x12 x13 x14 x15 ⟨256 + r.val, by omega⟩ ⟨1920 + l.val, by omega⟩ := by
  have e : k0_pay2 (k0_pay291 (k0_pay435 x0 x1 x2 x3 x4 x5 x6 x7 x8 x9 x10 x11 x12 x13 x14 x15)) (k0_pay312 (k0_pay345 x0 x1 x2 x3 x4 x5 x6 x7 x8 x9 x10 x11 x12 x13 x14 x15) (k0_pay416 x0 x1 x2 x3 x4 x5 x6 x7 x8 x9 x10 x11 x12 x13 x14 x15) (k0_pay417 x0 x1 x2 x3 x4 x5 x6 x7 x8 x9 x10 x11 x12 x13 x14 x15) (k0_pay240 (k0_pay394 x0 x1 x2 x3 x4 x5 x6 x7 x8 x9 x10 x11 x12 x13 x14 x15))) = querySecond (mulQ (queryLatOf (View.ld x0 r0_27) (View.ld x1 r0_2) (View.ld x2 r0_3) (View.ld x5 r0_6)) (View.ld x7 r0_26)) (View.ld x11 r0_0) (View.ld x14 r0_46) (View.ld x15 r0_46) := by
    dsimp only [k0_pay2, k0_pay4, k0_pay6, k0_pay7, k0_pay8, k0_pay9, k0_pay11, k0_pay38, k0_pay39, k0_pay40, k0_pay44, k0_pay45, k0_pay46, k0_pay66, k0_pay207, k0_pay208, k0_pay240, k0_pay257, k0_pay291, k0_pay312, k0_pay343, k0_pay345, k0_pay347, k0_pay348, k0_pay349, k0_pay351, k0_pay377, k0_pay394, k0_pay416, k0_pay417, k0_pay435, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (querySecond_row (x := View.ld x0 r0_27) (n := View.ld x1 r0_2) (W := View.ld x2 r0_3) (f := View.ld x5 r0_6) (w := View.ld x7 r0_26) (g := View.ld x11 r0_0) (C := View.ld x14 r0_46) (S := View.ld x15 r0_46)
    (fun j => Cert.Tail.ld_rows _ _ r (⟨256 + r.val, by omega⟩ : Fin 512) (by show 256 + r.val = 256 + r.val; omega) j) (fun j => ld_whole _ _ 0 j) (fun j k => ld_whole _ _ j k) (fun j => ld_whole _ _ 0 j) (fun j a => ld_cols (o := 1792) _ _ j a ⟨256 * 7 + a.val, by omega⟩ (by show 256 * 7 + a.val = 1792 + a.val; omega)) (fun j => ld_whole _ _ 0 j) (fun j => Cert.Tail.ld_rows _ _ r (⟨256 + r.val, by omega⟩ : Fin 512) (by show 256 + r.val = 256 + r.val; omega) j) (fun j => Cert.Tail.ld_rows _ _ r (⟨256 + r.val, by omega⟩ : Fin 512) (by show 256 + r.val = 256 + r.val; omega) j) l).trans
    (queryRow_at (x := (fun j => x0 (ix2 (⟨256 + r.val, by omega⟩ : Fin 512) j))) (n := (fun j => x1 (ix2 0 j))) (W := (fun j k => x2 (ix2 j k))) (f := (fun j => x5 (ix2 0 j))) (w := (fun j k => x7 (ix2 j k))) (g := (fun j => x11 (ix2 0 j))) (C := (fun j => x14 (ix2 (⟨256 + r.val, by omega⟩ : Fin 512) j))) (S := (fun j => x15 (ix2 (⟨256 + r.val, by omega⟩ : Fin 512) j))) 7 1 l ⟨1920 + l.val, by omega⟩ (by show 1920 + l.val = 256 * 7 + 128 * 1 + l.val; omega))

/-- A block's queries. -/
theorem out_query (r : Fin 512) (k : Fin 2048) : out0_16 x0 x1 x2 x3 x4 x5 x6 x7 x8 x9 x10 x11 x12 x13 x14 x15 (ix2 r k) = queryBlock x0 x1 x2 x3 x4 x5 x6 x7 x8 x9 x10 x11 x12 x13 x14 x15 r k := by
  unfold out0_16
  refine View.canon_apply_of_pieces (Val := Elt Ideal) (fun i : S512x2048.Idx => queryBlock x0 x1 x2 x3 x4 x5 x6 x7 x8 x9 x10 x11 x12 x13 x14 x15 (i 0) (i 1)) _ (fun p hp x => ?_) (ix2 r k)
    (cover0_16 _ _ _ _ _ _ _ _ _ _ _ _ _ _ _ _ _ _ _ _ _ _ _ _ _ _ _ _ _ _ _ _ (ix2 r k))
  rcases List.mem_cons.mp hp with rfl | hp
  · exact (congrArg (k0_pay2 (k0_pay291 (k0_pay435 x0 x1 x2 x3 x4 x5 x6 x7 x8 x9 x10 x11 x12 x13 x14 x15)) (k0_pay312 (k0_pay345 x0 x1 x2 x3 x4 x5 x6 x7 x8 x9 x10 x11 x12 x13 x14 x15) (k0_pay416 x0 x1 x2 x3 x4 x5 x6 x7 x8 x9 x10 x11 x12 x13 x14 x15) (k0_pay417 x0 x1 x2 x3 x4 x5 x6 x7 x8 x9 x10 x11 x12 x13 x14 x15) (k0_pay240 (k0_pay394 x0 x1 x2 x3 x4 x5 x6 x7 x8 x9 x10 x11 x12 x13 x14 x15)))) (ix2_eta x).symm).trans ((query_1_15 x0 x1 x2 x3 x4 x5 x6 x7 x8 x9 x10 x11 x12 x13 x14 x15 (x 0) (x 1)).trans (congrArg₂ (queryBlock x0 x1 x2 x3 x4 x5 x6 x7 x8 x9 x10 x11 x12 x13 x14 x15) (Fin.ext (show 256 + (x 0).val = 256 + 1 * (x 0).val by omega)) (Fin.ext (show 1920 + (x 1).val = 1920 + 1 * (x 1).val by omega))))
  rcases List.mem_cons.mp hp with rfl | hp
  · exact (congrArg (k0_pay342 (k0_pay290 (k0_pay435 x0 x1 x2 x3 x4 x5 x6 x7 x8 x9 x10 x11 x12 x13 x14 x15)) (k0_pay311 (k0_pay345 x0 x1 x2 x3 x4 x5 x6 x7 x8 x9 x10 x11 x12 x13 x14 x15) (k0_pay416 x0 x1 x2 x3 x4 x5 x6 x7 x8 x9 x10 x11 x12 x13 x14 x15) (k0_pay417 x0 x1 x2 x3 x4 x5 x6 x7 x8 x9 x10 x11 x12 x13 x14 x15) (k0_pay239 (k0_pay394 x0 x1 x2 x3 x4 x5 x6 x7 x8 x9 x10 x11 x12 x13 x14 x15)))) (ix2_eta x).symm).trans ((query_1_14 x0 x1 x2 x3 x4 x5 x6 x7 x8 x9 x10 x11 x12 x13 x14 x15 (x 0) (x 1)).trans (congrArg₂ (queryBlock x0 x1 x2 x3 x4 x5 x6 x7 x8 x9 x10 x11 x12 x13 x14 x15) (Fin.ext (show 256 + (x 0).val = 256 + 1 * (x 0).val by omega)) (Fin.ext (show 1792 + (x 1).val = 1792 + 1 * (x 1).val by omega))))
  rcases List.mem_cons.mp hp with rfl | hp
  · exact (congrArg (k0_pay340 (k0_pay289 (k0_pay434 x0 x1 x2 x3 x4 x5 x6 x7 x8 x9 x10 x11 x12 x13 x14 x15)) (k0_pay310 (k0_pay345 x0 x1 x2 x3 x4 x5 x6 x7 x8 x9 x10 x11 x12 x13 x14 x15) (k0_pay416 x0 x1 x2 x3 x4 x5 x6 x7 x8 x9 x10 x11 x12 x13 x14 x15) (k0_pay417 x0 x1 x2 x3 x4 x5 x6 x7 x8 x9 x10 x11 x12 x13 x14 x15) (k0_pay238 (k0_pay393 x0 x1 x2 x3 x4 x5 x6 x7 x8 x9 x10 x11 x12 x13 x14 x15)))) (ix2_eta x).symm).trans ((query_1_13 x0 x1 x2 x3 x4 x5 x6 x7 x8 x9 x10 x11 x12 x13 x14 x15 (x 0) (x 1)).trans (congrArg₂ (queryBlock x0 x1 x2 x3 x4 x5 x6 x7 x8 x9 x10 x11 x12 x13 x14 x15) (Fin.ext (show 256 + (x 0).val = 256 + 1 * (x 0).val by omega)) (Fin.ext (show 1664 + (x 1).val = 1664 + 1 * (x 1).val by omega))))
  rcases List.mem_cons.mp hp with rfl | hp
  · exact (congrArg (k0_pay338 (k0_pay288 (k0_pay434 x0 x1 x2 x3 x4 x5 x6 x7 x8 x9 x10 x11 x12 x13 x14 x15)) (k0_pay309 (k0_pay345 x0 x1 x2 x3 x4 x5 x6 x7 x8 x9 x10 x11 x12 x13 x14 x15) (k0_pay416 x0 x1 x2 x3 x4 x5 x6 x7 x8 x9 x10 x11 x12 x13 x14 x15) (k0_pay417 x0 x1 x2 x3 x4 x5 x6 x7 x8 x9 x10 x11 x12 x13 x14 x15) (k0_pay237 (k0_pay393 x0 x1 x2 x3 x4 x5 x6 x7 x8 x9 x10 x11 x12 x13 x14 x15)))) (ix2_eta x).symm).trans ((query_1_12 x0 x1 x2 x3 x4 x5 x6 x7 x8 x9 x10 x11 x12 x13 x14 x15 (x 0) (x 1)).trans (congrArg₂ (queryBlock x0 x1 x2 x3 x4 x5 x6 x7 x8 x9 x10 x11 x12 x13 x14 x15) (Fin.ext (show 256 + (x 0).val = 256 + 1 * (x 0).val by omega)) (Fin.ext (show 1536 + (x 1).val = 1536 + 1 * (x 1).val by omega))))
  rcases List.mem_cons.mp hp with rfl | hp
  · exact (congrArg (k0_pay336 (k0_pay287 (k0_pay433 x0 x1 x2 x3 x4 x5 x6 x7 x8 x9 x10 x11 x12 x13 x14 x15)) (k0_pay308 (k0_pay345 x0 x1 x2 x3 x4 x5 x6 x7 x8 x9 x10 x11 x12 x13 x14 x15) (k0_pay416 x0 x1 x2 x3 x4 x5 x6 x7 x8 x9 x10 x11 x12 x13 x14 x15) (k0_pay417 x0 x1 x2 x3 x4 x5 x6 x7 x8 x9 x10 x11 x12 x13 x14 x15) (k0_pay236 (k0_pay392 x0 x1 x2 x3 x4 x5 x6 x7 x8 x9 x10 x11 x12 x13 x14 x15)))) (ix2_eta x).symm).trans ((query_1_11 x0 x1 x2 x3 x4 x5 x6 x7 x8 x9 x10 x11 x12 x13 x14 x15 (x 0) (x 1)).trans (congrArg₂ (queryBlock x0 x1 x2 x3 x4 x5 x6 x7 x8 x9 x10 x11 x12 x13 x14 x15) (Fin.ext (show 256 + (x 0).val = 256 + 1 * (x 0).val by omega)) (Fin.ext (show 1408 + (x 1).val = 1408 + 1 * (x 1).val by omega))))
  rcases List.mem_cons.mp hp with rfl | hp
  · exact (congrArg (k0_pay334 (k0_pay286 (k0_pay433 x0 x1 x2 x3 x4 x5 x6 x7 x8 x9 x10 x11 x12 x13 x14 x15)) (k0_pay307 (k0_pay345 x0 x1 x2 x3 x4 x5 x6 x7 x8 x9 x10 x11 x12 x13 x14 x15) (k0_pay416 x0 x1 x2 x3 x4 x5 x6 x7 x8 x9 x10 x11 x12 x13 x14 x15) (k0_pay417 x0 x1 x2 x3 x4 x5 x6 x7 x8 x9 x10 x11 x12 x13 x14 x15) (k0_pay235 (k0_pay392 x0 x1 x2 x3 x4 x5 x6 x7 x8 x9 x10 x11 x12 x13 x14 x15)))) (ix2_eta x).symm).trans ((query_1_10 x0 x1 x2 x3 x4 x5 x6 x7 x8 x9 x10 x11 x12 x13 x14 x15 (x 0) (x 1)).trans (congrArg₂ (queryBlock x0 x1 x2 x3 x4 x5 x6 x7 x8 x9 x10 x11 x12 x13 x14 x15) (Fin.ext (show 256 + (x 0).val = 256 + 1 * (x 0).val by omega)) (Fin.ext (show 1280 + (x 1).val = 1280 + 1 * (x 1).val by omega))))
  rcases List.mem_cons.mp hp with rfl | hp
  · exact (congrArg (k0_pay332 (k0_pay285 (k0_pay432 x0 x1 x2 x3 x4 x5 x6 x7 x8 x9 x10 x11 x12 x13 x14 x15)) (k0_pay306 (k0_pay345 x0 x1 x2 x3 x4 x5 x6 x7 x8 x9 x10 x11 x12 x13 x14 x15) (k0_pay416 x0 x1 x2 x3 x4 x5 x6 x7 x8 x9 x10 x11 x12 x13 x14 x15) (k0_pay417 x0 x1 x2 x3 x4 x5 x6 x7 x8 x9 x10 x11 x12 x13 x14 x15) (k0_pay234 (k0_pay391 x0 x1 x2 x3 x4 x5 x6 x7 x8 x9 x10 x11 x12 x13 x14 x15)))) (ix2_eta x).symm).trans ((query_1_9 x0 x1 x2 x3 x4 x5 x6 x7 x8 x9 x10 x11 x12 x13 x14 x15 (x 0) (x 1)).trans (congrArg₂ (queryBlock x0 x1 x2 x3 x4 x5 x6 x7 x8 x9 x10 x11 x12 x13 x14 x15) (Fin.ext (show 256 + (x 0).val = 256 + 1 * (x 0).val by omega)) (Fin.ext (show 1152 + (x 1).val = 1152 + 1 * (x 1).val by omega))))
  rcases List.mem_cons.mp hp with rfl | hp
  · exact (congrArg (k0_pay330 (k0_pay284 (k0_pay432 x0 x1 x2 x3 x4 x5 x6 x7 x8 x9 x10 x11 x12 x13 x14 x15)) (k0_pay305 (k0_pay417 x0 x1 x2 x3 x4 x5 x6 x7 x8 x9 x10 x11 x12 x13 x14 x15) (k0_pay303 (k0_pay345 x0 x1 x2 x3 x4 x5 x6 x7 x8 x9 x10 x11 x12 x13 x14 x15) (k0_pay416 x0 x1 x2 x3 x4 x5 x6 x7 x8 x9 x10 x11 x12 x13 x14 x15) (k0_pay418 x0 x1 x2 x3 x4 x5 x6 x7 x8 x9 x10 x11 x12 x13 x14 x15)) (k0_pay304 (k0_pay345 x0 x1 x2 x3 x4 x5 x6 x7 x8 x9 x10 x11 x12 x13 x14 x15) (k0_pay418 x0 x1 x2 x3 x4 x5 x6 x7 x8 x9 x10 x11 x12 x13 x14 x15)))) (ix2_eta x).symm).trans ((query_1_8 x0 x1 x2 x3 x4 x5 x6 x7 x8 x9 x10 x11 x12 x13 x14 x15 (x 0) (x 1)).trans (congrArg₂ (queryBlock x0 x1 x2 x3 x4 x5 x6 x7 x8 x9 x10 x11 x12 x13 x14 x15) (Fin.ext (show 256 + (x 0).val = 256 + 1 * (x 0).val by omega)) (Fin.ext (show 1024 + (x 1).val = 1024 + 1 * (x 1).val by omega))))
  rcases List.mem_cons.mp hp with rfl | hp
  · exact (congrArg (k0_pay328 (k0_pay283 (k0_pay431 x0 x1 x2 x3 x4 x5 x6 x7 x8 x9 x10 x11 x12 x13 x14 x15)) (k0_pay301 (k0_pay345 x0 x1 x2 x3 x4 x5 x6 x7 x8 x9 x10 x11 x12 x13 x14 x15) (k0_pay416 x0 x1 x2 x3 x4 x5 x6 x7 x8 x9 x10 x11 x12 x13 x14 x15) (k0_pay417 x0 x1 x2 x3 x4 x5 x6 x7 x8 x9 x10 x11 x12 x13 x14 x15) (k0_pay232 (k0_pay390 x0 x1 x2 x3 x4 x5 x6 x7 x8 x9 x10 x11 x12 x13 x14 x15)))) (ix2_eta x).symm).trans ((query_1_7 x0 x1 x2 x3 x4 x5 x6 x7 x8 x9 x10 x11 x12 x13 x14 x15 (x 0) (x 1)).trans (congrArg₂ (queryBlock x0 x1 x2 x3 x4 x5 x6 x7 x8 x9 x10 x11 x12 x13 x14 x15) (Fin.ext (show 256 + (x 0).val = 256 + 1 * (x 0).val by omega)) (Fin.ext (show 896 + (x 1).val = 896 + 1 * (x 1).val by omega))))
  rcases List.mem_cons.mp hp with rfl | hp
  · exact (congrArg (k0_pay326 (k0_pay282 (k0_pay431 x0 x1 x2 x3 x4 x5 x6 x7 x8 x9 x10 x11 x12 x13 x14 x15)) (k0_pay300 (k0_pay345 x0 x1 x2 x3 x4 x5 x6 x7 x8 x9 x10 x11 x12 x13 x14 x15) (k0_pay416 x0 x1 x2 x3 x4 x5 x6 x7 x8 x9 x10 x11 x12 x13 x14 x15) (k0_pay417 x0 x1 x2 x3 x4 x5 x6 x7 x8 x9 x10 x11 x12 x13 x14 x15) (k0_pay231 (k0_pay390 x0 x1 x2 x3 x4 x5 x6 x7 x8 x9 x10 x11 x12 x13 x14 x15)))) (ix2_eta x).symm).trans ((query_1_6 x0 x1 x2 x3 x4 x5 x6 x7 x8 x9 x10 x11 x12 x13 x14 x15 (x 0) (x 1)).trans (congrArg₂ (queryBlock x0 x1 x2 x3 x4 x5 x6 x7 x8 x9 x10 x11 x12 x13 x14 x15) (Fin.ext (show 256 + (x 0).val = 256 + 1 * (x 0).val by omega)) (Fin.ext (show 768 + (x 1).val = 768 + 1 * (x 1).val by omega))))
  rcases List.mem_cons.mp hp with rfl | hp
  · exact (congrArg (k0_pay324 (k0_pay281 (k0_pay279 (k0_pay430 x0 x1 x2 x3 x4 x5 x6 x7 x8 x9 x10 x11 x12 x13 x14 x15)) (k0_pay280 (F := Ideal))) (k0_pay299 (k0_pay345 x0 x1 x2 x3 x4 x5 x6 x7 x8 x9 x10 x11 x12 x13 x14 x15) (k0_pay416 x0 x1 x2 x3 x4 x5 x6 x7 x8 x9 x10 x11 x12 x13 x14 x15) (k0_pay417 x0 x1 x2 x3 x4 x5 x6 x7 x8 x9 x10 x11 x12 x13 x14 x15) (k0_pay230 (k0_pay389 x0 x1 x2 x3 x4 x5 x6 x7 x8 x9 x10 x11 x12 x13 x14 x15)))) (ix2_eta x).symm).trans ((query_1_5 x0 x1 x2 x3 x4 x5 x6 x7 x8 x9 x10 x11 x12 x13 x14 x15 (x 0) (x 1)).trans (congrArg₂ (queryBlock x0 x1 x2 x3 x4 x5 x6 x7 x8 x9 x10 x11 x12 x13 x14 x15) (Fin.ext (show 256 + (x 0).val = 256 + 1 * (x 0).val by omega)) (Fin.ext (show 640 + (x 1).val = 640 + 1 * (x 1).val by omega))))
  rcases List.mem_cons.mp hp with rfl | hp
  · exact (congrArg (k0_pay322 (k0_pay278 (k0_pay430 x0 x1 x2 x3 x4 x5 x6 x7 x8 x9 x10 x11 x12 x13 x14 x15)) (k0_pay298 (k0_pay345 x0 x1 x2 x3 x4 x5 x6 x7 x8 x9 x10 x11 x12 x13 x14 x15) (k0_pay416 x0 x1 x2 x3 x4 x5 x6 x7 x8 x9 x10 x11 x12 x13 x14 x15) (k0_pay417 x0 x1 x2 x3 x4 x5 x6 x7 x8 x9 x10 x11 x12 x13 x14 x15) (k0_pay229 (k0_pay389 x0 x1 x2 x3 x4 x5 x6 x7 x8 x9 x10 x11 x12 x13 x14 x15)))) (ix2_eta x).symm).trans ((query_1_4 x0 x1 x2 x3 x4 x5 x6 x7 x8 x9 x10 x11 x12 x13 x14 x15 (x 0) (x 1)).trans (congrArg₂ (queryBlock x0 x1 x2 x3 x4 x5 x6 x7 x8 x9 x10 x11 x12 x13 x14 x15) (Fin.ext (show 256 + (x 0).val = 256 + 1 * (x 0).val by omega)) (Fin.ext (show 512 + (x 1).val = 512 + 1 * (x 1).val by omega))))
  rcases List.mem_cons.mp hp with rfl | hp
  · exact (congrArg (k0_pay320 (k0_pay277 (k0_pay429 x0 x1 x2 x3 x4 x5 x6 x7 x8 x9 x10 x11 x12 x13 x14 x15)) (k0_pay297 (k0_pay345 x0 x1 x2 x3 x4 x5 x6 x7 x8 x9 x10 x11 x12 x13 x14 x15) (k0_pay416 x0 x1 x2 x3 x4 x5 x6 x7 x8 x9 x10 x11 x12 x13 x14 x15) (k0_pay417 x0 x1 x2 x3 x4 x5 x6 x7 x8 x9 x10 x11 x12 x13 x14 x15) (k0_pay228 (k0_pay388 x0 x1 x2 x3 x4 x5 x6 x7 x8 x9 x10 x11 x12 x13 x14 x15)))) (ix2_eta x).symm).trans ((query_1_3 x0 x1 x2 x3 x4 x5 x6 x7 x8 x9 x10 x11 x12 x13 x14 x15 (x 0) (x 1)).trans (congrArg₂ (queryBlock x0 x1 x2 x3 x4 x5 x6 x7 x8 x9 x10 x11 x12 x13 x14 x15) (Fin.ext (show 256 + (x 0).val = 256 + 1 * (x 0).val by omega)) (Fin.ext (show 384 + (x 1).val = 384 + 1 * (x 1).val by omega))))
  rcases List.mem_cons.mp hp with rfl | hp
  · exact (congrArg (k0_pay318 (k0_pay276 (k0_pay429 x0 x1 x2 x3 x4 x5 x6 x7 x8 x9 x10 x11 x12 x13 x14 x15)) (k0_pay296 (k0_pay345 x0 x1 x2 x3 x4 x5 x6 x7 x8 x9 x10 x11 x12 x13 x14 x15) (k0_pay416 x0 x1 x2 x3 x4 x5 x6 x7 x8 x9 x10 x11 x12 x13 x14 x15) (k0_pay417 x0 x1 x2 x3 x4 x5 x6 x7 x8 x9 x10 x11 x12 x13 x14 x15) (k0_pay227 (k0_pay388 x0 x1 x2 x3 x4 x5 x6 x7 x8 x9 x10 x11 x12 x13 x14 x15)))) (ix2_eta x).symm).trans ((query_1_2 x0 x1 x2 x3 x4 x5 x6 x7 x8 x9 x10 x11 x12 x13 x14 x15 (x 0) (x 1)).trans (congrArg₂ (queryBlock x0 x1 x2 x3 x4 x5 x6 x7 x8 x9 x10 x11 x12 x13 x14 x15) (Fin.ext (show 256 + (x 0).val = 256 + 1 * (x 0).val by omega)) (Fin.ext (show 256 + (x 1).val = 256 + 1 * (x 1).val by omega))))
  rcases List.mem_cons.mp hp with rfl | hp
  · exact (congrArg (k0_pay316 (k0_pay275 (k0_pay428 x0 x1 x2 x3 x4 x5 x6 x7 x8 x9 x10 x11 x12 x13 x14 x15)) (k0_pay295 (k0_pay345 x0 x1 x2 x3 x4 x5 x6 x7 x8 x9 x10 x11 x12 x13 x14 x15) (k0_pay416 x0 x1 x2 x3 x4 x5 x6 x7 x8 x9 x10 x11 x12 x13 x14 x15) (k0_pay417 x0 x1 x2 x3 x4 x5 x6 x7 x8 x9 x10 x11 x12 x13 x14 x15) (k0_pay226 (k0_pay387 x0 x1 x2 x3 x4 x5 x6 x7 x8 x9 x10 x11 x12 x13 x14 x15)))) (ix2_eta x).symm).trans ((query_1_1 x0 x1 x2 x3 x4 x5 x6 x7 x8 x9 x10 x11 x12 x13 x14 x15 (x 0) (x 1)).trans (congrArg₂ (queryBlock x0 x1 x2 x3 x4 x5 x6 x7 x8 x9 x10 x11 x12 x13 x14 x15) (Fin.ext (show 256 + (x 0).val = 256 + 1 * (x 0).val by omega)) (Fin.ext (show 128 + (x 1).val = 128 + 1 * (x 1).val by omega))))
  rcases List.mem_cons.mp hp with rfl | hp
  · exact (congrArg (k0_pay314 (k0_pay274 (k0_pay428 x0 x1 x2 x3 x4 x5 x6 x7 x8 x9 x10 x11 x12 x13 x14 x15)) (k0_pay294 (k0_pay416 x0 x1 x2 x3 x4 x5 x6 x7 x8 x9 x10 x11 x12 x13 x14 x15) (k0_pay417 x0 x1 x2 x3 x4 x5 x6 x7 x8 x9 x10 x11 x12 x13 x14 x15) (k0_pay225 (k0_pay387 x0 x1 x2 x3 x4 x5 x6 x7 x8 x9 x10 x11 x12 x13 x14 x15)) (k0_pay293 (k0_pay345 x0 x1 x2 x3 x4 x5 x6 x7 x8 x9 x10 x11 x12 x13 x14 x15)))) (ix2_eta x).symm).trans ((query_1_0 x0 x1 x2 x3 x4 x5 x6 x7 x8 x9 x10 x11 x12 x13 x14 x15 (x 0) (x 1)).trans (congrArg₂ (queryBlock x0 x1 x2 x3 x4 x5 x6 x7 x8 x9 x10 x11 x12 x13 x14 x15) (Fin.ext (show 256 + (x 0).val = 256 + 1 * (x 0).val by omega)) (Fin.ext (show 0 + (x 1).val = 0 + 1 * (x 1).val by omega))))
  rcases List.mem_cons.mp hp with rfl | hp
  · exact (congrArg (k0_pay206 (k0_pay151 (k0_pay414 x0 x1 x2 x3 x4 x5 x6 x7 x8 x9 x10 x11 x12 x13 x14 x15)) (k0_pay170 (k0_pay345 x0 x1 x2 x3 x4 x5 x6 x7 x8 x9 x10 x11 x12 x13 x14 x15) (k0_pay395 x0 x1 x2 x3 x4 x5 x6 x7 x8 x9 x10 x11 x12 x13 x14 x15) (k0_pay396 x0 x1 x2 x3 x4 x5 x6 x7 x8 x9 x10 x11 x12 x13 x14 x15) (k0_pay100 (k0_pay374 x0 x1 x2 x3 x4 x5 x6 x7 x8 x9 x10 x11 x12 x13 x14 x15)))) (ix2_eta x).symm).trans ((query_0_15 x0 x1 x2 x3 x4 x5 x6 x7 x8 x9 x10 x11 x12 x13 x14 x15 (x 0) (x 1)).trans (congrArg₂ (queryBlock x0 x1 x2 x3 x4 x5 x6 x7 x8 x9 x10 x11 x12 x13 x14 x15) (Fin.ext (show (x 0).val = 0 + 1 * (x 0).val by omega)) (Fin.ext (show 1920 + (x 1).val = 1920 + 1 * (x 1).val by omega))))
  rcases List.mem_cons.mp hp with rfl | hp
  · exact (congrArg (k0_pay204 (k0_pay150 (k0_pay414 x0 x1 x2 x3 x4 x5 x6 x7 x8 x9 x10 x11 x12 x13 x14 x15)) (k0_pay169 (k0_pay345 x0 x1 x2 x3 x4 x5 x6 x7 x8 x9 x10 x11 x12 x13 x14 x15) (k0_pay395 x0 x1 x2 x3 x4 x5 x6 x7 x8 x9 x10 x11 x12 x13 x14 x15) (k0_pay396 x0 x1 x2 x3 x4 x5 x6 x7 x8 x9 x10 x11 x12 x13 x14 x15) (k0_pay99 (k0_pay374 x0 x1 x2 x3 x4 x5 x6 x7 x8 x9 x10 x11 x12 x13 x14 x15)))) (ix2_eta x).symm).trans ((query_0_14 x0 x1 x2 x3 x4 x5 x6 x7 x8 x9 x10 x11 x12 x13 x14 x15 (x 0) (x 1)).trans (congrArg₂ (queryBlock x0 x1 x2 x3 x4 x5 x6 x7 x8 x9 x10 x11 x12 x13 x14 x15) (Fin.ext (show (x 0).val = 0 + 1 * (x 0).val by omega)) (Fin.ext (show 1792 + (x 1).val = 1792 + 1 * (x 1).val by omega))))
  rcases List.mem_cons.mp hp with rfl | hp
  · exact (congrArg (k0_pay202 (k0_pay201 (k0_pay149 (k0_pay413 x0 x1 x2 x3 x4 x5 x6 x7 x8 x9 x10 x11 x12 x13 x14 x15)) (k0_pay168 (k0_pay345 x0 x1 x2 x3 x4 x5 x6 x7 x8 x9 x10 x11 x12 x13 x14 x15) (k0_pay395 x0 x1 x2 x3 x4 x5 x6 x7 x8 x9 x10 x11 x12 x13 x14 x15) (k0_pay396 x0 x1 x2 x3 x4 x5 x6 x7 x8 x9 x10 x11 x12 x13 x14 x15) (k0_pay98 (k0_pay373 x0 x1 x2 x3 x4 x5 x6 x7 x8 x9 x10 x11 x12 x13 x14 x15))))) (ix2_eta x).symm).trans ((query_0_13 x0 x1 x2 x3 x4 x5 x6 x7 x8 x9 x10 x11 x12 x13 x14 x15 (x 0) (x 1)).trans (congrArg₂ (queryBlock x0 x1 x2 x3 x4 x5 x6 x7 x8 x9 x10 x11 x12 x13 x14 x15) (Fin.ext (show (x 0).val = 0 + 1 * (x 0).val by omega)) (Fin.ext (show 1664 + (x 1).val = 1664 + 1 * (x 1).val by omega))))
  rcases List.mem_cons.mp hp with rfl | hp
  · exact (congrArg (k0_pay199 (k0_pay148 (k0_pay413 x0 x1 x2 x3 x4 x5 x6 x7 x8 x9 x10 x11 x12 x13 x14 x15)) (k0_pay167 (k0_pay345 x0 x1 x2 x3 x4 x5 x6 x7 x8 x9 x10 x11 x12 x13 x14 x15) (k0_pay395 x0 x1 x2 x3 x4 x5 x6 x7 x8 x9 x10 x11 x12 x13 x14 x15) (k0_pay396 x0 x1 x2 x3 x4 x5 x6 x7 x8 x9 x10 x11 x12 x13 x14 x15) (k0_pay97 (k0_pay373 x0 x1 x2 x3 x4 x5 x6 x7 x8 x9 x10 x11 x12 x13 x14 x15)))) (ix2_eta x).symm).trans ((query_0_12 x0 x1 x2 x3 x4 x5 x6 x7 x8 x9 x10 x11 x12 x13 x14 x15 (x 0) (x 1)).trans (congrArg₂ (queryBlock x0 x1 x2 x3 x4 x5 x6 x7 x8 x9 x10 x11 x12 x13 x14 x15) (Fin.ext (show (x 0).val = 0 + 1 * (x 0).val by omega)) (Fin.ext (show 1536 + (x 1).val = 1536 + 1 * (x 1).val by omega))))
  rcases List.mem_cons.mp hp with rfl | hp
  · exact (congrArg (k0_pay197 (k0_pay147 (k0_pay412 x0 x1 x2 x3 x4 x5 x6 x7 x8 x9 x10 x11 x12 x13 x14 x15)) (k0_pay166 (k0_pay345 x0 x1 x2 x3 x4 x5 x6 x7 x8 x9 x10 x11 x12 x13 x14 x15) (k0_pay395 x0 x1 x2 x3 x4 x5 x6 x7 x8 x9 x10 x11 x12 x13 x14 x15) (k0_pay396 x0 x1 x2 x3 x4 x5 x6 x7 x8 x9 x10 x11 x12 x13 x14 x15) (k0_pay96 (k0_pay372 x0 x1 x2 x3 x4 x5 x6 x7 x8 x9 x10 x11 x12 x13 x14 x15)))) (ix2_eta x).symm).trans ((query_0_11 x0 x1 x2 x3 x4 x5 x6 x7 x8 x9 x10 x11 x12 x13 x14 x15 (x 0) (x 1)).trans (congrArg₂ (queryBlock x0 x1 x2 x3 x4 x5 x6 x7 x8 x9 x10 x11 x12 x13 x14 x15) (Fin.ext (show (x 0).val = 0 + 1 * (x 0).val by omega)) (Fin.ext (show 1408 + (x 1).val = 1408 + 1 * (x 1).val by omega))))
  rcases List.mem_cons.mp hp with rfl | hp
  · exact (congrArg (k0_pay195 (k0_pay146 (k0_pay412 x0 x1 x2 x3 x4 x5 x6 x7 x8 x9 x10 x11 x12 x13 x14 x15)) (k0_pay165 (k0_pay345 x0 x1 x2 x3 x4 x5 x6 x7 x8 x9 x10 x11 x12 x13 x14 x15) (k0_pay395 x0 x1 x2 x3 x4 x5 x6 x7 x8 x9 x10 x11 x12 x13 x14 x15) (k0_pay396 x0 x1 x2 x3 x4 x5 x6 x7 x8 x9 x10 x11 x12 x13 x14 x15) (k0_pay95 (k0_pay372 x0 x1 x2 x3 x4 x5 x6 x7 x8 x9 x10 x11 x12 x13 x14 x15)))) (ix2_eta x).symm).trans ((query_0_10 x0 x1 x2 x3 x4 x5 x6 x7 x8 x9 x10 x11 x12 x13 x14 x15 (x 0) (x 1)).trans (congrArg₂ (queryBlock x0 x1 x2 x3 x4 x5 x6 x7 x8 x9 x10 x11 x12 x13 x14 x15) (Fin.ext (show (x 0).val = 0 + 1 * (x 0).val by omega)) (Fin.ext (show 1280 + (x 1).val = 1280 + 1 * (x 1).val by omega))))
  rcases List.mem_cons.mp hp with rfl | hp
  · exact (congrArg (k0_pay193 (k0_pay192 (k0_pay145 (k0_pay411 x0 x1 x2 x3 x4 x5 x6 x7 x8 x9 x10 x11 x12 x13 x14 x15)) (k0_pay164 (k0_pay345 x0 x1 x2 x3 x4 x5 x6 x7 x8 x9 x10 x11 x12 x13 x14 x15) (k0_pay395 x0 x1 x2 x3 x4 x5 x6 x7 x8 x9 x10 x11 x12 x13 x14 x15) (k0_pay396 x0 x1 x2 x3 x4 x5 x6 x7 x8 x9 x10 x11 x12 x13 x14 x15) (k0_pay94 (k0_pay371 x0 x1 x2 x3 x4 x5 x6 x7 x8 x9 x10 x11 x12 x13 x14 x15))))) (ix2_eta x).symm).trans ((query_0_9 x0 x1 x2 x3 x4 x5 x6 x7 x8 x9 x10 x11 x12 x13 x14 x15 (x 0) (x 1)).trans (congrArg₂ (queryBlock x0 x1 x2 x3 x4 x5 x6 x7 x8 x9 x10 x11 x12 x13 x14 x15) (Fin.ext (show (x 0).val = 0 + 1 * (x 0).val by omega)) (Fin.ext (show 1152 + (x 1).val = 1152 + 1 * (x 1).val by omega))))
  rcases List.mem_cons.mp hp with rfl | hp
  · exact (congrArg (k0_pay190 (k0_pay144 (k0_pay143 (k0_pay411 x0 x1 x2 x3 x4 x5 x6 x7 x8 x9 x10 x11 x12 x13 x14 x15))) (k0_pay163 (k0_pay345 x0 x1 x2 x3 x4 x5 x6 x7 x8 x9 x10 x11 x12 x13 x14 x15) (k0_pay395 x0 x1 x2 x3 x4 x5 x6 x7 x8 x9 x10 x11 x12 x13 x14 x15) (k0_pay396 x0 x1 x2 x3 x4 x5 x6 x7 x8 x9 x10 x11 x12 x13 x14 x15) (k0_pay93 (k0_pay371 x0 x1 x2 x3 x4 x5 x6 x7 x8 x9 x10 x11 x12 x13 x14 x15)))) (ix2_eta x).symm).trans ((query_0_8 x0 x1 x2 x3 x4 x5 x6 x7 x8 x9 x10 x11 x12 x13 x14 x15 (x 0) (x 1)).trans (congrArg₂ (queryBlock x0 x1 x2 x3 x4 x5 x6 x7 x8 x9 x10 x11 x12 x13 x14 x15) (Fin.ext (show (x 0).val = 0 + 1 * (x 0).val by omega)) (Fin.ext (show 1024 + (x 1).val = 1024 + 1 * (x 1).val by omega))))
  rcases List.mem_cons.mp hp with rfl | hp
  · exact (congrArg (k0_pay188 (k0_pay142 (k0_pay410 x0 x1 x2 x3 x4 x5 x6 x7 x8 x9 x10 x11 x12 x13 x14 x15)) (k0_pay162 (k0_pay345 x0 x1 x2 x3 x4 x5 x6 x7 x8 x9 x10 x11 x12 x13 x14 x15) (k0_pay395 x0 x1 x2 x3 x4 x5 x6 x7 x8 x9 x10 x11 x12 x13 x14 x15) (k0_pay396 x0 x1 x2 x3 x4 x5 x6 x7 x8 x9 x10 x11 x12 x13 x14 x15) (k0_pay92 (k0_pay370 x0 x1 x2 x3 x4 x5 x6 x7 x8 x9 x10 x11 x12 x13 x14 x15)))) (ix2_eta x).symm).trans ((query_0_7 x0 x1 x2 x3 x4 x5 x6 x7 x8 x9 x10 x11 x12 x13 x14 x15 (x 0) (x 1)).trans (congrArg₂ (queryBlock x0 x1 x2 x3 x4 x5 x6 x7 x8 x9 x10 x11 x12 x13 x14 x15) (Fin.ext (show (x 0).val = 0 + 1 * (x 0).val by omega)) (Fin.ext (show 896 + (x 1).val = 896 + 1 * (x 1).val by omega))))
  rcases List.mem_cons.mp hp with rfl | hp
  · exact (congrArg (k0_pay186 (k0_pay141 (k0_pay410 x0 x1 x2 x3 x4 x5 x6 x7 x8 x9 x10 x11 x12 x13 x14 x15)) (k0_pay161 (k0_pay345 x0 x1 x2 x3 x4 x5 x6 x7 x8 x9 x10 x11 x12 x13 x14 x15) (k0_pay395 x0 x1 x2 x3 x4 x5 x6 x7 x8 x9 x10 x11 x12 x13 x14 x15) (k0_pay396 x0 x1 x2 x3 x4 x5 x6 x7 x8 x9 x10 x11 x12 x13 x14 x15) (k0_pay91 (k0_pay370 x0 x1 x2 x3 x4 x5 x6 x7 x8 x9 x10 x11 x12 x13 x14 x15)))) (ix2_eta x).symm).trans ((query_0_6 x0 x1 x2 x3 x4 x5 x6 x7 x8 x9 x10 x11 x12 x13 x14 x15 (x 0) (x 1)).trans (congrArg₂ (queryBlock x0 x1 x2 x3 x4 x5 x6 x7 x8 x9 x10 x11 x12 x13 x14 x15) (Fin.ext (show (x 0).val = 0 + 1 * (x 0).val by omega)) (Fin.ext (show 768 + (x 1).val = 768 + 1 * (x 1).val by omega))))
  rcases List.mem_cons.mp hp with rfl | hp
  · exact (congrArg (k0_pay184 (k0_pay183 (k0_pay140 (k0_pay409 x0 x1 x2 x3 x4 x5 x6 x7 x8 x9 x10 x11 x12 x13 x14 x15)) (k0_pay160 (k0_pay345 x0 x1 x2 x3 x4 x5 x6 x7 x8 x9 x10 x11 x12 x13 x14 x15) (k0_pay395 x0 x1 x2 x3 x4 x5 x6 x7 x8 x9 x10 x11 x12 x13 x14 x15) (k0_pay396 x0 x1 x2 x3 x4 x5 x6 x7 x8 x9 x10 x11 x12 x13 x14 x15) (k0_pay90 (k0_pay369 x0 x1 x2 x3 x4 x5 x6 x7 x8 x9 x10 x11 x12 x13 x14 x15))))) (ix2_eta x).symm).trans ((query_0_5 x0 x1 x2 x3 x4 x5 x6 x7 x8 x9 x10 x11 x12 x13 x14 x15 (x 0) (x 1)).trans (congrArg₂ (queryBlock x0 x1 x2 x3 x4 x5 x6 x7 x8 x9 x10 x11 x12 x13 x14 x15) (Fin.ext (show (x 0).val = 0 + 1 * (x 0).val by omega)) (Fin.ext (show 640 + (x 1).val = 640 + 1 * (x 1).val by omega))))
  rcases List.mem_cons.mp hp with rfl | hp
  · exact (congrArg (k0_pay181 (k0_pay139 (k0_pay409 x0 x1 x2 x3 x4 x5 x6 x7 x8 x9 x10 x11 x12 x13 x14 x15)) (k0_pay159 (k0_pay345 x0 x1 x2 x3 x4 x5 x6 x7 x8 x9 x10 x11 x12 x13 x14 x15) (k0_pay395 x0 x1 x2 x3 x4 x5 x6 x7 x8 x9 x10 x11 x12 x13 x14 x15) (k0_pay396 x0 x1 x2 x3 x4 x5 x6 x7 x8 x9 x10 x11 x12 x13 x14 x15) (k0_pay89 (k0_pay369 x0 x1 x2 x3 x4 x5 x6 x7 x8 x9 x10 x11 x12 x13 x14 x15)))) (ix2_eta x).symm).trans ((query_0_4 x0 x1 x2 x3 x4 x5 x6 x7 x8 x9 x10 x11 x12 x13 x14 x15 (x 0) (x 1)).trans (congrArg₂ (queryBlock x0 x1 x2 x3 x4 x5 x6 x7 x8 x9 x10 x11 x12 x13 x14 x15) (Fin.ext (show (x 0).val = 0 + 1 * (x 0).val by omega)) (Fin.ext (show 512 + (x 1).val = 512 + 1 * (x 1).val by omega))))
  rcases List.mem_cons.mp hp with rfl | hp
  · exact (congrArg (k0_pay179 (k0_pay138 (k0_pay408 x0 x1 x2 x3 x4 x5 x6 x7 x8 x9 x10 x11 x12 x13 x14 x15)) (k0_pay158 (k0_pay345 x0 x1 x2 x3 x4 x5 x6 x7 x8 x9 x10 x11 x12 x13 x14 x15) (k0_pay395 x0 x1 x2 x3 x4 x5 x6 x7 x8 x9 x10 x11 x12 x13 x14 x15) (k0_pay396 x0 x1 x2 x3 x4 x5 x6 x7 x8 x9 x10 x11 x12 x13 x14 x15) (k0_pay88 (k0_pay368 x0 x1 x2 x3 x4 x5 x6 x7 x8 x9 x10 x11 x12 x13 x14 x15)))) (ix2_eta x).symm).trans ((query_0_3 x0 x1 x2 x3 x4 x5 x6 x7 x8 x9 x10 x11 x12 x13 x14 x15 (x 0) (x 1)).trans (congrArg₂ (queryBlock x0 x1 x2 x3 x4 x5 x6 x7 x8 x9 x10 x11 x12 x13 x14 x15) (Fin.ext (show (x 0).val = 0 + 1 * (x 0).val by omega)) (Fin.ext (show 384 + (x 1).val = 384 + 1 * (x 1).val by omega))))
  rcases List.mem_cons.mp hp with rfl | hp
  · exact (congrArg (k0_pay177 (k0_pay137 (k0_pay408 x0 x1 x2 x3 x4 x5 x6 x7 x8 x9 x10 x11 x12 x13 x14 x15)) (k0_pay157 (k0_pay396 x0 x1 x2 x3 x4 x5 x6 x7 x8 x9 x10 x11 x12 x13 x14 x15) (k0_pay155 (k0_pay345 x0 x1 x2 x3 x4 x5 x6 x7 x8 x9 x10 x11 x12 x13 x14 x15) (k0_pay397 x0 x1 x2 x3 x4 x5 x6 x7 x8 x9 x10 x11 x12 x13 x14 x15)) (k0_pay156 (k0_pay345 x0 x1 x2 x3 x4 x5 x6 x7 x8 x9 x10 x11 x12 x13 x14 x15) (k0_pay395 x0 x1 x2 x3 x4 x5 x6 x7 x8 x9 x10 x11 x12 x13 x14 x15) (k0_pay397 x0 x1 x2 x3 x4 x5 x6 x7 x8 x9 x10 x11 x12 x13 x14 x15)))) (ix2_eta x).symm).trans ((query_0_2 x0 x1 x2 x3 x4 x5 x6 x7 x8 x9 x10 x11 x12 x13 x14 x15 (x 0) (x 1)).trans (congrArg₂ (queryBlock x0 x1 x2 x3 x4 x5 x6 x7 x8 x9 x10 x11 x12 x13 x14 x15) (Fin.ext (show (x 0).val = 0 + 1 * (x 0).val by omega)) (Fin.ext (show 256 + (x 1).val = 256 + 1 * (x 1).val by omega))))
  rcases List.mem_cons.mp hp with rfl | hp
  · exact (congrArg (k0_pay175 (k0_pay174 (k0_pay136 (k0_pay407 x0 x1 x2 x3 x4 x5 x6 x7 x8 x9 x10 x11 x12 x13 x14 x15)) (k0_pay154 (k0_pay345 x0 x1 x2 x3 x4 x5 x6 x7 x8 x9 x10 x11 x12 x13 x14 x15) (k0_pay395 x0 x1 x2 x3 x4 x5 x6 x7 x8 x9 x10 x11 x12 x13 x14 x15) (k0_pay396 x0 x1 x2 x3 x4 x5 x6 x7 x8 x9 x10 x11 x12 x13 x14 x15) (k0_pay86 (k0_pay367 x0 x1 x2 x3 x4 x5 x6 x7 x8 x9 x10 x11 x12 x13 x14 x15))))) (ix2_eta x).symm).trans ((query_0_1 x0 x1 x2 x3 x4 x5 x6 x7 x8 x9 x10 x11 x12 x13 x14 x15 (x 0) (x 1)).trans (congrArg₂ (queryBlock x0 x1 x2 x3 x4 x5 x6 x7 x8 x9 x10 x11 x12 x13 x14 x15) (Fin.ext (show (x 0).val = 0 + 1 * (x 0).val by omega)) (Fin.ext (show 128 + (x 1).val = 128 + 1 * (x 1).val by omega))))
  obtain rfl := List.mem_singleton.mp hp
  exact (congrArg (k0_pay172 (k0_pay135 (k0_pay407 x0 x1 x2 x3 x4 x5 x6 x7 x8 x9 x10 x11 x12 x13 x14 x15)) (k0_pay153 (k0_pay345 x0 x1 x2 x3 x4 x5 x6 x7 x8 x9 x10 x11 x12 x13 x14 x15) (k0_pay395 x0 x1 x2 x3 x4 x5 x6 x7 x8 x9 x10 x11 x12 x13 x14 x15) (k0_pay396 x0 x1 x2 x3 x4 x5 x6 x7 x8 x9 x10 x11 x12 x13 x14 x15) (k0_pay85 (k0_pay367 x0 x1 x2 x3 x4 x5 x6 x7 x8 x9 x10 x11 x12 x13 x14 x15)))) (ix2_eta x).symm).trans ((query_0_0 x0 x1 x2 x3 x4 x5 x6 x7 x8 x9 x10 x11 x12 x13 x14 x15 (x 0) (x 1)).trans (congrArg₂ (queryBlock x0 x1 x2 x3 x4 x5 x6 x7 x8 x9 x10 x11 x12 x13 x14 x15) (Fin.ext (show (x 0).val = 0 + 1 * (x 0).val by omega)) (Fin.ext (show 0 + (x 1).val = 0 + 1 * (x 1).val by omega))))

end Cert.FrontIdeal.Rows

end
-- ==== Proof.Front.OutKey.lean ====
/-
  A block's keys, head by head.
-/
module

public import proofs.«01_k».proof.Proof.Front.Out

@[expose] public section

set_option maxRecDepth 16384

noncomputable section

namespace Cert.FrontIdeal.Rows

open Cert.FrontIdeal Cert.FrontIdeal.Gen Idealize.ShloMosaic Idealize.ShloMosaic.TcCoe Idealize.SL.Sem
open Cert.Front

variable (x0 : Vec Ideal S512x1024 .f32) (x1 : Vec Ideal S1x1024 .f32) (x2 : Vec Ideal S1024x512 .bf16) (x3 : Vec Ideal S1024x256 .bf16) (x4 : Vec Ideal S1024x1024 .bf16) (x5 : Vec Ideal S1x384 .f32) (x6 : Vec Ideal S1x256 .f32) (x7 : Vec Ideal S384x2048 .bf16) (x8 : Vec Ideal S256x2048 .bf16)
    (x9 : Vec Ideal S256x2048 .bf16) (x10 : Vec Ideal S1x2048 .f32) (x11 : Vec Ideal S1x128 .f32) (x12 : Vec Ideal S1x128 .f32) (x13 : Vec Ideal S1x128 .f32) (x14 : Vec Ideal S512x128 .f32) (x15 : Vec Ideal S512x128 .f32)

theorem key_0_0 (r : Fin 256) (l : Fin 128) :
    (k0_pay171 (k0_pay346 x0 x1 x2 x3 x4 x5 x6 x7 x8 x9 x10 x11 x12 x13 x14 x15) (k0_pay69 (k0_pay359 x0 x1 x2 x3 x4 x5 x6 x7 x8 x9 x10 x11 x12 x13 x14 x15)) (k0_pay119 (k0_pay398 x0 x1 x2 x3 x4 x5 x6 x7 x8 x9 x10 x11 x12 x13 x14 x15) (k0_pay399 x0 x1 x2 x3 x4 x5 x6 x7 x8 x9 x10 x11 x12 x13 x14 x15)) (k0_pay415 x0 x1 x2 x3 x4 x5 x6 x7 x8 x9 x10 x11 x12 x13 x14 x15)) (ix2 r l) = keyBlock x0 x1 x2 x3 x4 x5 x6 x7 x8 x9 x10 x11 x12 x13 x14 x15 ⟨r.val, by omega⟩ ⟨0 + l.val, by omega⟩ := by
  have e : k0_pay171 (k0_pay346 x0 x1 x2 x3 x4 x5 x6 x7 x8 x9 x10 x11 x12 x13 x14 x15) (k0_pay69 (k0_pay359 x0 x1 x2 x3 x4 x5 x6 x7 x8 x9 x10 x11 x12 x13 x14 x15)) (k0_pay119 (k0_pay398 x0 x1 x2 x3 x4 x5 x6 x7 x8 x9 x10 x11 x12 x13 x14 x15) (k0_pay399 x0 x1 x2 x3 x4 x5 x6 x7 x8 x9 x10 x11 x12 x13 x14 x15)) (k0_pay415 x0 x1 x2 x3 x4 x5 x6 x7 x8 x9 x10 x11 x12 x13 x14 x15) = keyFirst (mulK (latOf (View.ld x0 r0_1) (View.ld x1 r0_2) (View.ld x3 r0_4) (View.ld x6 r0_7)) (View.ld x8 r0_11)) (backOf (mulJoint (normOf (View.ld x0 r0_1) (View.ld x1 r0_2)) (View.ld x2 r0_3))) (View.ld x12 r0_0) (View.ld x13 r0_0) (View.ld x14 r0_29) (View.ld x15 r0_29) := by
    dsimp only [k0_pay3, k0_pay5, k0_pay6, k0_pay7, k0_pay8, k0_pay9, k0_pay10, k0_pay12, k0_pay13, k0_pay14, k0_pay15, k0_pay18, k0_pay19, k0_pay20, k0_pay22, k0_pay67, k0_pay68, k0_pay69, k0_pay101, k0_pay102, k0_pay103, k0_pay119, k0_pay152, k0_pay171, k0_pay343, k0_pay344, k0_pay346, k0_pay347, k0_pay348, k0_pay349, k0_pay350, k0_pay352, k0_pay353, k0_pay354, k0_pay356, k0_pay357, k0_pay359, k0_pay395, k0_pay396, k0_pay398, k0_pay399, k0_pay415, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (keyFirst_row (x := View.ld x0 r0_1) (n := View.ld x1 r0_2) (W := View.ld x2 r0_3) (V := View.ld x3 r0_4) (f := View.ld x6 r0_7) (w := View.ld x8 r0_11) (g := View.ld x12 r0_0) (K := View.ld x13 r0_0) (C := View.ld x14 r0_29) (S := View.ld x15 r0_29)
    (fun j => Cert.Tail.ld_rows _ _ r (⟨r.val, by omega⟩ : Fin 512) (by show r.val = 0 + r.val; omega) j) (fun j => ld_whole _ _ 0 j) (fun j k => ld_whole _ _ j k) (fun j k => ld_whole _ _ j k) (fun j => ld_whole _ _ 0 j) (fun j a => ld_cols (o := 0) _ _ j a ⟨256 * 0 + a.val, by omega⟩ (by show 256 * 0 + a.val = 0 + a.val; omega)) (fun j => ld_whole _ _ 0 j) (fun j => ld_whole _ _ 0 j) (fun j => Cert.Tail.ld_rows _ _ r (⟨r.val, by omega⟩ : Fin 512) (by show r.val = 0 + r.val; omega) j) (fun j => Cert.Tail.ld_rows _ _ r (⟨r.val, by omega⟩ : Fin 512) (by show r.val = 0 + r.val; omega) j) l).trans
    (keyRow_at (x := (fun j => x0 (ix2 (⟨r.val, by omega⟩ : Fin 512) j))) (n := (fun j => x1 (ix2 0 j))) (W := (fun j k => x2 (ix2 j k))) (V := (fun j k => x3 (ix2 j k))) (f := (fun j => x6 (ix2 0 j))) (w := (fun j k => x8 (ix2 j k))) (g := (fun j => x12 (ix2 0 j))) (K := (fun j => x13 (ix2 0 j))) (C := (fun j => x14 (ix2 (⟨r.val, by omega⟩ : Fin 512) j))) (S := (fun j => x15 (ix2 (⟨r.val, by omega⟩ : Fin 512) j))) 0 0 l ⟨0 + l.val, by omega⟩ (by show 0 + l.val = 256 * 0 + 128 * 0 + l.val; omega))

theorem key_0_1 (r : Fin 256) (l : Fin 128) :
    (k0_pay173 (k0_pay346 x0 x1 x2 x3 x4 x5 x6 x7 x8 x9 x10 x11 x12 x13 x14 x15) (k0_pay70 (k0_pay359 x0 x1 x2 x3 x4 x5 x6 x7 x8 x9 x10 x11 x12 x13 x14 x15)) (k0_pay120 (k0_pay398 x0 x1 x2 x3 x4 x5 x6 x7 x8 x9 x10 x11 x12 x13 x14 x15) (k0_pay399 x0 x1 x2 x3 x4 x5 x6 x7 x8 x9 x10 x11 x12 x13 x14 x15)) (k0_pay415 x0 x1 x2 x3 x4 x5 x6 x7 x8 x9 x10 x11 x12 x13 x14 x15)) (ix2 r l) = keyBlock x0 x1 x2 x3 x4 x5 x6 x7 x8 x9 x10 x11 x12 x13 x14 x15 ⟨r.val, by omega⟩ ⟨128 + l.val, by omega⟩ := by
  have e : k0_pay173 (k0_pay346 x0 x1 x2 x3 x4 x5 x6 x7 x8 x9 x10 x11 x12 x13 x14 x15) (k0_pay70 (k0_pay359 x0 x1 x2 x3 x4 x5 x6 x7 x8 x9 x10 x11 x12 x13 x14 x15)) (k0_pay120 (k0_pay398 x0 x1 x2 x3 x4 x5 x6 x7 x8 x9 x10 x11 x12 x13 x14 x15) (k0_pay399 x0 x1 x2 x3 x4 x5 x6 x7 x8 x9 x10 x11 x12 x13 x14 x15)) (k0_pay415 x0 x1 x2 x3 x4 x5 x6 x7 x8 x9 x10 x11 x12 x13 x14 x15) = keySecond (mulK (latOf (View.ld x0 r0_1) (View.ld x1 r0_2) (View.ld x3 r0_4) (View.ld x6 r0_7)) (View.ld x8 r0_11)) (backOf (mulJoint (normOf (View.ld x0 r0_1) (View.ld x1 r0_2)) (View.ld x2 r0_3))) (View.ld x12 r0_0) (View.ld x13 r0_0) (View.ld x14 r0_29) (View.ld x15 r0_29) := by
    dsimp only [k0_pay3, k0_pay5, k0_pay6, k0_pay7, k0_pay8, k0_pay9, k0_pay10, k0_pay12, k0_pay13, k0_pay14, k0_pay15, k0_pay18, k0_pay19, k0_pay20, k0_pay22, k0_pay67, k0_pay68, k0_pay70, k0_pay101, k0_pay102, k0_pay103, k0_pay120, k0_pay152, k0_pay173, k0_pay343, k0_pay344, k0_pay346, k0_pay347, k0_pay348, k0_pay349, k0_pay350, k0_pay352, k0_pay353, k0_pay354, k0_pay356, k0_pay357, k0_pay359, k0_pay395, k0_pay396, k0_pay398, k0_pay399, k0_pay415, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (keySecond_row (x := View.ld x0 r0_1) (n := View.ld x1 r0_2) (W := View.ld x2 r0_3) (V := View.ld x3 r0_4) (f := View.ld x6 r0_7) (w := View.ld x8 r0_11) (g := View.ld x12 r0_0) (K := View.ld x13 r0_0) (C := View.ld x14 r0_29) (S := View.ld x15 r0_29)
    (fun j => Cert.Tail.ld_rows _ _ r (⟨r.val, by omega⟩ : Fin 512) (by show r.val = 0 + r.val; omega) j) (fun j => ld_whole _ _ 0 j) (fun j k => ld_whole _ _ j k) (fun j k => ld_whole _ _ j k) (fun j => ld_whole _ _ 0 j) (fun j a => ld_cols (o := 0) _ _ j a ⟨256 * 0 + a.val, by omega⟩ (by show 256 * 0 + a.val = 0 + a.val; omega)) (fun j => ld_whole _ _ 0 j) (fun j => ld_whole _ _ 0 j) (fun j => Cert.Tail.ld_rows _ _ r (⟨r.val, by omega⟩ : Fin 512) (by show r.val = 0 + r.val; omega) j) (fun j => Cert.Tail.ld_rows _ _ r (⟨r.val, by omega⟩ : Fin 512) (by show r.val = 0 + r.val; omega) j) l).trans
    (keyRow_at (x := (fun j => x0 (ix2 (⟨r.val, by omega⟩ : Fin 512) j))) (n := (fun j => x1 (ix2 0 j))) (W := (fun j k => x2 (ix2 j k))) (V := (fun j k => x3 (ix2 j k))) (f := (fun j => x6 (ix2 0 j))) (w := (fun j k => x8 (ix2 j k))) (g := (fun j => x12 (ix2 0 j))) (K := (fun j => x13 (ix2 0 j))) (C := (fun j => x14 (ix2 (⟨r.val, by omega⟩ : Fin 512) j))) (S := (fun j => x15 (ix2 (⟨r.val, by omega⟩ : Fin 512) j))) 0 1 l ⟨128 + l.val, by omega⟩ (by show 128 + l.val = 256 * 0 + 128 * 1 + l.val; omega))

theorem key_0_2 (r : Fin 256) (l : Fin 128) :
    (k0_pay176 (k0_pay346 x0 x1 x2 x3 x4 x5 x6 x7 x8 x9 x10 x11 x12 x13 x14 x15) (k0_pay71 (k0_pay360 x0 x1 x2 x3 x4 x5 x6 x7 x8 x9 x10 x11 x12 x13 x14 x15)) (k0_pay121 (k0_pay398 x0 x1 x2 x3 x4 x5 x6 x7 x8 x9 x10 x11 x12 x13 x14 x15) (k0_pay400 x0 x1 x2 x3 x4 x5 x6 x7 x8 x9 x10 x11 x12 x13 x14 x15)) (k0_pay415 x0 x1 x2 x3 x4 x5 x6 x7 x8 x9 x10 x11 x12 x13 x14 x15)) (ix2 r l) = keyBlock x0 x1 x2 x3 x4 x5 x6 x7 x8 x9 x10 x11 x12 x13 x14 x15 ⟨r.val, by omega⟩ ⟨256 + l.val, by omega⟩ := by
  have e : k0_pay176 (k0_pay346 x0 x1 x2 x3 x4 x5 x6 x7 x8 x9 x10 x11 x12 x13 x14 x15) (k0_pay71 (k0_pay360 x0 x1 x2 x3 x4 x5 x6 x7 x8 x9 x10 x11 x12 x13 x14 x15)) (k0_pay121 (k0_pay398 x0 x1 x2 x3 x4 x5 x6 x7 x8 x9 x10 x11 x12 x13 x14 x15) (k0_pay400 x0 x1 x2 x3 x4 x5 x6 x7 x8 x9 x10 x11 x12 x13 x14 x15)) (k0_pay415 x0 x1 x2 x3 x4 x5 x6 x7 x8 x9 x10 x11 x12 x13 x14 x15) = keyFirst (mulK (latOf (View.ld x0 r0_1) (View.ld x1 r0_2) (View.ld x3 r0_4) (View.ld x6 r0_7)) (View.ld x8 r0_12)) (backOf (mulJoint (normOf (View.ld x0 r0_1) (View.ld x1 r0_2)) (View.ld x2 r0_3))) (View.ld x12 r0_0) (View.ld x13 r0_0) (View.ld x14 r0_29) (View.ld x15 r0_29) := by
    dsimp only [k0_pay3, k0_pay5, k0_pay6, k0_pay7, k0_pay8, k0_pay9, k0_pay10, k0_pay12, k0_pay13, k0_pay14, k0_pay15, k0_pay18, k0_pay19, k0_pay20, k0_pay23, k0_pay67, k0_pay68, k0_pay71, k0_pay101, k0_pay102, k0_pay104, k0_pay121, k0_pay152, k0_pay176, k0_pay343, k0_pay344, k0_pay346, k0_pay347, k0_pay348, k0_pay349, k0_pay350, k0_pay352, k0_pay353, k0_pay354, k0_pay356, k0_pay357, k0_pay360, k0_pay395, k0_pay396, k0_pay398, k0_pay400, k0_pay415, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (keyFirst_row (x := View.ld x0 r0_1) (n := View.ld x1 r0_2) (W := View.ld x2 r0_3) (V := View.ld x3 r0_4) (f := View.ld x6 r0_7) (w := View.ld x8 r0_12) (g := View.ld x12 r0_0) (K := View.ld x13 r0_0) (C := View.ld x14 r0_29) (S := View.ld x15 r0_29)
    (fun j => Cert.Tail.ld_rows _ _ r (⟨r.val, by omega⟩ : Fin 512) (by show r.val = 0 + r.val; omega) j) (fun j => ld_whole _ _ 0 j) (fun j k => ld_whole _ _ j k) (fun j k => ld_whole _ _ j k) (fun j => ld_whole _ _ 0 j) (fun j a => ld_cols (o := 256) _ _ j a ⟨256 * 1 + a.val, by omega⟩ (by show 256 * 1 + a.val = 256 + a.val; omega)) (fun j => ld_whole _ _ 0 j) (fun j => ld_whole _ _ 0 j) (fun j => Cert.Tail.ld_rows _ _ r (⟨r.val, by omega⟩ : Fin 512) (by show r.val = 0 + r.val; omega) j) (fun j => Cert.Tail.ld_rows _ _ r (⟨r.val, by omega⟩ : Fin 512) (by show r.val = 0 + r.val; omega) j) l).trans
    (keyRow_at (x := (fun j => x0 (ix2 (⟨r.val, by omega⟩ : Fin 512) j))) (n := (fun j => x1 (ix2 0 j))) (W := (fun j k => x2 (ix2 j k))) (V := (fun j k => x3 (ix2 j k))) (f := (fun j => x6 (ix2 0 j))) (w := (fun j k => x8 (ix2 j k))) (g := (fun j => x12 (ix2 0 j))) (K := (fun j => x13 (ix2 0 j))) (C := (fun j => x14 (ix2 (⟨r.val, by omega⟩ : Fin 512) j))) (S := (fun j => x15 (ix2 (⟨r.val, by omega⟩ : Fin 512) j))) 1 0 l ⟨256 + l.val, by omega⟩ (by show 256 + l.val = 256 * 1 + 128 * 0 + l.val; omega))

theorem key_0_3 (r : Fin 256) (l : Fin 128) :
    (k0_pay178 (k0_pay346 x0 x1 x2 x3 x4 x5 x6 x7 x8 x9 x10 x11 x12 x13 x14 x15) (k0_pay72 (k0_pay360 x0 x1 x2 x3 x4 x5 x6 x7 x8 x9 x10 x11 x12 x13 x14 x15)) (k0_pay122 (k0_pay398 x0 x1 x2 x3 x4 x5 x6 x7 x8 x9 x10 x11 x12 x13 x14 x15) (k0_pay400 x0 x1 x2 x3 x4 x5 x6 x7 x8 x9 x10 x11 x12 x13 x14 x15)) (k0_pay415 x0 x1 x2 x3 x4 x5 x6 x7 x8 x9 x10 x11 x12 x13 x14 x15)) (ix2 r l) = keyBlock x0 x1 x2 x3 x4 x5 x6 x7 x8 x9 x10 x11 x12 x13 x14 x15 ⟨r.val, by omega⟩ ⟨384 + l.val, by omega⟩ := by
  have e : k0_pay178 (k0_pay346 x0 x1 x2 x3 x4 x5 x6 x7 x8 x9 x10 x11 x12 x13 x14 x15) (k0_pay72 (k0_pay360 x0 x1 x2 x3 x4 x5 x6 x7 x8 x9 x10 x11 x12 x13 x14 x15)) (k0_pay122 (k0_pay398 x0 x1 x2 x3 x4 x5 x6 x7 x8 x9 x10 x11 x12 x13 x14 x15) (k0_pay400 x0 x1 x2 x3 x4 x5 x6 x7 x8 x9 x10 x11 x12 x13 x14 x15)) (k0_pay415 x0 x1 x2 x3 x4 x5 x6 x7 x8 x9 x10 x11 x12 x13 x14 x15) = keySecond (mulK (latOf (View.ld x0 r0_1) (View.ld x1 r0_2) (View.ld x3 r0_4) (View.ld x6 r0_7)) (View.ld x8 r0_12)) (backOf (mulJoint (normOf (View.ld x0 r0_1) (View.ld x1 r0_2)) (View.ld x2 r0_3))) (View.ld x12 r0_0) (View.ld x13 r0_0) (View.ld x14 r0_29) (View.ld x15 r0_29) := by
    dsimp only [k0_pay3, k0_pay5, k0_pay6, k0_pay7, k0_pay8, k0_pay9, k0_pay10, k0_pay12, k0_pay13, k0_pay14, k0_pay15, k0_pay18, k0_pay19, k0_pay20, k0_pay23, k0_pay67, k0_pay68, k0_pay72, k0_pay101, k0_pay102, k0_pay104, k0_pay122, k0_pay152, k0_pay178, k0_pay343, k0_pay344, k0_pay346, k0_pay347, k0_pay348, k0_pay349, k0_pay350, k0_pay352, k0_pay353, k0_pay354, k0_pay356, k0_pay357, k0_pay360, k0_pay395, k0_pay396, k0_pay398, k0_pay400, k0_pay415, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (keySecond_row (x := View.ld x0 r0_1) (n := View.ld x1 r0_2) (W := View.ld x2 r0_3) (V := View.ld x3 r0_4) (f := View.ld x6 r0_7) (w := View.ld x8 r0_12) (g := View.ld x12 r0_0) (K := View.ld x13 r0_0) (C := View.ld x14 r0_29) (S := View.ld x15 r0_29)
    (fun j => Cert.Tail.ld_rows _ _ r (⟨r.val, by omega⟩ : Fin 512) (by show r.val = 0 + r.val; omega) j) (fun j => ld_whole _ _ 0 j) (fun j k => ld_whole _ _ j k) (fun j k => ld_whole _ _ j k) (fun j => ld_whole _ _ 0 j) (fun j a => ld_cols (o := 256) _ _ j a ⟨256 * 1 + a.val, by omega⟩ (by show 256 * 1 + a.val = 256 + a.val; omega)) (fun j => ld_whole _ _ 0 j) (fun j => ld_whole _ _ 0 j) (fun j => Cert.Tail.ld_rows _ _ r (⟨r.val, by omega⟩ : Fin 512) (by show r.val = 0 + r.val; omega) j) (fun j => Cert.Tail.ld_rows _ _ r (⟨r.val, by omega⟩ : Fin 512) (by show r.val = 0 + r.val; omega) j) l).trans
    (keyRow_at (x := (fun j => x0 (ix2 (⟨r.val, by omega⟩ : Fin 512) j))) (n := (fun j => x1 (ix2 0 j))) (W := (fun j k => x2 (ix2 j k))) (V := (fun j k => x3 (ix2 j k))) (f := (fun j => x6 (ix2 0 j))) (w := (fun j k => x8 (ix2 j k))) (g := (fun j => x12 (ix2 0 j))) (K := (fun j => x13 (ix2 0 j))) (C := (fun j => x14 (ix2 (⟨r.val, by omega⟩ : Fin 512) j))) (S := (fun j => x15 (ix2 (⟨r.val, by omega⟩ : Fin 512) j))) 1 1 l ⟨384 + l.val, by omega⟩ (by show 384 + l.val = 256 * 1 + 128 * 1 + l.val; omega))

theorem key_0_4 (r : Fin 256) (l : Fin 128) :
    (k0_pay180 (k0_pay346 x0 x1 x2 x3 x4 x5 x6 x7 x8 x9 x10 x11 x12 x13 x14 x15) (k0_pay73 (k0_pay361 x0 x1 x2 x3 x4 x5 x6 x7 x8 x9 x10 x11 x12 x13 x14 x15)) (k0_pay123 (k0_pay398 x0 x1 x2 x3 x4 x5 x6 x7 x8 x9 x10 x11 x12 x13 x14 x15) (k0_pay401 x0 x1 x2 x3 x4 x5 x6 x7 x8 x9 x10 x11 x12 x13 x14 x15)) (k0_pay415 x0 x1 x2 x3 x4 x5 x6 x7 x8 x9 x10 x11 x12 x13 x14 x15)) (ix2 r l) = keyBlock x0 x1 x2 x3 x4 x5 x6 x7 x8 x9 x10 x11 x12 x13 x14 x15 ⟨r.val, by omega⟩ ⟨512 + l.val, by omega⟩ := by
  have e : k0_pay180 (k0_pay346 x0 x1 x2 x3 x4 x5 x6 x7 x8 x9 x10 x11 x12 x13 x14 x15) (k0_pay73 (k0_pay361 x0 x1 x2 x3 x4 x5 x6 x7 x8 x9 x10 x11 x12 x13 x14 x15)) (k0_pay123 (k0_pay398 x0 x1 x2 x3 x4 x5 x6 x7 x8 x9 x10 x11 x12 x13 x14 x15) (k0_pay401 x0 x1 x2 x3 x4 x5 x6 x7 x8 x9 x10 x11 x12 x13 x14 x15)) (k0_pay415 x0 x1 x2 x3 x4 x5 x6 x7 x8 x9 x10 x11 x12 x13 x14 x15) = keyFirst (mulK (latOf (View.ld x0 r0_1) (View.ld x1 r0_2) (View.ld x3 r0_4) (View.ld x6 r0_7)) (View.ld x8 r0_13)) (backOf (mulJoint (normOf (View.ld x0 r0_1) (View.ld x1 r0_2)) (View.ld x2 r0_3))) (View.ld x12 r0_0) (View.ld x13 r0_0) (View.ld x14 r0_29) (View.ld x15 r0_29) := by
    dsimp only [k0_pay3, k0_pay5, k0_pay6, k0_pay7, k0_pay8, k0_pay9, k0_pay10, k0_pay12, k0_pay13, k0_pay14, k0_pay15, k0_pay18, k0_pay19, k0_pay20, k0_pay24, k0_pay67, k0_pay68, k0_pay73, k0_pay101, k0_pay102, k0_pay105, k0_pay123, k0_pay152, k0_pay180, k0_pay343, k0_pay344, k0_pay346, k0_pay347, k0_pay348, k0_pay349, k0_pay350, k0_pay352, k0_pay353, k0_pay354, k0_pay356, k0_pay357, k0_pay361, k0_pay395, k0_pay396, k0_pay398, k0_pay401, k0_pay415, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (keyFirst_row (x := View.ld x0 r0_1) (n := View.ld x1 r0_2) (W := View.ld x2 r0_3) (V := View.ld x3 r0_4) (f := View.ld x6 r0_7) (w := View.ld x8 r0_13) (g := View.ld x12 r0_0) (K := View.ld x13 r0_0) (C := View.ld x14 r0_29) (S := View.ld x15 r0_29)
    (fun j => Cert.Tail.ld_rows _ _ r (⟨r.val, by omega⟩ : Fin 512) (by show r.val = 0 + r.val; omega) j) (fun j => ld_whole _ _ 0 j) (fun j k => ld_whole _ _ j k) (fun j k => ld_whole _ _ j k) (fun j => ld_whole _ _ 0 j) (fun j a => ld_cols (o := 512) _ _ j a ⟨256 * 2 + a.val, by omega⟩ (by show 256 * 2 + a.val = 512 + a.val; omega)) (fun j => ld_whole _ _ 0 j) (fun j => ld_whole _ _ 0 j) (fun j => Cert.Tail.ld_rows _ _ r (⟨r.val, by omega⟩ : Fin 512) (by show r.val = 0 + r.val; omega) j) (fun j => Cert.Tail.ld_rows _ _ r (⟨r.val, by omega⟩ : Fin 512) (by show r.val = 0 + r.val; omega) j) l).trans
    (keyRow_at (x := (fun j => x0 (ix2 (⟨r.val, by omega⟩ : Fin 512) j))) (n := (fun j => x1 (ix2 0 j))) (W := (fun j k => x2 (ix2 j k))) (V := (fun j k => x3 (ix2 j k))) (f := (fun j => x6 (ix2 0 j))) (w := (fun j k => x8 (ix2 j k))) (g := (fun j => x12 (ix2 0 j))) (K := (fun j => x13 (ix2 0 j))) (C := (fun j => x14 (ix2 (⟨r.val, by omega⟩ : Fin 512) j))) (S := (fun j => x15 (ix2 (⟨r.val, by omega⟩ : Fin 512) j))) 2 0 l ⟨512 + l.val, by omega⟩ (by show 512 + l.val = 256 * 2 + 128 * 0 + l.val; omega))

theorem key_0_5 (r : Fin 256) (l : Fin 128) :
    (k0_pay182 (k0_pay346 x0 x1 x2 x3 x4 x5 x6 x7 x8 x9 x10 x11 x12 x13 x14 x15) (k0_pay74 (k0_pay361 x0 x1 x2 x3 x4 x5 x6 x7 x8 x9 x10 x11 x12 x13 x14 x15)) (k0_pay124 (k0_pay398 x0 x1 x2 x3 x4 x5 x6 x7 x8 x9 x10 x11 x12 x13 x14 x15) (k0_pay401 x0 x1 x2 x3 x4 x5 x6 x7 x8 x9 x10 x11 x12 x13 x14 x15)) (k0_pay415 x0 x1 x2 x3 x4 x5 x6 x7 x8 x9 x10 x11 x12 x13 x14 x15)) (ix2 r l) = keyBlock x0 x1 x2 x3 x4 x5 x6 x7 x8 x9 x10 x11 x12 x13 x14 x15 ⟨r.val, by omega⟩ ⟨640 + l.val, by omega⟩ := by
  have e : k0_pay182 (k0_pay346 x0 x1 x2 x3 x4 x5 x6 x7 x8 x9 x10 x11 x12 x13 x14 x15) (k0_pay74 (k0_pay361 x0 x1 x2 x3 x4 x5 x6 x7 x8 x9 x10 x11 x12 x13 x14 x15)) (k0_pay124 (k0_pay398 x0 x1 x2 x3 x4 x5 x6 x7 x8 x9 x10 x11 x12 x13 x14 x15) (k0_pay401 x0 x1 x2 x3 x4 x5 x6 x7 x8 x9 x10 x11 x12 x13 x14 x15)) (k0_pay415 x0 x1 x2 x3 x4 x5 x6 x7 x8 x9 x10 x11 x12 x13 x14 x15) = keySecond (mulK (latOf (View.ld x0 r0_1) (View.ld x1 r0_2) (View.ld x3 r0_4) (View.ld x6 r0_7)) (View.ld x8 r0_13)) (backOf (mulJoint (normOf (View.ld x0 r0_1) (View.ld x1 r0_2)) (View.ld x2 r0_3))) (View.ld x12 r0_0) (View.ld x13 r0_0) (View.ld x14 r0_29) (View.ld x15 r0_29) := by
    dsimp only [k0_pay3, k0_pay5, k0_pay6, k0_pay7, k0_pay8, k0_pay9, k0_pay10, k0_pay12, k0_pay13, k0_pay14, k0_pay15, k0_pay18, k0_pay19, k0_pay20, k0_pay24, k0_pay67, k0_pay68, k0_pay74, k0_pay101, k0_pay102, k0_pay105, k0_pay124, k0_pay152, k0_pay182, k0_pay343, k0_pay344, k0_pay346, k0_pay347, k0_pay348, k0_pay349, k0_pay350, k0_pay352, k0_pay353, k0_pay354, k0_pay356, k0_pay357, k0_pay361, k0_pay395, k0_pay396, k0_pay398, k0_pay401, k0_pay415, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (keySecond_row (x := View.ld x0 r0_1) (n := View.ld x1 r0_2) (W := View.ld x2 r0_3) (V := View.ld x3 r0_4) (f := View.ld x6 r0_7) (w := View.ld x8 r0_13) (g := View.ld x12 r0_0) (K := View.ld x13 r0_0) (C := View.ld x14 r0_29) (S := View.ld x15 r0_29)
    (fun j => Cert.Tail.ld_rows _ _ r (⟨r.val, by omega⟩ : Fin 512) (by show r.val = 0 + r.val; omega) j) (fun j => ld_whole _ _ 0 j) (fun j k => ld_whole _ _ j k) (fun j k => ld_whole _ _ j k) (fun j => ld_whole _ _ 0 j) (fun j a => ld_cols (o := 512) _ _ j a ⟨256 * 2 + a.val, by omega⟩ (by show 256 * 2 + a.val = 512 + a.val; omega)) (fun j => ld_whole _ _ 0 j) (fun j => ld_whole _ _ 0 j) (fun j => Cert.Tail.ld_rows _ _ r (⟨r.val, by omega⟩ : Fin 512) (by show r.val = 0 + r.val; omega) j) (fun j => Cert.Tail.ld_rows _ _ r (⟨r.val, by omega⟩ : Fin 512) (by show r.val = 0 + r.val; omega) j) l).trans
    (keyRow_at (x := (fun j => x0 (ix2 (⟨r.val, by omega⟩ : Fin 512) j))) (n := (fun j => x1 (ix2 0 j))) (W := (fun j k => x2 (ix2 j k))) (V := (fun j k => x3 (ix2 j k))) (f := (fun j => x6 (ix2 0 j))) (w := (fun j k => x8 (ix2 j k))) (g := (fun j => x12 (ix2 0 j))) (K := (fun j => x13 (ix2 0 j))) (C := (fun j => x14 (ix2 (⟨r.val, by omega⟩ : Fin 512) j))) (S := (fun j => x15 (ix2 (⟨r.val, by omega⟩ : Fin 512) j))) 2 1 l ⟨640 + l.val, by omega⟩ (by show 640 + l.val = 256 * 2 + 128 * 1 + l.val; omega))

theorem key_0_6 (r : Fin 256) (l : Fin 128) :
    (k0_pay185 (k0_pay346 x0 x1 x2 x3 x4 x5 x6 x7 x8 x9 x10 x11 x12 x13 x14 x15) (k0_pay75 (k0_pay362 x0 x1 x2 x3 x4 x5 x6 x7 x8 x9 x10 x11 x12 x13 x14 x15)) (k0_pay125 (k0_pay398 x0 x1 x2 x3 x4 x5 x6 x7 x8 x9 x10 x11 x12 x13 x14 x15) (k0_pay402 x0 x1 x2 x3 x4 x5 x6 x7 x8 x9 x10 x11 x12 x13 x14 x15)) (k0_pay415 x0 x1 x2 x3 x4 x5 x6 x7 x8 x9 x10 x11 x12 x13 x14 x15)) (ix2 r l) = keyBlock x0 x1 x2 x3 x4 x5 x6 x7 x8 x9 x10 x11 x12 x13 x14 x15 ⟨r.val, by omega⟩ ⟨768 + l.val, by omega⟩ := by
  have e : k0_pay185 (k0_pay346 x0 x1 x2 x3 x4 x5 x6 x7 x8 x9 x10 x11 x12 x13 x14 x15) (k0_pay75 (k0_pay362 x0 x1 x2 x3 x4 x5 x6 x7 x8 x9 x10 x11 x12 x13 x14 x15)) (k0_pay125 (k0_pay398 x0 x1 x2 x3 x4 x5 x6 x7 x8 x9 x10 x11 x12 x13 x14 x15) (k0_pay402 x0 x1 x2 x3 x4 x5 x6 x7 x8 x9 x10 x11 x12 x13 x14 x15)) (k0_pay415 x0 x1 x2 x3 x4 x5 x6 x7 x8 x9 x10 x11 x12 x13 x14 x15) = keyFirst (mulK (latOf (View.ld x0 r0_1) (View.ld x1 r0_2) (View.ld x3 r0_4) (View.ld x6 r0_7)) (View.ld x8 r0_14)) (backOf (mulJoint (normOf (View.ld x0 r0_1) (View.ld x1 r0_2)) (View.ld x2 r0_3))) (View.ld x12 r0_0) (View.ld x13 r0_0) (View.ld x14 r0_29) (View.ld x15 r0_29) := by
    dsimp only [k0_pay3, k0_pay5, k0_pay6, k0_pay7, k0_pay8, k0_pay9, k0_pay10, k0_pay12, k0_pay13, k0_pay14, k0_pay15, k0_pay18, k0_pay19, k0_pay20, k0_pay25, k0_pay67, k0_pay68, k0_pay75, k0_pay101, k0_pay102, k0_pay106, k0_pay125, k0_pay152, k0_pay185, k0_pay343, k0_pay344, k0_pay346, k0_pay347, k0_pay348, k0_pay349, k0_pay350, k0_pay352, k0_pay353, k0_pay354, k0_pay356, k0_pay357, k0_pay362, k0_pay395, k0_pay396, k0_pay398, k0_pay402, k0_pay415, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (keyFirst_row (x := View.ld x0 r0_1) (n := View.ld x1 r0_2) (W := View.ld x2 r0_3) (V := View.ld x3 r0_4) (f := View.ld x6 r0_7) (w := View.ld x8 r0_14) (g := View.ld x12 r0_0) (K := View.ld x13 r0_0) (C := View.ld x14 r0_29) (S := View.ld x15 r0_29)
    (fun j => Cert.Tail.ld_rows _ _ r (⟨r.val, by omega⟩ : Fin 512) (by show r.val = 0 + r.val; omega) j) (fun j => ld_whole _ _ 0 j) (fun j k => ld_whole _ _ j k) (fun j k => ld_whole _ _ j k) (fun j => ld_whole _ _ 0 j) (fun j a => ld_cols (o := 768) _ _ j a ⟨256 * 3 + a.val, by omega⟩ (by show 256 * 3 + a.val = 768 + a.val; omega)) (fun j => ld_whole _ _ 0 j) (fun j => ld_whole _ _ 0 j) (fun j => Cert.Tail.ld_rows _ _ r (⟨r.val, by omega⟩ : Fin 512) (by show r.val = 0 + r.val; omega) j) (fun j => Cert.Tail.ld_rows _ _ r (⟨r.val, by omega⟩ : Fin 512) (by show r.val = 0 + r.val; omega) j) l).trans
    (keyRow_at (x := (fun j => x0 (ix2 (⟨r.val, by omega⟩ : Fin 512) j))) (n := (fun j => x1 (ix2 0 j))) (W := (fun j k => x2 (ix2 j k))) (V := (fun j k => x3 (ix2 j k))) (f := (fun j => x6 (ix2 0 j))) (w := (fun j k => x8 (ix2 j k))) (g := (fun j => x12 (ix2 0 j))) (K := (fun j => x13 (ix2 0 j))) (C := (fun j => x14 (ix2 (⟨r.val, by omega⟩ : Fin 512) j))) (S := (fun j => x15 (ix2 (⟨r.val, by omega⟩ : Fin 512) j))) 3 0 l ⟨768 + l.val, by omega⟩ (by show 768 + l.val = 256 * 3 + 128 * 0 + l.val; omega))

theorem key_0_7 (r : Fin 256) (l : Fin 128) :
    (k0_pay187 (k0_pay346 x0 x1 x2 x3 x4 x5 x6 x7 x8 x9 x10 x11 x12 x13 x14 x15) (k0_pay76 (k0_pay362 x0 x1 x2 x3 x4 x5 x6 x7 x8 x9 x10 x11 x12 x13 x14 x15)) (k0_pay126 (k0_pay398 x0 x1 x2 x3 x4 x5 x6 x7 x8 x9 x10 x11 x12 x13 x14 x15) (k0_pay402 x0 x1 x2 x3 x4 x5 x6 x7 x8 x9 x10 x11 x12 x13 x14 x15)) (k0_pay415 x0 x1 x2 x3 x4 x5 x6 x7 x8 x9 x10 x11 x12 x13 x14 x15)) (ix2 r l) = keyBlock x0 x1 x2 x3 x4 x5 x6 x7 x8 x9 x10 x11 x12 x13 x14 x15 ⟨r.val, by omega⟩ ⟨896 + l.val, by omega⟩ := by
  have e : k0_pay187 (k0_pay346 x0 x1 x2 x3 x4 x5 x6 x7 x8 x9 x10 x11 x12 x13 x14 x15) (k0_pay76 (k0_pay362 x0 x1 x2 x3 x4 x5 x6 x7 x8 x9 x10 x11 x12 x13 x14 x15)) (k0_pay126 (k0_pay398 x0 x1 x2 x3 x4 x5 x6 x7 x8 x9 x10 x11 x12 x13 x14 x15) (k0_pay402 x0 x1 x2 x3 x4 x5 x6 x7 x8 x9 x10 x11 x12 x13 x14 x15)) (k0_pay415 x0 x1 x2 x3 x4 x5 x6 x7 x8 x9 x10 x11 x12 x13 x14 x15) = keySecond (mulK (latOf (View.ld x0 r0_1) (View.ld x1 r0_2) (View.ld x3 r0_4) (View.ld x6 r0_7)) (View.ld x8 r0_14)) (backOf (mulJoint (normOf (View.ld x0 r0_1) (View.ld x1 r0_2)) (View.ld x2 r0_3))) (View.ld x12 r0_0) (View.ld x13 r0_0) (View.ld x14 r0_29) (View.ld x15 r0_29) := by
    dsimp only [k0_pay3, k0_pay5, k0_pay6, k0_pay7, k0_pay8, k0_pay9, k0_pay10, k0_pay12, k0_pay13, k0_pay14, k0_pay15, k0_pay18, k0_pay19, k0_pay20, k0_pay25, k0_pay67, k0_pay68, k0_pay76, k0_pay101, k0_pay102, k0_pay106, k0_pay126, k0_pay152, k0_pay187, k0_pay343, k0_pay344, k0_pay346, k0_pay347, k0_pay348, k0_pay349, k0_pay350, k0_pay352, k0_pay353, k0_pay354, k0_pay356, k0_pay357, k0_pay362, k0_pay395, k0_pay396, k0_pay398, k0_pay402, k0_pay415, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (keySecond_row (x := View.ld x0 r0_1) (n := View.ld x1 r0_2) (W := View.ld x2 r0_3) (V := View.ld x3 r0_4) (f := View.ld x6 r0_7) (w := View.ld x8 r0_14) (g := View.ld x12 r0_0) (K := View.ld x13 r0_0) (C := View.ld x14 r0_29) (S := View.ld x15 r0_29)
    (fun j => Cert.Tail.ld_rows _ _ r (⟨r.val, by omega⟩ : Fin 512) (by show r.val = 0 + r.val; omega) j) (fun j => ld_whole _ _ 0 j) (fun j k => ld_whole _ _ j k) (fun j k => ld_whole _ _ j k) (fun j => ld_whole _ _ 0 j) (fun j a => ld_cols (o := 768) _ _ j a ⟨256 * 3 + a.val, by omega⟩ (by show 256 * 3 + a.val = 768 + a.val; omega)) (fun j => ld_whole _ _ 0 j) (fun j => ld_whole _ _ 0 j) (fun j => Cert.Tail.ld_rows _ _ r (⟨r.val, by omega⟩ : Fin 512) (by show r.val = 0 + r.val; omega) j) (fun j => Cert.Tail.ld_rows _ _ r (⟨r.val, by omega⟩ : Fin 512) (by show r.val = 0 + r.val; omega) j) l).trans
    (keyRow_at (x := (fun j => x0 (ix2 (⟨r.val, by omega⟩ : Fin 512) j))) (n := (fun j => x1 (ix2 0 j))) (W := (fun j k => x2 (ix2 j k))) (V := (fun j k => x3 (ix2 j k))) (f := (fun j => x6 (ix2 0 j))) (w := (fun j k => x8 (ix2 j k))) (g := (fun j => x12 (ix2 0 j))) (K := (fun j => x13 (ix2 0 j))) (C := (fun j => x14 (ix2 (⟨r.val, by omega⟩ : Fin 512) j))) (S := (fun j => x15 (ix2 (⟨r.val, by omega⟩ : Fin 512) j))) 3 1 l ⟨896 + l.val, by omega⟩ (by show 896 + l.val = 256 * 3 + 128 * 1 + l.val; omega))

theorem key_0_8 (r : Fin 256) (l : Fin 128) :
    (k0_pay189 (k0_pay346 x0 x1 x2 x3 x4 x5 x6 x7 x8 x9 x10 x11 x12 x13 x14 x15) (k0_pay77 (k0_pay363 x0 x1 x2 x3 x4 x5 x6 x7 x8 x9 x10 x11 x12 x13 x14 x15)) (k0_pay127 (k0_pay398 x0 x1 x2 x3 x4 x5 x6 x7 x8 x9 x10 x11 x12 x13 x14 x15) (k0_pay403 x0 x1 x2 x3 x4 x5 x6 x7 x8 x9 x10 x11 x12 x13 x14 x15)) (k0_pay415 x0 x1 x2 x3 x4 x5 x6 x7 x8 x9 x10 x11 x12 x13 x14 x15)) (ix2 r l) = keyBlock x0 x1 x2 x3 x4 x5 x6 x7 x8 x9 x10 x11 x12 x13 x14 x15 ⟨r.val, by omega⟩ ⟨1024 + l.val, by omega⟩ := by
  have e : k0_pay189 (k0_pay346 x0 x1 x2 x3 x4 x5 x6 x7 x8 x9 x10 x11 x12 x13 x14 x15) (k0_pay77 (k0_pay363 x0 x1 x2 x3 x4 x5 x6 x7 x8 x9 x10 x11 x12 x13 x14 x15)) (k0_pay127 (k0_pay398 x0 x1 x2 x3 x4 x5 x6 x7 x8 x9 x10 x11 x12 x13 x14 x15) (k0_pay403 x0 x1 x2 x3 x4 x5 x6 x7 x8 x9 x10 x11 x12 x13 x14 x15)) (k0_pay415 x0 x1 x2 x3 x4 x5 x6 x7 x8 x9 x10 x11 x12 x13 x14 x15) = keyFirst (mulK (latOf (View.ld x0 r0_1) (View.ld x1 r0_2) (View.ld x3 r0_4) (View.ld x6 r0_7)) (View.ld x8 r0_15)) (backOf (mulJoint (normOf (View.ld x0 r0_1) (View.ld x1 r0_2)) (View.ld x2 r0_3))) (View.ld x12 r0_0) (View.ld x13 r0_0) (View.ld x14 r0_29) (View.ld x15 r0_29) := by
    dsimp only [k0_pay3, k0_pay5, k0_pay6, k0_pay7, k0_pay8, k0_pay9, k0_pay10, k0_pay12, k0_pay13, k0_pay14, k0_pay15, k0_pay18, k0_pay19, k0_pay20, k0_pay26, k0_pay67, k0_pay68, k0_pay77, k0_pay101, k0_pay102, k0_pay107, k0_pay127, k0_pay152, k0_pay189, k0_pay343, k0_pay344, k0_pay346, k0_pay347, k0_pay348, k0_pay349, k0_pay350, k0_pay352, k0_pay353, k0_pay354, k0_pay356, k0_pay357, k0_pay363, k0_pay395, k0_pay396, k0_pay398, k0_pay403, k0_pay415, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (keyFirst_row (x := View.ld x0 r0_1) (n := View.ld x1 r0_2) (W := View.ld x2 r0_3) (V := View.ld x3 r0_4) (f := View.ld x6 r0_7) (w := View.ld x8 r0_15) (g := View.ld x12 r0_0) (K := View.ld x13 r0_0) (C := View.ld x14 r0_29) (S := View.ld x15 r0_29)
    (fun j => Cert.Tail.ld_rows _ _ r (⟨r.val, by omega⟩ : Fin 512) (by show r.val = 0 + r.val; omega) j) (fun j => ld_whole _ _ 0 j) (fun j k => ld_whole _ _ j k) (fun j k => ld_whole _ _ j k) (fun j => ld_whole _ _ 0 j) (fun j a => ld_cols (o := 1024) _ _ j a ⟨256 * 4 + a.val, by omega⟩ (by show 256 * 4 + a.val = 1024 + a.val; omega)) (fun j => ld_whole _ _ 0 j) (fun j => ld_whole _ _ 0 j) (fun j => Cert.Tail.ld_rows _ _ r (⟨r.val, by omega⟩ : Fin 512) (by show r.val = 0 + r.val; omega) j) (fun j => Cert.Tail.ld_rows _ _ r (⟨r.val, by omega⟩ : Fin 512) (by show r.val = 0 + r.val; omega) j) l).trans
    (keyRow_at (x := (fun j => x0 (ix2 (⟨r.val, by omega⟩ : Fin 512) j))) (n := (fun j => x1 (ix2 0 j))) (W := (fun j k => x2 (ix2 j k))) (V := (fun j k => x3 (ix2 j k))) (f := (fun j => x6 (ix2 0 j))) (w := (fun j k => x8 (ix2 j k))) (g := (fun j => x12 (ix2 0 j))) (K := (fun j => x13 (ix2 0 j))) (C := (fun j => x14 (ix2 (⟨r.val, by omega⟩ : Fin 512) j))) (S := (fun j => x15 (ix2 (⟨r.val, by omega⟩ : Fin 512) j))) 4 0 l ⟨1024 + l.val, by omega⟩ (by show 1024 + l.val = 256 * 4 + 128 * 0 + l.val; omega))

theorem key_0_9 (r : Fin 256) (l : Fin 128) :
    (k0_pay191 (k0_pay346 x0 x1 x2 x3 x4 x5 x6 x7 x8 x9 x10 x11 x12 x13 x14 x15) (k0_pay78 (k0_pay363 x0 x1 x2 x3 x4 x5 x6 x7 x8 x9 x10 x11 x12 x13 x14 x15)) (k0_pay128 (k0_pay398 x0 x1 x2 x3 x4 x5 x6 x7 x8 x9 x10 x11 x12 x13 x14 x15) (k0_pay403 x0 x1 x2 x3 x4 x5 x6 x7 x8 x9 x10 x11 x12 x13 x14 x15)) (k0_pay415 x0 x1 x2 x3 x4 x5 x6 x7 x8 x9 x10 x11 x12 x13 x14 x15)) (ix2 r l) = keyBlock x0 x1 x2 x3 x4 x5 x6 x7 x8 x9 x10 x11 x12 x13 x14 x15 ⟨r.val, by omega⟩ ⟨1152 + l.val, by omega⟩ := by
  have e : k0_pay191 (k0_pay346 x0 x1 x2 x3 x4 x5 x6 x7 x8 x9 x10 x11 x12 x13 x14 x15) (k0_pay78 (k0_pay363 x0 x1 x2 x3 x4 x5 x6 x7 x8 x9 x10 x11 x12 x13 x14 x15)) (k0_pay128 (k0_pay398 x0 x1 x2 x3 x4 x5 x6 x7 x8 x9 x10 x11 x12 x13 x14 x15) (k0_pay403 x0 x1 x2 x3 x4 x5 x6 x7 x8 x9 x10 x11 x12 x13 x14 x15)) (k0_pay415 x0 x1 x2 x3 x4 x5 x6 x7 x8 x9 x10 x11 x12 x13 x14 x15) = keySecond (mulK (latOf (View.ld x0 r0_1) (View.ld x1 r0_2) (View.ld x3 r0_4) (View.ld x6 r0_7)) (View.ld x8 r0_15)) (backOf (mulJoint (normOf (View.ld x0 r0_1) (View.ld x1 r0_2)) (View.ld x2 r0_3))) (View.ld x12 r0_0) (View.ld x13 r0_0) (View.ld x14 r0_29) (View.ld x15 r0_29) := by
    dsimp only [k0_pay3, k0_pay5, k0_pay6, k0_pay7, k0_pay8, k0_pay9, k0_pay10, k0_pay12, k0_pay13, k0_pay14, k0_pay15, k0_pay18, k0_pay19, k0_pay20, k0_pay26, k0_pay67, k0_pay68, k0_pay78, k0_pay101, k0_pay102, k0_pay107, k0_pay128, k0_pay152, k0_pay191, k0_pay343, k0_pay344, k0_pay346, k0_pay347, k0_pay348, k0_pay349, k0_pay350, k0_pay352, k0_pay353, k0_pay354, k0_pay356, k0_pay357, k0_pay363, k0_pay395, k0_pay396, k0_pay398, k0_pay403, k0_pay415, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (keySecond_row (x := View.ld x0 r0_1) (n := View.ld x1 r0_2) (W := View.ld x2 r0_3) (V := View.ld x3 r0_4) (f := View.ld x6 r0_7) (w := View.ld x8 r0_15) (g := View.ld x12 r0_0) (K := View.ld x13 r0_0) (C := View.ld x14 r0_29) (S := View.ld x15 r0_29)
    (fun j => Cert.Tail.ld_rows _ _ r (⟨r.val, by omega⟩ : Fin 512) (by show r.val = 0 + r.val; omega) j) (fun j => ld_whole _ _ 0 j) (fun j k => ld_whole _ _ j k) (fun j k => ld_whole _ _ j k) (fun j => ld_whole _ _ 0 j) (fun j a => ld_cols (o := 1024) _ _ j a ⟨256 * 4 + a.val, by omega⟩ (by show 256 * 4 + a.val = 1024 + a.val; omega)) (fun j => ld_whole _ _ 0 j) (fun j => ld_whole _ _ 0 j) (fun j => Cert.Tail.ld_rows _ _ r (⟨r.val, by omega⟩ : Fin 512) (by show r.val = 0 + r.val; omega) j) (fun j => Cert.Tail.ld_rows _ _ r (⟨r.val, by omega⟩ : Fin 512) (by show r.val = 0 + r.val; omega) j) l).trans
    (keyRow_at (x := (fun j => x0 (ix2 (⟨r.val, by omega⟩ : Fin 512) j))) (n := (fun j => x1 (ix2 0 j))) (W := (fun j k => x2 (ix2 j k))) (V := (fun j k => x3 (ix2 j k))) (f := (fun j => x6 (ix2 0 j))) (w := (fun j k => x8 (ix2 j k))) (g := (fun j => x12 (ix2 0 j))) (K := (fun j => x13 (ix2 0 j))) (C := (fun j => x14 (ix2 (⟨r.val, by omega⟩ : Fin 512) j))) (S := (fun j => x15 (ix2 (⟨r.val, by omega⟩ : Fin 512) j))) 4 1 l ⟨1152 + l.val, by omega⟩ (by show 1152 + l.val = 256 * 4 + 128 * 1 + l.val; omega))

theorem key_0_10 (r : Fin 256) (l : Fin 128) :
    (k0_pay194 (k0_pay346 x0 x1 x2 x3 x4 x5 x6 x7 x8 x9 x10 x11 x12 x13 x14 x15) (k0_pay79 (k0_pay364 x0 x1 x2 x3 x4 x5 x6 x7 x8 x9 x10 x11 x12 x13 x14 x15)) (k0_pay129 (k0_pay398 x0 x1 x2 x3 x4 x5 x6 x7 x8 x9 x10 x11 x12 x13 x14 x15) (k0_pay404 x0 x1 x2 x3 x4 x5 x6 x7 x8 x9 x10 x11 x12 x13 x14 x15)) (k0_pay415 x0 x1 x2 x3 x4 x5 x6 x7 x8 x9 x10 x11 x12 x13 x14 x15)) (ix2 r l) = keyBlock x0 x1 x2 x3 x4 x5 x6 x7 x8 x9 x10 x11 x12 x13 x14 x15 ⟨r.val, by omega⟩ ⟨1280 + l.val, by omega⟩ := by
  have e : k0_pay194 (k0_pay346 x0 x1 x2 x3 x4 x5 x6 x7 x8 x9 x10 x11 x12 x13 x14 x15) (k0_pay79 (k0_pay364 x0 x1 x2 x3 x4 x5 x6 x7 x8 x9 x10 x11 x12 x13 x14 x15)) (k0_pay129 (k0_pay398 x0 x1 x2 x3 x4 x5 x6 x7 x8 x9 x10 x11 x12 x13 x14 x15) (k0_pay404 x0 x1 x2 x3 x4 x5 x6 x7 x8 x9 x10 x11 x12 x13 x14 x15)) (k0_pay415 x0 x1 x2 x3 x4 x5 x6 x7 x8 x9 x10 x11 x12 x13 x14 x15) = keyFirst (mulK (latOf (View.ld x0 r0_1) (View.ld x1 r0_2) (View.ld x3 r0_4) (View.ld x6 r0_7)) (View.ld x8 r0_16)) (backOf (mulJoint (normOf (View.ld x0 r0_1) (View.ld x1 r0_2)) (View.ld x2 r0_3))) (View.ld x12 r0_0) (View.ld x13 r0_0) (View.ld x14 r0_29) (View.ld x15 r0_29) := by
    dsimp only [k0_pay3, k0_pay5, k0_pay6, k0_pay7, k0_pay8, k0_pay9, k0_pay10, k0_pay12, k0_pay13, k0_pay14, k0_pay15, k0_pay18, k0_pay19, k0_pay20, k0_pay27, k0_pay67, k0_pay68, k0_pay79, k0_pay101, k0_pay102, k0_pay108, k0_pay129, k0_pay152, k0_pay194, k0_pay343, k0_pay344, k0_pay346, k0_pay347, k0_pay348, k0_pay349, k0_pay350, k0_pay352, k0_pay353, k0_pay354, k0_pay356, k0_pay357, k0_pay364, k0_pay395, k0_pay396, k0_pay398, k0_pay404, k0_pay415, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (keyFirst_row (x := View.ld x0 r0_1) (n := View.ld x1 r0_2) (W := View.ld x2 r0_3) (V := View.ld x3 r0_4) (f := View.ld x6 r0_7) (w := View.ld x8 r0_16) (g := View.ld x12 r0_0) (K := View.ld x13 r0_0) (C := View.ld x14 r0_29) (S := View.ld x15 r0_29)
    (fun j => Cert.Tail.ld_rows _ _ r (⟨r.val, by omega⟩ : Fin 512) (by show r.val = 0 + r.val; omega) j) (fun j => ld_whole _ _ 0 j) (fun j k => ld_whole _ _ j k) (fun j k => ld_whole _ _ j k) (fun j => ld_whole _ _ 0 j) (fun j a => ld_cols (o := 1280) _ _ j a ⟨256 * 5 + a.val, by omega⟩ (by show 256 * 5 + a.val = 1280 + a.val; omega)) (fun j => ld_whole _ _ 0 j) (fun j => ld_whole _ _ 0 j) (fun j => Cert.Tail.ld_rows _ _ r (⟨r.val, by omega⟩ : Fin 512) (by show r.val = 0 + r.val; omega) j) (fun j => Cert.Tail.ld_rows _ _ r (⟨r.val, by omega⟩ : Fin 512) (by show r.val = 0 + r.val; omega) j) l).trans
    (keyRow_at (x := (fun j => x0 (ix2 (⟨r.val, by omega⟩ : Fin 512) j))) (n := (fun j => x1 (ix2 0 j))) (W := (fun j k => x2 (ix2 j k))) (V := (fun j k => x3 (ix2 j k))) (f := (fun j => x6 (ix2 0 j))) (w := (fun j k => x8 (ix2 j k))) (g := (fun j => x12 (ix2 0 j))) (K := (fun j => x13 (ix2 0 j))) (C := (fun j => x14 (ix2 (⟨r.val, by omega⟩ : Fin 512) j))) (S := (fun j => x15 (ix2 (⟨r.val, by omega⟩ : Fin 512) j))) 5 0 l ⟨1280 + l.val, by omega⟩ (by show 1280 + l.val = 256 * 5 + 128 * 0 + l.val; omega))

theorem key_0_11 (r : Fin 256) (l : Fin 128) :
    (k0_pay196 (k0_pay346 x0 x1 x2 x3 x4 x5 x6 x7 x8 x9 x10 x11 x12 x13 x14 x15) (k0_pay80 (k0_pay364 x0 x1 x2 x3 x4 x5 x6 x7 x8 x9 x10 x11 x12 x13 x14 x15)) (k0_pay130 (k0_pay398 x0 x1 x2 x3 x4 x5 x6 x7 x8 x9 x10 x11 x12 x13 x14 x15) (k0_pay404 x0 x1 x2 x3 x4 x5 x6 x7 x8 x9 x10 x11 x12 x13 x14 x15)) (k0_pay415 x0 x1 x2 x3 x4 x5 x6 x7 x8 x9 x10 x11 x12 x13 x14 x15)) (ix2 r l) = keyBlock x0 x1 x2 x3 x4 x5 x6 x7 x8 x9 x10 x11 x12 x13 x14 x15 ⟨r.val, by omega⟩ ⟨1408 + l.val, by omega⟩ := by
  have e : k0_pay196 (k0_pay346 x0 x1 x2 x3 x4 x5 x6 x7 x8 x9 x10 x11 x12 x13 x14 x15) (k0_pay80 (k0_pay364 x0 x1 x2 x3 x4 x5 x6 x7 x8 x9 x10 x11 x12 x13 x14 x15)) (k0_pay130 (k0_pay398 x0 x1 x2 x3 x4 x5 x6 x7 x8 x9 x10 x11 x12 x13 x14 x15) (k0_pay404 x0 x1 x2 x3 x4 x5 x6 x7 x8 x9 x10 x11 x12 x13 x14 x15)) (k0_pay415 x0 x1 x2 x3 x4 x5 x6 x7 x8 x9 x10 x11 x12 x13 x14 x15) = keySecond (mulK (latOf (View.ld x0 r0_1) (View.ld x1 r0_2) (View.ld x3 r0_4) (View.ld x6 r0_7)) (View.ld x8 r0_16)) (backOf (mulJoint (normOf (View.ld x0 r0_1) (View.ld x1 r0_2)) (View.ld x2 r0_3))) (View.ld x12 r0_0) (View.ld x13 r0_0) (View.ld x14 r0_29) (View.ld x15 r0_29) := by
    dsimp only [k0_pay3, k0_pay5, k0_pay6, k0_pay7, k0_pay8, k0_pay9, k0_pay10, k0_pay12, k0_pay13, k0_pay14, k0_pay15, k0_pay18, k0_pay19, k0_pay20, k0_pay27, k0_pay67, k0_pay68, k0_pay80, k0_pay101, k0_pay102, k0_pay108, k0_pay130, k0_pay152, k0_pay196, k0_pay343, k0_pay344, k0_pay346, k0_pay347, k0_pay348, k0_pay349, k0_pay350, k0_pay352, k0_pay353, k0_pay354, k0_pay356, k0_pay357, k0_pay364, k0_pay395, k0_pay396, k0_pay398, k0_pay404, k0_pay415, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (keySecond_row (x := View.ld x0 r0_1) (n := View.ld x1 r0_2) (W := View.ld x2 r0_3) (V := View.ld x3 r0_4) (f := View.ld x6 r0_7) (w := View.ld x8 r0_16) (g := View.ld x12 r0_0) (K := View.ld x13 r0_0) (C := View.ld x14 r0_29) (S := View.ld x15 r0_29)
    (fun j => Cert.Tail.ld_rows _ _ r (⟨r.val, by omega⟩ : Fin 512) (by show r.val = 0 + r.val; omega) j) (fun j => ld_whole _ _ 0 j) (fun j k => ld_whole _ _ j k) (fun j k => ld_whole _ _ j k) (fun j => ld_whole _ _ 0 j) (fun j a => ld_cols (o := 1280) _ _ j a ⟨256 * 5 + a.val, by omega⟩ (by show 256 * 5 + a.val = 1280 + a.val; omega)) (fun j => ld_whole _ _ 0 j) (fun j => ld_whole _ _ 0 j) (fun j => Cert.Tail.ld_rows _ _ r (⟨r.val, by omega⟩ : Fin 512) (by show r.val = 0 + r.val; omega) j) (fun j => Cert.Tail.ld_rows _ _ r (⟨r.val, by omega⟩ : Fin 512) (by show r.val = 0 + r.val; omega) j) l).trans
    (keyRow_at (x := (fun j => x0 (ix2 (⟨r.val, by omega⟩ : Fin 512) j))) (n := (fun j => x1 (ix2 0 j))) (W := (fun j k => x2 (ix2 j k))) (V := (fun j k => x3 (ix2 j k))) (f := (fun j => x6 (ix2 0 j))) (w := (fun j k => x8 (ix2 j k))) (g := (fun j => x12 (ix2 0 j))) (K := (fun j => x13 (ix2 0 j))) (C := (fun j => x14 (ix2 (⟨r.val, by omega⟩ : Fin 512) j))) (S := (fun j => x15 (ix2 (⟨r.val, by omega⟩ : Fin 512) j))) 5 1 l ⟨1408 + l.val, by omega⟩ (by show 1408 + l.val = 256 * 5 + 128 * 1 + l.val; omega))

theorem key_0_12 (r : Fin 256) (l : Fin 128) :
    (k0_pay198 (k0_pay346 x0 x1 x2 x3 x4 x5 x6 x7 x8 x9 x10 x11 x12 x13 x14 x15) (k0_pay81 (k0_pay365 x0 x1 x2 x3 x4 x5 x6 x7 x8 x9 x10 x11 x12 x13 x14 x15)) (k0_pay131 (k0_pay398 x0 x1 x2 x3 x4 x5 x6 x7 x8 x9 x10 x11 x12 x13 x14 x15) (k0_pay405 x0 x1 x2 x3 x4 x5 x6 x7 x8 x9 x10 x11 x12 x13 x14 x15)) (k0_pay415 x0 x1 x2 x3 x4 x5 x6 x7 x8 x9 x10 x11 x12 x13 x14 x15)) (ix2 r l) = keyBlock x0 x1 x2 x3 x4 x5 x6 x7 x8 x9 x10 x11 x12 x13 x14 x15 ⟨r.val, by omega⟩ ⟨1536 + l.val, by omega⟩ := by
  have e : k0_pay198 (k0_pay346 x0 x1 x2 x3 x4 x5 x6 x7 x8 x9 x10 x11 x12 x13 x14 x15) (k0_pay81 (k0_pay365 x0 x1 x2 x3 x4 x5 x6 x7 x8 x9 x10 x11 x12 x13 x14 x15)) (k0_pay131 (k0_pay398 x0 x1 x2 x3 x4 x5 x6 x7 x8 x9 x10 x11 x12 x13 x14 x15) (k0_pay405 x0 x1 x2 x3 x4 x5 x6 x7 x8 x9 x10 x11 x12 x13 x14 x15)) (k0_pay415 x0 x1 x2 x3 x4 x5 x6 x7 x8 x9 x10 x11 x12 x13 x14 x15) = keyFirst (mulK (latOf (View.ld x0 r0_1) (View.ld x1 r0_2) (View.ld x3 r0_4) (View.ld x6 r0_7)) (View.ld x8 r0_17)) (backOf (mulJoint (normOf (View.ld x0 r0_1) (View.ld x1 r0_2)) (View.ld x2 r0_3))) (View.ld x12 r0_0) (View.ld x13 r0_0) (View.ld x14 r0_29) (View.ld x15 r0_29) := by
    dsimp only [k0_pay3, k0_pay5, k0_pay6, k0_pay7, k0_pay8, k0_pay9, k0_pay10, k0_pay12, k0_pay13, k0_pay14, k0_pay15, k0_pay18, k0_pay19, k0_pay20, k0_pay28, k0_pay67, k0_pay68, k0_pay81, k0_pay101, k0_pay102, k0_pay109, k0_pay131, k0_pay152, k0_pay198, k0_pay343, k0_pay344, k0_pay346, k0_pay347, k0_pay348, k0_pay349, k0_pay350, k0_pay352, k0_pay353, k0_pay354, k0_pay356, k0_pay357, k0_pay358, k0_pay365, k0_pay395, k0_pay396, k0_pay398, k0_pay405, k0_pay415, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (keyFirst_row (x := View.ld x0 r0_1) (n := View.ld x1 r0_2) (W := View.ld x2 r0_3) (V := View.ld x3 r0_4) (f := View.ld x6 r0_7) (w := View.ld x8 r0_17) (g := View.ld x12 r0_0) (K := View.ld x13 r0_0) (C := View.ld x14 r0_29) (S := View.ld x15 r0_29)
    (fun j => Cert.Tail.ld_rows _ _ r (⟨r.val, by omega⟩ : Fin 512) (by show r.val = 0 + r.val; omega) j) (fun j => ld_whole _ _ 0 j) (fun j k => ld_whole _ _ j k) (fun j k => ld_whole _ _ j k) (fun j => ld_whole _ _ 0 j) (fun j a => ld_cols (o := 1536) _ _ j a ⟨256 * 6 + a.val, by omega⟩ (by show 256 * 6 + a.val = 1536 + a.val; omega)) (fun j => ld_whole _ _ 0 j) (fun j => ld_whole _ _ 0 j) (fun j => Cert.Tail.ld_rows _ _ r (⟨r.val, by omega⟩ : Fin 512) (by show r.val = 0 + r.val; omega) j) (fun j => Cert.Tail.ld_rows _ _ r (⟨r.val, by omega⟩ : Fin 512) (by show r.val = 0 + r.val; omega) j) l).trans
    (keyRow_at (x := (fun j => x0 (ix2 (⟨r.val, by omega⟩ : Fin 512) j))) (n := (fun j => x1 (ix2 0 j))) (W := (fun j k => x2 (ix2 j k))) (V := (fun j k => x3 (ix2 j k))) (f := (fun j => x6 (ix2 0 j))) (w := (fun j k => x8 (ix2 j k))) (g := (fun j => x12 (ix2 0 j))) (K := (fun j => x13 (ix2 0 j))) (C := (fun j => x14 (ix2 (⟨r.val, by omega⟩ : Fin 512) j))) (S := (fun j => x15 (ix2 (⟨r.val, by omega⟩ : Fin 512) j))) 6 0 l ⟨1536 + l.val, by omega⟩ (by show 1536 + l.val = 256 * 6 + 128 * 0 + l.val; omega))

theorem key_0_13 (r : Fin 256) (l : Fin 128) :
    (k0_pay200 (k0_pay346 x0 x1 x2 x3 x4 x5 x6 x7 x8 x9 x10 x11 x12 x13 x14 x15) (k0_pay82 (k0_pay365 x0 x1 x2 x3 x4 x5 x6 x7 x8 x9 x10 x11 x12 x13 x14 x15)) (k0_pay132 (k0_pay398 x0 x1 x2 x3 x4 x5 x6 x7 x8 x9 x10 x11 x12 x13 x14 x15) (k0_pay405 x0 x1 x2 x3 x4 x5 x6 x7 x8 x9 x10 x11 x12 x13 x14 x15)) (k0_pay415 x0 x1 x2 x3 x4 x5 x6 x7 x8 x9 x10 x11 x12 x13 x14 x15)) (ix2 r l) = keyBlock x0 x1 x2 x3 x4 x5 x6 x7 x8 x9 x10 x11 x12 x13 x14 x15 ⟨r.val, by omega⟩ ⟨1664 + l.val, by omega⟩ := by
  have e : k0_pay200 (k0_pay346 x0 x1 x2 x3 x4 x5 x6 x7 x8 x9 x10 x11 x12 x13 x14 x15) (k0_pay82 (k0_pay365 x0 x1 x2 x3 x4 x5 x6 x7 x8 x9 x10 x11 x12 x13 x14 x15)) (k0_pay132 (k0_pay398 x0 x1 x2 x3 x4 x5 x6 x7 x8 x9 x10 x11 x12 x13 x14 x15) (k0_pay405 x0 x1 x2 x3 x4 x5 x6 x7 x8 x9 x10 x11 x12 x13 x14 x15)) (k0_pay415 x0 x1 x2 x3 x4 x5 x6 x7 x8 x9 x10 x11 x12 x13 x14 x15) = keySecond (mulK (latOf (View.ld x0 r0_1) (View.ld x1 r0_2) (View.ld x3 r0_4) (View.ld x6 r0_7)) (View.ld x8 r0_17)) (backOf (mulJoint (normOf (View.ld x0 r0_1) (View.ld x1 r0_2)) (View.ld x2 r0_3))) (View.ld x12 r0_0) (View.ld x13 r0_0) (View.ld x14 r0_29) (View.ld x15 r0_29) := by
    dsimp only [k0_pay3, k0_pay5, k0_pay6, k0_pay7, k0_pay8, k0_pay9, k0_pay10, k0_pay12, k0_pay13, k0_pay14, k0_pay15, k0_pay18, k0_pay19, k0_pay20, k0_pay28, k0_pay67, k0_pay68, k0_pay82, k0_pay101, k0_pay102, k0_pay109, k0_pay132, k0_pay152, k0_pay200, k0_pay343, k0_pay344, k0_pay346, k0_pay347, k0_pay348, k0_pay349, k0_pay350, k0_pay352, k0_pay353, k0_pay354, k0_pay356, k0_pay357, k0_pay358, k0_pay365, k0_pay395, k0_pay396, k0_pay398, k0_pay405, k0_pay415, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (keySecond_row (x := View.ld x0 r0_1) (n := View.ld x1 r0_2) (W := View.ld x2 r0_3) (V := View.ld x3 r0_4) (f := View.ld x6 r0_7) (w := View.ld x8 r0_17) (g := View.ld x12 r0_0) (K := View.ld x13 r0_0) (C := View.ld x14 r0_29) (S := View.ld x15 r0_29)
    (fun j => Cert.Tail.ld_rows _ _ r (⟨r.val, by omega⟩ : Fin 512) (by show r.val = 0 + r.val; omega) j) (fun j => ld_whole _ _ 0 j) (fun j k => ld_whole _ _ j k) (fun j k => ld_whole _ _ j k) (fun j => ld_whole _ _ 0 j) (fun j a => ld_cols (o := 1536) _ _ j a ⟨256 * 6 + a.val, by omega⟩ (by show 256 * 6 + a.val = 1536 + a.val; omega)) (fun j => ld_whole _ _ 0 j) (fun j => ld_whole _ _ 0 j) (fun j => Cert.Tail.ld_rows _ _ r (⟨r.val, by omega⟩ : Fin 512) (by show r.val = 0 + r.val; omega) j) (fun j => Cert.Tail.ld_rows _ _ r (⟨r.val, by omega⟩ : Fin 512) (by show r.val = 0 + r.val; omega) j) l).trans
    (keyRow_at (x := (fun j => x0 (ix2 (⟨r.val, by omega⟩ : Fin 512) j))) (n := (fun j => x1 (ix2 0 j))) (W := (fun j k => x2 (ix2 j k))) (V := (fun j k => x3 (ix2 j k))) (f := (fun j => x6 (ix2 0 j))) (w := (fun j k => x8 (ix2 j k))) (g := (fun j => x12 (ix2 0 j))) (K := (fun j => x13 (ix2 0 j))) (C := (fun j => x14 (ix2 (⟨r.val, by omega⟩ : Fin 512) j))) (S := (fun j => x15 (ix2 (⟨r.val, by omega⟩ : Fin 512) j))) 6 1 l ⟨1664 + l.val, by omega⟩ (by show 1664 + l.val = 256 * 6 + 128 * 1 + l.val; omega))

theorem key_0_14 (r : Fin 256) (l : Fin 128) :
    (k0_pay203 (k0_pay346 x0 x1 x2 x3 x4 x5 x6 x7 x8 x9 x10 x11 x12 x13 x14 x15) (k0_pay83 (k0_pay366 x0 x1 x2 x3 x4 x5 x6 x7 x8 x9 x10 x11 x12 x13 x14 x15)) (k0_pay133 (k0_pay398 x0 x1 x2 x3 x4 x5 x6 x7 x8 x9 x10 x11 x12 x13 x14 x15) (k0_pay406 x0 x1 x2 x3 x4 x5 x6 x7 x8 x9 x10 x11 x12 x13 x14 x15)) (k0_pay415 x0 x1 x2 x3 x4 x5 x6 x7 x8 x9 x10 x11 x12 x13 x14 x15)) (ix2 r l) = keyBlock x0 x1 x2 x3 x4 x5 x6 x7 x8 x9 x10 x11 x12 x13 x14 x15 ⟨r.val, by omega⟩ ⟨1792 + l.val, by omega⟩ := by
  have e : k0_pay203 (k0_pay346 x0 x1 x2 x3 x4 x5 x6 x7 x8 x9 x10 x11 x12 x13 x14 x15) (k0_pay83 (k0_pay366 x0 x1 x2 x3 x4 x5 x6 x7 x8 x9 x10 x11 x12 x13 x14 x15)) (k0_pay133 (k0_pay398 x0 x1 x2 x3 x4 x5 x6 x7 x8 x9 x10 x11 x12 x13 x14 x15) (k0_pay406 x0 x1 x2 x3 x4 x5 x6 x7 x8 x9 x10 x11 x12 x13 x14 x15)) (k0_pay415 x0 x1 x2 x3 x4 x5 x6 x7 x8 x9 x10 x11 x12 x13 x14 x15) = keyFirst (mulK (latOf (View.ld x0 r0_1) (View.ld x1 r0_2) (View.ld x3 r0_4) (View.ld x6 r0_7)) (View.ld x8 r0_18)) (backOf (mulJoint (normOf (View.ld x0 r0_1) (View.ld x1 r0_2)) (View.ld x2 r0_3))) (View.ld x12 r0_0) (View.ld x13 r0_0) (View.ld x14 r0_29) (View.ld x15 r0_29) := by
    dsimp only [k0_pay3, k0_pay5, k0_pay6, k0_pay7, k0_pay8, k0_pay9, k0_pay10, k0_pay12, k0_pay13, k0_pay14, k0_pay15, k0_pay18, k0_pay19, k0_pay20, k0_pay29, k0_pay67, k0_pay68, k0_pay83, k0_pay101, k0_pay102, k0_pay110, k0_pay133, k0_pay152, k0_pay203, k0_pay343, k0_pay344, k0_pay346, k0_pay347, k0_pay348, k0_pay349, k0_pay350, k0_pay352, k0_pay353, k0_pay354, k0_pay356, k0_pay357, k0_pay358, k0_pay366, k0_pay395, k0_pay396, k0_pay398, k0_pay406, k0_pay415, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (keyFirst_row (x := View.ld x0 r0_1) (n := View.ld x1 r0_2) (W := View.ld x2 r0_3) (V := View.ld x3 r0_4) (f := View.ld x6 r0_7) (w := View.ld x8 r0_18) (g := View.ld x12 r0_0) (K := View.ld x13 r0_0) (C := View.ld x14 r0_29) (S := View.ld x15 r0_29)
    (fun j => Cert.Tail.ld_rows _ _ r (⟨r.val, by omega⟩ : Fin 512) (by show r.val = 0 + r.val; omega) j) (fun j => ld_whole _ _ 0 j) (fun j k => ld_whole _ _ j k) (fun j k => ld_whole _ _ j k) (fun j => ld_whole _ _ 0 j) (fun j a => ld_cols (o := 1792) _ _ j a ⟨256 * 7 + a.val, by omega⟩ (by show 256 * 7 + a.val = 1792 + a.val; omega)) (fun j => ld_whole _ _ 0 j) (fun j => ld_whole _ _ 0 j) (fun j => Cert.Tail.ld_rows _ _ r (⟨r.val, by omega⟩ : Fin 512) (by show r.val = 0 + r.val; omega) j) (fun j => Cert.Tail.ld_rows _ _ r (⟨r.val, by omega⟩ : Fin 512) (by show r.val = 0 + r.val; omega) j) l).trans
    (keyRow_at (x := (fun j => x0 (ix2 (⟨r.val, by omega⟩ : Fin 512) j))) (n := (fun j => x1 (ix2 0 j))) (W := (fun j k => x2 (ix2 j k))) (V := (fun j k => x3 (ix2 j k))) (f := (fun j => x6 (ix2 0 j))) (w := (fun j k => x8 (ix2 j k))) (g := (fun j => x12 (ix2 0 j))) (K := (fun j => x13 (ix2 0 j))) (C := (fun j => x14 (ix2 (⟨r.val, by omega⟩ : Fin 512) j))) (S := (fun j => x15 (ix2 (⟨r.val, by omega⟩ : Fin 512) j))) 7 0 l ⟨1792 + l.val, by omega⟩ (by show 1792 + l.val = 256 * 7 + 128 * 0 + l.val; omega))

theorem key_0_15 (r : Fin 256) (l : Fin 128) :
    (k0_pay205 (k0_pay346 x0 x1 x2 x3 x4 x5 x6 x7 x8 x9 x10 x11 x12 x13 x14 x15) (k0_pay84 (k0_pay366 x0 x1 x2 x3 x4 x5 x6 x7 x8 x9 x10 x11 x12 x13 x14 x15)) (k0_pay134 (k0_pay398 x0 x1 x2 x3 x4 x5 x6 x7 x8 x9 x10 x11 x12 x13 x14 x15) (k0_pay406 x0 x1 x2 x3 x4 x5 x6 x7 x8 x9 x10 x11 x12 x13 x14 x15)) (k0_pay415 x0 x1 x2 x3 x4 x5 x6 x7 x8 x9 x10 x11 x12 x13 x14 x15)) (ix2 r l) = keyBlock x0 x1 x2 x3 x4 x5 x6 x7 x8 x9 x10 x11 x12 x13 x14 x15 ⟨r.val, by omega⟩ ⟨1920 + l.val, by omega⟩ := by
  have e : k0_pay205 (k0_pay346 x0 x1 x2 x3 x4 x5 x6 x7 x8 x9 x10 x11 x12 x13 x14 x15) (k0_pay84 (k0_pay366 x0 x1 x2 x3 x4 x5 x6 x7 x8 x9 x10 x11 x12 x13 x14 x15)) (k0_pay134 (k0_pay398 x0 x1 x2 x3 x4 x5 x6 x7 x8 x9 x10 x11 x12 x13 x14 x15) (k0_pay406 x0 x1 x2 x3 x4 x5 x6 x7 x8 x9 x10 x11 x12 x13 x14 x15)) (k0_pay415 x0 x1 x2 x3 x4 x5 x6 x7 x8 x9 x10 x11 x12 x13 x14 x15) = keySecond (mulK (latOf (View.ld x0 r0_1) (View.ld x1 r0_2) (View.ld x3 r0_4) (View.ld x6 r0_7)) (View.ld x8 r0_18)) (backOf (mulJoint (normOf (View.ld x0 r0_1) (View.ld x1 r0_2)) (View.ld x2 r0_3))) (View.ld x12 r0_0) (View.ld x13 r0_0) (View.ld x14 r0_29) (View.ld x15 r0_29) := by
    dsimp only [k0_pay3, k0_pay5, k0_pay6, k0_pay7, k0_pay8, k0_pay9, k0_pay10, k0_pay12, k0_pay13, k0_pay14, k0_pay15, k0_pay18, k0_pay19, k0_pay20, k0_pay29, k0_pay67, k0_pay68, k0_pay84, k0_pay101, k0_pay102, k0_pay110, k0_pay134, k0_pay152, k0_pay205, k0_pay343, k0_pay344, k0_pay346, k0_pay347, k0_pay348, k0_pay349, k0_pay350, k0_pay352, k0_pay353, k0_pay354, k0_pay356, k0_pay357, k0_pay358, k0_pay366, k0_pay395, k0_pay396, k0_pay398, k0_pay406, k0_pay415, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (keySecond_row (x := View.ld x0 r0_1) (n := View.ld x1 r0_2) (W := View.ld x2 r0_3) (V := View.ld x3 r0_4) (f := View.ld x6 r0_7) (w := View.ld x8 r0_18) (g := View.ld x12 r0_0) (K := View.ld x13 r0_0) (C := View.ld x14 r0_29) (S := View.ld x15 r0_29)
    (fun j => Cert.Tail.ld_rows _ _ r (⟨r.val, by omega⟩ : Fin 512) (by show r.val = 0 + r.val; omega) j) (fun j => ld_whole _ _ 0 j) (fun j k => ld_whole _ _ j k) (fun j k => ld_whole _ _ j k) (fun j => ld_whole _ _ 0 j) (fun j a => ld_cols (o := 1792) _ _ j a ⟨256 * 7 + a.val, by omega⟩ (by show 256 * 7 + a.val = 1792 + a.val; omega)) (fun j => ld_whole _ _ 0 j) (fun j => ld_whole _ _ 0 j) (fun j => Cert.Tail.ld_rows _ _ r (⟨r.val, by omega⟩ : Fin 512) (by show r.val = 0 + r.val; omega) j) (fun j => Cert.Tail.ld_rows _ _ r (⟨r.val, by omega⟩ : Fin 512) (by show r.val = 0 + r.val; omega) j) l).trans
    (keyRow_at (x := (fun j => x0 (ix2 (⟨r.val, by omega⟩ : Fin 512) j))) (n := (fun j => x1 (ix2 0 j))) (W := (fun j k => x2 (ix2 j k))) (V := (fun j k => x3 (ix2 j k))) (f := (fun j => x6 (ix2 0 j))) (w := (fun j k => x8 (ix2 j k))) (g := (fun j => x12 (ix2 0 j))) (K := (fun j => x13 (ix2 0 j))) (C := (fun j => x14 (ix2 (⟨r.val, by omega⟩ : Fin 512) j))) (S := (fun j => x15 (ix2 (⟨r.val, by omega⟩ : Fin 512) j))) 7 1 l ⟨1920 + l.val, by omega⟩ (by show 1920 + l.val = 256 * 7 + 128 * 1 + l.val; omega))

theorem key_1_0 (r : Fin 256) (l : Fin 128) :
    (k0_pay313 (k0_pay346 x0 x1 x2 x3 x4 x5 x6 x7 x8 x9 x10 x11 x12 x13 x14 x15) (k0_pay209 (k0_pay379 x0 x1 x2 x3 x4 x5 x6 x7 x8 x9 x10 x11 x12 x13 x14 x15)) (k0_pay258 (k0_pay419 x0 x1 x2 x3 x4 x5 x6 x7 x8 x9 x10 x11 x12 x13 x14 x15) (k0_pay420 x0 x1 x2 x3 x4 x5 x6 x7 x8 x9 x10 x11 x12 x13 x14 x15)) (k0_pay436 x0 x1 x2 x3 x4 x5 x6 x7 x8 x9 x10 x11 x12 x13 x14 x15)) (ix2 r l) = keyBlock x0 x1 x2 x3 x4 x5 x6 x7 x8 x9 x10 x11 x12 x13 x14 x15 ⟨256 + r.val, by omega⟩ ⟨0 + l.val, by omega⟩ := by
  have e : k0_pay313 (k0_pay346 x0 x1 x2 x3 x4 x5 x6 x7 x8 x9 x10 x11 x12 x13 x14 x15) (k0_pay209 (k0_pay379 x0 x1 x2 x3 x4 x5 x6 x7 x8 x9 x10 x11 x12 x13 x14 x15)) (k0_pay258 (k0_pay419 x0 x1 x2 x3 x4 x5 x6 x7 x8 x9 x10 x11 x12 x13 x14 x15) (k0_pay420 x0 x1 x2 x3 x4 x5 x6 x7 x8 x9 x10 x11 x12 x13 x14 x15)) (k0_pay436 x0 x1 x2 x3 x4 x5 x6 x7 x8 x9 x10 x11 x12 x13 x14 x15) = keyFirst (mulK (latOf (View.ld x0 r0_27) (View.ld x1 r0_2) (View.ld x3 r0_4) (View.ld x6 r0_7)) (View.ld x8 r0_11)) (backOf (mulJoint (normOf (View.ld x0 r0_27) (View.ld x1 r0_2)) (View.ld x2 r0_3))) (View.ld x12 r0_0) (View.ld x13 r0_0) (View.ld x14 r0_46) (View.ld x15 r0_46) := by
    dsimp only [k0_pay3, k0_pay5, k0_pay6, k0_pay7, k0_pay8, k0_pay9, k0_pay10, k0_pay38, k0_pay39, k0_pay41, k0_pay42, k0_pay47, k0_pay49, k0_pay207, k0_pay208, k0_pay209, k0_pay241, k0_pay242, k0_pay258, k0_pay292, k0_pay313, k0_pay343, k0_pay344, k0_pay346, k0_pay347, k0_pay348, k0_pay349, k0_pay350, k0_pay375, k0_pay376, k0_pay379, k0_pay416, k0_pay417, k0_pay419, k0_pay420, k0_pay436, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (keyFirst_row (x := View.ld x0 r0_27) (n := View.ld x1 r0_2) (W := View.ld x2 r0_3) (V := View.ld x3 r0_4) (f := View.ld x6 r0_7) (w := View.ld x8 r0_11) (g := View.ld x12 r0_0) (K := View.ld x13 r0_0) (C := View.ld x14 r0_46) (S := View.ld x15 r0_46)
    (fun j => Cert.Tail.ld_rows _ _ r (⟨256 + r.val, by omega⟩ : Fin 512) (by show 256 + r.val = 256 + r.val; omega) j) (fun j => ld_whole _ _ 0 j) (fun j k => ld_whole _ _ j k) (fun j k => ld_whole _ _ j k) (fun j => ld_whole _ _ 0 j) (fun j a => ld_cols (o := 0) _ _ j a ⟨256 * 0 + a.val, by omega⟩ (by show 256 * 0 + a.val = 0 + a.val; omega)) (fun j => ld_whole _ _ 0 j) (fun j => ld_whole _ _ 0 j) (fun j => Cert.Tail.ld_rows _ _ r (⟨256 + r.val, by omega⟩ : Fin 512) (by show 256 + r.val = 256 + r.val; omega) j) (fun j => Cert.Tail.ld_rows _ _ r (⟨256 + r.val, by omega⟩ : Fin 512) (by show 256 + r.val = 256 + r.val; omega) j) l).trans
    (keyRow_at (x := (fun j => x0 (ix2 (⟨256 + r.val, by omega⟩ : Fin 512) j))) (n := (fun j => x1 (ix2 0 j))) (W := (fun j k => x2 (ix2 j k))) (V := (fun j k => x3 (ix2 j k))) (f := (fun j => x6 (ix2 0 j))) (w := (fun j k => x8 (ix2 j k))) (g := (fun j => x12 (ix2 0 j))) (K := (fun j => x13 (ix2 0 j))) (C := (fun j => x14 (ix2 (⟨256 + r.val, by omega⟩ : Fin 512) j))) (S := (fun j => x15 (ix2 (⟨256 + r.val, by omega⟩ : Fin 512) j))) 0 0 l ⟨0 + l.val, by omega⟩ (by show 0 + l.val = 256 * 0 + 128 * 0 + l.val; omega))

theorem key_1_1 (r : Fin 256) (l : Fin 128) :
    (k0_pay315 (k0_pay346 x0 x1 x2 x3 x4 x5 x6 x7 x8 x9 x10 x11 x12 x13 x14 x15) (k0_pay210 (k0_pay379 x0 x1 x2 x3 x4 x5 x6 x7 x8 x9 x10 x11 x12 x13 x14 x15)) (k0_pay259 (k0_pay419 x0 x1 x2 x3 x4 x5 x6 x7 x8 x9 x10 x11 x12 x13 x14 x15) (k0_pay420 x0 x1 x2 x3 x4 x5 x6 x7 x8 x9 x10 x11 x12 x13 x14 x15)) (k0_pay436 x0 x1 x2 x3 x4 x5 x6 x7 x8 x9 x10 x11 x12 x13 x14 x15)) (ix2 r l) = keyBlock x0 x1 x2 x3 x4 x5 x6 x7 x8 x9 x10 x11 x12 x13 x14 x15 ⟨256 + r.val, by omega⟩ ⟨128 + l.val, by omega⟩ := by
  have e : k0_pay315 (k0_pay346 x0 x1 x2 x3 x4 x5 x6 x7 x8 x9 x10 x11 x12 x13 x14 x15) (k0_pay210 (k0_pay379 x0 x1 x2 x3 x4 x5 x6 x7 x8 x9 x10 x11 x12 x13 x14 x15)) (k0_pay259 (k0_pay419 x0 x1 x2 x3 x4 x5 x6 x7 x8 x9 x10 x11 x12 x13 x14 x15) (k0_pay420 x0 x1 x2 x3 x4 x5 x6 x7 x8 x9 x10 x11 x12 x13 x14 x15)) (k0_pay436 x0 x1 x2 x3 x4 x5 x6 x7 x8 x9 x10 x11 x12 x13 x14 x15) = keySecond (mulK (latOf (View.ld x0 r0_27) (View.ld x1 r0_2) (View.ld x3 r0_4) (View.ld x6 r0_7)) (View.ld x8 r0_11)) (backOf (mulJoint (normOf (View.ld x0 r0_27) (View.ld x1 r0_2)) (View.ld x2 r0_3))) (View.ld x12 r0_0) (View.ld x13 r0_0) (View.ld x14 r0_46) (View.ld x15 r0_46) := by
    dsimp only [k0_pay3, k0_pay5, k0_pay6, k0_pay7, k0_pay8, k0_pay9, k0_pay10, k0_pay38, k0_pay39, k0_pay41, k0_pay42, k0_pay47, k0_pay49, k0_pay207, k0_pay208, k0_pay210, k0_pay241, k0_pay242, k0_pay259, k0_pay292, k0_pay315, k0_pay343, k0_pay344, k0_pay346, k0_pay347, k0_pay348, k0_pay349, k0_pay350, k0_pay375, k0_pay376, k0_pay379, k0_pay416, k0_pay417, k0_pay419, k0_pay420, k0_pay436, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (keySecond_row (x := View.ld x0 r0_27) (n := View.ld x1 r0_2) (W := View.ld x2 r0_3) (V := View.ld x3 r0_4) (f := View.ld x6 r0_7) (w := View.ld x8 r0_11) (g := View.ld x12 r0_0) (K := View.ld x13 r0_0) (C := View.ld x14 r0_46) (S := View.ld x15 r0_46)
    (fun j => Cert.Tail.ld_rows _ _ r (⟨256 + r.val, by omega⟩ : Fin 512) (by show 256 + r.val = 256 + r.val; omega) j) (fun j => ld_whole _ _ 0 j) (fun j k => ld_whole _ _ j k) (fun j k => ld_whole _ _ j k) (fun j => ld_whole _ _ 0 j) (fun j a => ld_cols (o := 0) _ _ j a ⟨256 * 0 + a.val, by omega⟩ (by show 256 * 0 + a.val = 0 + a.val; omega)) (fun j => ld_whole _ _ 0 j) (fun j => ld_whole _ _ 0 j) (fun j => Cert.Tail.ld_rows _ _ r (⟨256 + r.val, by omega⟩ : Fin 512) (by show 256 + r.val = 256 + r.val; omega) j) (fun j => Cert.Tail.ld_rows _ _ r (⟨256 + r.val, by omega⟩ : Fin 512) (by show 256 + r.val = 256 + r.val; omega) j) l).trans
    (keyRow_at (x := (fun j => x0 (ix2 (⟨256 + r.val, by omega⟩ : Fin 512) j))) (n := (fun j => x1 (ix2 0 j))) (W := (fun j k => x2 (ix2 j k))) (V := (fun j k => x3 (ix2 j k))) (f := (fun j => x6 (ix2 0 j))) (w := (fun j k => x8 (ix2 j k))) (g := (fun j => x12 (ix2 0 j))) (K := (fun j => x13 (ix2 0 j))) (C := (fun j => x14 (ix2 (⟨256 + r.val, by omega⟩ : Fin 512) j))) (S := (fun j => x15 (ix2 (⟨256 + r.val, by omega⟩ : Fin 512) j))) 0 1 l ⟨128 + l.val, by omega⟩ (by show 128 + l.val = 256 * 0 + 128 * 1 + l.val; omega))

theorem key_1_2 (r : Fin 256) (l : Fin 128) :
    (k0_pay317 (k0_pay346 x0 x1 x2 x3 x4 x5 x6 x7 x8 x9 x10 x11 x12 x13 x14 x15) (k0_pay211 (k0_pay380 x0 x1 x2 x3 x4 x5 x6 x7 x8 x9 x10 x11 x12 x13 x14 x15)) (k0_pay260 (k0_pay419 x0 x1 x2 x3 x4 x5 x6 x7 x8 x9 x10 x11 x12 x13 x14 x15) (k0_pay421 x0 x1 x2 x3 x4 x5 x6 x7 x8 x9 x10 x11 x12 x13 x14 x15)) (k0_pay436 x0 x1 x2 x3 x4 x5 x6 x7 x8 x9 x10 x11 x12 x13 x14 x15)) (ix2 r l) = keyBlock x0 x1 x2 x3 x4 x5 x6 x7 x8 x9 x10 x11 x12 x13 x14 x15 ⟨256 + r.val, by omega⟩ ⟨256 + l.val, by omega⟩ := by
  have e : k0_pay317 (k0_pay346 x0 x1 x2 x3 x4 x5 x6 x7 x8 x9 x10 x11 x12 x13 x14 x15) (k0_pay211 (k0_pay380 x0 x1 x2 x3 x4 x5 x6 x7 x8 x9 x10 x11 x12 x13 x14 x15)) (k0_pay260 (k0_pay419 x0 x1 x2 x3 x4 x5 x6 x7 x8 x9 x10 x11 x12 x13 x14 x15) (k0_pay421 x0 x1 x2 x3 x4 x5 x6 x7 x8 x9 x10 x11 x12 x13 x14 x15)) (k0_pay436 x0 x1 x2 x3 x4 x5 x6 x7 x8 x9 x10 x11 x12 x13 x14 x15) = keyFirst (mulK (latOf (View.ld x0 r0_27) (View.ld x1 r0_2) (View.ld x3 r0_4) (View.ld x6 r0_7)) (View.ld x8 r0_12)) (backOf (mulJoint (normOf (View.ld x0 r0_27) (View.ld x1 r0_2)) (View.ld x2 r0_3))) (View.ld x12 r0_0) (View.ld x13 r0_0) (View.ld x14 r0_46) (View.ld x15 r0_46) := by
    dsimp only [k0_pay3, k0_pay5, k0_pay6, k0_pay7, k0_pay8, k0_pay9, k0_pay10, k0_pay38, k0_pay39, k0_pay41, k0_pay42, k0_pay47, k0_pay50, k0_pay207, k0_pay208, k0_pay211, k0_pay241, k0_pay243, k0_pay260, k0_pay292, k0_pay317, k0_pay343, k0_pay344, k0_pay346, k0_pay347, k0_pay348, k0_pay349, k0_pay350, k0_pay375, k0_pay376, k0_pay380, k0_pay416, k0_pay417, k0_pay419, k0_pay421, k0_pay436, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (keyFirst_row (x := View.ld x0 r0_27) (n := View.ld x1 r0_2) (W := View.ld x2 r0_3) (V := View.ld x3 r0_4) (f := View.ld x6 r0_7) (w := View.ld x8 r0_12) (g := View.ld x12 r0_0) (K := View.ld x13 r0_0) (C := View.ld x14 r0_46) (S := View.ld x15 r0_46)
    (fun j => Cert.Tail.ld_rows _ _ r (⟨256 + r.val, by omega⟩ : Fin 512) (by show 256 + r.val = 256 + r.val; omega) j) (fun j => ld_whole _ _ 0 j) (fun j k => ld_whole _ _ j k) (fun j k => ld_whole _ _ j k) (fun j => ld_whole _ _ 0 j) (fun j a => ld_cols (o := 256) _ _ j a ⟨256 * 1 + a.val, by omega⟩ (by show 256 * 1 + a.val = 256 + a.val; omega)) (fun j => ld_whole _ _ 0 j) (fun j => ld_whole _ _ 0 j) (fun j => Cert.Tail.ld_rows _ _ r (⟨256 + r.val, by omega⟩ : Fin 512) (by show 256 + r.val = 256 + r.val; omega) j) (fun j => Cert.Tail.ld_rows _ _ r (⟨256 + r.val, by omega⟩ : Fin 512) (by show 256 + r.val = 256 + r.val; omega) j) l).trans
    (keyRow_at (x := (fun j => x0 (ix2 (⟨256 + r.val, by omega⟩ : Fin 512) j))) (n := (fun j => x1 (ix2 0 j))) (W := (fun j k => x2 (ix2 j k))) (V := (fun j k => x3 (ix2 j k))) (f := (fun j => x6 (ix2 0 j))) (w := (fun j k => x8 (ix2 j k))) (g := (fun j => x12 (ix2 0 j))) (K := (fun j => x13 (ix2 0 j))) (C := (fun j => x14 (ix2 (⟨256 + r.val, by omega⟩ : Fin 512) j))) (S := (fun j => x15 (ix2 (⟨256 + r.val, by omega⟩ : Fin 512) j))) 1 0 l ⟨256 + l.val, by omega⟩ (by show 256 + l.val = 256 * 1 + 128 * 0 + l.val; omega))

theorem key_1_3 (r : Fin 256) (l : Fin 128) :
    (k0_pay319 (k0_pay346 x0 x1 x2 x3 x4 x5 x6 x7 x8 x9 x10 x11 x12 x13 x14 x15) (k0_pay212 (k0_pay380 x0 x1 x2 x3 x4 x5 x6 x7 x8 x9 x10 x11 x12 x13 x14 x15)) (k0_pay261 (k0_pay419 x0 x1 x2 x3 x4 x5 x6 x7 x8 x9 x10 x11 x12 x13 x14 x15) (k0_pay421 x0 x1 x2 x3 x4 x5 x6 x7 x8 x9 x10 x11 x12 x13 x14 x15)) (k0_pay436 x0 x1 x2 x3 x4 x5 x6 x7 x8 x9 x10 x11 x12 x13 x14 x15)) (ix2 r l) = keyBlock x0 x1 x2 x3 x4 x5 x6 x7 x8 x9 x10 x11 x12 x13 x14 x15 ⟨256 + r.val, by omega⟩ ⟨384 + l.val, by omega⟩ := by
  have e : k0_pay319 (k0_pay346 x0 x1 x2 x3 x4 x5 x6 x7 x8 x9 x10 x11 x12 x13 x14 x15) (k0_pay212 (k0_pay380 x0 x1 x2 x3 x4 x5 x6 x7 x8 x9 x10 x11 x12 x13 x14 x15)) (k0_pay261 (k0_pay419 x0 x1 x2 x3 x4 x5 x6 x7 x8 x9 x10 x11 x12 x13 x14 x15) (k0_pay421 x0 x1 x2 x3 x4 x5 x6 x7 x8 x9 x10 x11 x12 x13 x14 x15)) (k0_pay436 x0 x1 x2 x3 x4 x5 x6 x7 x8 x9 x10 x11 x12 x13 x14 x15) = keySecond (mulK (latOf (View.ld x0 r0_27) (View.ld x1 r0_2) (View.ld x3 r0_4) (View.ld x6 r0_7)) (View.ld x8 r0_12)) (backOf (mulJoint (normOf (View.ld x0 r0_27) (View.ld x1 r0_2)) (View.ld x2 r0_3))) (View.ld x12 r0_0) (View.ld x13 r0_0) (View.ld x14 r0_46) (View.ld x15 r0_46) := by
    dsimp only [k0_pay3, k0_pay5, k0_pay6, k0_pay7, k0_pay8, k0_pay9, k0_pay10, k0_pay38, k0_pay39, k0_pay41, k0_pay42, k0_pay47, k0_pay50, k0_pay207, k0_pay208, k0_pay212, k0_pay241, k0_pay243, k0_pay261, k0_pay292, k0_pay319, k0_pay343, k0_pay344, k0_pay346, k0_pay347, k0_pay348, k0_pay349, k0_pay350, k0_pay375, k0_pay376, k0_pay380, k0_pay416, k0_pay417, k0_pay419, k0_pay421, k0_pay436, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (keySecond_row (x := View.ld x0 r0_27) (n := View.ld x1 r0_2) (W := View.ld x2 r0_3) (V := View.ld x3 r0_4) (f := View.ld x6 r0_7) (w := View.ld x8 r0_12) (g := View.ld x12 r0_0) (K := View.ld x13 r0_0) (C := View.ld x14 r0_46) (S := View.ld x15 r0_46)
    (fun j => Cert.Tail.ld_rows _ _ r (⟨256 + r.val, by omega⟩ : Fin 512) (by show 256 + r.val = 256 + r.val; omega) j) (fun j => ld_whole _ _ 0 j) (fun j k => ld_whole _ _ j k) (fun j k => ld_whole _ _ j k) (fun j => ld_whole _ _ 0 j) (fun j a => ld_cols (o := 256) _ _ j a ⟨256 * 1 + a.val, by omega⟩ (by show 256 * 1 + a.val = 256 + a.val; omega)) (fun j => ld_whole _ _ 0 j) (fun j => ld_whole _ _ 0 j) (fun j => Cert.Tail.ld_rows _ _ r (⟨256 + r.val, by omega⟩ : Fin 512) (by show 256 + r.val = 256 + r.val; omega) j) (fun j => Cert.Tail.ld_rows _ _ r (⟨256 + r.val, by omega⟩ : Fin 512) (by show 256 + r.val = 256 + r.val; omega) j) l).trans
    (keyRow_at (x := (fun j => x0 (ix2 (⟨256 + r.val, by omega⟩ : Fin 512) j))) (n := (fun j => x1 (ix2 0 j))) (W := (fun j k => x2 (ix2 j k))) (V := (fun j k => x3 (ix2 j k))) (f := (fun j => x6 (ix2 0 j))) (w := (fun j k => x8 (ix2 j k))) (g := (fun j => x12 (ix2 0 j))) (K := (fun j => x13 (ix2 0 j))) (C := (fun j => x14 (ix2 (⟨256 + r.val, by omega⟩ : Fin 512) j))) (S := (fun j => x15 (ix2 (⟨256 + r.val, by omega⟩ : Fin 512) j))) 1 1 l ⟨384 + l.val, by omega⟩ (by show 384 + l.val = 256 * 1 + 128 * 1 + l.val; omega))

theorem key_1_4 (r : Fin 256) (l : Fin 128) :
    (k0_pay321 (k0_pay346 x0 x1 x2 x3 x4 x5 x6 x7 x8 x9 x10 x11 x12 x13 x14 x15) (k0_pay213 (k0_pay381 x0 x1 x2 x3 x4 x5 x6 x7 x8 x9 x10 x11 x12 x13 x14 x15)) (k0_pay262 (k0_pay419 x0 x1 x2 x3 x4 x5 x6 x7 x8 x9 x10 x11 x12 x13 x14 x15) (k0_pay422 x0 x1 x2 x3 x4 x5 x6 x7 x8 x9 x10 x11 x12 x13 x14 x15)) (k0_pay436 x0 x1 x2 x3 x4 x5 x6 x7 x8 x9 x10 x11 x12 x13 x14 x15)) (ix2 r l) = keyBlock x0 x1 x2 x3 x4 x5 x6 x7 x8 x9 x10 x11 x12 x13 x14 x15 ⟨256 + r.val, by omega⟩ ⟨512 + l.val, by omega⟩ := by
  have e : k0_pay321 (k0_pay346 x0 x1 x2 x3 x4 x5 x6 x7 x8 x9 x10 x11 x12 x13 x14 x15) (k0_pay213 (k0_pay381 x0 x1 x2 x3 x4 x5 x6 x7 x8 x9 x10 x11 x12 x13 x14 x15)) (k0_pay262 (k0_pay419 x0 x1 x2 x3 x4 x5 x6 x7 x8 x9 x10 x11 x12 x13 x14 x15) (k0_pay422 x0 x1 x2 x3 x4 x5 x6 x7 x8 x9 x10 x11 x12 x13 x14 x15)) (k0_pay436 x0 x1 x2 x3 x4 x5 x6 x7 x8 x9 x10 x11 x12 x13 x14 x15) = keyFirst (mulK (latOf (View.ld x0 r0_27) (View.ld x1 r0_2) (View.ld x3 r0_4) (View.ld x6 r0_7)) (View.ld x8 r0_13)) (backOf (mulJoint (normOf (View.ld x0 r0_27) (View.ld x1 r0_2)) (View.ld x2 r0_3))) (View.ld x12 r0_0) (View.ld x13 r0_0) (View.ld x14 r0_46) (View.ld x15 r0_46) := by
    dsimp only [k0_pay3, k0_pay5, k0_pay6, k0_pay7, k0_pay8, k0_pay9, k0_pay10, k0_pay38, k0_pay39, k0_pay41, k0_pay42, k0_pay47, k0_pay51, k0_pay52, k0_pay207, k0_pay208, k0_pay213, k0_pay241, k0_pay244, k0_pay262, k0_pay292, k0_pay321, k0_pay343, k0_pay344, k0_pay346, k0_pay347, k0_pay348, k0_pay349, k0_pay350, k0_pay375, k0_pay376, k0_pay378, k0_pay381, k0_pay416, k0_pay417, k0_pay419, k0_pay422, k0_pay436, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (keyFirst_row (x := View.ld x0 r0_27) (n := View.ld x1 r0_2) (W := View.ld x2 r0_3) (V := View.ld x3 r0_4) (f := View.ld x6 r0_7) (w := View.ld x8 r0_13) (g := View.ld x12 r0_0) (K := View.ld x13 r0_0) (C := View.ld x14 r0_46) (S := View.ld x15 r0_46)
    (fun j => Cert.Tail.ld_rows _ _ r (⟨256 + r.val, by omega⟩ : Fin 512) (by show 256 + r.val = 256 + r.val; omega) j) (fun j => ld_whole _ _ 0 j) (fun j k => ld_whole _ _ j k) (fun j k => ld_whole _ _ j k) (fun j => ld_whole _ _ 0 j) (fun j a => ld_cols (o := 512) _ _ j a ⟨256 * 2 + a.val, by omega⟩ (by show 256 * 2 + a.val = 512 + a.val; omega)) (fun j => ld_whole _ _ 0 j) (fun j => ld_whole _ _ 0 j) (fun j => Cert.Tail.ld_rows _ _ r (⟨256 + r.val, by omega⟩ : Fin 512) (by show 256 + r.val = 256 + r.val; omega) j) (fun j => Cert.Tail.ld_rows _ _ r (⟨256 + r.val, by omega⟩ : Fin 512) (by show 256 + r.val = 256 + r.val; omega) j) l).trans
    (keyRow_at (x := (fun j => x0 (ix2 (⟨256 + r.val, by omega⟩ : Fin 512) j))) (n := (fun j => x1 (ix2 0 j))) (W := (fun j k => x2 (ix2 j k))) (V := (fun j k => x3 (ix2 j k))) (f := (fun j => x6 (ix2 0 j))) (w := (fun j k => x8 (ix2 j k))) (g := (fun j => x12 (ix2 0 j))) (K := (fun j => x13 (ix2 0 j))) (C := (fun j => x14 (ix2 (⟨256 + r.val, by omega⟩ : Fin 512) j))) (S := (fun j => x15 (ix2 (⟨256 + r.val, by omega⟩ : Fin 512) j))) 2 0 l ⟨512 + l.val, by omega⟩ (by show 512 + l.val = 256 * 2 + 128 * 0 + l.val; omega))

theorem key_1_5 (r : Fin 256) (l : Fin 128) :
    (k0_pay323 (k0_pay346 x0 x1 x2 x3 x4 x5 x6 x7 x8 x9 x10 x11 x12 x13 x14 x15) (k0_pay214 (k0_pay381 x0 x1 x2 x3 x4 x5 x6 x7 x8 x9 x10 x11 x12 x13 x14 x15)) (k0_pay263 (k0_pay419 x0 x1 x2 x3 x4 x5 x6 x7 x8 x9 x10 x11 x12 x13 x14 x15) (k0_pay422 x0 x1 x2 x3 x4 x5 x6 x7 x8 x9 x10 x11 x12 x13 x14 x15)) (k0_pay436 x0 x1 x2 x3 x4 x5 x6 x7 x8 x9 x10 x11 x12 x13 x14 x15)) (ix2 r l) = keyBlock x0 x1 x2 x3 x4 x5 x6 x7 x8 x9 x10 x11 x12 x13 x14 x15 ⟨256 + r.val, by omega⟩ ⟨640 + l.val, by omega⟩ := by
  have e : k0_pay323 (k0_pay346 x0 x1 x2 x3 x4 x5 x6 x7 x8 x9 x10 x11 x12 x13 x14 x15) (k0_pay214 (k0_pay381 x0 x1 x2 x3 x4 x5 x6 x7 x8 x9 x10 x11 x12 x13 x14 x15)) (k0_pay263 (k0_pay419 x0 x1 x2 x3 x4 x5 x6 x7 x8 x9 x10 x11 x12 x13 x14 x15) (k0_pay422 x0 x1 x2 x3 x4 x5 x6 x7 x8 x9 x10 x11 x12 x13 x14 x15)) (k0_pay436 x0 x1 x2 x3 x4 x5 x6 x7 x8 x9 x10 x11 x12 x13 x14 x15) = keySecond (mulK (latOf (View.ld x0 r0_27) (View.ld x1 r0_2) (View.ld x3 r0_4) (View.ld x6 r0_7)) (View.ld x8 r0_13)) (backOf (mulJoint (normOf (View.ld x0 r0_27) (View.ld x1 r0_2)) (View.ld x2 r0_3))) (View.ld x12 r0_0) (View.ld x13 r0_0) (View.ld x14 r0_46) (View.ld x15 r0_46) := by
    dsimp only [k0_pay3, k0_pay5, k0_pay6, k0_pay7, k0_pay8, k0_pay9, k0_pay10, k0_pay38, k0_pay39, k0_pay41, k0_pay42, k0_pay47, k0_pay51, k0_pay52, k0_pay207, k0_pay208, k0_pay214, k0_pay241, k0_pay244, k0_pay263, k0_pay292, k0_pay323, k0_pay343, k0_pay344, k0_pay346, k0_pay347, k0_pay348, k0_pay349, k0_pay350, k0_pay375, k0_pay376, k0_pay378, k0_pay381, k0_pay416, k0_pay417, k0_pay419, k0_pay422, k0_pay436, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (keySecond_row (x := View.ld x0 r0_27) (n := View.ld x1 r0_2) (W := View.ld x2 r0_3) (V := View.ld x3 r0_4) (f := View.ld x6 r0_7) (w := View.ld x8 r0_13) (g := View.ld x12 r0_0) (K := View.ld x13 r0_0) (C := View.ld x14 r0_46) (S := View.ld x15 r0_46)
    (fun j => Cert.Tail.ld_rows _ _ r (⟨256 + r.val, by omega⟩ : Fin 512) (by show 256 + r.val = 256 + r.val; omega) j) (fun j => ld_whole _ _ 0 j) (fun j k => ld_whole _ _ j k) (fun j k => ld_whole _ _ j k) (fun j => ld_whole _ _ 0 j) (fun j a => ld_cols (o := 512) _ _ j a ⟨256 * 2 + a.val, by omega⟩ (by show 256 * 2 + a.val = 512 + a.val; omega)) (fun j => ld_whole _ _ 0 j) (fun j => ld_whole _ _ 0 j) (fun j => Cert.Tail.ld_rows _ _ r (⟨256 + r.val, by omega⟩ : Fin 512) (by show 256 + r.val = 256 + r.val; omega) j) (fun j => Cert.Tail.ld_rows _ _ r (⟨256 + r.val, by omega⟩ : Fin 512) (by show 256 + r.val = 256 + r.val; omega) j) l).trans
    (keyRow_at (x := (fun j => x0 (ix2 (⟨256 + r.val, by omega⟩ : Fin 512) j))) (n := (fun j => x1 (ix2 0 j))) (W := (fun j k => x2 (ix2 j k))) (V := (fun j k => x3 (ix2 j k))) (f := (fun j => x6 (ix2 0 j))) (w := (fun j k => x8 (ix2 j k))) (g := (fun j => x12 (ix2 0 j))) (K := (fun j => x13 (ix2 0 j))) (C := (fun j => x14 (ix2 (⟨256 + r.val, by omega⟩ : Fin 512) j))) (S := (fun j => x15 (ix2 (⟨256 + r.val, by omega⟩ : Fin 512) j))) 2 1 l ⟨640 + l.val, by omega⟩ (by show 640 + l.val = 256 * 2 + 128 * 1 + l.val; omega))

theorem key_1_6 (r : Fin 256) (l : Fin 128) :
    (k0_pay325 (k0_pay346 x0 x1 x2 x3 x4 x5 x6 x7 x8 x9 x10 x11 x12 x13 x14 x15) (k0_pay215 (k0_pay382 x0 x1 x2 x3 x4 x5 x6 x7 x8 x9 x10 x11 x12 x13 x14 x15)) (k0_pay264 (k0_pay419 x0 x1 x2 x3 x4 x5 x6 x7 x8 x9 x10 x11 x12 x13 x14 x15) (k0_pay423 x0 x1 x2 x3 x4 x5 x6 x7 x8 x9 x10 x11 x12 x13 x14 x15)) (k0_pay436 x0 x1 x2 x3 x4 x5 x6 x7 x8 x9 x10 x11 x12 x13 x14 x15)) (ix2 r l) = keyBlock x0 x1 x2 x3 x4 x5 x6 x7 x8 x9 x10 x11 x12 x13 x14 x15 ⟨256 + r.val, by omega⟩ ⟨768 + l.val, by omega⟩ := by
  have e : k0_pay325 (k0_pay346 x0 x1 x2 x3 x4 x5 x6 x7 x8 x9 x10 x11 x12 x13 x14 x15) (k0_pay215 (k0_pay382 x0 x1 x2 x3 x4 x5 x6 x7 x8 x9 x10 x11 x12 x13 x14 x15)) (k0_pay264 (k0_pay419 x0 x1 x2 x3 x4 x5 x6 x7 x8 x9 x10 x11 x12 x13 x14 x15) (k0_pay423 x0 x1 x2 x3 x4 x5 x6 x7 x8 x9 x10 x11 x12 x13 x14 x15)) (k0_pay436 x0 x1 x2 x3 x4 x5 x6 x7 x8 x9 x10 x11 x12 x13 x14 x15) = keyFirst (mulK (latOf (View.ld x0 r0_27) (View.ld x1 r0_2) (View.ld x3 r0_4) (View.ld x6 r0_7)) (View.ld x8 r0_14)) (backOf (mulJoint (normOf (View.ld x0 r0_27) (View.ld x1 r0_2)) (View.ld x2 r0_3))) (View.ld x12 r0_0) (View.ld x13 r0_0) (View.ld x14 r0_46) (View.ld x15 r0_46) := by
    dsimp only [k0_pay3, k0_pay5, k0_pay6, k0_pay7, k0_pay8, k0_pay9, k0_pay10, k0_pay38, k0_pay39, k0_pay41, k0_pay42, k0_pay47, k0_pay53, k0_pay207, k0_pay208, k0_pay215, k0_pay241, k0_pay245, k0_pay264, k0_pay292, k0_pay325, k0_pay343, k0_pay344, k0_pay346, k0_pay347, k0_pay348, k0_pay349, k0_pay350, k0_pay375, k0_pay376, k0_pay378, k0_pay382, k0_pay416, k0_pay417, k0_pay419, k0_pay423, k0_pay436, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (keyFirst_row (x := View.ld x0 r0_27) (n := View.ld x1 r0_2) (W := View.ld x2 r0_3) (V := View.ld x3 r0_4) (f := View.ld x6 r0_7) (w := View.ld x8 r0_14) (g := View.ld x12 r0_0) (K := View.ld x13 r0_0) (C := View.ld x14 r0_46) (S := View.ld x15 r0_46)
    (fun j => Cert.Tail.ld_rows _ _ r (⟨256 + r.val, by omega⟩ : Fin 512) (by show 256 + r.val = 256 + r.val; omega) j) (fun j => ld_whole _ _ 0 j) (fun j k => ld_whole _ _ j k) (fun j k => ld_whole _ _ j k) (fun j => ld_whole _ _ 0 j) (fun j a => ld_cols (o := 768) _ _ j a ⟨256 * 3 + a.val, by omega⟩ (by show 256 * 3 + a.val = 768 + a.val; omega)) (fun j => ld_whole _ _ 0 j) (fun j => ld_whole _ _ 0 j) (fun j => Cert.Tail.ld_rows _ _ r (⟨256 + r.val, by omega⟩ : Fin 512) (by show 256 + r.val = 256 + r.val; omega) j) (fun j => Cert.Tail.ld_rows _ _ r (⟨256 + r.val, by omega⟩ : Fin 512) (by show 256 + r.val = 256 + r.val; omega) j) l).trans
    (keyRow_at (x := (fun j => x0 (ix2 (⟨256 + r.val, by omega⟩ : Fin 512) j))) (n := (fun j => x1 (ix2 0 j))) (W := (fun j k => x2 (ix2 j k))) (V := (fun j k => x3 (ix2 j k))) (f := (fun j => x6 (ix2 0 j))) (w := (fun j k => x8 (ix2 j k))) (g := (fun j => x12 (ix2 0 j))) (K := (fun j => x13 (ix2 0 j))) (C := (fun j => x14 (ix2 (⟨256 + r.val, by omega⟩ : Fin 512) j))) (S := (fun j => x15 (ix2 (⟨256 + r.val, by omega⟩ : Fin 512) j))) 3 0 l ⟨768 + l.val, by omega⟩ (by show 768 + l.val = 256 * 3 + 128 * 0 + l.val; omega))

theorem key_1_7 (r : Fin 256) (l : Fin 128) :
    (k0_pay327 (k0_pay346 x0 x1 x2 x3 x4 x5 x6 x7 x8 x9 x10 x11 x12 x13 x14 x15) (k0_pay216 (k0_pay382 x0 x1 x2 x3 x4 x5 x6 x7 x8 x9 x10 x11 x12 x13 x14 x15)) (k0_pay265 (k0_pay419 x0 x1 x2 x3 x4 x5 x6 x7 x8 x9 x10 x11 x12 x13 x14 x15) (k0_pay423 x0 x1 x2 x3 x4 x5 x6 x7 x8 x9 x10 x11 x12 x13 x14 x15)) (k0_pay436 x0 x1 x2 x3 x4 x5 x6 x7 x8 x9 x10 x11 x12 x13 x14 x15)) (ix2 r l) = keyBlock x0 x1 x2 x3 x4 x5 x6 x7 x8 x9 x10 x11 x12 x13 x14 x15 ⟨256 + r.val, by omega⟩ ⟨896 + l.val, by omega⟩ := by
  have e : k0_pay327 (k0_pay346 x0 x1 x2 x3 x4 x5 x6 x7 x8 x9 x10 x11 x12 x13 x14 x15) (k0_pay216 (k0_pay382 x0 x1 x2 x3 x4 x5 x6 x7 x8 x9 x10 x11 x12 x13 x14 x15)) (k0_pay265 (k0_pay419 x0 x1 x2 x3 x4 x5 x6 x7 x8 x9 x10 x11 x12 x13 x14 x15) (k0_pay423 x0 x1 x2 x3 x4 x5 x6 x7 x8 x9 x10 x11 x12 x13 x14 x15)) (k0_pay436 x0 x1 x2 x3 x4 x5 x6 x7 x8 x9 x10 x11 x12 x13 x14 x15) = keySecond (mulK (latOf (View.ld x0 r0_27) (View.ld x1 r0_2) (View.ld x3 r0_4) (View.ld x6 r0_7)) (View.ld x8 r0_14)) (backOf (mulJoint (normOf (View.ld x0 r0_27) (View.ld x1 r0_2)) (View.ld x2 r0_3))) (View.ld x12 r0_0) (View.ld x13 r0_0) (View.ld x14 r0_46) (View.ld x15 r0_46) := by
    dsimp only [k0_pay3, k0_pay5, k0_pay6, k0_pay7, k0_pay8, k0_pay9, k0_pay10, k0_pay38, k0_pay39, k0_pay41, k0_pay42, k0_pay47, k0_pay53, k0_pay207, k0_pay208, k0_pay216, k0_pay241, k0_pay245, k0_pay265, k0_pay292, k0_pay327, k0_pay343, k0_pay344, k0_pay346, k0_pay347, k0_pay348, k0_pay349, k0_pay350, k0_pay375, k0_pay376, k0_pay378, k0_pay382, k0_pay416, k0_pay417, k0_pay419, k0_pay423, k0_pay436, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (keySecond_row (x := View.ld x0 r0_27) (n := View.ld x1 r0_2) (W := View.ld x2 r0_3) (V := View.ld x3 r0_4) (f := View.ld x6 r0_7) (w := View.ld x8 r0_14) (g := View.ld x12 r0_0) (K := View.ld x13 r0_0) (C := View.ld x14 r0_46) (S := View.ld x15 r0_46)
    (fun j => Cert.Tail.ld_rows _ _ r (⟨256 + r.val, by omega⟩ : Fin 512) (by show 256 + r.val = 256 + r.val; omega) j) (fun j => ld_whole _ _ 0 j) (fun j k => ld_whole _ _ j k) (fun j k => ld_whole _ _ j k) (fun j => ld_whole _ _ 0 j) (fun j a => ld_cols (o := 768) _ _ j a ⟨256 * 3 + a.val, by omega⟩ (by show 256 * 3 + a.val = 768 + a.val; omega)) (fun j => ld_whole _ _ 0 j) (fun j => ld_whole _ _ 0 j) (fun j => Cert.Tail.ld_rows _ _ r (⟨256 + r.val, by omega⟩ : Fin 512) (by show 256 + r.val = 256 + r.val; omega) j) (fun j => Cert.Tail.ld_rows _ _ r (⟨256 + r.val, by omega⟩ : Fin 512) (by show 256 + r.val = 256 + r.val; omega) j) l).trans
    (keyRow_at (x := (fun j => x0 (ix2 (⟨256 + r.val, by omega⟩ : Fin 512) j))) (n := (fun j => x1 (ix2 0 j))) (W := (fun j k => x2 (ix2 j k))) (V := (fun j k => x3 (ix2 j k))) (f := (fun j => x6 (ix2 0 j))) (w := (fun j k => x8 (ix2 j k))) (g := (fun j => x12 (ix2 0 j))) (K := (fun j => x13 (ix2 0 j))) (C := (fun j => x14 (ix2 (⟨256 + r.val, by omega⟩ : Fin 512) j))) (S := (fun j => x15 (ix2 (⟨256 + r.val, by omega⟩ : Fin 512) j))) 3 1 l ⟨896 + l.val, by omega⟩ (by show 896 + l.val = 256 * 3 + 128 * 1 + l.val; omega))

theorem key_1_8 (r : Fin 256) (l : Fin 128) :
    (k0_pay329 (k0_pay346 x0 x1 x2 x3 x4 x5 x6 x7 x8 x9 x10 x11 x12 x13 x14 x15) (k0_pay217 (k0_pay383 x0 x1 x2 x3 x4 x5 x6 x7 x8 x9 x10 x11 x12 x13 x14 x15)) (k0_pay266 (k0_pay419 x0 x1 x2 x3 x4 x5 x6 x7 x8 x9 x10 x11 x12 x13 x14 x15) (k0_pay424 x0 x1 x2 x3 x4 x5 x6 x7 x8 x9 x10 x11 x12 x13 x14 x15)) (k0_pay436 x0 x1 x2 x3 x4 x5 x6 x7 x8 x9 x10 x11 x12 x13 x14 x15)) (ix2 r l) = keyBlock x0 x1 x2 x3 x4 x5 x6 x7 x8 x9 x10 x11 x12 x13 x14 x15 ⟨256 + r.val, by omega⟩ ⟨1024 + l.val, by omega⟩ := by
  have e : k0_pay329 (k0_pay346 x0 x1 x2 x3 x4 x5 x6 x7 x8 x9 x10 x11 x12 x13 x14 x15) (k0_pay217 (k0_pay383 x0 x1 x2 x3 x4 x5 x6 x7 x8 x9 x10 x11 x12 x13 x14 x15)) (k0_pay266 (k0_pay419 x0 x1 x2 x3 x4 x5 x6 x7 x8 x9 x10 x11 x12 x13 x14 x15) (k0_pay424 x0 x1 x2 x3 x4 x5 x6 x7 x8 x9 x10 x11 x12 x13 x14 x15)) (k0_pay436 x0 x1 x2 x3 x4 x5 x6 x7 x8 x9 x10 x11 x12 x13 x14 x15) = keyFirst (mulK (latOf (View.ld x0 r0_27) (View.ld x1 r0_2) (View.ld x3 r0_4) (View.ld x6 r0_7)) (View.ld x8 r0_15)) (backOf (mulJoint (normOf (View.ld x0 r0_27) (View.ld x1 r0_2)) (View.ld x2 r0_3))) (View.ld x12 r0_0) (View.ld x13 r0_0) (View.ld x14 r0_46) (View.ld x15 r0_46) := by
    dsimp only [k0_pay3, k0_pay5, k0_pay6, k0_pay7, k0_pay8, k0_pay9, k0_pay10, k0_pay38, k0_pay39, k0_pay41, k0_pay42, k0_pay47, k0_pay54, k0_pay207, k0_pay208, k0_pay217, k0_pay241, k0_pay246, k0_pay266, k0_pay292, k0_pay329, k0_pay343, k0_pay344, k0_pay346, k0_pay347, k0_pay348, k0_pay349, k0_pay350, k0_pay375, k0_pay376, k0_pay378, k0_pay383, k0_pay416, k0_pay417, k0_pay419, k0_pay424, k0_pay436, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (keyFirst_row (x := View.ld x0 r0_27) (n := View.ld x1 r0_2) (W := View.ld x2 r0_3) (V := View.ld x3 r0_4) (f := View.ld x6 r0_7) (w := View.ld x8 r0_15) (g := View.ld x12 r0_0) (K := View.ld x13 r0_0) (C := View.ld x14 r0_46) (S := View.ld x15 r0_46)
    (fun j => Cert.Tail.ld_rows _ _ r (⟨256 + r.val, by omega⟩ : Fin 512) (by show 256 + r.val = 256 + r.val; omega) j) (fun j => ld_whole _ _ 0 j) (fun j k => ld_whole _ _ j k) (fun j k => ld_whole _ _ j k) (fun j => ld_whole _ _ 0 j) (fun j a => ld_cols (o := 1024) _ _ j a ⟨256 * 4 + a.val, by omega⟩ (by show 256 * 4 + a.val = 1024 + a.val; omega)) (fun j => ld_whole _ _ 0 j) (fun j => ld_whole _ _ 0 j) (fun j => Cert.Tail.ld_rows _ _ r (⟨256 + r.val, by omega⟩ : Fin 512) (by show 256 + r.val = 256 + r.val; omega) j) (fun j => Cert.Tail.ld_rows _ _ r (⟨256 + r.val, by omega⟩ : Fin 512) (by show 256 + r.val = 256 + r.val; omega) j) l).trans
    (keyRow_at (x := (fun j => x0 (ix2 (⟨256 + r.val, by omega⟩ : Fin 512) j))) (n := (fun j => x1 (ix2 0 j))) (W := (fun j k => x2 (ix2 j k))) (V := (fun j k => x3 (ix2 j k))) (f := (fun j => x6 (ix2 0 j))) (w := (fun j k => x8 (ix2 j k))) (g := (fun j => x12 (ix2 0 j))) (K := (fun j => x13 (ix2 0 j))) (C := (fun j => x14 (ix2 (⟨256 + r.val, by omega⟩ : Fin 512) j))) (S := (fun j => x15 (ix2 (⟨256 + r.val, by omega⟩ : Fin 512) j))) 4 0 l ⟨1024 + l.val, by omega⟩ (by show 1024 + l.val = 256 * 4 + 128 * 0 + l.val; omega))

theorem key_1_9 (r : Fin 256) (l : Fin 128) :
    (k0_pay331 (k0_pay346 x0 x1 x2 x3 x4 x5 x6 x7 x8 x9 x10 x11 x12 x13 x14 x15) (k0_pay218 (k0_pay383 x0 x1 x2 x3 x4 x5 x6 x7 x8 x9 x10 x11 x12 x13 x14 x15)) (k0_pay267 (k0_pay419 x0 x1 x2 x3 x4 x5 x6 x7 x8 x9 x10 x11 x12 x13 x14 x15) (k0_pay424 x0 x1 x2 x3 x4 x5 x6 x7 x8 x9 x10 x11 x12 x13 x14 x15)) (k0_pay436 x0 x1 x2 x3 x4 x5 x6 x7 x8 x9 x10 x11 x12 x13 x14 x15)) (ix2 r l) = keyBlock x0 x1 x2 x3 x4 x5 x6 x7 x8 x9 x10 x11 x12 x13 x14 x15 ⟨256 + r.val, by omega⟩ ⟨1152 + l.val, by omega⟩ := by
  have e : k0_pay331 (k0_pay346 x0 x1 x2 x3 x4 x5 x6 x7 x8 x9 x10 x11 x12 x13 x14 x15) (k0_pay218 (k0_pay383 x0 x1 x2 x3 x4 x5 x6 x7 x8 x9 x10 x11 x12 x13 x14 x15)) (k0_pay267 (k0_pay419 x0 x1 x2 x3 x4 x5 x6 x7 x8 x9 x10 x11 x12 x13 x14 x15) (k0_pay424 x0 x1 x2 x3 x4 x5 x6 x7 x8 x9 x10 x11 x12 x13 x14 x15)) (k0_pay436 x0 x1 x2 x3 x4 x5 x6 x7 x8 x9 x10 x11 x12 x13 x14 x15) = keySecond (mulK (latOf (View.ld x0 r0_27) (View.ld x1 r0_2) (View.ld x3 r0_4) (View.ld x6 r0_7)) (View.ld x8 r0_15)) (backOf (mulJoint (normOf (View.ld x0 r0_27) (View.ld x1 r0_2)) (View.ld x2 r0_3))) (View.ld x12 r0_0) (View.ld x13 r0_0) (View.ld x14 r0_46) (View.ld x15 r0_46) := by
    dsimp only [k0_pay3, k0_pay5, k0_pay6, k0_pay7, k0_pay8, k0_pay9, k0_pay10, k0_pay38, k0_pay39, k0_pay41, k0_pay42, k0_pay47, k0_pay54, k0_pay207, k0_pay208, k0_pay218, k0_pay241, k0_pay246, k0_pay267, k0_pay292, k0_pay331, k0_pay343, k0_pay344, k0_pay346, k0_pay347, k0_pay348, k0_pay349, k0_pay350, k0_pay375, k0_pay376, k0_pay378, k0_pay383, k0_pay416, k0_pay417, k0_pay419, k0_pay424, k0_pay436, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (keySecond_row (x := View.ld x0 r0_27) (n := View.ld x1 r0_2) (W := View.ld x2 r0_3) (V := View.ld x3 r0_4) (f := View.ld x6 r0_7) (w := View.ld x8 r0_15) (g := View.ld x12 r0_0) (K := View.ld x13 r0_0) (C := View.ld x14 r0_46) (S := View.ld x15 r0_46)
    (fun j => Cert.Tail.ld_rows _ _ r (⟨256 + r.val, by omega⟩ : Fin 512) (by show 256 + r.val = 256 + r.val; omega) j) (fun j => ld_whole _ _ 0 j) (fun j k => ld_whole _ _ j k) (fun j k => ld_whole _ _ j k) (fun j => ld_whole _ _ 0 j) (fun j a => ld_cols (o := 1024) _ _ j a ⟨256 * 4 + a.val, by omega⟩ (by show 256 * 4 + a.val = 1024 + a.val; omega)) (fun j => ld_whole _ _ 0 j) (fun j => ld_whole _ _ 0 j) (fun j => Cert.Tail.ld_rows _ _ r (⟨256 + r.val, by omega⟩ : Fin 512) (by show 256 + r.val = 256 + r.val; omega) j) (fun j => Cert.Tail.ld_rows _ _ r (⟨256 + r.val, by omega⟩ : Fin 512) (by show 256 + r.val = 256 + r.val; omega) j) l).trans
    (keyRow_at (x := (fun j => x0 (ix2 (⟨256 + r.val, by omega⟩ : Fin 512) j))) (n := (fun j => x1 (ix2 0 j))) (W := (fun j k => x2 (ix2 j k))) (V := (fun j k => x3 (ix2 j k))) (f := (fun j => x6 (ix2 0 j))) (w := (fun j k => x8 (ix2 j k))) (g := (fun j => x12 (ix2 0 j))) (K := (fun j => x13 (ix2 0 j))) (C := (fun j => x14 (ix2 (⟨256 + r.val, by omega⟩ : Fin 512) j))) (S := (fun j => x15 (ix2 (⟨256 + r.val, by omega⟩ : Fin 512) j))) 4 1 l ⟨1152 + l.val, by omega⟩ (by show 1152 + l.val = 256 * 4 + 128 * 1 + l.val; omega))

theorem key_1_10 (r : Fin 256) (l : Fin 128) :
    (k0_pay333 (k0_pay346 x0 x1 x2 x3 x4 x5 x6 x7 x8 x9 x10 x11 x12 x13 x14 x15) (k0_pay219 (k0_pay384 x0 x1 x2 x3 x4 x5 x6 x7 x8 x9 x10 x11 x12 x13 x14 x15)) (k0_pay268 (k0_pay419 x0 x1 x2 x3 x4 x5 x6 x7 x8 x9 x10 x11 x12 x13 x14 x15) (k0_pay425 x0 x1 x2 x3 x4 x5 x6 x7 x8 x9 x10 x11 x12 x13 x14 x15)) (k0_pay436 x0 x1 x2 x3 x4 x5 x6 x7 x8 x9 x10 x11 x12 x13 x14 x15)) (ix2 r l) = keyBlock x0 x1 x2 x3 x4 x5 x6 x7 x8 x9 x10 x11 x12 x13 x14 x15 ⟨256 + r.val, by omega⟩ ⟨1280 + l.val, by omega⟩ := by
  have e : k0_pay333 (k0_pay346 x0 x1 x2 x3 x4 x5 x6 x7 x8 x9 x10 x11 x12 x13 x14 x15) (k0_pay219 (k0_pay384 x0 x1 x2 x3 x4 x5 x6 x7 x8 x9 x10 x11 x12 x13 x14 x15)) (k0_pay268 (k0_pay419 x0 x1 x2 x3 x4 x5 x6 x7 x8 x9 x10 x11 x12 x13 x14 x15) (k0_pay425 x0 x1 x2 x3 x4 x5 x6 x7 x8 x9 x10 x11 x12 x13 x14 x15)) (k0_pay436 x0 x1 x2 x3 x4 x5 x6 x7 x8 x9 x10 x11 x12 x13 x14 x15) = keyFirst (mulK (latOf (View.ld x0 r0_27) (View.ld x1 r0_2) (View.ld x3 r0_4) (View.ld x6 r0_7)) (View.ld x8 r0_16)) (backOf (mulJoint (normOf (View.ld x0 r0_27) (View.ld x1 r0_2)) (View.ld x2 r0_3))) (View.ld x12 r0_0) (View.ld x13 r0_0) (View.ld x14 r0_46) (View.ld x15 r0_46) := by
    dsimp only [k0_pay3, k0_pay5, k0_pay6, k0_pay7, k0_pay8, k0_pay9, k0_pay10, k0_pay38, k0_pay39, k0_pay41, k0_pay42, k0_pay47, k0_pay55, k0_pay207, k0_pay208, k0_pay219, k0_pay241, k0_pay247, k0_pay268, k0_pay292, k0_pay333, k0_pay343, k0_pay344, k0_pay346, k0_pay347, k0_pay348, k0_pay349, k0_pay350, k0_pay375, k0_pay376, k0_pay378, k0_pay384, k0_pay416, k0_pay417, k0_pay419, k0_pay425, k0_pay436, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (keyFirst_row (x := View.ld x0 r0_27) (n := View.ld x1 r0_2) (W := View.ld x2 r0_3) (V := View.ld x3 r0_4) (f := View.ld x6 r0_7) (w := View.ld x8 r0_16) (g := View.ld x12 r0_0) (K := View.ld x13 r0_0) (C := View.ld x14 r0_46) (S := View.ld x15 r0_46)
    (fun j => Cert.Tail.ld_rows _ _ r (⟨256 + r.val, by omega⟩ : Fin 512) (by show 256 + r.val = 256 + r.val; omega) j) (fun j => ld_whole _ _ 0 j) (fun j k => ld_whole _ _ j k) (fun j k => ld_whole _ _ j k) (fun j => ld_whole _ _ 0 j) (fun j a => ld_cols (o := 1280) _ _ j a ⟨256 * 5 + a.val, by omega⟩ (by show 256 * 5 + a.val = 1280 + a.val; omega)) (fun j => ld_whole _ _ 0 j) (fun j => ld_whole _ _ 0 j) (fun j => Cert.Tail.ld_rows _ _ r (⟨256 + r.val, by omega⟩ : Fin 512) (by show 256 + r.val = 256 + r.val; omega) j) (fun j => Cert.Tail.ld_rows _ _ r (⟨256 + r.val, by omega⟩ : Fin 512) (by show 256 + r.val = 256 + r.val; omega) j) l).trans
    (keyRow_at (x := (fun j => x0 (ix2 (⟨256 + r.val, by omega⟩ : Fin 512) j))) (n := (fun j => x1 (ix2 0 j))) (W := (fun j k => x2 (ix2 j k))) (V := (fun j k => x3 (ix2 j k))) (f := (fun j => x6 (ix2 0 j))) (w := (fun j k => x8 (ix2 j k))) (g := (fun j => x12 (ix2 0 j))) (K := (fun j => x13 (ix2 0 j))) (C := (fun j => x14 (ix2 (⟨256 + r.val, by omega⟩ : Fin 512) j))) (S := (fun j => x15 (ix2 (⟨256 + r.val, by omega⟩ : Fin 512) j))) 5 0 l ⟨1280 + l.val, by omega⟩ (by show 1280 + l.val = 256 * 5 + 128 * 0 + l.val; omega))

theorem key_1_11 (r : Fin 256) (l : Fin 128) :
    (k0_pay335 (k0_pay346 x0 x1 x2 x3 x4 x5 x6 x7 x8 x9 x10 x11 x12 x13 x14 x15) (k0_pay220 (k0_pay384 x0 x1 x2 x3 x4 x5 x6 x7 x8 x9 x10 x11 x12 x13 x14 x15)) (k0_pay269 (k0_pay419 x0 x1 x2 x3 x4 x5 x6 x7 x8 x9 x10 x11 x12 x13 x14 x15) (k0_pay425 x0 x1 x2 x3 x4 x5 x6 x7 x8 x9 x10 x11 x12 x13 x14 x15)) (k0_pay436 x0 x1 x2 x3 x4 x5 x6 x7 x8 x9 x10 x11 x12 x13 x14 x15)) (ix2 r l) = keyBlock x0 x1 x2 x3 x4 x5 x6 x7 x8 x9 x10 x11 x12 x13 x14 x15 ⟨256 + r.val, by omega⟩ ⟨1408 + l.val, by omega⟩ := by
  have e : k0_pay335 (k0_pay346 x0 x1 x2 x3 x4 x5 x6 x7 x8 x9 x10 x11 x12 x13 x14 x15) (k0_pay220 (k0_pay384 x0 x1 x2 x3 x4 x5 x6 x7 x8 x9 x10 x11 x12 x13 x14 x15)) (k0_pay269 (k0_pay419 x0 x1 x2 x3 x4 x5 x6 x7 x8 x9 x10 x11 x12 x13 x14 x15) (k0_pay425 x0 x1 x2 x3 x4 x5 x6 x7 x8 x9 x10 x11 x12 x13 x14 x15)) (k0_pay436 x0 x1 x2 x3 x4 x5 x6 x7 x8 x9 x10 x11 x12 x13 x14 x15) = keySecond (mulK (latOf (View.ld x0 r0_27) (View.ld x1 r0_2) (View.ld x3 r0_4) (View.ld x6 r0_7)) (View.ld x8 r0_16)) (backOf (mulJoint (normOf (View.ld x0 r0_27) (View.ld x1 r0_2)) (View.ld x2 r0_3))) (View.ld x12 r0_0) (View.ld x13 r0_0) (View.ld x14 r0_46) (View.ld x15 r0_46) := by
    dsimp only [k0_pay3, k0_pay5, k0_pay6, k0_pay7, k0_pay8, k0_pay9, k0_pay10, k0_pay38, k0_pay39, k0_pay41, k0_pay42, k0_pay47, k0_pay55, k0_pay207, k0_pay208, k0_pay220, k0_pay241, k0_pay247, k0_pay269, k0_pay292, k0_pay335, k0_pay343, k0_pay344, k0_pay346, k0_pay347, k0_pay348, k0_pay349, k0_pay350, k0_pay375, k0_pay376, k0_pay378, k0_pay384, k0_pay416, k0_pay417, k0_pay419, k0_pay425, k0_pay436, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (keySecond_row (x := View.ld x0 r0_27) (n := View.ld x1 r0_2) (W := View.ld x2 r0_3) (V := View.ld x3 r0_4) (f := View.ld x6 r0_7) (w := View.ld x8 r0_16) (g := View.ld x12 r0_0) (K := View.ld x13 r0_0) (C := View.ld x14 r0_46) (S := View.ld x15 r0_46)
    (fun j => Cert.Tail.ld_rows _ _ r (⟨256 + r.val, by omega⟩ : Fin 512) (by show 256 + r.val = 256 + r.val; omega) j) (fun j => ld_whole _ _ 0 j) (fun j k => ld_whole _ _ j k) (fun j k => ld_whole _ _ j k) (fun j => ld_whole _ _ 0 j) (fun j a => ld_cols (o := 1280) _ _ j a ⟨256 * 5 + a.val, by omega⟩ (by show 256 * 5 + a.val = 1280 + a.val; omega)) (fun j => ld_whole _ _ 0 j) (fun j => ld_whole _ _ 0 j) (fun j => Cert.Tail.ld_rows _ _ r (⟨256 + r.val, by omega⟩ : Fin 512) (by show 256 + r.val = 256 + r.val; omega) j) (fun j => Cert.Tail.ld_rows _ _ r (⟨256 + r.val, by omega⟩ : Fin 512) (by show 256 + r.val = 256 + r.val; omega) j) l).trans
    (keyRow_at (x := (fun j => x0 (ix2 (⟨256 + r.val, by omega⟩ : Fin 512) j))) (n := (fun j => x1 (ix2 0 j))) (W := (fun j k => x2 (ix2 j k))) (V := (fun j k => x3 (ix2 j k))) (f := (fun j => x6 (ix2 0 j))) (w := (fun j k => x8 (ix2 j k))) (g := (fun j => x12 (ix2 0 j))) (K := (fun j => x13 (ix2 0 j))) (C := (fun j => x14 (ix2 (⟨256 + r.val, by omega⟩ : Fin 512) j))) (S := (fun j => x15 (ix2 (⟨256 + r.val, by omega⟩ : Fin 512) j))) 5 1 l ⟨1408 + l.val, by omega⟩ (by show 1408 + l.val = 256 * 5 + 128 * 1 + l.val; omega))

theorem key_1_12 (r : Fin 256) (l : Fin 128) :
    (k0_pay337 (k0_pay346 x0 x1 x2 x3 x4 x5 x6 x7 x8 x9 x10 x11 x12 x13 x14 x15) (k0_pay221 (k0_pay385 x0 x1 x2 x3 x4 x5 x6 x7 x8 x9 x10 x11 x12 x13 x14 x15)) (k0_pay270 (k0_pay419 x0 x1 x2 x3 x4 x5 x6 x7 x8 x9 x10 x11 x12 x13 x14 x15) (k0_pay426 x0 x1 x2 x3 x4 x5 x6 x7 x8 x9 x10 x11 x12 x13 x14 x15)) (k0_pay436 x0 x1 x2 x3 x4 x5 x6 x7 x8 x9 x10 x11 x12 x13 x14 x15)) (ix2 r l) = keyBlock x0 x1 x2 x3 x4 x5 x6 x7 x8 x9 x10 x11 x12 x13 x14 x15 ⟨256 + r.val, by omega⟩ ⟨1536 + l.val, by omega⟩ := by
  have e : k0_pay337 (k0_pay346 x0 x1 x2 x3 x4 x5 x6 x7 x8 x9 x10 x11 x12 x13 x14 x15) (k0_pay221 (k0_pay385 x0 x1 x2 x3 x4 x5 x6 x7 x8 x9 x10 x11 x12 x13 x14 x15)) (k0_pay270 (k0_pay419 x0 x1 x2 x3 x4 x5 x6 x7 x8 x9 x10 x11 x12 x13 x14 x15) (k0_pay426 x0 x1 x2 x3 x4 x5 x6 x7 x8 x9 x10 x11 x12 x13 x14 x15)) (k0_pay436 x0 x1 x2 x3 x4 x5 x6 x7 x8 x9 x10 x11 x12 x13 x14 x15) = keyFirst (mulK (latOf (View.ld x0 r0_27) (View.ld x1 r0_2) (View.ld x3 r0_4) (View.ld x6 r0_7)) (View.ld x8 r0_17)) (backOf (mulJoint (normOf (View.ld x0 r0_27) (View.ld x1 r0_2)) (View.ld x2 r0_3))) (View.ld x12 r0_0) (View.ld x13 r0_0) (View.ld x14 r0_46) (View.ld x15 r0_46) := by
    dsimp only [k0_pay3, k0_pay5, k0_pay6, k0_pay7, k0_pay8, k0_pay9, k0_pay10, k0_pay38, k0_pay39, k0_pay41, k0_pay42, k0_pay47, k0_pay56, k0_pay207, k0_pay208, k0_pay221, k0_pay241, k0_pay248, k0_pay270, k0_pay292, k0_pay337, k0_pay343, k0_pay344, k0_pay346, k0_pay347, k0_pay348, k0_pay349, k0_pay350, k0_pay375, k0_pay376, k0_pay378, k0_pay385, k0_pay416, k0_pay417, k0_pay419, k0_pay426, k0_pay436, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (keyFirst_row (x := View.ld x0 r0_27) (n := View.ld x1 r0_2) (W := View.ld x2 r0_3) (V := View.ld x3 r0_4) (f := View.ld x6 r0_7) (w := View.ld x8 r0_17) (g := View.ld x12 r0_0) (K := View.ld x13 r0_0) (C := View.ld x14 r0_46) (S := View.ld x15 r0_46)
    (fun j => Cert.Tail.ld_rows _ _ r (⟨256 + r.val, by omega⟩ : Fin 512) (by show 256 + r.val = 256 + r.val; omega) j) (fun j => ld_whole _ _ 0 j) (fun j k => ld_whole _ _ j k) (fun j k => ld_whole _ _ j k) (fun j => ld_whole _ _ 0 j) (fun j a => ld_cols (o := 1536) _ _ j a ⟨256 * 6 + a.val, by omega⟩ (by show 256 * 6 + a.val = 1536 + a.val; omega)) (fun j => ld_whole _ _ 0 j) (fun j => ld_whole _ _ 0 j) (fun j => Cert.Tail.ld_rows _ _ r (⟨256 + r.val, by omega⟩ : Fin 512) (by show 256 + r.val = 256 + r.val; omega) j) (fun j => Cert.Tail.ld_rows _ _ r (⟨256 + r.val, by omega⟩ : Fin 512) (by show 256 + r.val = 256 + r.val; omega) j) l).trans
    (keyRow_at (x := (fun j => x0 (ix2 (⟨256 + r.val, by omega⟩ : Fin 512) j))) (n := (fun j => x1 (ix2 0 j))) (W := (fun j k => x2 (ix2 j k))) (V := (fun j k => x3 (ix2 j k))) (f := (fun j => x6 (ix2 0 j))) (w := (fun j k => x8 (ix2 j k))) (g := (fun j => x12 (ix2 0 j))) (K := (fun j => x13 (ix2 0 j))) (C := (fun j => x14 (ix2 (⟨256 + r.val, by omega⟩ : Fin 512) j))) (S := (fun j => x15 (ix2 (⟨256 + r.val, by omega⟩ : Fin 512) j))) 6 0 l ⟨1536 + l.val, by omega⟩ (by show 1536 + l.val = 256 * 6 + 128 * 0 + l.val; omega))

theorem key_1_13 (r : Fin 256) (l : Fin 128) :
    (k0_pay339 (k0_pay346 x0 x1 x2 x3 x4 x5 x6 x7 x8 x9 x10 x11 x12 x13 x14 x15) (k0_pay222 (k0_pay385 x0 x1 x2 x3 x4 x5 x6 x7 x8 x9 x10 x11 x12 x13 x14 x15)) (k0_pay271 (k0_pay419 x0 x1 x2 x3 x4 x5 x6 x7 x8 x9 x10 x11 x12 x13 x14 x15) (k0_pay426 x0 x1 x2 x3 x4 x5 x6 x7 x8 x9 x10 x11 x12 x13 x14 x15)) (k0_pay436 x0 x1 x2 x3 x4 x5 x6 x7 x8 x9 x10 x11 x12 x13 x14 x15)) (ix2 r l) = keyBlock x0 x1 x2 x3 x4 x5 x6 x7 x8 x9 x10 x11 x12 x13 x14 x15 ⟨256 + r.val, by omega⟩ ⟨1664 + l.val, by omega⟩ := by
  have e : k0_pay339 (k0_pay346 x0 x1 x2 x3 x4 x5 x6 x7 x8 x9 x10 x11 x12 x13 x14 x15) (k0_pay222 (k0_pay385 x0 x1 x2 x3 x4 x5 x6 x7 x8 x9 x10 x11 x12 x13 x14 x15)) (k0_pay271 (k0_pay419 x0 x1 x2 x3 x4 x5 x6 x7 x8 x9 x10 x11 x12 x13 x14 x15) (k0_pay426 x0 x1 x2 x3 x4 x5 x6 x7 x8 x9 x10 x11 x12 x13 x14 x15)) (k0_pay436 x0 x1 x2 x3 x4 x5 x6 x7 x8 x9 x10 x11 x12 x13 x14 x15) = keySecond (mulK (latOf (View.ld x0 r0_27) (View.ld x1 r0_2) (View.ld x3 r0_4) (View.ld x6 r0_7)) (View.ld x8 r0_17)) (backOf (mulJoint (normOf (View.ld x0 r0_27) (View.ld x1 r0_2)) (View.ld x2 r0_3))) (View.ld x12 r0_0) (View.ld x13 r0_0) (View.ld x14 r0_46) (View.ld x15 r0_46) := by
    dsimp only [k0_pay3, k0_pay5, k0_pay6, k0_pay7, k0_pay8, k0_pay9, k0_pay10, k0_pay38, k0_pay39, k0_pay41, k0_pay42, k0_pay47, k0_pay56, k0_pay207, k0_pay208, k0_pay222, k0_pay241, k0_pay248, k0_pay271, k0_pay292, k0_pay339, k0_pay343, k0_pay344, k0_pay346, k0_pay347, k0_pay348, k0_pay349, k0_pay350, k0_pay375, k0_pay376, k0_pay378, k0_pay385, k0_pay416, k0_pay417, k0_pay419, k0_pay426, k0_pay436, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (keySecond_row (x := View.ld x0 r0_27) (n := View.ld x1 r0_2) (W := View.ld x2 r0_3) (V := View.ld x3 r0_4) (f := View.ld x6 r0_7) (w := View.ld x8 r0_17) (g := View.ld x12 r0_0) (K := View.ld x13 r0_0) (C := View.ld x14 r0_46) (S := View.ld x15 r0_46)
    (fun j => Cert.Tail.ld_rows _ _ r (⟨256 + r.val, by omega⟩ : Fin 512) (by show 256 + r.val = 256 + r.val; omega) j) (fun j => ld_whole _ _ 0 j) (fun j k => ld_whole _ _ j k) (fun j k => ld_whole _ _ j k) (fun j => ld_whole _ _ 0 j) (fun j a => ld_cols (o := 1536) _ _ j a ⟨256 * 6 + a.val, by omega⟩ (by show 256 * 6 + a.val = 1536 + a.val; omega)) (fun j => ld_whole _ _ 0 j) (fun j => ld_whole _ _ 0 j) (fun j => Cert.Tail.ld_rows _ _ r (⟨256 + r.val, by omega⟩ : Fin 512) (by show 256 + r.val = 256 + r.val; omega) j) (fun j => Cert.Tail.ld_rows _ _ r (⟨256 + r.val, by omega⟩ : Fin 512) (by show 256 + r.val = 256 + r.val; omega) j) l).trans
    (keyRow_at (x := (fun j => x0 (ix2 (⟨256 + r.val, by omega⟩ : Fin 512) j))) (n := (fun j => x1 (ix2 0 j))) (W := (fun j k => x2 (ix2 j k))) (V := (fun j k => x3 (ix2 j k))) (f := (fun j => x6 (ix2 0 j))) (w := (fun j k => x8 (ix2 j k))) (g := (fun j => x12 (ix2 0 j))) (K := (fun j => x13 (ix2 0 j))) (C := (fun j => x14 (ix2 (⟨256 + r.val, by omega⟩ : Fin 512) j))) (S := (fun j => x15 (ix2 (⟨256 + r.val, by omega⟩ : Fin 512) j))) 6 1 l ⟨1664 + l.val, by omega⟩ (by show 1664 + l.val = 256 * 6 + 128 * 1 + l.val; omega))

theorem key_1_14 (r : Fin 256) (l : Fin 128) :
    (k0_pay341 (k0_pay346 x0 x1 x2 x3 x4 x5 x6 x7 x8 x9 x10 x11 x12 x13 x14 x15) (k0_pay223 (k0_pay386 x0 x1 x2 x3 x4 x5 x6 x7 x8 x9 x10 x11 x12 x13 x14 x15)) (k0_pay272 (k0_pay419 x0 x1 x2 x3 x4 x5 x6 x7 x8 x9 x10 x11 x12 x13 x14 x15) (k0_pay427 x0 x1 x2 x3 x4 x5 x6 x7 x8 x9 x10 x11 x12 x13 x14 x15)) (k0_pay436 x0 x1 x2 x3 x4 x5 x6 x7 x8 x9 x10 x11 x12 x13 x14 x15)) (ix2 r l) = keyBlock x0 x1 x2 x3 x4 x5 x6 x7 x8 x9 x10 x11 x12 x13 x14 x15 ⟨256 + r.val, by omega⟩ ⟨1792 + l.val, by omega⟩ := by
  have e : k0_pay341 (k0_pay346 x0 x1 x2 x3 x4 x5 x6 x7 x8 x9 x10 x11 x12 x13 x14 x15) (k0_pay223 (k0_pay386 x0 x1 x2 x3 x4 x5 x6 x7 x8 x9 x10 x11 x12 x13 x14 x15)) (k0_pay272 (k0_pay419 x0 x1 x2 x3 x4 x5 x6 x7 x8 x9 x10 x11 x12 x13 x14 x15) (k0_pay427 x0 x1 x2 x3 x4 x5 x6 x7 x8 x9 x10 x11 x12 x13 x14 x15)) (k0_pay436 x0 x1 x2 x3 x4 x5 x6 x7 x8 x9 x10 x11 x12 x13 x14 x15) = keyFirst (mulK (latOf (View.ld x0 r0_27) (View.ld x1 r0_2) (View.ld x3 r0_4) (View.ld x6 r0_7)) (View.ld x8 r0_18)) (backOf (mulJoint (normOf (View.ld x0 r0_27) (View.ld x1 r0_2)) (View.ld x2 r0_3))) (View.ld x12 r0_0) (View.ld x13 r0_0) (View.ld x14 r0_46) (View.ld x15 r0_46) := by
    dsimp only [k0_pay3, k0_pay5, k0_pay6, k0_pay7, k0_pay8, k0_pay9, k0_pay10, k0_pay38, k0_pay39, k0_pay41, k0_pay42, k0_pay47, k0_pay57, k0_pay207, k0_pay208, k0_pay223, k0_pay241, k0_pay249, k0_pay272, k0_pay292, k0_pay341, k0_pay343, k0_pay344, k0_pay346, k0_pay347, k0_pay348, k0_pay349, k0_pay350, k0_pay375, k0_pay376, k0_pay378, k0_pay386, k0_pay416, k0_pay417, k0_pay419, k0_pay427, k0_pay436, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (keyFirst_row (x := View.ld x0 r0_27) (n := View.ld x1 r0_2) (W := View.ld x2 r0_3) (V := View.ld x3 r0_4) (f := View.ld x6 r0_7) (w := View.ld x8 r0_18) (g := View.ld x12 r0_0) (K := View.ld x13 r0_0) (C := View.ld x14 r0_46) (S := View.ld x15 r0_46)
    (fun j => Cert.Tail.ld_rows _ _ r (⟨256 + r.val, by omega⟩ : Fin 512) (by show 256 + r.val = 256 + r.val; omega) j) (fun j => ld_whole _ _ 0 j) (fun j k => ld_whole _ _ j k) (fun j k => ld_whole _ _ j k) (fun j => ld_whole _ _ 0 j) (fun j a => ld_cols (o := 1792) _ _ j a ⟨256 * 7 + a.val, by omega⟩ (by show 256 * 7 + a.val = 1792 + a.val; omega)) (fun j => ld_whole _ _ 0 j) (fun j => ld_whole _ _ 0 j) (fun j => Cert.Tail.ld_rows _ _ r (⟨256 + r.val, by omega⟩ : Fin 512) (by show 256 + r.val = 256 + r.val; omega) j) (fun j => Cert.Tail.ld_rows _ _ r (⟨256 + r.val, by omega⟩ : Fin 512) (by show 256 + r.val = 256 + r.val; omega) j) l).trans
    (keyRow_at (x := (fun j => x0 (ix2 (⟨256 + r.val, by omega⟩ : Fin 512) j))) (n := (fun j => x1 (ix2 0 j))) (W := (fun j k => x2 (ix2 j k))) (V := (fun j k => x3 (ix2 j k))) (f := (fun j => x6 (ix2 0 j))) (w := (fun j k => x8 (ix2 j k))) (g := (fun j => x12 (ix2 0 j))) (K := (fun j => x13 (ix2 0 j))) (C := (fun j => x14 (ix2 (⟨256 + r.val, by omega⟩ : Fin 512) j))) (S := (fun j => x15 (ix2 (⟨256 + r.val, by omega⟩ : Fin 512) j))) 7 0 l ⟨1792 + l.val, by omega⟩ (by show 1792 + l.val = 256 * 7 + 128 * 0 + l.val; omega))

theorem key_1_15 (r : Fin 256) (l : Fin 128) :
    (k0_pay1 (k0_pay346 x0 x1 x2 x3 x4 x5 x6 x7 x8 x9 x10 x11 x12 x13 x14 x15) (k0_pay224 (k0_pay386 x0 x1 x2 x3 x4 x5 x6 x7 x8 x9 x10 x11 x12 x13 x14 x15)) (k0_pay273 (k0_pay419 x0 x1 x2 x3 x4 x5 x6 x7 x8 x9 x10 x11 x12 x13 x14 x15) (k0_pay427 x0 x1 x2 x3 x4 x5 x6 x7 x8 x9 x10 x11 x12 x13 x14 x15)) (k0_pay436 x0 x1 x2 x3 x4 x5 x6 x7 x8 x9 x10 x11 x12 x13 x14 x15)) (ix2 r l) = keyBlock x0 x1 x2 x3 x4 x5 x6 x7 x8 x9 x10 x11 x12 x13 x14 x15 ⟨256 + r.val, by omega⟩ ⟨1920 + l.val, by omega⟩ := by
  have e : k0_pay1 (k0_pay346 x0 x1 x2 x3 x4 x5 x6 x7 x8 x9 x10 x11 x12 x13 x14 x15) (k0_pay224 (k0_pay386 x0 x1 x2 x3 x4 x5 x6 x7 x8 x9 x10 x11 x12 x13 x14 x15)) (k0_pay273 (k0_pay419 x0 x1 x2 x3 x4 x5 x6 x7 x8 x9 x10 x11 x12 x13 x14 x15) (k0_pay427 x0 x1 x2 x3 x4 x5 x6 x7 x8 x9 x10 x11 x12 x13 x14 x15)) (k0_pay436 x0 x1 x2 x3 x4 x5 x6 x7 x8 x9 x10 x11 x12 x13 x14 x15) = keySecond (mulK (latOf (View.ld x0 r0_27) (View.ld x1 r0_2) (View.ld x3 r0_4) (View.ld x6 r0_7)) (View.ld x8 r0_18)) (backOf (mulJoint (normOf (View.ld x0 r0_27) (View.ld x1 r0_2)) (View.ld x2 r0_3))) (View.ld x12 r0_0) (View.ld x13 r0_0) (View.ld x14 r0_46) (View.ld x15 r0_46) := by
    dsimp only [k0_pay1, k0_pay3, k0_pay5, k0_pay6, k0_pay7, k0_pay8, k0_pay9, k0_pay10, k0_pay38, k0_pay39, k0_pay41, k0_pay42, k0_pay47, k0_pay57, k0_pay207, k0_pay208, k0_pay224, k0_pay241, k0_pay249, k0_pay273, k0_pay292, k0_pay343, k0_pay344, k0_pay346, k0_pay347, k0_pay348, k0_pay349, k0_pay350, k0_pay375, k0_pay376, k0_pay378, k0_pay386, k0_pay416, k0_pay417, k0_pay419, k0_pay427, k0_pay436, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact (keySecond_row (x := View.ld x0 r0_27) (n := View.ld x1 r0_2) (W := View.ld x2 r0_3) (V := View.ld x3 r0_4) (f := View.ld x6 r0_7) (w := View.ld x8 r0_18) (g := View.ld x12 r0_0) (K := View.ld x13 r0_0) (C := View.ld x14 r0_46) (S := View.ld x15 r0_46)
    (fun j => Cert.Tail.ld_rows _ _ r (⟨256 + r.val, by omega⟩ : Fin 512) (by show 256 + r.val = 256 + r.val; omega) j) (fun j => ld_whole _ _ 0 j) (fun j k => ld_whole _ _ j k) (fun j k => ld_whole _ _ j k) (fun j => ld_whole _ _ 0 j) (fun j a => ld_cols (o := 1792) _ _ j a ⟨256 * 7 + a.val, by omega⟩ (by show 256 * 7 + a.val = 1792 + a.val; omega)) (fun j => ld_whole _ _ 0 j) (fun j => ld_whole _ _ 0 j) (fun j => Cert.Tail.ld_rows _ _ r (⟨256 + r.val, by omega⟩ : Fin 512) (by show 256 + r.val = 256 + r.val; omega) j) (fun j => Cert.Tail.ld_rows _ _ r (⟨256 + r.val, by omega⟩ : Fin 512) (by show 256 + r.val = 256 + r.val; omega) j) l).trans
    (keyRow_at (x := (fun j => x0 (ix2 (⟨256 + r.val, by omega⟩ : Fin 512) j))) (n := (fun j => x1 (ix2 0 j))) (W := (fun j k => x2 (ix2 j k))) (V := (fun j k => x3 (ix2 j k))) (f := (fun j => x6 (ix2 0 j))) (w := (fun j k => x8 (ix2 j k))) (g := (fun j => x12 (ix2 0 j))) (K := (fun j => x13 (ix2 0 j))) (C := (fun j => x14 (ix2 (⟨256 + r.val, by omega⟩ : Fin 512) j))) (S := (fun j => x15 (ix2 (⟨256 + r.val, by omega⟩ : Fin 512) j))) 7 1 l ⟨1920 + l.val, by omega⟩ (by show 1920 + l.val = 256 * 7 + 128 * 1 + l.val; omega))

/-- A block's keys. -/
theorem out_key (r : Fin 512) (k : Fin 2048) : out0_17 x0 x1 x2 x3 x4 x5 x6 x7 x8 x9 x10 x11 x12 x13 x14 x15 (ix2 r k) = keyBlock x0 x1 x2 x3 x4 x5 x6 x7 x8 x9 x10 x11 x12 x13 x14 x15 r k := by
  unfold out0_17
  refine View.canon_apply_of_pieces (Val := Elt Ideal) (fun i : S512x2048.Idx => keyBlock x0 x1 x2 x3 x4 x5 x6 x7 x8 x9 x10 x11 x12 x13 x14 x15 (i 0) (i 1)) _ (fun p hp x => ?_) (ix2 r k)
    (cover0_17 _ _ _ _ _ _ _ _ _ _ _ _ _ _ _ _ _ _ _ _ _ _ _ _ _ _ _ _ _ _ _ _ (ix2 r k))
  rcases List.mem_cons.mp hp with rfl | hp
  · exact (congrArg (k0_pay1 (k0_pay346 x0 x1 x2 x3 x4 x5 x6 x7 x8 x9 x10 x11 x12 x13 x14 x15) (k0_pay224 (k0_pay386 x0 x1 x2 x3 x4 x5 x6 x7 x8 x9 x10 x11 x12 x13 x14 x15)) (k0_pay273 (k0_pay419 x0 x1 x2 x3 x4 x5 x6 x7 x8 x9 x10 x11 x12 x13 x14 x15) (k0_pay427 x0 x1 x2 x3 x4 x5 x6 x7 x8 x9 x10 x11 x12 x13 x14 x15)) (k0_pay436 x0 x1 x2 x3 x4 x5 x6 x7 x8 x9 x10 x11 x12 x13 x14 x15)) (ix2_eta x).symm).trans ((key_1_15 x0 x1 x2 x3 x4 x5 x6 x7 x8 x9 x10 x11 x12 x13 x14 x15 (x 0) (x 1)).trans (congrArg₂ (keyBlock x0 x1 x2 x3 x4 x5 x6 x7 x8 x9 x10 x11 x12 x13 x14 x15) (Fin.ext (show 256 + (x 0).val = 256 + 1 * (x 0).val by omega)) (Fin.ext (show 1920 + (x 1).val = 1920 + 1 * (x 1).val by omega))))
  rcases List.mem_cons.mp hp with rfl | hp
  · exact (congrArg (k0_pay341 (k0_pay346 x0 x1 x2 x3 x4 x5 x6 x7 x8 x9 x10 x11 x12 x13 x14 x15) (k0_pay223 (k0_pay386 x0 x1 x2 x3 x4 x5 x6 x7 x8 x9 x10 x11 x12 x13 x14 x15)) (k0_pay272 (k0_pay419 x0 x1 x2 x3 x4 x5 x6 x7 x8 x9 x10 x11 x12 x13 x14 x15) (k0_pay427 x0 x1 x2 x3 x4 x5 x6 x7 x8 x9 x10 x11 x12 x13 x14 x15)) (k0_pay436 x0 x1 x2 x3 x4 x5 x6 x7 x8 x9 x10 x11 x12 x13 x14 x15)) (ix2_eta x).symm).trans ((key_1_14 x0 x1 x2 x3 x4 x5 x6 x7 x8 x9 x10 x11 x12 x13 x14 x15 (x 0) (x 1)).trans (congrArg₂ (keyBlock x0 x1 x2 x3 x4 x5 x6 x7 x8 x9 x10 x11 x12 x13 x14 x15) (Fin.ext (show 256 + (x 0).val = 256 + 1 * (x 0).val by omega)) (Fin.ext (show 1792 + (x 1).val = 1792 + 1 * (x 1).val by omega))))
  rcases List.mem_cons.mp hp with rfl | hp
  · exact (congrArg (k0_pay339 (k0_pay346 x0 x1 x2 x3 x4 x5 x6 x7 x8 x9 x10 x11 x12 x13 x14 x15) (k0_pay222 (k0_pay385 x0 x1 x2 x3 x4 x5 x6 x7 x8 x9 x10 x11 x12 x13 x14 x15)) (k0_pay271 (k0_pay419 x0 x1 x2 x3 x4 x5 x6 x7 x8 x9 x10 x11 x12 x13 x14 x15) (k0_pay426 x0 x1 x2 x3 x4 x5 x6 x7 x8 x9 x10 x11 x12 x13 x14 x15)) (k0_pay436 x0 x1 x2 x3 x4 x5 x6 x7 x8 x9 x10 x11 x12 x13 x14 x15)) (ix2_eta x).symm).trans ((key_1_13 x0 x1 x2 x3 x4 x5 x6 x7 x8 x9 x10 x11 x12 x13 x14 x15 (x 0) (x 1)).trans (congrArg₂ (keyBlock x0 x1 x2 x3 x4 x5 x6 x7 x8 x9 x10 x11 x12 x13 x14 x15) (Fin.ext (show 256 + (x 0).val = 256 + 1 * (x 0).val by omega)) (Fin.ext (show 1664 + (x 1).val = 1664 + 1 * (x 1).val by omega))))
  rcases List.mem_cons.mp hp with rfl | hp
  · exact (congrArg (k0_pay337 (k0_pay346 x0 x1 x2 x3 x4 x5 x6 x7 x8 x9 x10 x11 x12 x13 x14 x15) (k0_pay221 (k0_pay385 x0 x1 x2 x3 x4 x5 x6 x7 x8 x9 x10 x11 x12 x13 x14 x15)) (k0_pay270 (k0_pay419 x0 x1 x2 x3 x4 x5 x6 x7 x8 x9 x10 x11 x12 x13 x14 x15) (k0_pay426 x0 x1 x2 x3 x4 x5 x6 x7 x8 x9 x10 x11 x12 x13 x14 x15)) (k0_pay436 x0 x1 x2 x3 x4 x5 x6 x7 x8 x9 x10 x11 x12 x13 x14 x15)) (ix2_eta x).symm).trans ((key_1_12 x0 x1 x2 x3 x4 x5 x6 x7 x8 x9 x10 x11 x12 x13 x14 x15 (x 0) (x 1)).trans (congrArg₂ (keyBlock x0 x1 x2 x3 x4 x5 x6 x7 x8 x9 x10 x11 x12 x13 x14 x15) (Fin.ext (show 256 + (x 0).val = 256 + 1 * (x 0).val by omega)) (Fin.ext (show 1536 + (x 1).val = 1536 + 1 * (x 1).val by omega))))
  rcases List.mem_cons.mp hp with rfl | hp
  · exact (congrArg (k0_pay335 (k0_pay346 x0 x1 x2 x3 x4 x5 x6 x7 x8 x9 x10 x11 x12 x13 x14 x15) (k0_pay220 (k0_pay384 x0 x1 x2 x3 x4 x5 x6 x7 x8 x9 x10 x11 x12 x13 x14 x15)) (k0_pay269 (k0_pay419 x0 x1 x2 x3 x4 x5 x6 x7 x8 x9 x10 x11 x12 x13 x14 x15) (k0_pay425 x0 x1 x2 x3 x4 x5 x6 x7 x8 x9 x10 x11 x12 x13 x14 x15)) (k0_pay436 x0 x1 x2 x3 x4 x5 x6 x7 x8 x9 x10 x11 x12 x13 x14 x15)) (ix2_eta x).symm).trans ((key_1_11 x0 x1 x2 x3 x4 x5 x6 x7 x8 x9 x10 x11 x12 x13 x14 x15 (x 0) (x 1)).trans (congrArg₂ (keyBlock x0 x1 x2 x3 x4 x5 x6 x7 x8 x9 x10 x11 x12 x13 x14 x15) (Fin.ext (show 256 + (x 0).val = 256 + 1 * (x 0).val by omega)) (Fin.ext (show 1408 + (x 1).val = 1408 + 1 * (x 1).val by omega))))
  rcases List.mem_cons.mp hp with rfl | hp
  · exact (congrArg (k0_pay333 (k0_pay346 x0 x1 x2 x3 x4 x5 x6 x7 x8 x9 x10 x11 x12 x13 x14 x15) (k0_pay219 (k0_pay384 x0 x1 x2 x3 x4 x5 x6 x7 x8 x9 x10 x11 x12 x13 x14 x15)) (k0_pay268 (k0_pay419 x0 x1 x2 x3 x4 x5 x6 x7 x8 x9 x10 x11 x12 x13 x14 x15) (k0_pay425 x0 x1 x2 x3 x4 x5 x6 x7 x8 x9 x10 x11 x12 x13 x14 x15)) (k0_pay436 x0 x1 x2 x3 x4 x5 x6 x7 x8 x9 x10 x11 x12 x13 x14 x15)) (ix2_eta x).symm).trans ((key_1_10 x0 x1 x2 x3 x4 x5 x6 x7 x8 x9 x10 x11 x12 x13 x14 x15 (x 0) (x 1)).trans (congrArg₂ (keyBlock x0 x1 x2 x3 x4 x5 x6 x7 x8 x9 x10 x11 x12 x13 x14 x15) (Fin.ext (show 256 + (x 0).val = 256 + 1 * (x 0).val by omega)) (Fin.ext (show 1280 + (x 1).val = 1280 + 1 * (x 1).val by omega))))
  rcases List.mem_cons.mp hp with rfl | hp
  · exact (congrArg (k0_pay331 (k0_pay346 x0 x1 x2 x3 x4 x5 x6 x7 x8 x9 x10 x11 x12 x13 x14 x15) (k0_pay218 (k0_pay383 x0 x1 x2 x3 x4 x5 x6 x7 x8 x9 x10 x11 x12 x13 x14 x15)) (k0_pay267 (k0_pay419 x0 x1 x2 x3 x4 x5 x6 x7 x8 x9 x10 x11 x12 x13 x14 x15) (k0_pay424 x0 x1 x2 x3 x4 x5 x6 x7 x8 x9 x10 x11 x12 x13 x14 x15)) (k0_pay436 x0 x1 x2 x3 x4 x5 x6 x7 x8 x9 x10 x11 x12 x13 x14 x15)) (ix2_eta x).symm).trans ((key_1_9 x0 x1 x2 x3 x4 x5 x6 x7 x8 x9 x10 x11 x12 x13 x14 x15 (x 0) (x 1)).trans (congrArg₂ (keyBlock x0 x1 x2 x3 x4 x5 x6 x7 x8 x9 x10 x11 x12 x13 x14 x15) (Fin.ext (show 256 + (x 0).val = 256 + 1 * (x 0).val by omega)) (Fin.ext (show 1152 + (x 1).val = 1152 + 1 * (x 1).val by omega))))
  rcases List.mem_cons.mp hp with rfl | hp
  · exact (congrArg (k0_pay329 (k0_pay346 x0 x1 x2 x3 x4 x5 x6 x7 x8 x9 x10 x11 x12 x13 x14 x15) (k0_pay217 (k0_pay383 x0 x1 x2 x3 x4 x5 x6 x7 x8 x9 x10 x11 x12 x13 x14 x15)) (k0_pay266 (k0_pay419 x0 x1 x2 x3 x4 x5 x6 x7 x8 x9 x10 x11 x12 x13 x14 x15) (k0_pay424 x0 x1 x2 x3 x4 x5 x6 x7 x8 x9 x10 x11 x12 x13 x14 x15)) (k0_pay436 x0 x1 x2 x3 x4 x5 x6 x7 x8 x9 x10 x11 x12 x13 x14 x15)) (ix2_eta x).symm).trans ((key_1_8 x0 x1 x2 x3 x4 x5 x6 x7 x8 x9 x10 x11 x12 x13 x14 x15 (x 0) (x 1)).trans (congrArg₂ (keyBlock x0 x1 x2 x3 x4 x5 x6 x7 x8 x9 x10 x11 x12 x13 x14 x15) (Fin.ext (show 256 + (x 0).val = 256 + 1 * (x 0).val by omega)) (Fin.ext (show 1024 + (x 1).val = 1024 + 1 * (x 1).val by omega))))
  rcases List.mem_cons.mp hp with rfl | hp
  · exact (congrArg (k0_pay327 (k0_pay346 x0 x1 x2 x3 x4 x5 x6 x7 x8 x9 x10 x11 x12 x13 x14 x15) (k0_pay216 (k0_pay382 x0 x1 x2 x3 x4 x5 x6 x7 x8 x9 x10 x11 x12 x13 x14 x15)) (k0_pay265 (k0_pay419 x0 x1 x2 x3 x4 x5 x6 x7 x8 x9 x10 x11 x12 x13 x14 x15) (k0_pay423 x0 x1 x2 x3 x4 x5 x6 x7 x8 x9 x10 x11 x12 x13 x14 x15)) (k0_pay436 x0 x1 x2 x3 x4 x5 x6 x7 x8 x9 x10 x11 x12 x13 x14 x15)) (ix2_eta x).symm).trans ((key_1_7 x0 x1 x2 x3 x4 x5 x6 x7 x8 x9 x10 x11 x12 x13 x14 x15 (x 0) (x 1)).trans (congrArg₂ (keyBlock x0 x1 x2 x3 x4 x5 x6 x7 x8 x9 x10 x11 x12 x13 x14 x15) (Fin.ext (show 256 + (x 0).val = 256 + 1 * (x 0).val by omega)) (Fin.ext (show 896 + (x 1).val = 896 + 1 * (x 1).val by omega))))
  rcases List.mem_cons.mp hp with rfl | hp
  · exact (congrArg (k0_pay325 (k0_pay346 x0 x1 x2 x3 x4 x5 x6 x7 x8 x9 x10 x11 x12 x13 x14 x15) (k0_pay215 (k0_pay382 x0 x1 x2 x3 x4 x5 x6 x7 x8 x9 x10 x11 x12 x13 x14 x15)) (k0_pay264 (k0_pay419 x0 x1 x2 x3 x4 x5 x6 x7 x8 x9 x10 x11 x12 x13 x14 x15) (k0_pay423 x0 x1 x2 x3 x4 x5 x6 x7 x8 x9 x10 x11 x12 x13 x14 x15)) (k0_pay436 x0 x1 x2 x3 x4 x5 x6 x7 x8 x9 x10 x11 x12 x13 x14 x15)) (ix2_eta x).symm).trans ((key_1_6 x0 x1 x2 x3 x4 x5 x6 x7 x8 x9 x10 x11 x12 x13 x14 x15 (x 0) (x 1)).trans (congrArg₂ (keyBlock x0 x1 x2 x3 x4 x5 x6 x7 x8 x9 x10 x11 x12 x13 x14 x15) (Fin.ext (show 256 + (x 0).val = 256 + 1 * (x 0).val by omega)) (Fin.ext (show 768 + (x 1).val = 768 + 1 * (x 1).val by omega))))
  rcases List.mem_cons.mp hp with rfl | hp
  · exact (congrArg (k0_pay323 (k0_pay346 x0 x1 x2 x3 x4 x5 x6 x7 x8 x9 x10 x11 x12 x13 x14 x15) (k0_pay214 (k0_pay381 x0 x1 x2 x3 x4 x5 x6 x7 x8 x9 x10 x11 x12 x13 x14 x15)) (k0_pay263 (k0_pay419 x0 x1 x2 x3 x4 x5 x6 x7 x8 x9 x10 x11 x12 x13 x14 x15) (k0_pay422 x0 x1 x2 x3 x4 x5 x6 x7 x8 x9 x10 x11 x12 x13 x14 x15)) (k0_pay436 x0 x1 x2 x3 x4 x5 x6 x7 x8 x9 x10 x11 x12 x13 x14 x15)) (ix2_eta x).symm).trans ((key_1_5 x0 x1 x2 x3 x4 x5 x6 x7 x8 x9 x10 x11 x12 x13 x14 x15 (x 0) (x 1)).trans (congrArg₂ (keyBlock x0 x1 x2 x3 x4 x5 x6 x7 x8 x9 x10 x11 x12 x13 x14 x15) (Fin.ext (show 256 + (x 0).val = 256 + 1 * (x 0).val by omega)) (Fin.ext (show 640 + (x 1).val = 640 + 1 * (x 1).val by omega))))
  rcases List.mem_cons.mp hp with rfl | hp
  · exact (congrArg (k0_pay321 (k0_pay346 x0 x1 x2 x3 x4 x5 x6 x7 x8 x9 x10 x11 x12 x13 x14 x15) (k0_pay213 (k0_pay381 x0 x1 x2 x3 x4 x5 x6 x7 x8 x9 x10 x11 x12 x13 x14 x15)) (k0_pay262 (k0_pay419 x0 x1 x2 x3 x4 x5 x6 x7 x8 x9 x10 x11 x12 x13 x14 x15) (k0_pay422 x0 x1 x2 x3 x4 x5 x6 x7 x8 x9 x10 x11 x12 x13 x14 x15)) (k0_pay436 x0 x1 x2 x3 x4 x5 x6 x7 x8 x9 x10 x11 x12 x13 x14 x15)) (ix2_eta x).symm).trans ((key_1_4 x0 x1 x2 x3 x4 x5 x6 x7 x8 x9 x10 x11 x12 x13 x14 x15 (x 0) (x 1)).trans (congrArg₂ (keyBlock x0 x1 x2 x3 x4 x5 x6 x7 x8 x9 x10 x11 x12 x13 x14 x15) (Fin.ext (show 256 + (x 0).val = 256 + 1 * (x 0).val by omega)) (Fin.ext (show 512 + (x 1).val = 512 + 1 * (x 1).val by omega))))
  rcases List.mem_cons.mp hp with rfl | hp
  · exact (congrArg (k0_pay319 (k0_pay346 x0 x1 x2 x3 x4 x5 x6 x7 x8 x9 x10 x11 x12 x13 x14 x15) (k0_pay212 (k0_pay380 x0 x1 x2 x3 x4 x5 x6 x7 x8 x9 x10 x11 x12 x13 x14 x15)) (k0_pay261 (k0_pay419 x0 x1 x2 x3 x4 x5 x6 x7 x8 x9 x10 x11 x12 x13 x14 x15) (k0_pay421 x0 x1 x2 x3 x4 x5 x6 x7 x8 x9 x10 x11 x12 x13 x14 x15)) (k0_pay436 x0 x1 x2 x3 x4 x5 x6 x7 x8 x9 x10 x11 x12 x13 x14 x15)) (ix2_eta x).symm).trans ((key_1_3 x0 x1 x2 x3 x4 x5 x6 x7 x8 x9 x10 x11 x12 x13 x14 x15 (x 0) (x 1)).trans (congrArg₂ (keyBlock x0 x1 x2 x3 x4 x5 x6 x7 x8 x9 x10 x11 x12 x13 x14 x15) (Fin.ext (show 256 + (x 0).val = 256 + 1 * (x 0).val by omega)) (Fin.ext (show 384 + (x 1).val = 384 + 1 * (x 1).val by omega))))
  rcases List.mem_cons.mp hp with rfl | hp
  · exact (congrArg (k0_pay317 (k0_pay346 x0 x1 x2 x3 x4 x5 x6 x7 x8 x9 x10 x11 x12 x13 x14 x15) (k0_pay211 (k0_pay380 x0 x1 x2 x3 x4 x5 x6 x7 x8 x9 x10 x11 x12 x13 x14 x15)) (k0_pay260 (k0_pay419 x0 x1 x2 x3 x4 x5 x6 x7 x8 x9 x10 x11 x12 x13 x14 x15) (k0_pay421 x0 x1 x2 x3 x4 x5 x6 x7 x8 x9 x10 x11 x12 x13 x14 x15)) (k0_pay436 x0 x1 x2 x3 x4 x5 x6 x7 x8 x9 x10 x11 x12 x13 x14 x15)) (ix2_eta x).symm).trans ((key_1_2 x0 x1 x2 x3 x4 x5 x6 x7 x8 x9 x10 x11 x12 x13 x14 x15 (x 0) (x 1)).trans (congrArg₂ (keyBlock x0 x1 x2 x3 x4 x5 x6 x7 x8 x9 x10 x11 x12 x13 x14 x15) (Fin.ext (show 256 + (x 0).val = 256 + 1 * (x 0).val by omega)) (Fin.ext (show 256 + (x 1).val = 256 + 1 * (x 1).val by omega))))
  rcases List.mem_cons.mp hp with rfl | hp
  · exact (congrArg (k0_pay315 (k0_pay346 x0 x1 x2 x3 x4 x5 x6 x7 x8 x9 x10 x11 x12 x13 x14 x15) (k0_pay210 (k0_pay379 x0 x1 x2 x3 x4 x5 x6 x7 x8 x9 x10 x11 x12 x13 x14 x15)) (k0_pay259 (k0_pay419 x0 x1 x2 x3 x4 x5 x6 x7 x8 x9 x10 x11 x12 x13 x14 x15) (k0_pay420 x0 x1 x2 x3 x4 x5 x6 x7 x8 x9 x10 x11 x12 x13 x14 x15)) (k0_pay436 x0 x1 x2 x3 x4 x5 x6 x7 x8 x9 x10 x11 x12 x13 x14 x15)) (ix2_eta x).symm).trans ((key_1_1 x0 x1 x2 x3 x4 x5 x6 x7 x8 x9 x10 x11 x12 x13 x14 x15 (x 0) (x 1)).trans (congrArg₂ (keyBlock x0 x1 x2 x3 x4 x5 x6 x7 x8 x9 x10 x11 x12 x13 x14 x15) (Fin.ext (show 256 + (x 0).val = 256 + 1 * (x 0).val by omega)) (Fin.ext (show 128 + (x 1).val = 128 + 1 * (x 1).val by omega))))
  rcases List.mem_cons.mp hp with rfl | hp
  · exact (congrArg (k0_pay313 (k0_pay346 x0 x1 x2 x3 x4 x5 x6 x7 x8 x9 x10 x11 x12 x13 x14 x15) (k0_pay209 (k0_pay379 x0 x1 x2 x3 x4 x5 x6 x7 x8 x9 x10 x11 x12 x13 x14 x15)) (k0_pay258 (k0_pay419 x0 x1 x2 x3 x4 x5 x6 x7 x8 x9 x10 x11 x12 x13 x14 x15) (k0_pay420 x0 x1 x2 x3 x4 x5 x6 x7 x8 x9 x10 x11 x12 x13 x14 x15)) (k0_pay436 x0 x1 x2 x3 x4 x5 x6 x7 x8 x9 x10 x11 x12 x13 x14 x15)) (ix2_eta x).symm).trans ((key_1_0 x0 x1 x2 x3 x4 x5 x6 x7 x8 x9 x10 x11 x12 x13 x14 x15 (x 0) (x 1)).trans (congrArg₂ (keyBlock x0 x1 x2 x3 x4 x5 x6 x7 x8 x9 x10 x11 x12 x13 x14 x15) (Fin.ext (show 256 + (x 0).val = 256 + 1 * (x 0).val by omega)) (Fin.ext (show 0 + (x 1).val = 0 + 1 * (x 1).val by omega))))
  rcases List.mem_cons.mp hp with rfl | hp
  · exact (congrArg (k0_pay205 (k0_pay346 x0 x1 x2 x3 x4 x5 x6 x7 x8 x9 x10 x11 x12 x13 x14 x15) (k0_pay84 (k0_pay366 x0 x1 x2 x3 x4 x5 x6 x7 x8 x9 x10 x11 x12 x13 x14 x15)) (k0_pay134 (k0_pay398 x0 x1 x2 x3 x4 x5 x6 x7 x8 x9 x10 x11 x12 x13 x14 x15) (k0_pay406 x0 x1 x2 x3 x4 x5 x6 x7 x8 x9 x10 x11 x12 x13 x14 x15)) (k0_pay415 x0 x1 x2 x3 x4 x5 x6 x7 x8 x9 x10 x11 x12 x13 x14 x15)) (ix2_eta x).symm).trans ((key_0_15 x0 x1 x2 x3 x4 x5 x6 x7 x8 x9 x10 x11 x12 x13 x14 x15 (x 0) (x 1)).trans (congrArg₂ (keyBlock x0 x1 x2 x3 x4 x5 x6 x7 x8 x9 x10 x11 x12 x13 x14 x15) (Fin.ext (show (x 0).val = 0 + 1 * (x 0).val by omega)) (Fin.ext (show 1920 + (x 1).val = 1920 + 1 * (x 1).val by omega))))
  rcases List.mem_cons.mp hp with rfl | hp
  · exact (congrArg (k0_pay203 (k0_pay346 x0 x1 x2 x3 x4 x5 x6 x7 x8 x9 x10 x11 x12 x13 x14 x15) (k0_pay83 (k0_pay366 x0 x1 x2 x3 x4 x5 x6 x7 x8 x9 x10 x11 x12 x13 x14 x15)) (k0_pay133 (k0_pay398 x0 x1 x2 x3 x4 x5 x6 x7 x8 x9 x10 x11 x12 x13 x14 x15) (k0_pay406 x0 x1 x2 x3 x4 x5 x6 x7 x8 x9 x10 x11 x12 x13 x14 x15)) (k0_pay415 x0 x1 x2 x3 x4 x5 x6 x7 x8 x9 x10 x11 x12 x13 x14 x15)) (ix2_eta x).symm).trans ((key_0_14 x0 x1 x2 x3 x4 x5 x6 x7 x8 x9 x10 x11 x12 x13 x14 x15 (x 0) (x 1)).trans (congrArg₂ (keyBlock x0 x1 x2 x3 x4 x5 x6 x7 x8 x9 x10 x11 x12 x13 x14 x15) (Fin.ext (show (x 0).val = 0 + 1 * (x 0).val by omega)) (Fin.ext (show 1792 + (x 1).val = 1792 + 1 * (x 1).val by omega))))
  rcases List.mem_cons.mp hp with rfl | hp
  · exact (congrArg (k0_pay200 (k0_pay346 x0 x1 x2 x3 x4 x5 x6 x7 x8 x9 x10 x11 x12 x13 x14 x15) (k0_pay82 (k0_pay365 x0 x1 x2 x3 x4 x5 x6 x7 x8 x9 x10 x11 x12 x13 x14 x15)) (k0_pay132 (k0_pay398 x0 x1 x2 x3 x4 x5 x6 x7 x8 x9 x10 x11 x12 x13 x14 x15) (k0_pay405 x0 x1 x2 x3 x4 x5 x6 x7 x8 x9 x10 x11 x12 x13 x14 x15)) (k0_pay415 x0 x1 x2 x3 x4 x5 x6 x7 x8 x9 x10 x11 x12 x13 x14 x15)) (ix2_eta x).symm).trans ((key_0_13 x0 x1 x2 x3 x4 x5 x6 x7 x8 x9 x10 x11 x12 x13 x14 x15 (x 0) (x 1)).trans (congrArg₂ (keyBlock x0 x1 x2 x3 x4 x5 x6 x7 x8 x9 x10 x11 x12 x13 x14 x15) (Fin.ext (show (x 0).val = 0 + 1 * (x 0).val by omega)) (Fin.ext (show 1664 + (x 1).val = 1664 + 1 * (x 1).val by omega))))
  rcases List.mem_cons.mp hp with rfl | hp
  · exact (congrArg (k0_pay198 (k0_pay346 x0 x1 x2 x3 x4 x5 x6 x7 x8 x9 x10 x11 x12 x13 x14 x15) (k0_pay81 (k0_pay365 x0 x1 x2 x3 x4 x5 x6 x7 x8 x9 x10 x11 x12 x13 x14 x15)) (k0_pay131 (k0_pay398 x0 x1 x2 x3 x4 x5 x6 x7 x8 x9 x10 x11 x12 x13 x14 x15) (k0_pay405 x0 x1 x2 x3 x4 x5 x6 x7 x8 x9 x10 x11 x12 x13 x14 x15)) (k0_pay415 x0 x1 x2 x3 x4 x5 x6 x7 x8 x9 x10 x11 x12 x13 x14 x15)) (ix2_eta x).symm).trans ((key_0_12 x0 x1 x2 x3 x4 x5 x6 x7 x8 x9 x10 x11 x12 x13 x14 x15 (x 0) (x 1)).trans (congrArg₂ (keyBlock x0 x1 x2 x3 x4 x5 x6 x7 x8 x9 x10 x11 x12 x13 x14 x15) (Fin.ext (show (x 0).val = 0 + 1 * (x 0).val by omega)) (Fin.ext (show 1536 + (x 1).val = 1536 + 1 * (x 1).val by omega))))
  rcases List.mem_cons.mp hp with rfl | hp
  · exact (congrArg (k0_pay196 (k0_pay346 x0 x1 x2 x3 x4 x5 x6 x7 x8 x9 x10 x11 x12 x13 x14 x15) (k0_pay80 (k0_pay364 x0 x1 x2 x3 x4 x5 x6 x7 x8 x9 x10 x11 x12 x13 x14 x15)) (k0_pay130 (k0_pay398 x0 x1 x2 x3 x4 x5 x6 x7 x8 x9 x10 x11 x12 x13 x14 x15) (k0_pay404 x0 x1 x2 x3 x4 x5 x6 x7 x8 x9 x10 x11 x12 x13 x14 x15)) (k0_pay415 x0 x1 x2 x3 x4 x5 x6 x7 x8 x9 x10 x11 x12 x13 x14 x15)) (ix2_eta x).symm).trans ((key_0_11 x0 x1 x2 x3 x4 x5 x6 x7 x8 x9 x10 x11 x12 x13 x14 x15 (x 0) (x 1)).trans (congrArg₂ (keyBlock x0 x1 x2 x3 x4 x5 x6 x7 x8 x9 x10 x11 x12 x13 x14 x15) (Fin.ext (show (x 0).val = 0 + 1 * (x 0).val by omega)) (Fin.ext (show 1408 + (x 1).val = 1408 + 1 * (x 1).val by omega))))
  rcases List.mem_cons.mp hp with rfl | hp
  · exact (congrArg (k0_pay194 (k0_pay346 x0 x1 x2 x3 x4 x5 x6 x7 x8 x9 x10 x11 x12 x13 x14 x15) (k0_pay79 (k0_pay364 x0 x1 x2 x3 x4 x5 x6 x7 x8 x9 x10 x11 x12 x13 x14 x15)) (k0_pay129 (k0_pay398 x0 x1 x2 x3 x4 x5 x6 x7 x8 x9 x10 x11 x12 x13 x14 x15) (k0_pay404 x0 x1 x2 x3 x4 x5 x6 x7 x8 x9 x10 x11 x12 x13 x14 x15)) (k0_pay415 x0 x1 x2 x3 x4 x5 x6 x7 x8 x9 x10 x11 x12 x13 x14 x15)) (ix2_eta x).symm).trans ((key_0_10 x0 x1 x2 x3 x4 x5 x6 x7 x8 x9 x10 x11 x12 x13 x14 x15 (x 0) (x 1)).trans (congrArg₂ (keyBlock x0 x1 x2 x3 x4 x5 x6 x7 x8 x9 x10 x11 x12 x13 x14 x15) (Fin.ext (show (x 0).val = 0 + 1 * (x 0).val by omega)) (Fin.ext (show 1280 + (x 1).val = 1280 + 1 * (x 1).val by omega))))
  rcases List.mem_cons.mp hp with rfl | hp
  · exact (congrArg (k0_pay191 (k0_pay346 x0 x1 x2 x3 x4 x5 x6 x7 x8 x9 x10 x11 x12 x13 x14 x15) (k0_pay78 (k0_pay363 x0 x1 x2 x3 x4 x5 x6 x7 x8 x9 x10 x11 x12 x13 x14 x15)) (k0_pay128 (k0_pay398 x0 x1 x2 x3 x4 x5 x6 x7 x8 x9 x10 x11 x12 x13 x14 x15) (k0_pay403 x0 x1 x2 x3 x4 x5 x6 x7 x8 x9 x10 x11 x12 x13 x14 x15)) (k0_pay415 x0 x1 x2 x3 x4 x5 x6 x7 x8 x9 x10 x11 x12 x13 x14 x15)) (ix2_eta x).symm).trans ((key_0_9 x0 x1 x2 x3 x4 x5 x6 x7 x8 x9 x10 x11 x12 x13 x14 x15 (x 0) (x 1)).trans (congrArg₂ (keyBlock x0 x1 x2 x3 x4 x5 x6 x7 x8 x9 x10 x11 x12 x13 x14 x15) (Fin.ext (show (x 0).val = 0 + 1 * (x 0).val by omega)) (Fin.ext (show 1152 + (x 1).val = 1152 + 1 * (x 1).val by omega))))
  rcases List.mem_cons.mp hp with rfl | hp
  · exact (congrArg (k0_pay189 (k0_pay346 x0 x1 x2 x3 x4 x5 x6 x7 x8 x9 x10 x11 x12 x13 x14 x15) (k0_pay77 (k0_pay363 x0 x1 x2 x3 x4 x5 x6 x7 x8 x9 x10 x11 x12 x13 x14 x15)) (k0_pay127 (k0_pay398 x0 x1 x2 x3 x4 x5 x6 x7 x8 x9 x10 x11 x12 x13 x14 x15) (k0_pay403 x0 x1 x2 x3 x4 x5 x6 x7 x8 x9 x10 x11 x12 x13 x14 x15)) (k0_pay415 x0 x1 x2 x3 x4 x5 x6 x7 x8 x9 x10 x11 x12 x13 x14 x15)) (ix2_eta x).symm).trans ((key_0_8 x0 x1 x2 x3 x4 x5 x6 x7 x8 x9 x10 x11 x12 x13 x14 x15 (x 0) (x 1)).trans (congrArg₂ (keyBlock x0 x1 x2 x3 x4 x5 x6 x7 x8 x9 x10 x11 x12 x13 x14 x15) (Fin.ext (show (x 0).val = 0 + 1 * (x 0).val by omega)) (Fin.ext (show 1024 + (x 1).val = 1024 + 1 * (x 1).val by omega))))
  rcases List.mem_cons.mp hp with rfl | hp
  · exact (congrArg (k0_pay187 (k0_pay346 x0 x1 x2 x3 x4 x5 x6 x7 x8 x9 x10 x11 x12 x13 x14 x15) (k0_pay76 (k0_pay362 x0 x1 x2 x3 x4 x5 x6 x7 x8 x9 x10 x11 x12 x13 x14 x15)) (k0_pay126 (k0_pay398 x0 x1 x2 x3 x4 x5 x6 x7 x8 x9 x10 x11 x12 x13 x14 x15) (k0_pay402 x0 x1 x2 x3 x4 x5 x6 x7 x8 x9 x10 x11 x12 x13 x14 x15)) (k0_pay415 x0 x1 x2 x3 x4 x5 x6 x7 x8 x9 x10 x11 x12 x13 x14 x15)) (ix2_eta x).symm).trans ((key_0_7 x0 x1 x2 x3 x4 x5 x6 x7 x8 x9 x10 x11 x12 x13 x14 x15 (x 0) (x 1)).trans (congrArg₂ (keyBlock x0 x1 x2 x3 x4 x5 x6 x7 x8 x9 x10 x11 x12 x13 x14 x15) (Fin.ext (show (x 0).val = 0 + 1 * (x 0).val by omega)) (Fin.ext (show 896 + (x 1).val = 896 + 1 * (x 1).val by omega))))
  rcases List.mem_cons.mp hp with rfl | hp
  · exact (congrArg (k0_pay185 (k0_pay346 x0 x1 x2 x3 x4 x5 x6 x7 x8 x9 x10 x11 x12 x13 x14 x15) (k0_pay75 (k0_pay362 x0 x1 x2 x3 x4 x5 x6 x7 x8 x9 x10 x11 x12 x13 x14 x15)) (k0_pay125 (k0_pay398 x0 x1 x2 x3 x4 x5 x6 x7 x8 x9 x10 x11 x12 x13 x14 x15) (k0_pay402 x0 x1 x2 x3 x4 x5 x6 x7 x8 x9 x10 x11 x12 x13 x14 x15)) (k0_pay415 x0 x1 x2 x3 x4 x5 x6 x7 x8 x9 x10 x11 x12 x13 x14 x15)) (ix2_eta x).symm).trans ((key_0_6 x0 x1 x2 x3 x4 x5 x6 x7 x8 x9 x10 x11 x12 x13 x14 x15 (x 0) (x 1)).trans (congrArg₂ (keyBlock x0 x1 x2 x3 x4 x5 x6 x7 x8 x9 x10 x11 x12 x13 x14 x15) (Fin.ext (show (x 0).val = 0 + 1 * (x 0).val by omega)) (Fin.ext (show 768 + (x 1).val = 768 + 1 * (x 1).val by omega))))
  rcases List.mem_cons.mp hp with rfl | hp
  · exact (congrArg (k0_pay182 (k0_pay346 x0 x1 x2 x3 x4 x5 x6 x7 x8 x9 x10 x11 x12 x13 x14 x15) (k0_pay74 (k0_pay361 x0 x1 x2 x3 x4 x5 x6 x7 x8 x9 x10 x11 x12 x13 x14 x15)) (k0_pay124 (k0_pay398 x0 x1 x2 x3 x4 x5 x6 x7 x8 x9 x10 x11 x12 x13 x14 x15) (k0_pay401 x0 x1 x2 x3 x4 x5 x6 x7 x8 x9 x10 x11 x12 x13 x14 x15)) (k0_pay415 x0 x1 x2 x3 x4 x5 x6 x7 x8 x9 x10 x11 x12 x13 x14 x15)) (ix2_eta x).symm).trans ((key_0_5 x0 x1 x2 x3 x4 x5 x6 x7 x8 x9 x10 x11 x12 x13 x14 x15 (x 0) (x 1)).trans (congrArg₂ (keyBlock x0 x1 x2 x3 x4 x5 x6 x7 x8 x9 x10 x11 x12 x13 x14 x15) (Fin.ext (show (x 0).val = 0 + 1 * (x 0).val by omega)) (Fin.ext (show 640 + (x 1).val = 640 + 1 * (x 1).val by omega))))
  rcases List.mem_cons.mp hp with rfl | hp
  · exact (congrArg (k0_pay180 (k0_pay346 x0 x1 x2 x3 x4 x5 x6 x7 x8 x9 x10 x11 x12 x13 x14 x15) (k0_pay73 (k0_pay361 x0 x1 x2 x3 x4 x5 x6 x7 x8 x9 x10 x11 x12 x13 x14 x15)) (k0_pay123 (k0_pay398 x0 x1 x2 x3 x4 x5 x6 x7 x8 x9 x10 x11 x12 x13 x14 x15) (k0_pay401 x0 x1 x2 x3 x4 x5 x6 x7 x8 x9 x10 x11 x12 x13 x14 x15)) (k0_pay415 x0 x1 x2 x3 x4 x5 x6 x7 x8 x9 x10 x11 x12 x13 x14 x15)) (ix2_eta x).symm).trans ((key_0_4 x0 x1 x2 x3 x4 x5 x6 x7 x8 x9 x10 x11 x12 x13 x14 x15 (x 0) (x 1)).trans (congrArg₂ (keyBlock x0 x1 x2 x3 x4 x5 x6 x7 x8 x9 x10 x11 x12 x13 x14 x15) (Fin.ext (show (x 0).val = 0 + 1 * (x 0).val by omega)) (Fin.ext (show 512 + (x 1).val = 512 + 1 * (x 1).val by omega))))
  rcases List.mem_cons.mp hp with rfl | hp
  · exact (congrArg (k0_pay178 (k0_pay346 x0 x1 x2 x3 x4 x5 x6 x7 x8 x9 x10 x11 x12 x13 x14 x15) (k0_pay72 (k0_pay360 x0 x1 x2 x3 x4 x5 x6 x7 x8 x9 x10 x11 x12 x13 x14 x15)) (k0_pay122 (k0_pay398 x0 x1 x2 x3 x4 x5 x6 x7 x8 x9 x10 x11 x12 x13 x14 x15) (k0_pay400 x0 x1 x2 x3 x4 x5 x6 x7 x8 x9 x10 x11 x12 x13 x14 x15)) (k0_pay415 x0 x1 x2 x3 x4 x5 x6 x7 x8 x9 x10 x11 x12 x13 x14 x15)) (ix2_eta x).symm).trans ((key_0_3 x0 x1 x2 x3 x4 x5 x6 x7 x8 x9 x10 x11 x12 x13 x14 x15 (x 0) (x 1)).trans (congrArg₂ (keyBlock x0 x1 x2 x3 x4 x5 x6 x7 x8 x9 x10 x11 x12 x13 x14 x15) (Fin.ext (show (x 0).val = 0 + 1 * (x 0).val by omega)) (Fin.ext (show 384 + (x 1).val = 384 + 1 * (x 1).val by omega))))
  rcases List.mem_cons.mp hp with rfl | hp
  · exact (congrArg (k0_pay176 (k0_pay346 x0 x1 x2 x3 x4 x5 x6 x7 x8 x9 x10 x11 x12 x13 x14 x15) (k0_pay71 (k0_pay360 x0 x1 x2 x3 x4 x5 x6 x7 x8 x9 x10 x11 x12 x13 x14 x15)) (k0_pay121 (k0_pay398 x0 x1 x2 x3 x4 x5 x6 x7 x8 x9 x10 x11 x12 x13 x14 x15) (k0_pay400 x0 x1 x2 x3 x4 x5 x6 x7 x8 x9 x10 x11 x12 x13 x14 x15)) (k0_pay415 x0 x1 x2 x3 x4 x5 x6 x7 x8 x9 x10 x11 x12 x13 x14 x15)) (ix2_eta x).symm).trans ((key_0_2 x0 x1 x2 x3 x4 x5 x6 x7 x8 x9 x10 x11 x12 x13 x14 x15 (x 0) (x 1)).trans (congrArg₂ (keyBlock x0 x1 x2 x3 x4 x5 x6 x7 x8 x9 x10 x11 x12 x13 x14 x15) (Fin.ext (show (x 0).val = 0 + 1 * (x 0).val by omega)) (Fin.ext (show 256 + (x 1).val = 256 + 1 * (x 1).val by omega))))
  rcases List.mem_cons.mp hp with rfl | hp
  · exact (congrArg (k0_pay173 (k0_pay346 x0 x1 x2 x3 x4 x5 x6 x7 x8 x9 x10 x11 x12 x13 x14 x15) (k0_pay70 (k0_pay359 x0 x1 x2 x3 x4 x5 x6 x7 x8 x9 x10 x11 x12 x13 x14 x15)) (k0_pay120 (k0_pay398 x0 x1 x2 x3 x4 x5 x6 x7 x8 x9 x10 x11 x12 x13 x14 x15) (k0_pay399 x0 x1 x2 x3 x4 x5 x6 x7 x8 x9 x10 x11 x12 x13 x14 x15)) (k0_pay415 x0 x1 x2 x3 x4 x5 x6 x7 x8 x9 x10 x11 x12 x13 x14 x15)) (ix2_eta x).symm).trans ((key_0_1 x0 x1 x2 x3 x4 x5 x6 x7 x8 x9 x10 x11 x12 x13 x14 x15 (x 0) (x 1)).trans (congrArg₂ (keyBlock x0 x1 x2 x3 x4 x5 x6 x7 x8 x9 x10 x11 x12 x13 x14 x15) (Fin.ext (show (x 0).val = 0 + 1 * (x 0).val by omega)) (Fin.ext (show 128 + (x 1).val = 128 + 1 * (x 1).val by omega))))
  obtain rfl := List.mem_singleton.mp hp
  exact (congrArg (k0_pay171 (k0_pay346 x0 x1 x2 x3 x4 x5 x6 x7 x8 x9 x10 x11 x12 x13 x14 x15) (k0_pay69 (k0_pay359 x0 x1 x2 x3 x4 x5 x6 x7 x8 x9 x10 x11 x12 x13 x14 x15)) (k0_pay119 (k0_pay398 x0 x1 x2 x3 x4 x5 x6 x7 x8 x9 x10 x11 x12 x13 x14 x15) (k0_pay399 x0 x1 x2 x3 x4 x5 x6 x7 x8 x9 x10 x11 x12 x13 x14 x15)) (k0_pay415 x0 x1 x2 x3 x4 x5 x6 x7 x8 x9 x10 x11 x12 x13 x14 x15)) (ix2_eta x).symm).trans ((key_0_0 x0 x1 x2 x3 x4 x5 x6 x7 x8 x9 x10 x11 x12 x13 x14 x15 (x 0) (x 1)).trans (congrArg₂ (keyBlock x0 x1 x2 x3 x4 x5 x6 x7 x8 x9 x10 x11 x12 x13 x14 x15) (Fin.ext (show (x 0).val = 0 + 1 * (x 0).val by omega)) (Fin.ext (show 0 + (x 1).val = 0 + 1 * (x 1).val by omega))))

end Cert.FrontIdeal.Rows

end
-- ==== Proof.Front.OutValue.lean ====
/-
  A block's values and gates.
-/
module

public import proofs.«01_k».proof.Proof.Front.Out

@[expose] public section

set_option maxRecDepth 16384

noncomputable section

namespace Cert.FrontIdeal.Rows

open Cert.FrontIdeal Cert.FrontIdeal.Gen Idealize.ShloMosaic Idealize.ShloMosaic.TcCoe Idealize.SL.Sem
open Cert.Front

variable (x0 : Vec Ideal S512x1024 .f32) (x1 : Vec Ideal S1x1024 .f32) (x2 : Vec Ideal S1024x512 .bf16) (x3 : Vec Ideal S1024x256 .bf16) (x4 : Vec Ideal S1024x1024 .bf16) (x5 : Vec Ideal S1x384 .f32) (x6 : Vec Ideal S1x256 .f32) (x7 : Vec Ideal S384x2048 .bf16) (x8 : Vec Ideal S256x2048 .bf16)
    (x9 : Vec Ideal S256x2048 .bf16) (x10 : Vec Ideal S1x2048 .f32) (x11 : Vec Ideal S1x128 .f32) (x12 : Vec Ideal S1x128 .f32) (x13 : Vec Ideal S1x128 .f32) (x14 : Vec Ideal S512x128 .f32) (x15 : Vec Ideal S512x128 .f32)

theorem value_0 (r : Fin 256) (k : Fin 2048) :
    (k0_pay21 (k0_pay354 x0 x1 x2 x3 x4 x5 x6 x7 x8 x9 x10 x11 x12 x13 x14 x15) (k0_pay356 x0 x1 x2 x3 x4 x5 x6 x7 x8 x9 x10 x11 x12 x13 x14 x15) (k0_pay357 x0 x1 x2 x3 x4 x5 x6 x7 x8 x9 x10 x11 x12 x13 x14 x15) (View.ld x9 r0_8) (View.ld x10 r0_9)) (ix2 r k) = valueBlock x0 x1 x2 x3 x4 x5 x6 x7 x8 x9 x10 x11 x12 x13 x14 x15 (⟨r.val, by omega⟩ : Fin 512) k := by
  have e : k0_pay21 (k0_pay354 x0 x1 x2 x3 x4 x5 x6 x7 x8 x9 x10 x11 x12 x13 x14 x15) (k0_pay356 x0 x1 x2 x3 x4 x5 x6 x7 x8 x9 x10 x11 x12 x13 x14 x15) (k0_pay357 x0 x1 x2 x3 x4 x5 x6 x7 x8 x9 x10 x11 x12 x13 x14 x15) (View.ld x9 r0_8) (View.ld x10 r0_9) = valueOf (latOf (View.ld x0 r0_1) (View.ld x1 r0_2) (View.ld x3 r0_4) (View.ld x6 r0_7)) (View.ld x9 r0_8) (View.ld x10 r0_9) := by
    dsimp only [k0_pay12, k0_pay15, k0_pay18, k0_pay19, k0_pay20, k0_pay21, k0_pay352, k0_pay354, k0_pay356, k0_pay357, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact valueOf_row (x := View.ld x0 r0_1) (n := View.ld x1 r0_2) (V := View.ld x3 r0_4) (f := View.ld x6 r0_7) (w := View.ld x9 r0_8) (o := View.ld x10 r0_9)
    (fun j => Cert.Tail.ld_rows _ _ r (⟨r.val, by omega⟩ : Fin 512) (by show r.val = 0 + r.val; omega) j) (fun j => ld_whole _ _ 0 j) (fun j k => ld_whole _ _ j k) (fun j => ld_whole _ _ 0 j) (fun j k => ld_whole _ _ j k) (fun j => ld_whole _ _ 0 j) k

theorem value_1 (r : Fin 256) (k : Fin 2048) :
    (k0_pay48 (k0_pay376 x0 x1 x2 x3 x4 x5 x6 x7 x8 x9 x10 x11 x12 x13 x14 x15) (View.ld x6 r0_7) (View.ld x9 r0_8) (View.ld x10 r0_9)) (ix2 r k) = valueBlock x0 x1 x2 x3 x4 x5 x6 x7 x8 x9 x10 x11 x12 x13 x14 x15 (⟨256 + r.val, by omega⟩ : Fin 512) k := by
  have e : k0_pay48 (k0_pay376 x0 x1 x2 x3 x4 x5 x6 x7 x8 x9 x10 x11 x12 x13 x14 x15) (View.ld x6 r0_7) (View.ld x9 r0_8) (View.ld x10 r0_9) = valueOf (latOf (View.ld x0 r0_27) (View.ld x1 r0_2) (View.ld x3 r0_4) (View.ld x6 r0_7)) (View.ld x9 r0_8) (View.ld x10 r0_9) := by
    dsimp only [k0_pay38, k0_pay42, k0_pay47, k0_pay48, k0_pay376, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact valueOf_row (x := View.ld x0 r0_27) (n := View.ld x1 r0_2) (V := View.ld x3 r0_4) (f := View.ld x6 r0_7) (w := View.ld x9 r0_8) (o := View.ld x10 r0_9)
    (fun j => Cert.Tail.ld_rows _ _ r (⟨256 + r.val, by omega⟩ : Fin 512) (by show 256 + r.val = 256 + r.val; omega) j) (fun j => ld_whole _ _ 0 j) (fun j k => ld_whole _ _ j k) (fun j => ld_whole _ _ 0 j) (fun j k => ld_whole _ _ j k) (fun j => ld_whole _ _ 0 j) k

/-- A block's values. -/
theorem out_value (r : Fin 512) (k : Fin 2048) : out0_18 x0 x1 x2 x3 x4 x5 x6 x7 x8 x9 x10 x11 x12 x13 x14 x15 (ix2 r k) = valueBlock x0 x1 x2 x3 x4 x5 x6 x7 x8 x9 x10 x11 x12 x13 x14 x15 r k := by
  unfold out0_18
  refine View.canon_apply_of_pieces (Val := Elt Ideal) (fun i : S512x2048.Idx => valueBlock x0 x1 x2 x3 x4 x5 x6 x7 x8 x9 x10 x11 x12 x13 x14 x15 (i 0) (i 1)) _ (fun p hp x => ?_) (ix2 r k)
    (cover0_18 _ _ (ix2 r k))
  rcases List.mem_cons.mp hp with rfl | hp
  · exact (congrArg (k0_pay48 (k0_pay376 x0 x1 x2 x3 x4 x5 x6 x7 x8 x9 x10 x11 x12 x13 x14 x15) (View.ld x6 r0_7) (View.ld x9 r0_8) (View.ld x10 r0_9)) (ix2_eta x).symm).trans ((value_1 x0 x1 x2 x3 x4 x5 x6 x7 x8 x9 x10 x11 x12 x13 x14 x15 (x 0) (x 1)).trans (congrArg₂ (valueBlock x0 x1 x2 x3 x4 x5 x6 x7 x8 x9 x10 x11 x12 x13 x14 x15) (Fin.ext (show 256 + (x 0).val = 256 + 1 * (x 0).val by omega)) (Fin.ext (show (x 1).val = 0 + 1 * (x 1).val by omega))))
  obtain rfl := List.mem_singleton.mp hp
  exact (congrArg (k0_pay21 (k0_pay354 x0 x1 x2 x3 x4 x5 x6 x7 x8 x9 x10 x11 x12 x13 x14 x15) (k0_pay356 x0 x1 x2 x3 x4 x5 x6 x7 x8 x9 x10 x11 x12 x13 x14 x15) (k0_pay357 x0 x1 x2 x3 x4 x5 x6 x7 x8 x9 x10 x11 x12 x13 x14 x15) (View.ld x9 r0_8) (View.ld x10 r0_9)) (ix2_eta x).symm).trans ((value_0 x0 x1 x2 x3 x4 x5 x6 x7 x8 x9 x10 x11 x12 x13 x14 x15 (x 0) (x 1)).trans (congrArg₂ (valueBlock x0 x1 x2 x3 x4 x5 x6 x7 x8 x9 x10 x11 x12 x13 x14 x15) (Fin.ext (show (x 0).val = 0 + 1 * (x 0).val by omega)) (Fin.ext (show (x 1).val = 0 + 1 * (x 1).val by omega))))

theorem gate_0 (r : Fin 256) (k : Fin 1024) :
    (k0_pay16 (k0_pay352 x0 x1 x2 x3 x4 x5 x6 x7 x8 x9 x10 x11 x12 x13 x14 x15) (View.ld x4 r0_5)) (ix2 r k) = gateBlock x0 x1 x2 x3 x4 x5 x6 x7 x8 x9 x10 x11 x12 x13 x14 x15 (⟨r.val, by omega⟩ : Fin 512) k := by
  have e : k0_pay16 (k0_pay352 x0 x1 x2 x3 x4 x5 x6 x7 x8 x9 x10 x11 x12 x13 x14 x15) (View.ld x4 r0_5) = (truncf .bf16 (mulGate (normOf (View.ld x0 r0_1) (View.ld x1 r0_2)) (View.ld x4 r0_5)) bitsLt_bf16_f32 : FVec Ideal S256x1024 .bf16) := by
    dsimp only [k0_pay12, k0_pay16, k0_pay352, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact gate_row (x := View.ld x0 r0_1) (n := View.ld x1 r0_2) (w := View.ld x4 r0_5)
    (fun j => Cert.Tail.ld_rows _ _ r (⟨r.val, by omega⟩ : Fin 512) (by show r.val = 0 + r.val; omega) j) (fun j => ld_whole _ _ 0 j) (fun j k => ld_whole _ _ j k) k

theorem gate_1 (r : Fin 256) (k : Fin 1024) :
    (k0_pay43 (View.ld x0 r0_27) (View.ld x1 r0_2) (View.ld x4 r0_5)) (ix2 r k) = gateBlock x0 x1 x2 x3 x4 x5 x6 x7 x8 x9 x10 x11 x12 x13 x14 x15 (⟨256 + r.val, by omega⟩ : Fin 512) k := by
  have e : k0_pay43 (View.ld x0 r0_27) (View.ld x1 r0_2) (View.ld x4 r0_5) = (truncf .bf16 (mulGate (normOf (View.ld x0 r0_27) (View.ld x1 r0_2)) (View.ld x4 r0_5)) bitsLt_bf16_f32 : FVec Ideal S256x1024 .bf16) := by
    dsimp only [k0_pay38, k0_pay43, normOf, normQ, normKV, mulJoint, mulKV, mulGate, mulQ, mulK, mulV, rowIx, colIx, rowHead, colHead, onesK, onesQ, realLane, backOf, cqOf, row128, turnOf, squaresOf, backSq, halfFirst, keyFirst, queryFirst, halfSecond, keySecond, querySecond, latOf, queryLatOf, valueOf]
  rw [e]
  exact gate_row (x := View.ld x0 r0_27) (n := View.ld x1 r0_2) (w := View.ld x4 r0_5)
    (fun j => Cert.Tail.ld_rows _ _ r (⟨256 + r.val, by omega⟩ : Fin 512) (by show 256 + r.val = 256 + r.val; omega) j) (fun j => ld_whole _ _ 0 j) (fun j k => ld_whole _ _ j k) k

/-- A block's gates. -/
theorem out_gate (r : Fin 512) (k : Fin 1024) : out0_19 x0 x1 x2 x3 x4 x5 x6 x7 x8 x9 x10 x11 x12 x13 x14 x15 (ix2 r k) = gateBlock x0 x1 x2 x3 x4 x5 x6 x7 x8 x9 x10 x11 x12 x13 x14 x15 r k := by
  unfold out0_19
  refine View.canon_apply_of_pieces (Val := Elt Ideal) (fun i : S512x1024.Idx => gateBlock x0 x1 x2 x3 x4 x5 x6 x7 x8 x9 x10 x11 x12 x13 x14 x15 (i 0) (i 1)) _ (fun p hp x => ?_) (ix2 r k)
    (cover0_19 _ _ (ix2 r k))
  rcases List.mem_cons.mp hp with rfl | hp
  · exact (congrArg (k0_pay43 (View.ld x0 r0_27) (View.ld x1 r0_2) (View.ld x4 r0_5)) (ix2_eta x).symm).trans ((gate_1 x0 x1 x2 x3 x4 x5 x6 x7 x8 x9 x10 x11 x12 x13 x14 x15 (x 0) (x 1)).trans (congrArg₂ (gateBlock x0 x1 x2 x3 x4 x5 x6 x7 x8 x9 x10 x11 x12 x13 x14 x15) (Fin.ext (show 256 + (x 0).val = 256 + 1 * (x 0).val by omega)) (Fin.ext (show (x 1).val = 0 + 1 * (x 1).val by omega))))
  obtain rfl := List.mem_singleton.mp hp
  exact (congrArg (k0_pay16 (k0_pay352 x0 x1 x2 x3 x4 x5 x6 x7 x8 x9 x10 x11 x12 x13 x14 x15) (View.ld x4 r0_5)) (ix2_eta x).symm).trans ((gate_0 x0 x1 x2 x3 x4 x5 x6 x7 x8 x9 x10 x11 x12 x13 x14 x15 (x 0) (x 1)).trans (congrArg₂ (gateBlock x0 x1 x2 x3 x4 x5 x6 x7 x8 x9 x10 x11 x12 x13 x14 x15) (Fin.ext (show (x 0).val = 0 + 1 * (x 0).val by omega)) (Fin.ext (show (x 1).val = 0 + 1 * (x 1).val by omega))))

end Cert.FrontIdeal.Rows

end
-- ==== Proof.Front.Host.lean ====
/-
  The arrays that the call reads, as the operations before it leave them.
-/
module

public import proofs.«01_k».proof.Proof.Front.Math
public import proofs.«01_k».proof.Proof.Gen.FrontIdeal.Value
public import Idealize.ShloMosaic.Lib.StableHlo.ReadAt

@[expose] public section

set_option maxRecDepth 16384

noncomputable section

namespace Cert.FrontIdeal.Rows

open Cert.FrontIdeal Cert.FrontIdeal.Gen Idealize.ShloMosaic Idealize.ShloMosaic.TcCoe Idealize.SL.Sem
open Cert.Front

/-- Whether a head is the second of its pair, as the index words tell it. -/
def oddWord (h : ℕ) : BitVec 1 :=
  let two : BitVec 32 := Scalar.select (IntOp.cmpi CmpIPredicate.eq (2#32) 0#32) (1#32) (2#32)
  let rest : BitVec 32 := IntOp.remsi ArithUnit.host (BitVec.ofNat 32 h) two
  IntOp.cmpi CmpIPredicate.eq
    (Scalar.select
      (IntOp.andi (IntOp.cmpi CmpIPredicate.ne (IntOp.cmpi CmpIPredicate.slt rest 0#32) (IntOp.cmpi CmpIPredicate.slt two 0#32)) (IntOp.cmpi CmpIPredicate.ne rest 0#32))
      (IntOp.addi rest two) rest)
    1#32

theorem oddWord_eq (h : ℕ) (hh : h < 16) : oddWord h = if h % 2 = 1 then 1#1 else 0#1 := by
  have : ∀ h : Fin 16, oddWord h.val = if h.val % 2 = 1 then 1#1 else 0#1 := by decide +kernel
  exact this ⟨h, hh⟩

theorem below64 (l : ℕ) (hl : l < 128) : IntOp.cmpi CmpIPredicate.slt (BitVec.ofNat 32 l) 64#32 = if l < 64 then 1#1 else 0#1 := by
  have : ∀ l : Fin 128, IntOp.cmpi CmpIPredicate.slt (BitVec.ofNat 32 l.val) 64#32 = if l.val < 64 then 1#1 else 0#1 := by decide +kernel
  exact this ⟨l, hl⟩

theorem below96 (l : ℕ) (hl : l < 128) : IntOp.cmpi CmpIPredicate.slt (BitVec.ofNat 32 l) 96#32 = if l < 96 then 1#1 else 0#1 := by
  have : ∀ l : Fin 128, IntOp.cmpi CmpIPredicate.slt (BitVec.ofNat 32 l.val) 96#32 = if l.val < 96 then 1#1 else 0#1 := by decide +kernel
  exact this ⟨l, hl⟩

theorem select_word {α : Type} (p : Prop) [Decidable p] (a b : α) : Scalar.select (if p then 1#1 else 0#1) a b = if p then a else b := by
  split_ifs <;> rfl

theorem uitofp_word (p : Prop) [Decidable p] : FloatOps.uitofp (F := Ideal) FTy.f32 (if p then 1#1 else 0#1) = (if p then 1 else 0 : EReal) := by
  split_ifs
  · exact (by norm_num [FloatOps.uitofp] : FloatOps.uitofp (F := Ideal) FTy.f32 1#1 = (1 : EReal))
  · exact (by norm_num [FloatOps.uitofp] : FloatOps.uitofp (F := Ideal) FTy.f32 0#1 = (0 : EReal))

theorem ix2_same {a b : ℕ} {j : Fin a} {k k' : Fin b} (h : k.val = k'.val) : ix2 j k = ix2 j k' := by
  obtain rfl : k = k' := Fin.ext h
  rfl

theorem ix1_same {b : ℕ} {k k' : Fin b} (h : k.val = k'.val) : ix1 k = ix1 k' := by
  obtain rfl : k = k' := Fin.ext h
  rfl

theorem cos_zero : Ideal.cos 0 = 1 := by
  rw [← EReal.coe_zero, Ideal.cos_coe, Real.cos_zero, EReal.coe_one]

theorem sin_zero : Ideal.sin 0 = 0 := by
  rw [← EReal.coe_zero, Ideal.sin_coe, Real.sin_zero]

theorem sitofp_zero : FloatOps.sitofp (F := Ideal) FTy.f32 0#32 = (0 : EReal) := by
  norm_num [FloatOps.sitofp]

/-- The weights and the ones of a pair's value lanes. -/
def valueWeight (w : Fin 2048 → EReal) (k : Fin 2048) : EReal :=
  if k.val / 128 % 2 = 1 then (if k.val % 128 < 64 then 0 else w k) else (if h : k.val % 128 < 64 then w ⟨k.val + 64, by omega⟩ else 0)
def valueOne (k : Fin 2048) : EReal :=
  if k.val / 128 % 2 = 1 then (if k.val % 128 < 64 then 1 else 0) else (if k.val % 128 < 64 then 0 else 1)

section

variable (m : (ℓ : Loc nD τ sig) → Buf (Elt Ideal) ℓ) (c : Dev nD)

theorem ln_at (k : Fin 1024) : (V m c main_v87 (ix2 0 k) : EReal) = m ((c : Thread nD τ).loc main_arg2) (ix1 k) := by
  unfold V
  after_reads_at

theorem query_norm_at (k : Fin 384) : (V m c main_v88 (ix2 0 k) : EReal) = m ((c : Thread nD τ).loc main_arg4) (ix1 k) := by
  unfold V
  after_reads_at

theorem latent_norm_at (k : Fin 256) : (V m c main_v89 (ix2 0 k) : EReal) = m ((c : Thread nD τ).loc main_arg5) (ix1 k) := by
  unfold V
  after_reads_at

theorem latent_weight_at (j : Fin 1024) (k : Fin 256) : (V m c main_v39 (ix2 j k) : EReal) = m ((c : Thread nD τ).loc main_arg3) (ix2 j ⟨384 + k.val, by omega⟩) := by
  unfold V
  after_reads_at

theorem gate_weight_at (j : Fin 1024) (k : Fin 1024) : (V m c main_v49 (ix2 j k) : EReal) = m ((c : Thread nD τ).loc main_arg3) (ix2 j ⟨672 + k.val, by omega⟩) := by
  unfold V
  after_reads_at

theorem joint_weight_at (j : Fin 1024) (k : Fin 384) : (V m c main_v47 (ix2 j (⟨k.val, by omega⟩ : Fin 512)) : EReal) = m ((c : Thread nD τ).loc main_arg3) (ix2 j ⟨k.val, by omega⟩) := by
  unfold V
  after_reads_at
  after_reads_at

theorem rotary_weight_at (j : Fin 1024) (l : Fin 128) : (V m c main_v47 (ix2 j (⟨384 + l.val, by omega⟩ : Fin 512)) : EReal) = back (fun i : Fin 96 => m ((c : Thread nD τ).loc main_arg3) (ix2 j ⟨576 + i.val, by omega⟩)) l := by
  unfold V
  after_reads_at
  after_reads_at
  unfold back spread
  by_cases h0 : l.val < 64
  · rw [dif_pos (show l.val < 96 by omega), if_pos h0]
    after_reads_at
    rw [dif_neg (show ¬ (64 ≤ l.val ∧ l.val - 64 < 32) by omega)]
    exact sitofp_zero
  rw [if_neg h0]
  by_cases h1 : l.val < 96
  · rw [dif_pos h1, dif_pos h1]
    after_reads_at
    rw [dif_pos (show 64 ≤ l.val ∧ l.val - 64 < 32 by omega)]
    exact congrArg (m (c, Proc.tc.devRef main_arg3)) (show ix2 j (⟨640 + (l.val - 64), by omega⟩ : Fin 1696) = ix2 j (⟨576 + l.val, by omega⟩ : Fin 1696) from ix2_same (show 640 + (l.val - 64) = 576 + l.val by omega))
  rw [dif_neg h1, dif_neg h1]
  by_cases h2 : l.val < 112
  · rw [dif_pos (show l.val - 96 < 16 by omega), dif_pos h2]
    after_reads_at
    rw [dif_pos (show l.val - 96 < 32 by omega)]
    exact congrArg (m (c, Proc.tc.devRef main_arg3)) (show ix2 j (⟨640 + (l.val - 96), by omega⟩ : Fin 1696) = ix2 j (⟨576 + (l.val - 32), by omega⟩ : Fin 1696) from ix2_same (show 640 + (l.val - 96) = 576 + (l.val - 32) by omega))
  · rw [dif_neg (show ¬ l.val - 96 < 16 by omega), dif_neg h2]
    after_reads_at

theorem query_gain_at (l : Fin 128) : (V m c main_v93 (ix2 0 l) : EReal) = spread (fun i => m ((c : Thread nD τ).loc main_arg8) (ix1 i)) l := by
  unfold V spread
  after_reads_at
  by_cases h1 : l.val < 96
  · rw [dif_pos h1, dif_pos h1]
    after_reads_at
  rw [dif_neg h1, dif_neg h1]
  by_cases h2 : l.val < 112
  · rw [dif_pos (show l.val - 96 < 16 by omega), dif_pos h2]
    after_reads_at
    exact congrArg (m (c, Proc.tc.devRef main_arg8)) (show ix1 (⟨64 + (l.val - 96), by omega⟩ : Fin 96) = ix1 (⟨l.val - 32, by omega⟩ : Fin 96) from ix1_same (show 64 + (l.val - 96) = l.val - 32 by omega))
  · rw [dif_neg (show ¬ l.val - 96 < 16 by omega), dif_neg h2]
    after_reads_at

theorem key_gain_at (l : Fin 128) : (V m c main_v97 (ix2 0 l) : EReal) = spread (fun i => m ((c : Thread nD τ).loc main_arg9) (ix1 i)) l := by
  unfold V spread
  after_reads_at
  by_cases h1 : l.val < 96
  · rw [dif_pos h1, dif_pos h1]
    after_reads_at
  rw [dif_neg h1, dif_neg h1]
  by_cases h2 : l.val < 112
  · rw [dif_pos (show l.val - 96 < 16 by omega), dif_pos h2]
    after_reads_at
    exact congrArg (m (c, Proc.tc.devRef main_arg9)) (show ix1 (⟨64 + (l.val - 96), by omega⟩ : Fin 96) = ix1 (⟨l.val - 32, by omega⟩ : Fin 96) from ix1_same (show 64 + (l.val - 96) = l.val - 32 by omega))
  · rw [dif_neg (show ¬ l.val - 96 < 16 by omega), dif_neg h2]
    after_reads_at

theorem keep_at (l : Fin 128) : (V m c main_v102 (ix2 0 l) : EReal) = (if l.val < 96 then 1 else 0 : EReal) := by
  unfold V
  after_reads_at
  rw [below96 _ l.isLt]
  exact uitofp_word _

theorem query_weight_at (j : Fin 384) (k : Fin 2048) : (V m c main_v55 (ix2 j k) : EReal) = spread (fun i : Fin 96 => m ((c : Thread nD τ).loc main_arg6) (ix2 j ⟨96 * (k.val / 128) + i.val, by omega⟩)) ⟨k.val % 128, by omega⟩ := by
  unfold V spread
  after_reads_at
  by_cases h1 : k.val % 128 < 96
  · rw [dif_pos h1, dif_pos h1]
    after_reads_at
    exact congrArg (m (c, Proc.tc.devRef main_arg6)) (show ix2 j (⟨k.val / 128 * 96 + k.val % 128, by omega⟩ : Fin 1536) = ix2 j (⟨96 * (k.val / 128) + k.val % 128, by omega⟩ : Fin 1536) from ix2_same (show k.val / 128 * 96 + k.val % 128 = 96 * (k.val / 128) + k.val % 128 by omega))
  rw [dif_neg h1, dif_neg h1]
  by_cases h2 : k.val % 128 < 112
  · rw [dif_pos (show k.val % 128 - 96 < 16 by omega), dif_pos h2]
    after_reads_at
    exact congrArg (m (c, Proc.tc.devRef main_arg6)) (show ix2 j (⟨k.val / 128 * 96 + (64 + (k.val % 128 - 96)), by omega⟩ : Fin 1536) = ix2 j (⟨96 * (k.val / 128) + (k.val % 128 - 32), by omega⟩ : Fin 1536) from ix2_same (show k.val / 128 * 96 + (64 + (k.val % 128 - 96)) = 96 * (k.val / 128) + (k.val % 128 - 32) by omega))
  · rw [dif_neg (show ¬ k.val % 128 - 96 < 16 by omega), dif_neg h2]
    after_reads_at

theorem key_index (a b : ℕ) (hb : b < 64) : (a * 64 + b) / 64 * 128 + (a * 64 + b) % 64 = 128 * a + b := by omega

theorem key_weight_at (j : Fin 256) (k : Fin 2048) : (V m c main_v62 (ix2 j k) : EReal) = front (fun i : Fin 96 => m ((c : Thread nD τ).loc main_arg7) (ix2 j ⟨128 * (k.val / 128) + i.val, by omega⟩)) ⟨k.val % 128, by omega⟩ := by
  unfold V
  after_reads_at
  unfold front
  by_cases h : k.val % 128 < 64
  · have e := key_index (k.val / 128) (k.val % 128) h
    refine (dif_pos (show k.val / 128 < 16 ∧ k.val % 128 < 64 from ⟨by omega, h⟩)).trans ?_
    refine Eq.trans ?_ (dif_pos h).symm
    exact congrArg (m (c, Proc.tc.devRef main_arg7)) (show ix2 j (⟨(k.val / 128 * 64 + k.val % 128) / 64 * 128 + (k.val / 128 * 64 + k.val % 128) % 64, by rw [e]; omega⟩ : Fin 2048) = ix2 j (⟨128 * (k.val / 128) + k.val % 128, by omega⟩ : Fin 2048) from ix2_same e)
  · rw [dif_neg (show ¬ (k.val / 128 < 16 ∧ k.val % 128 < 64) from fun h' => h h'.2), dif_neg h]
    exact sitofp_zero

theorem value_weight_at (j : Fin 256) (k : Fin 2048) : (V m c main_v75 (ix2 j k) : EReal) = valueWeight (fun k => m ((c : Thread nD τ).loc main_arg7) (ix2 j k)) k := by
  unfold V valueWeight
  after_reads_at
  refine Eq.trans (b := Scalar.select (oddWord (k.val / 128)) _ _) rfl ?_
  rw [oddWord_eq _ (by omega), select_word]
  by_cases h : k.val / 128 % 2 = 1
  · rw [if_pos h, if_pos h]
    by_cases h' : k.val % 128 < 64
    · rw [dif_pos h', if_pos h']
      after_reads_at
    · rw [dif_neg h', if_neg h']
      after_reads_at
      exact congrArg (m (c, Proc.tc.devRef main_arg7)) (show ix2 j (⟨k.val / 128 * 128 + (64 + (k.val % 128 - 64)), by omega⟩ : Fin 2048) = ix2 j k from ix2_same (show k.val / 128 * 128 + (64 + (k.val % 128 - 64)) = k.val by omega))
  · rw [if_neg h, if_neg h]
    by_cases h' : k.val % 128 < 64
    · rw [dif_pos h', dif_pos h']
      after_reads_at
      exact congrArg (m (c, Proc.tc.devRef main_arg7)) (show ix2 j (⟨k.val / 128 * 128 + (64 + k.val % 128), by omega⟩ : Fin 2048) = ix2 j (⟨k.val + 64, by omega⟩ : Fin 2048) from ix2_same (show k.val / 128 * 128 + (64 + k.val % 128) = k.val + 64 by omega))
    · rw [dif_neg h', dif_neg h']
      after_reads_at

theorem value_one_at (k : Fin 2048) : (V m c main_v86 (ix2 0 k) : EReal) = valueOne k := by
  unfold V valueOne
  after_reads_at
  rw [id]
  pointwise
  refine Eq.trans (b := Scalar.select (IntOp.cmpi .ne (IntOp.cmpi .slt (BitVec.ofNat 32 (k.val % 128)) 64#32) (oddWord (k.val / 128))) _ _) rfl ?_
  rw [oddWord_eq _ (by omega), below64 _ (by omega)]
  split_ifs <;> simp [Scalar.select, IntOp.cmpi]

/-- The angle of a token's lane. -/
def angle (p : BitVec 32) (d : Fin 16) : EReal :=
  FloatOps.sitofp (F := Ideal) FTy.f32 p * Ideal.div 1 (Ideal.pow (Ideal.ofBits .f32 0x461C4000#32) (Ideal.div (FloatOps.sitofp (F := Ideal) FTy.f32 (BitVec.ofNat 32 d.val)) (Ideal.ofBits .f32 0x41800000#32)))

theorem cos_at (i : Fin 16384) (l : Fin 128) : (V m c main_v34 (ix2 i l) : EReal) = cosLanes (fun d => Ideal.cos (angle (m ((c : Thread nD τ).loc main_arg1) (ix2 ⟨i.val / 2048, by omega⟩ ⟨i.val % 2048, by omega⟩)) d)) l := by
  unfold V cosLanes
  after_reads_at
  rw [below96 _ l.isLt, uitofp_word]
  split_ifs <;> after_reads_at
  all_goals
    unfold angle
    by_cases h1 : l.val < 64
    · simp [h1, show l.val < 96 by omega, cos_zero, sin_zero]
    by_cases h2 : l.val < 80
    · simp [h1, h2, show l.val < 96 by omega, show l.val - 64 < 16 by omega]
    by_cases h3 : l.val < 96
    · simp [h1, h2, h3, show ¬l.val - 64 < 16 by omega, show l.val - 80 < 16 by omega, Nat.sub_sub]
    · simp [h1, h2, h3]

theorem sin_at (i : Fin 16384) (l : Fin 128) : (V m c main_v37 (ix2 i l) : EReal) = sinLanes (fun d => Ideal.sin (angle (m ((c : Thread nD τ).loc main_arg1) (ix2 ⟨i.val / 2048, by omega⟩ ⟨i.val % 2048, by omega⟩)) d)) l := by
  unfold V sinLanes
  after_reads_at
  rw [below96 _ l.isLt, uitofp_word]
  split_ifs <;> after_reads_at
  all_goals
    unfold angle
    by_cases h1 : l.val < 64
    · simp [h1, show l.val < 96 by omega, cos_zero, sin_zero]
    by_cases h2 : l.val < 80
    · simp [h1, h2, show l.val < 96 by omega, show l.val - 64 < 16 by omega]
    by_cases h3 : l.val < 96
    · simp [h1, h2, h3, show ¬l.val - 64 < 16 by omega, show l.val - 80 < 16 by omega, Nat.sub_sub]
    · simp [h1, h2, h3]

end

end Cert.FrontIdeal.Rows

end
-- ==== Proof.Front.Whole.lean ====
/-
  A token's results from the row and the weights as the model has them.
-/
module

public import proofs.«01_k».proof.Proof.Front.Out
public import proofs.«01_k».proof.Proof.Front.Host

@[expose] public section

noncomputable section

namespace Cert.FrontIdeal.Rows

open Cert.FrontIdeal Idealize.ShloMosaic
open Cert.Front

section

variable (x n : Fin 1024 → EReal) (W : Fin 1024 → Fin 1696 → EReal)

/-- The latents of the queries, and of the keys and values. -/
def queryLatent (f : Fin 384 → EReal) : Fin 384 → EReal := normed (Ideal.ofBits .f32 0x43C00000#32) (fun l => proj (hidRow x n) W ⟨l.val, by omega⟩) f
def latent (f : Fin 256 → EReal) : Fin 256 → EReal := normed (Ideal.ofBits .f32 0x43800000#32) (fun l => proj (hidRow x n) W ⟨384 + l.val, by omega⟩) f

/-- A head's query, and a head's key: the keys of the head before the rotary lanes that the heads share. -/
def queryHead (f : Fin 384 → EReal) (U : Fin 384 → Fin 1536 → EReal) (h : Fin 16) (i : Fin 96) : EReal := proj (queryLatent x n W f) U ⟨96 * h.val + i.val, by omega⟩
def keyHead (f : Fin 256 → EReal) (U : Fin 256 → Fin 2048 → EReal) (h : Fin 16) (i : Fin 96) : EReal :=
  if i.val < 64 then proj (latent x n W f) U ⟨128 * h.val + i.val, by omega⟩ else proj (hidRow x n) W ⟨576 + i.val, by omega⟩

abbrev headIx (k : Fin 2048) : Fin 16 := ⟨k.val / 128, by omega⟩

def queryAt (f : Fin 384 → EReal) (U : Fin 384 → Fin 1536 → EReal) (g : Fin 96 → EReal) (c s : Fin 16 → EReal) (k : Fin 2048) : EReal :=
  laid (queryHead x n W f U (headIx k)) g c s (laneOf k)
def keyAt (f : Fin 256 → EReal) (U : Fin 256 → Fin 2048 → EReal) (g : Fin 96 → EReal) (c s : Fin 16 → EReal) (k : Fin 2048) : EReal :=
  laid (keyHead x n W f U (headIx k)) g c s (laneOf k)
def valueAt (f : Fin 256 → EReal) (U : Fin 256 → Fin 2048 → EReal) (k : Fin 2048) : EReal :=
  if k.val / 128 % 2 = 1 then (if k.val % 128 < 64 then 1 else proj (latent x n W f) U k)
  else if h : k.val % 128 < 64 then proj (latent x n W f) U ⟨k.val + 64, by omega⟩ else 1
def gateAt (k : Fin 1024) : EReal := proj (hidRow x n) W ⟨672 + k.val, by omega⟩

end

theorem sum_spread {n : ℕ} (h : Fin n → EReal) (w : Fin n → Fin 96 → EReal) (l : Fin 128) :
    ∑ j, h j * spread (w j) l = spread (fun i => ∑ j, h j * w j i) l := by
  unfold spread
  split_ifs
  · rfl
  · rfl
  · simp

theorem sum_front {n : ℕ} (h : Fin n → EReal) (w : Fin n → Fin 96 → EReal) (l : Fin 128) :
    ∑ j, h j * front (w j) l = front (fun i => ∑ j, h j * w j i) l := by
  unfold front
  split_ifs
  · rfl
  · simp

theorem sum_back {n : ℕ} (h : Fin n → EReal) (w : Fin n → Fin 96 → EReal) (l : Fin 128) :
    ∑ j, h j * back (w j) l = back (fun i => ∑ j, h j * w j i) l := by
  unfold back
  split_ifs
  · simp
  · exact sum_spread h w l

theorem pairCol_head (k : Fin 2048) (l : Fin 128) : (pairCol k (lane (headOf k) l)).val / 128 = k.val / 128 := by
  show (256 * (k.val / 256) + (128 * (k.val / 128 % 2) + l.val)) / 128 = k.val / 128
  omega

theorem pairCol_lane (k : Fin 2048) (l : Fin 128) : (pairCol k (lane (headOf k) l)).val % 128 = l.val := by
  show (256 * (k.val / 256) + (128 * (k.val / 128 % 2) + l.val)) % 128 = l.val
  omega

section

variable {x n : Fin 1024 → EReal} {W : Fin 1024 → Fin 1696 → EReal}

theorem queryRow_eq {J : Fin 1024 → Fin 512 → EReal} {f : Fin 384 → EReal} {w : Fin 384 → Fin 2048 → EReal} {U : Fin 384 → Fin 1536 → EReal}
    {G C S : Fin 128 → EReal} {g : Fin 96 → EReal} {c s : Fin 16 → EReal}
    (hJ : ∀ j (k : Fin 384), J j ⟨k.val, by omega⟩ = W j ⟨k.val, by omega⟩)
    (hw : ∀ j k, w j k = spread (fun i => U j ⟨96 * (k.val / 128) + i.val, by omega⟩) ⟨k.val % 128, by omega⟩)
    (hG : ∀ l, G l = spread g l) (hC : ∀ l, C l = cosLanes c l) (hS : ∀ l, S l = sinLanes s l) (k : Fin 2048) :
    queryRow x n J f w G C S k = queryAt x n W f U g c s k := by
  refine queryLane_eq _ _ _ _ _ _ _ _ _ (fun l => ?_) hG hC hS _
  have e : queryLatRow x n J f = queryLatent x n W f := by
    unfold queryLatRow queryLatent
    congr 1
    funext l
    unfold proj
    exact Finset.sum_congr rfl fun j _ => congrArg (hidRow x n j * ·) (hJ j l)
  rw [e]
  refine Eq.trans ?_ (sum_spread (queryLatent x n W f) (fun j i => U j ⟨96 * (k.val / 128) + i.val, by omega⟩) l)
  refine Finset.sum_congr rfl fun j _ => congrArg (queryLatent x n W f j * ·) ((hw j _).trans ?_)
  have h := pairCol_head k l
  simp only [h, pairCol_lane k l]

theorem latRow_eq {V : Fin 1024 → Fin 256 → EReal} {f : Fin 256 → EReal} (hV : ∀ j (k : Fin 256), V j k = W j ⟨384 + k.val, by omega⟩) :
    latRow x n V f = latent x n W f := by
  unfold latRow latent
  congr 1
  funext l
  unfold proj
  exact Finset.sum_congr rfl fun j _ => congrArg (hidRow x n j * ·) (hV j l)

theorem keyRow_eq {J : Fin 1024 → Fin 512 → EReal} {V : Fin 1024 → Fin 256 → EReal} {f : Fin 256 → EReal} {w U : Fin 256 → Fin 2048 → EReal}
    {G K C S : Fin 128 → EReal} {g : Fin 96 → EReal} {c s : Fin 16 → EReal}
    (hJ : ∀ j (l : Fin 128), J j ⟨384 + l.val, by omega⟩ = back (fun i => W j ⟨576 + i.val, by omega⟩) l)
    (hV : ∀ j (k : Fin 256), V j k = W j ⟨384 + k.val, by omega⟩)
    (hw : ∀ j k, w j k = front (fun i => U j ⟨128 * (k.val / 128) + i.val, by omega⟩) ⟨k.val % 128, by omega⟩)
    (hG : ∀ l, G l = spread g l) (hK : ∀ l, K l = if l.val < 96 then 1 else 0) (hC : ∀ l, C l = cosLanes c l) (hS : ∀ l, S l = sinLanes s l) (k : Fin 2048) :
    keyRow x n J V f w G K C S k = keyAt x n W f U g c s k := by
  refine keyLane_eq _ _ _ _ _ _ _ _ _ _ _ (fun l => ?_) (fun l => ?_) hG hK hC hS _
  · rw [latRow_eq hV]
    refine Eq.trans (b := front (fun i => ∑ j, latent x n W f j * U j ⟨128 * (k.val / 128) + i.val, by omega⟩) l) ?_ ?_
    · refine Eq.trans ?_ (sum_front (latent x n W f) (fun j i => U j ⟨128 * (k.val / 128) + i.val, by omega⟩) l)
      refine Finset.sum_congr rfl fun j _ => congrArg (latent x n W f j * ·) ((hw j _).trans ?_)
      have h := pairCol_head k l
      simp only [h, pairCol_lane k l]
    · unfold front
      split_ifs with h
      · exact (if_pos h).symm
      · rfl
  · refine Eq.trans (b := back (fun i => ∑ j, hidRow x n j * W j ⟨576 + i.val, by omega⟩) l) ?_ ?_
    · refine Eq.trans ?_ (sum_back (hidRow x n) (fun j i => W j ⟨576 + i.val, by omega⟩) l)
      show (∑ j, hidRow x n j * J j ⟨384 + l.val, by omega⟩) = _
      exact Finset.sum_congr rfl fun j _ => congrArg (hidRow x n j * ·) (hJ j l)
    · unfold back spread
      split_ifs with h h' h''
      · rfl
      · exact (if_neg h).symm
      · exact (if_neg (show ¬ l.val - 32 < 64 by omega)).symm
      · rfl

theorem valueRow_eq {V : Fin 1024 → Fin 256 → EReal} {f : Fin 256 → EReal} {w U : Fin 256 → Fin 2048 → EReal} {o : Fin 2048 → EReal}
    (hV : ∀ j (k : Fin 256), V j k = W j ⟨384 + k.val, by omega⟩) (hw : ∀ j k, w j k = valueWeight (U j) k) (ho : ∀ k, o k = valueOne k) (k : Fin 2048) :
    valueRow x n V f w o k = valueAt x n W f U k := by
  unfold valueRow valueAt
  rw [latRow_eq hV, ho]
  unfold proj
  simp only [hw]
  unfold valueWeight valueOne
  split_ifs <;> simp

end

end Cert.FrontIdeal.Rows

end
-- ==== Proof.Front.Kernel.lean ====
/-
  The call's results over the whole run: each token's queries, keys, values and gate.
-/
module

public import proofs.«01_k».proof.Proof.Front.OutQuery
public import proofs.«01_k».proof.Proof.Front.OutKey
public import proofs.«01_k».proof.Proof.Front.OutValue
public import proofs.«01_k».proof.Proof.Front.Whole

@[expose] public section

set_option maxRecDepth 16384

noncomputable section

namespace Cert.FrontIdeal.Rows

open Cert.FrontIdeal Cert.FrontIdeal.Gen Cert.FrontIdeal.Value Idealize.ShloMosaic Idealize.ShloMosaic.TcCoe Idealize.SL.Sem
open Cert.Front

/-- A token's cosines and sines. -/
def cosines (P : Vec Ideal S8x2048 .i32) (i : Fin 16384) (d : Fin 16) : EReal := Ideal.cos (angle (P (ix2 ⟨i.val / 2048, by omega⟩ ⟨i.val % 2048, by omega⟩)) d)
def sines (P : Vec Ideal S8x2048 .i32) (i : Fin 16384) (d : Fin 16) : EReal := Ideal.sin (angle (P (ix2 ⟨i.val / 2048, by omega⟩ ⟨i.val % 2048, by omega⟩)) d)

/-- The four results from the arrays. -/
def queries (X : FVec Ideal S16384x1024 .f32) (P : Vec Ideal S8x2048 .i32) (N : FVec Ideal S1024 .f32) (W : FVec Ideal S1024x1696 .f32) (Q : FVec Ideal S384 .f32) (U : FVec Ideal S384x1536 .f32)
    (G : FVec Ideal S96 .f32) : FVec Ideal S16384x2048 .bf16 := fun y =>
  queryAt (fun j => X (ix2 (y 0) j)) (fun j => N (ix1 j)) (fun j k => W (ix2 j k)) (fun j => Q (ix1 j)) (fun j k => U (ix2 j k)) (fun j => G (ix1 j)) (cosines P (y 0)) (sines P (y 0)) (y 1)
def keys (X : FVec Ideal S16384x1024 .f32) (P : Vec Ideal S8x2048 .i32) (N : FVec Ideal S1024 .f32) (W : FVec Ideal S1024x1696 .f32) (L : FVec Ideal S256 .f32) (U : FVec Ideal S256x2048 .f32)
    (G : FVec Ideal S96 .f32) : FVec Ideal S16384x2048 .bf16 := fun y =>
  keyAt (fun j => X (ix2 (y 0) j)) (fun j => N (ix1 j)) (fun j k => W (ix2 j k)) (fun j => L (ix1 j)) (fun j k => U (ix2 j k)) (fun j => G (ix1 j)) (cosines P (y 0)) (sines P (y 0)) (y 1)
def values (X : FVec Ideal S16384x1024 .f32) (N : FVec Ideal S1024 .f32) (W : FVec Ideal S1024x1696 .f32) (L : FVec Ideal S256 .f32) (U : FVec Ideal S256x2048 .f32) :
    FVec Ideal S16384x2048 .bf16 := fun y =>
  valueAt (fun j => X (ix2 (y 0) j)) (fun j => N (ix1 j)) (fun j k => W (ix2 j k)) (fun j => L (ix1 j)) (fun j k => U (ix2 j k)) (y 1)
def gates (X : FVec Ideal S16384x1024 .f32) (N : FVec Ideal S1024 .f32) (W : FVec Ideal S1024x1696 .f32) : FVec Ideal S16384x1024 .bf16 := fun y =>
  gateAt (fun j => X (ix2 (y 0) j)) (fun j => N (ix1 j)) (fun j k => W (ix2 j k)) (y 1)

section

variable (m : (ℓ : Loc nD τ sig) → Buf (Elt Ideal) ℓ)

theorem windows : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![t.val, 0] ∧ win0_15.index t = ![t.val, 0] ∧ win0_16.index t = ![t.val, 0] ∧ win0_17.index t = ![t.val, 0] ∧ win0_18.index t = ![t.val, 0] ∧ win0_19.index t = ![t.val, 0] :=
  (by decide +kernel : ∀ t : Fin grid0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![t.val, 0] ∧ win0_15.index t = ![t.val, 0] ∧ win0_16.index t = ![t.val, 0] ∧ win0_17.index t = ![t.val, 0] ∧ win0_18.index t = ![t.val, 0] ∧ win0_19.index t = ![t.val, 0])

/-- The token of a point's row. -/
abbrev token (t : Fin cfg0.N) (r : Fin 512) : Fin 16384 := ⟨512 * t.val + r.val, by have : t.val < 32 := lt_of_lt_of_eq t.isLt (show cfg0.N = 32 from N_0); omega⟩

theorem block0 (c : Dev nD) (t : Fin cfg0.N) (r : Fin 512) (j : Fin 1024) : iblk m c 0 t (ix2 r j) = m ((c : Thread nD τ).loc main_arg0) (ix2 (token t r) j) := by
  have h := (windows t).1
  blk_ext! [iblk, V, h]

theorem block1 (c : Dev nD) (t : Fin cfg0.N) (j : Fin 1024) : iblk m c 1 t (ix2 0 j) = V m c main_v87 (ix2 0 j) := by
  have h := (windows t).2.1
  blk_ext! [iblk, h]

theorem block2 (c : Dev nD) (t : Fin cfg0.N) (r : Fin 1024) (j : Fin 512) : iblk m c 2 t (ix2 r j) = V m c main_v47 (ix2 r j) := by
  have h := (windows t).2.2.1
  blk_ext! [iblk, h]

theorem block3 (c : Dev nD) (t : Fin cfg0.N) (r : Fin 1024) (j : Fin 256) : iblk m c 3 t (ix2 r j) = V m c main_v39 (ix2 r j) := by
  have h := (windows t).2.2.2.1
  blk_ext! [iblk, h]

theorem block4 (c : Dev nD) (t : Fin cfg0.N) (r : Fin 1024) (j : Fin 1024) : iblk m c 4 t (ix2 r j) = V m c main_v49 (ix2 r j) := by
  have h := (windows t).2.2.2.2.1
  blk_ext! [iblk, h]

theorem block5 (c : Dev nD) (t : Fin cfg0.N) (j : Fin 384) : iblk m c 5 t (ix2 0 j) = V m c main_v88 (ix2 0 j) := by
  have h := (windows t).2.2.2.2.2.1
  blk_ext! [iblk, h]

theorem block6 (c : Dev nD) (t : Fin cfg0.N) (j : Fin 256) : iblk m c 6 t (ix2 0 j) = V m c main_v89 (ix2 0 j) := by
  have h := (windows t).2.2.2.2.2.2.1
  blk_ext! [iblk, h]

theorem block7 (c : Dev nD) (t : Fin cfg0.N) (r : Fin 384) (j : Fin 2048) : iblk m c 7 t (ix2 r j) = V m c main_v55 (ix2 r j) := by
  have h := (windows t).2.2.2.2.2.2.2.1
  blk_ext! [iblk, h]

theorem block8 (c : Dev nD) (t : Fin cfg0.N) (r : Fin 256) (j : Fin 2048) : iblk m c 8 t (ix2 r j) = V m c main_v62 (ix2 r j) := by
  have h := (windows t).2.2.2.2.2.2.2.2.1
  blk_ext! [iblk, h]

theorem block9 (c : Dev nD) (t : Fin cfg0.N) (r : Fin 256) (j : Fin 2048) : iblk m c 9 t (ix2 r j) = V m c main_v75 (ix2 r j) := by
  have h := (windows t).2.2.2.2.2.2.2.2.2.1
  blk_ext! [iblk, h]

theorem block10 (c : Dev nD) (t : Fin cfg0.N) (j : Fin 2048) : iblk m c 10 t (ix2 0 j) = V m c main_v86 (ix2 0 j) := by
  have h := (windows t).2.2.2.2.2.2.2.2.2.2.1
  blk_ext! [iblk, h]

theorem block11 (c : Dev nD) (t : Fin cfg0.N) (j : Fin 128) : iblk m c 11 t (ix2 0 j) = V m c main_v93 (ix2 0 j) := by
  have h := (windows t).2.2.2.2.2.2.2.2.2.2.2.1
  blk_ext! [iblk, h]

theorem block12 (c : Dev nD) (t : Fin cfg0.N) (j : Fin 128) : iblk m c 12 t (ix2 0 j) = V m c main_v97 (ix2 0 j) := by
  have h := (windows t).2.2.2.2.2.2.2.2.2.2.2.2.1
  blk_ext! [iblk, h]

theorem block13 (c : Dev nD) (t : Fin cfg0.N) (j : Fin 128) : iblk m c 13 t (ix2 0 j) = V m c main_v102 (ix2 0 j) := by
  have h := (windows t).2.2.2.2.2.2.2.2.2.2.2.2.2.1
  blk_ext! [iblk, h]

theorem block14 (c : Dev nD) (t : Fin cfg0.N) (r : Fin 512) (j : Fin 128) : iblk m c 14 t (ix2 r j) = V m c main_v34 (ix2 (token t r) j) := by
  have h := (windows t).2.2.2.2.2.2.2.2.2.2.2.2.2.2.1
  blk_ext! [iblk, h]

theorem block15 (c : Dev nD) (t : Fin cfg0.N) (r : Fin 512) (j : Fin 128) : iblk m c 15 t (ix2 r j) = V m c main_v37 (ix2 (token t r) j) := by
  have h := (windows t).2.2.2.2.2.2.2.2.2.2.2.2.2.2.2.1
  blk_ext! [iblk, h]

theorem emb16_apply (t : Fin cfg0.N) (r : Fin 512) (k : Fin 2048) : ((cfg0.win 16).blk t).view.emb (ix2 r k) = ix2 (token t r) k := by
  have h := (windows t).2.2.2.2.2.2.2.2.2.2.2.2.2.2.2.2.1
  blk_ext [h]

theorem emb17_apply (t : Fin cfg0.N) (r : Fin 512) (k : Fin 2048) : ((cfg0.win 17).blk t).view.emb (ix2 r k) = ix2 (token t r) k := by
  have h := (windows t).2.2.2.2.2.2.2.2.2.2.2.2.2.2.2.2.2.1
  blk_ext [h]

theorem emb18_apply (t : Fin cfg0.N) (r : Fin 512) (k : Fin 2048) : ((cfg0.win 18).blk t).view.emb (ix2 r k) = ix2 (token t r) k := by
  have h := (windows t).2.2.2.2.2.2.2.2.2.2.2.2.2.2.2.2.2.2.1
  blk_ext [h]

theorem emb19_apply (t : Fin cfg0.N) (r : Fin 512) (k : Fin 1024) : ((cfg0.win 19).blk t).view.emb (ix2 r k) = ix2 (token t r) k := by
  have h := (windows t).2.2.2.2.2.2.2.2.2.2.2.2.2.2.2.2.2.2.2
  blk_ext [h]

/-! The point's rows from the arrays. -/

theorem row_eq (c : Dev nD) (t : Fin cfg0.N) (r : Fin 512) : (fun j => (iblk m c 0 t (ix2 r j) : EReal)) = fun j => m ((c : Thread nD τ).loc main_arg0) (ix2 (token t r) j) := funext fun j => block0 m c t r j
theorem ln_eq (c : Dev nD) (t : Fin cfg0.N) : (fun j => (iblk m c 1 t (ix2 0 j) : EReal)) = fun j => m ((c : Thread nD τ).loc main_arg2) (ix1 j) := funext fun j => (block1 m c t j).trans (ln_at m c j)
theorem query_norm_eq (c : Dev nD) (t : Fin cfg0.N) : (fun j => (iblk m c 5 t (ix2 0 j) : EReal)) = fun j => m ((c : Thread nD τ).loc main_arg4) (ix1 j) := funext fun j => (block5 m c t j).trans (query_norm_at m c j)
theorem latent_norm_eq (c : Dev nD) (t : Fin cfg0.N) : (fun j => (iblk m c 6 t (ix2 0 j) : EReal)) = fun j => m ((c : Thread nD τ).loc main_arg5) (ix1 j) := funext fun j => (block6 m c t j).trans (latent_norm_at m c j)

theorem queryBlock_eq (c : Dev nD) (t : Fin cfg0.N) (r : Fin 512) (k : Fin 2048) : queryBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) r k = queries (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg8)) (ix2 (token t r) k) := by
  unfold queryBlock
  rw [row_eq m c t r, ln_eq m c t, query_norm_eq m c t]
  exact queryRow_eq (fun j k => (block2 m c t j ⟨k.val, by omega⟩).trans (joint_weight_at m c j k)) (fun j k => (block7 m c t j k).trans (query_weight_at m c j k)) (fun l => (block11 m c t l).trans (query_gain_at m c l)) (fun l => (block14 m c t r l).trans (cos_at m c (token t r) l)) (fun l => (block15 m c t r l).trans (sin_at m c (token t r) l)) k

/-- The queries after the run. -/
theorem final_queries (c : Dev nD) : (dats m 0 c).arrAt 16 cfg0.N = queries (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg8)) := by
  refine (dats m 0 c).arrAt_eq_of_covers 16 _ (by decide +kernel) fun t hf y => ?_
  obtain ⟨r, k, e⟩ : ∃ (r : Fin 512) (k : Fin 2048), y = ix2 r k := ⟨y 0, y 1, by blk_ext⟩
  rw [e]
  refine ((congrFun (flushed16 m c t) (ix2 r k)).trans (out_query (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) r k)).trans ?_
  refine Eq.trans ?_ (congrArg (queries (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg8))) (emb16_apply t r k)).symm
  exact queryBlock_eq m c t r k

theorem keyBlock_eq (c : Dev nD) (t : Fin cfg0.N) (r : Fin 512) (k : Fin 2048) : keyBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) r k = keys (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg7)) (m ((c : Thread nD τ).loc main_arg9)) (ix2 (token t r) k) := by
  unfold keyBlock
  rw [row_eq m c t r, ln_eq m c t, latent_norm_eq m c t]
  exact keyRow_eq (fun j l => (block2 m c t j ⟨384 + l.val, by omega⟩).trans (rotary_weight_at m c j l)) (fun j k => (block3 m c t j k).trans (latent_weight_at m c j k)) (fun j k => (block8 m c t j k).trans (key_weight_at m c j k)) (fun l => (block12 m c t l).trans (key_gain_at m c l)) (fun l => (block13 m c t l).trans (keep_at m c l)) (fun l => (block14 m c t r l).trans (cos_at m c (token t r) l)) (fun l => (block15 m c t r l).trans (sin_at m c (token t r) l)) k

/-- The keys after the run. -/
theorem final_keys (c : Dev nD) : (dats m 0 c).arrAt 17 cfg0.N = keys (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg7)) (m ((c : Thread nD τ).loc main_arg9)) := by
  refine (dats m 0 c).arrAt_eq_of_covers 17 _ (by decide +kernel) fun t hf y => ?_
  obtain ⟨r, k, e⟩ : ∃ (r : Fin 512) (k : Fin 2048), y = ix2 r k := ⟨y 0, y 1, by blk_ext⟩
  rw [e]
  refine ((congrFun (flushed17 m c t) (ix2 r k)).trans (out_key (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) r k)).trans ?_
  refine Eq.trans ?_ (congrArg (keys (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg7)) (m ((c : Thread nD τ).loc main_arg9))) (emb17_apply t r k)).symm
  exact keyBlock_eq m c t r k

theorem valueBlock_eq (c : Dev nD) (t : Fin cfg0.N) (r : Fin 512) (k : Fin 2048) : valueBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) r k = values (m ((c : Thread nD τ).loc main_arg0)) (m ((c : Thread nD τ).loc main_arg2)) (m ((c : Thread nD τ).loc main_arg3)) (m ((c : Thread nD τ).loc main_arg5)) (m ((c : Thread nD τ).loc main_arg7)) (ix2 (token t r) k) := by
  unfold valueBlock
  rw [row_eq m c t r, ln_eq m c t, latent_norm_eq m c t]
  exact valueRow_eq (fun j k => (block3 m c t j k).trans (latent_weight_at m c j k)) (fun j k => (block9 m c t j k).trans (value_weight_at m c j k)) (fun k => (block10 m c t k).trans (value_one_at m c k)) k

/-- The values after the run. -/
theorem final_values (c : Dev nD) : (dats m 0 c).arrAt 18 cfg0.N = values (m ((c : Thread nD τ).loc main_arg0)) (m ((c : Thread nD τ).loc main_arg2)) (m ((c : Thread nD τ).loc main_arg3)) (m ((c : Thread nD τ).loc main_arg5)) (m ((c : Thread nD τ).loc main_arg7)) := by
  refine (dats m 0 c).arrAt_eq_of_covers 18 _ (by decide +kernel) fun t hf y => ?_
  obtain ⟨r, k, e⟩ : ∃ (r : Fin 512) (k : Fin 2048), y = ix2 r k := ⟨y 0, y 1, by blk_ext⟩
  rw [e]
  refine ((congrFun (flushed18 m c t) (ix2 r k)).trans (out_value (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) r k)).trans ?_
  refine Eq.trans ?_ (congrArg (values (m ((c : Thread nD τ).loc main_arg0)) (m ((c : Thread nD τ).loc main_arg2)) (m ((c : Thread nD τ).loc main_arg3)) (m ((c : Thread nD τ).loc main_arg5)) (m ((c : Thread nD τ).loc main_arg7))) (emb18_apply t r k)).symm
  exact valueBlock_eq m c t r k

theorem gateBlock_eq (c : Dev nD) (t : Fin cfg0.N) (r : Fin 512) (k : Fin 1024) : gateBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) r k = gates (m ((c : Thread nD τ).loc main_arg0)) (m ((c : Thread nD τ).loc main_arg2)) (m ((c : Thread nD τ).loc main_arg3)) (ix2 (token t r) k) := by
  unfold gateBlock
  rw [row_eq m c t r, ln_eq m c t]
  exact Finset.sum_congr rfl fun j _ => congrArg (_ * ·) ((block4 m c t j k).trans (gate_weight_at m c j k))

/-- The gates after the run. -/
theorem final_gates (c : Dev nD) : (dats m 0 c).arrAt 19 cfg0.N = gates (m ((c : Thread nD τ).loc main_arg0)) (m ((c : Thread nD τ).loc main_arg2)) (m ((c : Thread nD τ).loc main_arg3)) := by
  refine (dats m 0 c).arrAt_eq_of_covers 19 _ (by decide +kernel) fun t hf y => ?_
  obtain ⟨r, k, e⟩ : ∃ (r : Fin 512) (k : Fin 1024), y = ix2 r k := ⟨y 0, y 1, by blk_ext⟩
  rw [e]
  refine ((congrFun (flushed19 m c t) (ix2 r k)).trans (out_gate (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) r k)).trans ?_
  refine Eq.trans ?_ (congrArg (gates (m ((c : Thread nD τ).loc main_arg0)) (m ((c : Thread nD τ).loc main_arg2)) (m ((c : Thread nD τ).loc main_arg3))) (emb19_apply t r k)).symm
  exact gateBlock_eq m c t r k

end

end Cert.FrontIdeal.Rows

end
-- ==== Proof.Front.Ref.lean ====
/-
  The reference of the call, read at a token.
-/
module

public import proofs.«01_k».proof.Proof.Front.Kernel
public import proofs.«01_k».proof.Proof.Gen.FrontRefIdeal.Run

@[expose] public section

set_option maxRecDepth 16384

noncomputable section

namespace Cert.FrontRefIdeal.Rows

open Cert.FrontRefIdeal Cert.FrontRefIdeal.Gen Cert.FrontRefIdeal.Value Idealize.ShloMosaic Idealize.ShloMosaic.TcCoe Idealize.SL.Sem
open Cert.Front Cert.FrontIdeal.Rows

/-! The reference's stages on the token array, and each stage read at a token. -/

def hiddens (X : FVec Ideal S16384x1024 .f32) (N : FVec Ideal S1024 .f32) : FVec Ideal S16384x1024 .f32 :=
  mulf (mulf X (broadcastInDim S16384x1024 ![0, 1] bcast_S16384x1_S16384x1024_0_1 (Host.rsqrt (addf (Host.divf (broadcastInDim S16384x1 ![0] bcast_S16384_S16384x1_0 (Host.reduceAdd (mulf X X) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 N))

def projs (H : FVec Ideal S16384x1024 .f32) (W : FVec Ideal S1024x1696 .f32) : FVec Ideal S16384x1696 .f32 :=
  Host.dotGeneral dot_S16384x1024_S1024x1696_S16384x1696_1_0_0_1_n_n none H W

def queryPart (P : FVec Ideal S16384x1696 .f32) : FVec Ideal S16384x384 .f32 := extractStridedSlice S16384x384 ![0, 0] P slices_S16384x1696_S16384x384_0_0
def latentPart (P : FVec Ideal S16384x1696 .f32) : FVec Ideal S16384x256 .f32 := extractStridedSlice S16384x256 ![0, 384] P slices_S16384x1696_S16384x256_0_384
def gatePart (P : FVec Ideal S16384x1696 .f32) : FVec Ideal S16384x1024 .f32 := extractStridedSlice S16384x1024 ![0, 672] P slices_S16384x1696_S16384x1024_0_672

def queryNorms (Y : FVec Ideal S16384x384 .f32) (F : FVec Ideal S384 .f32) : FVec Ideal S16384x384 .f32 :=
  mulf (mulf Y (broadcastInDim S16384x384 ![0, 1] bcast_S16384x1_S16384x384_0_1 (Host.rsqrt (addf (Host.divf (broadcastInDim S16384x1 ![0] bcast_S16384_S16384x1_0 (Host.reduceAdd (mulf Y Y) (constant S_ .f32 0x00000000#32) reducesTo_S16384x384_S16384_d1 h_S_)) (broadcastInDim S16384x1 ![] bcast_S_S16384x1 (constant S_ .f32 0x43C00000#32))) (broadcastInDim S16384x1 ![] bcast_S_S16384x1 (constant S_ .f32 0x358637BD#32)))))) (broadcastInDim S16384x384 ![0, 1] bcast_S1x384_S16384x384_0_1 (broadcastInDim S1x384 ![1] bcast_S384_S1x384_1 F))
def latentNorms (Y : FVec Ideal S16384x256 .f32) (F : FVec Ideal S256 .f32) : FVec Ideal S16384x256 .f32 :=
  mulf (mulf Y (broadcastInDim S16384x256 ![0, 1] bcast_S16384x1_S16384x256_0_1 (Host.rsqrt (addf (Host.divf (broadcastInDim S16384x1 ![0] bcast_S16384_S16384x1_0 (Host.reduceAdd (mulf Y Y) (constant S_ .f32 0x00000000#32) reducesTo_S16384x256_S16384_d1 h_S_)) (broadcastInDim S16384x1 ![] bcast_S_S16384x1 (constant S_ .f32 0x43800000#32))) (broadcastInDim S16384x1 ![] bcast_S_S16384x1 (constant S_ .f32 0x358637BD#32)))))) (broadcastInDim S16384x256 ![0, 1] bcast_S1x256_S16384x256_0_1 (broadcastInDim S1x256 ![1] bcast_S256_S1x256_1 F))

def queryHeads (A : FVec Ideal S16384x384 .f32) (U : FVec Ideal S384x1536 .f32) : FVec Ideal S16384x16x96 .f32 :=
  shapeCast S16384x16x96 (Host.dotGeneral dot_S16384x384_S384x1536_S16384x1536_1_0_0_1_n_n none A U) shapeCasts_S16384x1536_S16384x16x96
def latentHeads (A : FVec Ideal S16384x256 .f32) (U : FVec Ideal S256x2048 .f32) : FVec Ideal S16384x16x128 .f32 :=
  shapeCast S16384x16x128 (Host.dotGeneral dot_S16384x256_S256x2048_S16384x2048_1_0_0_1_n_n none A U) shapeCasts_S16384x2048_S16384x16x128

def keyHeads (B : FVec Ideal S16384x16x128 .f32) (P : FVec Ideal S16384x1696 .f32) : FVec Ideal S16384x16x96 .f32 :=
  concatenate S16384x16x96 2 [⟨S16384x16x64, (extractStridedSlice S16384x16x64 ![0, 0, 0] B slices_S16384x16x128_S16384x16x64_0_0_0)⟩, ⟨S16384x16x32, (broadcastInDim S16384x16x32 ![0, 1, 2] bcast_S16384x1x32_S16384x16x32_0_1_2 (broadcastInDim S16384x1x32 ![0, 2] bcast_S16384x32_S16384x1x32_0_2 (extractStridedSlice S16384x32 ![0, 640] P slices_S16384x1696_S16384x32_0_640)))⟩] concatenates_S16384x16x64_S16384x16x32_S16384x16x96_d2

def headNorms (Y : FVec Ideal S16384x16x96 .f32) (G : FVec Ideal S96 .f32) : FVec Ideal S16384x16x96 .f32 :=
  mulf (mulf Y (broadcastInDim S16384x16x96 ![0, 1, 2] bcast_S16384x16x1_S16384x16x96_0_1_2 (Host.rsqrt (addf (Host.divf (broadcastInDim S16384x16x1 ![0, 1] bcast_S16384x16_S16384x16x1_0_1 (Host.reduceAdd (mulf Y Y) (constant S_ .f32 0x00000000#32) reducesTo_S16384x16x96_S16384x16_d2 h_S_)) (broadcastInDim S16384x16x1 ![] bcast_S_S16384x16x1 (constant S_ .f32 0x42C00000#32))) (broadcastInDim S16384x16x1 ![] bcast_S_S16384x16x1 (constant S_ .f32 0x358637BD#32)))))) (broadcastInDim S16384x16x96 ![0, 1, 2] bcast_S1x1x96_S16384x16x96_0_1_2 (broadcastInDim S1x1x96 ![2] bcast_S96_S1x1x96_2 G))

def angles (P : Vec Ideal S8x2048 .i32) : FVec Ideal S16384x16 .f32 :=
  mulf (broadcastInDim S16384x16 ![0, 1] bcast_S16384x1_S16384x16_0_1 (broadcastInDim S16384x1 ![0] bcast_S16384_S16384x1_0 (sitofp .f32 (shapeCast S16384 P shapeCasts_S8x2048_S16384 : Vec Ideal S16384 .i32)))) (broadcastInDim S16384x16 ![0, 1] bcast_S1x16_S16384x16_0_1 (broadcastInDim S1x16 ![1] bcast_S16_S1x16_1 (Host.divf (broadcastInDim S16 ![] bcast_S_S16 (constant S_ .f32 0x3F800000#32)) (Host.powf (broadcastInDim S16 ![] bcast_S_S16 (constant S_ .f32 0x461C4000#32)) (Host.divf (sitofp .f32 (iotaInDim S16 32 0)) (broadcastInDim S16 ![] bcast_S_S16 (constant S_ .f32 0x41800000#32)))))))
def cosArr (P : Vec Ideal S8x2048 .i32) : FVec Ideal S16384x1x16 .f32 := broadcastInDim S16384x1x16 ![0, 2] bcast_S16384x16_S16384x1x16_0_2 (Host.cos (angles P))
def sinArr (P : Vec Ideal S8x2048 .i32) : FVec Ideal S16384x1x16 .f32 := broadcastInDim S16384x1x16 ![0, 2] bcast_S16384x16_S16384x1x16_0_2 (Host.sin (angles P))
def rootArr : FVec Ideal S_ .f32 := Host.sqrt (constant S_ .f32 0x42C00000#32)
def firsts (Y : FVec Ideal S16384x16x96 .f32) : FVec Ideal S16384x16x16 .f32 :=
  extractStridedSlice S16384x16x16 ![0, 0, 0] (extractStridedSlice S16384x16x32 ![0, 0, 64] Y slices_S16384x16x96_S16384x16x32_0_0_64) slices_S16384x16x32_S16384x16x16_0_0_0
def seconds (Y : FVec Ideal S16384x16x96 .f32) : FVec Ideal S16384x16x16 .f32 :=
  extractStridedSlice S16384x16x16 ![0, 0, 16] (extractStridedSlice S16384x16x32 ![0, 0, 64] Y slices_S16384x16x96_S16384x16x32_0_0_64) slices_S16384x16x32_S16384x16x16_0_0_16

def laidOut (Y : FVec Ideal S16384x16x96 .f32) (P : Vec Ideal S8x2048 .i32) : FVec Ideal S16384x2048 .f32 :=
  shapeCast S16384x2048 ((concatenate S16384x16x128 2 [⟨S16384x16x64, ((Host.divf (extractStridedSlice S16384x16x64 ![0, 0, 0] Y slices_S16384x16x96_S16384x16x64_0_0_0) (broadcastInDim S16384x16x64 ![] bcast_S_S16384x16x64 rootArr)) : (⟨S16384x16x64, .f32⟩ : BufTy).Contents (Elt Ideal))⟩, ⟨S16384x16x32, ((Host.divf (concatenate S16384x16x32 2 [⟨S16384x16x16, (subf (mulf (firsts Y) (broadcastInDim S16384x16x16 ![0, 1, 2] bcast_S16384x1x16_S16384x16x16_0_1_2 (cosArr P))) (mulf (seconds Y) (broadcastInDim S16384x16x16 ![0, 1, 2] bcast_S16384x1x16_S16384x16x16_0_1_2 (sinArr P))))⟩, ⟨S16384x16x16, (addf (mulf (seconds Y) (broadcastInDim S16384x16x16 ![0, 1, 2] bcast_S16384x1x16_S16384x16x16_0_1_2 (cosArr P))) (mulf (firsts Y) (broadcastInDim S16384x16x16 ![0, 1, 2] bcast_S16384x1x16_S16384x16x16_0_1_2 (sinArr P))))⟩] concatenates_S16384x16x16_S16384x16x16_S16384x16x32_d2) (broadcastInDim S16384x16x32 ![] bcast_S_S16384x16x32 rootArr)) : (⟨S16384x16x32, .f32⟩ : BufTy).Contents (Elt Ideal))⟩, ⟨S16384x16x32, ((broadcastInDim S16384x16x32 ![] bcast_S_S16384x16x32 (constant S_ .f32 0x00000000#32) : FVec Ideal S16384x16x32 .f32) : (⟨S16384x16x32, .f32⟩ : BufTy).Contents (Elt Ideal))⟩] concatenates_S16384x16x64_S16384x16x32_S16384x16x32_S16384x16x128_d2 : (⟨S16384x16x128, .f32⟩ : BufTy).Contents (Elt Ideal))) shapeCasts_S16384x16x128_S16384x2048

def pairs (B : FVec Ideal S16384x16x128 .f32) : FVec Ideal S16384x8x2x64 .f32 :=
  shapeCast S16384x8x2x64 (extractStridedSlice S16384x16x64 ![0, 0, 64] B slices_S16384x16x128_S16384x16x64_0_0_64) shapeCasts_S16384x16x64_S16384x8x2x64
def valueOut (B : FVec Ideal S16384x16x128 .f32) : FVec Ideal S16384x2048 .f32 :=
  shapeCast S16384x2048 ((concatenate S16384x8x256 2 [⟨S16384x8x64, ((shapeCast S16384x8x64 (extractStridedSlice S16384x8x1x64 ![0, 0, 0, 0] (pairs B) slices_S16384x8x2x64_S16384x8x1x64_0_0_0_0) shapeCasts_S16384x8x1x64_S16384x8x64) : (⟨S16384x8x64, .f32⟩ : BufTy).Contents (Elt Ideal))⟩, ⟨S16384x8x64, ((broadcastInDim S16384x8x64 ![] bcast_S_S16384x8x64 (constant S_ .f32 0x3F800000#32) : FVec Ideal S16384x8x64 .f32) : (⟨S16384x8x64, .f32⟩ : BufTy).Contents (Elt Ideal))⟩, ⟨S16384x8x64, ((broadcastInDim S16384x8x64 ![] bcast_S_S16384x8x64 (constant S_ .f32 0x3F800000#32) : FVec Ideal S16384x8x64 .f32) : (⟨S16384x8x64, .f32⟩ : BufTy).Contents (Elt Ideal))⟩, ⟨S16384x8x64, ((shapeCast S16384x8x64 (extractStridedSlice S16384x8x1x64 ![0, 0, 1, 0] (pairs B) slices_S16384x8x2x64_S16384x8x1x64_0_0_1_0) shapeCasts_S16384x8x1x64_S16384x8x64) : (⟨S16384x8x64, .f32⟩ : BufTy).Contents (Elt Ideal))⟩] concatenates_S16384x8x64_S16384x8x64_S16384x8x64_S16384x8x64_S16384x8x256_d2 : (⟨S16384x8x256, .f32⟩ : BufTy).Contents (Elt Ideal))) shapeCasts_S16384x8x256_S16384x2048

theorem ix3_same {a b c : ℕ} {i : Fin a} {j j' : Fin b} {k k' : Fin c} (h : j.val = j'.val) (h' : k.val = k'.val) : ix3 i j k = ix3 i j' k' := by
  obtain rfl : j = j' := Fin.ext h
  obtain rfl : k = k' := Fin.ext h'
  rfl

theorem hiddens_apply (X : FVec Ideal S16384x1024 .f32) (N : FVec Ideal S1024 .f32) (i : Fin 16384) (k : Fin 1024) :
    hiddens X N (ix2 i k) = hidRow (fun j => X (ix2 i j)) (fun j => N (ix1 j)) k := by
  pointwise [hiddens]
  rfl

theorem projs_apply (H : FVec Ideal S16384x1024 .f32) (W : FVec Ideal S1024x1696 .f32) (i : Fin 16384) (k : Fin 1696) :
    projs H W (ix2 i k) = proj (fun j => H (ix2 i j)) (fun j k => W (ix2 j k)) k := by
  pointwise [projs]
  rfl

theorem queryPart_apply (P : FVec Ideal S16384x1696 .f32) (i : Fin 16384) (k : Fin 384) : queryPart P (ix2 i k) = P (ix2 i ⟨k.val, by omega⟩) := by
  pointwise [queryPart]

theorem latentPart_apply (P : FVec Ideal S16384x1696 .f32) (i : Fin 16384) (k : Fin 256) : latentPart P (ix2 i k) = P (ix2 i ⟨384 + k.val, by omega⟩) := by
  pointwise [latentPart]

theorem gatePart_apply (P : FVec Ideal S16384x1696 .f32) (i : Fin 16384) (k : Fin 1024) : gatePart P (ix2 i k) = P (ix2 i ⟨672 + k.val, by omega⟩) := by
  pointwise [gatePart]

theorem queryNorms_apply (Y : FVec Ideal S16384x384 .f32) (F : FVec Ideal S384 .f32) (i : Fin 16384) (k : Fin 384) :
    queryNorms Y F (ix2 i k) = normed (Ideal.ofBits .f32 0x43C00000#32) (fun j => Y (ix2 i j)) (fun j => F (ix1 j)) k := by
  pointwise [queryNorms]
  rfl

theorem latentNorms_apply (Y : FVec Ideal S16384x256 .f32) (F : FVec Ideal S256 .f32) (i : Fin 16384) (k : Fin 256) :
    latentNorms Y F (ix2 i k) = normed (Ideal.ofBits .f32 0x43800000#32) (fun j => Y (ix2 i j)) (fun j => F (ix1 j)) k := by
  pointwise [latentNorms]
  rfl

theorem headNorms_apply (Y : FVec Ideal S16384x16x96 .f32) (G : FVec Ideal S96 .f32) (i : Fin 16384) (h : Fin 16) (d : Fin 96) :
    headNorms Y G (ix3 i h d) = normed lanes (fun j => Y (ix3 i h j)) (fun j => G (ix1 j)) d := by
  pointwise [headNorms]
  rfl

theorem queryHeads_apply (A : FVec Ideal S16384x384 .f32) (U : FVec Ideal S384x1536 .f32) (i : Fin 16384) (h : Fin 16) (d : Fin 96) :
    queryHeads A U (ix3 i h d) = proj (fun j => A (ix2 i j)) (fun j k => U (ix2 j k)) ⟨96 * h.val + d.val, by omega⟩ := by
  pointwise [queryHeads]
  exact Finset.sum_congr rfl fun j _ => congrArg (A (ix2 i j) * ·) (congrArg U (ix2_same (show h.val * 96 + d.val = 96 * h.val + d.val by omega)))

theorem latentHeads_apply (A : FVec Ideal S16384x256 .f32) (U : FVec Ideal S256x2048 .f32) (i : Fin 16384) (h : Fin 16) (d : Fin 128) :
    latentHeads A U (ix3 i h d) = proj (fun j => A (ix2 i j)) (fun j k => U (ix2 j k)) ⟨128 * h.val + d.val, by omega⟩ := by
  pointwise [latentHeads]
  exact Finset.sum_congr rfl fun j _ => congrArg (A (ix2 i j) * ·) (congrArg U (ix2_same (show h.val * 128 + d.val = 128 * h.val + d.val by omega)))

theorem keyHeads_apply (B : FVec Ideal S16384x16x128 .f32) (P : FVec Ideal S16384x1696 .f32) (i : Fin 16384) (h : Fin 16) (d : Fin 96) :
    keyHeads B P (ix3 i h d) = if d.val < 64 then B (ix3 i h ⟨d.val, by omega⟩) else P (ix2 i ⟨576 + d.val, by omega⟩) := by
  pointwise [keyHeads]
  by_cases h1 : d.val < 64
  · rw [dif_pos h1, if_pos h1]
  · rw [dif_neg h1, if_neg h1]
    exact congrArg P (ix2_same (show 640 + (d.val - 64) = 576 + d.val by omega))

theorem angles_apply (P : Vec Ideal S8x2048 .i32) (i : Fin 16384) (d : Fin 16) :
    (angles P (ix2 i d) : EReal) = angle (P (ix2 ⟨i.val / 2048, by omega⟩ ⟨i.val % 2048, by omega⟩)) d := by
  pointwise [angles]
  rfl

theorem cosArr_apply (P : Vec Ideal S8x2048 .i32) (i : Fin 16384) (d : Fin 16) : cosArr P (ix3 i 0 d) = cosines P i d := by
  pointwise [cosArr]
  exact congrArg Ideal.cos (angles_apply P i d)

theorem sinArr_apply (P : Vec Ideal S8x2048 .i32) (i : Fin 16384) (d : Fin 16) : sinArr P (ix3 i 0 d) = sines P i d := by
  pointwise [sinArr]
  exact congrArg Ideal.sin (angles_apply P i d)

theorem firsts_apply (Y : FVec Ideal S16384x16x96 .f32) (i : Fin 16384) (h : Fin 16) (d : Fin 16) : firsts Y (ix3 i h d) = Y (ix3 i h ⟨64 + d.val, by omega⟩) := by
  pointwise [firsts]

theorem seconds_apply (Y : FVec Ideal S16384x16x96 .f32) (i : Fin 16384) (h : Fin 16) (d : Fin 16) : seconds Y (ix3 i h d) = Y (ix3 i h ⟨80 + d.val, by omega⟩) := by
  pointwise [seconds]
  exact congrArg Y (ix3_same rfl (show 64 + (16 + d.val) = 80 + d.val by omega))

/-- A head's lanes, the rotary ones turned, over the root, in the 128 lanes of the layout. -/
def laidOf (z : Fin 96 → EReal) (c s : Fin 16 → EReal) (l : Fin 128) : EReal :=
  if h : l.val < 64 then Ideal.div (z ⟨l.val, by omega⟩) root
  else if h' : l.val < 80 then
    Ideal.div (z ⟨l.val, by omega⟩ * c ⟨l.val - 64, by omega⟩ - z ⟨l.val + 16, by omega⟩ * s ⟨l.val - 64, by omega⟩) root
  else if h'' : l.val < 96 then
    Ideal.div (z ⟨l.val, by omega⟩ * c ⟨l.val - 80, by omega⟩ + z ⟨l.val - 16, by omega⟩ * s ⟨l.val - 80, by omega⟩) root
  else 0

theorem root_apply : rootArr ix0 = root := by
  pointwise [rootArr]
  rfl

theorem laidOf_eq (z : Fin 96 → EReal) (f g c s : Fin 16 → EReal) (l : Fin 128) (hf : ∀ d, f d = z ⟨64 + d.val, by omega⟩) (hg : ∀ d, g d = z ⟨80 + d.val, by omega⟩) :
    (if h : l.val < 64 then Ideal.div (z ⟨l.val, by omega⟩) root
      else if h : l.val - 64 < 32 then
        Ideal.div (if h : l.val - 64 < 16 then f ⟨l.val - 64, by omega⟩ * c ⟨l.val - 64, by omega⟩ - g ⟨l.val - 64, by omega⟩ * s ⟨l.val - 64, by omega⟩
          else g ⟨l.val - 64 - 16, by omega⟩ * c ⟨l.val - 64 - 16, by omega⟩ + f ⟨l.val - 64 - 16, by omega⟩ * s ⟨l.val - 64 - 16, by omega⟩) root
      else 0) = laidOf z c s l := by
  unfold laidOf
  by_cases h1 : l.val < 64
  · simp only [h1, dif_pos]
  by_cases h2 : l.val < 80
  · have h3 : l.val - 64 < 32 := by omega
    have h4 : l.val - 64 < 16 := by omega
    have e1 : 64 + (l.val - 64) = l.val := by omega
    have e2 : 80 + (l.val - 64) = l.val + 16 := by omega
    simp only [h1, h2, h3, h4, dif_pos, dif_neg, not_false_eq_true, hf, hg, e1, e2]
  by_cases h3 : l.val < 96
  · have h4 : l.val - 64 < 32 := by omega
    have h5 : ¬ l.val - 64 < 16 := by omega
    have e1 : 64 + (l.val - 64 - 16) = l.val - 16 := by omega
    have e2 : 80 + (l.val - 64 - 16) = l.val := by omega
    have e3 : l.val - 64 - 16 = l.val - 80 := by omega
    have e4 : 64 + (l.val - 80) = l.val - 16 := by omega
    have e5 : 80 + (l.val - 80) = l.val := by omega
    simp only [h1, h2, h3, h4, h5, dif_pos, dif_neg, not_false_eq_true, hf, hg, e1, e2, e3, e4, e5]
  · have h4 : ¬ l.val - 64 < 32 := by omega
    simp only [h1, h2, h3, h4, dif_neg, not_false_eq_true]

theorem laidOut_apply (Y : FVec Ideal S16384x16x96 .f32) (P : Vec Ideal S8x2048 .i32) (i : Fin 16384) (k : Fin 2048) :
    laidOut Y P (ix2 i k) = laidOf (fun d => Y (ix3 i ⟨k.val / 128, by omega⟩ d)) (cosines P i) (sines P i) ⟨k.val % 128, by omega⟩ := by
  refine Eq.trans ?_ (laidOf_eq (fun d => Y (ix3 i ⟨k.val / 128, by omega⟩ d)) (fun d => firsts Y (ix3 i ⟨k.val / 128, by omega⟩ d)) (fun d => seconds Y (ix3 i ⟨k.val / 128, by omega⟩ d))
    (cosines P i) (sines P i) ⟨k.val % 128, by omega⟩ (fun d => firsts_apply Y i _ d) (fun d => seconds_apply Y i _ d))
  pointwise [laidOut]
  simp only [cosArr_apply, sinArr_apply, root_apply]

theorem pairs_apply (B : FVec Ideal S16384x16x128 .f32) (i : Fin 16384) (p : Fin 8) (e : Fin 2) (l : Fin 64) :
    pairs B (ix4 i p e l) = B (ix3 i ⟨2 * p.val + e.val, by omega⟩ ⟨64 + l.val, by omega⟩) := by
  pointwise [pairs]
  exact congrArg B (ix3_same (show p.val * 2 + e.val = 2 * p.val + e.val by omega) rfl)

theorem valueOut_apply (B : FVec Ideal S16384x16x128 .f32) (i : Fin 16384) (k : Fin 2048) :
    valueOut B (ix2 i k) = if k.val / 128 % 2 = 1 then (if k.val % 128 < 64 then 1 else B (ix3 i ⟨k.val / 128, by omega⟩ ⟨k.val % 128, by omega⟩))
      else if h : k.val % 128 < 64 then B (ix3 i ⟨k.val / 128, by omega⟩ ⟨64 + k.val % 128, by omega⟩) else 1 := by
  pointwise [valueOut]
  simp only [pairs_apply]
  by_cases h : k.val / 128 % 2 = 1
  · rw [if_pos h, dif_neg (show ¬ k.val % 256 < 64 by omega), dif_neg (show ¬ k.val % 256 - 64 < 64 by omega)]
    by_cases h1 : k.val % 128 < 64
    · rw [dif_pos (show k.val % 256 - 64 - 64 < 64 by omega), if_pos h1]
    · rw [dif_neg (show ¬ k.val % 256 - 64 - 64 < 64 by omega), if_neg h1]
      exact congrArg B (ix3_same (show 2 * (k.val / 256) + 1 = k.val / 128 by omega) (show 64 + (k.val % 256 - 64 - 64 - 64) = k.val % 128 by omega))
  · rw [if_neg h]
    by_cases h1 : k.val % 128 < 64
    · rw [dif_pos (show k.val % 256 < 64 by omega), dif_pos h1]
      exact congrArg B (ix3_same (show 2 * (k.val / 256) + 0 = k.val / 128 by omega) (show 64 + k.val % 256 = 64 + k.val % 128 by omega))
    · rw [dif_neg (show ¬ k.val % 256 < 64 by omega), dif_pos (show k.val % 256 - 64 < 64 by omega), dif_neg h1]

/-! The stages composed, at a token. -/

section

variable (X : FVec Ideal S16384x1024 .f32) (P : Vec Ideal S8x2048 .i32) (N : FVec Ideal S1024 .f32) (W : FVec Ideal S1024x1696 .f32) (Q : FVec Ideal S384 .f32) (L : FVec Ideal S256 .f32)
  (U : FVec Ideal S384x1536 .f32) (Z : FVec Ideal S256x2048 .f32) (G : FVec Ideal S96 .f32)

theorem proj_at (i : Fin 16384) (k : Fin 1696) : projs (hiddens X N) W (ix2 i k) = proj (hidRow (fun j => X (ix2 i j)) fun j => N (ix1 j)) (fun j k => W (ix2 j k)) k :=
  (projs_apply (hiddens X N) W i k).trans (proj_congr (fun j => hiddens_apply X N i j) (fun _ _ => rfl) k)

theorem queryLatent_at (i : Fin 16384) (k : Fin 384) : queryNorms (queryPart (projs (hiddens X N) W)) Q (ix2 i k)
    = queryLatent (fun j => X (ix2 i j)) (fun j => N (ix1 j)) (fun j k => W (ix2 j k)) (fun j => Q (ix1 j)) k :=
  (queryNorms_apply _ Q i k).trans (normed_congr (fun j => (queryPart_apply _ i j).trans (proj_at X N W i _)) (fun _ => rfl) k)

theorem latent_at (i : Fin 16384) (k : Fin 256) : latentNorms (latentPart (projs (hiddens X N) W)) L (ix2 i k)
    = latent (fun j => X (ix2 i j)) (fun j => N (ix1 j)) (fun j k => W (ix2 j k)) (fun j => L (ix1 j)) k :=
  (latentNorms_apply _ L i k).trans (normed_congr (fun j => (latentPart_apply _ i j).trans (proj_at X N W i _)) (fun _ => rfl) k)

theorem latentHeads_at (i : Fin 16384) (h : Fin 16) (d : Fin 128) : latentHeads (latentNorms (latentPart (projs (hiddens X N) W)) L) Z (ix3 i h d)
    = proj (latent (fun j => X (ix2 i j)) (fun j => N (ix1 j)) (fun j k => W (ix2 j k)) (fun j => L (ix1 j))) (fun j k => Z (ix2 j k)) ⟨128 * h.val + d.val, by omega⟩ :=
  (latentHeads_apply _ Z i h d).trans (proj_congr (fun j => latent_at X N W L i j) (fun _ _ => rfl) _)

theorem queries_eq : truncf .bf16 (laidOut (headNorms (queryHeads (queryNorms (queryPart (projs (hiddens X N) W)) Q) U) G) P) bitsLt_bf16_f32 = queries X P N W Q U G := by
  funext y
  obtain ⟨r, k, e⟩ : ∃ (r : Fin 16384) (k : Fin 2048), y = ix2 r k := ⟨y 0, y 1, eq_ix2 y⟩
  rw [e]
  refine (laidOut_apply _ P r k).trans (congrArg (fun z => laidOf z (cosines P r) (sines P r) ⟨k.val % 128, by omega⟩) (funext fun d => ?_))
  exact (headNorms_apply _ G r _ d).trans (normed_congr (fun j => (queryHeads_apply _ U r _ j).trans (proj_congr (fun j => queryLatent_at X N W Q r j) (fun _ _ => rfl) _)) (fun _ => rfl) d)

theorem keys_eq : truncf .bf16 (laidOut (headNorms (keyHeads (latentHeads (latentNorms (latentPart (projs (hiddens X N) W)) L) Z) (projs (hiddens X N) W)) G) P) bitsLt_bf16_f32 = keys X P N W L Z G := by
  funext y
  obtain ⟨r, k, e⟩ : ∃ (r : Fin 16384) (k : Fin 2048), y = ix2 r k := ⟨y 0, y 1, eq_ix2 y⟩
  rw [e]
  refine (laidOut_apply _ P r k).trans (congrArg (fun z => laidOf z (cosines P r) (sines P r) ⟨k.val % 128, by omega⟩) (funext fun d => ?_))
  refine (headNorms_apply _ G r _ d).trans (normed_congr (fun j => (keyHeads_apply _ _ r _ j).trans ?_) (fun _ => rfl) d)
  unfold keyHead
  rw [proj_at X N W r, latentHeads_at X N W L Z r]
  rfl

theorem values_eq : truncf .bf16 (valueOut (latentHeads (latentNorms (latentPart (projs (hiddens X N) W)) L) Z)) bitsLt_bf16_f32 = values X N W L Z := by
  funext y
  obtain ⟨r, k, e⟩ : ∃ (r : Fin 16384) (k : Fin 2048), y = ix2 r k := ⟨y 0, y 1, eq_ix2 y⟩
  rw [e]
  refine (valueOut_apply _ r k).trans ?_
  show _ = valueAt (fun j => X (ix2 r j)) (fun j => N (ix1 j)) (fun j k => W (ix2 j k)) (fun j => L (ix1 j)) (fun j k => Z (ix2 j k)) k
  unfold valueAt
  have e1 : (⟨128 * (k.val / 128) + k.val % 128, by omega⟩ : Fin 2048) = k := Fin.ext (show 128 * (k.val / 128) + k.val % 128 = k.val by omega)
  by_cases h : k.val / 128 % 2 = 1
  · rw [if_pos h, if_pos h]
    by_cases h1 : k.val % 128 < 64
    · rw [if_pos h1, if_pos h1]
    · rw [if_neg h1, if_neg h1]
      exact (latentHeads_at X N W L Z r _ _).trans (congrArg (proj _ _) e1)
  · rw [if_neg h, if_neg h]
    by_cases h1 : k.val % 128 < 64
    · rw [dif_pos h1, dif_pos h1]
      exact (latentHeads_at X N W L Z r _ _).trans (congrArg (proj _ _) (Fin.ext (show 128 * (k.val / 128) + (64 + k.val % 128) = k.val + 64 by omega)))
    · rw [dif_neg h1, dif_neg h1]

theorem gates_eq : truncf .bf16 (gatePart (projs (hiddens X N) W)) bitsLt_bf16_f32 = gates X N W := by
  funext y
  obtain ⟨r, k, e⟩ : ∃ (r : Fin 16384) (k : Fin 1024), y = ix2 r k := ⟨y 0, y 1, eq_ix2 y⟩
  rw [e]
  exact (gatePart_apply _ r k).trans (proj_at X N W r _)

end

/-! The run's results are the stages composed. -/

section

variable (V0 : Valuation τ sig (Elt Ideal))

theorem proj_stage : res_main_v14 V0 = (projs (hiddens (V0 (Proc.devRef .tc main_arg0)) (V0 (Proc.devRef .tc main_arg2))) (V0 (Proc.devRef .tc main_arg3))) := rfl
theorem query_stage : res_main_v33 V0 = (queryHeads (queryNorms (queryPart (projs (hiddens (V0 (Proc.devRef .tc main_arg0)) (V0 (Proc.devRef .tc main_arg2))) (V0 (Proc.devRef .tc main_arg3)))) (V0 (Proc.devRef .tc main_arg4))) (V0 (Proc.devRef .tc main_arg6))) := rfl
theorem latent_stage : res_main_v48 V0 = (latentHeads (latentNorms (latentPart (projs (hiddens (V0 (Proc.devRef .tc main_arg0)) (V0 (Proc.devRef .tc main_arg2))) (V0 (Proc.devRef .tc main_arg3)))) (V0 (Proc.devRef .tc main_arg5))) (V0 (Proc.devRef .tc main_arg7))) := rfl
theorem key_stage : res_main_v53 V0 = (keyHeads (latentHeads (latentNorms (latentPart (projs (hiddens (V0 (Proc.devRef .tc main_arg0)) (V0 (Proc.devRef .tc main_arg2))) (V0 (Proc.devRef .tc main_arg3)))) (V0 (Proc.devRef .tc main_arg5))) (V0 (Proc.devRef .tc main_arg7))) (projs (hiddens (V0 (Proc.devRef .tc main_arg0)) (V0 (Proc.devRef .tc main_arg2))) (V0 (Proc.devRef .tc main_arg3)))) := rfl
theorem query_norm_stage : res_main_v66 V0 = headNorms (queryHeads (queryNorms (queryPart (projs (hiddens (V0 (Proc.devRef .tc main_arg0)) (V0 (Proc.devRef .tc main_arg2))) (V0 (Proc.devRef .tc main_arg3)))) (V0 (Proc.devRef .tc main_arg4))) (V0 (Proc.devRef .tc main_arg6))) (V0 (Proc.devRef .tc main_arg8)) := rfl
theorem key_norm_stage : res_main_v79 V0 = headNorms (keyHeads (latentHeads (latentNorms (latentPart (projs (hiddens (V0 (Proc.devRef .tc main_arg0)) (V0 (Proc.devRef .tc main_arg2))) (V0 (Proc.devRef .tc main_arg3)))) (V0 (Proc.devRef .tc main_arg5))) (V0 (Proc.devRef .tc main_arg7))) (projs (hiddens (V0 (Proc.devRef .tc main_arg0)) (V0 (Proc.devRef .tc main_arg2))) (V0 (Proc.devRef .tc main_arg3)))) (V0 (Proc.devRef .tc main_arg9)) := rfl

theorem run_queries : truncf .bf16 (shapeCast S16384x2048 ((concatenate S16384x16x128 2 [⟨S16384x16x64, ((Host.divf (extractStridedSlice S16384x16x64 ![0, 0, 0] (res_main_v66 V0) slices_S16384x16x96_S16384x16x64_0_0_0) (broadcastInDim S16384x16x64 ![] bcast_S_S16384x16x64 (res_main_v81 V0))) : (⟨S16384x16x64, .f32⟩ : BufTy).Contents (Elt Ideal))⟩, ⟨S16384x16x32, ((Host.divf (concatenate S16384x16x32 2 [⟨S16384x16x16, (subf (mulf (res_main_v103 V0) (broadcastInDim S16384x16x16 ![0, 1, 2] bcast_S16384x1x16_S16384x16x16_0_1_2 (res_main_v100 V0))) (mulf (res_main_v104 V0) (broadcastInDim S16384x16x16 ![0, 1, 2] bcast_S16384x1x16_S16384x16x16_0_1_2 (res_main_v102 V0))))⟩, ⟨S16384x16x16, (addf (mulf (res_main_v104 V0) (broadcastInDim S16384x16x16 ![0, 1, 2] bcast_S16384x1x16_S16384x16x16_0_1_2 (res_main_v100 V0))) (mulf (res_main_v103 V0) (broadcastInDim S16384x16x16 ![0, 1, 2] bcast_S16384x1x16_S16384x16x16_0_1_2 (res_main_v102 V0))))⟩] concatenates_S16384x16x16_S16384x16x16_S16384x16x32_d2) (broadcastInDim S16384x16x32 ![] bcast_S_S16384x16x32 (res_main_v81 V0))) : (⟨S16384x16x32, .f32⟩ : BufTy).Contents (Elt Ideal))⟩, ⟨S16384x16x32, ((res_main_v80 V0) : (⟨S16384x16x32, .f32⟩ : BufTy).Contents (Elt Ideal))⟩] concatenates_S16384x16x64_S16384x16x32_S16384x16x32_S16384x16x128_d2 : (⟨S16384x16x128, .f32⟩ : BufTy).Contents (Elt Ideal))) shapeCasts_S16384x16x128_S16384x2048) bitsLt_bf16_f32 = queries (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg6)) (V0 (Proc.devRef .tc main_arg8)) :=
  Eq.trans (b := truncf .bf16 (laidOut (res_main_v66 V0) (V0 (Proc.devRef .tc main_arg1))) bitsLt_bf16_f32) rfl (by rw [query_norm_stage]; exact queries_eq _ _ _ _ _ _ _)
theorem run_keys : truncf .bf16 (shapeCast S16384x2048 ((concatenate S16384x16x128 2 [⟨S16384x16x64, ((Host.divf (extractStridedSlice S16384x16x64 ![0, 0, 0] (res_main_v79 V0) slices_S16384x16x96_S16384x16x64_0_0_0) (broadcastInDim S16384x16x64 ![] bcast_S_S16384x16x64 (res_main_v81 V0))) : (⟨S16384x16x64, .f32⟩ : BufTy).Contents (Elt Ideal))⟩, ⟨S16384x16x32, ((Host.divf (concatenate S16384x16x32 2 [⟨S16384x16x16, (subf (mulf (res_main_v140 V0) (broadcastInDim S16384x16x16 ![0, 1, 2] bcast_S16384x1x16_S16384x16x16_0_1_2 (res_main_v137 V0))) (mulf (res_main_v141 V0) (broadcastInDim S16384x16x16 ![0, 1, 2] bcast_S16384x1x16_S16384x16x16_0_1_2 (res_main_v139 V0))))⟩, ⟨S16384x16x16, (addf (mulf (res_main_v141 V0) (broadcastInDim S16384x16x16 ![0, 1, 2] bcast_S16384x1x16_S16384x16x16_0_1_2 (res_main_v137 V0))) (mulf (res_main_v140 V0) (broadcastInDim S16384x16x16 ![0, 1, 2] bcast_S16384x1x16_S16384x16x16_0_1_2 (res_main_v139 V0))))⟩] concatenates_S16384x16x16_S16384x16x16_S16384x16x32_d2) (broadcastInDim S16384x16x32 ![] bcast_S_S16384x16x32 (res_main_v81 V0))) : (⟨S16384x16x32, .f32⟩ : BufTy).Contents (Elt Ideal))⟩, ⟨S16384x16x32, ((res_main_v80 V0) : (⟨S16384x16x32, .f32⟩ : BufTy).Contents (Elt Ideal))⟩] concatenates_S16384x16x64_S16384x16x32_S16384x16x32_S16384x16x128_d2 : (⟨S16384x16x128, .f32⟩ : BufTy).Contents (Elt Ideal))) shapeCasts_S16384x16x128_S16384x2048) bitsLt_bf16_f32 = keys (V0 (Proc.devRef .tc main_arg0)) (V0 (Proc.devRef .tc main_arg1)) (V0 (Proc.devRef .tc main_arg2)) (V0 (Proc.devRef .tc main_arg3)) (V0 (Proc.devRef .tc main_arg5)) (V0 (Proc.devRef .tc main_arg7)) (V0 (Proc.devRef .tc main_arg9)) :=
  Eq.trans (b := truncf .bf16 (laidOut (res_main_v79 V0) (V0 (Proc.devRef .tc main_arg1))) bitsLt_bf16_f32) rfl (by rw [key_norm_stage]; exact keys_eq _ _ _ _ _ _ _)
theorem run_values : truncf .bf16 (shapeCast S16384x2048 ((concatenate S16384x8x256 2 [⟨S16384x8x64, ((shapeCast S16384x8x64 (extractStridedSlice S16384x8x1x64 ![0, 0, 0, 0] (res_main_v156 V0) slices_S16384x8x2x64_S16384x8x1x64_0_0_0_0) shapeCasts_S16384x8x1x64_S16384x8x64) : (⟨S16384x8x64, .f32⟩ : BufTy).Contents (Elt Ideal))⟩, ⟨S16384x8x64, ((res_main_v157 V0) : (⟨S16384x8x64, .f32⟩ : BufTy).Contents (Elt Ideal))⟩, ⟨S16384x8x64, ((res_main_v157 V0) : (⟨S16384x8x64, .f32⟩ : BufTy).Contents (Elt Ideal))⟩, ⟨S16384x8x64, ((shapeCast S16384x8x64 (extractStridedSlice S16384x8x1x64 ![0, 0, 1, 0] (res_main_v156 V0) slices_S16384x8x2x64_S16384x8x1x64_0_0_1_0) shapeCasts_S16384x8x1x64_S16384x8x64) : (⟨S16384x8x64, .f32⟩ : BufTy).Contents (Elt Ideal))⟩] concatenates_S16384x8x64_S16384x8x64_S16384x8x64_S16384x8x64_S16384x8x256_d2 : (⟨S16384x8x256, .f32⟩ : BufTy).Contents (Elt Ideal))) shapeCasts_S16384x8x256_S16384x2048) bitsLt_bf16_f32 = values (V0 (Proc.devRef .tc main_arg0)) (V0 (Proc.devRef .tc main_arg2)) (V0 (Proc.devRef .tc main_arg3)) (V0 (Proc.devRef .tc main_arg5)) (V0 (Proc.devRef .tc main_arg7)) :=
  Eq.trans (b := truncf .bf16 (valueOut (res_main_v48 V0)) bitsLt_bf16_f32) rfl (by rw [latent_stage]; exact values_eq _ _ _ _ _)
theorem run_gates : truncf .bf16 (extractStridedSlice S16384x1024 ![0, 672] (res_main_v14 V0) slices_S16384x1696_S16384x1024_0_672) bitsLt_bf16_f32 = gates (V0 (Proc.devRef .tc main_arg0)) (V0 (Proc.devRef .tc main_arg2)) (V0 (Proc.devRef .tc main_arg3)) :=
  Eq.trans (b := truncf .bf16 (gatePart (res_main_v14 V0)) bitsLt_bf16_f32) rfl (by rw [proj_stage]; exact gates_eq _ _ _)

end

end Cert.FrontRefIdeal.Rows

end
-- ==== Proof.Front.Claims.lean ====
/-
  The claims about the call before the attention.
-/
module

public import proofs.«01_k».proof.Defs
public import proofs.«01_k».proof.Proof.Gen.Front.Frame
public import proofs.«01_k».proof.Proof.Front.Ref

@[expose] public section

set_option maxRecDepth 16384

noncomputable section

namespace Cert.Proof.FrontClaims

open Idealize.ShloMosaic Idealize.ShloMosaic.TcCoe Idealize.SL.Sem Cert.FrontIdeal.Rows

theorem frame_p : Cert.quiescent_Front := fun m ρ _ => Cert.Front.Gen.frame m ρ
theorem frame_pi : Cert.quiescent_FrontIdeal := fun m ρ _ => Cert.FrontIdeal.Gen.frame m ρ
theorem frame_ri : Cert.quiescent_FrontRefIdeal := fun m ρ _ =>
  (θ_run Cert.FrontRefIdeal.defs _ _).mono (fun r h => ⟨fun c => (h c).2.2.2.2, sem_eq_zero_of_no_sems (by decide) r.2⟩)
    (Cert.FrontRefIdeal.Value.run (F := Ideal) m ρ)

/-- The small term under a head's squares is its named real. -/
theorem preserves : Cert.preserves_Front_FrontIdeal :=
  IdealRules.named_const.statement Cert.FrontIdeal.κ "head_eps" .f32 0x38C9539C#32 ((26388279 / 274877906944 : ℝ) : EReal) rfl

/-- Both runs end at the same arrays. -/
theorem algebraic : Cert.algebraic_FrontIdeal_FrontRefIdeal := by
  intro m ρ m' ρ' _ hagree
  refine ⟨fun c => queries (m ((c.tc : Thread FrontIdeal.nD FrontIdeal.τ).loc FrontIdeal.main_arg0)) (m ((c.tc : Thread FrontIdeal.nD FrontIdeal.τ).loc FrontIdeal.main_arg1)) (m ((c.tc : Thread FrontIdeal.nD FrontIdeal.τ).loc FrontIdeal.main_arg2)) (m ((c.tc : Thread FrontIdeal.nD FrontIdeal.τ).loc FrontIdeal.main_arg3)) (m ((c.tc : Thread FrontIdeal.nD FrontIdeal.τ).loc FrontIdeal.main_arg4)) (m ((c.tc : Thread FrontIdeal.nD FrontIdeal.τ).loc FrontIdeal.main_arg6)) (m ((c.tc : Thread FrontIdeal.nD FrontIdeal.τ).loc FrontIdeal.main_arg8)),
    fun c => keys (m ((c.tc : Thread FrontIdeal.nD FrontIdeal.τ).loc FrontIdeal.main_arg0)) (m ((c.tc : Thread FrontIdeal.nD FrontIdeal.τ).loc FrontIdeal.main_arg1)) (m ((c.tc : Thread FrontIdeal.nD FrontIdeal.τ).loc FrontIdeal.main_arg2)) (m ((c.tc : Thread FrontIdeal.nD FrontIdeal.τ).loc FrontIdeal.main_arg3)) (m ((c.tc : Thread FrontIdeal.nD FrontIdeal.τ).loc FrontIdeal.main_arg5)) (m ((c.tc : Thread FrontIdeal.nD FrontIdeal.τ).loc FrontIdeal.main_arg7)) (m ((c.tc : Thread FrontIdeal.nD FrontIdeal.τ).loc FrontIdeal.main_arg9)),
    fun c => values (m ((c.tc : Thread FrontIdeal.nD FrontIdeal.τ).loc FrontIdeal.main_arg0)) (m ((c.tc : Thread FrontIdeal.nD FrontIdeal.τ).loc FrontIdeal.main_arg2)) (m ((c.tc : Thread FrontIdeal.nD FrontIdeal.τ).loc FrontIdeal.main_arg3)) (m ((c.tc : Thread FrontIdeal.nD FrontIdeal.τ).loc FrontIdeal.main_arg5)) (m ((c.tc : Thread FrontIdeal.nD FrontIdeal.τ).loc FrontIdeal.main_arg7)),
    fun c => gates (m ((c.tc : Thread FrontIdeal.nD FrontIdeal.τ).loc FrontIdeal.main_arg0)) (m ((c.tc : Thread FrontIdeal.nD FrontIdeal.τ).loc FrontIdeal.main_arg2)) (m ((c.tc : Thread FrontIdeal.nD FrontIdeal.τ).loc FrontIdeal.main_arg3)), ?_, ?_⟩
  · exact (θ_run Cert.FrontIdeal.defs _ _).mono (fun _ h c => ⟨(h c).1.trans (final_queries m c), (h c).2.1.trans (final_keys m c), (h c).2.2.1.trans (final_values m c), (h c).2.2.2.1.trans (final_gates m c), (h c).2.2.2.2⟩) (Cert.FrontIdeal.Value.run_blocks m ρ)
  · refine (θ_run Cert.FrontRefIdeal.defs _ _).mono (fun _ h c => ⟨(h c).1.trans ?_, (h c).2.1.trans ?_, (h c).2.2.1.trans ?_, (h c).2.2.2.1.trans ?_, (h c).2.2.2.2⟩) (Cert.FrontRefIdeal.Value.run (F := Ideal) m' ρ')
    all_goals obtain ⟨h0, h1, h2, h3, h4, h5, h6, h7, h8, h9⟩ := hagree c
    · refine (Cert.FrontRefIdeal.Rows.run_queries _).trans ?_
      show queries (m' ((c.tc : Thread FrontRefIdeal.nD FrontRefIdeal.τ).loc FrontRefIdeal.main_arg0)) (m' ((c.tc : Thread FrontRefIdeal.nD FrontRefIdeal.τ).loc FrontRefIdeal.main_arg1)) (m' ((c.tc : Thread FrontRefIdeal.nD FrontRefIdeal.τ).loc FrontRefIdeal.main_arg2)) (m' ((c.tc : Thread FrontRefIdeal.nD FrontRefIdeal.τ).loc FrontRefIdeal.main_arg3)) (m' ((c.tc : Thread FrontRefIdeal.nD FrontRefIdeal.τ).loc FrontRefIdeal.main_arg4)) (m' ((c.tc : Thread FrontRefIdeal.nD FrontRefIdeal.τ).loc FrontRefIdeal.main_arg6)) (m' ((c.tc : Thread FrontRefIdeal.nD FrontRefIdeal.τ).loc FrontRefIdeal.main_arg8)) = _
      rw [h0, h1, h2, h3, h4, h6, h8]
    · refine (Cert.FrontRefIdeal.Rows.run_keys _).trans ?_
      show keys (m' ((c.tc : Thread FrontRefIdeal.nD FrontRefIdeal.τ).loc FrontRefIdeal.main_arg0)) (m' ((c.tc : Thread FrontRefIdeal.nD FrontRefIdeal.τ).loc FrontRefIdeal.main_arg1)) (m' ((c.tc : Thread FrontRefIdeal.nD FrontRefIdeal.τ).loc FrontRefIdeal.main_arg2)) (m' ((c.tc : Thread FrontRefIdeal.nD FrontRefIdeal.τ).loc FrontRefIdeal.main_arg3)) (m' ((c.tc : Thread FrontRefIdeal.nD FrontRefIdeal.τ).loc FrontRefIdeal.main_arg5)) (m' ((c.tc : Thread FrontRefIdeal.nD FrontRefIdeal.τ).loc FrontRefIdeal.main_arg7)) (m' ((c.tc : Thread FrontRefIdeal.nD FrontRefIdeal.τ).loc FrontRefIdeal.main_arg9)) = _
      rw [h0, h1, h2, h3, h5, h7, h9]
    · refine (Cert.FrontRefIdeal.Rows.run_values _).trans ?_
      show values (m' ((c.tc : Thread FrontRefIdeal.nD FrontRefIdeal.τ).loc FrontRefIdeal.main_arg0)) (m' ((c.tc : Thread FrontRefIdeal.nD FrontRefIdeal.τ).loc FrontRefIdeal.main_arg2)) (m' ((c.tc : Thread FrontRefIdeal.nD FrontRefIdeal.τ).loc FrontRefIdeal.main_arg3)) (m' ((c.tc : Thread FrontRefIdeal.nD FrontRefIdeal.τ).loc FrontRefIdeal.main_arg5)) (m' ((c.tc : Thread FrontRefIdeal.nD FrontRefIdeal.τ).loc FrontRefIdeal.main_arg7)) = _
      rw [h0, h2, h3, h5, h7]
    · refine (Cert.FrontRefIdeal.Rows.run_gates _).trans ?_
      show gates (m' ((c.tc : Thread FrontRefIdeal.nD FrontRefIdeal.τ).loc FrontRefIdeal.main_arg0)) (m' ((c.tc : Thread FrontRefIdeal.nD FrontRefIdeal.τ).loc FrontRefIdeal.main_arg2)) (m' ((c.tc : Thread FrontRefIdeal.nD FrontRefIdeal.τ).loc FrontRefIdeal.main_arg3)) = _
      rw [h0, h2, h3]

end Cert.Proof.FrontClaims

end
-- ==== Proof.lean ====
/- Every claim about the attention and the three kinds of layer tail, and the call before the attention, from the modules under Proof/Att, Proof/Tail and Proof/Front. -/
module

public import proofs.«01_k».proof.Defs
public import proofs.«01_k».proof.Proof.Gen.Attention
public import proofs.«01_k».proof.Proof.Gen.Attention.Skeleton
public import proofs.«01_k».proof.Proof.Gen.Attention.Loops
public import proofs.«01_k».proof.Proof.Gen.Attention.Launch
public import proofs.«01_k».proof.Proof.Gen.Attention.Points
public import proofs.«01_k».proof.Proof.Gen.Attention.Frame
public import proofs.«01_k».proof.Proof.Gen.AttentionIdeal
public import proofs.«01_k».proof.Proof.Gen.AttentionIdeal.Skeleton
public import proofs.«01_k».proof.Proof.Gen.AttentionIdeal.Loops
public import proofs.«01_k».proof.Proof.Gen.AttentionIdeal.Launch
public import proofs.«01_k».proof.Proof.Gen.AttentionIdeal.Points
public import proofs.«01_k».proof.Proof.Gen.AttentionIdeal.Frame
public import proofs.«01_k».proof.Proof.Gen.AttentionRefIdeal
public import proofs.«01_k».proof.Proof.Gen.LastTail
public import proofs.«01_k».proof.Proof.Gen.LastTail.Skeleton
public import proofs.«01_k».proof.Proof.Gen.LastTail.Launch
public import proofs.«01_k».proof.Proof.Gen.LastTail.Points
public import proofs.«01_k».proof.Proof.Gen.LastTail.Frame
public import proofs.«01_k».proof.Proof.Gen.LastTailIdeal
public import proofs.«01_k».proof.Proof.Gen.LastTailIdeal.Skeleton
public import proofs.«01_k».proof.Proof.Gen.LastTailIdeal.Launch
public import proofs.«01_k».proof.Proof.Gen.LastTailIdeal.Points
public import proofs.«01_k».proof.Proof.Gen.LastTailIdeal.Frame
public import proofs.«01_k».proof.Proof.Gen.LastTailRefIdeal
public import proofs.«01_k».proof.Proof.Gen.SharedTail
public import proofs.«01_k».proof.Proof.Gen.SharedTail.Skeleton
public import proofs.«01_k».proof.Proof.Gen.SharedTail.Launch
public import proofs.«01_k».proof.Proof.Gen.SharedTail.Points
public import proofs.«01_k».proof.Proof.Gen.SharedTail.Frame
public import proofs.«01_k».proof.Proof.Gen.SharedTailIdeal
public import proofs.«01_k».proof.Proof.Gen.SharedTailIdeal.Skeleton
public import proofs.«01_k».proof.Proof.Gen.SharedTailIdeal.Launch
public import proofs.«01_k».proof.Proof.Gen.SharedTailIdeal.Points
public import proofs.«01_k».proof.Proof.Gen.SharedTailIdeal.Frame
public import proofs.«01_k».proof.Proof.Gen.SharedTailRefIdeal
public import proofs.«01_k».proof.Proof.Gen.NextTail
public import proofs.«01_k».proof.Proof.Gen.NextTail.Skeleton
public import proofs.«01_k».proof.Proof.Gen.NextTail.Launch
public import proofs.«01_k».proof.Proof.Gen.NextTail.Points
public import proofs.«01_k».proof.Proof.Gen.NextTail.Frame
public import proofs.«01_k».proof.Proof.Gen.NextTailIdeal
public import proofs.«01_k».proof.Proof.Gen.NextTailIdeal.Skeleton
public import proofs.«01_k».proof.Proof.Gen.NextTailIdeal.Launch
public import proofs.«01_k».proof.Proof.Gen.NextTailIdeal.Points
public import proofs.«01_k».proof.Proof.Gen.NextTailIdeal.Frame
public import proofs.«01_k».proof.Proof.Gen.NextTailRefIdeal
public import proofs.«01_k».proof.Proof.Gen.Front
public import proofs.«01_k».proof.Proof.Gen.Front.Skeleton
public import proofs.«01_k».proof.Proof.Gen.Front.Launch
public import proofs.«01_k».proof.Proof.Gen.Front.Points
public import proofs.«01_k».proof.Proof.Gen.Front.Frame
public import proofs.«01_k».proof.Proof.Gen.FrontIdeal
public import proofs.«01_k».proof.Proof.Gen.FrontIdeal.Skeleton
public import proofs.«01_k».proof.Proof.Gen.FrontIdeal.Launch
public import proofs.«01_k».proof.Proof.Gen.FrontIdeal.Points
public import proofs.«01_k».proof.Proof.Gen.FrontIdeal.Frame
public import proofs.«01_k».proof.Proof.Gen.FrontRefIdeal
public import proofs.«01_k».proof.Proof.Gen.FrontIdeal.Value
public import proofs.«01_k».proof.Proof.Gen.FrontRefIdeal.Run
public import proofs.«01_k».proof.Proof.Gen.Pre_finite_and_ones
public import proofs.«01_k».proof.Proof.Gen.AttentionIdeal.Value
public import proofs.«01_k».proof.Proof.Gen.AttentionRefIdeal.Run
public import proofs.«01_k».proof.Proof.Gen.LastTailIdeal.Value
public import proofs.«01_k».proof.Proof.Gen.LastTailRefIdeal.Run
public import proofs.«01_k».proof.Proof.Gen.SharedTailIdeal.Value
public import proofs.«01_k».proof.Proof.Gen.SharedTailRefIdeal.Run
public import proofs.«01_k».proof.Proof.Gen.NextTailIdeal.Value
public import proofs.«01_k».proof.Proof.Gen.NextTailRefIdeal.Run
public import proofs.«01_k».proof.Proof.Att.Claims
public import proofs.«01_k».proof.Proof.Tail.LastClaims
public import proofs.«01_k».proof.Proof.Tail.SharedClaims
public import proofs.«01_k».proof.Proof.Tail.NextClaims
public import proofs.«01_k».proof.Proof.Front.Claims
public import Idealize.ShloMosaic.Adequacy
public import Idealize.ShloMosaic.Init

@[expose] public section

noncomputable section

namespace Cert.Proof

open Idealize.ShloMosaic Idealize.SL.Sem Cert.Attention

theorem claim : Cert.Claim := ⟨Cert.Attention.Gen.facts, Cert.AttentionIdeal.Gen.facts, Cert.AttentionRefIdeal.Gen.facts, Cert.LastTail.Gen.facts, Cert.LastTailIdeal.Gen.facts, Cert.LastTailRefIdeal.Gen.facts, Cert.SharedTail.Gen.facts, Cert.SharedTailIdeal.Gen.facts, Cert.SharedTailRefIdeal.Gen.facts, Cert.NextTail.Gen.facts, Cert.NextTailIdeal.Gen.facts, Cert.NextTailRefIdeal.Gen.facts, Cert.Front.Gen.facts, Cert.FrontIdeal.Gen.facts, Cert.FrontRefIdeal.Gen.facts, Cert.Pre_finite_and_ones.Gen.facts,
  AttentionClaims.frame_p, AttentionClaims.frame_pi, AttentionClaims.frame_pi_pre, AttentionClaims.frame_ri, AttentionClaims.frame_ri_pre,
  LastTailClaims.frame_p, LastTailClaims.frame_pi, LastTailClaims.frame_ri,
  SharedTailClaims.frame_p, SharedTailClaims.frame_pi, SharedTailClaims.frame_ri,
  NextTailClaims.frame_p, NextTailClaims.frame_pi, NextTailClaims.frame_ri,
  FrontClaims.frame_p, FrontClaims.frame_pi, FrontClaims.frame_ri,
  AttentionClaims.preserves, AttentionClaims.algebraic,
  LastTailClaims.preserves, LastTailClaims.algebraic,
  SharedTailClaims.preserves, SharedTailClaims.algebraic,
  NextTailClaims.preserves, NextTailClaims.algebraic,
  FrontClaims.preserves, FrontClaims.algebraic⟩

end Cert.Proof

end
